-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2.2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2.2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v102) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v106) = v2 c
          ∧ r.2.mem ((c.tc : Thread Cert.Reference3Ideal.nD Cert.Reference3Ideal.τ).loc Cert.Reference3Ideal.main_v108) = v3 c
          ∧ r.2.mem ((c.tc : Thread Cert.Reference3Ideal.nD Cert.Reference3Ideal.τ).loc Cert.Reference3Ideal.main_v101) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)) (v3 : (c : Dev Cert.Kernel4Ideal.nD) → Buf (Elt Ideal) ((c.tc : Thread Cert.Kernel4Ideal.nD Cert.Kernel4Ideal.τ).loc Cert.Kernel4Ideal.main_v49_3)) (v4 : (c : Dev Cert.Kernel4Ideal.nD) → Buf (Elt Ideal) ((c.tc : Thread Cert.Kernel4Ideal.nD Cert.Kernel4Ideal.τ).loc Cert.Kernel4Ideal.main_v49_4)) (v5 : (c : Dev Cert.Kernel4Ideal.nD) → Buf (Elt Ideal) ((c.tc : Thread Cert.Kernel4Ideal.nD Cert.Kernel4Ideal.τ).loc Cert.Kernel4Ideal.main_v49_5)) (v6 : (c : Dev Cert.Kernel4Ideal.nD) → Buf (Elt Ideal) ((c.tc : Thread Cert.Kernel4Ideal.nD Cert.Kernel4Ideal.τ).loc Cert.Kernel4Ideal.main_v49_6)) (v7 : (c : Dev Cert.Kernel4Ideal.nD) → Buf (Elt Ideal) ((c.tc : Thread Cert.Kernel4Ideal.nD Cert.Kernel4Ideal.τ).loc Cert.Kernel4Ideal.main_v49_7)) (v8 : (c : Dev Cert.Kernel4Ideal.nD) → Buf (Elt Ideal) ((c.tc : Thread Cert.Kernel4Ideal.nD Cert.Kernel4Ideal.τ).loc Cert.Kernel4Ideal.main_v49_8)) (v9 : (c : Dev Cert.Kernel4Ideal.nD) → Buf (Elt Ideal) ((c.tc : Thread Cert.Kernel4Ideal.nD Cert.Kernel4Ideal.τ).loc Cert.Kernel4Ideal.main_v49_9)) (v10 : (c : Dev Cert.Kernel4Ideal.nD) → Buf (Elt Ideal) ((c.tc : Thread Cert.Kernel4Ideal.nD Cert.Kernel4Ideal.τ).loc Cert.Kernel4Ideal.main_v49_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_v49_3) = v3 c
          ∧ r.2.mem ((c.tc : Thread Cert.Kernel4Ideal.nD Cert.Kernel4Ideal.τ).loc Cert.Kernel4Ideal.main_v49_4) = v4 c
          ∧ r.2.mem ((c.tc : Thread Cert.Kernel4Ideal.nD Cert.Kernel4Ideal.τ).loc Cert.Kernel4Ideal.main_v49_5) = v5 c
          ∧ r.2.mem ((c.tc : Thread Cert.Kernel4Ideal.nD Cert.Kernel4Ideal.τ).loc Cert.Kernel4Ideal.main_v49_6) = v6 c
          ∧ r.2.mem ((c.tc : Thread Cert.Kernel4Ideal.nD Cert.Kernel4Ideal.τ).loc Cert.Kernel4Ideal.main_v49_7) = v7 c
          ∧ r.2.mem ((c.tc : Thread Cert.Kernel4Ideal.nD Cert.Kernel4Ideal.τ).loc Cert.Kernel4Ideal.main_v49_8) = v8 c
          ∧ r.2.mem ((c.tc : Thread Cert.Kernel4Ideal.nD Cert.Kernel4Ideal.τ).loc Cert.Kernel4Ideal.main_v49_9) = v9 c
          ∧ r.2.mem ((c.tc : Thread Cert.Kernel4Ideal.nD Cert.Kernel4Ideal.τ).loc Cert.Kernel4Ideal.main_v49_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v344) = v0 c
          ∧ r.2.mem ((c.tc : Thread Cert.Reference4Ideal.nD Cert.Reference4Ideal.τ).loc Cert.Reference4Ideal.main_v346) = v1 c
          ∧ r.2.mem ((c.tc : Thread Cert.Reference4Ideal.nD Cert.Reference4Ideal.τ).loc Cert.Reference4Ideal.main_v348) = v2 c
          ∧ r.2.mem ((c.tc : Thread Cert.Reference4Ideal.nD Cert.Reference4Ideal.τ).loc Cert.Reference4Ideal.main_v350) = v3 c
          ∧ r.2.mem ((c.tc : Thread Cert.Reference4Ideal.nD Cert.Reference4Ideal.τ).loc Cert.Reference4Ideal.main_v352) = v4 c
          ∧ r.2.mem ((c.tc : Thread Cert.Reference4Ideal.nD Cert.Reference4Ideal.τ).loc Cert.Reference4Ideal.main_v354) = v5 c
          ∧ r.2.mem ((c.tc : Thread Cert.Reference4Ideal.nD Cert.Reference4Ideal.τ).loc Cert.Reference4Ideal.main_v356) = v6 c
          ∧ r.2.mem ((c.tc : Thread Cert.Reference4Ideal.nD Cert.Reference4Ideal.τ).loc Cert.Reference4Ideal.main_v358) = v7 c
          ∧ r.2.mem ((c.tc : Thread Cert.Reference4Ideal.nD Cert.Reference4Ideal.τ).loc Cert.Reference4Ideal.main_v360) = v8 c
          ∧ r.2.mem ((c.tc : Thread Cert.Reference4Ideal.nD Cert.Reference4Ideal.τ).loc Cert.Reference4Ideal.main_v362) = v9 c
          ∧ r.2.mem ((c.tc : Thread Cert.Reference4Ideal.nD Cert.Reference4Ideal.τ).loc Cert.Reference4Ideal.main_v363) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)) (v3 : (c : Dev Cert.Kernel7Ideal.nD) → Buf (Elt Ideal) ((c.tc : Thread Cert.Kernel7Ideal.nD Cert.Kernel7Ideal.τ).loc Cert.Kernel7Ideal.main_v7_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_v7_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S1x8192x1024 .f32) (main_arg1 : FVec F S1x6144 .f32) (main_arg2 : FVec F S1x1024 .f32) (main_arg3 : FVec F S1x1024 .f32) (main_arg4 : FVec F S1024 .f32) (main_arg5 : FVec F S1x1024 .f32) (main_arg6 : FVec F S1x1024 .f32) (main_arg7 : FVec F S1x1024 .f32) (main_arg8 : FVec F S1x1024x5632 .f32) (main_arg9 : FVec F S1x2816x1024 .f32) (main_arg10 : FVec F S1x8192x1024 .f32) : IVec S1x8192x1024 1 × IVec S1x6144 1 × IVec S1x1024 1 × IVec S1x1024x5632 1 × IVec S1x2816x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5632 .f32 := Host.absf main_arg8
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_v12 : FVec F S1x2816x1024 .f32 := Host.absf main_arg9
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1x8192x1024 .f32 := Host.absf main_arg10
  let main_cst_4 : FVec F S_ .f32 := constant S_ .f32 0x7F800000#32
  let main_v16 : FVec F S1x8192x1024 .f32 := broadcastInDim S1x8192x1024 ![] bcast_S_S1x8192x1024 main_cst_4
  let main_v17 : IVec S1x8192x1024 1 := cmpf .olt main_v15 main_v16
  (main_v2, main_v5, main_v8, main_v11, main_v14, main_v17)
-- ==== Pre_finite2.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x7168 : Shape := ⟨3, ![1, 1024, 7168]⟩
abbrev S1x8192x7168 : Shape := ⟨3, ![1, 8192, 7168]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x7168 : S_.BroadcastsInDim S1x1024x7168 (![] : Fin 0 → Fin S1x1024x7168.rank)
  bcast_S_S1x8192x7168 : S_.BroadcastsInDim S1x8192x7168 (![] : Fin 0 → Fin S1x8192x7168.rank)

variable [Facts]

def fn {F : FTy → Type} [FloatOps F] (main_arg0 : FVec F S1x8192x1024 .f32) (main_arg1 : FVec F S1x6144 .f32) (main_arg2 : FVec F S1x1024 .f32) (main_arg3 : FVec F S1x1024 .f32) (main_arg4 : FVec F S1024 .f32) (main_arg5 : FVec F S1x1024 .f32) (main_arg6 : FVec F S1x1024 .f32) (main_arg7 : FVec F S1x1024 .f32) (main_arg8 : FVec F S1x1024x7168 .f32) (main_arg9 : FVec F S1x8192x1024 .f32) (main_arg10 : FVec F S1x8192x7168 .f32) : IVec S1x8192x1024 1 × IVec S1x6144 1 × IVec S1x1024 1 × IVec S1x1024x7168 1 × IVec S1x8192x1024 1 × IVec S1x8192x7168 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x7168 .f32 := Host.absf main_arg8
  let main_cst_2 : FVec F S_ .f32 := constant S_ .f32 0x7F800000#32
  let main_v10 : FVec F S1x1024x7168 .f32 := broadcastInDim S1x1024x7168 ![] bcast_S_S1x1024x7168 main_cst_2
  let main_v11 : IVec S1x1024x7168 1 := cmpf .olt main_v9 main_v10
  let main_v12 : FVec F S1x8192x1024 .f32 := Host.absf main_arg9
  let main_cst_3 : FVec F S_ .f32 := constant S_ .f32 0x7F800000#32
  let main_v13 : FVec F S1x8192x1024 .f32 := broadcastInDim S1x8192x1024 ![] bcast_S_S1x8192x1024 main_cst_3
  let main_v14 : IVec S1x8192x1024 1 := cmpf .olt main_v12 main_v13
  let main_v15 : FVec F S1x8192x7168 .f32 := Host.absf main_arg10
  let main_cst_4 : FVec F S_ .f32 := constant S_ .f32 0x7F800000#32
  let main_v16 : FVec F S1x8192x7168 .f32 := broadcastInDim S1x8192x7168 ![] bcast_S_S1x8192x7168 main_cst_4
  let main_v17 : IVec S1x8192x7168 1 := cmpf .olt main_v15 main_v16
  (main_v2, main_v5, main_v8, main_v11, main_v14, main_v17)
-- ==== Pre_finite3.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1024 : S_.BroadcastsInDim S1024 (![] : Fin 0 → Fin S1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg10 : FVec F S1x8192x1024 .f32) (main_v2 : IVec S1x8192x1024 1) (main_v5 : IVec S1x6144 1) (main_v8 : IVec S1x1024 1) (main_v11 : IVec S1024 1) (main_v14 : IVec S1x1024x5632 1) (main_v17 : IVec S1x2816x1024 1) : IVec S1x8192x1024 1 × IVec S1x6144 1 × IVec S1x1024 1 × IVec S1024 1 × IVec S1x1024x5632 1 × IVec S1x2816x1024 1 × IVec S1x8192x1024 1 :=
  let main_v18 : FVec F S1x8192x1024 .f32 := Host.absf main_arg10
  let main_cst_5 : FVec F S_ .f32 := constant S_ .f32 0x7F800000#32
  let main_v19 : FVec F S1x8192x1024 .f32 := broadcastInDim S1x8192x1024 ![] bcast_S_S1x8192x1024 main_cst_5
  let main_v20 : IVec S1x8192x1024 1 := cmpf .olt main_v18 main_v19
  (main_v2, main_v5, main_v8, main_v11, main_v14, main_v17, main_v20)

def fn {F : FTy → Type} [FloatOps F] (main_arg0 : FVec F S1x8192x1024 .f32) (main_arg1 : FVec F S1x6144 .f32) (main_arg2 : FVec F S1x1024 .f32) (main_arg3 : FVec F S1x1024 .f32) (main_arg4 : FVec F S1024 .f32) (main_arg5 : FVec F S1x1024 .f32) (main_arg6 : FVec F S1x1024 .f32) (main_arg7 : FVec F S1x1024 .f32) (main_arg8 : FVec F S1x1024x5632 .f32) (main_arg9 : FVec F S1x2816x1024 .f32) (main_arg10 : FVec F S1x8192x1024 .f32) : IVec S1x8192x1024 1 × IVec S1x6144 1 × IVec S1x1024 1 × IVec S1024 1 × IVec S1x1024x5632 1 × IVec S1x2816x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1024x5632 .f32 := Host.absf main_arg8
  let main_cst_3 : FVec F S_ .f32 := constant S_ .f32 0x7F800000#32
  let main_v13 : FVec F S1x1024x5632 .f32 := broadcastInDim S1x1024x5632 ![] bcast_S_S1x1024x5632 main_cst_3
  let main_v14 : IVec S1x1024x5632 1 := cmpf .olt main_v12 main_v13
  let main_v15 : FVec F S1x2816x1024 .f32 := Host.absf main_arg9
  let main_cst_4 : FVec F S_ .f32 := constant S_ .f32 0x7F800000#32
  let main_v16 : FVec F S1x2816x1024 .f32 := broadcastInDim S1x2816x1024 ![] bcast_S_S1x2816x1024 main_cst_4
  let main_v17 : IVec S1x2816x1024 1 := cmpf .olt main_v15 main_v16
  fn_part1 (F := F) main_arg10 main_v2 main_v5 main_v8 main_v11 main_v14 main_v17
-- ==== Pre_finite4.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x7168 : Shape := ⟨3, ![1, 1024, 7168]⟩
abbrev S1x3x1024 : Shape := ⟨3, ![1, 3, 1024]⟩
abbrev S1x1024x1024 : Shape := ⟨3, ![1, 1024, 1024]⟩
abbrev S1x31x1024 : Shape := ⟨3, ![1, 31, 1024]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x7168 : S_.BroadcastsInDim S1x1024x7168 (![] : Fin 0 → Fin S1x1024x7168.rank)
  bcast_S_S1x3x1024 : S_.BroadcastsInDim S1x3x1024 (![] : Fin 0 → Fin S1x3x1024.rank)
  bcast_S_S1x1024x1024 : S_.BroadcastsInDim S1x1024x1024 (![] : Fin 0 → Fin S1x1024x1024.rank)
  bcast_S_S1x31x1024 : S_.BroadcastsInDim S1x31x1024 (![] : Fin 0 → Fin S1x31x1024.rank)

variable [Facts]

def fn_part1 {F : FTy → Type} [FloatOps F] (main_arg8 : FVec F S1x31x1024 .f32) (main_arg9 : FVec F S1x1024 .f32) (main_arg10 : FVec F S1x1024 .f32) (main_arg11 : FVec F S1x1024 .f32) (main_arg12 : FVec F S1x1024x1024 .f32) (main_arg13 : FVec F S1x1024x1024 .f32) (main_v2 : IVec S1x8192x1024 1) (main_v5 : IVec S1x6144 1) (main_v8 : IVec S1x1024 1) (main_v11 : IVec S1x1024x7168 1) (main_v14 : IVec S1x3x1024 1) (main_v17 : IVec S1x1024x1024 1) : IVec S1x8192x1024 1 × IVec S1x6144 1 × IVec S1x1024 1 × IVec S1x1024x7168 1 × IVec S1x3x1024 1 × IVec S1x1024x1024 1 × IVec S1x31x1024 1 × IVec S1x1024 1 × IVec S1x1024 1 × IVec S1x1024 1 × IVec S1x1024x1024 1 × IVec S1x1024x1024 1 :=
  let main_v18 : FVec F S1x31x1024 .f32 := Host.absf main_arg8
  let main_cst_5 : FVec F S_ .f32 := constant S_ .f32 0x7F800000#32
  let main_v19 : FVec F S1x31x1024 .f32 := broadcastInDim S1x31x1024 ![] bcast_S_S1x31x1024 main_cst_5
  let main_v20 : IVec S1x31x1024 1 := cmpf .olt main_v18 main_v19
  let main_v21 : FVec F S1x1024 .f32 := Host.absf main_arg9
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg10
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x1024 .f32 := Host.absf main_arg11
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1x1024x1024 .f32 := Host.absf main_arg12
  let main_cst_9 : FVec F S_ .f32 := constant S_ .f32 0x7F800000#32
  let main_v31 : FVec F S1x1024x1024 .f32 := broadcastInDim S1x1024x1024 ![] bcast_S_S1x1024x1024 main_cst_9
  let main_v32 : IVec S1x1024x1024 1 := cmpf .olt main_v30 main_v31
  let main_v33 : FVec F S1x1024x1024 .f32 := Host.absf main_arg13
  let main_cst_10 : FVec F S_ .f32 := constant S_ .f32 0x7F800000#32
  let main_v34 : FVec F S1x1024x1024 .f32 := broadcastInDim S1x1024x1024 ![] bcast_S_S1x1024x1024 main_cst_10
  let main_v35 : IVec S1x1024x1024 1 := cmpf .olt main_v33 main_v34
  (main_v2, main_v5, main_v8, main_v11, main_v14, main_v17, main_v20, main_v23, main_v26, main_v29, main_v32, main_v35)

def fn {F : FTy → Type} [FloatOps F] (main_arg0 : FVec F S1x8192x1024 .f32) (main_arg1 : FVec F S1x6144 .f32) (main_arg2 : FVec F S1x1024 .f32) (main_arg3 : FVec F S1x1024 .f32) (main_arg4 : FVec F S1024 .f32) (main_arg5 : FVec F S1x1024x7168 .f32) (main_arg6 : FVec F S1x3x1024 .f32) (main_arg7 : FVec F S1x1024x1024 .f32) (main_arg8 : FVec F S1x31x1024 .f32) (main_arg9 : FVec F S1x1024 .f32) (main_arg10 : FVec F S1x1024 .f32) (main_arg11 : FVec F S1x1024 .f32) (main_arg12 : FVec F S1x1024x1024 .f32) (main_arg13 : FVec F S1x1024x1024 .f32) : IVec S1x8192x1024 1 × IVec S1x6144 1 × IVec S1x1024 1 × IVec S1x1024x7168 1 × IVec S1x3x1024 1 × IVec S1x1024x1024 1 × IVec S1x31x1024 1 × IVec S1x1024 1 × IVec S1x1024 1 × IVec S1x1024 1 × IVec S1x1024x1024 1 × IVec S1x1024x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x7168 .f32 := Host.absf main_arg5
  let main_cst_2 : FVec F S_ .f32 := constant S_ .f32 0x7F800000#32
  let main_v10 : FVec F S1x1024x7168 .f32 := broadcastInDim S1x1024x7168 ![] bcast_S_S1x1024x7168 main_cst_2
  let main_v11 : IVec S1x1024x7168 1 := cmpf .olt main_v9 main_v10
  let main_v12 : FVec F S1x3x1024 .f32 := Host.absf main_arg6
  let main_cst_3 : FVec F S_ .f32 := constant S_ .f32 0x7F800000#32
  let main_v13 : FVec F S1x3x1024 .f32 := broadcastInDim S1x3x1024 ![] bcast_S_S1x3x1024 main_cst_3
  let main_v14 : IVec S1x3x1024 1 := cmpf .olt main_v12 main_v13
  let main_v15 : FVec F S1x1024x1024 .f32 := Host.absf main_arg7
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  fn_part1 (F := F) main_arg8 main_arg9 main_arg10 main_arg11 main_arg12 main_arg13 main_v2 main_v5 main_v8 main_v11 main_v14 main_v17
-- ==== Kernel.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S8192x1024 : Shape := ⟨2, ![8192, 1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S1024x5632 : Shape := ⟨2, ![1024, 5632]⟩
abbrev S5632x1024 : Shape := ⟨2, ![5632, 1024]⟩
abbrev S2816x1024 : Shape := ⟨2, ![2816, 1024]⟩
abbrev S8192 : Shape := ⟨1, ![8192]⟩
abbrev S8192x1 : Shape := ⟨2, ![8192, 1]⟩
abbrev S8192x5632 : Shape := ⟨2, ![8192, 5632]⟩
abbrev S256x1024 : Shape := ⟨2, ![256, 1024]⟩
abbrev S256x5632 : Shape := ⟨2, ![256, 5632]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩
abbrev S256 : Shape := ⟨1, ![256]⟩
abbrev S256x1 : Shape := ⟨2, ![256, 1]⟩

abbrev nBuf : Space → Nat
  | .hbm => 57
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x8192x1024, .f32⟩
  | .hbm, ⟨11, _⟩ => ⟨S8192x1024, .f32⟩
  | .hbm, ⟨12, _⟩ => ⟨S6x1024, .f32⟩
  | .hbm, ⟨13, _⟩ => ⟨S_, .f32⟩
  | .hbm, ⟨14, _⟩ => ⟨S2x1024, .f32⟩
  | .hbm, ⟨15, _⟩ => ⟨S8x1024, .f32⟩
  | .hbm, ⟨16, _⟩ => ⟨S1x1024, .f32⟩
  | .hbm, ⟨17, _⟩ => ⟨S_, .f32⟩
  | .hbm, ⟨18, _⟩ => ⟨S2x1024, .f32⟩
  | .hbm, ⟨19, _⟩ => ⟨S8x1024, .f32⟩
  | .hbm, ⟨20, _⟩ => ⟨S1024x5632, .f32⟩
  | .hbm, ⟨21, _⟩ => ⟨S5632x1024, .f32⟩
  | .hbm, ⟨22, _⟩ => ⟨S5632x1024, .bf16⟩
  | .hbm, ⟨23, _⟩ => ⟨S2816x1024, .f32⟩
  | .hbm, ⟨24, _⟩ => ⟨S2816x1024, .bf16⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S1024x5632, .f32⟩
  | .hbm, ⟨50, _⟩ => ⟨S8192x5632, .f32⟩
  | .hbm, ⟨51, _⟩ => ⟨S8192x5632, .bf16⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x5632, .bf16⟩
  | .hbm, ⟨56, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .bf16⟩
  | .local _ .vmem, ⟨13, _⟩ => ⟨S256x5632, .bf16⟩
  | .local _ .vmem, ⟨14, _⟩ => ⟨S8x1024, .f32⟩
  | .local _ .vmem, ⟨15, _⟩ => ⟨S5632x1024, .bf16⟩
  | .local _ .vmem, ⟨16, _⟩ => ⟨S2816x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_v36_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1x1x6144 : Shape := ⟨3, ![1, 1, 6144]⟩
abbrev S1x1x1024 : Shape := ⟨3, ![1, 1, 1024]⟩
abbrev S_ : Shape := ⟨0, ![]⟩
abbrev S1x8192x5632 : Shape := ⟨3, ![1, 8192, 5632]⟩
abbrev S1x8192 : Shape := ⟨2, ![1, 8192]⟩
abbrev S1x8192x1 : Shape := ⟨3, ![1, 8192, 1]⟩
abbrev S1024x5632 : Shape := ⟨2, ![1024, 5632]⟩
abbrev S1x8192x2816 : Shape := ⟨3, ![1, 8192, 2816]⟩
abbrev S2816x1024 : Shape := ⟨2, ![2816, 1024]⟩
abbrev S8192 : Shape := ⟨1, ![8192]⟩
abbrev S5x1024 : Shape := ⟨2, ![5, 1024]⟩
abbrev S8x1024 : Shape := ⟨2, ![8, 1024]⟩
abbrev S8192x1024 : Shape := ⟨2, ![8192, 1024]⟩
abbrev S8192x5632 : Shape := ⟨2, ![8192, 5632]⟩

abbrev nBuf : Space → Nat
  | .hbm => 134
  | .vmem => 0
  | .smem => 0
  | _ => 0

abbrev hbmTy0_0 (i : Nat) : BufTy := match i % 128 with
  | 0 => ⟨S1x8192x1024, .f32⟩
  | 1 => ⟨S1x6144, .f32⟩
  | 2 => ⟨S1x1024, .f32⟩
  | 3 => ⟨S1x1024, .f32⟩
  | 4 => ⟨S1024, .f32⟩
  | 5 => ⟨S1x1024, .f32⟩
  | 6 => ⟨S1x1024, .f32⟩
  | 7 => ⟨S1x1024, .f32⟩
  | 8 => ⟨S1x1024x5632, .f32⟩
  | 9 => ⟨S1x2816x1024, .f32⟩
  | 10 => ⟨S1x8192x1024, .f32⟩
  | 11 => ⟨S1x1x6144, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S1x1x1024, .f32⟩
  | 18 => ⟨S_, .f32⟩
  | 19 => ⟨S1x8192x5632, .f32⟩
  | 20 => ⟨S_, .f32⟩
  | 21 => ⟨S1x8192x1024, .f32⟩
  | 22 => ⟨S1024, .f32⟩
  | 23 => ⟨S1x8192x1024, .f32⟩
  | 24 => ⟨S_, .f32⟩
  | 25 => ⟨S1x8192, .f32⟩
  | 26 => ⟨S1x8192x1, .f32⟩
  | 27 => ⟨S_, .f32⟩
  | 28 => ⟨S1x8192x1, .f32⟩
  | 29 => ⟨S1x8192x1, .f32⟩
  | 30 => ⟨S_, .f32⟩
  | 31 => ⟨S1x8192x1, .f32⟩
  | 32 => ⟨S1x8192x1, .f32⟩
  | 33 => ⟨S1x8192x1, .f32⟩
  | 34 => ⟨S1x8192x1, .f32⟩
  | 35 => ⟨S_, .f32⟩
  | 36 => ⟨S1x8192x1, .f32⟩
  | 37 => ⟨S1x8192x1, .f32⟩
  | 38 => ⟨S1x8192x1024, .f32⟩
  | 39 => ⟨S1x8192x1024, .f32⟩
  | 40 => ⟨S1x1x1024, .f32⟩
  | 41 => ⟨S1x8192x1024, .f32⟩
  | 42 => ⟨S1x8192x1024, .f32⟩
  | 43 => ⟨S_, .f32⟩
  | 44 => ⟨S1x1x1024, .f32⟩
  | 45 => ⟨S1x1x1024, .f32⟩
  | 46 => ⟨S1x8192x1024, .f32⟩
  | 47 => ⟨S1x8192x1024, .f32⟩
  | 48 => ⟨S1x8192x1024, .f32⟩
  | 49 => ⟨S1x8192x1024, .f32⟩
  | 50 => ⟨S1024x5632, .f32⟩
  | 51 => ⟨S1x8192x5632, .f32⟩
  | 52 => ⟨S1x8192x5632, .f32⟩
  | 53 => ⟨S1x8192x2816, .f32⟩
  | 54 => ⟨S1x8192x2816, .f32⟩
  | 55 => ⟨S1x8192x2816, .f32⟩
  | 56 => ⟨S1x8192x2816, .f32⟩
  | 57 => ⟨S_, .f32⟩
  | 58 => ⟨S1x8192x2816, .f32⟩
  | 59 => ⟨S1x8192x2816, .f32⟩
  | 60 => ⟨S_, .f32⟩
  | 61 => ⟨S1x8192x2816, .f32⟩
  | 62 => ⟨S1x8192x2816, .f32⟩
  | 63 => ⟨S_, .f32⟩
  | 64 => ⟨S1x8192x2816, .f32⟩
  | 65 => ⟨S1x8192x2816, .f32⟩
  | 66 => ⟨S1x8192x2816, .f32⟩
  | 67 => ⟨S1x8192x2816, .f32⟩
  | 68 => ⟨S1x8192x2816, .f32⟩
  | 69 => ⟨S2816x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x8192x2816, .f32⟩
  | 79 => ⟨S1x8192x2816, .f32⟩
  | 80 => ⟨S1x8192x2816, .f32⟩
  | 81 => ⟨S1x8192x2816, .f32⟩
  | 82 => ⟨S1x8192x2816, .f32⟩
  | 83 => ⟨S1x8192x2816, .f32⟩
  | 84 => ⟨S1x8192x2816, .f32⟩
  | 85 => ⟨S1x8192x5632, .f32⟩
  | 86 => ⟨S1x8192x1024, .f32⟩
  | 87 => ⟨S_, .f32⟩
  | 88 => ⟨S1x1024, .f32⟩
  | 89 => ⟨S1x1x1024, .f32⟩
  | 90 => ⟨S1x8192x1024, .f32⟩
  | 91 => ⟨S_, .f32⟩
  | 92 => ⟨S1x1024, .f32⟩
  | 93 => ⟨S1x1x1024, .f32⟩
  | 94 => ⟨S1x8192x1024, .f32⟩
  | 95 => ⟨S1x8192x1024, .f32⟩
  | 96 => ⟨S1x8192x1024, .f32⟩
  | 97 => ⟨S_, .f32⟩
  | 98 => ⟨S1x1024, .f32⟩
  | 99 => ⟨S1x1x1024, .f32⟩
  | 100 => ⟨S1x8192x1024, .f32⟩
  | 101 => ⟨S1x8192x1024, .f32⟩
  | 102 => ⟨S_, .f32⟩
  | 103 => ⟨S1024, .f32⟩
  | 104 => ⟨S1x8192x1024, .f32⟩
  | 105 => ⟨S_, .f32⟩
  | 106 => ⟨S1x8192, .f32⟩
  | 107 => ⟨S1x8192x1, .f32⟩
  | 108 => ⟨S1x8192x1024, .f32⟩
  | 109 => ⟨S1x8192x1024, .f32⟩
  | 110 => ⟨S1x8192x1024, .f32⟩
  | 111 => ⟨S1x8192x1, .f32⟩
  | 112 => ⟨S_, .f32⟩
  | 113 => ⟨S1x8192x1, .f32⟩
  | 114 => ⟨S1x8192x1, .f32⟩
  | 115 => ⟨S_, .f32⟩
  | 116 => ⟨S8192, .f32⟩
  | 117 => ⟨S1x8192, .f32⟩
  | 118 => ⟨S1x8192x1024, .f32⟩
  | 119 => ⟨S1x8192x1024, .f32⟩
  | 120 => ⟨S1x8192x1024, .f32⟩
  | 121 => ⟨S1x8192x1024, .f32⟩
  | 122 => ⟨S1x8192x1024, .f32⟩
  | 123 => ⟨S1x1024, .f32⟩
  | 124 => ⟨S1x1024, .f32⟩
  | 125 => ⟨S1x1024, .f32⟩
  | 126 => ⟨S_, .f32⟩
  | 127 => ⟨S5x1024, .f32⟩
  | _ => ⟨S1x8192x1024, .f32⟩

abbrev hbmTy0_1 (i : Nat) : BufTy := match i % 128 with
  | 0 => ⟨S8x1024, .f32⟩
  | 1 => ⟨S8192x1024, .f32⟩
  | 2 => ⟨S8192x1024, .f32⟩
  | 3 => ⟨S8192x1024, .bf16⟩
  | 4 => ⟨S8192x5632, .f32⟩
  | 5 => ⟨S8192x5632, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v37_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v37_1 : Ref sig .tc := ⟨.hbm, 66, rfl⟩
abbrev main_v37_0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_6 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_7 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_8 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_9 : Ref sig .tc := ⟨.hbm, 102, rfl⟩
abbrev main_v66 : Ref sig .tc := ⟨.hbm, 103, rfl⟩
abbrev main_v67 : Ref sig .tc := ⟨.hbm, 104, rfl⟩
abbrev main_cst_10 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_11 : Ref sig .tc := ⟨.hbm, 112, rfl⟩
abbrev main_v74 : Ref sig .tc := ⟨.hbm, 113, rfl⟩
abbrev main_v75 : Ref sig .tc := ⟨.hbm, 114, rfl⟩
abbrev main_cst_12 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_13 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩

abbrev nD : Nat := 1
abbrev τ : Topo := Topo.v7x

variable {F : FTy → Type} [FloatOps F]
-- ==== Kernel2.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x7168 : Shape := ⟨3, ![1, 1024, 7168]⟩
abbrev S1x8192x7168 : Shape := ⟨3, ![1, 8192, 7168]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S8192x7168 : Shape := ⟨2, ![8192, 7168]⟩
abbrev S8192x1024 : Shape := ⟨2, ![8192, 1024]⟩
abbrev S1024x7168 : Shape := ⟨2, ![1024, 7168]⟩
abbrev S256x7168 : Shape := ⟨2, ![256, 7168]⟩
abbrev S256x1024 : Shape := ⟨2, ![256, 1024]⟩
abbrev S256 : Shape := ⟨1, ![256]⟩
abbrev S256x1 : Shape := ⟨2, ![256, 1]⟩

abbrev nBuf : Space → Nat
  | .hbm => 27
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x7168, .f32⟩
  | .hbm, ⟨9, _⟩ => ⟨S1x8192x1024, .f32⟩
  | .hbm, ⟨10, _⟩ => ⟨S1x8192x7168, .f32⟩
  | .hbm, ⟨11, _⟩ => ⟨S6x1024, .f32⟩
  | .hbm, ⟨12, _⟩ => ⟨S_, .f32⟩
  | .hbm, ⟨13, _⟩ => ⟨S2x1024, .f32⟩
  | .hbm, ⟨14, _⟩ => ⟨S8x1024, .f32⟩
  | .hbm, ⟨15, _⟩ => ⟨S1x1024, .f32⟩
  | .hbm, ⟨16, _⟩ => ⟨S_, .f32⟩
  | .hbm, ⟨17, _⟩ => ⟨S2x1024, .f32⟩
  | .hbm, ⟨18, _⟩ => ⟨S8x1024, .f32⟩
  | .hbm, ⟨19, _⟩ => ⟨S8192x7168, .f32⟩
  | .hbm, ⟨20, _⟩ => ⟨S8192x7168, .bf16⟩
  | .hbm, ⟨21, _⟩ => ⟨S8192x1024, .f32⟩
  | .hbm, ⟨22, _⟩ => ⟨S8192x1024, .f32⟩
  | .hbm, ⟨23, _⟩ => ⟨S1024x7168, .f32⟩
  | .hbm, ⟨24, _⟩ => ⟨S1024x7168, .bf16⟩
  | .hbm, ⟨25, _⟩ => ⟨S8192x1024, .f32⟩
  | .hbm, ⟨26, _⟩ => ⟨S8x1024, .f32⟩
  | .local _ .vmem, ⟨0, _⟩ => ⟨S256x7168, .bf16⟩
  | .local _ .vmem, ⟨1, _⟩ => ⟨S256x7168, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S1024x7168, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x7168 : Shape := ⟨3, ![1, 1024, 7168]⟩
abbrev S1x8192x7168 : Shape := ⟨3, ![1, 8192, 7168]⟩
abbrev S1x1x6144 : Shape := ⟨3, ![1, 1, 6144]⟩
abbrev S1x1x1024 : Shape := ⟨3, ![1, 1, 1024]⟩
abbrev S_ : Shape := ⟨0, ![]⟩
abbrev S1x8192 : Shape := ⟨2, ![1, 8192]⟩
abbrev S1x8192x1 : Shape := ⟨3, ![1, 8192, 1]⟩
abbrev S1024x7168 : Shape := ⟨2, ![1024, 7168]⟩
abbrev S8192 : Shape := ⟨1, ![8192]⟩
abbrev S8192x1024 : Shape := ⟨2, ![8192, 1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x7168, .f32⟩
  | .hbm, ⟨9, _⟩ => ⟨S1x8192x1024, .f32⟩
  | .hbm, ⟨10, _⟩ => ⟨S1x8192x7168, .f32⟩
  | .hbm, ⟨11, _⟩ => ⟨S1x1x6144, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1024, .f32⟩
  | .hbm, ⟨19, _⟩ => ⟨S1x8192x1024, .f32⟩
  | .hbm, ⟨20, _⟩ => ⟨S_, .f32⟩
  | .hbm, ⟨21, _⟩ => ⟨S1x8192, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S1024x7168, .f32⟩
  | .hbm, ⟨47, _⟩ => ⟨S1x8192x7168, .f32⟩
  | .hbm, ⟨48, _⟩ => ⟨S1x8192x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S1x8192x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S1x8192x1024, .f32⟩
  | .hbm, ⟨63, _⟩ => ⟨S1x8192x1024, .f32⟩
  | .hbm, ⟨64, _⟩ => ⟨S_, .f32⟩
  | .hbm, ⟨65, _⟩ => ⟨S1024, .f32⟩
  | .hbm, ⟨66, _⟩ => ⟨S1x8192x1024, .f32⟩
  | .hbm, ⟨67, _⟩ => ⟨S_, .f32⟩
  | .hbm, ⟨68, _⟩ => ⟨S1x8192, .f32⟩
  | .hbm, ⟨69, _⟩ => ⟨S1x8192x1, .f32⟩
  | .hbm, ⟨70, _⟩ => ⟨S1x8192x1024, .f32⟩
  | .hbm, ⟨71, _⟩ => ⟨S1x8192x1024, .f32⟩
  | .hbm, ⟨72, _⟩ => ⟨S1x8192x1024, .f32⟩
  | .hbm, ⟨73, _⟩ => ⟨S1x8192x1, .f32⟩
  | .hbm, ⟨74, _⟩ => ⟨S_, .f32⟩
  | .hbm, ⟨75, _⟩ => ⟨S1x8192x1, .f32⟩
  | .hbm, ⟨76, _⟩ => ⟨S1x8192x1, .f32⟩
  | .hbm, ⟨77, _⟩ => ⟨S_, .f32⟩
  | .hbm, ⟨78, _⟩ => ⟨S8192, .f32⟩
  | .hbm, ⟨79, _⟩ => ⟨S1x8192, .f32⟩
  | .hbm, ⟨80, _⟩ => ⟨S1x8192x1024, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S8192x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel3.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S8192x1024 : Shape := ⟨2, ![8192, 1024]⟩
abbrev S1024x5632 : Shape := ⟨2, ![1024, 5632]⟩
abbrev S5632x1024 : Shape := ⟨2, ![5632, 1024]⟩
abbrev S2816x1024 : Shape := ⟨2, ![2816, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1280x1024 : Shape := ⟨2, ![1280, 1024]⟩
abbrev S512x1280 : Shape := ⟨2, ![512, 1280]⟩

abbrev nBuf : Space → Nat
  | .hbm => 31
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x8192x1024, .f32⟩
  | .hbm, ⟨11, _⟩ => ⟨S6x1024, .f32⟩
  | .hbm, ⟨12, _⟩ => ⟨S_, .f32⟩
  | .hbm, ⟨13, _⟩ => ⟨S2x1024, .f32⟩
  | .hbm, ⟨14, _⟩ => ⟨S8x1024, .f32⟩
  | .hbm, ⟨15, _⟩ => ⟨S1x1024, .f32⟩
  | .hbm, ⟨16, _⟩ => ⟨S_, .f32⟩
  | .hbm, ⟨17, _⟩ => ⟨S2x1024, .f32⟩
  | .hbm, ⟨18, _⟩ => ⟨S8x1024, .f32⟩
  | .hbm, ⟨19, _⟩ => ⟨S8192x1024, .f32⟩
  | .hbm, ⟨20, _⟩ => ⟨S8192x1024, .f32⟩
  | .hbm, ⟨21, _⟩ => ⟨S1024x5632, .f32⟩
  | .hbm, ⟨22, _⟩ => ⟨S5632x1024, .f32⟩
  | .hbm, ⟨23, _⟩ => ⟨S5632x1024, .bf16⟩
  | .hbm, ⟨24, _⟩ => ⟨S2816x1024, .f32⟩
  | .hbm, ⟨25, _⟩ => ⟨S2816x1024, .bf16⟩
  | .hbm, ⟨26, _⟩ => ⟨S8192x1024, .f32⟩
  | .hbm, ⟨27, _⟩ => ⟨S8192x5632, .bf16⟩
  | .hbm, ⟨28, _⟩ => ⟨S8192x1024, .bf16⟩
  | .hbm, ⟨29, _⟩ => ⟨S8192x2816, .bf16⟩
  | .hbm, ⟨30, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x5632, .bf16⟩
  | .local _ .vmem, ⟨9, _⟩ => ⟨S512x5632, .bf16⟩
  | .local _ .vmem, ⟨10, _⟩ => ⟨S512x1024, .bf16⟩
  | .local _ .vmem, ⟨11, _⟩ => ⟨S512x1024, .bf16⟩
  | .local _ .vmem, ⟨12, _⟩ => ⟨S512x2816, .bf16⟩
  | .local _ .vmem, ⟨13, _⟩ => ⟨S512x2816, .bf16⟩
  | .local _ .vmem, ⟨14, _⟩ => ⟨S8x1024, .f32⟩
  | .local _ .vmem, ⟨15, _⟩ => ⟨S5632x1024, .bf16⟩
  | .local _ .vmem, ⟨16, _⟩ => ⟨S2816x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1x1x6144 : Shape := ⟨3, ![1, 1, 6144]⟩
abbrev S1x1x1024 : Shape := ⟨3, ![1, 1, 1024]⟩
abbrev S_ : Shape := ⟨0, ![]⟩
abbrev S1x8192 : Shape := ⟨2, ![1, 8192]⟩
abbrev S1x8192x1 : Shape := ⟨3, ![1, 8192, 1]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S2816x1024 : Shape := ⟨2, ![2816, 1024]⟩
abbrev S8192 : Shape := ⟨1, ![8192]⟩
abbrev S5x1024 : Shape := ⟨2, ![5, 1024]⟩
abbrev S8x1024 : Shape := ⟨2, ![8, 1024]⟩
abbrev S8192x1024 : Shape := ⟨2, ![8192, 1024]⟩
abbrev S8192x5632 : Shape := ⟨2, ![8192, 5632]⟩
abbrev S8192x2816 : Shape := ⟨2, ![8192, 2816]⟩

abbrev nBuf : Space → Nat
  | .hbm => 154
  | .vmem => 0
  | .smem => 0
  | _ => 0

abbrev hbmTy0_0 (i : Nat) : BufTy := match i % 128 with
  | 0 => ⟨S1x8192x1024, .f32⟩
  | 1 => ⟨S1x6144, .f32⟩
  | 2 => ⟨S1x1024, .f32⟩
  | 3 => ⟨S1x1024, .f32⟩
  | 4 => ⟨S1024, .f32⟩
  | 5 => ⟨S1x1024, .f32⟩
  | 6 => ⟨S1x1024, .f32⟩
  | 7 => ⟨S1x1024, .f32⟩
  | 8 => ⟨S1x1024x5632, .f32⟩
  | 9 => ⟨S1x2816x1024, .f32⟩
  | 10 => ⟨S1x8192x1024, .f32⟩
  | 11 => ⟨S1x1x6144, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S1x1x1024, .f32⟩
  | 18 => ⟨S1024, .f32⟩
  | 19 => ⟨S1x8192x1024, .f32⟩
  | 20 => ⟨S_, .f32⟩
  | 21 => ⟨S1x8192, .f32⟩
  | 22 => ⟨S1x8192x1, .f32⟩
  | 23 => ⟨S_, .f32⟩
  | 24 => ⟨S1x8192x1, .f32⟩
  | 25 => ⟨S1x8192x1, .f32⟩
  | 26 => ⟨S_, .f32⟩
  | 27 => ⟨S1x8192x1, .f32⟩
  | 28 => ⟨S1x8192x1, .f32⟩
  | 29 => ⟨S1x8192x1, .f32⟩
  | 30 => ⟨S1x8192x1024, .f32⟩
  | 31 => ⟨S1x8192x1024, .f32⟩
  | 32 => ⟨S1x1x1024, .f32⟩
  | 33 => ⟨S1x8192x1024, .f32⟩
  | 34 => ⟨S1x8192x1024, .f32⟩
  | 35 => ⟨S_, .f32⟩
  | 36 => ⟨S1x1x1024, .f32⟩
  | 37 => ⟨S1x1x1024, .f32⟩
  | 38 => ⟨S1x8192x1024, .f32⟩
  | 39 => ⟨S1x8192x1024, .f32⟩
  | 40 => ⟨S1x8192x1024, .f32⟩
  | 41 => ⟨S1x8192x1024, .f32⟩
  | 42 => ⟨S1024x5632, .f32⟩
  | 43 => ⟨S1x8192x5632, .f32⟩
  | 44 => ⟨S1x8192x2816, .f32⟩
  | 45 => ⟨S1x8192x2816, .f32⟩
  | 46 => ⟨S1x8192x2816, .f32⟩
  | 47 => ⟨S1x8192x2816, .f32⟩
  | 48 => ⟨S_, .f32⟩
  | 49 => ⟨S1x8192x2816, .f32⟩
  | 50 => ⟨S1x8192x2816, .f32⟩
  | 51 => ⟨S_, .f32⟩
  | 52 => ⟨S1x8192x2816, .f32⟩
  | 53 => ⟨S1x8192x2816, .f32⟩
  | 54 => ⟨S1x8192x2816, .f32⟩
  | 55 => ⟨S1x8192x2816, .f32⟩
  | 56 => ⟨S2816x1024, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x8192x1024, .f32⟩
  | 62 => ⟨S_, .f32⟩
  | 63 => ⟨S1x8192, .f32⟩
  | 64 => ⟨S1x8192x1, .f32⟩
  | 65 => ⟨S_, .f32⟩
  | 66 => ⟨S1x8192x1, .f32⟩
  | 67 => ⟨S1x8192x1, .f32⟩
  | 68 => ⟨S_, .f32⟩
  | 69 => ⟨S1x8192x1, .f32⟩
  | 70 => ⟨S1x8192x1, .f32⟩
  | 71 => ⟨S1x8192x1, .f32⟩
  | 72 => ⟨S1x8192x1, .f32⟩
  | 73 => ⟨S_, .f32⟩
  | 74 => ⟨S1x8192x1, .f32⟩
  | 75 => ⟨S1x8192x1, .f32⟩
  | 76 => ⟨S1x8192x1024, .f32⟩
  | 77 => ⟨S1x8192x1024, .f32⟩
  | 78 => ⟨S1x1x1024, .f32⟩
  | 79 => ⟨S1x8192x1024, .f32⟩
  | 80 => ⟨S1x8192x1024, .f32⟩
  | 81 => ⟨S1x8192x1024, .f32⟩
  | 82 => ⟨S1x8192x1024, .f32⟩
  | 83 => ⟨S_, .f32⟩
  | 84 => ⟨S1x8192x1024, .f32⟩
  | 85 => ⟨S1x8192x1024, .f32⟩
  | 86 => ⟨S_, .f32⟩
  | 87 => ⟨S1x8192, .f32⟩
  | 88 => ⟨S_, .f32⟩
  | 89 => ⟨S1x8192, .f32⟩
  | 90 => ⟨S1x8192, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S1x8192, .f32⟩
  | 99 => ⟨S_, .f32⟩
  | 100 => ⟨S1x8192, .f32⟩
  | 101 => ⟨S1x8192, .f32⟩
  | 102 => ⟨S1x8192x1024, .f32⟩
  | 103 => ⟨S1x8192x1024, .f32⟩
  | 104 => ⟨S1x8192x1024, .f32⟩
  | 105 => ⟨S_, .f32⟩
  | 106 => ⟨S1x1024, .f32⟩
  | 107 => ⟨S1x1x1024, .f32⟩
  | 108 => ⟨S1x8192x1024, .f32⟩
  | 109 => ⟨S1x8192x1024, .f32⟩
  | 110 => ⟨S_, .f32⟩
  | 111 => ⟨S1024, .f32⟩
  | 112 => ⟨S1x8192x1024, .f32⟩
  | 113 => ⟨S_, .f32⟩
  | 114 => ⟨S1x8192, .f32⟩
  | 115 => ⟨S1x8192x1, .f32⟩
  | 116 => ⟨S1x8192x1024, .f32⟩
  | 117 => ⟨S1x8192x1024, .f32⟩
  | 118 => ⟨S1x8192x1, .f32⟩
  | 119 => ⟨S_, .f32⟩
  | 120 => ⟨S1x8192x1, .f32⟩
  | 121 => ⟨S1x8192x1, .f32⟩
  | 122 => ⟨S_, .f32⟩
  | 123 => ⟨S8192, .f32⟩
  | 124 => ⟨S1x8192, .f32⟩
  | 125 => ⟨S1x8192x1024, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S_, .f32⟩
  | 4 => ⟨S1x1024, .f32⟩
  | 5 => ⟨S1x1x1024, .f32⟩
  | 6 => ⟨S1x1024, .f32⟩
  | 7 => ⟨S1x1024, .f32⟩
  | 8 => ⟨S_, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S5x1024, .f32⟩
  | 18 => ⟨S8x1024, .f32⟩
  | 19 => ⟨S8192x1024, .f32⟩
  | 20 => ⟨S8192x5632, .f32⟩
  | 21 => ⟨S8192x5632, .bf16⟩
  | 22 => ⟨S8192x1024, .f32⟩
  | 23 => ⟨S8192x1024, .bf16⟩
  | 24 => ⟨S8192x2816, .f32⟩
  | 25 => ⟨S8192x2816, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_cst_12 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_cst_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_cst_23 : Ref sig .tc := ⟨.hbm, 141, rfl⟩
abbrev main_v98 : Ref sig .tc := ⟨.hbm, 142, rfl⟩
abbrev main_v99 : Ref sig .tc := ⟨.hbm, 143, rfl⟩
abbrev main_cst_24 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩

abbrev nD : Nat := 1
abbrev τ : Topo := Topo.v7x

variable {F : FTy → Type} [FloatOps F]
-- ==== Kernel4.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x7168 : Shape := ⟨3, ![1, 1024, 7168]⟩
abbrev S1x3x1024 : Shape := ⟨3, ![1, 3, 1024]⟩
abbrev S1x1024x1024 : Shape := ⟨3, ![1, 1024, 1024]⟩
abbrev S1x31x1024 : Shape := ⟨3, ![1, 31, 1024]⟩
abbrev S1x1x6144 : Shape := ⟨3, ![1, 1, 6144]⟩
abbrev S1x1x1024 : Shape := ⟨3, ![1, 1, 1024]⟩
abbrev S_ : Shape := ⟨0, ![]⟩
abbrev S1x8192 : Shape := ⟨2, ![1, 8192]⟩
abbrev S1x8192x1 : Shape := ⟨3, ![1, 8192, 1]⟩
abbrev S1024x7168 : Shape := ⟨2, ![1024, 7168]⟩
abbrev S1x8192x7168 : Shape := ⟨3, ![1, 8192, 7168]⟩
abbrev S6x1024 : Shape := ⟨2, ![6, 1024]⟩
abbrev S2x1024 : Shape := ⟨2, ![2, 1024]⟩
abbrev S8x1024 : Shape := ⟨2, ![8, 1024]⟩
abbrev S3x1024 : Shape := ⟨2, ![3, 1024]⟩
abbrev S5x1024 : Shape := ⟨2, ![5, 1024]⟩
abbrev S31x1024 : Shape := ⟨2, ![31, 1024]⟩
abbrev S40x1024 : Shape := ⟨2, ![40, 1024]⟩
abbrev S8192x1024 : Shape := ⟨2, ![8192, 1024]⟩
abbrev S8192x7168 : Shape := ⟨2, ![8192, 7168]⟩
abbrev S1024x1024 : Shape := ⟨2, ![1024, 1024]⟩
abbrev S3x8192x1024 : Shape := ⟨3, ![3, 8192, 1024]⟩
abbrev S8192x1 : Shape := ⟨2, ![8192, 1]⟩
abbrev S256x1024 : Shape := ⟨2, ![256, 1024]⟩
abbrev S256x7168 : Shape := ⟨2, ![256, 7168]⟩
abbrev S3x256x1024 : Shape := ⟨3, ![3, 256, 1024]⟩
abbrev S256x1 : Shape := ⟨2, ![256, 1]⟩
abbrev S264x1024 : Shape := ⟨2, ![264, 1024]⟩
abbrev S288x1024 : Shape := ⟨2, ![288, 1024]⟩
abbrev S32x1024 : Shape := ⟨2, ![32, 1024]⟩
abbrev S72x128 : Shape := ⟨2, ![72, 128]⟩
abbrev S1x128 : Shape := ⟨2, ![1, 128]⟩
abbrev S64x128 : Shape := ⟨2, ![64, 128]⟩
abbrev S96x128 : Shape := ⟨2, ![96, 128]⟩
abbrev S1x256x1024 : Shape := ⟨3, ![1, 256, 1024]⟩
abbrev S256 : Shape := ⟨1, ![256]⟩

abbrev nBuf : Space → Nat
  | .hbm => 82
  | .vmem => 36
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x1024x7168, .f32⟩
  | .hbm, ⟨6, _⟩ => ⟨S1x3x1024, .f32⟩
  | .hbm, ⟨7, _⟩ => ⟨S1x1024x1024, .f32⟩
  | .hbm, ⟨8, _⟩ => ⟨S1x31x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024x1024, .f32⟩
  | .hbm, ⟨13, _⟩ => ⟨S1x1024x1024, .f32⟩
  | .hbm, ⟨14, _⟩ => ⟨S1x1x6144, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1024, .f32⟩
  | .hbm, ⟨22, _⟩ => ⟨S1x8192x1024, .f32⟩
  | .hbm, ⟨23, _⟩ => ⟨S_, .f32⟩
  | .hbm, ⟨24, _⟩ => ⟨S1x8192, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S_, .f32⟩
  | .hbm, ⟨30, _⟩ => ⟨S1x8192x1, .f32⟩
  | .hbm, ⟨31, _⟩ => ⟨S1x8192x1, .f32⟩
  | .hbm, ⟨32, _⟩ => ⟨S1x8192x1, .f32⟩
  | .hbm, ⟨33, _⟩ => ⟨S1x8192x1024, .f32⟩
  | .hbm, ⟨34, _⟩ => ⟨S1x8192x1024, .f32⟩
  | .hbm, ⟨35, _⟩ => ⟨S1x1x1024, .f32⟩
  | .hbm, ⟨36, _⟩ => ⟨S1x8192x1024, .f32⟩
  | .hbm, ⟨37, _⟩ => ⟨S1x8192x1024, .f32⟩
  | .hbm, ⟨38, _⟩ => ⟨S_, .f32⟩
  | .hbm, ⟨39, _⟩ => ⟨S1x1x1024, .f32⟩
  | .hbm, ⟨40, _⟩ => ⟨S1x1x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S1024x7168, .f32⟩
  | .hbm, ⟨46, _⟩ => ⟨S1x8192x7168, .f32⟩
  | .hbm, ⟨47, _⟩ => ⟨S6x1024, .f32⟩
  | .hbm, ⟨48, _⟩ => ⟨S_, .f32⟩
  | .hbm, ⟨49, _⟩ => ⟨S2x1024, .f32⟩
  | .hbm, ⟨50, _⟩ => ⟨S8x1024, .f32⟩
  | .hbm, ⟨51, _⟩ => ⟨S1x1024, .f32⟩
  | .hbm, ⟨52, _⟩ => ⟨S_, .f32⟩
  | .hbm, ⟨53, _⟩ => ⟨S2x1024, .f32⟩
  | .hbm, ⟨54, _⟩ => ⟨S8x1024, .f32⟩
  | .hbm, ⟨55, _⟩ => ⟨S3x1024, .f32⟩
  | .hbm, ⟨56, _⟩ => ⟨S_, .f32⟩
  | .hbm, ⟨57, _⟩ => ⟨S5x1024, .f32⟩
  | .hbm, ⟨58, _⟩ => ⟨S31x1024, .f32⟩
  | .hbm, ⟨59, _⟩ => ⟨S_, .f32⟩
  | .hbm, ⟨60, _⟩ => ⟨S1x1024, .f32⟩
  | .hbm, ⟨61, _⟩ => ⟨S40x1024, .f32⟩
  | .hbm, ⟨62, _⟩ => ⟨S8192x1024, .f32⟩
  | .hbm, ⟨63, _⟩ => ⟨S8192x7168, .f32⟩
  | .hbm, ⟨64, _⟩ => ⟨S8192x7168, .bf16⟩
  | .hbm, ⟨65, _⟩ => ⟨S1024x1024, .f32⟩
  | .hbm, ⟨66, _⟩ => ⟨S1024x1024, .bf16⟩
  | .hbm, ⟨67, _⟩ => ⟨S1024x1024, .f32⟩
  | .hbm, ⟨68, _⟩ => ⟨S1024x1024, .bf16⟩
  | .hbm, ⟨69, _⟩ => ⟨S1024x1024, .f32⟩
  | .hbm, ⟨70, _⟩ => ⟨S1024x1024, .bf16⟩
  | .hbm, ⟨71, _⟩ => ⟨S8192x1024, .f32⟩
  | .hbm, ⟨72, _⟩ => ⟨S8192x1024, .bf16⟩
  | .hbm, ⟨73, _⟩ => ⟨S8192x1024, .bf16⟩
  | .hbm, ⟨74, _⟩ => ⟨S8192x1024, .bf16⟩
  | .hbm, ⟨75, _⟩ => ⟨S8192x1024, .bf16⟩
  | .hbm, ⟨76, _⟩ => ⟨S8192x1024, .bf16⟩
  | .hbm, ⟨77, _⟩ => ⟨S8192x1024, .bf16⟩
  | .hbm, ⟨78, _⟩ => ⟨S8192x1024, .bf16⟩
  | .hbm, ⟨79, _⟩ => ⟨S8192x1024, .bf16⟩
  | .hbm, ⟨80, _⟩ => ⟨S3x8192x1024, .bf16⟩
  | .hbm, ⟨81, _⟩ => ⟨S8192x1, .f32⟩
  | .local _ .vmem, ⟨0, _⟩ => ⟨S256x1024, .f32⟩
  | .local _ .vmem, ⟨1, _⟩ => ⟨S256x1024, .f32⟩
  | .local _ .vmem, ⟨2, _⟩ => ⟨S256x7168, .bf16⟩
  | .local _ .vmem, ⟨3, _⟩ => ⟨S256x7168, .bf16⟩
  | .local _ .vmem, ⟨4, _⟩ => ⟨S8x1024, .f32⟩
  | .local _ .vmem, ⟨5, _⟩ => ⟨S8x1024, .f32⟩
  | .local _ .vmem, ⟨6, _⟩ => ⟨S40x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S3x256x1024, .bf16⟩
  | .local _ .vmem, ⟨29, _⟩ => ⟨S3x256x1024, .bf16⟩
  | .local _ .vmem, ⟨30, _⟩ => ⟨S256x1, .f32⟩
  | .local _ .vmem, ⟨31, _⟩ => ⟨S256x1, .f32⟩
  | .local _ .vmem, ⟨32, _⟩ => ⟨S264x1024, .f32⟩
  | .local _ .vmem, ⟨33, _⟩ => ⟨S288x1024, .f32⟩
  | .local _ .vmem, ⟨34, _⟩ => ⟨S256x1024, .f32⟩
  | .local _ .vmem, ⟨35, _⟩ => ⟨S256x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev main_v49_3 : Ref sig .tc := ⟨.hbm, 74, rfl⟩
abbrev main_v49_4 : Ref sig .tc := ⟨.hbm, 75, rfl⟩
abbrev main_v49_5 : Ref sig .tc := ⟨.hbm, 76, rfl⟩
abbrev main_v49_6 : Ref sig .tc := ⟨.hbm, 77, rfl⟩
abbrev main_v49_7 : Ref sig .tc := ⟨.hbm, 78, rfl⟩
abbrev main_v49_8 : Ref sig .tc := ⟨.hbm, 79, rfl⟩
abbrev main_v49_9 : Ref sig .tc := ⟨.hbm, 80, rfl⟩
abbrev main_v49_10 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_8 : BitVec 32 := 0#32
  let c4_i32 : BitVec 32 := 4#32
  let v26 : BitVec 32 := Scalar.addi c0_i32_8 c4_i32
  let c1_i32 : BitVec 32 := 1#32
  ⟨c0_i32_8, v26, c1_i32⟩
def k0_mult1 (k0_t1 : Fin k0_t1_loop.trips) : BitVec 32 :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  v139
def k0_off1 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v141 : Index := Scalar.indexCast v140
  let c0_82 : Index := 0#32
  ![v141.toNat, 0]
def k0_off2 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v162 : Index := Scalar.indexCast v140
  let c0_89 : Index := 0#32
  ![v162.toNat, 0]
def k0_off3 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v166 : Index := Scalar.indexCast v140
  let c128 : Index := 128#32
  ![v166.toNat, 128]
def k0_off4 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v187 : Index := Scalar.indexCast v140
  let c128_98 : Index := 128#32
  ![v187.toNat, 128]
def k0_off5 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v191 : Index := Scalar.indexCast v140
  let c256_99 : Index := 256#32
  ![v191.toNat, 256]
def k0_off6 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v212 : Index := Scalar.indexCast v140
  let c256_108 : Index := 256#32
  ![v212.toNat, 256]
def k0_off7 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v216 : Index := Scalar.indexCast v140
  let c384 : Index := 384#32
  ![v216.toNat, 384]
def k0_off8 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v237 : Index := Scalar.indexCast v140
  let c384_117 : Index := 384#32
  ![v237.toNat, 384]
def k0_off9 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v241 : Index := Scalar.indexCast v140
  let c512 : Index := 512#32
  ![v241.toNat, 512]
def k0_off10 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v262 : Index := Scalar.indexCast v140
  let c512_126 : Index := 512#32
  ![v262.toNat, 512]
def k0_off11 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v266 : Index := Scalar.indexCast v140
  let c640 : Index := 640#32
  ![v266.toNat, 640]
def k0_off12 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v287 : Index := Scalar.indexCast v140
  let c640_135 : Index := 640#32
  ![v287.toNat, 640]
def k0_off13 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v291 : Index := Scalar.indexCast v140
  let c768 : Index := 768#32
  ![v291.toNat, 768]
def k0_off14 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v312 : Index := Scalar.indexCast v140
  let c768_144 : Index := 768#32
  ![v312.toNat, 768]
def k0_off15 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v316 : Index := Scalar.indexCast v140
  let c896 : Index := 896#32
  ![v316.toNat, 896]
def k0_off16 (k0_t1 : Fin k0_t1_loop.trips) : Fin 2 → Nat :=
  let c0_i32_8 : BitVec 32 := 0#32
  let c1_i32 : BitVec 32 := 1#32
  let arg24 : BitVec 32 := Scf.iv c0_i32_8 c1_i32 k0_t1
  let c64_i32 : BitVec 32 := 64#32
  let v139 : BitVec 32 := Scalar.muli arg24 c64_i32
  let v140 : BitVec 32 := v139
  let v337 : Index := Scalar.indexCast v140
  let c896_153 : Index := 896#32
  ![v337.toNat, 896]
@[reducible] def k0_t2_loop : Scf.Loop 32 :=
  let c0_i32_10 : BitVec 32 := 0#32
  let c4_i32_11 : BitVec 32 := 4#32
  let v27 : BitVec 32 := Scalar.addi c0_i32_10 c4_i32_11
  let c1_i32_12 : BitVec 32 := 1#32
  ⟨c0_i32_10, v27, c1_i32_12⟩
def k0_mult2 (k0_t2 : Fin k0_t2_loop.trips) : BitVec 32 :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  v139
def k0_off17 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v141 : Index := Scalar.indexCast v140
  let c0_82 : Index := 0#32
  ![v141.toNat, 0]
def k0_off18 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v335 : Index := Scalar.indexCast v140
  let c0_116 : Index := 0#32
  ![v335.toNat, 0]
def k0_off19 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v339 : Index := Scalar.indexCast v140
  let c128 : Index := 128#32
  ![v339.toNat, 128]
def k0_off20 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v533 : Index := Scalar.indexCast v140
  let c128_186 : Index := 128#32
  ![v533.toNat, 128]
def k0_off21 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v537 : Index := Scalar.indexCast v140
  let c256_187 : Index := 256#32
  ![v537.toNat, 256]
def k0_off22 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v731 : Index := Scalar.indexCast v140
  let c256_257 : Index := 256#32
  ![v731.toNat, 256]
def k0_off23 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v735 : Index := Scalar.indexCast v140
  let c384 : Index := 384#32
  ![v735.toNat, 384]
def k0_off24 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v929 : Index := Scalar.indexCast v140
  let c384_327 : Index := 384#32
  ![v929.toNat, 384]
def k0_off25 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v933 : Index := Scalar.indexCast v140
  let c512 : Index := 512#32
  ![v933.toNat, 512]
def k0_off26 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v1127 : Index := Scalar.indexCast v140
  let c512_397 : Index := 512#32
  ![v1127.toNat, 512]
def k0_off27 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v1131 : Index := Scalar.indexCast v140
  let c640 : Index := 640#32
  ![v1131.toNat, 640]
def k0_off28 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v1325 : Index := Scalar.indexCast v140
  let c640_467 : Index := 640#32
  ![v1325.toNat, 640]
def k0_off29 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v1329 : Index := Scalar.indexCast v140
  let c768 : Index := 768#32
  ![v1329.toNat, 768]
def k0_off30 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v1523 : Index := Scalar.indexCast v140
  let c768_537 : Index := 768#32
  ![v1523.toNat, 768]
def k0_off31 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v1527 : Index := Scalar.indexCast v140
  let c896 : Index := 896#32
  ![v1527.toNat, 896]
def k0_off32 (k0_t2 : Fin k0_t2_loop.trips) : Fin 2 → Nat :=
  let c0_i32_10 : BitVec 32 := 0#32
  let c1_i32_12 : BitVec 32 := 1#32
  let arg24 : BitVec 32 := Scf.iv c0_i32_10 c1_i32_12 k0_t2
  let c64_i32 : BitVec 32 := 64#32
  let v139 : BitVec 32 := Scalar.muli arg24 c64_i32
  let v140 : BitVec 32 := v139
  let v1721 : Index := Scalar.indexCast v140
  let c896_607 : Index := 896#32
  ![v1721.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S3x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S1x8192x1024 : Shape := ⟨3, ![1, 8192, 1024]⟩
abbrev S1x6144 : Shape := ⟨2, ![1, 6144]⟩
abbrev S1x1024 : Shape := ⟨2, ![1, 1024]⟩
abbrev S1024 : Shape := ⟨1, ![1024]⟩
abbrev S1x1024x7168 : Shape := ⟨3, ![1, 1024, 7168]⟩
abbrev S1x3x1024 : Shape := ⟨3, ![1, 3, 1024]⟩
abbrev S1x1024x1024 : Shape := ⟨3, ![1, 1024, 1024]⟩
abbrev S1x31x1024 : Shape := ⟨3, ![1, 31, 1024]⟩
abbrev S1x1x6144 : Shape := ⟨3, ![1, 1, 6144]⟩
abbrev S1x1x1024 : Shape := ⟨3, ![1, 1, 1024]⟩
abbrev S_ : Shape := ⟨0, ![]⟩
abbrev S1x8192 : Shape := ⟨2, ![1, 8192]⟩
abbrev S1x8192x1 : Shape := ⟨3, ![1, 8192, 1]⟩
abbrev S1024x7168 : Shape := ⟨2, ![1024, 7168]⟩
abbrev S1x8192x7168 : Shape := ⟨3, ![1, 8192, 7168]⟩
abbrev S3x1024 : Shape := ⟨2, ![3, 1024]⟩
abbrev S1x2x1024 : Shape := ⟨3, ![1, 2, 1024]⟩
abbrev S1x8194x1024 : Shape := ⟨3, ![1, 8194, 1024]⟩
abbrev S1024x1024 : Shape := ⟨2, ![1024, 1024]⟩
abbrev S31x1024 : Shape := ⟨2, ![31, 1024]⟩
abbrev S1x30x1024 : Shape := ⟨3, ![1, 30, 1024]⟩
abbrev S1x8222x1024 : Shape := ⟨3, ![1, 8222, 1024]⟩
abbrev S8192x1024 : Shape := ⟨2, ![8192, 1024]⟩
abbrev S3x8192x1024 : Shape := ⟨3, ![3, 8192, 1024]⟩
abbrev S8192x1 : Shape := ⟨2, ![8192, 1]⟩

abbrev nBuf : Space → Nat
  | .hbm => 405
  | .vmem => 0
  | .smem => 0
  | _ => 0

abbrev hbmTy0_0 (i : Nat) : BufTy := match i % 128 with
  | 0 => ⟨S1x8192x1024, .f32⟩
  | 1 => ⟨S1x6144, .f32⟩
  | 2 => ⟨S1x1024, .f32⟩
  | 3 => ⟨S1x1024, .f32⟩
  | 4 => ⟨S1024, .f32⟩
  | 5 => ⟨S1x1024x7168, .f32⟩
  | 6 => ⟨S1x3x1024, .f32⟩
  | 7 => ⟨S1x1024x1024, .f32⟩
  | 8 => ⟨S1x31x1024, .f32⟩
  | 9 => ⟨S1x1024, .f32⟩
  | 10 => ⟨S1x1024, .f32⟩
  | 11 => ⟨S1x1024, .f32⟩
  | 12 => ⟨S1x1024x1024, .f32⟩
  | 13 => ⟨S1x1024x1024, .f32⟩
  | 14 => ⟨S1x1x6144, .f32⟩
  | 15 => ⟨S1x1x1024, .f32⟩
  | 16 => ⟨S1x1x1024, .f32⟩
  | 17 => ⟨S1x1x1024, .f32⟩
  | 18 => ⟨S1x1x1024, .f32⟩
  | 19 => ⟨S1x1x1024, .f32⟩
  | 20 => ⟨S1x1x1024, .f32⟩
  | 21 => ⟨S1024, .f32⟩
  | 22 => ⟨S1x8192x1024, .f32⟩
  | 23 => ⟨S_, .f32⟩
  | 24 => ⟨S1x8192, .f32⟩
  | 25 => ⟨S1x8192x1, .f32⟩
  | 26 => ⟨S_, .f32⟩
  | 27 => ⟨S1x8192x1, .f32⟩
  | 28 => ⟨S1x8192x1, .f32⟩
  | 29 => ⟨S_, .f32⟩
  | 30 => ⟨S1x8192x1, .f32⟩
  | 31 => ⟨S1x8192x1, .f32⟩
  | 32 => ⟨S1x8192x1, .f32⟩
  | 33 => ⟨S1x8192x1024, .f32⟩
  | 34 => ⟨S1x8192x1024, .f32⟩
  | 35 => ⟨S1x1x1024, .f32⟩
  | 36 => ⟨S1x8192x1024, .f32⟩
  | 37 => ⟨S1x8192x1024, .f32⟩
  | 38 => ⟨S_, .f32⟩
  | 39 => ⟨S1x1x1024, .f32⟩
  | 40 => ⟨S1x1x1024, .f32⟩
  | 41 => ⟨S1x8192x1024, .f32⟩
  | 42 => ⟨S1x8192x1024, .f32⟩
  | 43 => ⟨S1x8192x1024, .f32⟩
  | 44 => ⟨S1x8192x1024, .f32⟩
  | 45 => ⟨S1024x7168, .f32⟩
  | 46 => ⟨S1x8192x7168, .f32⟩
  | 47 => ⟨S1x8192x1024, .f32⟩
  | 48 => ⟨S1x8192x1024, .f32⟩
  | 49 => ⟨S1x8192x1024, .f32⟩
  | 50 => ⟨S1x8192x1024, .f32⟩
  | 51 => ⟨S1x8192x1024, .f32⟩
  | 52 => ⟨S1x8192x1024, .f32⟩
  | 53 => ⟨S1x8192x1024, .f32⟩
  | 54 => ⟨S1x8192x1024, .f32⟩
  | 55 => ⟨S3x1024, .f32⟩
  | 56 => ⟨S_, .f32⟩
  | 57 => ⟨S1x2x1024, .f32⟩
  | 58 => ⟨S1x8194x1024, .f32⟩
  | 59 => ⟨S1x8192x1024, .f32⟩
  | 60 => ⟨S1x1024, .f32⟩
  | 61 => ⟨S1024, .f32⟩
  | 62 => ⟨S1x1x1024, .f32⟩
  | 63 => ⟨S1x8192x1024, .f32⟩
  | 64 => ⟨S1x8192x1024, .f32⟩
  | 65 => ⟨S_, .f32⟩
  | 66 => ⟨S1x8192x1024, .f32⟩
  | 67 => ⟨S1x8192x1024, .f32⟩
  | 68 => ⟨S1x8192x1024, .f32⟩
  | 69 => ⟨S1x1024, .f32⟩
  | 70 => ⟨S1024, .f32⟩
  | 71 => ⟨S1x1x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x1024, .f32⟩
  | 77 => ⟨S1024, .f32⟩
  | 78 => ⟨S1x1x1024, .f32⟩
  | 79 => ⟨S1x8192x1024, .f32⟩
  | 80 => ⟨S1x8192x1024, .f32⟩
  | 81 => ⟨S1x8192x1024, .f32⟩
  | 82 => ⟨S1x8192x1024, .f32⟩
  | 83 => ⟨S1024x1024, .f32⟩
  | 84 => ⟨S1x8192x1024, .f32⟩
  | 85 => ⟨S1x8192x1024, .f32⟩
  | 86 => ⟨S1x8192x1024, .f32⟩
  | 87 => ⟨S_, .f32⟩
  | 88 => ⟨S1x8192x1024, .f32⟩
  | 89 => ⟨S1x8192x1024, .f32⟩
  | 90 => ⟨S_, .f32⟩
  | 91 => ⟨S1x8192x1024, .f32⟩
  | 92 => ⟨S1x8192x1024, .f32⟩
  | 93 => ⟨S1x8192x1024, .f32⟩
  | 94 => ⟨S31x1024, .f32⟩
  | 95 => ⟨S_, .f32⟩
  | 96 => ⟨S1x30x1024, .f32⟩
  | 97 => ⟨S1x8222x1024, .f32⟩
  | 98 => ⟨S1x8192x1024, .f32⟩
  | 99 => ⟨S1x1024, .f32⟩
  | 100 => ⟨S1024, .f32⟩
  | 101 => ⟨S1x1x1024, .f32⟩
  | 102 => ⟨S1x8192x1024, .f32⟩
  | 103 => ⟨S1x8192x1024, .f32⟩
  | 104 => ⟨S_, .f32⟩
  | 105 => ⟨S1x8192x1024, .f32⟩
  | 106 => ⟨S1x8192x1024, .f32⟩
  | 107 => ⟨S1x8192x1024, .f32⟩
  | 108 => ⟨S1x1024, .f32⟩
  | 109 => ⟨S1024, .f32⟩
  | 110 => ⟨S1x1x1024, .f32⟩
  | 111 => ⟨S1x8192x1024, .f32⟩
  | 112 => ⟨S1x8192x1024, .f32⟩
  | 113 => ⟨S1x8192x1024, .f32⟩
  | 114 => ⟨S1x8192x1024, .f32⟩
  | 115 => ⟨S1x1024, .f32⟩
  | 116 => ⟨S1024, .f32⟩
  | 117 => ⟨S1x1x1024, .f32⟩
  | 118 => ⟨S1x8192x1024, .f32⟩
  | 119 => ⟨S1x8192x1024, .f32⟩
  | 120 => ⟨S1x8192x1024, .f32⟩
  | 121 => ⟨S1x8192x1024, .f32⟩
  | 122 => ⟨S1x1024, .f32⟩
  | 123 => ⟨S1024, .f32⟩
  | 124 => ⟨S1x1x1024, .f32⟩
  | 125 => ⟨S1x8192x1024, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x1024, .f32⟩
  | 2 => ⟨S1024, .f32⟩
  | 3 => ⟨S1x1x1024, .f32⟩
  | 4 => ⟨S1x8192x1024, .f32⟩
  | 5 => ⟨S1x8192x1024, .f32⟩
  | 6 => ⟨S1x8192x1024, .f32⟩
  | 7 => ⟨S1x8192x1024, .f32⟩
  | 8 => ⟨S1x1024, .f32⟩
  | 9 => ⟨S1024, .f32⟩
  | 10 => ⟨S1x1x1024, .f32⟩
  | 11 => ⟨S1x8192x1024, .f32⟩
  | 12 => ⟨S1x8192x1024, .f32⟩
  | 13 => ⟨S1x8192x1024, .f32⟩
  | 14 => ⟨S1x8192x1024, .f32⟩
  | 15 => ⟨S1x1024, .f32⟩
  | 16 => ⟨S1024, .f32⟩
  | 17 => ⟨S1x1x1024, .f32⟩
  | 18 => ⟨S1x8192x1024, .f32⟩
  | 19 => ⟨S1x8192x1024, .f32⟩
  | 20 => ⟨S1x8192x1024, .f32⟩
  | 21 => ⟨S1x8192x1024, .f32⟩
  | 22 => ⟨S1x1024, .f32⟩
  | 23 => ⟨S1024, .f32⟩
  | 24 => ⟨S1x1x1024, .f32⟩
  | 25 => ⟨S1x8192x1024, .f32⟩
  | 26 => ⟨S1x8192x1024, .f32⟩
  | 27 => ⟨S1x8192x1024, .f32⟩
  | 28 => ⟨S1x8192x1024, .f32⟩
  | 29 => ⟨S1x1024, .f32⟩
  | 30 => ⟨S1024, .f32⟩
  | 31 => ⟨S1x1x1024, .f32⟩
  | 32 => ⟨S1x8192x1024, .f32⟩
  | 33 => ⟨S1x8192x1024, .f32⟩
  | 34 => ⟨S1x8192x1024, .f32⟩
  | 35 => ⟨S1x8192x1024, .f32⟩
  | 36 => ⟨S1x1024, .f32⟩
  | 37 => ⟨S1024, .f32⟩
  | 38 => ⟨S1x1x1024, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x1024, .f32⟩
  | 44 => ⟨S1024, .f32⟩
  | 45 => ⟨S1x1x1024, .f32⟩
  | 46 => ⟨S1x8192x1024, .f32⟩
  | 47 => ⟨S1x8192x1024, .f32⟩
  | 48 => ⟨S1x8192x1024, .f32⟩
  | 49 => ⟨S1x8192x1024, .f32⟩
  | 50 => ⟨S1x1024, .f32⟩
  | 51 => ⟨S1024, .f32⟩
  | 52 => ⟨S1x1x1024, .f32⟩
  | 53 => ⟨S1x8192x1024, .f32⟩
  | 54 => ⟨S1x8192x1024, .f32⟩
  | 55 => ⟨S1x8192x1024, .f32⟩
  | 56 => ⟨S1x8192x1024, .f32⟩
  | 57 => ⟨S1x1024, .f32⟩
  | 58 => ⟨S1024, .f32⟩
  | 59 => ⟨S1x1x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S1x1024, .f32⟩
  | 65 => ⟨S1024, .f32⟩
  | 66 => ⟨S1x1x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x1024, .f32⟩
  | 72 => ⟨S1024, .f32⟩
  | 73 => ⟨S1x1x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x1024, .f32⟩
  | 79 => ⟨S1024, .f32⟩
  | 80 => ⟨S1x1x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S1x1024, .f32⟩
  | 86 => ⟨S1024, .f32⟩
  | 87 => ⟨S1x1x1024, .f32⟩
  | 88 => ⟨S1x8192x1024, .f32⟩
  | 89 => ⟨S1x8192x1024, .f32⟩
  | 90 => ⟨S1x8192x1024, .f32⟩
  | 91 => ⟨S1x8192x1024, .f32⟩
  | 92 => ⟨S1x1024, .f32⟩
  | 93 => ⟨S1024, .f32⟩
  | 94 => ⟨S1x1x1024, .f32⟩
  | 95 => ⟨S1x8192x1024, .f32⟩
  | 96 => ⟨S1x8192x1024, .f32⟩
  | 97 => ⟨S1x8192x1024, .f32⟩
  | 98 => ⟨S1x8192x1024, .f32⟩
  | 99 => ⟨S1x1024, .f32⟩
  | 100 => ⟨S1024, .f32⟩
  | 101 => ⟨S1x1x1024, .f32⟩
  | 102 => ⟨S1x8192x1024, .f32⟩
  | 103 => ⟨S1x8192x1024, .f32⟩
  | 104 => ⟨S1x8192x1024, .f32⟩
  | 105 => ⟨S1x8192x1024, .f32⟩
  | 106 => ⟨S1x1024, .f32⟩
  | 107 => ⟨S1024, .f32⟩
  | 108 => ⟨S1x1x1024, .f32⟩
  | 109 => ⟨S1x8192x1024, .f32⟩
  | 110 => ⟨S1x8192x1024, .f32⟩
  | 111 => ⟨S1x8192x1024, .f32⟩
  | 112 => ⟨S1x8192x1024, .f32⟩
  | 113 => ⟨S1x1024, .f32⟩
  | 114 => ⟨S1024, .f32⟩
  | 115 => ⟨S1x1x1024, .f32⟩
  | 116 => ⟨S1x8192x1024, .f32⟩
  | 117 => ⟨S1x8192x1024, .f32⟩
  | 118 => ⟨S1x8192x1024, .f32⟩
  | 119 => ⟨S1x8192x1024, .f32⟩
  | 120 => ⟨S1x1024, .f32⟩
  | 121 => ⟨S1024, .f32⟩
  | 122 => ⟨S1x1x1024, .f32⟩
  | 123 => ⟨S1x8192x1024, .f32⟩
  | 124 => ⟨S1x8192x1024, .f32⟩
  | 125 => ⟨S1x8192x1024, .f32⟩
  | 126 => ⟨S1x8192x1024, .f32⟩
  | 127 => ⟨S1x1024, .f32⟩
  | _ => ⟨S1x8192x1024, .f32⟩

abbrev hbmTy0_2 (i : Nat) : BufTy := match i % 128 with
  | 0 => ⟨S1024, .f32⟩
  | 1 => ⟨S1x1x1024, .f32⟩
  | 2 => ⟨S1x8192x1024, .f32⟩
  | 3 => ⟨S1x8192x1024, .f32⟩
  | 4 => ⟨S1x8192x1024, .f32⟩
  | 5 => ⟨S1x8192x1024, .f32⟩
  | 6 => ⟨S1x1024, .f32⟩
  | 7 => ⟨S1024, .f32⟩
  | 8 => ⟨S1x1x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x1024, .f32⟩
  | 14 => ⟨S1024, .f32⟩
  | 15 => ⟨S1x1x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x1024, .f32⟩
  | 21 => ⟨S1024, .f32⟩
  | 22 => ⟨S1x1x1024, .f32⟩
  | 23 => ⟨S1x8192x1024, .f32⟩
  | 24 => ⟨S1x8192x1024, .f32⟩
  | 25 => ⟨S1x8192x1024, .f32⟩
  | 26 => ⟨S1x8192x1024, .f32⟩
  | 27 => ⟨S1x1024, .f32⟩
  | 28 => ⟨S1024, .f32⟩
  | 29 => ⟨S1x1x1024, .f32⟩
  | 30 => ⟨S1x8192x1024, .f32⟩
  | 31 => ⟨S1x8192x1024, .f32⟩
  | 32 => ⟨S1x8192x1024, .f32⟩
  | 33 => ⟨S1x8192x1024, .f32⟩
  | 34 => ⟨S1x1024, .f32⟩
  | 35 => ⟨S1024, .f32⟩
  | 36 => ⟨S1x1x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S1x1024, .f32⟩
  | 42 => ⟨S1024, .f32⟩
  | 43 => ⟨S1x1x1024, .f32⟩
  | 44 => ⟨S1x8192x1024, .f32⟩
  | 45 => ⟨S1x8192x1024, .f32⟩
  | 46 => ⟨S1x8192x1024, .f32⟩
  | 47 => ⟨S1x8192x1024, .f32⟩
  | 48 => ⟨S1x1024, .f32⟩
  | 49 => ⟨S1024, .f32⟩
  | 50 => ⟨S1x1x1024, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x1024, .f32⟩
  | 56 => ⟨S1024, .f32⟩
  | 57 => ⟨S1x1x1024, .f32⟩
  | 58 => ⟨S1x8192x1024, .f32⟩
  | 59 => ⟨S1x8192x1024, .f32⟩
  | 60 => ⟨S1x8192x1024, .f32⟩
  | 61 => ⟨S1024, .f32⟩
  | 62 => ⟨S1x1x1024, .f32⟩
  | 63 => ⟨S1x8192x1024, .f32⟩
  | 64 => ⟨S1x8192x1024, .f32⟩
  | 65 => ⟨S_, .f32⟩
  | 66 => ⟨S1x8192, .f32⟩
  | 67 => ⟨S1x8192x1, .f32⟩
  | 68 => ⟨S_, .f32⟩
  | 69 => ⟨S1x8192x1, .f32⟩
  | 70 => ⟨S1x8192x1, .f32⟩
  | 71 => ⟨S1x8192x1024, .f32⟩
  | 72 => ⟨S1x8192x1024, .f32⟩
  | 73 => ⟨S1x8192x1024, .f32⟩
  | 74 => ⟨S_, .f32⟩
  | 75 => ⟨S1x8192, .f32⟩
  | 76 => ⟨S1x8192x1, .f32⟩
  | 77 => ⟨S_, .f32⟩
  | 78 => ⟨S1x8192x1, .f32⟩
  | 79 => ⟨S1x8192x1, .f32⟩
  | 80 => ⟨S_, .f32⟩
  | 81 => ⟨S1x8192x1, .f32⟩
  | 82 => ⟨S1x8192x1, .f32⟩
  | 83 => ⟨S1x8192x1, .f32⟩
  | 84 => ⟨S1x8192x1024, .f32⟩
  | 85 => ⟨S1x8192x1024, .f32⟩
  | 86 => ⟨S1024, .f32⟩
  | 87 => ⟨S1x1x1024, .f32⟩
  | 88 => ⟨S1x8192x1024, .f32⟩
  | 89 => ⟨S1x8192x1024, .f32⟩
  | 90 => ⟨S1024, .f32⟩
  | 91 => ⟨S1x1x1024, .f32⟩
  | 92 => ⟨S1x8192x1024, .f32⟩
  | 93 => ⟨S1x8192x1024, .f32⟩
  | 94 => ⟨S1x8192x1024, .f32⟩
  | 95 => ⟨S1x8192x1024, .f32⟩
  | 96 => ⟨S_, .f32⟩
  | 97 => ⟨S1x8192x1024, .f32⟩
  | 98 => ⟨S1x8192x1024, .f32⟩
  | 99 => ⟨S_, .f32⟩
  | 100 => ⟨S1x8192x1024, .f32⟩
  | 101 => ⟨S1x8192x1024, .f32⟩
  | 102 => ⟨S1x8192x1024, .f32⟩
  | 103 => ⟨S1024x1024, .f32⟩
  | 104 => ⟨S1x8192x1024, .f32⟩
  | 105 => ⟨S1x8192x1024, .f32⟩
  | 106 => ⟨S1x8192x1024, .f32⟩
  | 107 => ⟨S_, .f32⟩
  | 108 => ⟨S1x8192x1024, .f32⟩
  | 109 => ⟨S1x8192x1024, .f32⟩
  | 110 => ⟨S_, .f32⟩
  | 111 => ⟨S1x8192x1024, .f32⟩
  | 112 => ⟨S1x8192x1024, .f32⟩
  | 113 => ⟨S1x8192x1024, .f32⟩
  | 114 => ⟨S1x8192x1024, .f32⟩
  | 115 => ⟨S_, .f32⟩
  | 116 => ⟨S1x8192x1024, .f32⟩
  | 117 => ⟨S1x8192x1024, .f32⟩
  | 118 => ⟨S_, .f32⟩
  | 119 => ⟨S1x8192x1024, .f32⟩
  | 120 => ⟨S1x8192x1024, .f32⟩
  | 121 => ⟨S1x8192x1024, .f32⟩
  | 122 => ⟨S1x8192x1024, .f32⟩
  | 123 => ⟨S1x8192x1024, .f32⟩
  | 124 => ⟨S1024x1024, .f32⟩
  | 125 => ⟨S1x8192x1024, .f32⟩
  | 126 => ⟨S1x8192x1024, .f32⟩
  | 127 => ⟨S1x8192x1024, .f32⟩
  | _ => ⟨S1x8192x1024, .f32⟩

abbrev hbmTy0_3 (i : Nat) : BufTy := match i % 128 with
  | 0 => ⟨S1x8192x1024, .f32⟩
  | 1 => ⟨S8192x1024, .f32⟩
  | 2 => ⟨S8192x1024, .f32⟩
  | 3 => ⟨S8192x1024, .bf16⟩
  | 4 => ⟨S8192x1024, .f32⟩
  | 5 => ⟨S8192x1024, .bf16⟩
  | 6 => ⟨S8192x1024, .f32⟩
  | 7 => ⟨S8192x1024, .bf16⟩
  | 8 => ⟨S8192x1024, .f32⟩
  | 9 => ⟨S8192x1024, .bf16⟩
  | 10 => ⟨S8192x1024, .f32⟩
  | 11 => ⟨S8192x1024, .bf16⟩
  | 12 => ⟨S8192x1024, .f32⟩
  | 13 => ⟨S8192x1024, .bf16⟩
  | 14 => ⟨S8192x1024, .f32⟩
  | 15 => ⟨S8192x1024, .bf16⟩
  | 16 => ⟨S8192x1024, .f32⟩
  | 17 => ⟨S8192x1024, .bf16⟩
  | 18 => ⟨S3x8192x1024, .f32⟩
  | 19 => ⟨S3x8192x1024, .bf16⟩
  | 20 => ⟨S8192x1, .f32⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_5 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_8 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_cst_9 : Ref sig .tc := ⟨.hbm, 321, rfl⟩
abbrev main_v297 : Ref sig .tc := ⟨.hbm, 322, rfl⟩
abbrev main_v298 : Ref sig .tc := ⟨.hbm, 323, rfl⟩
abbrev main_cst_10 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_cst_11 : Ref sig .tc := ⟨.hbm, 330, rfl⟩
abbrev main_v304 : Ref sig .tc := ⟨.hbm, 331, rfl⟩
abbrev main_v305 : Ref sig .tc := ⟨.hbm, 332, rfl⟩
abbrev main_cst_12 : Ref sig .tc := ⟨.hbm, 333, rfl⟩
abbrev main_v306 : Ref sig .tc := ⟨.hbm, 334, rfl⟩
abbrev main_v307 : Ref sig .tc := ⟨.hbm, 335, rfl⟩
abbrev main_cst_13 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_call0_v0 : Ref sig .tc := ⟨.hbm, 350, rfl⟩
abbrev main_call0_v1 : Ref sig .tc := ⟨.hbm, 351, rfl⟩
abbrev main_call0_cst : Ref sig .tc := ⟨.hbm, 352, rfl⟩
abbrev main_call0_v2 : Ref sig .tc := ⟨.hbm, 353, rfl⟩
abbrev main_call0_v3 : Ref sig .tc := ⟨.hbm, 354, rfl⟩
abbrev main_call0_cst_0 : Ref sig .tc := ⟨.hbm, 355, rfl⟩
abbrev main_call0_v4 : Ref sig .tc := ⟨.hbm, 356, rfl⟩
abbrev main_call0_v5 : Ref sig .tc := ⟨.hbm, 357, rfl⟩
abbrev main_v321 : Ref sig .tc := ⟨.hbm, 358, rfl⟩
abbrev main_v322 : Ref sig .tc := ⟨.hbm, 359, rfl⟩
abbrev main_v323 : Ref sig .tc := ⟨.hbm, 360, rfl⟩
abbrev main_v324 : Ref sig .tc := ⟨.hbm, 361, rfl⟩
abbrev main_v325 : Ref sig .tc := ⟨.hbm, 362, rfl⟩
abbrev main_cst_14 : Ref sig .tc := ⟨.hbm, 363, rfl⟩
abbrev main_v326 : Ref sig .tc := ⟨.hbm, 364, rfl⟩
abbrev main_v327 : Ref sig .tc := ⟨.hbm, 365, rfl⟩
abbrev main_cst_15 : Ref sig .tc := ⟨.hbm, 366, rfl⟩
abbrev main_v328 : Ref sig .tc := ⟨.hbm, 367, rfl⟩
abbrev main_v329 : Ref sig .tc := ⟨.hbm, 368, rfl⟩
abbrev main_v330 : Ref sig .tc := ⟨.hbm, 369, rfl⟩
abbrev main_v331 : Ref sig .tc := ⟨.hbm, 370, rfl⟩
abbrev main_cst_16 : Ref sig .tc := ⟨.hbm, 371, rfl⟩
abbrev main_v332 : Ref sig .tc := ⟨.hbm, 372, rfl⟩
abbrev main_v333 : Ref sig .tc := ⟨.hbm, 373, rfl⟩
abbrev main_cst_17 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_v346 : Ref sig .tc := ⟨.hbm, 387, rfl⟩
abbrev main_v347 : Ref sig .tc := ⟨.hbm, 388, rfl⟩
abbrev main_v348 : Ref sig .tc := ⟨.hbm, 389, rfl⟩
abbrev main_v349 : Ref sig .tc := ⟨.hbm, 390, rfl⟩
abbrev main_v350 : Ref sig .tc := ⟨.hbm, 391, rfl⟩
abbrev main_v351 : Ref sig .tc := ⟨.hbm, 392, rfl⟩
abbrev main_v352 : Ref sig .tc := ⟨.hbm, 393, rfl⟩
abbrev main_v353 : Ref sig .tc := ⟨.hbm, 394, rfl⟩
abbrev main_v354 : Ref sig .tc := ⟨.hbm, 395, rfl⟩
abbrev main_v355 : Ref sig .tc := ⟨.hbm, 396, rfl⟩
abbrev main_v356 : Ref sig .tc := ⟨.hbm, 397, rfl⟩
abbrev main_v357 : Ref sig .tc := ⟨.hbm, 398, rfl⟩
abbrev main_v358 : Ref sig .tc := ⟨.hbm, 399, rfl⟩
abbrev main_v359 : Ref sig .tc := ⟨.hbm, 400, rfl⟩
abbrev main_v360 : Ref sig .tc := ⟨.hbm, 401, rfl⟩
abbrev main_v361 : Ref sig .tc := ⟨.hbm, 402, rfl⟩
abbrev main_v362 : Ref sig .tc := ⟨.hbm, 403, rfl⟩
abbrev main_v363 : Ref sig .tc := ⟨.hbm, 404, rfl⟩

abbrev nD : Nat := 1
abbrev τ : Topo := Topo.v7x

variable {F : FTy → Type} [FloatOps F]
-- ==== Kernel5.lean ====
abbrev S8192x1024 : Shape := ⟨2, ![8192, 1024]⟩
abbrev S8192x5632 : Shape := ⟨2, ![8192, 5632]⟩
abbrev S4x1408x1024 : Shape := ⟨3, ![4, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S4x1408x1024 : Shape := ⟨3, ![4, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S4x1408x1024, .f32⟩
  | .hbm, ⟨11, _⟩ => ⟨S4x1408x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩
abbrev S8x512 : Shape := ⟨2, ![8, 512]⟩
abbrev S512x768 : Shape := ⟨2, ![512, 768]⟩

abbrev nBuf : Space → Nat
  | .hbm => 18
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S1024x768, .f32⟩
  | .local _ .vmem, ⟨0, _⟩ => ⟨S8x512, .f32⟩
  | .local _ .vmem, ⟨1, _⟩ => ⟨S8x512, .f32⟩
  | .local _ .vmem, ⟨2, _⟩ => ⟨S8x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩
abbrev S768x1024 : Shape := ⟨2, ![768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.Lib.Lift.lean ====
/-
  Arrays of real numbers inside the extended reals.

  `up1 X`, `up2 X`, `up3 X` are the arrays of rank one, two and three whose elements are the reals `X` gives at the
  coordinates, the coordinates written as natural numbers. Each vector operation on such arrays is such an array again:
  one lemma per operation, so a chain of operations reads as one formula over the reals.
-/
module

public import Idealize.ShloMosaic.Lib.Pipeline.Value
public import Idealize.ShloMosaic.Lib.ValueIdx
public import Idealize.ShloMosaic.Lib.ValueIdxCore
public import Idealize.ShloMosaic.Lib.MatmulPlain
public import Idealize.ShloMosaic.Lib.IdealHost
public import Idealize.ShloMosaic.PureOps.Ideal.Laws
public import Idealize.ShloMosaic.Lib.Pipeline.ValueKit
public import Idealize.ShloMosaic.Lib.Pipeline.ReadBack
public import Idealize.ShloMosaic.Lib.Pipeline.CanonAppend

@[expose] public section

noncomputable section

open scoped BigOperators

namespace Cert.Lift

open Idealize.ShloMosaic Idealize.ShloMosaic.TcCoe Idealize.SL.Sem Idealize.ShloMosaic.ValueIdx

/-- A rank-one array of reals. -/
def up1 {a : ℕ} (X : ℕ → ℝ) : (⟨1, ![a]⟩ : Shape).Idx → EReal := fun i => ((X (i 0).val : ℝ) : EReal)
/-- A rank-two array of reals. -/
def up2 {a b : ℕ} (X : ℕ → ℕ → ℝ) : (⟨2, ![a, b]⟩ : Shape).Idx → EReal := fun i => ((X (i 0).val (i 1).val : ℝ) : EReal)
/-- A rank-three array of reals. -/
def up3 {a b c : ℕ} (X : ℕ → ℕ → ℕ → ℝ) : (⟨3, ![a, b, c]⟩ : Shape).Idx → EReal :=
  fun i => ((X (i 0).val (i 1).val (i 2).val : ℝ) : EReal)

/-- An extended real with finite absolute value is a real. -/
theorem coe_toReal_of {x : EReal} (h : x ≠ ⊤ ∧ x ≠ ⊥) : ((x.toReal : ℝ) : EReal) = x := EReal.coe_toReal h.1 h.2

theorem exists_up1 {a : ℕ} (x : (⟨1, ![a]⟩ : Shape).Idx → EReal) (h : ∀ i, x i ≠ ⊤ ∧ x i ≠ ⊥) : ∃ X, x = up1 X := by
  classical
  refine ⟨fun r => if hr : r < a then (x (ValueIdx.ix1 ⟨r, hr⟩)).toReal else 0, funext fun i => ?_⟩
  have h0 : (i 0).val < a := (i 0).isLt
  unfold up1
  dsimp only
  rw [dif_pos h0]
  rw [coe_toReal_of (h _)]
  exact congrArg x (ValueIdx.eq_ix1 i)

theorem exists_up2 {a b : ℕ} (x : (⟨2, ![a, b]⟩ : Shape).Idx → EReal) (h : ∀ i, x i ≠ ⊤ ∧ x i ≠ ⊥) : ∃ X, x = up2 X := by
  classical
  refine ⟨fun r c => if hr : r < a ∧ c < b then (x (ValueIdx.ix2 ⟨r, hr.1⟩ ⟨c, hr.2⟩)).toReal else 0, funext fun i => ?_⟩
  have h0 : (i 0).val < a ∧ (i 1).val < b := ⟨(i 0).isLt, (i 1).isLt⟩
  unfold up2
  dsimp only
  rw [dif_pos h0]
  rw [coe_toReal_of (h _)]
  exact congrArg x (ValueIdx.eq_ix2 i)

theorem exists_up3 {a b c : ℕ} (x : (⟨3, ![a, b, c]⟩ : Shape).Idx → EReal) (h : ∀ i, x i ≠ ⊤ ∧ x i ≠ ⊥) : ∃ X, x = up3 X := by
  classical
  refine ⟨fun r s t => if hr : r < a ∧ s < b ∧ t < c then (x (ValueIdx.ix3 ⟨r, hr.1⟩ ⟨s, hr.2.1⟩ ⟨t, hr.2.2⟩)).toReal else 0,
    funext fun i => ?_⟩
  have h0 : (i 0).val < a ∧ (i 1).val < b ∧ (i 2).val < c := ⟨(i 0).isLt, (i 1).isLt, (i 2).isLt⟩
  unfold up3
  dsimp only
  rw [dif_pos h0]
  rw [coe_toReal_of (h _)]
  exact congrArg x (ValueIdx.eq_ix3 i)

theorem up2_congr {a b : ℕ} {X Y : ℕ → ℕ → ℝ} (h : ∀ r c, r < a → c < b → X r c = Y r c) : (up2 X : (⟨2, ![a, b]⟩ : Shape).Idx → EReal) = up2 Y :=
  funext fun i => congrArg _ (h _ _ (i 0).isLt (i 1).isLt)

/-- The logistic function. -/
def sg (z : ℝ) : ℝ := (1 + Real.exp (-z))⁻¹

/-! ## Sums of reals -/

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_sum_fin (n : ℕ) (f : ℕ → ℝ) : (∑ k : Fin n, ((f k.val : ℝ) : EReal)) = ((∑ k ∈ Finset.range n, f k : ℝ) : EReal) := by
  rw [coe_sum, Finset.sum_range]

/-! ## Elementwise operations -/

section elementwise
variable {a b c : ℕ} {φ : FTy}

theorem mulf_up2 (X Y : ℕ → ℕ → ℝ) : mulf (F := Ideal) (φ := φ) (up2 X : FVec Ideal ⟨2, ![a, b]⟩ φ) (up2 Y) = up2 fun r c => X r c * Y r c :=
  funext fun _ => (EReal.coe_mul _ _).symm
theorem addf_up2 (X Y : ℕ → ℕ → ℝ) : addf (F := Ideal) (φ := φ) (up2 X : FVec Ideal ⟨2, ![a, b]⟩ φ) (up2 Y) = up2 fun r c => X r c + Y r c :=
  funext fun _ => (EReal.coe_add _ _).symm
theorem subf_up2 (X Y : ℕ → ℕ → ℝ) : subf (F := Ideal) (φ := φ) (up2 X : FVec Ideal ⟨2, ![a, b]⟩ φ) (up2 Y) = up2 fun r c => X r c - Y r c :=
  funext fun _ => (EReal.coe_sub _ _).symm
theorem truncf_up2 {ψ : FTy} (X : ℕ → ℕ → ℝ) (h : ψ.bits < φ.bits) :
    truncf (F := Ideal) ψ (up2 X : FVec Ideal ⟨2, ![a, b]⟩ φ) h = (up2 X : (⟨2, ![a, b]⟩ : Shape).Idx → EReal) := rfl
theorem extf_up2 {ψ : FTy} (X : ℕ → ℕ → ℝ) (h : φ.bits < ψ.bits) :
    extf (F := Ideal) ψ (up2 X : FVec Ideal ⟨2, ![a, b]⟩ φ) h = (up2 X : (⟨2, ![a, b]⟩ : Shape).Idx → EReal) := rfl
theorem broadcast_up2 (x : ℝ) : broadcast (⟨2, ![a, b]⟩ : Shape) ((x : ℝ) : EReal) = up2 fun _ _ => x := rfl
theorem divf_up2 (X Y : ℕ → ℕ → ℝ) (h : ∀ r c, Y r c ≠ 0) :
    divf (F := Ideal) (φ := φ) (up2 X : FVec Ideal ⟨2, ![a, b]⟩ φ) (up2 Y) = up2 fun r c => X r c / Y r c := by
  funext i
  rw [divf_apply]
  unfold up2
  dsimp only
  rw [Ideal.div_coe (h _ _), ← EReal.coe_mul, ← div_eq_mul_one_div]
theorem rsqrt_up2 (X : ℕ → ℕ → ℝ) (h : ∀ r c, 0 < X r c) :
    rsqrt (F := Ideal) (φ := φ) (up2 X : FVec Ideal ⟨2, ![a, b]⟩ φ) = up2 fun r c => (√(X r c))⁻¹ := by
  funext i
  refine (Ideal.rsqrt_coe _).trans ?_
  unfold up2
  rw [if_neg (not_lt.2 (h _ _).le), if_neg (h _ _).ne']
theorem logistic_up2 (X : ℕ → ℕ → ℝ) :
    logistic (F := Ideal) (φ := φ) (up2 X : FVec Ideal ⟨2, ![a, b]⟩ φ) = up2 fun r c => sg (X r c) :=
  funext fun _ => Ideal.logistic_coe _

end elementwise

/-! ## Layout -/

theorem broadcastTo_row {a b : ℕ} (X : ℕ → ℕ → ℝ) (h : (⟨2, ![1, b]⟩ : Shape).Broadcasts ⟨2, ![a, b]⟩) :
    broadcastTo ⟨2, ![a, b]⟩ (up2 X : (⟨2, ![1, b]⟩ : Shape).Idx → EReal) h = up2 fun _ c => X 0 c := by
  funext i
  rw [broadcastTo_apply _ h i (ValueIdx.ix2 ⟨0, Nat.one_pos⟩ (i 1))]
  · rfl
  · intro d
    match d with
    | ⟨0, _⟩ => rfl
    | ⟨1, _⟩ =>
      show (i 1).val = if b = 1 then 0 else (i 1).val
      split
      · have := (i 1).isLt
        have h2 : (i 1).val < b := (i 1).isLt
        omega
      · rfl

theorem broadcastTo_col {a b : ℕ} (X : ℕ → ℕ → ℝ) (h : (⟨2, ![a, 1]⟩ : Shape).Broadcasts ⟨2, ![a, b]⟩) :
    broadcastTo ⟨2, ![a, b]⟩ (up2 X : (⟨2, ![a, 1]⟩ : Shape).Idx → EReal) h = up2 fun r _ => X r 0 := by
  funext i
  rw [broadcastTo_apply _ h i (ValueIdx.ix2 (i 0) ⟨0, Nat.one_pos⟩)]
  · rfl
  · intro d
    match d with
    | ⟨0, _⟩ =>
      show (i 0).val = if a = 1 then 0 else (i 0).val
      split
      · have h2 : (i 0).val < a := (i 0).isLt
        omega
      · rfl
    | ⟨1, _⟩ => rfl

theorem shapeCast_row {b : ℕ} (X : ℕ → ℝ) (h : (⟨1, ![b]⟩ : Shape).ShapeCasts ⟨2, ![1, b]⟩) :
    shapeCast ⟨2, ![1, b]⟩ (up1 X : (⟨1, ![b]⟩ : Shape).Idx → EReal) h = up2 fun _ c => X c := by
  funext i
  rw [shapeCast_apply _ h i (ValueIdx.ix1 (i 1))]
  · rfl
  · rw [Shape.rowMajor_val_one, Shape.rowMajor_val_two]
    have h0 : (i 0).val < 1 := (i 0).isLt
    show (i 1).val = (i 0).val * b + (i 1).val
    rw [show (i 0).val = 0 by omega]; omega

theorem shapeCast_col {a : ℕ} (X : ℕ → ℝ) (h : (⟨1, ![a]⟩ : Shape).ShapeCasts ⟨2, ![a, 1]⟩) :
    shapeCast ⟨2, ![a, 1]⟩ (up1 X : (⟨1, ![a]⟩ : Shape).Idx → EReal) h = up2 fun r _ => X r := by
  funext i
  rw [shapeCast_apply _ h i (ValueIdx.ix1 (i 0))]
  · rfl
  · rw [Shape.rowMajor_val_one, Shape.rowMajor_val_two]
    have h1 : (i 1).val < 1 := (i 1).isLt
    show (i 0).val = (i 0).val * 1 + (i 1).val
    omega

/-- A block of a rank-two array read through a unit rectangle. -/
theorem ld_up2_f32 {m n a b o p : ℕ} (X : ℕ → ℕ → ℝ)
    (inb : ∀ d, (![o, p] : Fin 2 → ℕ) d + (![a, b] : Fin 2 → ℕ) d ≤ (⟨2, ![m, n]⟩ : Shape).size d) :
    View.ld (Val := Elt Ideal) (e' := .f32) (S := ⟨2, ![m, n]⟩) (up2 X) (Rect.unit ![o, p] ![a, b] inb)
      = (up2 fun r c => X (o + r) (p + c) : (⟨2, ![a, b]⟩ : Shape).Idx → EReal) := by
  funext i
  have h0 := Rect.idx_unit_val (s := ⟨2, ![m, n]⟩) ![o, p] ![a, b] inb i 0
  have h1 := Rect.idx_unit_val (s := ⟨2, ![m, n]⟩) ![o, p] ![a, b] inb i 1
  show ((X _ _ : ℝ) : EReal) = ((X _ _ : ℝ) : EReal)
  rw [h0, h1]
  rfl
/-- Row `o` of an array is the real row `g`; nothing is said of the other rows. -/
def RowIs {m n : ℕ} (x : (⟨2, ![m, n]⟩ : Shape).Idx → EReal) (o : ℕ) (g : ℕ → ℝ) : Prop := ∀ y, (y 0).val = o → x y = ((g (y 1).val : ℝ) : EReal)

theorem ld_row {m n o : ℕ} {x : (⟨2, ![m, n]⟩ : Shape).Idx → EReal} {P : ℕ → ℕ → ℝ} (hx : RowIs x o (P o))
    (inb : ∀ d, (![o, 0] : Fin 2 → ℕ) d + (![1, n] : Fin 2 → ℕ) d ≤ (⟨2, ![m, n]⟩ : Shape).size d) :
    View.ld (Val := Elt Ideal) (e' := .f32) (S := ⟨2, ![m, n]⟩) x (Rect.unit ![o, 0] ![1, n] inb)
      = (up2 fun r c => P (o + r) (0 + c) : (⟨2, ![1, n]⟩ : Shape).Idx → EReal) := by
  funext i
  have h0 := Rect.idx_unit_val (s := ⟨2, ![m, n]⟩) ![o, 0] ![1, n] inb i 0
  have h1 := Rect.idx_unit_val (s := ⟨2, ![m, n]⟩) ![o, 0] ![1, n] inb i 1
  have hi : (i 0).val < 1 := (i 0).isLt
  refine (hx _ (h0.trans (by show o + (i 0).val = o; omega))).trans ?_
  show ((P o _ : ℝ) : EReal) = ((P (o + (i 0).val) (0 + (i 1).val) : ℝ) : EReal)
  rw [h1, show o + (i 0).val = o by omega]
  rfl
theorem ld_up2_bf16 {m n a b o p : ℕ} (X : ℕ → ℕ → ℝ)
    (inb : ∀ d, (![o, p] : Fin 2 → ℕ) d + (![a, b] : Fin 2 → ℕ) d ≤ (⟨2, ![m, n]⟩ : Shape).size d) :
    View.ld (Val := Elt Ideal) (e' := .bf16) (S := ⟨2, ![m, n]⟩) (up2 X) (Rect.unit ![o, p] ![a, b] inb)
      = (up2 fun r c => X (o + r) (p + c) : (⟨2, ![a, b]⟩ : Shape).Idx → EReal) := by
  funext i
  have h0 := Rect.idx_unit_val (s := ⟨2, ![m, n]⟩) ![o, p] ![a, b] inb i 0
  have h1 := Rect.idx_unit_val (s := ⟨2, ![m, n]⟩) ![o, p] ![a, b] inb i 1
  show ((X _ _ : ℝ) : EReal) = ((X _ _ : ℝ) : EReal)
  rw [h0, h1]
  rfl

/-- A store over a buffer is read back where it stands, whatever came before. -/
theorem read_writes_on {sig : RefSig} {κ : Kind} {sp : Space} {s : Shape} {e : EltTy} {Val : EltTy → Type}
    (v : View sig κ sp s e) (f : v.ty.Contents Val) (G : s.Idx → Val e) : ∀ (L : List (View.Piece Val s e))
    (_ : ∀ p ∈ L, p.2 = View.ld G p.1) (y : s.Idx) (_ : ∃ p ∈ L, y ∈ p.1.set), v.read Val (v.writes Val f L) y = G y
  | [], _, _, h => by obtain ⟨_, hm, _⟩ := h; exact absurd hm List.not_mem_nil
  | p :: L, hL, y, h => by
    by_cases hy : y ∈ p.1.set
    · obtain ⟨r, w⟩ := p
      obtain ⟨x, rfl⟩ : ∃ x, r.emb x = y := r.exists_idx_of_mem hy
      rw [View.read_writes_cons_emb]
      exact congrFun (hL ⟨r, w⟩ (by simp)) x
    · have hy' : y ∉ Finset.univ.map p.1.emb := by rwa [Rect.map_emb_univ]
      rw [View.writes_cons, View.read_slice_write_of_not_mem p.1 _ _ _ hy']
      refine read_writes_on v f G L (fun q hq => hL q (List.mem_cons_of_mem _ hq)) y ?_
      obtain ⟨q, hm, hq⟩ := h
      rcases List.mem_cons.mp hm with rfl | hm
      · exact absurd hq hy
      · exact ⟨q, hm, hq⟩

/-- Where no store reaches the contents stay. -/
theorem read_writes_off {sig : RefSig} {κ : Kind} {sp : Space} {s : Shape} {e : EltTy} {Val : EltTy → Type}
    (v : View sig κ sp s e) (f : v.ty.Contents Val) : ∀ (L : List (View.Piece Val s e)) (y : s.Idx) (_ : ∀ p ∈ L, y ∉ p.1.set),
    v.read Val (v.writes Val f L) y = v.read Val f y
  | [], _, _ => rfl
  | p :: L, y, h => by
    have hy' : y ∉ Finset.univ.map p.1.emb := by rw [Rect.map_emb_univ]; exact h p (by simp)
    rw [View.writes_cons, View.read_slice_write_of_not_mem p.1 _ _ _ hy']
    exact read_writes_off v f L y (fun q hq => h q (List.mem_cons_of_mem _ hq))

/-- Stores that all restrict one array `G`, over contents that are `G` wherever no store reaches, leave `G`. -/
theorem read_writes_of_pieces {sig : RefSig} {κ : Kind} {sp : Space} {s : Shape} {e : EltTy} {Val : EltTy → Type}
    (v : View sig κ sp s e) (f : v.ty.Contents Val) (G : s.Idx → Val e) : ∀ (L : List (View.Piece Val s e))
    (_ : ∀ p ∈ L, p.2 = View.ld G p.1) (_ : ∀ y, (∀ p ∈ L, y ∉ p.1.set) → v.read Val f y = G y), v.read Val (v.writes Val f L) = G
  | L, hL, hr => by
    funext y
    by_cases hc : ∃ q ∈ L, y ∈ q.1.set
    · exact read_writes_on v f G L hL y hc
    · have hn : ∀ q ∈ L, y ∉ q.1.set := fun q hq hyq => hc ⟨q, hq, hyq⟩
      rw [read_writes_off v f L y hn]
      exact hr y hn

/-- The same for stores that cover the buffer. -/
theorem canon_of_pieces {s : Shape} {e : EltTy} {Val : EltTy → Type} [∀ e, Nonempty (Val e)] (G : s.Idx → Val e) (L : List (View.Piece Val s e))
    (hL : ∀ p ∈ L, p.2 = View.ld G p.1) (hc : ∀ y, ∃ p ∈ L, y ∈ p.1.set) : View.canon L = G :=
  funext fun y => View.canon_apply_of_pieces G L (fun p hp x => congrFun (hL p hp) x) y (hc y)

/-- Where none of the later stores reaches, the earlier ones show. -/
theorem canon_append_off {s : Shape} {e : EltTy} {Val : EltTy → Type} [∀ e, Nonempty (Val e)] (Q : List (View.Piece Val s e)) :
    ∀ (L : List (View.Piece Val s e)) (y : s.Idx) (_ : ∀ p ∈ L, y ∉ p.1.set), View.canon (L ++ Q) y = View.canon Q y
  | [], _, _ => rfl
  | p :: L, y, h => by
    rw [List.cons_append, View.canon_cons_of_not_mem _ _ (h p (by simp))]
    exact canon_append_off Q L y (fun q hq => h q (List.mem_cons_of_mem _ hq))

/-- Offsets that are all zero. -/
theorem hz : (![0, 0] : Fin 2 → ℕ) = fun _ => 0 := funext fun a => by fin_cases a <;> rfl

/-- An index outside row `o` has another row coordinate. -/
theorem mem_row {A B o : ℕ} {inb : ∀ d, (![o, 0] : Fin 2 → ℕ) d + (![1, B] : Fin 2 → ℕ) d ≤ (⟨2, ![A, B]⟩ : Shape).size d}
    {y : (⟨2, ![A, B]⟩ : Shape).Idx} (h : y ∉ (Rect.unit (s := ⟨2, ![A, B]⟩) ![o, 0] ![1, B] inb).set) : (y 0).val ≠ o := by
  intro e
  refine h (Rect.mem_set_unit.2 fun a => ?_)
  match a with
  | ⟨0, _⟩ => exact ⟨by show o ≤ (y 0).val; omega, by show (y 0).val < o + 1; omega⟩
  | ⟨1, _⟩ => exact ⟨Nat.zero_le _, by show (y 1).val < 0 + B; have : (y 1).val < B := (y 1).isLt; omega⟩

/-- Stores that all restrict one array `G`, over earlier stores that left `G` elsewhere. -/
theorem canon_over {s : Shape} {e : EltTy} {Val : EltTy → Type} [∀ e, Nonempty (Val e)] (G : s.Idx → Val e) (Q : List (View.Piece Val s e)) :
    ∀ (L : List (View.Piece Val s e)) (_ : ∀ p ∈ L, p.2 = View.ld G p.1) (_ : ∀ y, (∀ p ∈ L, y ∉ p.1.set) → View.canon Q y = G y),
      View.canon (L ++ Q) = G
  | [], _, hr => funext fun y => hr y (by simp)
  | p :: L, hL, hr => by
    funext y
    by_cases hy : y ∈ p.1.set
    · obtain ⟨r, w⟩ := p
      obtain ⟨x, rfl⟩ : ∃ x, r.emb x = y := r.exists_idx_of_mem hy
      rw [List.cons_append, View.canon_cons_emb]
      exact congrFun (hL ⟨r, w⟩ (by simp)) x
    · rw [List.cons_append, View.canon_cons_of_not_mem _ _ hy]
      by_cases hc : ∃ q ∈ L, y ∈ q.1.set
      · exact View.canon_append_of_pieces G Q L (fun q hq x => congrFun (hL q (List.mem_cons_of_mem _ hq)) x) y hc
      · have hn : ∀ q ∈ L, y ∉ q.1.set := fun q hq hyq => hc ⟨q, hq, hyq⟩
        rw [canon_append_off Q L y hn]
        exact hr y (fun q hq => by
          rcases List.mem_cons.mp hq with rfl | hq
          · exact hy
          · exact hn q hq)

/-- A load after a copy over the whole buffer reads what was copied. -/
theorem readCov_whole {sig : RefSig} {κ : Kind} {sp : Space} {s : Shape} {e : EltTy} {Val : EltTy → Type} [∀ e, Nonempty (Val e)]
    (v : View sig κ sp s e) (w : s.Idx → Val e) (L : List (View.Piece Val s e)) (r : Rect s) :
    v.readCov (⟨Rect.whole s, w⟩ :: L) r.toLoadRect = View.ld w r :=
  View.readCov_fill v _ w L r (fun _ => rfl)
theorem canon_whole {s : Shape} {e : EltTy} {Val : EltTy → Type} [∀ e, Nonempty (Val e)] (w : s.Idx → Val e) (L : List (View.Piece Val s e)) :
    View.canon (⟨Rect.whole s, w⟩ :: L) = w := View.canon_cons_unit_zero rfl _ _ _

/-! ## Products and sums -/

theorem matmul_plain_up2 {M K N : ℕ} {φ₁ φ₂ : FTy} (d : DotDims ⟨2, ![M, K]⟩ ⟨2, ![K, N]⟩ ⟨2, ![M, N]⟩) (hd : d = DotDims.plain M K N)
    (prec : Option ContractPrecision) (A B C : ℕ → ℕ → ℝ) :
    matmul (F := Ideal) (φ₁ := φ₁) (φ₂ := φ₂) d prec (up2 A : FVec Ideal ⟨2, ![M, K]⟩ φ₁) (up2 B : FVec Ideal ⟨2, ![K, N]⟩ φ₂) (up2 C)
      = up2 fun r c => C r c + ∑ k ∈ Finset.range K, A r k * B k c := by
  subst hd
  funext i
  rw [ValueIdx.eq_ix2 i]
  refine (Ideal.matmul_plain_apply prec _ _ _ _ _).trans ?_
  unfold up2
  rw [EReal.coe_add, ← coe_sum_fin]
  refine congrArg _ (Finset.sum_congr rfl fun k _ => ?_)
  exact (EReal.coe_mul _ _).symm

theorem matmul_transposed_up2 {M K N : ℕ} {φ₁ φ₂ : FTy} (d : DotDims ⟨2, ![M, K]⟩ ⟨2, ![N, K]⟩ ⟨2, ![M, N]⟩) (hd : d = DotDims.transposedRhs M K N)
    (prec : Option ContractPrecision) (A B C : ℕ → ℕ → ℝ) :
    matmul (F := Ideal) (φ₁ := φ₁) (φ₂ := φ₂) d prec (up2 A : FVec Ideal ⟨2, ![M, K]⟩ φ₁) (up2 B : FVec Ideal ⟨2, ![N, K]⟩ φ₂) (up2 C)
      = up2 fun r c => C r c + ∑ k ∈ Finset.range K, A r k * B c k := by
  subst hd
  funext i
  rw [ValueIdx.eq_ix2 i]
  refine (Ideal.matmul_transposedRhs_apply prec _ _ _ _ _).trans ?_
  unfold up2
  rw [EReal.coe_add, ← coe_sum_fin]
  refine congrArg _ (Finset.sum_congr rfl fun k _ => ?_)
  exact (EReal.coe_mul _ _).symm

theorem rowSum_up2 {a b : ℕ} {φ : FTy} (X : ℕ → ℕ → ℝ) (acc : BitVec φ.bits) (h : (⟨2, ![a, b]⟩ : Shape).Reduces [1] ⟨1, ![a]⟩)
    (hφ : FKind.Formats φ) (hacc : acc = FKind.add.neutral φ hφ) :
    multiReduction (F := Ideal) .add [1] ⟨1, ![a]⟩ (up2 X : FVec Ideal ⟨2, ![a, b]⟩ φ) acc h hφ hacc = up1 fun r => ∑ k ∈ Finset.range b, X r k := by
  funext i
  rw [Ideal.multiReduction_add_single]
  unfold up1
  rw [← coe_sum_fin]
  rfl

theorem colSum_up2 {a b : ℕ} {φ : FTy} (X : ℕ → ℕ → ℝ) (acc : BitVec φ.bits) (h : (⟨2, ![a, b]⟩ : Shape).Reduces [0] ⟨1, ![b]⟩)
    (hφ : FKind.Formats φ) (hacc : acc = FKind.add.neutral φ hφ) :
    multiReduction (F := Ideal) .add [0] ⟨1, ![b]⟩ (up2 X : FVec Ideal ⟨2, ![a, b]⟩ φ) acc h hφ hacc = up1 fun c => ∑ k ∈ Finset.range a, X k c := by
  funext i
  rw [Ideal.multiReduction_add_single]
  unfold up1
  rw [← coe_sum_fin]
  rfl

theorem rowSum {a b : ℕ} {φ : FTy} {axes : List (Fin 2)} (X : ℕ → ℕ → ℝ) (h : (⟨2, ![a, b]⟩ : Shape).Reduces axes ⟨1, ![a]⟩) (hax : axes = [1]) :
    FloatOps.reduceAdd (F := Ideal) (φ := φ) axes h (up2 X : FVec Ideal ⟨2, ![a, b]⟩ φ) = up1 fun r => ∑ k ∈ Finset.range b, X r k := by
  subst hax
  funext i
  refine (Ideal.reduceAdd_single h _ i).trans ?_
  unfold up1
  rw [← coe_sum_fin]
  rfl
theorem colSum {a b : ℕ} {φ : FTy} {axes : List (Fin 2)} (X : ℕ → ℕ → ℝ) (h : (⟨2, ![a, b]⟩ : Shape).Reduces axes ⟨1, ![b]⟩) (hax : axes = [0]) :
    FloatOps.reduceAdd (F := Ideal) (φ := φ) axes h (up2 X : FVec Ideal ⟨2, ![a, b]⟩ φ) = up1 fun c => ∑ k ∈ Finset.range a, X k c := by
  subst hax
  funext i
  refine (Ideal.reduceAdd_single h _ i).trans ?_
  unfold up1
  rw [← coe_sum_fin]
  rfl

/-! ## Constants -/

theorem zero_f32 : Ideal.ofBits .f32 0x00000000#32 = ((0 : ℝ) : EReal) := by rw [Ideal.ofBits_zero_f32]; rfl
theorem one_f32 : Ideal.ofBits .f32 0x3F800000#32 = ((1 : ℝ) : EReal) := by rw [Ideal.ofBits_one_f32]; rfl
theorem k1024_f32 : Ideal.ofBits .f32 0x44800000#32 = ((1024 : ℝ) : EReal) := by
  simp [Ideal.ofBits, Ideal.ieee, -EReal.coe_mul]; norm_num
/-- The epsilon of the root-mean-square norm. -/
def eps : ℝ := (Ideal.ofBits .f32 0x358637BD#32).toReal
theorem eps_spec : ∃ r : ℝ, 0 < r ∧ Ideal.ofBits .f32 0x358637BD#32 = ((r : ℝ) : EReal) := by
  refine ⟨_, ?_, by simp [Ideal.ofBits, Ideal.ieee, -EReal.coe_mul]; rfl⟩
  positivity
theorem eps_f32 : Ideal.ofBits .f32 0x358637BD#32 = ((eps : ℝ) : EReal) := by
  obtain ⟨r, _, h⟩ := eps_spec
  unfold eps; rw [h, EReal.toReal_coe]
theorem eps_pos : 0 < eps := by
  obtain ⟨r, hr, h⟩ := eps_spec
  unfold eps; rw [h, EReal.toReal_coe]; exact hr

theorem half_f32 : Ideal.ofBits .f32 0x3F000000#32 = ((1/2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem neg_half_f32 : Ideal.ofBits .f32 0xBF000000#32 = ((-(1/2) : ℝ) : EReal) := by
  simp [Ideal.ofBits, Ideal.ieee, -EReal.coe_mul]; norm_num

/-- A sum over axes of extent one: one element. -/
theorem reduce_unit {s t : Shape} {axes : List (Fin s.rank)} (h : s.ReducesTo axes t) (v : s.Idx → EReal) (init : EReal) (j : t.Idx)
    (k : s.Idx) (hk : h.drop k = j) (hu : ∀ i, h.drop i = j → i = k) : Ideal.hostReduceAdd h v init j = init + v k := by
  unfold Ideal.hostReduceAdd
  rw [show Finset.univ.filter (fun i => h.drop i = j) = {k} from Finset.ext fun i => by
    simp only [Finset.mem_filter, Finset.mem_univ, true_and, Finset.mem_singleton]
    exact ⟨hu i, fun e => e ▸ hk⟩, Finset.sum_singleton]

theorem div_real (x y : ℝ) (h : y ≠ 0) : Ideal.div (x : EReal) (y : EReal) = ((x / y : ℝ) : EReal) := by
  rw [Ideal.div_coe h, ← EReal.coe_mul, mul_one_div]

theorem constant_zero_up2 {a b : ℕ} : constant (F := Ideal) ⟨2, ![a, b]⟩ .f32 0x00000000#32 = (up2 fun _ _ => 0 : (⟨2, ![a, b]⟩ : Shape).Idx → EReal) :=
  funext fun _ => zero_f32
theorem scalar_zero : Scalar.ofBits (F := Ideal) .f32 0x00000000#32 = ((0 : ℝ) : EReal) := zero_f32
theorem scalar_one : Scalar.ofBits (F := Ideal) .f32 0x3F800000#32 = ((1 : ℝ) : EReal) := one_f32
theorem scalar_k1024 : Scalar.ofBits (F := Ideal) .f32 0x44800000#32 = ((1024 : ℝ) : EReal) := k1024_f32
theorem scalar_eps : Scalar.ofBits (F := Ideal) .f32 0x358637BD#32 = ((eps : ℝ) : EReal) := eps_f32

/-- The reciprocal root mean square of a row of 1024. -/
def rms (x : ℕ → ℝ) : ℝ := (√((∑ k ∈ Finset.range 1024, x k * x k) / 1024 + eps))⁻¹

theorem ms_pos (x : ℕ → ℝ) : 0 < (∑ k ∈ Finset.range 1024, x k * x k) / 1024 + eps :=
  add_pos_of_nonneg_of_pos (div_nonneg (Finset.sum_nonneg fun k _ => mul_self_nonneg _) (by norm_num)) eps_pos

/-- The derivative of the reciprocal root, in the root's third power. -/
theorem rms_cube (x : ℕ → ℝ) : rms x / ((∑ k ∈ Finset.range 1024, x k * x k) / 1024 + eps) = rms x * rms x * rms x := by
  have h := ms_pos x
  unfold rms
  rw [div_eq_mul_inv, mul_assoc]
  congr 1
  rw [← mul_inv, Real.mul_self_sqrt h.le]

end Cert.Lift
end
-- ==== Proof.Lib.HostLine.lean ====
/-
  Host lines before a launch, over the reals.
-/
module

public import proofs.«01_k».proof.Proof.Lib.Lift
public import Idealize.ShloMosaic.Lib.StableHlo.RunRead
public import Idealize.ShloMosaic.Lib.StackMember

@[expose] public section

noncomputable section
open scoped BigOperators
namespace Cert.Lift
open Idealize.ShloMosaic

theorem after_append'' {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- A plain product of two host arrays. -/
theorem hostDot_up2 {m n K : ℕ} (d : DotDims ⟨2, ![m, K]⟩ ⟨2, ![K, n]⟩ ⟨2, ![m, n]⟩) (X Y : ℕ → ℕ → ℝ) (hd : d = DotDims.plain m K n := by rfl) :
    Host.dotGeneral (F := Ideal) (φ₁ := .f32) (φ₂ := .f32) d none (up2 X) (up2 Y) = (up2 fun r c => ∑ k ∈ Finset.range K, X r k * Y k c) := by
  subst hd
  funext i
  rw [show i = ValueIdx.ix2 (i 0) (i 1) from ValueIdx.eq_ix2 i]
  refine (StackMember.dotGeneral_plain_apply _ _ _ _ _).trans ?_
  refine Eq.trans (Finset.sum_congr rfl fun k _ => ?_) (coe_sum_fin K fun k => _)
  exact (EReal.coe_mul _ _).symm

end Cert.Lift
end
end
-- ==== Proof.Bffn.Host.lean ====
/-
  The arrays the host hands the launch, one operation at a time, over the reals.
-/
module

public import proofs.«01_k».proof.Proof.Gen.KernelIdeal.Value
public import proofs.«01_k».proof.Proof.Lib.HostLine

@[expose] public section

set_option maxRecDepth 8192
noncomputable section
open scoped BigOperators
namespace Cert.Bffn.Host
open Cert.KernelIdeal Cert.KernelIdeal.Gen Idealize.ShloMosaic Idealize.ShloMosaic.TcCoe Idealize.SL.Sem Idealize.ShloMosaic.StableHlo Cert.Lift

/-- The arguments, as arrays of reals. -/
structure Args where
  main_arg0 : ℕ → ℕ → ℕ → ℝ
  main_arg1 : ℕ → ℕ → ℝ
  main_arg3 : ℕ → ℕ → ℝ
  main_arg8 : ℕ → ℕ → ℕ → ℝ
  main_arg9 : ℕ → ℕ → ℕ → ℝ
  main_arg10 : ℕ → ℕ → ℕ → ℝ

/-- The launch's arrays are these reals. -/
structure Holds (m : (ℓ : Loc nD τ sig) → Buf (Elt Ideal) ℓ) (c : Dev nD) (A : Args) : Prop where
  main_arg0 : m (c, Proc.devRef .tc Cert.KernelIdeal.main_arg0) = up3 A.main_arg0
  main_arg1 : m (c, Proc.devRef .tc Cert.KernelIdeal.main_arg1) = up2 A.main_arg1
  main_arg3 : m (c, Proc.devRef .tc Cert.KernelIdeal.main_arg3) = up2 A.main_arg3
  main_arg8 : m (c, Proc.devRef .tc Cert.KernelIdeal.main_arg8) = up3 A.main_arg8
  main_arg9 : m (c, Proc.devRef .tc Cert.KernelIdeal.main_arg9) = up3 A.main_arg9
  main_arg10 : m (c, Proc.devRef .tc Cert.KernelIdeal.main_arg10) = up3 A.main_arg10

variable (m : (ℓ : Loc nD τ sig) → Buf (Elt Ideal) ℓ) (c : Dev nD) {A : Args}

abbrev ops : List (HloOp τ sig (Elt Ideal)) := hostOps0

abbrev written : List (Ref sig .tc) := [Cert.KernelIdeal.main_v0, Cert.KernelIdeal.main_v1, Cert.KernelIdeal.main_cst, Cert.KernelIdeal.main_v2, Cert.KernelIdeal.main_v3, Cert.KernelIdeal.main_v4, Cert.KernelIdeal.main_cst_0, Cert.KernelIdeal.main_v5, Cert.KernelIdeal.main_v6, Cert.KernelIdeal.main_v7, Cert.KernelIdeal.main_v8, Cert.KernelIdeal.main_v9, Cert.KernelIdeal.main_v10, Cert.KernelIdeal.main_v11, Cert.KernelIdeal.main_v12, Cert.KernelIdeal.main_cst_1, Cert.KernelIdeal.main_v13, Cert.KernelIdeal.main_v14, Cert.KernelIdeal.main_cst_2, Cert.KernelIdeal.main_v15, Cert.KernelIdeal.main_v16, Cert.KernelIdeal.main_cst_3, Cert.KernelIdeal.main_v17, Cert.KernelIdeal.main_v18, Cert.KernelIdeal.main_v19, Cert.KernelIdeal.main_v20, Cert.KernelIdeal.main_v21, Cert.KernelIdeal.main_v22, Cert.KernelIdeal.main_v23, Cert.KernelIdeal.main_v24, Cert.KernelIdeal.main_cst_4, Cert.KernelIdeal.main_v25, Cert.KernelIdeal.main_v26, Cert.KernelIdeal.main_v27, Cert.KernelIdeal.main_v28, Cert.KernelIdeal.main_v29, Cert.KernelIdeal.main_v30, Cert.KernelIdeal.main_v31, Cert.KernelIdeal.main_v32, Cert.KernelIdeal.main_v33, Cert.KernelIdeal.main_v34, Cert.KernelIdeal.main_v35]
theorem writes_eq : ops.map HloOp.writes = written.map fun w => {Proc.devRef (τ := τ) .tc w} := rfl
/-- A buffer no later line writes is read the same after all lines. -/
theorem settled (i : ℕ) (r : Ref sig .tc) (hr : r ∉ written.drop i) : upto ops (fun b => m (c, b)) i (Proc.devRef .tc r) = V m c r := by
  have hW : (ops.drop i).map HloOp.writes = (written.drop i).map fun w => {Proc.devRef (τ := τ) .tc w} := by
    rw [List.map_drop, writes_eq, List.map_drop]
  refine (?_ : after (ops.take i) (fun b => m (c, b)) (Proc.devRef .tc r) = after ops (fun b => m (c, b)) (Proc.devRef .tc r))
  rw [← after_unwritten (written.drop i) hW hr (after (ops.take i) fun b => m (c, b)), ← Cert.Lift.after_append'', List.take_append_drop]
theorem at_line {i : ℕ} {op : HloOp τ sig (Elt Ideal)} {rest : List (HloOp τ sig (Elt Ideal))} (r : Ref sig .tc) (hs : ops.drop i = op :: rest)
    (hr : r ∉ written.drop (i + 1)) : V m c r = op.result (upto ops (fun b => m (c, b)) i) (Proc.devRef .tc r) := by
  refine after_last_write (written.drop (i + 1)) hs ?_ hr _
  have h : rest = ops.drop (i + 1) := by rw [← List.drop_drop, hs]; rfl
  rw [h, List.map_drop, writes_eq, List.map_drop]

theorem k_main_arg0 (hA : Holds m c A) : V m c Cert.KernelIdeal.main_arg0 = up3 A.main_arg0 := (after_unwritten written writes_eq (by decide) _).trans hA.main_arg0

theorem k_main_arg1 (hA : Holds m c A) : V m c Cert.KernelIdeal.main_arg1 = up2 A.main_arg1 := (after_unwritten written writes_eq (by decide) _).trans hA.main_arg1

theorem k_main_arg3 (hA : Holds m c A) : V m c Cert.KernelIdeal.main_arg3 = up2 A.main_arg3 := (after_unwritten written writes_eq (by decide) _).trans hA.main_arg3

theorem k_main_arg8 (hA : Holds m c A) : V m c Cert.KernelIdeal.main_arg8 = up3 A.main_arg8 := (after_unwritten written writes_eq (by decide) _).trans hA.main_arg8

theorem k_main_arg9 (hA : Holds m c A) : V m c Cert.KernelIdeal.main_arg9 = up3 A.main_arg9 := (after_unwritten written writes_eq (by decide) _).trans hA.main_arg9

theorem k_main_arg10 (hA : Holds m c A) : V m c Cert.KernelIdeal.main_arg10 = up3 A.main_arg10 := (after_unwritten written writes_eq (by decide) _).trans hA.main_arg10

def main_v0 (A : Args) (a0 a1 : ℕ) : ℝ := A.main_arg0 0 a0 a1
theorem k_main_v0 (hA : Holds m c A) : V m c Cert.KernelIdeal.main_v0 = up2 (main_v0 A) := by
  refine (at_line m c (i := 0) Cert.KernelIdeal.main_v0 rfl (by decide)).trans ?_
  refine (reshape_result .. ).trans ?_
  rw [settled m c 0 Cert.KernelIdeal.main_arg0 (by decide), k_main_arg0 m c hA]
  refine funext fun (i : S8192x1024.Idx) => ?_
  have h0 : (i 0).val < 8192 := (i 0).isLt
  have h1 : (i 1).val < 1024 := (i 1).isLt
  refine (shapeCast_apply (up3 (A.main_arg0) : S1x8192x1024.Idx → EReal) shapeCasts_S1x8192x1024_S8192x1024 i (fun b => match b with | ⟨0, _⟩ => ⟨0, by show _ < 1; omega⟩ | ⟨1, _⟩ => ⟨(i 0).val, by show _ < 8192; omega⟩ | ⟨2, _⟩ => ⟨(i 1).val, by show _ < 1024; omega⟩) ?_).trans ?_
  · rw [Shape.rowMajor_val_three, Shape.rowMajor_val_two]
    show (0 * 8192 + (i 0).val) * 1024 + (i 1).val = (i 0).val * 1024 + (i 1).val
    omega
  · rfl

def main_v1 (A : Args) (a0 a1 : ℕ) : ℝ := A.main_arg1 0 (1024 * a0 + a1)
theorem k_main_v1 (hA : Holds m c A) : V m c Cert.KernelIdeal.main_v1 = up2 (main_v1 A) := by
  refine (at_line m c (i := 1) Cert.KernelIdeal.main_v1 rfl (by decide)).trans ?_
  refine (reshape_result .. ).trans ?_
  rw [settled m c 1 Cert.KernelIdeal.main_arg1 (by decide), k_main_arg1 m c hA]
  refine funext fun (i : S6x1024.Idx) => ?_
  have h0 : (i 0).val < 6 := (i 0).isLt
  have h1 : (i 1).val < 1024 := (i 1).isLt
  refine (shapeCast_apply (up2 (A.main_arg1) : S1x6144.Idx → EReal) shapeCasts_S1x6144_S6x1024 i (fun b => match b with | ⟨0, _⟩ => ⟨0, by show _ < 1; omega⟩ | ⟨1, _⟩ => ⟨(1024 * (i 0).val + (i 1).val), by show _ < 6144; omega⟩) ?_).trans ?_
  · rw [Shape.rowMajor_val_two, Shape.rowMajor_val_two]
    show 0 * 6144 + (1024 * (i 0).val + (i 1).val) = (i 0).val * 1024 + (i 1).val
    omega
  · rfl

def main_cst (A : Args) : ℝ := 0
theorem k_main_cst (hA : Holds m c A) : V m c Cert.KernelIdeal.main_cst = (fun _ => ((main_cst A : ℝ) : EReal)) := by
  refine (at_line m c (i := 2) Cert.KernelIdeal.main_cst rfl (by decide)).trans ?_
  refine (nullary_result .. ).trans ?_
  exact funext fun _ => zero_f32

def main_v2 (A : Args) (a0 a1 : ℕ) : ℝ := main_cst A
theorem k_main_v2 (hA : Holds m c A) : V m c Cert.KernelIdeal.main_v2 = up2 (main_v2 A) := by
  refine (at_line m c (i := 3) Cert.KernelIdeal.main_v2 rfl (by decide)).trans ?_
  refine (unary_result .. ).trans ?_
  rw [settled m c 3 Cert.KernelIdeal.main_cst (by decide), k_main_cst m c hA]
  exact funext fun i => broadcastInDim_apply _ _ _ i (fun a => a.elim0) (fun a => a.elim0)

def main_v3 (A : Args) (a0 a1 : ℕ) : ℝ := if a0 < 6 then main_v1 A a0 a1 else main_v2 A (a0 - 6) a1
theorem k_main_v3 (hA : Holds m c A) : V m c Cert.KernelIdeal.main_v3 = up2 (main_v3 A) := by
  refine (at_line m c (i := 4) Cert.KernelIdeal.main_v3 rfl (by decide)).trans ?_
  refine (binary_result .. ).trans ?_
  rw [settled m c 4 Cert.KernelIdeal.main_v1 (by decide), k_main_v1 m c hA]
  rw [settled m c 4 Cert.KernelIdeal.main_v2 (by decide), k_main_v2 m c hA]
  refine funext fun (i : S8x1024.Idx) => ?_
  have h0 : (i 0).val < 8 := (i 0).isLt
  have h1 : (i 1).val < 1024 := (i 1).isLt
  by_cases c0 : (i 0).val < 6
  · refine (concatenate_apply_piece _ _ _ i 0 (by simp) S6x1024 _ rfl rfl 0 rfl (fun b => match b with | ⟨0, _⟩ => ⟨(i 0).val - 0, by show _ < 6; omega⟩ | ⟨1, _⟩ => ⟨(i 1).val, by show _ < 1024; omega⟩) ?_ ?_).trans ?_
    · intro b hb; match b with | ⟨0, _⟩ => exact absurd rfl hb | ⟨1, _⟩ => exact rfl
    · show 0 + ((i 0).val - 0) = (i 0).val; omega
    · show ((main_v1 A ((i 0).val - 0) (i 1).val : ℝ) : EReal) = ((main_v3 A (i 0).val (i 1).val : ℝ) : EReal)
      unfold main_v3; simp only [Nat.sub_zero]; rw [if_pos c0]
  refine (concatenate_apply_piece _ _ _ i 1 (by simp) S2x1024 _ rfl rfl 6 rfl (fun b => match b with | ⟨0, _⟩ => ⟨(i 0).val - 6, by show _ < 2; omega⟩ | ⟨1, _⟩ => ⟨(i 1).val, by show _ < 1024; omega⟩) ?_ ?_).trans ?_
  · intro b hb; match b with | ⟨0, _⟩ => exact absurd rfl hb | ⟨1, _⟩ => exact rfl
  · show 6 + ((i 0).val - 6) = (i 0).val; omega
  · show ((main_v2 A ((i 0).val - 6) (i 1).val : ℝ) : EReal) = ((main_v3 A (i 0).val (i 1).val : ℝ) : EReal)
    unfold main_v3; rw [if_neg c0]

def main_v7 (A : Args) (a0 a1 : ℕ) : ℝ := A.main_arg8 0 a0 a1
theorem k_main_v7 (hA : Holds m c A) : V m c Cert.KernelIdeal.main_v7 = up2 (main_v7 A) := by
  refine (at_line m c (i := 9) Cert.KernelIdeal.main_v7 rfl (by decide)).trans ?_
  refine (reshape_result .. ).trans ?_
  rw [settled m c 9 Cert.KernelIdeal.main_arg8 (by decide), k_main_arg8 m c hA]
  refine funext fun (i : S1024x5632.Idx) => ?_
  have h0 : (i 0).val < 1024 := (i 0).isLt
  have h1 : (i 1).val < 5632 := (i 1).isLt
  refine (shapeCast_apply (up3 (A.main_arg8) : S1x1024x5632.Idx → EReal) shapeCasts_S1x1024x5632_S1024x5632 i (fun b => match b with | ⟨0, _⟩ => ⟨0, by show _ < 1; omega⟩ | ⟨1, _⟩ => ⟨(i 0).val, by show _ < 1024; omega⟩ | ⟨2, _⟩ => ⟨(i 1).val, by show _ < 5632; omega⟩) ?_).trans ?_
  · rw [Shape.rowMajor_val_three, Shape.rowMajor_val_two]
    show (0 * 1024 + (i 0).val) * 5632 + (i 1).val = (i 0).val * 5632 + (i 1).val
    omega
  · rfl

def main_v8 (A : Args) (a0 a1 : ℕ) : ℝ := main_v7 A a1 a0
theorem k_main_v8 (hA : Holds m c A) : V m c Cert.KernelIdeal.main_v8 = up2 (main_v8 A) := by
  refine (at_line m c (i := 10) Cert.KernelIdeal.main_v8 rfl (by decide)).trans ?_
  refine (unary_result .. ).trans ?_
  rw [settled m c 10 Cert.KernelIdeal.main_v7 (by decide), k_main_v7 m c hA]
  funext i
  rfl

def main_v9 (A : Args) (a0 a1 : ℕ) : ℝ := main_v8 A a0 a1
theorem k_main_v9 (hA : Holds m c A) : V m c Cert.KernelIdeal.main_v9 = up2 (main_v9 A) := by
  refine (at_line m c (i := 11) Cert.KernelIdeal.main_v9 rfl (by decide)).trans ?_
  refine (unary_result .. ).trans ?_
  rw [settled m c 11 Cert.KernelIdeal.main_v8 (by decide), k_main_v8 m c hA]
  rfl

def main_v10 (A : Args) (a0 a1 : ℕ) : ℝ := A.main_arg9 0 a0 a1
theorem k_main_v10 (hA : Holds m c A) : V m c Cert.KernelIdeal.main_v10 = up2 (main_v10 A) := by
  refine (at_line m c (i := 12) Cert.KernelIdeal.main_v10 rfl (by decide)).trans ?_
  refine (reshape_result .. ).trans ?_
  rw [settled m c 12 Cert.KernelIdeal.main_arg9 (by decide), k_main_arg9 m c hA]
  refine funext fun (i : S2816x1024.Idx) => ?_
  have h0 : (i 0).val < 2816 := (i 0).isLt
  have h1 : (i 1).val < 1024 := (i 1).isLt
  refine (shapeCast_apply (up3 (A.main_arg9) : S1x2816x1024.Idx → EReal) shapeCasts_S1x2816x1024_S2816x1024 i (fun b => match b with | ⟨0, _⟩ => ⟨0, by show _ < 1; omega⟩ | ⟨1, _⟩ => ⟨(i 0).val, by show _ < 2816; omega⟩ | ⟨2, _⟩ => ⟨(i 1).val, by show _ < 1024; omega⟩) ?_).trans ?_
  · rw [Shape.rowMajor_val_three, Shape.rowMajor_val_two]
    show (0 * 2816 + (i 0).val) * 1024 + (i 1).val = (i 0).val * 1024 + (i 1).val
    omega
  · rfl

def main_v11 (A : Args) (a0 a1 : ℕ) : ℝ := main_v10 A a0 a1
theorem k_main_v11 (hA : Holds m c A) : V m c Cert.KernelIdeal.main_v11 = up2 (main_v11 A) := by
  refine (at_line m c (i := 13) Cert.KernelIdeal.main_v11 rfl (by decide)).trans ?_
  refine (unary_result .. ).trans ?_
  rw [settled m c 13 Cert.KernelIdeal.main_v10 (by decide), k_main_v10 m c hA]
  rfl

def main_v12 (A : Args) (a0 a1 : ℕ) : ℝ := main_v0 A a0 a1 * main_v0 A a0 a1
theorem k_main_v12 (hA : Holds m c A) : V m c Cert.KernelIdeal.main_v12 = up2 (main_v12 A) := by
  refine (at_line m c (i := 14) Cert.KernelIdeal.main_v12 rfl (by decide)).trans ?_
  refine (binary_result .. ).trans ?_
  rw [settled m c 14 Cert.KernelIdeal.main_v0 (by decide), k_main_v0 m c hA]
  exact funext fun i => (EReal.coe_mul _ _).symm

def main_cst_1 (A : Args) : ℝ := 0
theorem k_main_cst_1 (hA : Holds m c A) : V m c Cert.KernelIdeal.main_cst_1 = (fun _ => ((main_cst_1 A : ℝ) : EReal)) := by
  refine (at_line m c (i := 15) Cert.KernelIdeal.main_cst_1 rfl (by decide)).trans ?_
  refine (nullary_result .. ).trans ?_
  exact funext fun _ => zero_f32

def main_v13 (A : Args) (a0 : ℕ) : ℝ := main_cst_1 A + ∑ k ∈ Finset.range 1024, main_v12 A a0 k
theorem k_main_v13 (hA : Holds m c A) : V m c Cert.KernelIdeal.main_v13 = up1 (main_v13 A) := by
  refine (at_line m c (i := 16) Cert.KernelIdeal.main_v13 rfl (by decide)).trans ?_
  refine (binary_result .. ).trans ?_
  rw [settled m c 16 Cert.KernelIdeal.main_v12 (by decide), k_main_v12 m c hA]
  rw [settled m c 16 Cert.KernelIdeal.main_cst_1 (by decide), k_main_cst_1 m c hA]
  funext i
  simp only [Host.reduceAdd, Ideal.hostReduceAdd_def]
  rw [Ideal.hostReduceAdd_single _ (by decide)]
  refine Eq.trans (congrArg _ (Eq.trans (Finset.sum_congr rfl fun k _ => ?_) (coe_sum_fin 1024 fun k => main_v12 A (i 0).val k))) (EReal.coe_add _ _).symm
  rfl

def main_v14 (A : Args) (a0 a1 : ℕ) : ℝ := main_v13 A a0
theorem k_main_v14 (hA : Holds m c A) : V m c Cert.KernelIdeal.main_v14 = up2 (main_v14 A) := by
  refine (at_line m c (i := 17) Cert.KernelIdeal.main_v14 rfl (by decide)).trans ?_
  refine (unary_result .. ).trans ?_
  rw [settled m c 17 Cert.KernelIdeal.main_v13 (by decide), k_main_v13 m c hA]
  refine funext fun (i : S8192x1.Idx) => ?_
  refine (broadcastInDim_apply _ _ _ i (ValueIdx.ix1 (i 0)) (fun a => match a with | ⟨0, _⟩ => by show _ = if (8192 : Nat) = 1 then 0 else (i 0).val; exact (if_neg (by decide)).symm)).trans ?_
  rfl

def main_cst_2 (A : Args) : ℝ := 1024
theorem k_main_cst_2 (hA : Holds m c A) : V m c Cert.KernelIdeal.main_cst_2 = (fun _ => ((main_cst_2 A : ℝ) : EReal)) := by
  refine (at_line m c (i := 18) Cert.KernelIdeal.main_cst_2 rfl (by decide)).trans ?_
  refine (nullary_result .. ).trans ?_
  exact funext fun _ => k1024_f32

def main_v15 (A : Args) (a0 a1 : ℕ) : ℝ := main_cst_2 A
theorem k_main_v15 (hA : Holds m c A) : V m c Cert.KernelIdeal.main_v15 = up2 (main_v15 A) := by
  refine (at_line m c (i := 19) Cert.KernelIdeal.main_v15 rfl (by decide)).trans ?_
  refine (unary_result .. ).trans ?_
  rw [settled m c 19 Cert.KernelIdeal.main_cst_2 (by decide), k_main_cst_2 m c hA]
  exact funext fun i => broadcastInDim_apply _ _ _ i (fun a => a.elim0) (fun a => a.elim0)

def main_v16 (A : Args) (a0 a1 : ℕ) : ℝ := main_v14 A a0 a1 / main_v15 A a0 a1
theorem k_main_v16 (hA : Holds m c A) : V m c Cert.KernelIdeal.main_v16 = up2 (main_v16 A) := by
  refine (at_line m c (i := 20) Cert.KernelIdeal.main_v16 rfl (by decide)).trans ?_
  refine (binary_result .. ).trans ?_
  rw [settled m c 20 Cert.KernelIdeal.main_v14 (by decide), k_main_v14 m c hA]
  rw [settled m c 20 Cert.KernelIdeal.main_v15 (by decide), k_main_v15 m c hA]
  exact funext fun i => div_real _ _ (by show (1024:ℝ) ≠ 0; norm_num)

def main_cst_3 (A : Args) : ℝ := eps
theorem k_main_cst_3 (hA : Holds m c A) : V m c Cert.KernelIdeal.main_cst_3 = (fun _ => ((main_cst_3 A : ℝ) : EReal)) := by
  refine (at_line m c (i := 21) Cert.KernelIdeal.main_cst_3 rfl (by decide)).trans ?_
  refine (nullary_result .. ).trans ?_
  exact funext fun _ => eps_f32

def main_v17 (A : Args) (a0 a1 : ℕ) : ℝ := main_cst_3 A
theorem k_main_v17 (hA : Holds m c A) : V m c Cert.KernelIdeal.main_v17 = up2 (main_v17 A) := by
  refine (at_line m c (i := 22) Cert.KernelIdeal.main_v17 rfl (by decide)).trans ?_
  refine (unary_result .. ).trans ?_
  rw [settled m c 22 Cert.KernelIdeal.main_cst_3 (by decide), k_main_cst_3 m c hA]
  exact funext fun i => broadcastInDim_apply _ _ _ i (fun a => a.elim0) (fun a => a.elim0)

def main_v18 (A : Args) (a0 a1 : ℕ) : ℝ := main_v16 A a0 a1 + main_v17 A a0 a1
theorem k_main_v18 (hA : Holds m c A) : V m c Cert.KernelIdeal.main_v18 = up2 (main_v18 A) := by
  refine (at_line m c (i := 23) Cert.KernelIdeal.main_v18 rfl (by decide)).trans ?_
  refine (binary_result .. ).trans ?_
  rw [settled m c 23 Cert.KernelIdeal.main_v16 (by decide), k_main_v16 m c hA]
  rw [settled m c 23 Cert.KernelIdeal.main_v17 (by decide), k_main_v17 m c hA]
  exact funext fun i => (EReal.coe_add _ _).symm

theorem v18_pos (A : Args) (a0 a1 : ℕ) : 0 < main_v18 A a0 a1 := by
  show 0 < (0 + ∑ k ∈ Finset.range 1024, A.main_arg0 0 a0 k * A.main_arg0 0 a0 k) / 1024 + eps
  rw [zero_add]; exact ms_pos _

def main_v19 (A : Args) (a0 a1 : ℕ) : ℝ := (√(main_v18 A a0 a1))⁻¹
theorem k_main_v19 (hA : Holds m c A) : V m c Cert.KernelIdeal.main_v19 = up2 (main_v19 A) := by
  refine (at_line m c (i := 24) Cert.KernelIdeal.main_v19 rfl (by decide)).trans ?_
  refine (unary_result .. ).trans ?_
  rw [settled m c 24 Cert.KernelIdeal.main_v18 (by decide), k_main_v18 m c hA]
  funext i
  have hp := v18_pos A (i 0).val (i 1).val
  refine (Ideal.rsqrt_coe _).trans ?_
  rw [if_neg (not_lt.2 hp.le), if_neg hp.ne']; rfl

def main_v20 (A : Args) (a0 a1 : ℕ) : ℝ := main_v19 A a0 0
theorem k_main_v20 (hA : Holds m c A) : V m c Cert.KernelIdeal.main_v20 = up2 (main_v20 A) := by
  refine (at_line m c (i := 25) Cert.KernelIdeal.main_v20 rfl (by decide)).trans ?_
  refine (unary_result .. ).trans ?_
  rw [settled m c 25 Cert.KernelIdeal.main_v19 (by decide), k_main_v19 m c hA]
  refine funext fun (i : S8192x1024.Idx) => ?_
  refine (broadcastInDim_apply _ _ _ i (ValueIdx.ix2 (i 0) 0) (fun a => match a with | ⟨0, _⟩ => by show _ = if (8192 : Nat) = 1 then 0 else (i 0).val; exact (if_neg (by decide)).symm | ⟨1, _⟩ => by show _ = if (1 : Nat) = 1 then 0 else (i 1).val; exact (if_pos rfl).symm)).trans ?_
  rfl

def main_v21 (A : Args) (a0 a1 : ℕ) : ℝ := main_v0 A a0 a1 * main_v20 A a0 a1
theorem k_main_v21 (hA : Holds m c A) : V m c Cert.KernelIdeal.main_v21 = up2 (main_v21 A) := by
  refine (at_line m c (i := 26) Cert.KernelIdeal.main_v21 rfl (by decide)).trans ?_
  refine (binary_result .. ).trans ?_
  rw [settled m c 26 Cert.KernelIdeal.main_v0 (by decide), k_main_v0 m c hA]
  rw [settled m c 26 Cert.KernelIdeal.main_v20 (by decide), k_main_v20 m c hA]
  exact funext fun i => (EReal.coe_mul _ _).symm

def main_v22 (A : Args) (a0 a1 : ℕ) : ℝ := A.main_arg3 0 a1
theorem k_main_v22 (hA : Holds m c A) : V m c Cert.KernelIdeal.main_v22 = up2 (main_v22 A) := by
  refine (at_line m c (i := 27) Cert.KernelIdeal.main_v22 rfl (by decide)).trans ?_
  refine (unary_result .. ).trans ?_
  rw [settled m c 27 Cert.KernelIdeal.main_arg3 (by decide), k_main_arg3 m c hA]
  refine funext fun (i : S8192x1024.Idx) => ?_
  refine (broadcastInDim_apply _ _ _ i (ValueIdx.ix2 0 (i 1)) (fun a => match a with | ⟨0, _⟩ => by show _ = if (1 : Nat) = 1 then 0 else (i 0).val; exact (if_pos rfl).symm | ⟨1, _⟩ => by show _ = if (1024 : Nat) = 1 then 0 else (i 1).val; exact (if_neg (by decide)).symm)).trans ?_
  rfl

def main_v23 (A : Args) (a0 a1 : ℕ) : ℝ := main_v21 A a0 a1 * main_v22 A a0 a1
theorem k_main_v23 (hA : Holds m c A) : V m c Cert.KernelIdeal.main_v23 = up2 (main_v23 A) := by
  refine (at_line m c (i := 28) Cert.KernelIdeal.main_v23 rfl (by decide)).trans ?_
  refine (binary_result .. ).trans ?_
  rw [settled m c 28 Cert.KernelIdeal.main_v21 (by decide), k_main_v21 m c hA]
  rw [settled m c 28 Cert.KernelIdeal.main_v22 (by decide), k_main_v22 m c hA]
  exact funext fun i => (EReal.coe_mul _ _).symm

def main_v24 (A : Args) (a0 a1 : ℕ) : ℝ := main_v3 A (4 + a0) a1
theorem k_main_v24 (hA : Holds m c A) : V m c Cert.KernelIdeal.main_v24 = up2 (main_v24 A) := by
  refine (at_line m c (i := 29) Cert.KernelIdeal.main_v24 rfl (by decide)).trans ?_
  refine (unary_result .. ).trans ?_
  rw [settled m c 29 Cert.KernelIdeal.main_v3 (by decide), k_main_v3 m c hA]
  refine funext fun (i : S1x1024.Idx) => ?_
  have h0 : (i 0).val < 1 := (i 0).isLt
  have h1 : (i 1).val < 1024 := (i 1).isLt
  refine (extractStridedSlice_apply _ _ _ i (fun b => match b with | ⟨0, _⟩ => ⟨(4 + (i 0).val), by show _ < 8; omega⟩ | ⟨1, _⟩ => ⟨(i 1).val, by show _ < 1024; omega⟩) (fun a => match a with | ⟨0, _⟩ => by show (4 + (i 0).val) = 4 + (i 0).val; omega | ⟨1, _⟩ => by show (i 1).val = 0 + (i 1).val; omega)).trans ?_
  rfl

def main_cst_4 (A : Args) : ℝ := 1
theorem k_main_cst_4 (hA : Holds m c A) : V m c Cert.KernelIdeal.main_cst_4 = (fun _ => ((main_cst_4 A : ℝ) : EReal)) := by
  refine (at_line m c (i := 30) Cert.KernelIdeal.main_cst_4 rfl (by decide)).trans ?_
  refine (nullary_result .. ).trans ?_
  exact funext fun _ => one_f32

def main_v25 (A : Args) (a0 a1 : ℕ) : ℝ := main_cst_4 A
theorem k_main_v25 (hA : Holds m c A) : V m c Cert.KernelIdeal.main_v25 = up2 (main_v25 A) := by
  refine (at_line m c (i := 31) Cert.KernelIdeal.main_v25 rfl (by decide)).trans ?_
  refine (unary_result .. ).trans ?_
  rw [settled m c 31 Cert.KernelIdeal.main_cst_4 (by decide), k_main_cst_4 m c hA]
  exact funext fun i => broadcastInDim_apply _ _ _ i (fun a => a.elim0) (fun a => a.elim0)

def main_v26 (A : Args) (a0 a1 : ℕ) : ℝ := main_v25 A a0 a1 + main_v24 A a0 a1
theorem k_main_v26 (hA : Holds m c A) : V m c Cert.KernelIdeal.main_v26 = up2 (main_v26 A) := by
  refine (at_line m c (i := 32) Cert.KernelIdeal.main_v26 rfl (by decide)).trans ?_
  refine (binary_result .. ).trans ?_
  rw [settled m c 32 Cert.KernelIdeal.main_v25 (by decide), k_main_v25 m c hA]
  rw [settled m c 32 Cert.KernelIdeal.main_v24 (by decide), k_main_v24 m c hA]
  exact funext fun i => (EReal.coe_add _ _).symm

def main_v27 (A : Args) (a0 a1 : ℕ) : ℝ := main_v26 A 0 a1
theorem k_main_v27 (hA : Holds m c A) : V m c Cert.KernelIdeal.main_v27 = up2 (main_v27 A) := by
  refine (at_line m c (i := 33) Cert.KernelIdeal.main_v27 rfl (by decide)).trans ?_
  refine (unary_result .. ).trans ?_
  rw [settled m c 33 Cert.KernelIdeal.main_v26 (by decide), k_main_v26 m c hA]
  refine funext fun (i : S8192x1024.Idx) => ?_
  refine (broadcastInDim_apply _ _ _ i (ValueIdx.ix2 0 (i 1)) (fun a => match a with | ⟨0, _⟩ => by show _ = if (1 : Nat) = 1 then 0 else (i 0).val; exact (if_pos rfl).symm | ⟨1, _⟩ => by show _ = if (1024 : Nat) = 1 then 0 else (i 1).val; exact (if_neg (by decide)).symm)).trans ?_
  rfl

def main_v28 (A : Args) (a0 a1 : ℕ) : ℝ := main_v23 A a0 a1 * main_v27 A a0 a1
theorem k_main_v28 (hA : Holds m c A) : V m c Cert.KernelIdeal.main_v28 = up2 (main_v28 A) := by
  refine (at_line m c (i := 34) Cert.KernelIdeal.main_v28 rfl (by decide)).trans ?_
  refine (binary_result .. ).trans ?_
  rw [settled m c 34 Cert.KernelIdeal.main_v23 (by decide), k_main_v23 m c hA]
  rw [settled m c 34 Cert.KernelIdeal.main_v27 (by decide), k_main_v27 m c hA]
  exact funext fun i => (EReal.coe_mul _ _).symm

def main_v29 (A : Args) (a0 a1 : ℕ) : ℝ := main_v3 A (3 + a0) a1
theorem k_main_v29 (hA : Holds m c A) : V m c Cert.KernelIdeal.main_v29 = up2 (main_v29 A) := by
  refine (at_line m c (i := 35) Cert.KernelIdeal.main_v29 rfl (by decide)).trans ?_
  refine (unary_result .. ).trans ?_
  rw [settled m c 35 Cert.KernelIdeal.main_v3 (by decide), k_main_v3 m c hA]
  refine funext fun (i : S1x1024.Idx) => ?_
  have h0 : (i 0).val < 1 := (i 0).isLt
  have h1 : (i 1).val < 1024 := (i 1).isLt
  refine (extractStridedSlice_apply _ _ _ i (fun b => match b with | ⟨0, _⟩ => ⟨(3 + (i 0).val), by show _ < 8; omega⟩ | ⟨1, _⟩ => ⟨(i 1).val, by show _ < 1024; omega⟩) (fun a => match a with | ⟨0, _⟩ => by show (3 + (i 0).val) = 3 + (i 0).val; omega | ⟨1, _⟩ => by show (i 1).val = 0 + (i 1).val; omega)).trans ?_
  rfl

def main_v30 (A : Args) (a0 a1 : ℕ) : ℝ := main_v29 A 0 a1
theorem k_main_v30 (hA : Holds m c A) : V m c Cert.KernelIdeal.main_v30 = up2 (main_v30 A) := by
  refine (at_line m c (i := 36) Cert.KernelIdeal.main_v30 rfl (by decide)).trans ?_
  refine (unary_result .. ).trans ?_
  rw [settled m c 36 Cert.KernelIdeal.main_v29 (by decide), k_main_v29 m c hA]
  refine funext fun (i : S8192x1024.Idx) => ?_
  refine (broadcastInDim_apply _ _ _ i (ValueIdx.ix2 0 (i 1)) (fun a => match a with | ⟨0, _⟩ => by show _ = if (1 : Nat) = 1 then 0 else (i 0).val; exact (if_pos rfl).symm | ⟨1, _⟩ => by show _ = if (1024 : Nat) = 1 then 0 else (i 1).val; exact (if_neg (by decide)).symm)).trans ?_
  rfl

def main_v31 (A : Args) (a0 a1 : ℕ) : ℝ := main_v28 A a0 a1 + main_v30 A a0 a1
theorem k_main_v31 (hA : Holds m c A) : V m c Cert.KernelIdeal.main_v31 = up2 (main_v31 A) := by
  refine (at_line m c (i := 37) Cert.KernelIdeal.main_v31 rfl (by decide)).trans ?_
  refine (binary_result .. ).trans ?_
  rw [settled m c 37 Cert.KernelIdeal.main_v28 (by decide), k_main_v28 m c hA]
  rw [settled m c 37 Cert.KernelIdeal.main_v30 (by decide), k_main_v30 m c hA]
  exact funext fun i => (EReal.coe_add _ _).symm

def main_v32 (A : Args) (a0 a1 : ℕ) : ℝ := A.main_arg8 0 a0 a1
theorem k_main_v32 (hA : Holds m c A) : V m c Cert.KernelIdeal.main_v32 = up2 (main_v32 A) := by
  refine (at_line m c (i := 38) Cert.KernelIdeal.main_v32 rfl (by decide)).trans ?_
  refine (reshape_result .. ).trans ?_
  rw [settled m c 38 Cert.KernelIdeal.main_arg8 (by decide), k_main_arg8 m c hA]
  refine funext fun (i : S1024x5632.Idx) => ?_
  have h0 : (i 0).val < 1024 := (i 0).isLt
  have h1 : (i 1).val < 5632 := (i 1).isLt
  refine (shapeCast_apply (up3 (A.main_arg8) : S1x1024x5632.Idx → EReal) shapeCasts_S1x1024x5632_S1024x5632 i (fun b => match b with | ⟨0, _⟩ => ⟨0, by show _ < 1; omega⟩ | ⟨1, _⟩ => ⟨(i 0).val, by show _ < 1024; omega⟩ | ⟨2, _⟩ => ⟨(i 1).val, by show _ < 5632; omega⟩) ?_).trans ?_
  · rw [Shape.rowMajor_val_three, Shape.rowMajor_val_two]
    show (0 * 1024 + (i 0).val) * 5632 + (i 1).val = (i 0).val * 5632 + (i 1).val
    omega
  · rfl

def main_v33 (A : Args) (a0 a1 : ℕ) : ℝ := ∑ k ∈ Finset.range 1024, main_v31 A a0 k * main_v32 A k a1
theorem k_main_v33 (hA : Holds m c A) : V m c Cert.KernelIdeal.main_v33 = up2 (main_v33 A) := by
  refine (at_line m c (i := 39) Cert.KernelIdeal.main_v33 rfl (by decide)).trans ?_
  refine (binary_result .. ).trans ?_
  rw [settled m c 39 Cert.KernelIdeal.main_v31 (by decide), k_main_v31 m c hA]
  rw [settled m c 39 Cert.KernelIdeal.main_v32 (by decide), k_main_v32 m c hA]
  exact hostDot_up2 (K := 1024) _ _ _

def main_v34 (A : Args) (a0 a1 : ℕ) : ℝ := main_v33 A a0 a1
theorem k_main_v34 (hA : Holds m c A) : V m c Cert.KernelIdeal.main_v34 = up2 (main_v34 A) := by
  refine (at_line m c (i := 40) Cert.KernelIdeal.main_v34 rfl (by decide)).trans ?_
  refine (unary_result .. ).trans ?_
  rw [settled m c 40 Cert.KernelIdeal.main_v33 (by decide), k_main_v33 m c hA]
  rfl

def main_v35 (A : Args) (a0 a1 : ℕ) : ℝ := A.main_arg10 0 a0 a1
theorem k_main_v35 (hA : Holds m c A) : V m c Cert.KernelIdeal.main_v35 = up2 (main_v35 A) := by
  refine (at_line m c (i := 41) Cert.KernelIdeal.main_v35 rfl (by decide)).trans ?_
  refine (reshape_result .. ).trans ?_
  rw [settled m c 41 Cert.KernelIdeal.main_arg10 (by decide), k_main_arg10 m c hA]
  refine funext fun (i : S8192x1024.Idx) => ?_
  have h0 : (i 0).val < 8192 := (i 0).isLt
  have h1 : (i 1).val < 1024 := (i 1).isLt
  refine (shapeCast_apply (up3 (A.main_arg10) : S1x8192x1024.Idx → EReal) shapeCasts_S1x8192x1024_S8192x1024 i (fun b => match b with | ⟨0, _⟩ => ⟨0, by show _ < 1; omega⟩ | ⟨1, _⟩ => ⟨(i 0).val, by show _ < 8192; omega⟩ | ⟨2, _⟩ => ⟨(i 1).val, by show _ < 1024; omega⟩) ?_).trans ?_
  · rw [Shape.rowMajor_val_three, Shape.rowMajor_val_two]
    show (0 * 8192 + (i 0).val) * 1024 + (i 1).val = (i 0).val * 1024 + (i 1).val
    omega
  · rfl

end Cert.Bffn.Host
end
end
-- ==== Proof.Bffn.Pay.lean ====
/-
  The kernel's stored values over the reals: each block value the body computes, on real inputs, as one formula in the
  coordinates.
-/
module

public import proofs.«01_k».proof.Proof.Gen.KernelIdeal.Skeleton
public import proofs.«01_k».proof.Proof.Lib.Lift

@[expose] public section

noncomputable section

open scoped BigOperators

namespace Cert.KernelIdeal.Bffn

open Cert.KernelIdeal Cert.KernelIdeal.Gen Idealize.ShloMosaic Idealize.ShloMosaic.TcCoe Idealize.SL.Sem Cert.Lift

theorem dims1 : dot_S256x1024_S1536x1024_S256x1536_1_1_0_0_n_n = DotDims.transposedRhs 256 1024 1536 := rfl
theorem dims2 : dot_S256x1536_S1536x1024_S256x1024_1_0_0_1_n_n = DotDims.plain 256 1536 1024 := rfl
theorem dims3 : dot_S256x1024_S1280x1024_S256x1280_1_1_0_0_n_n = DotDims.transposedRhs 256 1024 1280 := rfl
theorem dims4 : dot_S256x1280_S1280x1024_S256x1024_1_0_0_1_n_n = DotDims.plain 256 1280 1024 := rfl

theorem pay4_eq : k0_pay4 (F := Ideal) = up2 fun _ _ => 0 := by
  unfold k0_pay4; simp only [scalar_zero, broadcast_up2]
theorem pay5_eq (X : ℕ → ℕ → ℝ) : k0_pay5 (F := Ideal) (up2 X) = up2 X := shapeCast_self _ _
theorem pay6_eq (X m : ℕ → ℕ → ℝ) : k0_pay6 (F := Ideal) (up2 X) (up2 m) = up2 fun r c => m 0 c * X r c := by
  unfold k0_pay6; simp only [pay5_eq, shapeCast_self, broadcastTo_row, mulf_up2, truncf_up2]
theorem pay7_eq : k0_pay7 (F := Ideal) = up2 fun _ _ => 0 := by
  unfold k0_pay7; simp only [scalar_zero, broadcast_up2]
theorem pay8_eq (X m w : ℕ → ℕ → ℝ) : k0_pay8 (F := Ideal) (up2 X) (up2 m) (up2 w)
    = up2 fun r c => ∑ k ∈ Finset.range 1024, m 0 k * X r k * w c k := by
  unfold k0_pay8; simp only [pay6_eq, constant_zero_up2, matmul_transposed_up2 _ dims1, zero_add]
theorem pay9_eq (u : ℕ → ℕ → ℝ) : k0_pay9 (F := Ideal) (up2 u) = up2 u := by
  unfold k0_pay9; simp only [shapeCast_self, extf_up2]
theorem pay10_eq (u : ℕ → ℕ → ℝ) : k0_pay10 (F := Ideal) (up2 u) = up2 fun r c => sg (u r c) := by
  unfold k0_pay10; simp only [pay9_eq, logistic_up2]
theorem pay11_eq (X m w a b : ℕ → ℕ → ℝ) : k0_pay11 (F := Ideal) (up2 X) (up2 m) (up2 w) (up2 a) (up2 b)
    = up2 fun r c => (∑ k ∈ Finset.range 1024, m 0 k * X r k * w c k) * b r c * (sg (a r c) * (1 + a r c * (1 - sg (a r c)))) := by
  unfold k0_pay11
  simp only [pay8_eq, pay9_eq, pay10_eq, shapeCast_self, extf_up2, truncf_up2, scalar_one, broadcast_up2, mulf_up2, addf_up2, subf_up2]
theorem pay12_eq (X m w a : ℕ → ℕ → ℝ) : k0_pay12 (F := Ideal) (up2 X) (up2 m) (up2 w) (up2 a)
    = up2 fun r c => (∑ k ∈ Finset.range 1024, m 0 k * X r k * w c k) * (a r c * sg (a r c)) := by
  unfold k0_pay12
  simp only [pay8_eq, pay9_eq, pay10_eq, truncf_up2, mulf_up2]
theorem pay13_eq (D w : ℕ → ℕ → ℝ) : k0_pay13 (F := Ideal) (up2 D) (up2 w)
    = up2 fun r c => ∑ k ∈ Finset.range 1024, D r k * w c k := by
  unfold k0_pay13; simp only [constant_zero_up2, matmul_transposed_up2 _ dims3, zero_add]
theorem pay14_eq (u : ℕ → ℕ → ℝ) : k0_pay14 (F := Ideal) (up2 u) = up2 u := by
  unfold k0_pay14; simp only [shapeCast_self, extf_up2]
theorem pay15_eq (u : ℕ → ℕ → ℝ) : k0_pay15 (F := Ideal) (up2 u) = up2 fun r c => sg (u r c) := by
  unfold k0_pay15; simp only [pay14_eq, logistic_up2]
theorem pay16_eq (D w a b : ℕ → ℕ → ℝ) : k0_pay16 (F := Ideal) (up2 D) (up2 w) (up2 a) (up2 b)
    = up2 fun r c => (∑ k ∈ Finset.range 1024, D r k * w c k) * b r c * (sg (a r c) * (1 + a r c * (1 - sg (a r c)))) := by
  unfold k0_pay16
  simp only [pay13_eq, pay14_eq, pay15_eq, shapeCast_self, extf_up2, truncf_up2, scalar_one, broadcast_up2, mulf_up2, addf_up2, subf_up2]
theorem pay17_eq (D w a : ℕ → ℕ → ℝ) : k0_pay17 (F := Ideal) (up2 D) (up2 w) (up2 a)
    = up2 fun r c => (∑ k ∈ Finset.range 1024, D r k * w c k) * (a r c * sg (a r c)) := by
  unfold k0_pay17
  simp only [pay13_eq, pay14_eq, pay15_eq, truncf_up2, mulf_up2]
theorem pay18_eq (D z v30 v32 v35 v38 v41 v43 v46 v64 : ℕ → ℕ → ℝ) :
    k0_pay18 (F := Ideal) (up2 D) (up2 z) (up2 v30) (up2 v32) (up2 v35) (up2 v38) (up2 v41) (up2 v43) (up2 v46) (up2 v64)
    = up2 fun r j => z r j + (∑ f ∈ Finset.range 1536, v30 r f * v35 f j) + (∑ f ∈ Finset.range 1536, v32 r f * v38 f j)
        + ∑ f ∈ Finset.range 1280, (∑ k ∈ Finset.range 1024, D r k * v41 f k) * v46 r f * (sg (v43 r f) * (1 + v43 r f * (1 - sg (v43 r f)))) * v64 f j := by
  unfold k0_pay18
  simp only [pay16_eq, constant_zero_up2, matmul_plain_up2 _ dims2, matmul_plain_up2 _ dims4, zero_add, addf_up2]
theorem pay19_eq (a b w : ℕ → ℕ → ℝ) : k0_pay19 (F := Ideal) (up2 a) (up2 b) (up2 w)
    = up2 fun r j => b r j + ∑ f ∈ Finset.range 1280, a r f * w f j := by
  unfold k0_pay19
  simp only [constant_zero_up2, matmul_plain_up2 _ dims4, zero_add, addf_up2]
theorem pay20_eq (X : ℕ → ℕ → ℝ) : k0_pay20 (F := Ideal) (up2 X) = up2 X := shapeCast_self _ _
theorem pay21_eq (X : ℕ → ℕ → ℝ) : k0_pay21 (F := Ideal) (up2 X) = up2 fun r _ => rms (X r) := by
  unfold k0_pay21; delta multiReduction
  simp (disch := rfl) only [pay20_eq, mulf_up2, rowSum, shapeCast_col, scalar_k1024, scalar_eps, broadcast_up2]
  rw [divf_up2 _ _ (fun _ _ => by norm_num), addf_up2, rsqrt_up2 _ (fun r _ => ms_pos (X r))]
  rfl
theorem pay22_eq (X : ℕ → ℕ → ℝ) : k0_pay22 (F := Ideal) (up2 X) = up2 fun r c => X r c * rms (X r) := by
  unfold k0_pay22
  simp only [pay20_eq, pay21_eq, broadcastTo_col, mulf_up2]
theorem pay23_eq (X : ℕ → ℕ → ℝ) : k0_pay23 (F := Ideal) (up2 X) = up2 X := shapeCast_self _ _
theorem pay24_eq (X : ℕ → ℕ → ℝ) : k0_pay24 (F := Ideal) (up2 X) = up2 fun r c => 1 + X r c := by
  unfold k0_pay24
  simp only [shapeCast_self, scalar_one, broadcast_up2, addf_up2]
theorem pay25_eq (D a b w x g s : ℕ → ℕ → ℝ) :
    k0_pay25 (F := Ideal) (up2 D) (up2 a) (up2 b) (up2 w) (up2 x) (up2 g) (up2 s)
    = up2 fun r j => D r j + rms (x r) * ((b r j + ∑ f ∈ Finset.range 1280, a r f * w f j) * g 0 j * (1 + s 0 j)
        - x r j * rms (x r) * ((∑ k ∈ Finset.range 1024,
            (b r k + ∑ f ∈ Finset.range 1280, a r f * w f k) * g 0 k * (1 + s 0 k) * (x r k * rms (x r))) / 1024)) := by
  unfold k0_pay25; delta multiReduction
  simp (disch := rfl) only [pay19_eq, pay20_eq, pay21_eq, pay22_eq, pay23_eq, pay24_eq, mulf_up2, rowSum, shapeCast_col, scalar_k1024, broadcast_up2,
    broadcastTo_row, broadcastTo_col, addf_up2, subf_up2]
  rw [divf_up2 _ _ (fun _ _ => by norm_num)]
  simp only [mulf_up2, broadcastTo_col, addf_up2, subf_up2]
theorem pay26_eq (a b w x : ℕ → ℕ → ℝ) : k0_pay26 (F := Ideal) (up2 a) (up2 b) (up2 w) (up2 x)
    = up2 fun r j => (b r j + ∑ f ∈ Finset.range 1280, a r f * w f j) * (x r j * rms (x r)) := by
  unfold k0_pay26
  simp only [pay19_eq, pay22_eq, mulf_up2]
theorem pay27_eq (X : ℕ → ℕ → ℝ) : k0_pay27 (F := Ideal) (up2 X) = up2 X := shapeCast_self _ _
theorem pay28_eq (a b w : ℕ → ℕ → ℝ) : k0_pay28 (F := Ideal) (up2 a) (up2 b) (up2 w)
    = up1 fun j => ∑ r ∈ Finset.range 256, (b r j + ∑ f ∈ Finset.range 1280, a r f * w f j) := by
  unfold k0_pay28; delta multiReduction
  simp (disch := rfl) only [pay19_eq, colSum]
theorem pay1_eq (X : ℕ → ℕ → ℝ) (v : ℕ → ℝ) : k0_pay1 (F := Ideal) (up2 X) (up1 v) = up2 fun r j => X r j + v j := by
  unfold k0_pay1
  simp only [shapeCast_row, addf_up2]
theorem pay2_eq (g h X : ℕ → ℕ → ℝ) : k0_pay2 (F := Ideal) (up2 g) (up2 h) (up2 X)
    = up2 fun r j => X r j + (∑ k ∈ Finset.range 256, h k j) * g r j := by
  unfold k0_pay2; delta multiReduction
  simp (disch := rfl) only [shapeCast_self, colSum, shapeCast_row, mulf_up2, addf_up2]
theorem pay3_eq (g h X : ℕ → ℕ → ℝ) : k0_pay3 (F := Ideal) (up2 g) (up2 h) (up2 X)
    = up2 fun r j => X r j + (∑ k ∈ Finset.range 256, h k j) * g r j := by
  unfold k0_pay3; delta multiReduction
  simp (disch := rfl) only [shapeCast_self, colSum, shapeCast_row, mulf_up2, addf_up2]

end Cert.KernelIdeal.Bffn
end
-- ==== Proof.Bffn.Spec.lean ====
/-
  The gradient of the feed-forward block over the reals, one row at a time: a row `d` of the incoming gradient, a row `x`
  of the block's input and a row `u` of the saved pre-activations.
-/
module

public import proofs.«01_k».proof.Proof.Lib.Lift

@[expose] public section

noncomputable section

open scoped BigOperators

namespace Cert.Bffn

open Cert.Lift

/-- The gradient at the activations' product. -/
def dactS (g2 : ℕ → ℝ) (W1 : ℕ → ℕ → ℝ) (d : ℕ → ℝ) (f : ℕ) : ℝ := ∑ k ∈ Finset.range 1024, g2 k * d k * W1 f k
/-- The gradient at the gated half of the pre-activations. -/
def daS (g2 : ℕ → ℝ) (W1 : ℕ → ℕ → ℝ) (d u : ℕ → ℝ) (f : ℕ) : ℝ :=
  dactS g2 W1 d f * u (2816 + f) * (sg (u f) * (1 + u f * (1 - sg (u f))))
/-- The gradient at the linear half of the pre-activations. -/
def dbS (g2 : ℕ → ℝ) (W1 : ℕ → ℕ → ℝ) (d u : ℕ → ℝ) (f : ℕ) : ℝ := dactS g2 W1 d f * (u f * sg (u f))
/-- Both halves side by side. -/
def dabS (g2 : ℕ → ℝ) (W1 : ℕ → ℕ → ℝ) (d u : ℕ → ℝ) (f : ℕ) : ℝ :=
  if f < 2816 then daS g2 W1 d u f else dbS g2 W1 d u (f - 2816)
/-- The gradient at the modulated norm's output. -/
def dhS (g2 : ℕ → ℝ) (W0 W1 : ℕ → ℕ → ℝ) (d u : ℕ → ℝ) (j : ℕ) : ℝ := ∑ f ∈ Finset.range 5632, dabS g2 W1 d u f * W0 f j
/-- The gradient at the normed row. -/
def dxnS (g2 sc g : ℕ → ℝ) (W0 W1 : ℕ → ℕ → ℝ) (d u : ℕ → ℝ) (j : ℕ) : ℝ := dhS g2 W0 W1 d u j * g j * (1 + sc j)
/-- The gradient at the block's input. -/
def dx1S (g2 sc g : ℕ → ℝ) (W0 W1 : ℕ → ℕ → ℝ) (d x u : ℕ → ℝ) (j : ℕ) : ℝ :=
  d j + rms x * (dxnS g2 sc g W0 W1 d u j
    - x j * rms x * ((∑ k ∈ Finset.range 1024, dxnS g2 sc g W0 W1 d u k * (x k * rms x)) / 1024))

/-- The sum over all 5632 columns from the four chunks a block multiplies them in. -/
theorem dhS_chunks (g2 : ℕ → ℝ) (W0 W1 : ℕ → ℕ → ℝ) (d u : ℕ → ℝ) (j : ℕ) :
    (∑ f ∈ Finset.range 1536, daS g2 W1 d u f * W0 f j) + (∑ f ∈ Finset.range 1536, dbS g2 W1 d u f * W0 (2816 + f) j)
      + (∑ f ∈ Finset.range 1280, daS g2 W1 d u (1536 + f) * W0 (1536 + f) j)
      + (∑ f ∈ Finset.range 1280, dbS g2 W1 d u (1536 + f) * W0 (4352 + f) j) = dhS g2 W0 W1 d u j := by
  unfold dhS
  rw [show (5632 : ℕ) = (1536 + 1280) + (1536 + 1280) from rfl, Finset.sum_range_add, Finset.sum_range_add, Finset.sum_range_add]
  have e1 : ∑ f ∈ Finset.range 1536, dabS g2 W1 d u f * W0 f j = ∑ f ∈ Finset.range 1536, daS g2 W1 d u f * W0 f j :=
    Finset.sum_congr rfl fun f hf => by rw [dabS, if_pos (by have := Finset.mem_range.1 hf; omega)]
  have e2 : ∑ f ∈ Finset.range 1280, dabS g2 W1 d u (1536 + f) * W0 (1536 + f) j = ∑ f ∈ Finset.range 1280, daS g2 W1 d u (1536 + f) * W0 (1536 + f) j :=
    Finset.sum_congr rfl fun f hf => by rw [dabS, if_pos (by have := Finset.mem_range.1 hf; omega)]
  have e3 : ∑ f ∈ Finset.range 1536, dabS g2 W1 d u (1536 + 1280 + f) * W0 (1536 + 1280 + f) j = ∑ f ∈ Finset.range 1536, dbS g2 W1 d u f * W0 (2816 + f) j :=
    Finset.sum_congr rfl fun f hf => by
      rw [dabS, if_neg (by omega), show 1536 + 1280 + f - 2816 = f by omega]
  have e4 : ∑ f ∈ Finset.range 1280, dabS g2 W1 d u (1536 + 1280 + (1536 + f)) * W0 (1536 + 1280 + (1536 + f)) j
      = ∑ f ∈ Finset.range 1280, dbS g2 W1 d u (1536 + f) * W0 (4352 + f) j :=
    Finset.sum_congr rfl fun f hf => by
      rw [dabS, if_neg (by omega), show 1536 + 1280 + (1536 + f) - 2816 = 1536 + f by omega,
        show 1536 + 1280 + (1536 + f) = 4352 + f by omega]
  rw [e1, e2, e3, e4]
  ring

/-- One block's addition to the three rows of sums: the shift, scale and gain gradients. -/
def sumsStep (g2 sc g : ℕ → ℝ) (W0 W1 : ℕ → ℕ → ℝ) (d x u : ℕ → ℕ → ℝ) (S : ℕ → ℕ → ℝ) (i j : ℕ) : ℝ :=
  if i = 0 then S 0 j + ∑ r ∈ Finset.range 256, dhS g2 W0 W1 (d r) (u r) j
  else if i = 1 then S 1 j + (∑ r ∈ Finset.range 256, dhS g2 W0 W1 (d r) (u r) j * (x r j * rms (x r))) * g j
  else if i = 2 then S 2 j + (∑ r ∈ Finset.range 256, dhS g2 W0 W1 (d r) (u r) j * (x r j * rms (x r))) * (1 + sc j)
  else S i j

/-! ## The definitions read backwards, at the two chunks of columns -/

theorem daS_fold (M W1 D U : ℕ → ℕ → ℝ) (r f : ℕ) :
    (∑ k ∈ Finset.range 1024, M 5 k * D r k * W1 f k) * U r (2816 + f) * (sg (U r f) * (1 + U r f * (1 - sg (U r f))))
      = daS (M 5) W1 (D r) (U r) f := rfl
theorem daS_fold' (M W1 D U : ℕ → ℕ → ℝ) (r f : ℕ) :
    (∑ k ∈ Finset.range 1024, M 5 k * D r k * W1 (1536 + f) k) * U r (4352 + f)
        * (sg (U r (1536 + f)) * (1 + U r (1536 + f) * (1 - sg (U r (1536 + f)))))
      = daS (M 5) W1 (D r) (U r) (1536 + f) := by
  rw [← daS_fold, show 2816 + (1536 + f) = 4352 + f by omega]
theorem dbS_fold (M W1 D U : ℕ → ℕ → ℝ) (r f : ℕ) :
    (∑ k ∈ Finset.range 1024, M 5 k * D r k * W1 f k) * (U r f * sg (U r f)) = dbS (M 5) W1 (D r) (U r) f := rfl

end Cert.Bffn
end
-- ==== Proof.Bffn.Points.lean ====
/-
  What one grid point leaves in each window and scratch buffer, over the reals.
-/
module

public import proofs.«01_k».proof.Proof.Gen.KernelIdeal.Value
public import proofs.«01_k».proof.Proof.Bffn.Pay
public import proofs.«01_k».proof.Proof.Bffn.Spec
public import Idealize.ShloMosaic.Lib.Tactic

@[expose] public section

set_option maxRecDepth 16384
noncomputable section
open scoped BigOperators
namespace Cert.KernelIdeal.Bffn
open Cert.KernelIdeal Cert.KernelIdeal.Gen Idealize.ShloMosaic Idealize.ShloMosaic.TcCoe Idealize.SL.Sem Cert.Lift Cert.Bffn

set_option maxHeartbeats 1000000

/-- The payloads, each at real arrays. -/
def pays := And.intro @pay1_eq <| And.intro @pay2_eq <| And.intro @pay3_eq <| And.intro @pay5_eq <| And.intro @pay6_eq <| And.intro @pay7_eq <| And.intro @pay8_eq <| And.intro @pay9_eq <| And.intro @pay10_eq <| And.intro @pay11_eq <| And.intro @pay12_eq <| And.intro @pay13_eq <| And.intro @pay14_eq <| And.intro @pay15_eq <| And.intro @pay16_eq <| And.intro @pay17_eq <| And.intro @pay18_eq <| And.intro @pay19_eq <| And.intro @pay20_eq <| And.intro @pay21_eq <| And.intro @pay22_eq <| And.intro @pay23_eq <| And.intro @pay24_eq <| And.intro @pay25_eq <| And.intro @pay26_eq <| And.intro @pay27_eq @pay28_eq

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S8x1024 .f32) (harg4 : arg4.IsWhole) (arg5 : Memref sig .tc .vmem S8x1024 .f32) (harg5 : arg5.IsWhole) (arg8 : Memref sig .tc .vmem S256x1024 .f32) (harg8 : arg8.IsWhole) (arg9 : Memref sig .tc .vmem S256x1024 .bf16) (harg9 : arg9.IsWhole) (arg10 : Memref sig .tc .vmem S256x5632 .bf16) (harg10 : arg10.IsWhole) (arg11 : Memref sig .tc .vmem S8x1024 .f32) (harg11 : arg11.IsWhole) (arg12 : Memref sig .tc .vmem S5632x1024 .bf16) (harg12 : arg12.IsWhole) (arg13 : Memref sig .tc .vmem S2816x1024 .bf16) (harg13 : arg13.IsWhole)

theorem out0_A_5_eq (hc0 : cond0_0 i)
    (fh0 : HbBuf0 (F := Ideal) c hbM0_0) (fh1 : HbBuf0 (F := Ideal) c hbM0_1) (D X U M P W0 W1 : ℕ → ℕ → ℝ) (x4 : (⟨2, ![8, 1024]⟩ : Shape).Idx → EReal) (hx4 : RowIs x4 1 (P 1)) (hf0 : View.read (Elt Ideal) (View.whole main_v9) fh0 = up2 W0) (hf1 : View.read (Elt Ideal) (View.whole main_v11) fh1 = up2 W1) :
    out0_A_5 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 fh0 fh1 = up2 fun r j => dx1S (M 5) (M 4) (P 1) W0 W1 (D r) (X r) (U r) j := by
  unfold out0_A_5
  rw [View.read_writes_eq_canon _ _ _ (by intro y; apply cover0_A_5)]
  unfold kernelRun0_A
  dsimp only
  sl_unfold_words
  simp only [View.readAt_eq_ld, Memref.IsWhole.read_unread]
  try simp only [readCov_whole, ReadAs.apply_same, hf0, hf1]
  rw [View.canon_unit_zero hz]
  simp only [ld_row (P := P) hx4, ld_up2_f32, ld_up2_bf16, zero_add, Nat.zero_add, Nat.add_zero, pays]
  simp only [daS_fold M W1 D U, daS_fold' M W1 D U, dbS_fold M W1 D U, dhS_chunks]
  rfl

theorem out0_B_5_eq (hc0 : ¬cond0_0 i)
    (fh0 : HbBuf0 (F := Ideal) c hbM0_0) (fh1 : HbBuf0 (F := Ideal) c hbM0_1) (D X U M P W0 W1 S : ℕ → ℕ → ℝ) (x4 : (⟨2, ![8, 1024]⟩ : Shape).Idx → EReal) (hx4 : RowIs x4 1 (P 1)) :
    out0_B_5 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 (up2 S) (up2 W0) (up2 W1) fh0 fh1 = up2 fun r j => dx1S (M 5) (M 4) (P 1) W0 W1 (D r) (X r) (U r) j := by
  unfold out0_B_5
  rw [View.read_writes_eq_canon _ _ _ (by intro y; apply cover0_B_5)]
  unfold kernelRun0_B
  dsimp only
  sl_unfold_words
  simp only [View.readAt_eq_ld, Memref.IsWhole.read_unread]
  rw [View.canon_unit_zero hz]
  simp only [ld_row (P := P) hx4, ld_up2_f32, ld_up2_bf16, zero_add, Nat.zero_add, Nat.add_zero, pays]
  simp only [daS_fold M W1 D U, daS_fold' M W1 D U, dbS_fold M W1 D U, dhS_chunks]
  rfl

theorem out0_A_6_eq (hc0 : cond0_0 i)
    (fh0 : HbBuf0 (F := Ideal) c hbM0_0) (fh1 : HbBuf0 (F := Ideal) c hbM0_1) (D X U M P W0 W1 : ℕ → ℕ → ℝ) (x4 : (⟨2, ![8, 1024]⟩ : Shape).Idx → EReal) (hx4 : RowIs x4 1 (P 1)) (hf0 : View.read (Elt Ideal) (View.whole main_v9) fh0 = up2 W0) (hf1 : View.read (Elt Ideal) (View.whole main_v11) fh1 = up2 W1) :
    out0_A_6 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 fh0 fh1 = up2 fun r j => M 5 j * D r j := by
  unfold out0_A_6
  rw [View.read_writes_eq_canon _ _ _ (by intro y; apply cover0_A_6)]
  unfold kernelRun0_A
  dsimp only
  sl_unfold_words
  simp only [View.readAt_eq_ld, Memref.IsWhole.read_unread]
  try simp only [readCov_whole, ReadAs.apply_same, hf0, hf1]
  rw [View.canon_unit_zero hz]
  simp only [ld_row (P := P) hx4, ld_up2_f32, ld_up2_bf16, zero_add, Nat.zero_add, Nat.add_zero, pays]

theorem out0_B_6_eq (hc0 : ¬cond0_0 i)
    (fh0 : HbBuf0 (F := Ideal) c hbM0_0) (fh1 : HbBuf0 (F := Ideal) c hbM0_1) (D X U M P W0 W1 S : ℕ → ℕ → ℝ) (x4 : (⟨2, ![8, 1024]⟩ : Shape).Idx → EReal) (hx4 : RowIs x4 1 (P 1)) :
    out0_B_6 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 (up2 S) (up2 W0) (up2 W1) fh0 fh1 = up2 fun r j => M 5 j * D r j := by
  unfold out0_B_6
  rw [View.read_writes_eq_canon _ _ _ (by intro y; apply cover0_B_6)]
  unfold kernelRun0_B
  dsimp only
  sl_unfold_words
  simp only [View.readAt_eq_ld, Memref.IsWhole.read_unread]
  rw [View.canon_unit_zero hz]
  simp only [ld_row (P := P) hx4, ld_up2_f32, ld_up2_bf16, zero_add, Nat.zero_add, Nat.add_zero, pays]

theorem out0_A_7_eq (hc0 : cond0_0 i)
    (fh0 : HbBuf0 (F := Ideal) c hbM0_0) (fh1 : HbBuf0 (F := Ideal) c hbM0_1) (D X U M P W0 W1 : ℕ → ℕ → ℝ) (x4 : (⟨2, ![8, 1024]⟩ : Shape).Idx → EReal) (hx4 : RowIs x4 1 (P 1)) (hf0 : View.read (Elt Ideal) (View.whole main_v9) fh0 = up2 W0) (hf1 : View.read (Elt Ideal) (View.whole main_v11) fh1 = up2 W1) :
    out0_A_7 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 fh0 fh1 = up2 fun r f => dabS (M 5) W1 (D r) (U r) f := by
  unfold out0_A_7
  rw [View.read_writes_eq_canon _ _ _ (by intro y; apply cover0_A_7)]
  rw [canon_of_pieces (Val := Elt Ideal) (up2 fun r f => dabS (M 5) W1 (D r) (U r) f) _ ?_ (by intro y; apply cover0_A_7)]
  unfold kernelRun0_A
  dsimp only
  sl_unfold_words
  simp only [View.readAt_eq_ld, Memref.IsWhole.read_unread]
  try simp only [readCov_whole, ReadAs.apply_same, hf0, hf1]
  simp only [ld_row (P := P) hx4, ld_up2_f32, ld_up2_bf16, zero_add, Nat.zero_add, Nat.add_zero, pays, List.forall_mem_cons, List.not_mem_nil, false_imp_iff, implies_true, and_true]
  simp only [daS_fold M W1 D U, daS_fold' M W1 D U, dbS_fold M W1 D U]
  refine ⟨?_, ?_, ?_, ?_⟩
  · exact up2_congr fun r f _ hf => by rw [dabS, if_neg (by omega), show 4352 + f - 2816 = 1536 + f by omega]
  · exact up2_congr fun r f _ hf => by rw [dabS, if_pos (by omega)]
  · exact up2_congr fun r f _ hf => by rw [dabS, if_neg (by omega), show 2816 + f - 2816 = f by omega]
  · exact up2_congr fun r f _ hf => by rw [dabS, if_pos (by omega)]

theorem out0_B_7_eq (hc0 : ¬cond0_0 i)
    (fh0 : HbBuf0 (F := Ideal) c hbM0_0) (fh1 : HbBuf0 (F := Ideal) c hbM0_1) (D X U M P W0 W1 S : ℕ → ℕ → ℝ) (x4 : (⟨2, ![8, 1024]⟩ : Shape).Idx → EReal) (hx4 : RowIs x4 1 (P 1)) :
    out0_B_7 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 (up2 S) (up2 W0) (up2 W1) fh0 fh1 = up2 fun r f => dabS (M 5) W1 (D r) (U r) f := by
  unfold out0_B_7
  rw [View.read_writes_eq_canon _ _ _ (by intro y; apply cover0_B_7)]
  rw [canon_of_pieces (Val := Elt Ideal) (up2 fun r f => dabS (M 5) W1 (D r) (U r) f) _ ?_ (by intro y; apply cover0_B_7)]
  unfold kernelRun0_B
  dsimp only
  sl_unfold_words
  simp only [View.readAt_eq_ld, Memref.IsWhole.read_unread]
  simp only [ld_row (P := P) hx4, ld_up2_f32, ld_up2_bf16, zero_add, Nat.zero_add, Nat.add_zero, pays, List.forall_mem_cons, List.not_mem_nil, false_imp_iff, implies_true, and_true]
  simp only [daS_fold M W1 D U, daS_fold' M W1 D U, dbS_fold M W1 D U]
  refine ⟨?_, ?_, ?_, ?_⟩
  · exact up2_congr fun r f _ hf => by rw [dabS, if_neg (by omega), show 4352 + f - 2816 = 1536 + f by omega]
  · exact up2_congr fun r f _ hf => by rw [dabS, if_pos (by omega)]
  · exact up2_congr fun r f _ hf => by rw [dabS, if_neg (by omega), show 2816 + f - 2816 = f by omega]
  · exact up2_congr fun r f _ hf => by rw [dabS, if_pos (by omega)]

theorem out0_A_8_eq (hc0 : cond0_0 i)
    (fh0 : HbBuf0 (F := Ideal) c hbM0_0) (fh1 : HbBuf0 (F := Ideal) c hbM0_1) (D X U M P W0 W1 : ℕ → ℕ → ℝ) (x4 : (⟨2, ![8, 1024]⟩ : Shape).Idx → EReal) (hx4 : RowIs x4 1 (P 1)) (hf0 : View.read (Elt Ideal) (View.whole main_v9) fh0 = up2 W0) (hf1 : View.read (Elt Ideal) (View.whole main_v11) fh1 = up2 W1) :
    out0_A_8 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 fh0 fh1 = up2 (sumsStep (M 5) (M 4) (P 1) W0 W1 D X U fun _ _ => 0) := by
  unfold out0_A_8
  rw [View.read_writes_eq_canon _ _ _ (by intro y; apply cover0_A_8)]
  unfold kernelRun0_A
  dsimp only
  sl_unfold_words
  simp only [View.readAt_eq_ld, Memref.IsWhole.read_unread]
  try simp only [readCov_whole, ReadAs.apply_same, hf0, hf1]
  simp (disch := first | rfl | decide) only [View.readCov_skip, View.readCov_fill, pay4_eq]
  simp only [ld_row (P := P) hx4, ld_up2_f32, ld_up2_bf16, zero_add, Nat.zero_add, Nat.add_zero, pays]
  simp only [daS_fold M W1 D U, daS_fold' M W1 D U, dbS_fold M W1 D U, dhS_chunks]
  refine canon_over _ [_] [_, _, _] ?_ ?_
  · simp only [ld_row (P := P) hx4, ld_up2_f32, List.forall_mem_cons, List.not_mem_nil, false_imp_iff, implies_true, and_true]
    refine ⟨?_, ?_, ?_⟩
    · exact up2_congr fun r j hr _ => by
        obtain rfl : r = 0 := by omega
        simp [sumsStep, rms]
    · exact up2_congr fun r j hr _ => by
        obtain rfl : r = 0 := by omega
        simp [sumsStep, rms]
    · exact up2_congr fun r j hr _ => by
        obtain rfl : r = 0 := by omega
        simp [sumsStep, rms]
  · intro y hy
    simp only [List.forall_mem_cons, List.not_mem_nil, false_imp_iff, implies_true, and_true] at hy
    have h1 := mem_row hy.1
    have h2 := mem_row hy.2.1
    have h3 := mem_row hy.2.2
    rw [View.canon_unit_zero hz]
    show _ = ((sumsStep _ _ _ _ _ _ _ _ _ (y 0).val (y 1).val : ℝ) : EReal)
    rw [sumsStep, if_neg h3, if_neg h2, if_neg h1]
    rfl

theorem out0_B_8_eq (hc0 : ¬cond0_0 i)
    (fh0 : HbBuf0 (F := Ideal) c hbM0_0) (fh1 : HbBuf0 (F := Ideal) c hbM0_1) (D X U M P W0 W1 S : ℕ → ℕ → ℝ) (x4 : (⟨2, ![8, 1024]⟩ : Shape).Idx → EReal) (hx4 : RowIs x4 1 (P 1)) :
    out0_B_8 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 (up2 S) (up2 W0) (up2 W1) fh0 fh1 = up2 (sumsStep (M 5) (M 4) (P 1) W0 W1 D X U S) := by
  unfold out0_B_8
  unfold kernelRun0_B
  dsimp only
  sl_unfold_words
  simp only [View.readAt_eq_ld, Memref.IsWhole.read_unread]
  simp only [ld_row (P := P) hx4, ld_up2_f32, ld_up2_bf16, zero_add, Nat.zero_add, Nat.add_zero, pays]
  simp only [daS_fold M W1 D U, daS_fold' M W1 D U, dbS_fold M W1 D U, dhS_chunks]
  refine read_writes_of_pieces _ _ _ _ ?_ ?_
  · simp only [ld_row (P := P) hx4, ld_up2_f32, List.forall_mem_cons, List.not_mem_nil, false_imp_iff, implies_true, and_true]
    refine ⟨?_, ?_, ?_⟩
    · exact up2_congr fun r j hr _ => by
        obtain rfl : r = 0 := by omega
        simp [sumsStep, rms]
    · exact up2_congr fun r j hr _ => by
        obtain rfl : r = 0 := by omega
        simp [sumsStep, rms]
    · exact up2_congr fun r j hr _ => by
        obtain rfl : r = 0 := by omega
        simp [sumsStep, rms]
  · intro y hy
    simp only [List.forall_mem_cons, List.not_mem_nil, false_imp_iff, implies_true, and_true] at hy
    have h1 := mem_row hy.1
    have h2 := mem_row hy.2.1
    have h3 := mem_row hy.2.2
    rw [harg11.read_unread]
    show _ = ((sumsStep _ _ _ _ _ _ _ _ _ (y 0).val (y 1).val : ℝ) : EReal)
    rw [sumsStep, if_neg h3, if_neg h2, if_neg h1]
    rfl

theorem sout0_A_0_eq (hc0 : cond0_0 i)
    (fh0 : HbBuf0 (F := Ideal) c hbM0_0) (fh1 : HbBuf0 (F := Ideal) c hbM0_1) (D X U M P W0 W1 : ℕ → ℕ → ℝ) (x4 : (⟨2, ![8, 1024]⟩ : Shape).Idx → EReal) (hx4 : RowIs x4 1 (P 1)) (hf0 : View.read (Elt Ideal) (View.whole main_v9) fh0 = up2 W0) (hf1 : View.read (Elt Ideal) (View.whole main_v11) fh1 = up2 W1) :
    sout0_A_0 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 fh0 fh1 = up2 W0 := by
  unfold sout0_A_0
  rw [View.read_writes_eq_canon _ _ _ (by intro y; apply scover0_A_0)]
  unfold kernelRun0_A
  dsimp only
  sl_unfold_words
  simp only [View.readAt_eq_ld, Memref.IsWhole.read_unread]
  rw [canon_whole]
  exact hf0

theorem sout0_A_1_eq (hc0 : cond0_0 i)
    (fh0 : HbBuf0 (F := Ideal) c hbM0_0) (fh1 : HbBuf0 (F := Ideal) c hbM0_1) (D X U M P W0 W1 : ℕ → ℕ → ℝ) (x4 : (⟨2, ![8, 1024]⟩ : Shape).Idx → EReal) (hx4 : RowIs x4 1 (P 1)) (hf0 : View.read (Elt Ideal) (View.whole main_v9) fh0 = up2 W0) (hf1 : View.read (Elt Ideal) (View.whole main_v11) fh1 = up2 W1) :
    sout0_A_1 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 fh0 fh1 = up2 W1 := by
  unfold sout0_A_1
  rw [View.read_writes_eq_canon _ _ _ (by intro y; apply scover0_A_1)]
  unfold kernelRun0_A
  dsimp only
  sl_unfold_words
  simp only [View.readAt_eq_ld, Memref.IsWhole.read_unread]
  rw [canon_whole]
  exact hf1

theorem sout0_B_0_eq (hc0 : ¬cond0_0 i)
    (fh0 : HbBuf0 (F := Ideal) c hbM0_0) (fh1 : HbBuf0 (F := Ideal) c hbM0_1) (D X U M P W0 W1 S : ℕ → ℕ → ℝ) (x4 : (⟨2, ![8, 1024]⟩ : Shape).Idx → EReal) (hx4 : RowIs x4 1 (P 1)) :
    sout0_B_0 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 (up2 S) (up2 W0) (up2 W1) fh0 fh1 = up2 W0 := by
  rfl

theorem sout0_B_1_eq (hc0 : ¬cond0_0 i)
    (fh0 : HbBuf0 (F := Ideal) c hbM0_0) (fh1 : HbBuf0 (F := Ideal) c hbM0_1) (D X U M P W0 W1 S : ℕ → ℕ → ℝ) (x4 : (⟨2, ![8, 1024]⟩ : Shape).Idx → EReal) (hx4 : RowIs x4 1 (P 1)) :
    sout0_B_1 (F := Ideal) c i arg1 harg1 arg2 harg2 arg3 harg3 arg4 harg4 arg5 harg5 arg8 harg8 arg9 harg9 arg10 harg10 arg11 harg11 arg12 harg12 arg13 harg13 hc0 (up2 D) (up2 X) (up2 U) (up2 M) x4 (up2 S) (up2 W0) (up2 W1) fh0 fh1 = up2 W1 := by
  rfl

end Cert.KernelIdeal.Bffn
end
-- ==== Proof.Bffn.Outs.lean ====
module

public import proofs.«01_k».proof.Proof.Bffn.Points

@[expose] public section
noncomputable section

namespace Cert.KernelIdeal.Bffn

open Cert.KernelIdeal Cert.KernelIdeal.Gen Cert.KernelIdeal.Value Cert.Lift Cert.Bffn
open Idealize.ShloMosaic Idealize.ShloMosaic.TcCoe Idealize.SL.Sem

set_option maxHeartbeats 1000000

/-! ## The sums after each point -/

/-- Block `n` of 256 rows. -/
def rows (n : ℕ) (A : ℕ → ℕ → ℝ) (r : ℕ) : ℕ → ℝ := A (256 * n + r)

/-- The three running sums after point `n`. -/
def sumsAt (D X U M P W0 W1 : ℕ → ℕ → ℝ) : ℕ → ℕ → ℕ → ℝ
  | 0 => sumsStep (M 5) (M 4) (P 1) W0 W1 (rows 0 D) (rows 0 X) (rows 0 U) fun _ _ => 0
  | n + 1 => sumsStep (M 5) (M 4) (P 1) W0 W1 (rows (n + 1) D) (rows (n + 1) X) (rows (n + 1) U) (sumsAt D X U M P W0 W1 n)

/-- The three sums over the first `T` rows. -/
def sumsTo (T : ℕ) (D X U M P W0 W1 : ℕ → ℕ → ℝ) (i j : ℕ) : ℝ :=
  if i = 0 then ∑ r ∈ Finset.range T, dhS (M 5) W0 W1 (D r) (U r) j
  else if i = 1 then (∑ r ∈ Finset.range T, dhS (M 5) W0 W1 (D r) (U r) j * (X r j * rms (X r))) * P 1 j
  else if i = 2 then (∑ r ∈ Finset.range T, dhS (M 5) W0 W1 (D r) (U r) j * (X r j * rms (X r))) * (1 + M 4 j)
  else 0

theorem sumsAt_eq (D X U M P W0 W1 : ℕ → ℕ → ℝ) (n i j : ℕ) :
    sumsAt D X U M P W0 W1 n i j = sumsTo (256 * n + 256) D X U M P W0 W1 i j := by
  induction n generalizing i j with
  | zero =>
    simp only [sumsAt, sumsStep, sumsTo, rows, Nat.mul_zero, Nat.zero_add, zero_add]
  | succ n ih =>
    simp only [sumsAt, sumsStep, ih, sumsTo, show 256 * (n + 1) + 256 = (256 * n + 256) + 256 by omega,
      Finset.sum_range_add _ (256 * n + 256) 256, rows, show 256 * (n + 1) = 256 * n + 256 by omega]
    rcases i with _ | _ | _ | i
    · rfl
    · simp only [Nat.zero_add, one_ne_zero, if_false, if_true]; ring
    · simp; ring
    · simp

variable (m : (ℓ : Loc nD τ sig) → Buf (Elt Ideal) ℓ) (c : Dev nD)
variable {D X U M P W0 W1 : ℕ → ℕ → ℝ}

/-! ## The blocks each point reads -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

theorem blk0 (h : V m c main_v35 = up2 D) (t : Fin cfg0.N) : iblk m c 0 t = up2 (rows t.val D) := by
  funext y
  blk_simp [iblk]
  show V m c main_v35 _ = _
  rw [h]
  unfold up2
  blk_simp
  rw [(idx0 t).1, (idx0 t).2]
  simp only [Nat.zero_mul, Nat.zero_add]
  rw [rows, Nat.mul_comm]

theorem blk1 (h : V m c main_v0 = up2 X) (t : Fin cfg0.N) : iblk m c 1 t = up2 (rows t.val X) := by
  funext y
  blk_simp [iblk]
  show V m c main_v0 _ = _
  rw [h]
  unfold up2
  blk_simp
  rw [(idx1 t).1, (idx1 t).2]
  simp only [Nat.zero_mul, Nat.zero_add]
  rw [rows, Nat.mul_comm]

theorem blk2 (h : V m c main_v34 = up2 U) (t : Fin cfg0.N) : iblk m c 2 t = up2 (rows t.val U) := by
  funext y
  blk_simp [iblk]
  show V m c main_v34 _ = _
  rw [h]
  unfold up2
  blk_simp
  rw [(idx2 t).1, (idx2 t).2]
  simp only [Nat.zero_mul, Nat.zero_add]
  rw [rows, Nat.mul_comm]

theorem blk3 (h : V m c main_v3 = up2 M) (t : Fin cfg0.N) : iblk m c 3 t = up2 (M) := by
  funext y
  blk_simp [iblk]
  show V m c main_v3 _ = _
  rw [h]
  unfold up2
  blk_simp
  rw [(idx3 t).1, (idx3 t).2]
  simp only [Nat.zero_mul, Nat.zero_add]

theorem blk4 (h : RowIs (V m c main_v6) 1 (P 1)) (t : Fin cfg0.N) : RowIs (iblk m c 4 t) 1 (P 1) := by
  intro y hy
  blk_simp [iblk]
  show V m c main_v6 _ = _
  refine (h _ ?_).trans ?_
  · blk_simp
    rw [(idx4 t).1, Nat.zero_mul, Nat.zero_add, hy]
  · blk_simp
    rw [(idx4 t).2, Nat.zero_mul, Nat.zero_add]

/-! ## The running contents -/

/-- What the buffers that survive a point hold after point `n`. -/
theorem outs (hD : V m c main_v35 = up2 D) (hX : V m c main_v0 = up2 X) (hU : V m c main_v34 = up2 U)
    (hM : V m c main_v3 = up2 M) (hP : RowIs (V m c main_v6) 1 (P 1)) (h0 : V m c main_v9 = up2 W0) (h1 : V m c main_v11 = up2 W1)
    (n : ℕ) (hn : n < cfg0.N) : outsAt0 m c n hn =
      (up2 fun r j => dx1S (M 5) (M 4) (P 1) W0 W1 (rows n D r) (rows n X r) (rows n U r) j,
       up2 fun r j => M 5 j * rows n D r j,
       up2 fun r f => dabS (M 5) W1 (rows n D r) (rows n U r) f,
       up2 (sumsAt D X U M P W0 W1 n), up2 W0, up2 W1) := by
  induction n with
  | zero =>
    rw [outsAt0_A m c ⟨0, hn⟩ rfl, blk0 m c hD, blk1 m c hX, blk2 m c hU, blk3 m c hM]
    have g0 : View.read (Elt Ideal) (View.whole main_v9) (V m c main_v9) = up2 W0 := h0
    have g1 : View.read (Elt Ideal) (View.whole main_v11) (V m c main_v11) = up2 W1 := h1
    simp only [out0_A_5_eq (fh0 := V m c main_v9) (fh1 := V m c main_v11) (hf0 := g0) (hf1 := g1) (P := P) (hx4 := blk4 m c hP ⟨0, hn⟩), out0_A_6_eq (fh0 := V m c main_v9) (fh1 := V m c main_v11) (hf0 := g0) (hf1 := g1) (P := P) (hx4 := blk4 m c hP ⟨0, hn⟩), out0_A_7_eq (fh0 := V m c main_v9) (fh1 := V m c main_v11) (hf0 := g0) (hf1 := g1) (P := P) (hx4 := blk4 m c hP ⟨0, hn⟩), out0_A_8_eq (fh0 := V m c main_v9) (fh1 := V m c main_v11) (hf0 := g0) (hf1 := g1) (P := P) (hx4 := blk4 m c hP ⟨0, hn⟩), sout0_A_0_eq (fh0 := V m c main_v9) (fh1 := V m c main_v11) (hf0 := g0) (hf1 := g1) (P := P) (hx4 := blk4 m c hP ⟨0, hn⟩), sout0_A_1_eq (fh0 := V m c main_v9) (fh1 := V m c main_v11) (hf0 := g0) (hf1 := g1) (P := P) (hx4 := blk4 m c hP ⟨0, hn⟩)]
    rfl
  | succ n ih =>
    have hN : n + 1 < 32 := hn
    rw [outsAt0_B m c ⟨n + 1, hn⟩ (by show ¬(n + 1) % 32 = 0; omega), blk0 m c hD, blk1 m c hX, blk2 m c hU, blk3 m c hM]
    simp only [Nat.add_sub_cancel]
    simp only [ih]
    simp only [out0_B_5_eq (P := P) (hx4 := blk4 m c hP ⟨n + 1, hn⟩), out0_B_6_eq (P := P) (hx4 := blk4 m c hP ⟨n + 1, hn⟩), out0_B_7_eq (P := P) (hx4 := blk4 m c hP ⟨n + 1, hn⟩), out0_B_8_eq (P := P) (hx4 := blk4 m c hP ⟨n + 1, hn⟩), sout0_B_0_eq (P := P) (hx4 := blk4 m c hP ⟨n + 1, hn⟩), sout0_B_1_eq (P := P) (hx4 := blk4 m c hP ⟨n + 1, hn⟩)]
    rfl

end Cert.KernelIdeal.Bffn
end
end
-- ==== Proof.Bffn.Final.lean ====
/-
  The four results of the launch, over the reals.
-/
module

public import proofs.«01_k».proof.Proof.Bffn.Outs

@[expose] public section
noncomputable section

namespace Cert.KernelIdeal.Bffn

open Cert.KernelIdeal Cert.KernelIdeal.Gen Cert.KernelIdeal.Value Cert.Lift Cert.Bffn
open Idealize.ShloMosaic Idealize.ShloMosaic.TcCoe Idealize.SL.Sem

variable (m : (ℓ : Loc nD τ sig) → Buf (Elt Ideal) ℓ) (c : Dev nD)
variable {D X U M P W0 W1 : ℕ → ℕ → ℝ}

theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem last8 : ∀ t : Fin cfg0.N, (cfg0.win 8).flush t = true → t.val = 31 ∧ win0_8.index t 0 = 0 ∧ win0_8.index t 1 = 0 :=
  (by decide +kernel : ∀ t : Fin grid0.N, win0_8.flush t = true → t.val = 31 ∧ win0_8.index t 0 = 0 ∧ win0_8.index t 1 = 0)

/-! ## The four results -/

theorem final5 (hD : V m c main_v35 = up2 D) (hX : V m c main_v0 = up2 X) (hU : V m c main_v34 = up2 U)
    (hM : V m c main_v3 = up2 M) (hP : RowIs (V m c main_v6) 1 (P 1)) (h0 : V m c main_v9 = up2 W0) (h1 : V m c main_v11 = up2 W1) :
    (dats m 0 c).arrAt 5 cfg0.N = (up2 fun r j => dx1S (M 5) (M 4) (P 1) W0 W1 (D r) (X r) (U r) j) := by
  refine (dats m 0 c).arrAt_eq_of_covers 5 _ (by decide +kernel) fun t hf y => ?_
  blk_simp
  rw [after0_5, outs m c hD hX hU hM hP h0 h1]
  unfold up2
  blk_simp
  rw [(idx5 t).1, (idx5 t).2]
  simp only [rows, Nat.zero_mul, Nat.zero_add, Nat.mul_comm]

theorem final6 (hD : V m c main_v35 = up2 D) (hX : V m c main_v0 = up2 X) (hU : V m c main_v34 = up2 U)
    (hM : V m c main_v3 = up2 M) (hP : RowIs (V m c main_v6) 1 (P 1)) (h0 : V m c main_v9 = up2 W0) (h1 : V m c main_v11 = up2 W1) :
    (dats m 0 c).arrAt 6 cfg0.N = (up2 fun r j => M 5 j * D r j) := by
  refine (dats m 0 c).arrAt_eq_of_covers 6 _ (by decide +kernel) fun t hf y => ?_
  blk_simp
  rw [after0_6, outs m c hD hX hU hM hP h0 h1]
  unfold up2
  blk_simp
  rw [(idx6 t).1, (idx6 t).2]
  simp only [rows, Nat.zero_mul, Nat.zero_add, Nat.mul_comm]

theorem final7 (hD : V m c main_v35 = up2 D) (hX : V m c main_v0 = up2 X) (hU : V m c main_v34 = up2 U)
    (hM : V m c main_v3 = up2 M) (hP : RowIs (V m c main_v6) 1 (P 1)) (h0 : V m c main_v9 = up2 W0) (h1 : V m c main_v11 = up2 W1) :
    (dats m 0 c).arrAt 7 cfg0.N = (up2 fun r f => dabS (M 5) W1 (D r) (U r) f) := by
  refine (dats m 0 c).arrAt_eq_of_covers 7 _ (by decide +kernel) fun t hf y => ?_
  blk_simp
  rw [after0_7, outs m c hD hX hU hM hP h0 h1]
  unfold up2
  blk_simp
  rw [(idx7 t).1, (idx7 t).2]
  simp only [rows, Nat.zero_mul, Nat.zero_add, Nat.mul_comm]

theorem final8 (hD : V m c main_v35 = up2 D) (hX : V m c main_v0 = up2 X) (hU : V m c main_v34 = up2 U)
    (hM : V m c main_v3 = up2 M) (hP : RowIs (V m c main_v6) 1 (P 1)) (h0 : V m c main_v9 = up2 W0) (h1 : V m c main_v11 = up2 W1) :
    (dats m 0 c).arrAt 8 cfg0.N = (up2 (sumsTo 8192 D X U M P W0 W1)) := by
  refine (dats m 0 c).arrAt_eq_of_covers 8 _ (by decide +kernel) fun t hf y => ?_
  blk_simp
  rw [after0_8, outs m c hD hX hU hM hP h0 h1]
  unfold up2
  blk_simp
  rw [(last8 t hf).1, (last8 t hf).2.1, (last8 t hf).2.2]
  simp only [sumsAt_eq, Nat.zero_mul, Nat.zero_add]

end Cert.KernelIdeal.Bffn
end
end
-- ==== Proof.Bffn.Ref.lean ====
/-
  The reference, one operation at a time, over the reals.
-/
module

public import proofs.«01_k».proof.Proof.Gen.ReferenceIdeal.Read
public import proofs.«01_k».proof.Proof.Lib.Lift

@[expose] public section

noncomputable section
open scoped BigOperators
namespace Cert.Bffn.Ref
open Cert.ReferenceIdeal Cert.ReferenceIdeal.Gen Cert.ReferenceIdeal.Read Idealize.ShloMosaic Idealize.ShloMosaic.TcCoe Idealize.SL.Sem Cert.Lift

/-- The arguments, as arrays of reals. -/
structure Args where
  x0 : ℕ → ℕ → ℕ → ℝ
  x1 : ℕ → ℕ → ℝ
  x3 : ℕ → ℕ → ℝ
  x8 : ℕ → ℕ → ℕ → ℝ
  x9 : ℕ → ℕ → ℕ → ℝ
  x10 : ℕ → ℕ → ℕ → ℝ

def main_v0 (A : Args) (a0 a1 a2 : ℕ) : ℝ := A.x1 0 a2
theorem s_main_v0 (A : Args) : val_main_v0 (F := Ideal) (up2 A.x1) = up3 (main_v0 A) := by
  funext i; rw [val_main_v0_apply]; rfl

def main_v1 (A : Args) (a0 a1 a2 : ℕ) : ℝ := main_v0 A a0 a1 a2
theorem s_main_v1 (A : Args) : val_main_v1 (F := Ideal) (up2 A.x1) = up3 (main_v1 A) := by
  funext i; rw [val_main_v1_apply, s_main_v0 A]; rfl

def main_v2 (A : Args) (a0 a1 a2 : ℕ) : ℝ := main_v0 A a0 a1 (1024 + a2)
theorem s_main_v2 (A : Args) : val_main_v2 (F := Ideal) (up2 A.x1) = up3 (main_v2 A) := by
  funext i; rw [val_main_v2_apply, s_main_v0 A]; rfl

def main_v3 (A : Args) (a0 a1 a2 : ℕ) : ℝ := main_v0 A a0 a1 (2048 + a2)
theorem s_main_v3 (A : Args) : val_main_v3 (F := Ideal) (up2 A.x1) = up3 (main_v3 A) := by
  funext i; rw [val_main_v3_apply, s_main_v0 A]; rfl

def main_v4 (A : Args) (a0 a1 a2 : ℕ) : ℝ := main_v0 A a0 a1 (3072 + a2)
theorem s_main_v4 (A : Args) : val_main_v4 (F := Ideal) (up2 A.x1) = up3 (main_v4 A) := by
  funext i; rw [val_main_v4_apply, s_main_v0 A]; rfl

def main_v5 (A : Args) (a0 a1 a2 : ℕ) : ℝ := main_v0 A a0 a1 (4096 + a2)
theorem s_main_v5 (A : Args) : val_main_v5 (F := Ideal) (up2 A.x1) = up3 (main_v5 A) := by
  funext i; rw [val_main_v5_apply, s_main_v0 A]; rfl

def main_v6 (A : Args) (a0 a1 a2 : ℕ) : ℝ := main_v0 A a0 a1 (5120 + a2)
theorem s_main_v6 (A : Args) : val_main_v6 (F := Ideal) (up2 A.x1) = up3 (main_v6 A) := by
  funext i; rw [val_main_v6_apply, s_main_v0 A]; rfl

def main_cst (A : Args) : ℝ := 0
theorem s_main_cst (A : Args) (i : S_.Idx) : val_main_cst (F := Ideal) i = ((main_cst A : ℝ) : EReal) := zero_f32

def main_v7 (A : Args) (a0 a1 a2 : ℕ) : ℝ := main_cst A
theorem s_main_v7 (A : Args) : val_main_v7 (F := Ideal) = up3 (main_v7 A) := by
  funext i; rw [val_main_v7_apply]; exact s_main_cst A _

def main_cst_0 (A : Args) : ℝ := 0
theorem s_main_cst_0 (A : Args) (i : S_.Idx) : val_main_cst_0 (F := Ideal) i = ((main_cst_0 A : ℝ) : EReal) := zero_f32

def main_v8 (A : Args) (a0 a1 a2 : ℕ) : ℝ := main_cst_0 A
theorem s_main_v8 (A : Args) : val_main_v8 (F := Ideal) = up3 (main_v8 A) := by
  funext i; rw [val_main_v8_apply]; exact s_main_cst_0 A _

def main_v9 (A : Args) (a0 : ℕ) : ℝ := A.x3 0 a0
theorem s_main_v9 (A : Args) : val_main_v9 (F := Ideal) (up2 A.x3) = up1 (main_v9 A) := by
  funext i; rw [val_main_v9_apply]
  have h0 : (i 0).val < 1024 := (i 0).isLt
  show ((A.x3 (0) (((i 0).val) % 1024) : ℝ) : EReal) = ((A.x3 (0) ((i 0).val) : ℝ) : EReal)
  rw [show ((i 0).val) % 1024 = (i 0).val by omega]

def main_v10 (A : Args) (a0 a1 a2 : ℕ) : ℝ := A.x0 a0 a1 a2 * A.x0 a0 a1 a2
theorem s_main_v10 (A : Args) : val_main_v10 (F := Ideal) (up3 A.x0) = up3 (main_v10 A) := by
  funext i; rw [val_main_v10_apply]; exact (EReal.coe_mul _ _).symm

def main_cst_1 (A : Args) : ℝ := 0
theorem s_main_cst_1 (A : Args) (i : S_.Idx) : val_main_cst_1 (F := Ideal) i = ((main_cst_1 A : ℝ) : EReal) := zero_f32

def main_v11 (A : Args) (a0 a1 : ℕ) : ℝ := main_cst_1 A + ∑ k ∈ Finset.range 1024, main_v10 A a0 a1 k
theorem s_main_v11 (A : Args) : val_main_v11 (F := Ideal) (up3 A.x0) = up2 (main_v11 A) := by
  funext i; rw [val_main_v11_apply, s_main_v10 A, s_main_cst_1 A]
  refine Eq.trans (congrArg _ (Eq.trans (Finset.sum_congr rfl fun k _ => ?_) (coe_sum_fin 1024 fun k => main_v10 A (i 0).val (i 1).val k))) (EReal.coe_add _ _).symm
  rfl

def main_v12 (A : Args) (a0 a1 a2 : ℕ) : ℝ := main_v11 A 0 a1
theorem s_main_v12 (A : Args) : val_main_v12 (F := Ideal) (up3 A.x0) = up3 (main_v12 A) := by
  funext i; rw [val_main_v12_apply, s_main_v11 A]; rfl

def main_cst_2 (A : Args) : ℝ := 1024
theorem s_main_cst_2 (A : Args) (i : S_.Idx) : val_main_cst_2 (F := Ideal) i = ((main_cst_2 A : ℝ) : EReal) := k1024_f32

def main_v13 (A : Args) (a0 a1 a2 : ℕ) : ℝ := main_cst_2 A
theorem s_main_v13 (A : Args) : val_main_v13 (F := Ideal) = up3 (main_v13 A) := by
  funext i; rw [val_main_v13_apply]; exact s_main_cst_2 A _

def main_v14 (A : Args) (a0 a1 a2 : ℕ) : ℝ := main_v12 A a0 a1 a2 / main_v13 A a0 a1 a2
theorem s_main_v14 (A : Args) : val_main_v14 (F := Ideal) (up3 A.x0) = up3 (main_v14 A) := by
  funext i; rw [val_main_v14_apply, s_main_v12 A, s_main_v13 A]
  exact div_real _ _ (by show (1024:ℝ) ≠ 0; norm_num)

def main_cst_3 (A : Args) : ℝ := eps
theorem s_main_cst_3 (A : Args) (i : S_.Idx) : val_main_cst_3 (F := Ideal) i = ((main_cst_3 A : ℝ) : EReal) := eps_f32

def main_v15 (A : Args) (a0 a1 a2 : ℕ) : ℝ := main_cst_3 A
theorem s_main_v15 (A : Args) : val_main_v15 (F := Ideal) = up3 (main_v15 A) := by
  funext i; rw [val_main_v15_apply]; exact s_main_cst_3 A _

def main_v16 (A : Args) (a0 a1 a2 : ℕ) : ℝ := main_v14 A a0 a1 a2 + main_v15 A a0 a1 a2
theorem s_main_v16 (A : Args) : val_main_v16 (F := Ideal) (up3 A.x0) = up3 (main_v16 A) := by
  funext i; rw [val_main_v16_apply, s_main_v14 A, s_main_v15 A]; exact (EReal.coe_add _ _).symm

theorem v16_pos (A : Args) (a0 a1 a2 : ℕ) : 0 < main_v16 A a0 a1 a2 := by
  show 0 < (0 + ∑ k ∈ Finset.range 1024, A.x0 0 a1 k * A.x0 0 a1 k) / 1024 + eps
  rw [zero_add]; exact ms_pos _

def main_v17 (A : Args) (a0 a1 a2 : ℕ) : ℝ := (√(main_v16 A a0 a1 a2))⁻¹
theorem s_main_v17 (A : Args) : val_main_v17 (F := Ideal) (up3 A.x0) = up3 (main_v17 A) := by
  funext i; rw [val_main_v17_apply, s_main_v16 A]
  have hp := v16_pos A (i 0).val (i 1).val (i 2).val
  refine (Ideal.rsqrt_coe _).trans ?_
  rw [if_neg (not_lt.2 hp.le), if_neg hp.ne']; rfl

def main_v18 (A : Args) (a0 a1 a2 : ℕ) : ℝ := main_v17 A a0 a1 a2 / main_v16 A a0 a1 a2
theorem s_main_v18 (A : Args) : val_main_v18 (F := Ideal) (up3 A.x0) = up3 (main_v18 A) := by
  funext i; rw [val_main_v18_apply, s_main_v17 A, s_main_v16 A]
  exact div_real _ _ ((v16_pos A _ _ _).ne')

def main_cst_4 (A : Args) : ℝ := (-(1/2))
theorem s_main_cst_4 (A : Args) (i : S_.Idx) : val_main_cst_4 (F := Ideal) i = ((main_cst_4 A : ℝ) : EReal) := neg_half_f32

def main_v19 (A : Args) (a0 a1 a2 : ℕ) : ℝ := main_cst_4 A
theorem s_main_v19 (A : Args) : val_main_v19 (F := Ideal) = up3 (main_v19 A) := by
  funext i; rw [val_main_v19_apply]; exact s_main_cst_4 A _

def main_v20 (A : Args) (a0 a1 a2 : ℕ) : ℝ := main_v19 A a0 a1 a2 * main_v18 A a0 a1 a2
theorem s_main_v20 (A : Args) : val_main_v20 (F := Ideal) (up3 A.x0) = up3 (main_v20 A) := by
  funext i; rw [val_main_v20_apply, s_main_v19 A, s_main_v18 A]; exact (EReal.coe_mul _ _).symm

def main_v21 (A : Args) (a0 a1 a2 : ℕ) : ℝ := main_v17 A 0 a1 0
theorem s_main_v21 (A : Args) : val_main_v21 (F := Ideal) (up3 A.x0) = up3 (main_v21 A) := by
  funext i; rw [val_main_v21_apply, s_main_v17 A]; rfl

def main_v22 (A : Args) (a0 a1 a2 : ℕ) : ℝ := A.x0 a0 a1 a2 * main_v21 A a0 a1 a2
theorem s_main_v22 (A : Args) : val_main_v22 (F := Ideal) (up3 A.x0) = up3 (main_v22 A) := by
  funext i; rw [val_main_v22_apply, s_main_v21 A]; exact (EReal.coe_mul _ _).symm

def main_v23 (A : Args) (a0 a1 a2 : ℕ) : ℝ := main_v9 A a2
theorem s_main_v23 (A : Args) : val_main_v23 (F := Ideal) (up2 A.x3) = up3 (main_v23 A) := by
  funext i; rw [val_main_v23_apply, s_main_v9 A]; rfl

def main_v24 (A : Args) (a0 a1 a2 : ℕ) : ℝ := main_v23 A 0 0 a2
theorem s_main_v24 (A : Args) : val_main_v24 (F := Ideal) (up2 A.x3) = up3 (main_v24 A) := by
  funext i; rw [val_main_v24_apply, s_main_v23 A]; rfl

def main_v25 (A : Args) (a0 a1 a2 : ℕ) : ℝ := main_v22 A a0 a1 a2 * main_v24 A a0 a1 a2
theorem s_main_v25 (A : Args) : val_main_v25 (F := Ideal) (up3 A.x0) (up2 A.x3) = up3 (main_v25 A) := by
  funext i; rw [val_main_v25_apply, s_main_v22 A, s_main_v24 A]; exact (EReal.coe_mul _ _).symm

def main_cst_5 (A : Args) : ℝ := 1
theorem s_main_cst_5 (A : Args) (i : S_.Idx) : val_main_cst_5 (F := Ideal) i = ((main_cst_5 A : ℝ) : EReal) := one_f32

def main_v26 (A : Args) (a0 a1 a2 : ℕ) : ℝ := main_cst_5 A
theorem s_main_v26 (A : Args) : val_main_v26 (F := Ideal) = up3 (main_v26 A) := by
  funext i; rw [val_main_v26_apply]; exact s_main_cst_5 A _

def main_v27 (A : Args) (a0 a1 a2 : ℕ) : ℝ := main_v26 A a0 a1 a2 + main_v5 A a0 a1 a2
theorem s_main_v27 (A : Args) : val_main_v27 (F := Ideal) (up2 A.x1) = up3 (main_v27 A) := by
  funext i; rw [val_main_v27_apply, s_main_v26 A, s_main_v5 A]; exact (EReal.coe_add _ _).symm

def main_v28 (A : Args) (a0 a1 a2 : ℕ) : ℝ := main_v27 A 0 0 a2
theorem s_main_v28 (A : Args) : val_main_v28 (F := Ideal) (up2 A.x1) = up3 (main_v28 A) := by
  funext i; rw [val_main_v28_apply, s_main_v27 A]; rfl

def main_v29 (A : Args) (a0 a1 a2 : ℕ) : ℝ := main_v25 A a0 a1 a2 * main_v28 A a0 a1 a2
theorem s_main_v29 (A : Args) : val_main_v29 (F := Ideal) (up3 A.x0) (up2 A.x1) (up2 A.x3) = up3 (main_v29 A) := by
  funext i; rw [val_main_v29_apply, s_main_v25 A, s_main_v28 A]; exact (EReal.coe_mul _ _).symm

def main_v30 (A : Args) (a0 a1 a2 : ℕ) : ℝ := main_v4 A 0 0 a2
theorem s_main_v30 (A : Args) : val_main_v30 (F := Ideal) (up2 A.x1) = up3 (main_v30 A) := by
  funext i; rw [val_main_v30_apply, s_main_v4 A]; rfl

def main_v31 (A : Args) (a0 a1 a2 : ℕ) : ℝ := main_v29 A a0 a1 a2 + main_v30 A a0 a1 a2
theorem s_main_v31 (A : Args) : val_main_v31 (F := Ideal) (up3 A.x0) (up2 A.x1) (up2 A.x3) = up3 (main_v31 A) := by
  funext i; rw [val_main_v31_apply, s_main_v29 A, s_main_v30 A]; exact (EReal.coe_add _ _).symm

def main_v32 (A : Args) (a0 a1 : ℕ) : ℝ := A.x8 0 a0 a1
theorem s_main_v32 (A : Args) : val_main_v32 (F := Ideal) (up3 A.x8) = up2 (main_v32 A) := by
  funext i; rw [val_main_v32_apply]
  have h0 : (i 0).val < 1024 := (i 0).isLt
  have h1 : (i 1).val < 5632 := (i 1).isLt
  show ((A.x8 (0) (((i 0).val * 5632 + (i 1).val) / 5632 % 1024) (((i 0).val * 5632 + (i 1).val) % 5632) : ℝ) : EReal) = ((A.x8 (0) ((i 0).val) ((i 1).val) : ℝ) : EReal)
  rw [show ((i 0).val * 5632 + (i 1).val) / 5632 % 1024 = (i 0).val by omega, show ((i 0).val * 5632 + (i 1).val) % 5632 = (i 1).val by omega]

def main_v33 (A : Args) (a0 a1 a2 : ℕ) : ℝ := ∑ k ∈ Finset.range 1024, main_v31 A a0 a1 k * main_v32 A k a2
theorem s_main_v33 (A : Args) : val_main_v33 (F := Ideal) (up3 A.x0) (up2 A.x1) (up2 A.x3) (up3 A.x8) = up3 (main_v33 A) := by
  funext i; rw [val_main_v33_apply, s_main_v31 A, s_main_v32 A]; refine Eq.trans (Finset.sum_congr rfl fun k _ => ?_) (coe_sum_fin 1024 fun k => _)
  exact (EReal.coe_mul _ _).symm

def main_v34 (A : Args) (a0 a1 a2 : ℕ) : ℝ := main_v33 A a0 a1 a2 + main_v7 A a0 a1 a2
theorem s_main_v34 (A : Args) : val_main_v34 (F := Ideal) (up3 A.x0) (up2 A.x1) (up2 A.x3) (up3 A.x8) = up3 (main_v34 A) := by
  funext i; rw [val_main_v34_apply, s_main_v33 A, s_main_v7 A]; exact (EReal.coe_add _ _).symm

def main_v35 (A : Args) (a0 a1 a2 : ℕ) : ℝ := main_v34 A a0 a1 a2
theorem s_main_v35 (A : Args) : val_main_v35 (F := Ideal) (up3 A.x0) (up2 A.x1) (up2 A.x3) (up3 A.x8) = up3 (main_v35 A) := by
  funext i; rw [val_main_v35_apply, s_main_v34 A]; rfl

def main_v36 (A : Args) (a0 a1 a2 : ℕ) : ℝ := main_v34 A a0 a1 (2816 + a2)
theorem s_main_v36 (A : Args) : val_main_v36 (F := Ideal) (up3 A.x0) (up2 A.x1) (up2 A.x3) (up3 A.x8) = up3 (main_v36 A) := by
  funext i; rw [val_main_v36_apply, s_main_v34 A]; rfl

def main_call0_v0 (A : Args) (a0 a1 a2 : ℕ) : ℝ := -main_v35 A a0 a1 a2
theorem s_main_call0_v0 (A : Args) : val_main_call0_v0 (F := Ideal) (up3 A.x0) (up2 A.x1) (up2 A.x3) (up3 A.x8) = up3 (main_call0_v0 A) := by
  funext i; rw [val_main_call0_v0_apply, s_main_v35 A]; exact (EReal.coe_neg _).symm

def main_call0_v1 (A : Args) (a0 a1 a2 : ℕ) : ℝ := Real.exp (main_call0_v0 A a0 a1 a2)
theorem s_main_call0_v1 (A : Args) : val_main_call0_v1 (F := Ideal) (up3 A.x0) (up2 A.x1) (up2 A.x3) (up3 A.x8) = up3 (main_call0_v1 A) := by
  funext i; rw [val_main_call0_v1_apply, s_main_call0_v0 A]; exact Ideal.exp_coe _

def main_call0_cst (A : Args) : ℝ := 1
theorem s_main_call0_cst (A : Args) (i : S_.Idx) : val_main_call0_cst (F := Ideal) i = ((main_call0_cst A : ℝ) : EReal) := one_f32

def main_call0_v2 (A : Args) (a0 a1 a2 : ℕ) : ℝ := main_call0_cst A
theorem s_main_call0_v2 (A : Args) : val_main_call0_v2 (F := Ideal) = up3 (main_call0_v2 A) := by
  funext i; rw [val_main_call0_v2_apply]; exact s_main_call0_cst A _

def main_call0_v3 (A : Args) (a0 a1 a2 : ℕ) : ℝ := main_call0_v2 A a0 a1 a2 + main_call0_v1 A a0 a1 a2
theorem s_main_call0_v3 (A : Args) : val_main_call0_v3 (F := Ideal) (up3 A.x0) (up2 A.x1) (up2 A.x3) (up3 A.x8) = up3 (main_call0_v3 A) := by
  funext i; rw [val_main_call0_v3_apply, s_main_call0_v2 A, s_main_call0_v1 A]; exact (EReal.coe_add _ _).symm

def main_call0_cst_0 (A : Args) : ℝ := 1
theorem s_main_call0_cst_0 (A : Args) (i : S_.Idx) : val_main_call0_cst_0 (F := Ideal) i = ((main_call0_cst_0 A : ℝ) : EReal) := one_f32

def main_call0_v4 (A : Args) (a0 a1 a2 : ℕ) : ℝ := main_call0_cst_0 A
theorem s_main_call0_v4 (A : Args) : val_main_call0_v4 (F := Ideal) = up3 (main_call0_v4 A) := by
  funext i; rw [val_main_call0_v4_apply]; exact s_main_call0_cst_0 A _

def main_v37_2 (A : Args) (a0 a1 a2 : ℕ) : ℝ := main_call0_v4 A a0 a1 a2 / main_call0_v3 A a0 a1 a2
theorem s_main_v37_2 (A : Args) : val_main_v37_2 (F := Ideal) (up3 A.x0) (up2 A.x1) (up2 A.x3) (up3 A.x8) = up3 (main_v37_2 A) := by
  funext i; rw [val_main_v37_2_apply, s_main_call0_v4 A, s_main_call0_v3 A]
  exact div_real _ _ (by show (1:ℝ) + Real.exp _ ≠ 0; positivity)

def main_call0_cst_1 (A : Args) : ℝ := 1
theorem s_main_call0_cst_1 (A : Args) (i : S_.Idx) : val_main_call0_cst_1 (F := Ideal) i = ((main_call0_cst_1 A : ℝ) : EReal) := one_f32

def main_call0_v6 (A : Args) (a0 a1 a2 : ℕ) : ℝ := main_call0_cst_1 A
theorem s_main_call0_v6 (A : Args) : val_main_call0_v6 (F := Ideal) = up3 (main_call0_v6 A) := by
  funext i; rw [val_main_call0_v6_apply]; exact s_main_call0_cst_1 A _

def main_call0_v7 (A : Args) (a0 a1 a2 : ℕ) : ℝ := main_call0_v6 A a0 a1 a2 - main_v37_2 A a0 a1 a2
theorem s_main_call0_v7 (A : Args) : val_main_call0_v7 (F := Ideal) (up3 A.x0) (up2 A.x1) (up2 A.x3) (up3 A.x8) = up3 (main_call0_v7 A) := by
  funext i; rw [val_main_call0_v7_apply, s_main_call0_v6 A, s_main_v37_2 A]; exact (EReal.coe_sub _ _).symm

def main_v37_1 (A : Args) (a0 a1 a2 : ℕ) : ℝ := main_v37_2 A a0 a1 a2 * main_call0_v7 A a0 a1 a2
theorem s_main_v37_1 (A : Args) : val_main_v37_1 (F := Ideal) (up3 A.x0) (up2 A.x1) (up2 A.x3) (up3 A.x8) = up3 (main_v37_1 A) := by
  funext i; rw [val_main_v37_1_apply, s_main_v37_2 A, s_main_call0_v7 A]; exact (EReal.coe_mul _ _).symm

def main_v37_0 (A : Args) (a0 a1 a2 : ℕ) : ℝ := main_v35 A a0 a1 a2 * main_v37_2 A a0 a1 a2
theorem s_main_v37_0 (A : Args) : val_main_v37_0 (F := Ideal) (up3 A.x0) (up2 A.x1) (up2 A.x3) (up3 A.x8) = up3 (main_v37_0 A) := by
  funext i; rw [val_main_v37_0_apply, s_main_v35 A, s_main_v37_2 A]; exact (EReal.coe_mul _ _).symm

def main_v38 (A : Args) (a0 a1 a2 : ℕ) : ℝ := main_v37_0 A a0 a1 a2 * main_v36 A a0 a1 a2
theorem s_main_v38 (A : Args) : val_main_v38 (F := Ideal) (up3 A.x0) (up2 A.x1) (up2 A.x3) (up3 A.x8) = up3 (main_v38 A) := by
  funext i; rw [val_main_v38_apply, s_main_v37_0 A, s_main_v36 A]; exact (EReal.coe_mul _ _).symm

def main_v39 (A : Args) (a0 a1 : ℕ) : ℝ := A.x9 0 a0 a1
theorem s_main_v39 (A : Args) : val_main_v39 (F := Ideal) (up3 A.x9) = up2 (main_v39 A) := by
  funext i; rw [val_main_v39_apply]
  have h0 : (i 0).val < 2816 := (i 0).isLt
  have h1 : (i 1).val < 1024 := (i 1).isLt
  show ((A.x9 (0) (((i 0).val * 1024 + (i 1).val) / 1024 % 2816) (((i 0).val * 1024 + (i 1).val) % 1024) : ℝ) : EReal) = ((A.x9 (0) ((i 0).val) ((i 1).val) : ℝ) : EReal)
  rw [show ((i 0).val * 1024 + (i 1).val) / 1024 % 2816 = (i 0).val by omega, show ((i 0).val * 1024 + (i 1).val) % 1024 = (i 1).val by omega]

def main_v40 (A : Args) (a0 a1 a2 : ℕ) : ℝ := ∑ k ∈ Finset.range 2816, main_v38 A a0 a1 k * main_v39 A k a2
theorem s_main_v40 (A : Args) : val_main_v40 (F := Ideal) (up3 A.x0) (up2 A.x1) (up2 A.x3) (up3 A.x8) (up3 A.x9) = up3 (main_v40 A) := by
  funext i; rw [val_main_v40_apply, s_main_v38 A, s_main_v39 A]; refine Eq.trans (Finset.sum_congr rfl fun k _ => ?_) (coe_sum_fin 2816 fun k => _)
  exact (EReal.coe_mul _ _).symm

def main_v41 (A : Args) (a0 a1 a2 : ℕ) : ℝ := main_v40 A a0 a1 a2 + main_v8 A a0 a1 a2
theorem s_main_v41 (A : Args) : val_main_v41 (F := Ideal) (up3 A.x0) (up2 A.x1) (up2 A.x3) (up3 A.x8) (up3 A.x9) = up3 (main_v41 A) := by
  funext i; rw [val_main_v41_apply, s_main_v40 A, s_main_v8 A]; exact (EReal.coe_add _ _).symm

def main_v42 (A : Args) (a0 a1 a2 : ℕ) : ℝ := main_v6 A 0 0 a2
theorem s_main_v42 (A : Args) : val_main_v42 (F := Ideal) (up2 A.x1) = up3 (main_v42 A) := by
  funext i; rw [val_main_v42_apply, s_main_v6 A]; rfl

def main_v43 (A : Args) (a0 a1 a2 : ℕ) : ℝ := main_v42 A a0 a1 a2 * main_v41 A a0 a1 a2
theorem s_main_v43 (A : Args) : val_main_v43 (F := Ideal) (up3 A.x0) (up2 A.x1) (up2 A.x3) (up3 A.x8) (up3 A.x9) = up3 (main_v43 A) := by
  funext i; rw [val_main_v43_apply, s_main_v42 A, s_main_v41 A]; exact (EReal.coe_mul _ _).symm

def main_v44 (A : Args) (a0 a1 a2 : ℕ) : ℝ := A.x0 a0 a1 a2 + main_v43 A a0 a1 a2
theorem s_main_v44 (A : Args) : val_main_v44 (F := Ideal) (up3 A.x0) (up2 A.x1) (up2 A.x3) (up3 A.x8) (up3 A.x9) = up3 (main_v44 A) := by
  funext i; rw [val_main_v44_apply, s_main_v43 A]; exact (EReal.coe_add _ _).symm

def main_v45 (A : Args) (a0 a1 a2 : ℕ) : ℝ := A.x10 0 a1 a2
theorem s_main_v45 (A : Args) : val_main_v45 (F := Ideal) (up3 A.x10) = up3 (main_v45 A) := by
  funext i; rw [val_main_v45_apply]
  have h0 : (i 0).val < 1 := (i 0).isLt
  have h1 : (i 1).val < 8192 := (i 1).isLt
  have h2 : (i 2).val < 1024 := (i 2).isLt
  show ((A.x10 (0) ((((i 0).val * 8192 + (i 1).val) * 1024 + (i 2).val) / 1024 % 8192) ((((i 0).val * 8192 + (i 1).val) * 1024 + (i 2).val) % 1024) : ℝ) : EReal) = ((A.x10 (0) ((i 1).val) ((i 2).val) : ℝ) : EReal)
  rw [show (((i 0).val * 8192 + (i 1).val) * 1024 + (i 2).val) / 1024 % 8192 = (i 1).val by omega, show (((i 0).val * 8192 + (i 1).val) * 1024 + (i 2).val) % 1024 = (i 2).val by omega]

def main_v46 (A : Args) (a0 a1 a2 : ℕ) : ℝ := main_v6 A 0 0 a2
theorem s_main_v46 (A : Args) : val_main_v46 (F := Ideal) (up2 A.x1) = up3 (main_v46 A) := by
  funext i; rw [val_main_v46_apply, s_main_v6 A]; rfl

def main_v47 (A : Args) (a0 a1 a2 : ℕ) : ℝ := main_v46 A a0 a1 a2 * main_v45 A a0 a1 a2
theorem s_main_v47 (A : Args) : val_main_v47 (F := Ideal) (up2 A.x1) (up3 A.x10) = up3 (main_v47 A) := by
  funext i; rw [val_main_v47_apply, s_main_v46 A, s_main_v45 A]; exact (EReal.coe_mul _ _).symm

def main_v48 (A : Args) (a0 a1 a2 : ℕ) : ℝ := ∑ k ∈ Finset.range 1024, main_v47 A a0 a1 k * main_v39 A a2 k
theorem s_main_v48 (A : Args) : val_main_v48 (F := Ideal) (up2 A.x1) (up3 A.x9) (up3 A.x10) = up3 (main_v48 A) := by
  funext i; rw [val_main_v48_apply, s_main_v47 A, s_main_v39 A]; refine Eq.trans (Finset.sum_congr rfl fun k _ => ?_) (coe_sum_fin 1024 fun k => _)
  exact (EReal.coe_mul _ _).symm

def main_v49 (A : Args) (a0 a1 a2 : ℕ) : ℝ := main_v37_0 A a0 a1 a2 * main_v48 A a0 a1 a2
theorem s_main_v49 (A : Args) : val_main_v49 (F := Ideal) (up3 A.x0) (up2 A.x1) (up2 A.x3) (up3 A.x8) (up3 A.x9) (up3 A.x10) = up3 (main_v49 A) := by
  funext i; rw [val_main_v49_apply, s_main_v37_0 A, s_main_v48 A]; exact (EReal.coe_mul _ _).symm

def main_v50 (A : Args) (a0 a1 a2 : ℕ) : ℝ := main_v48 A a0 a1 a2 * main_v36 A a0 a1 a2
theorem s_main_v50 (A : Args) : val_main_v50 (F := Ideal) (up3 A.x0) (up2 A.x1) (up2 A.x3) (up3 A.x8) (up3 A.x9) (up3 A.x10) = up3 (main_v50 A) := by
  funext i; rw [val_main_v50_apply, s_main_v48 A, s_main_v36 A]; exact (EReal.coe_mul _ _).symm

def main_call1_v0 (A : Args) (a0 a1 a2 : ℕ) : ℝ := main_v35 A a0 a1 a2 * main_v50 A a0 a1 a2
theorem s_main_call1_v0 (A : Args) : val_main_call1_v0 (F := Ideal) (up3 A.x0) (up2 A.x1) (up2 A.x3) (up3 A.x8) (up3 A.x9) (up3 A.x10) = up3 (main_call1_v0 A) := by
  funext i; rw [val_main_call1_v0_apply, s_main_v35 A, s_main_v50 A]; exact (EReal.coe_mul _ _).symm

def main_call1_v1 (A : Args) (a0 a1 a2 : ℕ) : ℝ := main_v50 A a0 a1 a2 * main_v37_2 A a0 a1 a2
theorem s_main_call1_v1 (A : Args) : val_main_call1_v1 (F := Ideal) (up3 A.x0) (up2 A.x1) (up2 A.x3) (up3 A.x8) (up3 A.x9) (up3 A.x10) = up3 (main_call1_v1 A) := by
  funext i; rw [val_main_call1_v1_apply, s_main_v50 A, s_main_v37_2 A]; exact (EReal.coe_mul _ _).symm

def main_call1_v2 (A : Args) (a0 a1 a2 : ℕ) : ℝ := main_call1_v0 A a0 a1 a2 * main_v37_1 A a0 a1 a2
theorem s_main_call1_v2 (A : Args) : val_main_call1_v2 (F := Ideal) (up3 A.x0) (up2 A.x1) (up2 A.x3) (up3 A.x8) (up3 A.x9) (up3 A.x10) = up3 (main_call1_v2 A) := by
  funext i; rw [val_main_call1_v2_apply, s_main_call1_v0 A, s_main_v37_1 A]; exact (EReal.coe_mul _ _).symm

def main_v51 (A : Args) (a0 a1 a2 : ℕ) : ℝ := main_call1_v1 A a0 a1 a2 + main_call1_v2 A a0 a1 a2
theorem s_main_v51 (A : Args) : val_main_v51 (F := Ideal) (up3 A.x0) (up2 A.x1) (up2 A.x3) (up3 A.x8) (up3 A.x9) (up3 A.x10) = up3 (main_v51 A) := by
  funext i; rw [val_main_v51_apply, s_main_call1_v1 A, s_main_call1_v2 A]; exact (EReal.coe_add _ _).symm

def main_v52 (A : Args) (a0 a1 a2 : ℕ) : ℝ := if a2 < 2816 then main_v51 A a0 a1 a2 else main_v49 A a0 a1 (a2 - 2816)
theorem s_main_v52 (A : Args) : val_main_v52 (F := Ideal) (up3 A.x0) (up2 A.x1) (up2 A.x3) (up3 A.x8) (up3 A.x9) (up3 A.x10) = up3 (main_v52 A) := by
  funext i; unfold val_main_v52
  have h0 : (i 0).val < 1 := (i 0).isLt
  have h1 : (i 1).val < 8192 := (i 1).isLt
  have h2 : (i 2).val < 5632 := (i 2).isLt
  rw [s_main_v51 A, s_main_v49 A]
  by_cases c0 : (i 2).val < 2816
  · refine (concatenate_apply_piece _ _ _ i 0 (by simp) S1x8192x2816 _ rfl rfl 0 rfl (fun b => match b with | ⟨0, _⟩ => ⟨(i 0).val, by show _ < 1; omega⟩ | ⟨1, _⟩ => ⟨(i 1).val, by show _ < 8192; omega⟩ | ⟨2, _⟩ => ⟨(i 2).val - 0, by show _ < 2816; omega⟩) ?_ ?_).trans ?_
    · intro b hb; match b with | ⟨0, _⟩ => exact rfl | ⟨1, _⟩ => exact rfl | ⟨2, _⟩ => exact absurd rfl hb
    · show 0 + ((i 2).val - 0) = (i 2).val; omega
    · show ((main_v51 A (i 0).val (i 1).val ((i 2).val - 0) : ℝ) : EReal) = ((main_v52 A (i 0).val (i 1).val (i 2).val : ℝ) : EReal)
      unfold main_v52; simp only [Nat.sub_zero]; rw [if_pos c0]
  refine (concatenate_apply_piece _ _ _ i 1 (by simp) S1x8192x2816 _ rfl rfl 2816 rfl (fun b => match b with | ⟨0, _⟩ => ⟨(i 0).val, by show _ < 1; omega⟩ | ⟨1, _⟩ => ⟨(i 1).val, by show _ < 8192; omega⟩ | ⟨2, _⟩ => ⟨(i 2).val - 2816, by show _ < 2816; omega⟩) ?_ ?_).trans ?_
  · intro b hb; match b with | ⟨0, _⟩ => exact rfl | ⟨1, _⟩ => exact rfl | ⟨2, _⟩ => exact absurd rfl hb
  · show 2816 + ((i 2).val - 2816) = (i 2).val; omega
  · show ((main_v49 A (i 0).val (i 1).val ((i 2).val - 2816) : ℝ) : EReal) = ((main_v52 A (i 0).val (i 1).val (i 2).val : ℝ) : EReal)
    unfold main_v52; rw [if_neg c0]

def main_v53 (A : Args) (a0 a1 a2 : ℕ) : ℝ := ∑ k ∈ Finset.range 5632, main_v52 A a0 a1 k * main_v32 A a2 k
theorem s_main_v53 (A : Args) : val_main_v53 (F := Ideal) (up3 A.x0) (up2 A.x1) (up2 A.x3) (up3 A.x8) (up3 A.x9) (up3 A.x10) = up3 (main_v53 A) := by
  funext i; rw [val_main_v53_apply, s_main_v52 A, s_main_v32 A]; refine Eq.trans (Finset.sum_congr rfl fun k _ => ?_) (coe_sum_fin 5632 fun k => _)
  exact (EReal.coe_mul _ _).symm

def main_cst_6 (A : Args) : ℝ := 0
theorem s_main_cst_6 (A : Args) (i : S_.Idx) : val_main_cst_6 (F := Ideal) i = ((main_cst_6 A : ℝ) : EReal) := zero_f32

def main_v54 (A : Args) (a0 a1 : ℕ) : ℝ := main_cst_6 A + ∑ k ∈ Finset.range 8192, main_v53 A a0 k a1
theorem s_main_v54 (A : Args) : val_main_v54 (F := Ideal) (up3 A.x0) (up2 A.x1) (up2 A.x3) (up3 A.x8) (up3 A.x9) (up3 A.x10) = up2 (main_v54 A) := by
  funext i; rw [val_main_v54_apply, s_main_v53 A, s_main_cst_6 A]
  refine Eq.trans (congrArg _ (Eq.trans (Finset.sum_congr rfl fun k _ => ?_) (coe_sum_fin 8192 fun k => main_v53 A (i 0).val k (i 1).val))) (EReal.coe_add _ _).symm
  rfl

def main_v55 (A : Args) (a0 a1 a2 : ℕ) : ℝ := main_v54 A 0 a2
theorem s_main_v55 (A : Args) : val_main_v55 (F := Ideal) (up3 A.x0) (up2 A.x1) (up2 A.x3) (up3 A.x8) (up3 A.x9) (up3 A.x10) = up3 (main_v55 A) := by
  funext i; rw [val_main_v55_apply, s_main_v54 A]
  have h0 : (i 0).val < 1 := (i 0).isLt
  have h1 : (i 1).val < 1 := (i 1).isLt
  have h2 : (i 2).val < 1024 := (i 2).isLt
  show ((main_v54 A (0) ((((i 0).val * 1 + (i 1).val) * 1024 + (i 2).val) % 1024) : ℝ) : EReal) = ((main_v54 A (0) ((i 2).val) : ℝ) : EReal)
  rw [show (((i 0).val * 1 + (i 1).val) * 1024 + (i 2).val) % 1024 = (i 2).val by omega]

def main_v56 (A : Args) (a0 a1 a2 : ℕ) : ℝ := main_v25 A a0 a1 a2 * main_v53 A a0 a1 a2
theorem s_main_v56 (A : Args) : val_main_v56 (F := Ideal) (up3 A.x0) (up2 A.x1) (up2 A.x3) (up3 A.x8) (up3 A.x9) (up3 A.x10) = up3 (main_v56 A) := by
  funext i; rw [val_main_v56_apply, s_main_v25 A, s_main_v53 A]; exact (EReal.coe_mul _ _).symm

def main_cst_7 (A : Args) : ℝ := 0
theorem s_main_cst_7 (A : Args) (i : S_.Idx) : val_main_cst_7 (F := Ideal) i = ((main_cst_7 A : ℝ) : EReal) := zero_f32

def main_v57 (A : Args) (a0 a1 : ℕ) : ℝ := main_cst_7 A + ∑ k ∈ Finset.range 8192, main_v56 A a0 k a1
theorem s_main_v57 (A : Args) : val_main_v57 (F := Ideal) (up3 A.x0) (up2 A.x1) (up2 A.x3) (up3 A.x8) (up3 A.x9) (up3 A.x10) = up2 (main_v57 A) := by
  funext i; rw [val_main_v57_apply, s_main_v56 A, s_main_cst_7 A]
  refine Eq.trans (congrArg _ (Eq.trans (Finset.sum_congr rfl fun k _ => ?_) (coe_sum_fin 8192 fun k => main_v56 A (i 0).val k (i 1).val))) (EReal.coe_add _ _).symm
  rfl

def main_v58 (A : Args) (a0 a1 a2 : ℕ) : ℝ := main_v57 A 0 a2
theorem s_main_v58 (A : Args) : val_main_v58 (F := Ideal) (up3 A.x0) (up2 A.x1) (up2 A.x3) (up3 A.x8) (up3 A.x9) (up3 A.x10) = up3 (main_v58 A) := by
  funext i; rw [val_main_v58_apply, s_main_v57 A]
  have h0 : (i 0).val < 1 := (i 0).isLt
  have h1 : (i 1).val < 1 := (i 1).isLt
  have h2 : (i 2).val < 1024 := (i 2).isLt
  show ((main_v57 A (0) ((((i 0).val * 1 + (i 1).val) * 1024 + (i 2).val) % 1024) : ℝ) : EReal) = ((main_v57 A (0) ((i 2).val) : ℝ) : EReal)
  rw [show (((i 0).val * 1 + (i 1).val) * 1024 + (i 2).val) % 1024 = (i 2).val by omega]

def main_v59 (A : Args) (a0 a1 a2 : ℕ) : ℝ := main_v27 A 0 0 a2
theorem s_main_v59 (A : Args) : val_main_v59 (F := Ideal) (up2 A.x1) = up3 (main_v59 A) := by
  funext i; rw [val_main_v59_apply, s_main_v27 A]; rfl

def main_v60 (A : Args) (a0 a1 a2 : ℕ) : ℝ := main_v53 A a0 a1 a2 * main_v59 A a0 a1 a2
theorem s_main_v60 (A : Args) : val_main_v60 (F := Ideal) (up3 A.x0) (up2 A.x1) (up2 A.x3) (up3 A.x8) (up3 A.x9) (up3 A.x10) = up3 (main_v60 A) := by
  funext i; rw [val_main_v60_apply, s_main_v53 A, s_main_v59 A]; exact (EReal.coe_mul _ _).symm

def main_v61 (A : Args) (a0 a1 a2 : ℕ) : ℝ := main_v22 A a0 a1 a2 * main_v60 A a0 a1 a2
theorem s_main_v61 (A : Args) : val_main_v61 (F := Ideal) (up3 A.x0) (up2 A.x1) (up2 A.x3) (up3 A.x8) (up3 A.x9) (up3 A.x10) = up3 (main_v61 A) := by
  funext i; rw [val_main_v61_apply, s_main_v22 A, s_main_v60 A]; exact (EReal.coe_mul _ _).symm

def main_cst_8 (A : Args) : ℝ := 0
theorem s_main_cst_8 (A : Args) (i : S_.Idx) : val_main_cst_8 (F := Ideal) i = ((main_cst_8 A : ℝ) : EReal) := zero_f32

def main_v62 (A : Args) (a0 a1 : ℕ) : ℝ := main_cst_8 A + ∑ k ∈ Finset.range 8192, main_v61 A a0 k a1
theorem s_main_v62 (A : Args) : val_main_v62 (F := Ideal) (up3 A.x0) (up2 A.x1) (up2 A.x3) (up3 A.x8) (up3 A.x9) (up3 A.x10) = up2 (main_v62 A) := by
  funext i; rw [val_main_v62_apply, s_main_v61 A, s_main_cst_8 A]
  refine Eq.trans (congrArg _ (Eq.trans (Finset.sum_congr rfl fun k _ => ?_) (coe_sum_fin 8192 fun k => main_v61 A (i 0).val k (i 1).val))) (EReal.coe_add _ _).symm
  rfl

def main_v63 (A : Args) (a0 a1 a2 : ℕ) : ℝ := main_v62 A 0 a2
theorem s_main_v63 (A : Args) : val_main_v63 (F := Ideal) (up3 A.x0) (up2 A.x1) (up2 A.x3) (up3 A.x8) (up3 A.x9) (up3 A.x10) = up3 (main_v63 A) := by
  funext i; rw [val_main_v63_apply, s_main_v62 A]
  have h0 : (i 0).val < 1 := (i 0).isLt
  have h1 : (i 1).val < 1 := (i 1).isLt
  have h2 : (i 2).val < 1024 := (i 2).isLt
  show ((main_v62 A (0) ((((i 0).val * 1 + (i 1).val) * 1024 + (i 2).val) % 1024) : ℝ) : EReal) = ((main_v62 A (0) ((i 2).val) : ℝ) : EReal)
  rw [show (((i 0).val * 1 + (i 1).val) * 1024 + (i 2).val) % 1024 = (i 2).val by omega]

def main_v64 (A : Args) (a0 a1 a2 : ℕ) : ℝ := main_v23 A 0 0 a2
theorem s_main_v64 (A : Args) : val_main_v64 (F := Ideal) (up2 A.x3) = up3 (main_v64 A) := by
  funext i; rw [val_main_v64_apply, s_main_v23 A]; rfl

def main_v65 (A : Args) (a0 a1 a2 : ℕ) : ℝ := main_v60 A a0 a1 a2 * main_v64 A a0 a1 a2
theorem s_main_v65 (A : Args) : val_main_v65 (F := Ideal) (up3 A.x0) (up2 A.x1) (up2 A.x3) (up3 A.x8) (up3 A.x9) (up3 A.x10) = up3 (main_v65 A) := by
  funext i; rw [val_main_v65_apply, s_main_v60 A, s_main_v64 A]; exact (EReal.coe_mul _ _).symm

def main_cst_9 (A : Args) : ℝ := 0
theorem s_main_cst_9 (A : Args) (i : S_.Idx) : val_main_cst_9 (F := Ideal) i = ((main_cst_9 A : ℝ) : EReal) := zero_f32

def main_v66 (A : Args) (a0 : ℕ) : ℝ := main_cst_9 A + main_v63 A 0 0 a0
theorem s_main_v66 (A : Args) : val_main_v66 (F := Ideal) (up3 A.x0) (up2 A.x1) (up2 A.x3) (up3 A.x8) (up3 A.x9) (up3 A.x10) = up1 (main_v66 A) := by
  funext i; unfold val_main_v66; rw [s_main_v63 A]
  have h0 := (i 0).isLt
  refine (reduce_unit _ _ _ i (ValueIdx.ix3 0 0 (i 0)) ?_ ?_).trans ?_
  · funext b; match b with | ⟨0, _⟩ => exact rfl
  · intro k hk; have e : (k 2 : ℕ) = (i 0 : ℕ) := congrArg (fun q => (q 0 : ℕ)) hk
    have q0 : (k 0).val < 1 := (k 0).isLt
    have q1 : (k 1).val < 1 := (k 1).isLt
    have q2 : (k 2).val < 1024 := (k 2).isLt
    funext b; apply Fin.ext; match b with
    | ⟨0, _⟩ => show (k 0).val = 0; omega
    | ⟨1, _⟩ => show (k 1).val = 0; omega
    | ⟨2, _⟩ => exact e
  · rw [s_main_cst_9 A]; exact (EReal.coe_add _ _).symm

def main_v67 (A : Args) (a0 a1 a2 : ℕ) : ℝ := A.x0 a0 a1 a2 * main_v65 A a0 a1 a2
theorem s_main_v67 (A : Args) : val_main_v67 (F := Ideal) (up3 A.x0) (up2 A.x1) (up2 A.x3) (up3 A.x8) (up3 A.x9) (up3 A.x10) = up3 (main_v67 A) := by
  funext i; rw [val_main_v67_apply, s_main_v65 A]; exact (EReal.coe_mul _ _).symm

def main_cst_10 (A : Args) : ℝ := 0
theorem s_main_cst_10 (A : Args) (i : S_.Idx) : val_main_cst_10 (F := Ideal) i = ((main_cst_10 A : ℝ) : EReal) := zero_f32

def main_v68 (A : Args) (a0 a1 : ℕ) : ℝ := main_cst_10 A + ∑ k ∈ Finset.range 1024, main_v67 A a0 a1 k
theorem s_main_v68 (A : Args) : val_main_v68 (F := Ideal) (up3 A.x0) (up2 A.x1) (up2 A.x3) (up3 A.x8) (up3 A.x9) (up3 A.x10) = up2 (main_v68 A) := by
  funext i; rw [val_main_v68_apply, s_main_v67 A, s_main_cst_10 A]
  refine Eq.trans (congrArg _ (Eq.trans (Finset.sum_congr rfl fun k _ => ?_) (coe_sum_fin 1024 fun k => main_v67 A (i 0).val (i 1).val k))) (EReal.coe_add _ _).symm
  rfl

def main_v69 (A : Args) (a0 a1 a2 : ℕ) : ℝ := main_v68 A 0 a1
theorem s_main_v69 (A : Args) : val_main_v69 (F := Ideal) (up3 A.x0) (up2 A.x1) (up2 A.x3) (up3 A.x8) (up3 A.x9) (up3 A.x10) = up3 (main_v69 A) := by
  funext i; rw [val_main_v69_apply, s_main_v68 A]
  have h0 : (i 0).val < 1 := (i 0).isLt
  have h1 : (i 1).val < 8192 := (i 1).isLt
  have h2 : (i 2).val < 1 := (i 2).isLt
  show ((main_v68 A (0) ((((i 0).val * 8192 + (i 1).val) * 1 + (i 2).val) % 8192) : ℝ) : EReal) = ((main_v68 A (0) ((i 1).val) : ℝ) : EReal)
  rw [show (((i 0).val * 8192 + (i 1).val) * 1 + (i 2).val) % 8192 = (i 1).val by omega]

def main_v70 (A : Args) (a0 a1 a2 : ℕ) : ℝ := main_v17 A 0 a1 0
theorem s_main_v70 (A : Args) : val_main_v70 (F := Ideal) (up3 A.x0) = up3 (main_v70 A) := by
  funext i; rw [val_main_v70_apply, s_main_v17 A]; rfl

def main_v71 (A : Args) (a0 a1 a2 : ℕ) : ℝ := main_v65 A a0 a1 a2 * main_v70 A a0 a1 a2
theorem s_main_v71 (A : Args) : val_main_v71 (F := Ideal) (up3 A.x0) (up2 A.x1) (up2 A.x3) (up3 A.x8) (up3 A.x9) (up3 A.x10) = up3 (main_v71 A) := by
  funext i; rw [val_main_v71_apply, s_main_v65 A, s_main_v70 A]; exact (EReal.coe_mul _ _).symm

def main_v72 (A : Args) (a0 a1 a2 : ℕ) : ℝ := A.x10 a0 a1 a2 + main_v71 A a0 a1 a2
theorem s_main_v72 (A : Args) : val_main_v72 (F := Ideal) (up3 A.x0) (up2 A.x1) (up2 A.x3) (up3 A.x8) (up3 A.x9) (up3 A.x10) = up3 (main_v72 A) := by
  funext i; rw [val_main_v72_apply, s_main_v71 A]; exact (EReal.coe_add _ _).symm

def main_v73 (A : Args) (a0 a1 a2 : ℕ) : ℝ := main_v69 A a0 a1 a2 * main_v20 A a0 a1 a2
theorem s_main_v73 (A : Args) : val_main_v73 (F := Ideal) (up3 A.x0) (up2 A.x1) (up2 A.x3) (up3 A.x8) (up3 A.x9) (up3 A.x10) = up3 (main_v73 A) := by
  funext i; rw [val_main_v73_apply, s_main_v69 A, s_main_v20 A]; exact (EReal.coe_mul _ _).symm

def main_cst_11 (A : Args) : ℝ := 1024
theorem s_main_cst_11 (A : Args) (i : S_.Idx) : val_main_cst_11 (F := Ideal) i = ((main_cst_11 A : ℝ) : EReal) := k1024_f32

def main_v74 (A : Args) (a0 a1 a2 : ℕ) : ℝ := main_cst_11 A
theorem s_main_v74 (A : Args) : val_main_v74 (F := Ideal) = up3 (main_v74 A) := by
  funext i; rw [val_main_v74_apply]; exact s_main_cst_11 A _

def main_v75 (A : Args) (a0 a1 a2 : ℕ) : ℝ := main_v73 A a0 a1 a2 / main_v74 A a0 a1 a2
theorem s_main_v75 (A : Args) : val_main_v75 (F := Ideal) (up3 A.x0) (up2 A.x1) (up2 A.x3) (up3 A.x8) (up3 A.x9) (up3 A.x10) = up3 (main_v75 A) := by
  funext i; rw [val_main_v75_apply, s_main_v73 A, s_main_v74 A]
  exact div_real _ _ (by show (1024:ℝ) ≠ 0; norm_num)

def main_cst_12 (A : Args) : ℝ := 0
theorem s_main_cst_12 (A : Args) (i : S_.Idx) : val_main_cst_12 (F := Ideal) i = ((main_cst_12 A : ℝ) : EReal) := zero_f32

def main_v76 (A : Args) (a0 : ℕ) : ℝ := main_cst_12 A + main_v75 A 0 a0 0
theorem s_main_v76 (A : Args) : val_main_v76 (F := Ideal) (up3 A.x0) (up2 A.x1) (up2 A.x3) (up3 A.x8) (up3 A.x9) (up3 A.x10) = up1 (main_v76 A) := by
  funext i; unfold val_main_v76; rw [s_main_v75 A]
  have h0 := (i 0).isLt
  refine (reduce_unit _ _ _ i (ValueIdx.ix3 0 (i 0) 0) ?_ ?_).trans ?_
  · funext b; match b with | ⟨0, _⟩ => exact rfl
  · intro k hk; have e : (k 1 : ℕ) = (i 0 : ℕ) := congrArg (fun q => (q 0 : ℕ)) hk
    have q0 : (k 0).val < 1 := (k 0).isLt
    have q1 : (k 1).val < 8192 := (k 1).isLt
    have q2 : (k 2).val < 1 := (k 2).isLt
    funext b; apply Fin.ext; match b with
    | ⟨0, _⟩ => show (k 0).val = 0; omega
    | ⟨1, _⟩ => exact e
    | ⟨2, _⟩ => show (k 2).val = 0; omega
  · rw [s_main_cst_12 A]; exact (EReal.coe_add _ _).symm

def main_v77 (A : Args) (a0 a1 : ℕ) : ℝ := main_v76 A a1
theorem s_main_v77 (A : Args) : val_main_v77 (F := Ideal) (up3 A.x0) (up2 A.x1) (up2 A.x3) (up3 A.x8) (up3 A.x9) (up3 A.x10) = up2 (main_v77 A) := by
  funext i; rw [val_main_v77_apply, s_main_v76 A]; rfl

def main_v78 (A : Args) (a0 a1 a2 : ℕ) : ℝ := main_v77 A 0 a1
theorem s_main_v78 (A : Args) : val_main_v78 (F := Ideal) (up3 A.x0) (up2 A.x1) (up2 A.x3) (up3 A.x8) (up3 A.x9) (up3 A.x10) = up3 (main_v78 A) := by
  funext i; rw [val_main_v78_apply, s_main_v77 A]; rfl

def main_v79 (A : Args) (a0 a1 a2 : ℕ) : ℝ := A.x0 a0 a1 a2 * main_v78 A a0 a1 a2
theorem s_main_v79 (A : Args) : val_main_v79 (F := Ideal) (up3 A.x0) (up2 A.x1) (up2 A.x3) (up3 A.x8) (up3 A.x9) (up3 A.x10) = up3 (main_v79 A) := by
  funext i; rw [val_main_v79_apply, s_main_v78 A]; exact (EReal.coe_mul _ _).symm

def main_v80 (A : Args) (a0 a1 a2 : ℕ) : ℝ := main_v72 A a0 a1 a2 + main_v79 A a0 a1 a2
theorem s_main_v80 (A : Args) : val_main_v80 (F := Ideal) (up3 A.x0) (up2 A.x1) (up2 A.x3) (up3 A.x8) (up3 A.x9) (up3 A.x10) = up3 (main_v80 A) := by
  funext i; rw [val_main_v80_apply, s_main_v72 A, s_main_v79 A]; exact (EReal.coe_add _ _).symm

def main_v81 (A : Args) (a0 a1 a2 : ℕ) : ℝ := main_v78 A a0 a1 a2 * A.x0 a0 a1 a2
theorem s_main_v81 (A : Args) : val_main_v81 (F := Ideal) (up3 A.x0) (up2 A.x1) (up2 A.x3) (up3 A.x8) (up3 A.x9) (up3 A.x10) = up3 (main_v81 A) := by
  funext i; rw [val_main_v81_apply, s_main_v78 A]; exact (EReal.coe_mul _ _).symm

def main_v82 (A : Args) (a0 a1 a2 : ℕ) : ℝ := main_v80 A a0 a1 a2 + main_v81 A a0 a1 a2
theorem s_main_v82 (A : Args) : val_main_v82 (F := Ideal) (up3 A.x0) (up2 A.x1) (up2 A.x3) (up3 A.x8) (up3 A.x9) (up3 A.x10) = up3 (main_v82 A) := by
  funext i; rw [val_main_v82_apply, s_main_v80 A, s_main_v81 A]; exact (EReal.coe_add _ _).symm

def main_v83 (A : Args) (a0 a1 : ℕ) : ℝ := main_v55 A 0 0 a1
theorem s_main_v83 (A : Args) : val_main_v83 (F := Ideal) (up3 A.x0) (up2 A.x1) (up2 A.x3) (up3 A.x8) (up3 A.x9) (up3 A.x10) = up2 (main_v83 A) := by
  funext i; rw [val_main_v83_apply, s_main_v55 A]
  have h0 : (i 0).val < 1 := (i 0).isLt
  have h1 : (i 1).val < 1024 := (i 1).isLt
  show ((main_v55 A (0) (0) (((i 0).val * 1024 + (i 1).val) % 1024) : ℝ) : EReal) = ((main_v55 A (0) (0) ((i 1).val) : ℝ) : EReal)
  rw [show ((i 0).val * 1024 + (i 1).val) % 1024 = (i 1).val by omega]

def main_v84 (A : Args) (a0 a1 : ℕ) : ℝ := main_v58 A 0 0 a1
theorem s_main_v84 (A : Args) : val_main_v84 (F := Ideal) (up3 A.x0) (up2 A.x1) (up2 A.x3) (up3 A.x8) (up3 A.x9) (up3 A.x10) = up2 (main_v84 A) := by
  funext i; rw [val_main_v84_apply, s_main_v58 A]
  have h0 : (i 0).val < 1 := (i 0).isLt
  have h1 : (i 1).val < 1024 := (i 1).isLt
  show ((main_v58 A (0) (0) (((i 0).val * 1024 + (i 1).val) % 1024) : ℝ) : EReal) = ((main_v58 A (0) (0) ((i 1).val) : ℝ) : EReal)
  rw [show ((i 0).val * 1024 + (i 1).val) % 1024 = (i 1).val by omega]

def main_v85 (A : Args) (a0 a1 : ℕ) : ℝ := main_v66 A a1
theorem s_main_v85 (A : Args) : val_main_v85 (F := Ideal) (up3 A.x0) (up2 A.x1) (up2 A.x3) (up3 A.x8) (up3 A.x9) (up3 A.x10) = up2 (main_v85 A) := by
  funext i; rw [val_main_v85_apply, s_main_v66 A]; rfl

def main_cst_13 (A : Args) : ℝ := 0
theorem s_main_cst_13 (A : Args) (i : S_.Idx) : val_main_cst_13 (F := Ideal) i = ((main_cst_13 A : ℝ) : EReal) := zero_f32

def main_v86 (A : Args) (a0 a1 : ℕ) : ℝ := main_cst_13 A
theorem s_main_v86 (A : Args) : val_main_v86 (F := Ideal) = up2 (main_v86 A) := by
  funext i; rw [val_main_v86_apply]; exact s_main_cst_13 A _

def main_v87 (A : Args) (a0 a1 : ℕ) : ℝ := if a0 < 1 then main_v83 A a0 a1 else if a0 < 2 then main_v84 A (a0 - 1) a1 else if a0 < 3 then main_v85 A (a0 - 2) a1 else main_v86 A (a0 - 3) a1
theorem s_main_v87 (A : Args) : val_main_v87 (F := Ideal) (up3 A.x0) (up2 A.x1) (up2 A.x3) (up3 A.x8) (up3 A.x9) (up3 A.x10) = up2 (main_v87 A) := by
  funext i; unfold val_main_v87
  have h0 : (i 0).val < 8 := (i 0).isLt
  have h1 : (i 1).val < 1024 := (i 1).isLt
  rw [s_main_v83 A, s_main_v84 A, s_main_v85 A, s_main_v86 A]
  by_cases c0 : (i 0).val < 1
  · refine (concatenate_apply_piece _ _ _ i 0 (by simp) S1x1024 _ rfl rfl 0 rfl (fun b => match b with | ⟨0, _⟩ => ⟨(i 0).val - 0, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 0 + ((i 0).val - 0) = (i 0).val; omega
    · show ((main_v83 A ((i 0).val - 0) (i 1).val : ℝ) : EReal) = ((main_v87 A (i 0).val (i 1).val : ℝ) : EReal)
      unfold main_v87; simp only [Nat.sub_zero]; rw [if_pos c0]
  by_cases c1 : (i 0).val < 2
  · refine (concatenate_apply_piece _ _ _ i 1 (by simp) S1x1024 _ rfl rfl 1 rfl (fun b => match b with | ⟨0, _⟩ => ⟨(i 0).val - 1, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 1 + ((i 0).val - 1) = (i 0).val; omega
    · show ((main_v84 A ((i 0).val - 1) (i 1).val : ℝ) : EReal) = ((main_v87 A (i 0).val (i 1).val : ℝ) : EReal)
      unfold main_v87; rw [if_neg c0, if_pos c1]
  by_cases c2 : (i 0).val < 3
  · refine (concatenate_apply_piece _ _ _ i 2 (by simp) S1x1024 _ rfl rfl 2 rfl (fun b => match b with | ⟨0, _⟩ => ⟨(i 0).val - 2, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 2 + ((i 0).val - 2) = (i 0).val; omega
    · show ((main_v85 A ((i 0).val - 2) (i 1).val : ℝ) : EReal) = ((main_v87 A (i 0).val (i 1).val : ℝ) : EReal)
      unfold main_v87; rw [if_neg c0, if_neg c1, if_pos c2]
  refine (concatenate_apply_piece _ _ _ i 3 (by simp) S5x1024 _ rfl rfl 3 rfl (fun b => match b with | ⟨0, _⟩ => ⟨(i 0).val - 3, by show _ < 5; omega⟩ | ⟨1, _⟩ => ⟨(i 1).val, by show _ < 1024; omega⟩) ?_ ?_).trans ?_
  · intro b hb; match b with | ⟨0, _⟩ => exact absurd rfl hb | ⟨1, _⟩ => exact rfl
  · show 3 + ((i 0).val - 3) = (i 0).val; omega
  · show ((main_v86 A ((i 0).val - 3) (i 1).val : ℝ) : EReal) = ((main_v87 A (i 0).val (i 1).val : ℝ) : EReal)
    unfold main_v87; rw [if_neg c0, if_neg c1, if_neg c2]

def main_v88 (A : Args) (a0 a1 : ℕ) : ℝ := main_v82 A 0 a0 a1
theorem s_main_v88 (A : Args) : val_main_v88 (F := Ideal) (up3 A.x0) (up2 A.x1) (up2 A.x3) (up3 A.x8) (up3 A.x9) (up3 A.x10) = up2 (main_v88 A) := by
  funext i; rw [val_main_v88_apply, s_main_v82 A]
  have h0 : (i 0).val < 8192 := (i 0).isLt
  have h1 : (i 1).val < 1024 := (i 1).isLt
  show ((main_v82 A (0) (((i 0).val * 1024 + (i 1).val) / 1024 % 8192) (((i 0).val * 1024 + (i 1).val) % 1024) : ℝ) : EReal) = ((main_v82 A (0) ((i 0).val) ((i 1).val) : ℝ) : EReal)
  rw [show ((i 0).val * 1024 + (i 1).val) / 1024 % 8192 = (i 0).val by omega, show ((i 0).val * 1024 + (i 1).val) % 1024 = (i 1).val by omega]

def main_v89 (A : Args) (a0 a1 : ℕ) : ℝ := main_v47 A 0 a0 a1
theorem s_main_v89 (A : Args) : val_main_v89 (F := Ideal) (up2 A.x1) (up3 A.x10) = up2 (main_v89 A) := by
  funext i; rw [val_main_v89_apply, s_main_v47 A]
  have h0 : (i 0).val < 8192 := (i 0).isLt
  have h1 : (i 1).val < 1024 := (i 1).isLt
  show ((main_v47 A (0) (((i 0).val * 1024 + (i 1).val) / 1024 % 8192) (((i 0).val * 1024 + (i 1).val) % 1024) : ℝ) : EReal) = ((main_v47 A (0) ((i 0).val) ((i 1).val) : ℝ) : EReal)
  rw [show ((i 0).val * 1024 + (i 1).val) / 1024 % 8192 = (i 0).val by omega, show ((i 0).val * 1024 + (i 1).val) % 1024 = (i 1).val by omega]

def main_v90 (A : Args) (a0 a1 : ℕ) : ℝ := main_v89 A a0 a1
theorem s_main_v90 (A : Args) : val_main_v90 (F := Ideal) (up2 A.x1) (up3 A.x10) = up2 (main_v90 A) := by
  funext i; rw [val_main_v90_apply, s_main_v89 A]; rfl

def main_v91 (A : Args) (a0 a1 : ℕ) : ℝ := main_v52 A 0 a0 a1
theorem s_main_v91 (A : Args) : val_main_v91 (F := Ideal) (up3 A.x0) (up2 A.x1) (up2 A.x3) (up3 A.x8) (up3 A.x9) (up3 A.x10) = up2 (main_v91 A) := by
  funext i; rw [val_main_v91_apply, s_main_v52 A]
  have h0 : (i 0).val < 8192 := (i 0).isLt
  have h1 : (i 1).val < 5632 := (i 1).isLt
  show ((main_v52 A (0) (((i 0).val * 5632 + (i 1).val) / 5632 % 8192) (((i 0).val * 5632 + (i 1).val) % 5632) : ℝ) : EReal) = ((main_v52 A (0) ((i 0).val) ((i 1).val) : ℝ) : EReal)
  rw [show ((i 0).val * 5632 + (i 1).val) / 5632 % 8192 = (i 0).val by omega, show ((i 0).val * 5632 + (i 1).val) % 5632 = (i 1).val by omega]

def main_v92 (A : Args) (a0 a1 : ℕ) : ℝ := main_v91 A a0 a1
theorem s_main_v92 (A : Args) : val_main_v92 (F := Ideal) (up3 A.x0) (up2 A.x1) (up2 A.x3) (up3 A.x8) (up3 A.x9) (up3 A.x10) = up2 (main_v92 A) := by
  funext i; rw [val_main_v92_apply, s_main_v91 A]; rfl

end Cert.Bffn.Ref
end
end
-- ==== Proof.Bffn.RefSpec.lean ====
/-
  The reference's results are the gradient of the feed-forward block, row by row.
-/
module

public import proofs.«01_k».proof.Proof.Bffn.Ref
public import proofs.«01_k».proof.Proof.Bffn.Spec

@[expose] public section

noncomputable section
open scoped BigOperators
namespace Cert.Bffn.Ref
open Cert.Lift Cert.Bffn

variable (A : Args)

/-- The modulation, one row to each of its six parts. -/
def M (i j : ℕ) : ℝ := if i < 6 then A.x1 0 (1024 * i + j) else 0
def P (i j : ℕ) : ℝ := A.x3 0 j
def D (r j : ℕ) : ℝ := A.x10 0 r j
def X (r j : ℕ) : ℝ := A.x0 0 r j
def W0 (f j : ℕ) : ℝ := A.x8 0 j f
def W1 (f k : ℕ) : ℝ := A.x9 0 f k
/-- The modulated norm. -/
def H (r j : ℕ) : ℝ := X A r j * rms (X A r) * P A 1 j * (1 + M A 4 j) + M A 3 j
/-- The pre-activations. -/
def U (r f : ℕ) : ℝ := ∑ j ∈ Finset.range 1024, H A r j * A.x8 0 j f

theorem r_eq (r : ℕ) : main_v17 A 0 r 0 = rms (X A r) := by
  show (√((0 + ∑ k ∈ Finset.range 1024, A.x0 0 r k * A.x0 0 r k) / 1024 + eps))⁻¹ = _
  rw [zero_add]; rfl

theorem u_eq (r f : ℕ) : main_v34 A 0 r f = U A r f := by
  show (∑ k ∈ Finset.range 1024, (A.x0 0 r k * main_v17 A 0 r 0 * A.x3 0 k * (1 + A.x1 0 (4096 + k)) + A.x1 0 (3072 + k)) * A.x8 0 k f) + 0 = _
  rw [r_eq, add_zero]; rfl

theorem sg_eq (r f : ℕ) : main_v37_2 A 0 r f = sg (U A r f) := by
  show 1 / (1 + Real.exp (-(main_v34 A 0 r f))) = _
  rw [u_eq, one_div]; rfl

theorem dact_eq (r f : ℕ) : main_v48 A 0 r f = dactS (M A 5) (W1 A) (D A r) f := rfl

theorem da_eq (r f : ℕ) : main_v51 A 0 r f = daS (M A 5) (W1 A) (D A r) (U A r) f := by
  show main_v48 A 0 r f * main_v34 A 0 r (2816 + f) * main_v37_2 A 0 r f
    + main_v34 A 0 r f * (main_v48 A 0 r f * main_v34 A 0 r (2816 + f)) * (main_v37_2 A 0 r f * (1 - main_v37_2 A 0 r f)) = _
  rw [dact_eq, u_eq, u_eq, sg_eq, daS]; ring

theorem db_eq (r f : ℕ) : main_v49 A 0 r f = dbS (M A 5) (W1 A) (D A r) (U A r) f := by
  show main_v34 A 0 r f * main_v37_2 A 0 r f * main_v48 A 0 r f = _
  rw [dact_eq, u_eq, sg_eq, dbS]; ring

theorem dab_eq (r f : ℕ) : main_v52 A 0 r f = dabS (M A 5) (W1 A) (D A r) (U A r) f := by
  unfold main_v52 dabS; rw [da_eq, db_eq]

theorem dh_eq (r j : ℕ) : main_v53 A 0 r j = dhS (M A 5) (W0 A) (W1 A) (D A r) (U A r) j :=
  Finset.sum_congr rfl fun k _ => by rw [dab_eq]; rfl

theorem dxn_eq (r j : ℕ) : main_v65 A 0 r j = dxnS (M A 5) (M A 4) (P A 1) (W0 A) (W1 A) (D A r) (U A r) j := by
  show main_v53 A 0 r j * (1 + A.x1 0 (4096 + j)) * A.x3 0 j = _
  rw [dh_eq]; unfold dxnS
  rw [show M A 4 j = A.x1 0 (4096 + j) from rfl, show P A 1 j = A.x3 0 j from rfl]; ring

theorem dx1_eq (r j : ℕ) : main_v88 A r j = dx1S (M A 5) (M A 4) (P A 1) (W0 A) (W1 A) (D A r) (X A r) (U A r) j := by
  have hs : main_v68 A 0 r = ∑ k ∈ Finset.range 1024, X A r k * dxnS (M A 5) (M A 4) (P A 1) (W0 A) (W1 A) (D A r) (U A r) k := by
    show 0 + ∑ k ∈ Finset.range 1024, A.x0 0 r k * main_v65 A 0 r k = _
    rw [zero_add]; exact Finset.sum_congr rfl fun k _ => by rw [dxn_eq]; rfl
  have hm : main_v18 A 0 r 0 = rms (X A r) * rms (X A r) * rms (X A r) := by
    rw [← rms_cube]
    show main_v17 A 0 r 0 / ((0 + ∑ k ∈ Finset.range 1024, A.x0 0 r k * A.x0 0 r k) / 1024 + eps) = _
    rw [zero_add, r_eq]; rfl
  have h78 : main_v78 A 0 r j = main_v68 A 0 r * (-(1/2) * main_v18 A 0 r 0) / 1024 := by
    show 0 + main_v68 A 0 r * (-(1/2) * main_v18 A 0 r 0) / 1024 = _
    rw [zero_add]
  show A.x10 0 r j + main_v65 A 0 r j * main_v17 A 0 r 0 + A.x0 0 r j * main_v78 A 0 r j + main_v78 A 0 r j * A.x0 0 r j = _
  rw [h78, hs, hm, r_eq, dxn_eq]
  unfold dx1S
  have e : (∑ k ∈ Finset.range 1024, dxnS (M A 5) (M A 4) (P A 1) (W0 A) (W1 A) (D A r) (U A r) k * (X A r k * rms (X A r)))
      = (∑ k ∈ Finset.range 1024, X A r k * dxnS (M A 5) (M A 4) (P A 1) (W0 A) (W1 A) (D A r) (U A r) k) * rms (X A r) := by
    rw [Finset.sum_mul]; exact Finset.sum_congr rfl fun k _ => by ring
  rw [e, show D A r j = A.x10 0 r j from rfl, show X A r j = A.x0 0 r j from rfl]
  ring

theorem dy_eq (r j : ℕ) : main_v90 A r j = M A 5 j * D A r j := rfl

theorem dab'_eq (r f : ℕ) : main_v92 A r f = dabS (M A 5) (W1 A) (D A r) (U A r) f := dab_eq A r f

theorem sums_eq (i j : ℕ) (hi : i < 8) : main_v87 A i j =
    (if i = 0 then ∑ r ∈ Finset.range 8192, dhS (M A 5) (W0 A) (W1 A) (D A r) (U A r) j
    else if i = 1 then (∑ r ∈ Finset.range 8192, dhS (M A 5) (W0 A) (W1 A) (D A r) (U A r) j * (X A r j * rms (X A r))) * P A 1 j
    else if i = 2 then (∑ r ∈ Finset.range 8192, dhS (M A 5) (W0 A) (W1 A) (D A r) (U A r) j * (X A r j * rms (X A r))) * (1 + M A 4 j)
    else 0) := by
  have h0 : main_v83 A 0 j = ∑ r ∈ Finset.range 8192, dhS (M A 5) (W0 A) (W1 A) (D A r) (U A r) j := by
    show 0 + ∑ k ∈ Finset.range 8192, main_v53 A 0 k j = _
    rw [zero_add]; exact Finset.sum_congr rfl fun k _ => dh_eq A k j
  have h1 : main_v84 A 0 j = (∑ r ∈ Finset.range 8192, dhS (M A 5) (W0 A) (W1 A) (D A r) (U A r) j * (X A r j * rms (X A r))) * P A 1 j := by
    show 0 + ∑ k ∈ Finset.range 8192, A.x0 0 k j * main_v17 A 0 k 0 * A.x3 0 j * main_v53 A 0 k j = _
    rw [zero_add, Finset.sum_mul]; exact Finset.sum_congr rfl fun k _ => by rw [dh_eq, r_eq]; unfold X P; ring
  have h2 : main_v85 A 0 j = (∑ r ∈ Finset.range 8192, dhS (M A 5) (W0 A) (W1 A) (D A r) (U A r) j * (X A r j * rms (X A r))) * (1 + M A 4 j) := by
    show 0 + (0 + ∑ k ∈ Finset.range 8192, A.x0 0 k j * main_v17 A 0 k 0 * (main_v53 A 0 k j * (1 + A.x1 0 (4096 + j)))) = _
    rw [zero_add, zero_add, Finset.sum_mul]
    exact Finset.sum_congr rfl fun k _ => by
      rw [dh_eq, r_eq, show M A 4 j = A.x1 0 (4096 + j) from rfl]; unfold X; ring
  unfold main_v87
  rcases i with _ | _ | _ | i
  · exact h0
  · exact h1
  · exact h2
  · rw [if_neg (by omega), if_neg (by omega), if_neg (by omega), if_neg (by omega), if_neg (by omega), if_neg (by omega)]; rfl

end Cert.Bffn.Ref
end
end
-- ==== Proof.Lib.Finite.lean ====
/-
  An array whose absolute values are all below infinity holds reals.
-/
module

public import proofs.«01_k».proof.Proof.Lib.Lift

@[expose] public section

noncomputable section
namespace Cert.Lift
open Idealize.ShloMosaic

theorem inf_f32 : Ideal.ofBits .f32 0x7F800000#32 = (⊤ : EReal) := by
  simp [Ideal.ofBits, Ideal.ieee]

/-- One comparison against infinity that holds. -/
theorem real_of_lt (x : EReal) (h : Ideal.cmp .olt (max x (-x)) (Ideal.ofBits .f32 0x7F800000#32) = 1#1) : x ≠ ⊤ ∧ x ≠ ⊥ := by
  rw [inf_f32] at h
  constructor
  · rintro rfl
    simp [Ideal.cmp] at h
  · rintro rfl
    simp [Ideal.cmp] at h

theorem finite_of {s : Shape} (x : FVec Ideal s .f32) (b : (⟨0, ![]⟩ : Shape).BroadcastsInDim s ![])
    (h : cmpf .olt (Host.absf x) (broadcastInDim s ![] b (constant (F := Ideal) ⟨0, ![]⟩ .f32 0x7F800000#32)) = fun _ => 1#1) :
    ∀ i, x i ≠ ⊤ ∧ x i ≠ ⊥ := fun i => real_of_lt (x i) (congrFun h i)

end Cert.Lift
end
end
-- ==== Proof.Bffn.Join.lean ====
/-
  The launch's results and the reference's are the same arrays.
-/
module

public import proofs.«01_k».proof.Proof.Bffn.Host
public import proofs.«01_k».proof.Proof.Bffn.Final
public import proofs.«01_k».proof.Proof.Bffn.RefSpec
public import proofs.«01_k».proof.Proof.Lib.Finite
public import proofs.«01_k».proof.Defs

@[expose] public section

set_option maxRecDepth 8192
noncomputable section
open scoped BigOperators
namespace Cert.Bffn.Join
open Cert.KernelIdeal Cert.KernelIdeal.Gen Cert.KernelIdeal.Value Idealize.ShloMosaic Idealize.ShloMosaic.TcCoe Idealize.SL.Sem
open Idealize.ShloMosaic.StableHlo Cert.Lift Cert.Bffn

/-- The launch's arguments from the reference's. -/
def hargs (A : Ref.Args) : Host.Args := ⟨A.x0, A.x1, A.x3, A.x8, A.x9, A.x10⟩

variable (m : (ℓ : Loc nD τ sig) → Buf (Elt Ideal) ℓ) (c : Dev nD) {A : Ref.Args}

theorem hD (h : Host.Holds m c (hargs A)) : V m c main_v35 = up2 (Ref.D A) := Host.k_main_v35 m c h
theorem hX (h : Host.Holds m c (hargs A)) : V m c main_v0 = up2 (Ref.X A) := Host.k_main_v0 m c h
theorem hM (h : Host.Holds m c (hargs A)) : V m c main_v3 = up2 (Ref.M A) := Host.k_main_v3 m c h
theorem h0 (h : Host.Holds m c (hargs A)) : V m c main_v9 = up2 (Ref.W0 A) := Host.k_main_v9 m c h
theorem h1 (h : Host.Holds m c (hargs A)) : V m c main_v11 = up2 (Ref.W1 A) := Host.k_main_v11 m c h
theorem hU (h : Host.Holds m c (hargs A)) : V m c main_v34 = up2 (Ref.U A) := by
  refine (Host.k_main_v34 m c h).trans (congrArg up2 (funext fun r => funext fun f => ?_))
  show (∑ k ∈ Finset.range 1024, (A.x0 0 r k * (√((0 + ∑ j ∈ Finset.range 1024, A.x0 0 r j * A.x0 0 r j) / 1024 + eps))⁻¹ * A.x3 0 k
    * (1 + Ref.M A 4 k) + Ref.M A 3 k) * A.x8 0 k f) = _
  rw [zero_add]; rfl
/-- Of the gains' array the launch reads one row. -/
theorem hP (h : Host.Holds m c (hargs A)) : RowIs (V m c main_v6) 1 (Ref.P A 1) := by
  intro y hy
  have e : V m c main_v6 = _ := (Host.at_line m c (i := 8) main_v6 rfl (by decide)).trans (nary_result ..)
  rw [e]
  refine (concatenate_apply_piece _ _ _ y 1 (by simp) S1x1024 _ rfl rfl 1 rfl (ValueIdx.ix2 0 (y 1)) ?_ ?_).trans ?_
  · intro b hb; match b with | ⟨0, _⟩ => exact absurd rfl hb | ⟨1, _⟩ => exact rfl
  · show 1 + 0 = (y 0).val; omega
  · show upto Host.ops (fun b => m (c, b)) 8 (Proc.devRef .tc main_arg3) _ = _
    rw [Host.settled m c 8 main_arg3 (by decide), Host.k_main_arg3 m c h]; rfl

/-- Finite arguments are reals. -/
theorem exists_args [Cert.Pre_finite.Facts] (h : Cert.Pre_KernelIdeal_finite m) : ∃ A : Ref.Args, Host.Holds m c (hargs A) := by
  obtain ⟨p0, p1, p3, p8, p9, p10⟩ := h c
  obtain ⟨x0, e0⟩ := exists_up3 _ (finite_of _ _ p0)
  obtain ⟨x1, e1⟩ := exists_up2 _ (finite_of _ _ p1)
  obtain ⟨x3, e3⟩ := exists_up2 _ (finite_of _ _ p3)
  obtain ⟨x8, e8⟩ := exists_up3 _ (finite_of _ _ p8)
  obtain ⟨x9, e9⟩ := exists_up3 _ (finite_of _ _ p9)
  obtain ⟨x10, e10⟩ := exists_up3 _ (finite_of _ _ p10)
  exact ⟨⟨x0, x1, x3, x8, x9, x10⟩, e0, e1, e3, e8, e9, e10⟩

theorem res0 (h : Host.Holds m c (hargs A)) : (dats m 0 c).arrAt 5 cfg0.N = up2 (Ref.main_v88 A) :=
  (KernelIdeal.Bffn.final5 m c (hD m c h) (hX m c h) (hU m c h) (hM m c h) (hP m c h) (h0 m c h) (h1 m c h)).trans
    (congrArg up2 (funext fun r => funext fun j => (Ref.dx1_eq A r j).symm))
theorem res1 (h : Host.Holds m c (hargs A)) : (dats m 0 c).arrAt 6 cfg0.N = up2 (Ref.main_v90 A) :=
  (KernelIdeal.Bffn.final6 m c (hD m c h) (hX m c h) (hU m c h) (hM m c h) (hP m c h) (h0 m c h) (h1 m c h)).trans
    (congrArg up2 (funext fun r => funext fun j => (Ref.dy_eq A r j).symm))
theorem res2 (h : Host.Holds m c (hargs A)) : (dats m 0 c).arrAt 7 cfg0.N = up2 (Ref.main_v92 A) :=
  (KernelIdeal.Bffn.final7 m c (hD m c h) (hX m c h) (hU m c h) (hM m c h) (hP m c h) (h0 m c h) (h1 m c h)).trans
    (congrArg up2 (funext fun r => funext fun f => (Ref.dab'_eq A r f).symm))
theorem res3 (h : Host.Holds m c (hargs A)) : (dats m 0 c).arrAt 8 cfg0.N = up2 (Ref.main_v87 A) := by
  refine (KernelIdeal.Bffn.final8 m c (hD m c h) (hX m c h) (hU m c h) (hM m c h) (hP m c h) (h0 m c h) (h1 m c h)).trans ?_
  refine funext fun (i : S8x1024.Idx) => ?_
  exact congrArg (fun r : ℝ => (r : EReal)) (Ref.sums_eq A (i 0).val (i 1).val (i 0).isLt).symm

end Cert.Bffn.Join
end
end
-- ==== Proof.Bin.Host.lean ====
/-
  The arrays the host hands the launch, one operation at a time, over the reals.
-/
module

public import proofs.«01_k».proof.Proof.Gen.Kernel2Ideal.Value
public import proofs.«01_k».proof.Proof.Lib.HostLine

@[expose] public section

set_option maxRecDepth 8192
noncomputable section
open scoped BigOperators
namespace Cert.Bin.Host
open Cert.Kernel2Ideal Cert.Kernel2Ideal.Gen Idealize.ShloMosaic Idealize.ShloMosaic.TcCoe Idealize.SL.Sem Idealize.ShloMosaic.StableHlo Cert.Lift

/-- The arguments, as arrays of reals. -/
structure Args where
  main_arg0 : ℕ → ℕ → ℕ → ℝ
  main_arg1 : ℕ → ℕ → ℝ
  main_arg8 : ℕ → ℕ → ℕ → ℝ
  main_arg9 : ℕ → ℕ → ℕ → ℝ
  main_arg10 : ℕ → ℕ → ℕ → ℝ
  main_arg2 : ℕ → ℕ → ℝ

/-- The launch's arrays are these reals. -/
structure Holds (m : (ℓ : Loc nD τ sig) → Buf (Elt Ideal) ℓ) (c : Dev nD) (A : Args) : Prop where
  main_arg0 : m (c, Proc.devRef .tc Cert.Kernel2Ideal.main_arg0) = up3 A.main_arg0
  main_arg1 : m (c, Proc.devRef .tc Cert.Kernel2Ideal.main_arg1) = up2 A.main_arg1
  main_arg8 : m (c, Proc.devRef .tc Cert.Kernel2Ideal.main_arg8) = up3 A.main_arg8
  main_arg9 : m (c, Proc.devRef .tc Cert.Kernel2Ideal.main_arg9) = up3 A.main_arg9
  main_arg10 : m (c, Proc.devRef .tc Cert.Kernel2Ideal.main_arg10) = up3 A.main_arg10
  main_arg2 : m (c, Proc.devRef .tc Cert.Kernel2Ideal.main_arg2) = up2 A.main_arg2

variable (m : (ℓ : Loc nD τ sig) → Buf (Elt Ideal) ℓ) (c : Dev nD) {A : Args}

abbrev ops : List (HloOp τ sig (Elt Ideal)) := hostOps0

abbrev written : List (Ref sig .tc) := [Cert.Kernel2Ideal.main_v0, Cert.Kernel2Ideal.main_cst, Cert.Kernel2Ideal.main_v1, Cert.Kernel2Ideal.main_v2, Cert.Kernel2Ideal.main_v3, Cert.Kernel2Ideal.main_cst_0, Cert.Kernel2Ideal.main_v4, Cert.Kernel2Ideal.main_v5, Cert.Kernel2Ideal.main_v6, Cert.Kernel2Ideal.main_v7, Cert.Kernel2Ideal.main_v8, Cert.Kernel2Ideal.main_v9, Cert.Kernel2Ideal.main_v10, Cert.Kernel2Ideal.main_v11]
theorem writes_eq : ops.map HloOp.writes = written.map fun w => {Proc.devRef (τ := τ) .tc w} := rfl
/-- A buffer no later line writes is read the same after all lines. -/
theorem settled (i : ℕ) (r : Ref sig .tc) (hr : r ∉ written.drop i) : upto ops (fun b => m (c, b)) i (Proc.devRef .tc r) = V m c r := by
  have hW : (ops.drop i).map HloOp.writes = (written.drop i).map fun w => {Proc.devRef (τ := τ) .tc w} := by
    rw [List.map_drop, writes_eq, List.map_drop]
  refine (?_ : after (ops.take i) (fun b => m (c, b)) (Proc.devRef .tc r) = after ops (fun b => m (c, b)) (Proc.devRef .tc r))
  rw [← after_unwritten (written.drop i) hW hr (after (ops.take i) fun b => m (c, b)), ← Cert.Lift.after_append'', List.take_append_drop]
theorem at_line {i : ℕ} {op : HloOp τ sig (Elt Ideal)} {rest : List (HloOp τ sig (Elt Ideal))} (r : Ref sig .tc) (hs : ops.drop i = op :: rest)
    (hr : r ∉ written.drop (i + 1)) : V m c r = op.result (upto ops (fun b => m (c, b)) i) (Proc.devRef .tc r) := by
  refine after_last_write (written.drop (i + 1)) hs ?_ hr _
  have h : rest = ops.drop (i + 1) := by rw [← List.drop_drop, hs]; rfl
  rw [h, List.map_drop, writes_eq, List.map_drop]

theorem k_main_arg0 (hA : Holds m c A) : V m c Cert.Kernel2Ideal.main_arg0 = up3 A.main_arg0 := (after_unwritten written writes_eq (by decide) _).trans hA.main_arg0

theorem k_main_arg1 (hA : Holds m c A) : V m c Cert.Kernel2Ideal.main_arg1 = up2 A.main_arg1 := (after_unwritten written writes_eq (by decide) _).trans hA.main_arg1

theorem k_main_arg8 (hA : Holds m c A) : V m c Cert.Kernel2Ideal.main_arg8 = up3 A.main_arg8 := (after_unwritten written writes_eq (by decide) _).trans hA.main_arg8

theorem k_main_arg9 (hA : Holds m c A) : V m c Cert.Kernel2Ideal.main_arg9 = up3 A.main_arg9 := (after_unwritten written writes_eq (by decide) _).trans hA.main_arg9

theorem k_main_arg10 (hA : Holds m c A) : V m c Cert.Kernel2Ideal.main_arg10 = up3 A.main_arg10 := (after_unwritten written writes_eq (by decide) _).trans hA.main_arg10

theorem k_main_arg2 (hA : Holds m c A) : V m c Cert.Kernel2Ideal.main_arg2 = up2 A.main_arg2 := (after_unwritten written writes_eq (by decide) _).trans hA.main_arg2

def main_v0 (A : Args) (a0 a1 : ℕ) : ℝ := A.main_arg1 0 (1024 * a0 + a1)
theorem k_main_v0 (hA : Holds m c A) : V m c Cert.Kernel2Ideal.main_v0 = up2 (main_v0 A) := by
  refine (at_line m c (i := 0) Cert.Kernel2Ideal.main_v0 rfl (by decide)).trans ?_
  refine (reshape_result .. ).trans ?_
  rw [settled m c 0 Cert.Kernel2Ideal.main_arg1 (by decide), k_main_arg1 m c hA]
  refine funext fun (i : S6x1024.Idx) => ?_
  have h0 : (i 0).val < 6 := (i 0).isLt
  have h1 : (i 1).val < 1024 := (i 1).isLt
  refine (shapeCast_apply (up2 (A.main_arg1) : S1x6144.Idx → EReal) shapeCasts_S1x6144_S6x1024 i (fun b => match b with | ⟨0, _⟩ => ⟨0, by show _ < 1; omega⟩ | ⟨1, _⟩ => ⟨(1024 * (i 0).val + (i 1).val), by show _ < 6144; omega⟩) ?_).trans ?_
  · rw [Shape.rowMajor_val_two, Shape.rowMajor_val_two]
    show 0 * 6144 + (1024 * (i 0).val + (i 1).val) = (i 0).val * 1024 + (i 1).val
    omega
  · rfl

def main_cst (A : Args) : ℝ := 0
theorem k_main_cst (hA : Holds m c A) : V m c Cert.Kernel2Ideal.main_cst = (fun _ => ((main_cst A : ℝ) : EReal)) := by
  refine (at_line m c (i := 1) Cert.Kernel2Ideal.main_cst rfl (by decide)).trans ?_
  refine (nullary_result .. ).trans ?_
  exact funext fun _ => zero_f32

def main_v1 (A : Args) (a0 a1 : ℕ) : ℝ := main_cst A
theorem k_main_v1 (hA : Holds m c A) : V m c Cert.Kernel2Ideal.main_v1 = up2 (main_v1 A) := by
  refine (at_line m c (i := 2) Cert.Kernel2Ideal.main_v1 rfl (by decide)).trans ?_
  refine (unary_result .. ).trans ?_
  rw [settled m c 2 Cert.Kernel2Ideal.main_cst (by decide), k_main_cst m c hA]
  exact funext fun i => broadcastInDim_apply _ _ _ i (fun a => a.elim0) (fun a => a.elim0)

def main_v2 (A : Args) (a0 a1 : ℕ) : ℝ := if a0 < 6 then main_v0 A a0 a1 else main_v1 A (a0 - 6) a1
theorem k_main_v2 (hA : Holds m c A) : V m c Cert.Kernel2Ideal.main_v2 = up2 (main_v2 A) := by
  refine (at_line m c (i := 3) Cert.Kernel2Ideal.main_v2 rfl (by decide)).trans ?_
  refine (binary_result .. ).trans ?_
  rw [settled m c 3 Cert.Kernel2Ideal.main_v0 (by decide), k_main_v0 m c hA]
  rw [settled m c 3 Cert.Kernel2Ideal.main_v1 (by decide), k_main_v1 m c hA]
  refine funext fun (i : S8x1024.Idx) => ?_
  have h0 : (i 0).val < 8 := (i 0).isLt
  have h1 : (i 1).val < 1024 := (i 1).isLt
  by_cases c0 : (i 0).val < 6
  · refine (concatenate_apply_piece _ _ _ i 0 (by simp) S6x1024 _ rfl rfl 0 rfl (fun b => match b with | ⟨0, _⟩ => ⟨(i 0).val - 0, by show _ < 6; omega⟩ | ⟨1, _⟩ => ⟨(i 1).val, by show _ < 1024; omega⟩) ?_ ?_).trans ?_
    · intro b hb; match b with | ⟨0, _⟩ => exact absurd rfl hb | ⟨1, _⟩ => exact rfl
    · show 0 + ((i 0).val - 0) = (i 0).val; omega
    · show ((main_v0 A ((i 0).val - 0) (i 1).val : ℝ) : EReal) = ((main_v2 A (i 0).val (i 1).val : ℝ) : EReal)
      unfold main_v2; simp only [Nat.sub_zero]; rw [if_pos c0]
  refine (concatenate_apply_piece _ _ _ i 1 (by simp) S2x1024 _ rfl rfl 6 rfl (fun b => match b with | ⟨0, _⟩ => ⟨(i 0).val - 6, by show _ < 2; omega⟩ | ⟨1, _⟩ => ⟨(i 1).val, by show _ < 1024; omega⟩) ?_ ?_).trans ?_
  · intro b hb; match b with | ⟨0, _⟩ => exact absurd rfl hb | ⟨1, _⟩ => exact rfl
  · show 6 + ((i 0).val - 6) = (i 0).val; omega
  · show ((main_v1 A ((i 0).val - 6) (i 1).val : ℝ) : EReal) = ((main_v2 A (i 0).val (i 1).val : ℝ) : EReal)
    unfold main_v2; rw [if_neg c0]

def main_v6 (A : Args) (a0 a1 : ℕ) : ℝ := A.main_arg10 0 a0 a1
theorem k_main_v6 (hA : Holds m c A) : V m c Cert.Kernel2Ideal.main_v6 = up2 (main_v6 A) := by
  refine (at_line m c (i := 8) Cert.Kernel2Ideal.main_v6 rfl (by decide)).trans ?_
  refine (reshape_result .. ).trans ?_
  rw [settled m c 8 Cert.Kernel2Ideal.main_arg10 (by decide), k_main_arg10 m c hA]
  refine funext fun (i : S8192x7168.Idx) => ?_
  have h0 : (i 0).val < 8192 := (i 0).isLt
  have h1 : (i 1).val < 7168 := (i 1).isLt
  refine (shapeCast_apply (up3 (A.main_arg10) : S1x8192x7168.Idx → EReal) shapeCasts_S1x8192x7168_S8192x7168 i (fun b => match b with | ⟨0, _⟩ => ⟨0, by show _ < 1; omega⟩ | ⟨1, _⟩ => ⟨(i 0).val, by show _ < 8192; omega⟩ | ⟨2, _⟩ => ⟨(i 1).val, by show _ < 7168; omega⟩) ?_).trans ?_
  · rw [Shape.rowMajor_val_three, Shape.rowMajor_val_two]
    show (0 * 8192 + (i 0).val) * 7168 + (i 1).val = (i 0).val * 7168 + (i 1).val
    omega
  · rfl

def main_v7 (A : Args) (a0 a1 : ℕ) : ℝ := main_v6 A a0 a1
theorem k_main_v7 (hA : Holds m c A) : V m c Cert.Kernel2Ideal.main_v7 = up2 (main_v7 A) := by
  refine (at_line m c (i := 9) Cert.Kernel2Ideal.main_v7 rfl (by decide)).trans ?_
  refine (unary_result .. ).trans ?_
  rw [settled m c 9 Cert.Kernel2Ideal.main_v6 (by decide), k_main_v6 m c hA]
  rfl

def main_v8 (A : Args) (a0 a1 : ℕ) : ℝ := A.main_arg0 0 a0 a1
theorem k_main_v8 (hA : Holds m c A) : V m c Cert.Kernel2Ideal.main_v8 = up2 (main_v8 A) := by
  refine (at_line m c (i := 10) Cert.Kernel2Ideal.main_v8 rfl (by decide)).trans ?_
  refine (reshape_result .. ).trans ?_
  rw [settled m c 10 Cert.Kernel2Ideal.main_arg0 (by decide), k_main_arg0 m c hA]
  refine funext fun (i : S8192x1024.Idx) => ?_
  have h0 : (i 0).val < 8192 := (i 0).isLt
  have h1 : (i 1).val < 1024 := (i 1).isLt
  refine (shapeCast_apply (up3 (A.main_arg0) : S1x8192x1024.Idx → EReal) shapeCasts_S1x8192x1024_S8192x1024 i (fun b => match b with | ⟨0, _⟩ => ⟨0, by show _ < 1; omega⟩ | ⟨1, _⟩ => ⟨(i 0).val, by show _ < 8192; omega⟩ | ⟨2, _⟩ => ⟨(i 1).val, by show _ < 1024; omega⟩) ?_).trans ?_
  · rw [Shape.rowMajor_val_three, Shape.rowMajor_val_two]
    show (0 * 8192 + (i 0).val) * 1024 + (i 1).val = (i 0).val * 1024 + (i 1).val
    omega
  · rfl

def main_v9 (A : Args) (a0 a1 : ℕ) : ℝ := A.main_arg9 0 a0 a1
theorem k_main_v9 (hA : Holds m c A) : V m c Cert.Kernel2Ideal.main_v9 = up2 (main_v9 A) := by
  refine (at_line m c (i := 11) Cert.Kernel2Ideal.main_v9 rfl (by decide)).trans ?_
  refine (reshape_result .. ).trans ?_
  rw [settled m c 11 Cert.Kernel2Ideal.main_arg9 (by decide), k_main_arg9 m c hA]
  refine funext fun (i : S8192x1024.Idx) => ?_
  have h0 : (i 0).val < 8192 := (i 0).isLt
  have h1 : (i 1).val < 1024 := (i 1).isLt
  refine (shapeCast_apply (up3 (A.main_arg9) : S1x8192x1024.Idx → EReal) shapeCasts_S1x8192x1024_S8192x1024 i (fun b => match b with | ⟨0, _⟩ => ⟨0, by show _ < 1; omega⟩ | ⟨1, _⟩ => ⟨(i 0).val, by show _ < 8192; omega⟩ | ⟨2, _⟩ => ⟨(i 1).val, by show _ < 1024; omega⟩) ?_).trans ?_
  · rw [Shape.rowMajor_val_three, Shape.rowMajor_val_two]
    show (0 * 8192 + (i 0).val) * 1024 + (i 1).val = (i 0).val * 1024 + (i 1).val
    omega
  · rfl

def main_v10 (A : Args) (a0 a1 : ℕ) : ℝ := A.main_arg8 0 a0 a1
theorem k_main_v10 (hA : Holds m c A) : V m c Cert.Kernel2Ideal.main_v10 = up2 (main_v10 A) := by
  refine (at_line m c (i := 12) Cert.Kernel2Ideal.main_v10 rfl (by decide)).trans ?_
  refine (reshape_result .. ).trans ?_
  rw [settled m c 12 Cert.Kernel2Ideal.main_arg8 (by decide), k_main_arg8 m c hA]
  refine funext fun (i : S1024x7168.Idx) => ?_
  have h0 : (i 0).val < 1024 := (i 0).isLt
  have h1 : (i 1).val < 7168 := (i 1).isLt
  refine (shapeCast_apply (up3 (A.main_arg8) : S1x1024x7168.Idx → EReal) shapeCasts_S1x1024x7168_S1024x7168 i (fun b => match b with | ⟨0, _⟩ => ⟨0, by show _ < 1; omega⟩ | ⟨1, _⟩ => ⟨(i 0).val, by show _ < 1024; omega⟩ | ⟨2, _⟩ => ⟨(i 1).val, by show _ < 7168; omega⟩) ?_).trans ?_
  · rw [Shape.rowMajor_val_three, Shape.rowMajor_val_two]
    show (0 * 1024 + (i 0).val) * 7168 + (i 1).val = (i 0).val * 7168 + (i 1).val
    omega
  · rfl

def main_v11 (A : Args) (a0 a1 : ℕ) : ℝ := main_v10 A a0 a1
theorem k_main_v11 (hA : Holds m c A) : V m c Cert.Kernel2Ideal.main_v11 = up2 (main_v11 A) := by
  refine (at_line m c (i := 13) Cert.Kernel2Ideal.main_v11 rfl (by decide)).trans ?_
  refine (unary_result .. ).trans ?_
  rw [settled m c 13 Cert.Kernel2Ideal.main_v10 (by decide), k_main_v10 m c hA]
  rfl

end Cert.Bin.Host
end
end
-- ==== Proof.Bin.Spec.lean ====
/-
  The gradient of the input's norm and projection over the reals, one row at a time: a row `p` of the projection's
  gradient, a row `d` of the gradient that goes around the mixers and a row `x` of the step's input.
-/
module

public import proofs.«01_k».proof.Proof.Lib.Lift

@[expose] public section

noncomputable section

open scoped BigOperators

namespace Cert.Bin

open Cert.Lift

/-- The gradient at the modulated norm's output. -/
def dhS (W : ℕ → ℕ → ℝ) (p : ℕ → ℝ) (j : ℕ) : ℝ := ∑ f ∈ Finset.range 7168, p f * W j f
/-- The gradient at the normed row. -/
def dxnS (sc g : ℕ → ℝ) (W : ℕ → ℕ → ℝ) (p : ℕ → ℝ) (j : ℕ) : ℝ := dhS W p j * g j * (1 + sc j)
/-- The gradient at the step's input. -/
def gxS (sc g : ℕ → ℝ) (W : ℕ → ℕ → ℝ) (p d x : ℕ → ℝ) (j : ℕ) : ℝ :=
  d j + rms x * (dxnS sc g W p j - x j * rms x * ((∑ k ∈ Finset.range 1024, dxnS sc g W p k * (x k * rms x)) / 1024))
/-- One block's addition to the three rows of sums: the shift, scale and gain gradients. -/
def sumsStep (sc g : ℕ → ℝ) (W : ℕ → ℕ → ℝ) (p x : ℕ → ℕ → ℝ) (S : ℕ → ℕ → ℝ) (i j : ℕ) : ℝ :=
  if i = 0 then S 0 j + ∑ r ∈ Finset.range 256, dhS W (p r) j
  else if i = 1 then S 1 j + (∑ r ∈ Finset.range 256, dhS W (p r) j * (x r j * rms (x r))) * g j
  else if i = 2 then S 2 j + (∑ r ∈ Finset.range 256, dhS W (p r) j * (x r j * rms (x r))) * (1 + sc j)
  else S i j

end Cert.Bin
end
-- ==== Proof.Bin.Pay.lean ====
/-
  The kernel's stored values over the reals: each block value the body computes, on real inputs, as one formula in the
  coordinates.
-/
module

public import proofs.«01_k».proof.Proof.Gen.Kernel2Ideal.Skeleton
public import proofs.«01_k».proof.Proof.Bin.Spec

@[expose] public section

noncomputable section

open scoped BigOperators

namespace Cert.Kernel2Ideal.Bin

open Cert.Kernel2Ideal Cert.Kernel2Ideal.Gen Idealize.ShloMosaic Idealize.ShloMosaic.TcCoe Idealize.SL.Sem Cert.Lift Cert.Bin

theorem dims1 : dot_S256x7168_S1024x7168_S256x1024_1_1_0_0_n_n = DotDims.transposedRhs 256 7168 1024 := rfl

theorem pay6_eq : k0_pay6 (F := Ideal) = up2 fun _ _ => 0 := by
  unfold k0_pay6; simp only [scalar_zero, broadcast_up2]
theorem pay7_eq (p w : ℕ → ℕ → ℝ) : k0_pay7 (F := Ideal) (up2 p) (up2 w) = up2 fun r j => dhS w (p r) j := by
  unfold k0_pay7; simp only [shapeCast_self, constant_zero_up2, matmul_transposed_up2 _ dims1, zero_add]; rfl
theorem pay8_eq (X : ℕ → ℕ → ℝ) : k0_pay8 (F := Ideal) (up2 X) = up2 X := shapeCast_self _ _
theorem pay9_eq (X : ℕ → ℕ → ℝ) : k0_pay9 (F := Ideal) (up2 X) = up2 fun r _ => rms (X r) := by
  unfold k0_pay9; delta multiReduction
  simp (disch := rfl) only [pay8_eq, mulf_up2, rowSum, shapeCast_col, scalar_k1024, scalar_eps, broadcast_up2]
  rw [divf_up2 _ _ (fun _ _ => by norm_num), addf_up2, rsqrt_up2 _ (fun r _ => ms_pos (X r))]
  rfl
theorem pay10_eq (X : ℕ → ℕ → ℝ) : k0_pay10 (F := Ideal) (up2 X) = up2 fun r c => X r c * rms (X r) := by
  unfold k0_pay10
  simp only [pay8_eq, pay9_eq, broadcastTo_col, mulf_up2]
theorem pay11_eq (X : ℕ → ℕ → ℝ) : k0_pay11 (F := Ideal) (up2 X) = up2 X := shapeCast_self _ _
theorem pay12_eq (X : ℕ → ℕ → ℝ) : k0_pay12 (F := Ideal) (up2 X) = up2 fun r c => 1 + X r c := by
  unfold k0_pay12
  simp only [shapeCast_self, scalar_one, broadcast_up2, addf_up2]
theorem pay13_eq (p w g s : ℕ → ℕ → ℝ) : k0_pay13 (F := Ideal) (up2 p) (up2 w) (up2 g) (up2 s)
    = up2 fun r j => dxnS (s 0) (g 0) w (p r) j := by
  unfold k0_pay13
  simp only [pay7_eq, pay11_eq, pay12_eq, broadcastTo_row, mulf_up2]
  rfl
theorem pay14_eq (X : ℕ → ℕ → ℝ) : k0_pay14 (F := Ideal) (up2 X) = up2 X := shapeCast_self _ _
theorem pay15_eq (p w x g s : ℕ → ℕ → ℝ) : k0_pay15 (F := Ideal) (up2 p) (up2 w) (up2 x) (up2 g) (up2 s)
    = up2 fun r _ => (∑ k ∈ Finset.range 1024, dxnS (s 0) (g 0) w (p r) k * (x r k * rms (x r))) / 1024 := by
  unfold k0_pay15; delta multiReduction
  simp (disch := rfl) only [pay10_eq, pay13_eq, mulf_up2, rowSum, shapeCast_col, scalar_k1024, broadcast_up2]
  rw [divf_up2 _ _ (fun _ _ => by norm_num), broadcastTo_col]
theorem pay1_eq (a b e f g : ℕ → ℕ → ℝ) : k0_pay1 (F := Ideal) (up2 a) (up2 b) (up2 e) (up2 f) (up2 g)
    = up2 fun r j => f r j + a r 0 * (e r j - b r j * g r j) := by
  unfold k0_pay1
  simp only [mulf_up2, subf_up2, broadcastTo_col, addf_up2]
theorem pay2_eq (a b : ℕ → ℕ → ℝ) : k0_pay2 (F := Ideal) (up2 a) (up2 b) = up2 fun r j => a r j * b r j := by
  unfold k0_pay2
  simp only [mulf_up2]
theorem pay3_eq (a S : ℕ → ℕ → ℝ) : k0_pay3 (F := Ideal) (up2 a) (up2 S)
    = up2 fun r j => S r j + ∑ k ∈ Finset.range 256, a k j := by
  unfold k0_pay3; delta multiReduction
  simp (disch := rfl) only [shapeCast_self, colSum, shapeCast_row, addf_up2]
theorem pay4_eq (a b g S : ℕ → ℕ → ℝ) : k0_pay4 (F := Ideal) (up2 a) (up2 b) (up2 g) (up2 S)
    = up2 fun r j => S r j + (∑ k ∈ Finset.range 256, a k j * b k j) * g r j := by
  unfold k0_pay4; delta multiReduction
  simp (disch := rfl) only [pay2_eq, shapeCast_self, colSum, shapeCast_row, mulf_up2, addf_up2]
theorem pay5_eq (a b g S : ℕ → ℕ → ℝ) : k0_pay5 (F := Ideal) (up2 a) (up2 b) (up2 g) (up2 S)
    = up2 fun r j => S r j + (∑ k ∈ Finset.range 256, a k j * b k j) * g r j := by
  unfold k0_pay5; delta multiReduction
  simp (disch := rfl) only [pay2_eq, shapeCast_self, colSum, shapeCast_row, mulf_up2, addf_up2]

end Cert.Kernel2Ideal.Bin
end
-- ==== Proof.Bin.Points.lean ====
/-
  What one grid point leaves in each window and scratch buffer, over the reals.
-/
module

public import proofs.«01_k».proof.Proof.Gen.Kernel2Ideal.Value
public import proofs.«01_k».proof.Proof.Bin.Pay
public import Idealize.ShloMosaic.Lib.Tactic

@[expose] public section

set_option maxRecDepth 16384
noncomputable section
open scoped BigOperators
namespace Cert.Kernel2Ideal.Bin
open Cert.Kernel2Ideal Cert.Kernel2Ideal.Gen Idealize.ShloMosaic Idealize.ShloMosaic.TcCoe Idealize.SL.Sem Cert.Lift Cert.Bin

set_option maxHeartbeats 1000000

/-- The payloads, each at real arrays. -/
def pays := And.intro @pay1_eq <| And.intro @pay2_eq <| And.intro @pay3_eq <| And.intro @pay4_eq <| And.intro @pay5_eq <| And.intro @pay7_eq <| And.intro @pay8_eq <| And.intro @pay9_eq <| And.intro @pay10_eq <| And.intro @pay11_eq <| And.intro @pay12_eq <| And.intro @pay13_eq <| And.intro @pay14_eq @pay15_eq

variable (c : Dev nD) (i : grid0.Coords) (arg1 : Memref sig .tc .vmem S256x7168 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S8x1024 .f32) (harg5 : arg5.IsWhole) (arg7 : Memref sig .tc .vmem S256x1024 .f32) (harg7 : arg7.IsWhole) (arg8 : Memref sig .tc .vmem S8x1024 .f32) (harg8 : arg8.IsWhole) (arg9 : Memref sig .tc .vmem S1024x7168 .bf16) (harg9 : arg9.IsWhole)

theorem out0_A_5_eq (hc0 : cond0_0 i)
    (fh0 : HbBuf0 (F := Ideal) c hbM0_0) (Q X D M P W : ℕ → ℕ → ℝ) (x4 : (⟨2, ![8, 1024]⟩ : Shape).Idx → EReal) (hx4 : RowIs x4 0 (P 0)) (hf0 : View.read (Elt Ideal) (View.whole main_v11) fh0 = up2 W) :
    out0_A_5 (F := Ideal) c i arg1 harg1 arg2 harg2 arg3 harg3 arg4 harg4 arg5 harg5 arg7 harg7 arg8 harg8 arg9 harg9 hc0 (up2 Q) (up2 X) (up2 D) (up2 M) x4 fh0 = up2 fun r j => gxS (M 1) (P 0) W (Q r) (D r) (X r) j := by
  unfold out0_A_5
  rw [View.read_writes_eq_canon _ _ _ (by intro y; apply cover0_A_5)]
  unfold kernelRun0_A
  dsimp only
  sl_unfold_words
  simp only [View.readAt_eq_ld, Memref.IsWhole.read_unread]
  try simp only [readCov_whole, ReadAs.apply_same, hf0]
  rw [View.canon_unit_zero hz]
  simp only [ld_row (P := P) hx4, ld_up2_f32, ld_up2_bf16, zero_add, Nat.zero_add, Nat.add_zero, pays]
  rfl

theorem out0_B_5_eq (hc0 : ¬cond0_0 i)
    (fh0 : HbBuf0 (F := Ideal) c hbM0_0) (Q X D M P W S : ℕ → ℕ → ℝ) (x4 : (⟨2, ![8, 1024]⟩ : Shape).Idx → EReal) (hx4 : RowIs x4 0 (P 0)) :
    out0_B_5 (F := Ideal) c i arg1 harg1 arg2 harg2 arg3 harg3 arg4 harg4 arg5 harg5 arg7 harg7 arg8 harg8 arg9 harg9 hc0 (up2 Q) (up2 X) (up2 D) (up2 M) x4 (up2 S) (up2 W) fh0 = up2 fun r j => gxS (M 1) (P 0) W (Q r) (D r) (X r) j := by
  unfold out0_B_5
  rw [View.read_writes_eq_canon _ _ _ (by intro y; apply cover0_B_5)]
  unfold kernelRun0_B
  dsimp only
  sl_unfold_words
  simp only [View.readAt_eq_ld, Memref.IsWhole.read_unread]
  rw [View.canon_unit_zero hz]
  simp only [ld_row (P := P) hx4, ld_up2_f32, ld_up2_bf16, zero_add, Nat.zero_add, Nat.add_zero, pays]
  rfl

theorem out0_A_6_eq (hc0 : cond0_0 i)
    (fh0 : HbBuf0 (F := Ideal) c hbM0_0) (Q X D M P W : ℕ → ℕ → ℝ) (x4 : (⟨2, ![8, 1024]⟩ : Shape).Idx → EReal) (hx4 : RowIs x4 0 (P 0)) (hf0 : View.read (Elt Ideal) (View.whole main_v11) fh0 = up2 W) :
    out0_A_6 (F := Ideal) c i arg1 harg1 arg2 harg2 arg3 harg3 arg4 harg4 arg5 harg5 arg7 harg7 arg8 harg8 arg9 harg9 hc0 (up2 Q) (up2 X) (up2 D) (up2 M) x4 fh0 = up2 (sumsStep (M 1) (P 0) W Q X fun _ _ => 0) := by
  unfold out0_A_6
  rw [View.read_writes_eq_canon _ _ _ (by intro y; apply cover0_A_6)]
  unfold kernelRun0_A
  dsimp only
  sl_unfold_words
  simp only [View.readAt_eq_ld, Memref.IsWhole.read_unread]
  try simp only [readCov_whole, ReadAs.apply_same, hf0]
  simp (disch := first | rfl | decide) only [View.readCov_skip, View.readCov_fill, pay6_eq]
  simp only [ld_row (P := P) hx4, ld_up2_f32, ld_up2_bf16, zero_add, Nat.zero_add, Nat.add_zero, pays]
  refine canon_over _ [_] [_, _, _] ?_ ?_
  · simp only [ld_up2_f32, List.forall_mem_cons, List.not_mem_nil, false_imp_iff, implies_true, and_true]
    refine ⟨?_, ?_, ?_⟩ <;> exact up2_congr fun r j hr _ => by
      obtain rfl : r = 0 := by omega
      simp [sumsStep, rms]
  · intro y hy
    simp only [List.forall_mem_cons, List.not_mem_nil, false_imp_iff, implies_true, and_true] at hy
    have h1 := mem_row hy.1
    have h2 := mem_row hy.2.1
    have h3 := mem_row hy.2.2
    rw [View.canon_unit_zero hz]
    show _ = ((sumsStep _ _ _ _ _ _ (y 0).val (y 1).val : ℝ) : EReal)
    rw [sumsStep, if_neg h3, if_neg h2, if_neg h1]
    rfl

theorem out0_B_6_eq (hc0 : ¬cond0_0 i)
    (fh0 : HbBuf0 (F := Ideal) c hbM0_0) (Q X D M P W S : ℕ → ℕ → ℝ) (x4 : (⟨2, ![8, 1024]⟩ : Shape).Idx → EReal) (hx4 : RowIs x4 0 (P 0)) :
    out0_B_6 (F := Ideal) c i arg1 harg1 arg2 harg2 arg3 harg3 arg4 harg4 arg5 harg5 arg7 harg7 arg8 harg8 arg9 harg9 hc0 (up2 Q) (up2 X) (up2 D) (up2 M) x4 (up2 S) (up2 W) fh0 = up2 (sumsStep (M 1) (P 0) W Q X S) := by
  unfold out0_B_6
  unfold kernelRun0_B
  dsimp only
  sl_unfold_words
  simp only [View.readAt_eq_ld, Memref.IsWhole.read_unread]
  simp only [ld_row (P := P) hx4, ld_up2_f32, ld_up2_bf16, zero_add, Nat.zero_add, Nat.add_zero, pays]
  refine read_writes_of_pieces _ _ _ _ ?_ ?_
  · simp only [ld_up2_f32, List.forall_mem_cons, List.not_mem_nil, false_imp_iff, implies_true, and_true]
    refine ⟨?_, ?_, ?_⟩ <;> exact up2_congr fun r j hr _ => by
      obtain rfl : r = 0 := by omega
      simp [sumsStep, rms]
  · intro y hy
    simp only [List.forall_mem_cons, List.not_mem_nil, false_imp_iff, implies_true, and_true] at hy
    have h1 := mem_row hy.1
    have h2 := mem_row hy.2.1
    have h3 := mem_row hy.2.2
    rw [harg8.read_unread]
    show _ = ((sumsStep _ _ _ _ _ _ (y 0).val (y 1).val : ℝ) : EReal)
    rw [sumsStep, if_neg h3, if_neg h2, if_neg h1]
    rfl

theorem sout0_A_0_eq (hc0 : cond0_0 i)
    (fh0 : HbBuf0 (F := Ideal) c hbM0_0) (Q X D M P W : ℕ → ℕ → ℝ) (x4 : (⟨2, ![8, 1024]⟩ : Shape).Idx → EReal) (hx4 : RowIs x4 0 (P 0)) (hf0 : View.read (Elt Ideal) (View.whole main_v11) fh0 = up2 W) :
    sout0_A_0 (F := Ideal) c i arg1 harg1 arg2 harg2 arg3 harg3 arg4 harg4 arg5 harg5 arg7 harg7 arg8 harg8 arg9 harg9 hc0 (up2 Q) (up2 X) (up2 D) (up2 M) x4 fh0 = up2 W := by
  unfold sout0_A_0
  rw [View.read_writes_eq_canon _ _ _ (by intro y; apply scover0_A_0)]
  unfold kernelRun0_A
  dsimp only
  sl_unfold_words
  simp only [View.readAt_eq_ld, Memref.IsWhole.read_unread]
  rw [canon_whole]
  exact hf0

theorem sout0_B_0_eq (hc0 : ¬cond0_0 i)
    (fh0 : HbBuf0 (F := Ideal) c hbM0_0) (Q X D M P W S : ℕ → ℕ → ℝ) (x4 : (⟨2, ![8, 1024]⟩ : Shape).Idx → EReal) (hx4 : RowIs x4 0 (P 0)) :
    sout0_B_0 (F := Ideal) c i arg1 harg1 arg2 harg2 arg3 harg3 arg4 harg4 arg5 harg5 arg7 harg7 arg8 harg8 arg9 harg9 hc0 (up2 Q) (up2 X) (up2 D) (up2 M) x4 (up2 S) (up2 W) fh0 = up2 W := by
  rfl

end Cert.Kernel2Ideal.Bin
end
-- ==== Proof.Bin.Outs.lean ====
/-
  What the running buffers hold after every grid point, and the two results of the launch, over the reals.
-/
module

public import proofs.«01_k».proof.Proof.Bin.Points

@[expose] public section
noncomputable section

namespace Cert.Kernel2Ideal.Bin

open Cert.Kernel2Ideal Cert.Kernel2Ideal.Gen Cert.Kernel2Ideal.Value Cert.Lift Cert.Bin
open Idealize.ShloMosaic Idealize.ShloMosaic.TcCoe Idealize.SL.Sem

set_option maxHeartbeats 1000000

/-- Block `n` of 256 rows. -/
def rows (n : ℕ) (A : ℕ → ℕ → ℝ) (r : ℕ) : ℕ → ℝ := A (256 * n + r)

/-- The three running sums after point `n`. -/
def sumsAt (Q X M P W : ℕ → ℕ → ℝ) : ℕ → ℕ → ℕ → ℝ
  | 0 => sumsStep (M 1) (P 0) W (rows 0 Q) (rows 0 X) fun _ _ => 0
  | n + 1 => sumsStep (M 1) (P 0) W (rows (n + 1) Q) (rows (n + 1) X) (sumsAt Q X M P W n)

/-- The three sums over the first `T` rows. -/
def sumsTo (T : ℕ) (Q X M P W : ℕ → ℕ → ℝ) (i j : ℕ) : ℝ :=
  if i = 0 then ∑ r ∈ Finset.range T, dhS W (Q r) j
  else if i = 1 then (∑ r ∈ Finset.range T, dhS W (Q r) j * (X r j * rms (X r))) * P 0 j
  else if i = 2 then (∑ r ∈ Finset.range T, dhS W (Q r) j * (X r j * rms (X r))) * (1 + M 1 j)
  else 0

theorem sumsAt_eq (Q X M P W : ℕ → ℕ → ℝ) (n i j : ℕ) :
    sumsAt Q X M P W n i j = sumsTo (256 * n + 256) Q X M P W i j := by
  induction n generalizing i j with
  | zero =>
    simp only [sumsAt, sumsStep, sumsTo, rows, Nat.mul_zero, Nat.zero_add, zero_add]
  | succ n ih =>
    simp only [sumsAt, sumsStep, ih, sumsTo, show 256 * (n + 1) + 256 = (256 * n + 256) + 256 by omega,
      Finset.sum_range_add _ (256 * n + 256) 256, rows, show 256 * (n + 1) = 256 * n + 256 by omega]
    rcases i with _ | _ | _ | i
    · rfl
    · simp only [Nat.zero_add, one_ne_zero, if_false, if_true]; ring
    · simp; ring
    · simp

variable (m : (ℓ : Loc nD τ sig) → Buf (Elt Ideal) ℓ) (c : Dev nD)
variable {Q X D M P W : ℕ → ℕ → ℝ}

/-! ## The blocks each point reads -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem last6 : ∀ t : Fin cfg0.N, (cfg0.win 6).flush t = true → t.val = 31 ∧ win0_6.index t 0 = 0 ∧ win0_6.index t 1 = 0 :=
  (by decide +kernel : ∀ t : Fin grid0.N, win0_6.flush t = true → t.val = 31 ∧ win0_6.index t 0 = 0 ∧ win0_6.index t 1 = 0)

theorem blk0 (h : V m c main_v7 = up2 Q) (t : Fin cfg0.N) : iblk m c 0 t = up2 (rows t.val Q) := by
  funext y
  blk_simp [iblk]
  show V m c main_v7 _ = _
  rw [h]
  unfold up2
  blk_simp
  rw [(idx0 t).1, (idx0 t).2]
  simp only [Nat.zero_mul, Nat.zero_add]
  rw [rows, Nat.mul_comm]

theorem blk1 (h : V m c main_v8 = up2 X) (t : Fin cfg0.N) : iblk m c 1 t = up2 (rows t.val X) := by
  funext y
  blk_simp [iblk]
  show V m c main_v8 _ = _
  rw [h]
  unfold up2
  blk_simp
  rw [(idx1 t).1, (idx1 t).2]
  simp only [Nat.zero_mul, Nat.zero_add]
  rw [rows, Nat.mul_comm]

theorem blk2 (h : V m c main_v9 = up2 D) (t : Fin cfg0.N) : iblk m c 2 t = up2 (rows t.val D) := by
  funext y
  blk_simp [iblk]
  show V m c main_v9 _ = _
  rw [h]
  unfold up2
  blk_simp
  rw [(idx2 t).1, (idx2 t).2]
  simp only [Nat.zero_mul, Nat.zero_add]
  rw [rows, Nat.mul_comm]

theorem blk3 (h : V m c main_v2 = up2 M) (t : Fin cfg0.N) : iblk m c 3 t = up2 (M) := by
  funext y
  blk_simp [iblk]
  show V m c main_v2 _ = _
  rw [h]
  unfold up2
  blk_simp
  rw [(idx3 t).1, (idx3 t).2]
  simp only [Nat.zero_mul, Nat.zero_add]

theorem blk4 (h : RowIs (V m c main_v5) 0 (P 0)) (t : Fin cfg0.N) : RowIs (iblk m c 4 t) 0 (P 0) := by
  intro y hy
  blk_simp [iblk]
  show V m c main_v5 _ = _
  refine (h _ ?_).trans ?_
  · blk_simp
    rw [(idx4 t).1, Nat.zero_mul, Nat.zero_add, hy]
  · blk_simp
    rw [(idx4 t).2, Nat.zero_mul, Nat.zero_add]

/-! ## The running contents -/

/-- What the buffers that survive a point hold after point `n`. -/
theorem outs (hQ : V m c main_v7 = up2 Q) (hX : V m c main_v8 = up2 X) (hD : V m c main_v9 = up2 D)
    (hM : V m c main_v2 = up2 M) (hP : RowIs (V m c main_v5) 0 (P 0)) (hW : V m c main_v11 = up2 W)
    (n : ℕ) (hn : n < cfg0.N) : outsAt0 m c n hn =
      (up2 fun r j => gxS (M 1) (P 0) W (rows n Q r) (rows n D r) (rows n X r) j, up2 (sumsAt Q X M P W n), up2 W) := by
  induction n with
  | zero =>
    rw [outsAt0_A m c ⟨0, hn⟩ rfl, blk0 m c hQ, blk1 m c hX, blk2 m c hD, blk3 m c hM]
    have g0 : View.read (Elt Ideal) (View.whole main_v11) (V m c main_v11) = up2 W := hW
    simp only [out0_A_5_eq (fh0 := V m c main_v11) (hf0 := g0) (P := P) (hx4 := blk4 m c hP ⟨0, hn⟩),
      out0_A_6_eq (fh0 := V m c main_v11) (hf0 := g0) (P := P) (hx4 := blk4 m c hP ⟨0, hn⟩),
      sout0_A_0_eq (fh0 := V m c main_v11) (hf0 := g0) (P := P) (hx4 := blk4 m c hP ⟨0, hn⟩)]
    rfl
  | succ n ih =>
    have hN : n + 1 < 32 := hn
    rw [outsAt0_B m c ⟨n + 1, hn⟩ (by show ¬(n + 1) % 32 = 0; omega), blk0 m c hQ, blk1 m c hX, blk2 m c hD, blk3 m c hM]
    simp only [Nat.add_sub_cancel]
    simp only [ih]
    simp only [out0_B_5_eq (P := P) (hx4 := blk4 m c hP ⟨n + 1, hn⟩), out0_B_6_eq (P := P) (hx4 := blk4 m c hP ⟨n + 1, hn⟩),
      sout0_B_0_eq (P := P) (hx4 := blk4 m c hP ⟨n + 1, hn⟩)]
    rfl

/-! ## The two results -/

theorem final5 (hQ : V m c main_v7 = up2 Q) (hX : V m c main_v8 = up2 X) (hD : V m c main_v9 = up2 D)
    (hM : V m c main_v2 = up2 M) (hP : RowIs (V m c main_v5) 0 (P 0)) (hW : V m c main_v11 = up2 W) :
    (dats m 0 c).arrAt 5 cfg0.N = up2 fun r j => gxS (M 1) (P 0) W (Q r) (D r) (X r) j := by
  refine (dats m 0 c).arrAt_eq_of_covers 5 _ (by decide +kernel) fun t hf y => ?_
  blk_simp
  rw [after0_5, outs m c hQ hX hD hM hP hW]
  unfold up2
  blk_simp
  rw [(idx5 t).1, (idx5 t).2]
  simp only [rows, Nat.zero_mul, Nat.zero_add, Nat.mul_comm]

theorem final6 (hQ : V m c main_v7 = up2 Q) (hX : V m c main_v8 = up2 X) (hD : V m c main_v9 = up2 D)
    (hM : V m c main_v2 = up2 M) (hP : RowIs (V m c main_v5) 0 (P 0)) (hW : V m c main_v11 = up2 W) :
    (dats m 0 c).arrAt 6 cfg0.N = up2 (sumsTo 8192 Q X M P W) := by
  refine (dats m 0 c).arrAt_eq_of_covers 6 _ (by decide +kernel) fun t hf y => ?_
  blk_simp
  rw [after0_6, outs m c hQ hX hD hM hP hW]
  unfold up2
  blk_simp
  rw [(last6 t hf).1, (last6 t hf).2.1, (last6 t hf).2.2]
  simp only [sumsAt_eq, Nat.zero_mul, Nat.zero_add]

end Cert.Kernel2Ideal.Bin
end
end
-- ==== Proof.Bin.Ref.lean ====
/-
  The reference, one operation at a time, over the reals.
-/
module

public import proofs.«01_k».proof.Proof.Gen.Reference2Ideal.Read
public import proofs.«01_k».proof.Proof.Lib.Lift

@[expose] public section

noncomputable section
open scoped BigOperators
namespace Cert.Bin.Ref
open Cert.Reference2Ideal Cert.Reference2Ideal.Gen Cert.Reference2Ideal.Read Idealize.ShloMosaic Idealize.ShloMosaic.TcCoe Idealize.SL.Sem Cert.Lift

/-- The arguments, as arrays of reals. -/
structure Args where
  x0 : ℕ → ℕ → ℕ → ℝ
  x1 : ℕ → ℕ → ℝ
  x2 : ℕ → ℕ → ℝ
  x8 : ℕ → ℕ → ℕ → ℝ
  x9 : ℕ → ℕ → ℕ → ℝ
  x10 : ℕ → ℕ → ℕ → ℝ

def main_v0 (A : Args) (a0 a1 a2 : ℕ) : ℝ := A.x1 0 a2
theorem s_main_v0 (A : Args) : val_main_v0 (F := Ideal) (up2 A.x1) = up3 (main_v0 A) := by
  funext i; rw [val_main_v0_apply]; rfl

def main_v1 (A : Args) (a0 a1 a2 : ℕ) : ℝ := main_v0 A a0 a1 a2
theorem s_main_v1 (A : Args) : val_main_v1 (F := Ideal) (up2 A.x1) = up3 (main_v1 A) := by
  funext i; rw [val_main_v1_apply, s_main_v0 A]; rfl

def main_v2 (A : Args) (a0 a1 a2 : ℕ) : ℝ := main_v0 A a0 a1 (1024 + a2)
theorem s_main_v2 (A : Args) : val_main_v2 (F := Ideal) (up2 A.x1) = up3 (main_v2 A) := by
  funext i; rw [val_main_v2_apply, s_main_v0 A]; rfl

def main_v3 (A : Args) (a0 a1 a2 : ℕ) : ℝ := main_v0 A a0 a1 (2048 + a2)
theorem s_main_v3 (A : Args) : val_main_v3 (F := Ideal) (up2 A.x1) = up3 (main_v3 A) := by
  funext i; rw [val_main_v3_apply, s_main_v0 A]; rfl

def main_v4 (A : Args) (a0 a1 a2 : ℕ) : ℝ := main_v0 A a0 a1 (3072 + a2)
theorem s_main_v4 (A : Args) : val_main_v4 (F := Ideal) (up2 A.x1) = up3 (main_v4 A) := by
  funext i; rw [val_main_v4_apply, s_main_v0 A]; rfl

def main_v5 (A : Args) (a0 a1 a2 : ℕ) : ℝ := main_v0 A a0 a1 (4096 + a2)
theorem s_main_v5 (A : Args) : val_main_v5 (F := Ideal) (up2 A.x1) = up3 (main_v5 A) := by
  funext i; rw [val_main_v5_apply, s_main_v0 A]; rfl

def main_v6 (A : Args) (a0 a1 a2 : ℕ) : ℝ := main_v0 A a0 a1 (5120 + a2)
theorem s_main_v6 (A : Args) : val_main_v6 (F := Ideal) (up2 A.x1) = up3 (main_v6 A) := by
  funext i; rw [val_main_v6_apply, s_main_v0 A]; rfl

def main_v7 (A : Args) (a0 : ℕ) : ℝ := A.x2 0 a0
theorem s_main_v7 (A : Args) : val_main_v7 (F := Ideal) (up2 A.x2) = up1 (main_v7 A) := by
  funext i; rw [val_main_v7_apply]
  have h0 : (i 0).val < 1024 := (i 0).isLt
  show ((A.x2 (0) (((i 0).val) % 1024) : ℝ) : EReal) = ((A.x2 (0) ((i 0).val) : ℝ) : EReal)
  rw [show ((i 0).val) % 1024 = (i 0).val by omega]

def main_v8 (A : Args) (a0 a1 a2 : ℕ) : ℝ := A.x0 a0 a1 a2 * A.x0 a0 a1 a2
theorem s_main_v8 (A : Args) : val_main_v8 (F := Ideal) (up3 A.x0) = up3 (main_v8 A) := by
  funext i; rw [val_main_v8_apply]; exact (EReal.coe_mul _ _).symm

def main_cst (A : Args) : ℝ := 0
theorem s_main_cst (A : Args) (i : S_.Idx) : val_main_cst (F := Ideal) i = ((main_cst A : ℝ) : EReal) := zero_f32

def main_v9 (A : Args) (a0 a1 : ℕ) : ℝ := main_cst A + ∑ k ∈ Finset.range 1024, main_v8 A a0 a1 k
theorem s_main_v9 (A : Args) : val_main_v9 (F := Ideal) (up3 A.x0) = up2 (main_v9 A) := by
  funext i; rw [val_main_v9_apply, s_main_v8 A, s_main_cst A]
  refine Eq.trans (congrArg _ (Eq.trans (Finset.sum_congr rfl fun k _ => ?_) (coe_sum_fin 1024 fun k => main_v8 A (i 0).val (i 1).val k))) (EReal.coe_add _ _).symm
  rfl

def main_v10 (A : Args) (a0 a1 a2 : ℕ) : ℝ := main_v9 A 0 a1
theorem s_main_v10 (A : Args) : val_main_v10 (F := Ideal) (up3 A.x0) = up3 (main_v10 A) := by
  funext i; rw [val_main_v10_apply, s_main_v9 A]; rfl

def main_cst_0 (A : Args) : ℝ := 1024
theorem s_main_cst_0 (A : Args) (i : S_.Idx) : val_main_cst_0 (F := Ideal) i = ((main_cst_0 A : ℝ) : EReal) := k1024_f32

def main_v11 (A : Args) (a0 a1 a2 : ℕ) : ℝ := main_cst_0 A
theorem s_main_v11 (A : Args) : val_main_v11 (F := Ideal) = up3 (main_v11 A) := by
  funext i; rw [val_main_v11_apply]; exact s_main_cst_0 A _

def main_v12 (A : Args) (a0 a1 a2 : ℕ) : ℝ := main_v10 A a0 a1 a2 / main_v11 A a0 a1 a2
theorem s_main_v12 (A : Args) : val_main_v12 (F := Ideal) (up3 A.x0) = up3 (main_v12 A) := by
  funext i; rw [val_main_v12_apply, s_main_v10 A, s_main_v11 A]
  exact div_real _ _ (by show (1024:ℝ) ≠ 0; norm_num)

def main_cst_1 (A : Args) : ℝ := eps
theorem s_main_cst_1 (A : Args) (i : S_.Idx) : val_main_cst_1 (F := Ideal) i = ((main_cst_1 A : ℝ) : EReal) := eps_f32

def main_v13 (A : Args) (a0 a1 a2 : ℕ) : ℝ := main_cst_1 A
theorem s_main_v13 (A : Args) : val_main_v13 (F := Ideal) = up3 (main_v13 A) := by
  funext i; rw [val_main_v13_apply]; exact s_main_cst_1 A _

def main_v14 (A : Args) (a0 a1 a2 : ℕ) : ℝ := main_v12 A a0 a1 a2 + main_v13 A a0 a1 a2
theorem s_main_v14 (A : Args) : val_main_v14 (F := Ideal) (up3 A.x0) = up3 (main_v14 A) := by
  funext i; rw [val_main_v14_apply, s_main_v12 A, s_main_v13 A]; exact (EReal.coe_add _ _).symm

theorem v14_pos (A : Args) (a0 a1 a2 : ℕ) : 0 < main_v14 A a0 a1 a2 := by
  show 0 < (0 + ∑ k ∈ Finset.range 1024, A.x0 0 a1 k * A.x0 0 a1 k) / 1024 + eps
  rw [zero_add]; exact ms_pos _

def main_v15 (A : Args) (a0 a1 a2 : ℕ) : ℝ := (√(main_v14 A a0 a1 a2))⁻¹
theorem s_main_v15 (A : Args) : val_main_v15 (F := Ideal) (up3 A.x0) = up3 (main_v15 A) := by
  funext i; rw [val_main_v15_apply, s_main_v14 A]
  have hp := v14_pos A (i 0).val (i 1).val (i 2).val
  refine (Ideal.rsqrt_coe _).trans ?_
  rw [if_neg (not_lt.2 hp.le), if_neg hp.ne']; rfl

def main_v16 (A : Args) (a0 a1 a2 : ℕ) : ℝ := main_v15 A a0 a1 a2 / main_v14 A a0 a1 a2
theorem s_main_v16 (A : Args) : val_main_v16 (F := Ideal) (up3 A.x0) = up3 (main_v16 A) := by
  funext i; rw [val_main_v16_apply, s_main_v15 A, s_main_v14 A]
  exact div_real _ _ ((v14_pos A _ _ _).ne')

def main_cst_2 (A : Args) : ℝ := (-(1/2))
theorem s_main_cst_2 (A : Args) (i : S_.Idx) : val_main_cst_2 (F := Ideal) i = ((main_cst_2 A : ℝ) : EReal) := neg_half_f32

def main_v17 (A : Args) (a0 a1 a2 : ℕ) : ℝ := main_cst_2 A
theorem s_main_v17 (A : Args) : val_main_v17 (F := Ideal) = up3 (main_v17 A) := by
  funext i; rw [val_main_v17_apply]; exact s_main_cst_2 A _

def main_v18 (A : Args) (a0 a1 a2 : ℕ) : ℝ := main_v17 A a0 a1 a2 * main_v16 A a0 a1 a2
theorem s_main_v18 (A : Args) : val_main_v18 (F := Ideal) (up3 A.x0) = up3 (main_v18 A) := by
  funext i; rw [val_main_v18_apply, s_main_v17 A, s_main_v16 A]; exact (EReal.coe_mul _ _).symm

def main_v19 (A : Args) (a0 a1 a2 : ℕ) : ℝ := main_v15 A 0 a1 0
theorem s_main_v19 (A : Args) : val_main_v19 (F := Ideal) (up3 A.x0) = up3 (main_v19 A) := by
  funext i; rw [val_main_v19_apply, s_main_v15 A]; rfl

def main_v20 (A : Args) (a0 a1 a2 : ℕ) : ℝ := A.x0 a0 a1 a2 * main_v19 A a0 a1 a2
theorem s_main_v20 (A : Args) : val_main_v20 (F := Ideal) (up3 A.x0) = up3 (main_v20 A) := by
  funext i; rw [val_main_v20_apply, s_main_v19 A]; exact (EReal.coe_mul _ _).symm

def main_v21 (A : Args) (a0 a1 a2 : ℕ) : ℝ := main_v7 A a2
theorem s_main_v21 (A : Args) : val_main_v21 (F := Ideal) (up2 A.x2) = up3 (main_v21 A) := by
  funext i; rw [val_main_v21_apply, s_main_v7 A]; rfl

def main_v22 (A : Args) (a0 a1 a2 : ℕ) : ℝ := main_v21 A 0 0 a2
theorem s_main_v22 (A : Args) : val_main_v22 (F := Ideal) (up2 A.x2) = up3 (main_v22 A) := by
  funext i; rw [val_main_v22_apply, s_main_v21 A]; rfl

def main_v23 (A : Args) (a0 a1 a2 : ℕ) : ℝ := main_v20 A a0 a1 a2 * main_v22 A a0 a1 a2
theorem s_main_v23 (A : Args) : val_main_v23 (F := Ideal) (up3 A.x0) (up2 A.x2) = up3 (main_v23 A) := by
  funext i; rw [val_main_v23_apply, s_main_v20 A, s_main_v22 A]; exact (EReal.coe_mul _ _).symm

def main_cst_3 (A : Args) : ℝ := 1
theorem s_main_cst_3 (A : Args) (i : S_.Idx) : val_main_cst_3 (F := Ideal) i = ((main_cst_3 A : ℝ) : EReal) := one_f32

def main_v24 (A : Args) (a0 a1 a2 : ℕ) : ℝ := main_cst_3 A
theorem s_main_v24 (A : Args) : val_main_v24 (F := Ideal) = up3 (main_v24 A) := by
  funext i; rw [val_main_v24_apply]; exact s_main_cst_3 A _

def main_v25 (A : Args) (a0 a1 a2 : ℕ) : ℝ := main_v24 A a0 a1 a2 + main_v2 A a0 a1 a2
theorem s_main_v25 (A : Args) : val_main_v25 (F := Ideal) (up2 A.x1) = up3 (main_v25 A) := by
  funext i; rw [val_main_v25_apply, s_main_v24 A, s_main_v2 A]; exact (EReal.coe_add _ _).symm

def main_v26 (A : Args) (a0 a1 a2 : ℕ) : ℝ := main_v25 A 0 0 a2
theorem s_main_v26 (A : Args) : val_main_v26 (F := Ideal) (up2 A.x1) = up3 (main_v26 A) := by
  funext i; rw [val_main_v26_apply, s_main_v25 A]; rfl

def main_v27 (A : Args) (a0 a1 a2 : ℕ) : ℝ := main_v23 A a0 a1 a2 * main_v26 A a0 a1 a2
theorem s_main_v27 (A : Args) : val_main_v27 (F := Ideal) (up3 A.x0) (up2 A.x1) (up2 A.x2) = up3 (main_v27 A) := by
  funext i; rw [val_main_v27_apply, s_main_v23 A, s_main_v26 A]; exact (EReal.coe_mul _ _).symm

def main_v28 (A : Args) (a0 a1 a2 : ℕ) : ℝ := main_v1 A 0 0 a2
theorem s_main_v28 (A : Args) : val_main_v28 (F := Ideal) (up2 A.x1) = up3 (main_v28 A) := by
  funext i; rw [val_main_v28_apply, s_main_v1 A]; rfl

def main_v29 (A : Args) (a0 a1 a2 : ℕ) : ℝ := main_v27 A a0 a1 a2 + main_v28 A a0 a1 a2
theorem s_main_v29 (A : Args) : val_main_v29 (F := Ideal) (up3 A.x0) (up2 A.x1) (up2 A.x2) = up3 (main_v29 A) := by
  funext i; rw [val_main_v29_apply, s_main_v27 A, s_main_v28 A]; exact (EReal.coe_add _ _).symm

def main_v30 (A : Args) (a0 a1 : ℕ) : ℝ := A.x8 0 a0 a1
theorem s_main_v30 (A : Args) : val_main_v30 (F := Ideal) (up3 A.x8) = up2 (main_v30 A) := by
  funext i; rw [val_main_v30_apply]
  have h0 : (i 0).val < 1024 := (i 0).isLt
  have h1 : (i 1).val < 7168 := (i 1).isLt
  show ((A.x8 (0) (((i 0).val * 7168 + (i 1).val) / 7168 % 1024) (((i 0).val * 7168 + (i 1).val) % 7168) : ℝ) : EReal) = ((A.x8 (0) ((i 0).val) ((i 1).val) : ℝ) : EReal)
  rw [show ((i 0).val * 7168 + (i 1).val) / 7168 % 1024 = (i 0).val by omega, show ((i 0).val * 7168 + (i 1).val) % 7168 = (i 1).val by omega]

def main_v31 (A : Args) (a0 a1 a2 : ℕ) : ℝ := ∑ k ∈ Finset.range 1024, main_v29 A a0 a1 k * main_v30 A k a2
theorem s_main_v31 (A : Args) : val_main_v31 (F := Ideal) (up3 A.x0) (up2 A.x1) (up2 A.x2) (up3 A.x8) = up3 (main_v31 A) := by
  funext i; rw [val_main_v31_apply, s_main_v29 A, s_main_v30 A]; refine Eq.trans (Finset.sum_congr rfl fun k _ => ?_) (coe_sum_fin 1024 fun k => _)
  exact (EReal.coe_mul _ _).symm

def main_v32 (A : Args) (a0 a1 a2 : ℕ) : ℝ := ∑ k ∈ Finset.range 7168, A.x10 a0 a1 k * main_v30 A a2 k
theorem s_main_v32 (A : Args) : val_main_v32 (F := Ideal) (up3 A.x8) (up3 A.x10) = up3 (main_v32 A) := by
  funext i; rw [val_main_v32_apply, s_main_v30 A]; refine Eq.trans (Finset.sum_congr rfl fun k _ => ?_) (coe_sum_fin 7168 fun k => _)
  exact (EReal.coe_mul _ _).symm

def main_cst_4 (A : Args) : ℝ := 0
theorem s_main_cst_4 (A : Args) (i : S_.Idx) : val_main_cst_4 (F := Ideal) i = ((main_cst_4 A : ℝ) : EReal) := zero_f32

def main_v33 (A : Args) (a0 a1 : ℕ) : ℝ := main_cst_4 A + ∑ k ∈ Finset.range 8192, main_v32 A a0 k a1
theorem s_main_v33 (A : Args) : val_main_v33 (F := Ideal) (up3 A.x8) (up3 A.x10) = up2 (main_v33 A) := by
  funext i; rw [val_main_v33_apply, s_main_v32 A, s_main_cst_4 A]
  refine Eq.trans (congrArg _ (Eq.trans (Finset.sum_congr rfl fun k _ => ?_) (coe_sum_fin 8192 fun k => main_v32 A (i 0).val k (i 1).val))) (EReal.coe_add _ _).symm
  rfl

def main_v34 (A : Args) (a0 a1 a2 : ℕ) : ℝ := main_v33 A 0 a2
theorem s_main_v34 (A : Args) : val_main_v34 (F := Ideal) (up3 A.x8) (up3 A.x10) = up3 (main_v34 A) := by
  funext i; rw [val_main_v34_apply, s_main_v33 A]
  have h0 : (i 0).val < 1 := (i 0).isLt
  have h1 : (i 1).val < 1 := (i 1).isLt
  have h2 : (i 2).val < 1024 := (i 2).isLt
  show ((main_v33 A (0) ((((i 0).val * 1 + (i 1).val) * 1024 + (i 2).val) % 1024) : ℝ) : EReal) = ((main_v33 A (0) ((i 2).val) : ℝ) : EReal)
  rw [show (((i 0).val * 1 + (i 1).val) * 1024 + (i 2).val) % 1024 = (i 2).val by omega]

def main_v35 (A : Args) (a0 a1 a2 : ℕ) : ℝ := main_v23 A a0 a1 a2 * main_v32 A a0 a1 a2
theorem s_main_v35 (A : Args) : val_main_v35 (F := Ideal) (up3 A.x0) (up2 A.x2) (up3 A.x8) (up3 A.x10) = up3 (main_v35 A) := by
  funext i; rw [val_main_v35_apply, s_main_v23 A, s_main_v32 A]; exact (EReal.coe_mul _ _).symm

def main_cst_5 (A : Args) : ℝ := 0
theorem s_main_cst_5 (A : Args) (i : S_.Idx) : val_main_cst_5 (F := Ideal) i = ((main_cst_5 A : ℝ) : EReal) := zero_f32

def main_v36 (A : Args) (a0 a1 : ℕ) : ℝ := main_cst_5 A + ∑ k ∈ Finset.range 8192, main_v35 A a0 k a1
theorem s_main_v36 (A : Args) : val_main_v36 (F := Ideal) (up3 A.x0) (up2 A.x2) (up3 A.x8) (up3 A.x10) = up2 (main_v36 A) := by
  funext i; rw [val_main_v36_apply, s_main_v35 A, s_main_cst_5 A]
  refine Eq.trans (congrArg _ (Eq.trans (Finset.sum_congr rfl fun k _ => ?_) (coe_sum_fin 8192 fun k => main_v35 A (i 0).val k (i 1).val))) (EReal.coe_add _ _).symm
  rfl

def main_v37 (A : Args) (a0 a1 a2 : ℕ) : ℝ := main_v36 A 0 a2
theorem s_main_v37 (A : Args) : val_main_v37 (F := Ideal) (up3 A.x0) (up2 A.x2) (up3 A.x8) (up3 A.x10) = up3 (main_v37 A) := by
  funext i; rw [val_main_v37_apply, s_main_v36 A]
  have h0 : (i 0).val < 1 := (i 0).isLt
  have h1 : (i 1).val < 1 := (i 1).isLt
  have h2 : (i 2).val < 1024 := (i 2).isLt
  show ((main_v36 A (0) ((((i 0).val * 1 + (i 1).val) * 1024 + (i 2).val) % 1024) : ℝ) : EReal) = ((main_v36 A (0) ((i 2).val) : ℝ) : EReal)
  rw [show (((i 0).val * 1 + (i 1).val) * 1024 + (i 2).val) % 1024 = (i 2).val by omega]

def main_v38 (A : Args) (a0 a1 a2 : ℕ) : ℝ := main_v25 A 0 0 a2
theorem s_main_v38 (A : Args) : val_main_v38 (F := Ideal) (up2 A.x1) = up3 (main_v38 A) := by
  funext i; rw [val_main_v38_apply, s_main_v25 A]; rfl

def main_v39 (A : Args) (a0 a1 a2 : ℕ) : ℝ := main_v32 A a0 a1 a2 * main_v38 A a0 a1 a2
theorem s_main_v39 (A : Args) : val_main_v39 (F := Ideal) (up2 A.x1) (up3 A.x8) (up3 A.x10) = up3 (main_v39 A) := by
  funext i; rw [val_main_v39_apply, s_main_v32 A, s_main_v38 A]; exact (EReal.coe_mul _ _).symm

def main_v40 (A : Args) (a0 a1 a2 : ℕ) : ℝ := main_v20 A a0 a1 a2 * main_v39 A a0 a1 a2
theorem s_main_v40 (A : Args) : val_main_v40 (F := Ideal) (up3 A.x0) (up2 A.x1) (up3 A.x8) (up3 A.x10) = up3 (main_v40 A) := by
  funext i; rw [val_main_v40_apply, s_main_v20 A, s_main_v39 A]; exact (EReal.coe_mul _ _).symm

def main_cst_6 (A : Args) : ℝ := 0
theorem s_main_cst_6 (A : Args) (i : S_.Idx) : val_main_cst_6 (F := Ideal) i = ((main_cst_6 A : ℝ) : EReal) := zero_f32

def main_v41 (A : Args) (a0 a1 : ℕ) : ℝ := main_cst_6 A + ∑ k ∈ Finset.range 8192, main_v40 A a0 k a1
theorem s_main_v41 (A : Args) : val_main_v41 (F := Ideal) (up3 A.x0) (up2 A.x1) (up3 A.x8) (up3 A.x10) = up2 (main_v41 A) := by
  funext i; rw [val_main_v41_apply, s_main_v40 A, s_main_cst_6 A]
  refine Eq.trans (congrArg _ (Eq.trans (Finset.sum_congr rfl fun k _ => ?_) (coe_sum_fin 8192 fun k => main_v40 A (i 0).val k (i 1).val))) (EReal.coe_add _ _).symm
  rfl

def main_v42 (A : Args) (a0 a1 a2 : ℕ) : ℝ := main_v41 A 0 a2
theorem s_main_v42 (A : Args) : val_main_v42 (F := Ideal) (up3 A.x0) (up2 A.x1) (up3 A.x8) (up3 A.x10) = up3 (main_v42 A) := by
  funext i; rw [val_main_v42_apply, s_main_v41 A]
  have h0 : (i 0).val < 1 := (i 0).isLt
  have h1 : (i 1).val < 1 := (i 1).isLt
  have h2 : (i 2).val < 1024 := (i 2).isLt
  show ((main_v41 A (0) ((((i 0).val * 1 + (i 1).val) * 1024 + (i 2).val) % 1024) : ℝ) : EReal) = ((main_v41 A (0) ((i 2).val) : ℝ) : EReal)
  rw [show (((i 0).val * 1 + (i 1).val) * 1024 + (i 2).val) % 1024 = (i 2).val by omega]

def main_v43 (A : Args) (a0 a1 a2 : ℕ) : ℝ := main_v21 A 0 0 a2
theorem s_main_v43 (A : Args) : val_main_v43 (F := Ideal) (up2 A.x2) = up3 (main_v43 A) := by
  funext i; rw [val_main_v43_apply, s_main_v21 A]; rfl

def main_v44 (A : Args) (a0 a1 a2 : ℕ) : ℝ := main_v39 A a0 a1 a2 * main_v43 A a0 a1 a2
theorem s_main_v44 (A : Args) : val_main_v44 (F := Ideal) (up2 A.x1) (up2 A.x2) (up3 A.x8) (up3 A.x10) = up3 (main_v44 A) := by
  funext i; rw [val_main_v44_apply, s_main_v39 A, s_main_v43 A]; exact (EReal.coe_mul _ _).symm

def main_cst_7 (A : Args) : ℝ := 0
theorem s_main_cst_7 (A : Args) (i : S_.Idx) : val_main_cst_7 (F := Ideal) i = ((main_cst_7 A : ℝ) : EReal) := zero_f32

def main_v45 (A : Args) (a0 : ℕ) : ℝ := main_cst_7 A + main_v42 A 0 0 a0
theorem s_main_v45 (A : Args) : val_main_v45 (F := Ideal) (up3 A.x0) (up2 A.x1) (up3 A.x8) (up3 A.x10) = up1 (main_v45 A) := by
  funext i; unfold val_main_v45; rw [s_main_v42 A]
  have h0 := (i 0).isLt
  refine (reduce_unit _ _ _ i (ValueIdx.ix3 0 0 (i 0)) ?_ ?_).trans ?_
  · funext b; match b with | ⟨0, _⟩ => exact rfl
  · intro k hk; have e : (k 2 : ℕ) = (i 0 : ℕ) := congrArg (fun q => (q 0 : ℕ)) hk
    have q0 : (k 0).val < 1 := (k 0).isLt
    have q1 : (k 1).val < 1 := (k 1).isLt
    have q2 : (k 2).val < 1024 := (k 2).isLt
    funext b; apply Fin.ext; match b with
    | ⟨0, _⟩ => show (k 0).val = 0; omega
    | ⟨1, _⟩ => show (k 1).val = 0; omega
    | ⟨2, _⟩ => exact e
  · rw [s_main_cst_7 A]; exact (EReal.coe_add _ _).symm

def main_v46 (A : Args) (a0 a1 a2 : ℕ) : ℝ := A.x0 a0 a1 a2 * main_v44 A a0 a1 a2
theorem s_main_v46 (A : Args) : val_main_v46 (F := Ideal) (up3 A.x0) (up2 A.x1) (up2 A.x2) (up3 A.x8) (up3 A.x10) = up3 (main_v46 A) := by
  funext i; rw [val_main_v46_apply, s_main_v44 A]; exact (EReal.coe_mul _ _).symm

def main_cst_8 (A : Args) : ℝ := 0
theorem s_main_cst_8 (A : Args) (i : S_.Idx) : val_main_cst_8 (F := Ideal) i = ((main_cst_8 A : ℝ) : EReal) := zero_f32

def main_v47 (A : Args) (a0 a1 : ℕ) : ℝ := main_cst_8 A + ∑ k ∈ Finset.range 1024, main_v46 A a0 a1 k
theorem s_main_v47 (A : Args) : val_main_v47 (F := Ideal) (up3 A.x0) (up2 A.x1) (up2 A.x2) (up3 A.x8) (up3 A.x10) = up2 (main_v47 A) := by
  funext i; rw [val_main_v47_apply, s_main_v46 A, s_main_cst_8 A]
  refine Eq.trans (congrArg _ (Eq.trans (Finset.sum_congr rfl fun k _ => ?_) (coe_sum_fin 1024 fun k => main_v46 A (i 0).val (i 1).val k))) (EReal.coe_add _ _).symm
  rfl

def main_v48 (A : Args) (a0 a1 a2 : ℕ) : ℝ := main_v47 A 0 a1
theorem s_main_v48 (A : Args) : val_main_v48 (F := Ideal) (up3 A.x0) (up2 A.x1) (up2 A.x2) (up3 A.x8) (up3 A.x10) = up3 (main_v48 A) := by
  funext i; rw [val_main_v48_apply, s_main_v47 A]
  have h0 : (i 0).val < 1 := (i 0).isLt
  have h1 : (i 1).val < 8192 := (i 1).isLt
  have h2 : (i 2).val < 1 := (i 2).isLt
  show ((main_v47 A (0) ((((i 0).val * 8192 + (i 1).val) * 1 + (i 2).val) % 8192) : ℝ) : EReal) = ((main_v47 A (0) ((i 1).val) : ℝ) : EReal)
  rw [show (((i 0).val * 8192 + (i 1).val) * 1 + (i 2).val) % 8192 = (i 1).val by omega]

def main_v49 (A : Args) (a0 a1 a2 : ℕ) : ℝ := main_v15 A 0 a1 0
theorem s_main_v49 (A : Args) : val_main_v49 (F := Ideal) (up3 A.x0) = up3 (main_v49 A) := by
  funext i; rw [val_main_v49_apply, s_main_v15 A]; rfl

def main_v50 (A : Args) (a0 a1 a2 : ℕ) : ℝ := main_v44 A a0 a1 a2 * main_v49 A a0 a1 a2
theorem s_main_v50 (A : Args) : val_main_v50 (F := Ideal) (up3 A.x0) (up2 A.x1) (up2 A.x2) (up3 A.x8) (up3 A.x10) = up3 (main_v50 A) := by
  funext i; rw [val_main_v50_apply, s_main_v44 A, s_main_v49 A]; exact (EReal.coe_mul _ _).symm

def main_v51 (A : Args) (a0 a1 a2 : ℕ) : ℝ := A.x9 a0 a1 a2 + main_v50 A a0 a1 a2
theorem s_main_v51 (A : Args) : val_main_v51 (F := Ideal) (up3 A.x0) (up2 A.x1) (up2 A.x2) (up3 A.x8) (up3 A.x9) (up3 A.x10) = up3 (main_v51 A) := by
  funext i; rw [val_main_v51_apply, s_main_v50 A]; exact (EReal.coe_add _ _).symm

def main_v52 (A : Args) (a0 a1 a2 : ℕ) : ℝ := main_v48 A a0 a1 a2 * main_v18 A a0 a1 a2
theorem s_main_v52 (A : Args) : val_main_v52 (F := Ideal) (up3 A.x0) (up2 A.x1) (up2 A.x2) (up3 A.x8) (up3 A.x10) = up3 (main_v52 A) := by
  funext i; rw [val_main_v52_apply, s_main_v48 A, s_main_v18 A]; exact (EReal.coe_mul _ _).symm

def main_cst_9 (A : Args) : ℝ := 1024
theorem s_main_cst_9 (A : Args) (i : S_.Idx) : val_main_cst_9 (F := Ideal) i = ((main_cst_9 A : ℝ) : EReal) := k1024_f32

def main_v53 (A : Args) (a0 a1 a2 : ℕ) : ℝ := main_cst_9 A
theorem s_main_v53 (A : Args) : val_main_v53 (F := Ideal) = up3 (main_v53 A) := by
  funext i; rw [val_main_v53_apply]; exact s_main_cst_9 A _

def main_v54 (A : Args) (a0 a1 a2 : ℕ) : ℝ := main_v52 A a0 a1 a2 / main_v53 A a0 a1 a2
theorem s_main_v54 (A : Args) : val_main_v54 (F := Ideal) (up3 A.x0) (up2 A.x1) (up2 A.x2) (up3 A.x8) (up3 A.x10) = up3 (main_v54 A) := by
  funext i; rw [val_main_v54_apply, s_main_v52 A, s_main_v53 A]
  exact div_real _ _ (by show (1024:ℝ) ≠ 0; norm_num)

def main_cst_10 (A : Args) : ℝ := 0
theorem s_main_cst_10 (A : Args) (i : S_.Idx) : val_main_cst_10 (F := Ideal) i = ((main_cst_10 A : ℝ) : EReal) := zero_f32

def main_v55 (A : Args) (a0 : ℕ) : ℝ := main_cst_10 A + main_v54 A 0 a0 0
theorem s_main_v55 (A : Args) : val_main_v55 (F := Ideal) (up3 A.x0) (up2 A.x1) (up2 A.x2) (up3 A.x8) (up3 A.x10) = up1 (main_v55 A) := by
  funext i; unfold val_main_v55; rw [s_main_v54 A]
  have h0 := (i 0).isLt
  refine (reduce_unit _ _ _ i (ValueIdx.ix3 0 (i 0) 0) ?_ ?_).trans ?_
  · funext b; match b with | ⟨0, _⟩ => exact rfl
  · intro k hk; have e : (k 1 : ℕ) = (i 0 : ℕ) := congrArg (fun q => (q 0 : ℕ)) hk
    have q0 : (k 0).val < 1 := (k 0).isLt
    have q1 : (k 1).val < 8192 := (k 1).isLt
    have q2 : (k 2).val < 1 := (k 2).isLt
    funext b; apply Fin.ext; match b with
    | ⟨0, _⟩ => show (k 0).val = 0; omega
    | ⟨1, _⟩ => exact e
    | ⟨2, _⟩ => show (k 2).val = 0; omega
  · rw [s_main_cst_10 A]; exact (EReal.coe_add _ _).symm

def main_v56 (A : Args) (a0 a1 : ℕ) : ℝ := main_v55 A a1
theorem s_main_v56 (A : Args) : val_main_v56 (F := Ideal) (up3 A.x0) (up2 A.x1) (up2 A.x2) (up3 A.x8) (up3 A.x10) = up2 (main_v56 A) := by
  funext i; rw [val_main_v56_apply, s_main_v55 A]; rfl

def main_v57 (A : Args) (a0 a1 a2 : ℕ) : ℝ := main_v56 A 0 a1
theorem s_main_v57 (A : Args) : val_main_v57 (F := Ideal) (up3 A.x0) (up2 A.x1) (up2 A.x2) (up3 A.x8) (up3 A.x10) = up3 (main_v57 A) := by
  funext i; rw [val_main_v57_apply, s_main_v56 A]; rfl

def main_v58 (A : Args) (a0 a1 a2 : ℕ) : ℝ := A.x0 a0 a1 a2 * main_v57 A a0 a1 a2
theorem s_main_v58 (A : Args) : val_main_v58 (F := Ideal) (up3 A.x0) (up2 A.x1) (up2 A.x2) (up3 A.x8) (up3 A.x10) = up3 (main_v58 A) := by
  funext i; rw [val_main_v58_apply, s_main_v57 A]; exact (EReal.coe_mul _ _).symm

def main_v59 (A : Args) (a0 a1 a2 : ℕ) : ℝ := main_v51 A a0 a1 a2 + main_v58 A a0 a1 a2
theorem s_main_v59 (A : Args) : val_main_v59 (F := Ideal) (up3 A.x0) (up2 A.x1) (up2 A.x2) (up3 A.x8) (up3 A.x9) (up3 A.x10) = up3 (main_v59 A) := by
  funext i; rw [val_main_v59_apply, s_main_v51 A, s_main_v58 A]; exact (EReal.coe_add _ _).symm

def main_v60 (A : Args) (a0 a1 a2 : ℕ) : ℝ := main_v57 A a0 a1 a2 * A.x0 a0 a1 a2
theorem s_main_v60 (A : Args) : val_main_v60 (F := Ideal) (up3 A.x0) (up2 A.x1) (up2 A.x2) (up3 A.x8) (up3 A.x10) = up3 (main_v60 A) := by
  funext i; rw [val_main_v60_apply, s_main_v57 A]; exact (EReal.coe_mul _ _).symm

def main_v61 (A : Args) (a0 a1 a2 : ℕ) : ℝ := main_v59 A a0 a1 a2 + main_v60 A a0 a1 a2
theorem s_main_v61 (A : Args) : val_main_v61 (F := Ideal) (up3 A.x0) (up2 A.x1) (up2 A.x2) (up3 A.x8) (up3 A.x9) (up3 A.x10) = up3 (main_v61 A) := by
  funext i; rw [val_main_v61_apply, s_main_v59 A, s_main_v60 A]; exact (EReal.coe_add _ _).symm

def main_v62 (A : Args) (a0 a1 : ℕ) : ℝ := main_v61 A 0 a0 a1
theorem s_main_v62 (A : Args) : val_main_v62 (F := Ideal) (up3 A.x0) (up2 A.x1) (up2 A.x2) (up3 A.x8) (up3 A.x9) (up3 A.x10) = up2 (main_v62 A) := by
  funext i; rw [val_main_v62_apply, s_main_v61 A]
  have h0 : (i 0).val < 8192 := (i 0).isLt
  have h1 : (i 1).val < 1024 := (i 1).isLt
  show ((main_v61 A (0) (((i 0).val * 1024 + (i 1).val) / 1024 % 8192) (((i 0).val * 1024 + (i 1).val) % 1024) : ℝ) : EReal) = ((main_v61 A (0) ((i 0).val) ((i 1).val) : ℝ) : EReal)
  rw [show ((i 0).val * 1024 + (i 1).val) / 1024 % 8192 = (i 0).val by omega, show ((i 0).val * 1024 + (i 1).val) % 1024 = (i 1).val by omega]

def main_v63 (A : Args) (a0 a1 : ℕ) : ℝ := main_v34 A 0 0 a1
theorem s_main_v63 (A : Args) : val_main_v63 (F := Ideal) (up3 A.x8) (up3 A.x10) = up2 (main_v63 A) := by
  funext i; rw [val_main_v63_apply, s_main_v34 A]
  have h0 : (i 0).val < 1 := (i 0).isLt
  have h1 : (i 1).val < 1024 := (i 1).isLt
  show ((main_v34 A (0) (0) (((i 0).val * 1024 + (i 1).val) % 1024) : ℝ) : EReal) = ((main_v34 A (0) (0) ((i 1).val) : ℝ) : EReal)
  rw [show ((i 0).val * 1024 + (i 1).val) % 1024 = (i 1).val by omega]

def main_v64 (A : Args) (a0 a1 : ℕ) : ℝ := main_v37 A 0 0 a1
theorem s_main_v64 (A : Args) : val_main_v64 (F := Ideal) (up3 A.x0) (up2 A.x2) (up3 A.x8) (up3 A.x10) = up2 (main_v64 A) := by
  funext i; rw [val_main_v64_apply, s_main_v37 A]
  have h0 : (i 0).val < 1 := (i 0).isLt
  have h1 : (i 1).val < 1024 := (i 1).isLt
  show ((main_v37 A (0) (0) (((i 0).val * 1024 + (i 1).val) % 1024) : ℝ) : EReal) = ((main_v37 A (0) (0) ((i 1).val) : ℝ) : EReal)
  rw [show ((i 0).val * 1024 + (i 1).val) % 1024 = (i 1).val by omega]

def main_v65 (A : Args) (a0 a1 : ℕ) : ℝ := main_v45 A a1
theorem s_main_v65 (A : Args) : val_main_v65 (F := Ideal) (up3 A.x0) (up2 A.x1) (up3 A.x8) (up3 A.x10) = up2 (main_v65 A) := by
  funext i; rw [val_main_v65_apply, s_main_v45 A]; rfl

def main_cst_11 (A : Args) : ℝ := 0
theorem s_main_cst_11 (A : Args) (i : S_.Idx) : val_main_cst_11 (F := Ideal) i = ((main_cst_11 A : ℝ) : EReal) := zero_f32

def main_v66 (A : Args) (a0 a1 : ℕ) : ℝ := main_cst_11 A
theorem s_main_v66 (A : Args) : val_main_v66 (F := Ideal) = up2 (main_v66 A) := by
  funext i; rw [val_main_v66_apply]; exact s_main_cst_11 A _

def main_v67 (A : Args) (a0 a1 : ℕ) : ℝ := if a0 < 1 then main_v63 A a0 a1 else if a0 < 2 then main_v64 A (a0 - 1) a1 else if a0 < 3 then main_v65 A (a0 - 2) a1 else main_v66 A (a0 - 3) a1
theorem s_main_v67 (A : Args) : val_main_v67 (F := Ideal) (up3 A.x0) (up2 A.x1) (up2 A.x2) (up3 A.x8) (up3 A.x10) = up2 (main_v67 A) := by
  funext i; unfold val_main_v67
  have h0 : (i 0).val < 8 := (i 0).isLt
  have h1 : (i 1).val < 1024 := (i 1).isLt
  rw [s_main_v63 A, s_main_v64 A, s_main_v65 A, s_main_v66 A]
  by_cases c0 : (i 0).val < 1
  · refine (concatenate_apply_piece _ _ _ i 0 (by simp) S1x1024 _ rfl rfl 0 rfl (fun b => match b with | ⟨0, _⟩ => ⟨(i 0).val - 0, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 0 + ((i 0).val - 0) = (i 0).val; omega
    · show ((main_v63 A ((i 0).val - 0) (i 1).val : ℝ) : EReal) = ((main_v67 A (i 0).val (i 1).val : ℝ) : EReal)
      unfold main_v67; simp only [Nat.sub_zero]; rw [if_pos c0]
  by_cases c1 : (i 0).val < 2
  · refine (concatenate_apply_piece _ _ _ i 1 (by simp) S1x1024 _ rfl rfl 1 rfl (fun b => match b with | ⟨0, _⟩ => ⟨(i 0).val - 1, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 1 + ((i 0).val - 1) = (i 0).val; omega
    · show ((main_v64 A ((i 0).val - 1) (i 1).val : ℝ) : EReal) = ((main_v67 A (i 0).val (i 1).val : ℝ) : EReal)
      unfold main_v67; rw [if_neg c0, if_pos c1]
  by_cases c2 : (i 0).val < 3
  · refine (concatenate_apply_piece _ _ _ i 2 (by simp) S1x1024 _ rfl rfl 2 rfl (fun b => match b with | ⟨0, _⟩ => ⟨(i 0).val - 2, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 2 + ((i 0).val - 2) = (i 0).val; omega
    · show ((main_v65 A ((i 0).val - 2) (i 1).val : ℝ) : EReal) = ((main_v67 A (i 0).val (i 1).val : ℝ) : EReal)
      unfold main_v67; rw [if_neg c0, if_neg c1, if_pos c2]
  refine (concatenate_apply_piece _ _ _ i 3 (by simp) S5x1024 _ rfl rfl 3 rfl (fun b => match b with | ⟨0, _⟩ => ⟨(i 0).val - 3, by show _ < 5; omega⟩ | ⟨1, _⟩ => ⟨(i 1).val, by show _ < 1024; omega⟩) ?_ ?_).trans ?_
  · intro b hb; match b with | ⟨0, _⟩ => exact absurd rfl hb | ⟨1, _⟩ => exact rfl
  · show 3 + ((i 0).val - 3) = (i 0).val; omega
  · show ((main_v66 A ((i 0).val - 3) (i 1).val : ℝ) : EReal) = ((main_v67 A (i 0).val (i 1).val : ℝ) : EReal)
    unfold main_v67; rw [if_neg c0, if_neg c1, if_neg c2]

end Cert.Bin.Ref
end
end
-- ==== Proof.Bin.RefSpec.lean ====
/-
  The reference's results are the gradient of the input's norm and projection, row by row.
-/
module

public import proofs.«01_k».proof.Proof.Bin.Ref
public import proofs.«01_k».proof.Proof.Bin.Spec

@[expose] public section

noncomputable section
open scoped BigOperators
namespace Cert.Bin.Ref
open Cert.Lift Cert.Bin

variable (A : Args)

/-- The modulation, one row to each of its six parts. -/
def M (i j : ℕ) : ℝ := if i < 6 then A.x1 0 (1024 * i + j) else 0
def P (i j : ℕ) : ℝ := A.x2 0 j
def Q (r f : ℕ) : ℝ := A.x10 0 r f
def D (r j : ℕ) : ℝ := A.x9 0 r j
def X (r j : ℕ) : ℝ := A.x0 0 r j
def W (j f : ℕ) : ℝ := A.x8 0 j f

theorem r_eq (r : ℕ) : main_v15 A 0 r 0 = rms (X A r) := by
  show (√((0 + ∑ k ∈ Finset.range 1024, A.x0 0 r k * A.x0 0 r k) / 1024 + eps))⁻¹ = _
  rw [zero_add]; rfl

theorem dh_eq (r j : ℕ) : main_v32 A 0 r j = dhS (W A) (Q A r) j := rfl

theorem dxn_eq (r j : ℕ) : main_v44 A 0 r j = dxnS (M A 1) (P A 0) (W A) (Q A r) j := by
  show main_v32 A 0 r j * (1 + A.x1 0 (1024 + j)) * A.x2 0 j = _
  rw [dh_eq]; unfold dxnS
  rw [show M A 1 j = A.x1 0 (1024 + j) from rfl, show P A 0 j = A.x2 0 j from rfl]; ring

theorem gx_eq (r j : ℕ) : main_v62 A r j = gxS (M A 1) (P A 0) (W A) (Q A r) (D A r) (X A r) j := by
  have hs : main_v47 A 0 r = ∑ k ∈ Finset.range 1024, X A r k * dxnS (M A 1) (P A 0) (W A) (Q A r) k := by
    show 0 + ∑ k ∈ Finset.range 1024, A.x0 0 r k * main_v44 A 0 r k = _
    rw [zero_add]; exact Finset.sum_congr rfl fun k _ => by rw [dxn_eq]; rfl
  have hm : main_v16 A 0 r 0 = rms (X A r) * rms (X A r) * rms (X A r) := by
    rw [← rms_cube]
    show main_v15 A 0 r 0 / ((0 + ∑ k ∈ Finset.range 1024, A.x0 0 r k * A.x0 0 r k) / 1024 + eps) = _
    rw [zero_add, r_eq]; rfl
  have h57 : main_v57 A 0 r j = main_v47 A 0 r * (-(1/2) * main_v16 A 0 r 0) / 1024 := by
    show 0 + main_v47 A 0 r * (-(1/2) * main_v16 A 0 r 0) / 1024 = _
    rw [zero_add]
  show A.x9 0 r j + main_v44 A 0 r j * main_v15 A 0 r 0 + A.x0 0 r j * main_v57 A 0 r j + main_v57 A 0 r j * A.x0 0 r j = _
  rw [h57, hs, hm, r_eq, dxn_eq]
  unfold gxS
  have e : (∑ k ∈ Finset.range 1024, dxnS (M A 1) (P A 0) (W A) (Q A r) k * (X A r k * rms (X A r)))
      = (∑ k ∈ Finset.range 1024, X A r k * dxnS (M A 1) (P A 0) (W A) (Q A r) k) * rms (X A r) := by
    rw [Finset.sum_mul]; exact Finset.sum_congr rfl fun k _ => by ring
  rw [e, show D A r j = A.x9 0 r j from rfl, show X A r j = A.x0 0 r j from rfl]
  ring

theorem sums_eq (i j : ℕ) (hi : i < 8) : main_v67 A i j =
    (if i = 0 then ∑ r ∈ Finset.range 8192, dhS (W A) (Q A r) j
    else if i = 1 then (∑ r ∈ Finset.range 8192, dhS (W A) (Q A r) j * (X A r j * rms (X A r))) * P A 0 j
    else if i = 2 then (∑ r ∈ Finset.range 8192, dhS (W A) (Q A r) j * (X A r j * rms (X A r))) * (1 + M A 1 j)
    else 0) := by
  have h0 : main_v63 A 0 j = ∑ r ∈ Finset.range 8192, dhS (W A) (Q A r) j := by
    show 0 + ∑ k ∈ Finset.range 8192, main_v32 A 0 k j = _
    rw [zero_add]; exact Finset.sum_congr rfl fun k _ => dh_eq A k j
  have h1 : main_v64 A 0 j = (∑ r ∈ Finset.range 8192, dhS (W A) (Q A r) j * (X A r j * rms (X A r))) * P A 0 j := by
    show 0 + ∑ k ∈ Finset.range 8192, A.x0 0 k j * main_v15 A 0 k 0 * A.x2 0 j * main_v32 A 0 k j = _
    rw [zero_add, Finset.sum_mul]; exact Finset.sum_congr rfl fun k _ => by rw [dh_eq, r_eq]; unfold X P; ring
  have h2 : main_v65 A 0 j = (∑ r ∈ Finset.range 8192, dhS (W A) (Q A r) j * (X A r j * rms (X A r))) * (1 + M A 1 j) := by
    show 0 + (0 + ∑ k ∈ Finset.range 8192, A.x0 0 k j * main_v15 A 0 k 0 * (main_v32 A 0 k j * (1 + A.x1 0 (1024 + j)))) = _
    rw [zero_add, zero_add, Finset.sum_mul]
    exact Finset.sum_congr rfl fun k _ => by
      rw [dh_eq, r_eq, show M A 1 j = A.x1 0 (1024 + j) from rfl]; unfold X; ring
  unfold main_v67
  rcases i with _ | _ | _ | i
  · exact h0
  · exact h1
  · exact h2
  · rw [if_neg (by omega), if_neg (by omega), if_neg (by omega), if_neg (by omega), if_neg (by omega), if_neg (by omega)]; rfl

end Cert.Bin.Ref
end
end
-- ==== Proof.Bin.Join.lean ====
/-
  The launch's two results and the reference's are the same arrays.
-/
module

public import proofs.«01_k».proof.Proof.Bin.Host
public import proofs.«01_k».proof.Proof.Bin.Outs
public import proofs.«01_k».proof.Proof.Bin.RefSpec
public import proofs.«01_k».proof.Proof.Lib.Finite
public import proofs.«01_k».proof.Defs

@[expose] public section

set_option maxRecDepth 8192
noncomputable section
open scoped BigOperators
namespace Cert.Bin.Join
open Cert.Kernel2Ideal Cert.Kernel2Ideal.Gen Cert.Kernel2Ideal.Value Idealize.ShloMosaic Idealize.ShloMosaic.TcCoe Idealize.SL.Sem
open Idealize.ShloMosaic.StableHlo Cert.Lift Cert.Bin

/-- The launch's arguments from the reference's. -/
def hargs (A : Ref.Args) : Host.Args := ⟨A.x0, A.x1, A.x8, A.x9, A.x10, A.x2⟩

variable (m : (ℓ : Loc nD τ sig) → Buf (Elt Ideal) ℓ) (c : Dev nD) {A : Ref.Args}

theorem hQ (h : Host.Holds m c (hargs A)) : V m c main_v7 = up2 (Ref.Q A) := Host.k_main_v7 m c h
theorem hX (h : Host.Holds m c (hargs A)) : V m c main_v8 = up2 (Ref.X A) := Host.k_main_v8 m c h
theorem hD (h : Host.Holds m c (hargs A)) : V m c main_v9 = up2 (Ref.D A) := Host.k_main_v9 m c h
theorem hM (h : Host.Holds m c (hargs A)) : V m c main_v2 = up2 (Ref.M A) := Host.k_main_v2 m c h
theorem hW (h : Host.Holds m c (hargs A)) : V m c main_v11 = up2 (Ref.W A) := Host.k_main_v11 m c h
/-- Of the gains' array the launch reads the first row. -/
theorem hP (h : Host.Holds m c (hargs A)) : RowIs (V m c main_v5) 0 (Ref.P A 0) := by
  intro y hy
  have e : V m c main_v5 = _ := (Host.at_line m c (i := 7) main_v5 rfl (by decide)).trans (nary_result ..)
  rw [e]
  refine (concatenate_apply_piece _ _ _ y 0 (by simp) S1x1024 _ rfl rfl 0 rfl (ValueIdx.ix2 0 (y 1)) ?_ ?_).trans ?_
  · intro b hb; match b with | ⟨0, _⟩ => exact absurd rfl hb | ⟨1, _⟩ => exact rfl
  · show 0 + 0 = (y 0).val; omega
  · show upto Host.ops (fun b => m (c, b)) 7 (Proc.devRef .tc main_arg2) _ = _
    rw [Host.settled m c 7 main_arg2 (by decide), Host.k_main_arg2 m c h]; rfl

/-- Finite arguments are reals. -/
theorem exists_args [Cert.Pre_finite2.Facts] (h : Cert.Pre_Kernel2Ideal_finite2 m) : ∃ A : Ref.Args, Host.Holds m c (hargs A) := by
  obtain ⟨p0, p1, p2, p8, p9, p10⟩ := h c
  obtain ⟨x0, e0⟩ := exists_up3 _ (finite_of _ _ p0)
  obtain ⟨x1, e1⟩ := exists_up2 _ (finite_of _ _ p1)
  obtain ⟨x2, e2⟩ := exists_up2 _ (finite_of _ _ p2)
  obtain ⟨x8, e8⟩ := exists_up3 _ (finite_of _ _ p8)
  obtain ⟨x9, e9⟩ := exists_up3 _ (finite_of _ _ p9)
  obtain ⟨x10, e10⟩ := exists_up3 _ (finite_of _ _ p10)
  exact ⟨⟨x0, x1, x2, x8, x9, x10⟩, e0, e1, e8, e9, e10, e2⟩

theorem res0 (h : Host.Holds m c (hargs A)) : (dats m 0 c).arrAt 5 cfg0.N = up2 (Ref.main_v62 A) :=
  (Kernel2Ideal.Bin.final5 m c (hQ m c h) (hX m c h) (hD m c h) (hM m c h) (hP m c h) (hW m c h)).trans
    (congrArg up2 (funext fun r => funext fun j => (Ref.gx_eq A r j).symm))
theorem res1 (h : Host.Holds m c (hargs A)) : (dats m 0 c).arrAt 6 cfg0.N = up2 (Ref.main_v67 A) := by
  refine (Kernel2Ideal.Bin.final6 m c (hQ m c h) (hX m c h) (hD m c h) (hM m c h) (hP m c h) (hW m c h)).trans ?_
  refine funext fun (i : S8x1024.Idx) => ?_
  exact congrArg (fun r : ℝ => (r : EReal)) (Ref.sums_eq A (i 0).val (i 1).val (i 0).isLt).symm

end Cert.Bin.Join
end
end
-- ==== Proof.Ffn.Host.lean ====
/-
  The arrays the host hands the launch, one operation at a time, over the reals.
-/
module

public import proofs.«01_k».proof.Proof.Gen.Kernel3Ideal.Value
public import proofs.«01_k».proof.Proof.Lib.HostLine

@[expose] public section

set_option maxRecDepth 8192
noncomputable section
open scoped BigOperators
namespace Cert.Ffn.Host
open Cert.Kernel3Ideal Cert.Kernel3Ideal.Gen Idealize.ShloMosaic Idealize.ShloMosaic.TcCoe Idealize.SL.Sem Idealize.ShloMosaic.StableHlo Cert.Lift

/-- The arguments, as arrays of reals. -/
structure Args where
  main_arg0 : ℕ → ℕ → ℕ → ℝ
  main_arg1 : ℕ → ℕ → ℝ
  main_arg3 : ℕ → ℕ → ℝ
  main_arg4 : ℕ → ℝ
  main_arg8 : ℕ → ℕ → ℕ → ℝ
  main_arg9 : ℕ → ℕ → ℕ → ℝ
  main_arg10 : ℕ → ℕ → ℕ → ℝ

/-- The launch's arrays are these reals. -/
structure Holds (m : (ℓ : Loc nD τ sig) → Buf (Elt Ideal) ℓ) (c : Dev nD) (A : Args) : Prop where
  main_arg0 : m (c, Proc.devRef .tc Cert.Kernel3Ideal.main_arg0) = up3 A.main_arg0
  main_arg1 : m (c, Proc.devRef .tc Cert.Kernel3Ideal.main_arg1) = up2 A.main_arg1
  main_arg3 : m (c, Proc.devRef .tc Cert.Kernel3Ideal.main_arg3) = up2 A.main_arg3
  main_arg4 : m (c, Proc.devRef .tc Cert.Kernel3Ideal.main_arg4) = up1 A.main_arg4
  main_arg8 : m (c, Proc.devRef .tc Cert.Kernel3Ideal.main_arg8) = up3 A.main_arg8
  main_arg9 : m (c, Proc.devRef .tc Cert.Kernel3Ideal.main_arg9) = up3 A.main_arg9
  main_arg10 : m (c, Proc.devRef .tc Cert.Kernel3Ideal.main_arg10) = up3 A.main_arg10

variable (m : (ℓ : Loc nD τ sig) → Buf (Elt Ideal) ℓ) (c : Dev nD) {A : Args}

abbrev ops : List (HloOp τ sig (Elt Ideal)) := hostOps0

abbrev written : List (Ref sig .tc) := [Cert.Kernel3Ideal.main_v0, Cert.Kernel3Ideal.main_cst, Cert.Kernel3Ideal.main_v1, Cert.Kernel3Ideal.main_v2, Cert.Kernel3Ideal.main_v3, Cert.Kernel3Ideal.main_cst_0, Cert.Kernel3Ideal.main_v4, Cert.Kernel3Ideal.main_v5, Cert.Kernel3Ideal.main_v6, Cert.Kernel3Ideal.main_v7, Cert.Kernel3Ideal.main_v8, Cert.Kernel3Ideal.main_v9, Cert.Kernel3Ideal.main_v10, Cert.Kernel3Ideal.main_v11, Cert.Kernel3Ideal.main_v12]
theorem writes_eq : ops.map HloOp.writes = written.map fun w => {Proc.devRef (τ := τ) .tc w} := rfl
/-- A buffer no later line writes is read the same after all lines. -/
theorem settled (i : ℕ) (r : Ref sig .tc) (hr : r ∉ written.drop i) : upto ops (fun b => m (c, b)) i (Proc.devRef .tc r) = V m c r := by
  have hW : (ops.drop i).map HloOp.writes = (written.drop i).map fun w => {Proc.devRef (τ := τ) .tc w} := by
    rw [List.map_drop, writes_eq, List.map_drop]
  refine (?_ : after (ops.take i) (fun b => m (c, b)) (Proc.devRef .tc r) = after ops (fun b => m (c, b)) (Proc.devRef .tc r))
  rw [← after_unwritten (written.drop i) hW hr (after (ops.take i) fun b => m (c, b)), ← Cert.Lift.after_append'', List.take_append_drop]
theorem at_line {i : ℕ} {op : HloOp τ sig (Elt Ideal)} {rest : List (HloOp τ sig (Elt Ideal))} (r : Ref sig .tc) (hs : ops.drop i = op :: rest)
    (hr : r ∉ written.drop (i + 1)) : V m c r = op.result (upto ops (fun b => m (c, b)) i) (Proc.devRef .tc r) := by
  refine after_last_write (written.drop (i + 1)) hs ?_ hr _
  have h : rest = ops.drop (i + 1) := by rw [← List.drop_drop, hs]; rfl
  rw [h, List.map_drop, writes_eq, List.map_drop]

theorem k_main_arg0 (hA : Holds m c A) : V m c Cert.Kernel3Ideal.main_arg0 = up3 A.main_arg0 := (after_unwritten written writes_eq (by decide) _).trans hA.main_arg0

theorem k_main_arg1 (hA : Holds m c A) : V m c Cert.Kernel3Ideal.main_arg1 = up2 A.main_arg1 := (after_unwritten written writes_eq (by decide) _).trans hA.main_arg1

theorem k_main_arg3 (hA : Holds m c A) : V m c Cert.Kernel3Ideal.main_arg3 = up2 A.main_arg3 := (after_unwritten written writes_eq (by decide) _).trans hA.main_arg3

theorem k_main_arg4 (hA : Holds m c A) : V m c Cert.Kernel3Ideal.main_arg4 = up1 A.main_arg4 := (after_unwritten written writes_eq (by decide) _).trans hA.main_arg4

theorem k_main_arg8 (hA : Holds m c A) : V m c Cert.Kernel3Ideal.main_arg8 = up3 A.main_arg8 := (after_unwritten written writes_eq (by decide) _).trans hA.main_arg8

theorem k_main_arg9 (hA : Holds m c A) : V m c Cert.Kernel3Ideal.main_arg9 = up3 A.main_arg9 := (after_unwritten written writes_eq (by decide) _).trans hA.main_arg9

theorem k_main_arg10 (hA : Holds m c A) : V m c Cert.Kernel3Ideal.main_arg10 = up3 A.main_arg10 := (after_unwritten written writes_eq (by decide) _).trans hA.main_arg10

def main_v0 (A : Args) (a0 a1 : ℕ) : ℝ := A.main_arg1 0 (1024 * a0 + a1)
theorem k_main_v0 (hA : Holds m c A) : V m c Cert.Kernel3Ideal.main_v0 = up2 (main_v0 A) := by
  refine (at_line m c (i := 0) Cert.Kernel3Ideal.main_v0 rfl (by decide)).trans ?_
  refine (reshape_result .. ).trans ?_
  rw [settled m c 0 Cert.Kernel3Ideal.main_arg1 (by decide), k_main_arg1 m c hA]
  refine funext fun (i : S6x1024.Idx) => ?_
  have h0 : (i 0).val < 6 := (i 0).isLt
  have h1 : (i 1).val < 1024 := (i 1).isLt
  refine (shapeCast_apply (up2 (A.main_arg1) : S1x6144.Idx → EReal) shapeCasts_S1x6144_S6x1024 i (fun b => match b with | ⟨0, _⟩ => ⟨0, by show _ < 1; omega⟩ | ⟨1, _⟩ => ⟨(1024 * (i 0).val + (i 1).val), by show _ < 6144; omega⟩) ?_).trans ?_
  · rw [Shape.rowMajor_val_two, Shape.rowMajor_val_two]
    show 0 * 6144 + (1024 * (i 0).val + (i 1).val) = (i 0).val * 1024 + (i 1).val
    omega
  · rfl

def main_cst (A : Args) : ℝ := 0
theorem k_main_cst (hA : Holds m c A) : V m c Cert.Kernel3Ideal.main_cst = (fun _ => ((main_cst A : ℝ) : EReal)) := by
  refine (at_line m c (i := 1) Cert.Kernel3Ideal.main_cst rfl (by decide)).trans ?_
  refine (nullary_result .. ).trans ?_
  exact funext fun _ => zero_f32

def main_v1 (A : Args) (a0 a1 : ℕ) : ℝ := main_cst A
theorem k_main_v1 (hA : Holds m c A) : V m c Cert.Kernel3Ideal.main_v1 = up2 (main_v1 A) := by
  refine (at_line m c (i := 2) Cert.Kernel3Ideal.main_v1 rfl (by decide)).trans ?_
  refine (unary_result .. ).trans ?_
  rw [settled m c 2 Cert.Kernel3Ideal.main_cst (by decide), k_main_cst m c hA]
  exact funext fun i => broadcastInDim_apply _ _ _ i (fun a => a.elim0) (fun a => a.elim0)

def main_v2 (A : Args) (a0 a1 : ℕ) : ℝ := if a0 < 6 then main_v0 A a0 a1 else main_v1 A (a0 - 6) a1
theorem k_main_v2 (hA : Holds m c A) : V m c Cert.Kernel3Ideal.main_v2 = up2 (main_v2 A) := by
  refine (at_line m c (i := 3) Cert.Kernel3Ideal.main_v2 rfl (by decide)).trans ?_
  refine (binary_result .. ).trans ?_
  rw [settled m c 3 Cert.Kernel3Ideal.main_v0 (by decide), k_main_v0 m c hA]
  rw [settled m c 3 Cert.Kernel3Ideal.main_v1 (by decide), k_main_v1 m c hA]
  refine funext fun (i : S8x1024.Idx) => ?_
  have h0 : (i 0).val < 8 := (i 0).isLt
  have h1 : (i 1).val < 1024 := (i 1).isLt
  by_cases c0 : (i 0).val < 6
  · refine (concatenate_apply_piece _ _ _ i 0 (by simp) S6x1024 _ rfl rfl 0 rfl (fun b => match b with | ⟨0, _⟩ => ⟨(i 0).val - 0, by show _ < 6; omega⟩ | ⟨1, _⟩ => ⟨(i 1).val, by show _ < 1024; omega⟩) ?_ ?_).trans ?_
    · intro b hb; match b with | ⟨0, _⟩ => exact absurd rfl hb | ⟨1, _⟩ => exact rfl
    · show 0 + ((i 0).val - 0) = (i 0).val; omega
    · show ((main_v0 A ((i 0).val - 0) (i 1).val : ℝ) : EReal) = ((main_v2 A (i 0).val (i 1).val : ℝ) : EReal)
      unfold main_v2; simp only [Nat.sub_zero]; rw [if_pos c0]
  refine (concatenate_apply_piece _ _ _ i 1 (by simp) S2x1024 _ rfl rfl 6 rfl (fun b => match b with | ⟨0, _⟩ => ⟨(i 0).val - 6, by show _ < 2; omega⟩ | ⟨1, _⟩ => ⟨(i 1).val, by show _ < 1024; omega⟩) ?_ ?_).trans ?_
  · intro b hb; match b with | ⟨0, _⟩ => exact absurd rfl hb | ⟨1, _⟩ => exact rfl
  · show 6 + ((i 0).val - 6) = (i 0).val; omega
  · show ((main_v1 A ((i 0).val - 6) (i 1).val : ℝ) : EReal) = ((main_v2 A (i 0).val (i 1).val : ℝ) : EReal)
    unfold main_v2; rw [if_neg c0]

def main_v3 (A : Args) (a0 a1 : ℕ) : ℝ := A.main_arg4 a1
theorem k_main_v3 (hA : Holds m c A) : V m c Cert.Kernel3Ideal.main_v3 = up2 (main_v3 A) := by
  refine (at_line m c (i := 4) Cert.Kernel3Ideal.main_v3 rfl (by decide)).trans ?_
  refine (reshape_result .. ).trans ?_
  rw [settled m c 4 Cert.Kernel3Ideal.main_arg4 (by decide), k_main_arg4 m c hA]
  refine funext fun (i : S1x1024.Idx) => ?_
  have h0 : (i 0).val < 1 := (i 0).isLt
  have h1 : (i 1).val < 1024 := (i 1).isLt
  refine (shapeCast_apply (up1 (A.main_arg4) : S1024.Idx → EReal) shapeCasts_S1024_S1x1024 i (fun b => match b with | ⟨0, _⟩ => ⟨(i 1).val, by show _ < 1024; omega⟩) ?_).trans ?_
  · rw [Shape.rowMajor_val_one, Shape.rowMajor_val_two]
    show (i 1).val = (i 0).val * 1024 + (i 1).val
    omega
  · rfl

def main_v6 (A : Args) (a0 a1 : ℕ) : ℝ := A.main_arg0 0 a0 a1
theorem k_main_v6 (hA : Holds m c A) : V m c Cert.Kernel3Ideal.main_v6 = up2 (main_v6 A) := by
  refine (at_line m c (i := 8) Cert.Kernel3Ideal.main_v6 rfl (by decide)).trans ?_
  refine (reshape_result .. ).trans ?_
  rw [settled m c 8 Cert.Kernel3Ideal.main_arg0 (by decide), k_main_arg0 m c hA]
  refine funext fun (i : S8192x1024.Idx) => ?_
  have h0 : (i 0).val < 8192 := (i 0).isLt
  have h1 : (i 1).val < 1024 := (i 1).isLt
  refine (shapeCast_apply (up3 (A.main_arg0) : S1x8192x1024.Idx → EReal) shapeCasts_S1x8192x1024_S8192x1024 i (fun b => match b with | ⟨0, _⟩ => ⟨0, by show _ < 1; omega⟩ | ⟨1, _⟩ => ⟨(i 0).val, by show _ < 8192; omega⟩ | ⟨2, _⟩ => ⟨(i 1).val, by show _ < 1024; omega⟩) ?_).trans ?_
  · rw [Shape.rowMajor_val_three, Shape.rowMajor_val_two]
    show (0 * 8192 + (i 0).val) * 1024 + (i 1).val = (i 0).val * 1024 + (i 1).val
    omega
  · rfl

def main_v7 (A : Args) (a0 a1 : ℕ) : ℝ := A.main_arg10 0 a0 a1
theorem k_main_v7 (hA : Holds m c A) : V m c Cert.Kernel3Ideal.main_v7 = up2 (main_v7 A) := by
  refine (at_line m c (i := 9) Cert.Kernel3Ideal.main_v7 rfl (by decide)).trans ?_
  refine (reshape_result .. ).trans ?_
  rw [settled m c 9 Cert.Kernel3Ideal.main_arg10 (by decide), k_main_arg10 m c hA]
  refine funext fun (i : S8192x1024.Idx) => ?_
  have h0 : (i 0).val < 8192 := (i 0).isLt
  have h1 : (i 1).val < 1024 := (i 1).isLt
  refine (shapeCast_apply (up3 (A.main_arg10) : S1x8192x1024.Idx → EReal) shapeCasts_S1x8192x1024_S8192x1024 i (fun b => match b with | ⟨0, _⟩ => ⟨0, by show _ < 1; omega⟩ | ⟨1, _⟩ => ⟨(i 0).val, by show _ < 8192; omega⟩ | ⟨2, _⟩ => ⟨(i 1).val, by show _ < 1024; omega⟩) ?_).trans ?_
  · rw [Shape.rowMajor_val_three, Shape.rowMajor_val_two]
    show (0 * 8192 + (i 0).val) * 1024 + (i 1).val = (i 0).val * 1024 + (i 1).val
    omega
  · rfl

def main_v8 (A : Args) (a0 a1 : ℕ) : ℝ := A.main_arg8 0 a0 a1
theorem k_main_v8 (hA : Holds m c A) : V m c Cert.Kernel3Ideal.main_v8 = up2 (main_v8 A) := by
  refine (at_line m c (i := 10) Cert.Kernel3Ideal.main_v8 rfl (by decide)).trans ?_
  refine (reshape_result .. ).trans ?_
  rw [settled m c 10 Cert.Kernel3Ideal.main_arg8 (by decide), k_main_arg8 m c hA]
  refine funext fun (i : S1024x5632.Idx) => ?_
  have h0 : (i 0).val < 1024 := (i 0).isLt
  have h1 : (i 1).val < 5632 := (i 1).isLt
  refine (shapeCast_apply (up3 (A.main_arg8) : S1x1024x5632.Idx → EReal) shapeCasts_S1x1024x5632_S1024x5632 i (fun b => match b with | ⟨0, _⟩ => ⟨0, by show _ < 1; omega⟩ | ⟨1, _⟩ => ⟨(i 0).val, by show _ < 1024; omega⟩ | ⟨2, _⟩ => ⟨(i 1).val, by show _ < 5632; omega⟩) ?_).trans ?_
  · rw [Shape.rowMajor_val_three, Shape.rowMajor_val_two]
    show (0 * 1024 + (i 0).val) * 5632 + (i 1).val = (i 0).val * 5632 + (i 1).val
    omega
  · rfl

def main_v9 (A : Args) (a0 a1 : ℕ) : ℝ := main_v8 A a1 a0
theorem k_main_v9 (hA : Holds m c A) : V m c Cert.Kernel3Ideal.main_v9 = up2 (main_v9 A) := by
  refine (at_line m c (i := 11) Cert.Kernel3Ideal.main_v9 rfl (by decide)).trans ?_
  refine (unary_result .. ).trans ?_
  rw [settled m c 11 Cert.Kernel3Ideal.main_v8 (by decide), k_main_v8 m c hA]
  funext i
  rfl

def main_v10 (A : Args) (a0 a1 : ℕ) : ℝ := main_v9 A a0 a1
theorem k_main_v10 (hA : Holds m c A) : V m c Cert.Kernel3Ideal.main_v10 = up2 (main_v10 A) := by
  refine (at_line m c (i := 12) Cert.Kernel3Ideal.main_v10 rfl (by decide)).trans ?_
  refine (unary_result .. ).trans ?_
  rw [settled m c 12 Cert.Kernel3Ideal.main_v9 (by decide), k_main_v9 m c hA]
  rfl

def main_v11 (A : Args) (a0 a1 : ℕ) : ℝ := A.main_arg9 0 a0 a1
theorem k_main_v11 (hA : Holds m c A) : V m c Cert.Kernel3Ideal.main_v11 = up2 (main_v11 A) := by
  refine (at_line m c (i := 13) Cert.Kernel3Ideal.main_v11 rfl (by decide)).trans ?_
  refine (reshape_result .. ).trans ?_
  rw [settled m c 13 Cert.Kernel3Ideal.main_arg9 (by decide), k_main_arg9 m c hA]
  refine funext fun (i : S2816x1024.Idx) => ?_
  have h0 : (i 0).val < 2816 := (i 0).isLt
  have h1 : (i 1).val < 1024 := (i 1).isLt
  refine (shapeCast_apply (up3 (A.main_arg9) : S1x2816x1024.Idx → EReal) shapeCasts_S1x2816x1024_S2816x1024 i (fun b => match b with | ⟨0, _⟩ => ⟨0, by show _ < 1; omega⟩ | ⟨1, _⟩ => ⟨(i 0).val, by show _ < 2816; omega⟩ | ⟨2, _⟩ => ⟨(i 1).val, by show _ < 1024; omega⟩) ?_).trans ?_
  · rw [Shape.rowMajor_val_three, Shape.rowMajor_val_two]
    show (0 * 2816 + (i 0).val) * 1024 + (i 1).val = (i 0).val * 1024 + (i 1).val
    omega
  · rfl

def main_v12 (A : Args) (a0 a1 : ℕ) : ℝ := main_v11 A a0 a1
theorem k_main_v12 (hA : Holds m c A) : V m c Cert.Kernel3Ideal.main_v12 = up2 (main_v12 A) := by
  refine (at_line m c (i := 14) Cert.Kernel3Ideal.main_v12 rfl (by decide)).trans ?_
  refine (unary_result .. ).trans ?_
  rw [settled m c 14 Cert.Kernel3Ideal.main_v11 (by decide), k_main_v11 m c hA]
  rfl

end Cert.Ffn.Host
end
end
-- ==== Proof.Ffn.Spec.lean ====
/-
  The feed-forward block with the final norm, the loss and its gradient over the reals, one row at a time: a row `x` of the
  block's input and a row `y` of the target.
-/
module

public import proofs.«01_k».proof.Proof.Lib.Lift

@[expose] public section

noncomputable section

open scoped BigOperators

namespace Cert.Ffn

open Cert.Lift

/-- The modulated norm of the block's input. -/
def h2S (g sc sh x : ℕ → ℝ) (j : ℕ) : ℝ := x j * rms x * g j * (1 + sc j) + sh j
/-- A row times the transposed up projection. -/
def abS (W0 : ℕ → ℕ → ℝ) (h : ℕ → ℝ) (f : ℕ) : ℝ := ∑ k ∈ Finset.range 1024, h k * W0 f k
/-- The gated activations of a row of pre-activations. -/
def actS (u : ℕ → ℝ) (f : ℕ) : ℝ := u f * sg (u f) * u (2816 + f)
/-- The down projection of a row of pre-activations. -/
def fS (W1 : ℕ → ℕ → ℝ) (u : ℕ → ℝ) (j : ℕ) : ℝ := ∑ f ∈ Finset.range 2816, actS u f * W1 f j
/-- The block's output. -/
def x2S (g2 x f : ℕ → ℝ) (j : ℕ) : ℝ := x j + g2 j * f j
/-- The error of the normed output. -/
def errS (gf z y : ℕ → ℝ) (j : ℕ) : ℝ := z j * rms z * gf j - y j
/-- The loss's gradient at the final norm's output. -/
def dyS (gf z y : ℕ → ℝ) (j : ℕ) : ℝ := errS gf z y j * (1 / 1024)
/-- The loss's gradient at the block's output. -/
def dx2S (gf z y : ℕ → ℝ) (j : ℕ) : ℝ :=
  rms z * (dyS gf z y j * gf j - z j * rms z * ((∑ k ∈ Finset.range 1024, dyS gf z y k * gf k * (z k * rms z)) / 1024))

/-- The pre-activations of a row of the block's input. -/
def uS (g sc sh : ℕ → ℝ) (W0 : ℕ → ℕ → ℝ) (x : ℕ → ℝ) : ℕ → ℝ := abS W0 (h2S g sc sh x)
/-- The block's product for a row of its input. -/
def ffS (g sc sh : ℕ → ℝ) (W0 W1 : ℕ → ℕ → ℝ) (x : ℕ → ℝ) : ℕ → ℝ := fS W1 (uS g sc sh W0 x)
/-- The block's output for a row of its input. -/
def zS (g sc sh g2 : ℕ → ℝ) (W0 W1 : ℕ → ℕ → ℝ) (x : ℕ → ℝ) : ℕ → ℝ := x2S g2 x (ffS g sc sh W0 W1 x)

/-- The second chunk of the down projection, added to what the first left. -/
def lastChunk (b u v w : ℕ → ℕ → ℝ) (r j : ℕ) : ℝ := b r j + ∑ f ∈ Finset.range 1280, u r f * sg (u r f) * v r f * w f j

/-- The down projection from its two chunks. -/
theorem chunks (U W1 : ℕ → ℕ → ℝ) (r j : ℕ) :
    lastChunk (fun r j => ∑ f ∈ Finset.range 1536, U r f * sg (U r f) * U r (2816 + f) * W1 f j)
      (fun r f => U r (1536 + f)) (fun r f => U r (4352 + f)) (fun f j => W1 (1536 + f) j) r j = fS W1 (U r) j := by
  unfold fS lastChunk actS
  rw [show (2816 : ℕ) = 1536 + 1280 from rfl, Finset.sum_range_add]
  refine congrArg _ (Finset.sum_congr rfl fun f _ => ?_)
  rw [show 1536 + 1280 + (1536 + f) = 4352 + f by omega]

/-- The same, the pre-activations being given as products with slices of the up projection. -/
theorem chunks_ab (W0 W1 H : ℕ → ℕ → ℝ) (r : ℕ) :
    lastChunk (fun r j => ∑ f ∈ Finset.range 1536, abS W0 (H r) f * sg (abS W0 (H r) f) * abS (fun r c => W0 (2816 + r) c) (H r) f * W1 f j)
      (fun r => abS (fun r c => W0 (1536 + r) c) (H r)) (fun r => abS (fun r c => W0 (4352 + r) c) (H r))
      (fun f j => W1 (1536 + f) j) r = fS W1 (abS W0 (H r)) :=
  funext (chunks (fun r => abS W0 (H r)) W1 r)

/-- One block's addition to the three rows of sums: the gradients of the final gain and of the block's gate, and the loss. -/
def sumsStep (gf g2 : ℕ → ℝ) (x f y : ℕ → ℕ → ℝ) (S : ℕ → ℕ → ℝ) (i j : ℕ) : ℝ :=
  if i = 0 then S 0 j + ∑ r ∈ Finset.range 512, dyS gf (x2S g2 (x r) (f r)) (y r) j * (x2S g2 (x r) (f r) j * rms (x2S g2 (x r) (f r)))
  else if i = 1 then S 1 j + ∑ r ∈ Finset.range 512, dx2S gf (x2S g2 (x r) (f r)) (y r) j * f r j
  else if i = 2 then S 2 j + (∑ r ∈ Finset.range 512, errS gf (x2S g2 (x r) (f r)) (y r) j * errS gf (x2S g2 (x r) (f r)) (y r) j) * (1 / 2048)
  else S i j

end Cert.Ffn
end
-- ==== Proof.Ffn.Pay.lean ====
/-
  The kernel's stored values over the reals: each block value the body computes, on real inputs, as one formula in the
  coordinates.
-/
module

public import proofs.«01_k».proof.Proof.Gen.Kernel3Ideal.Skeleton
public import proofs.«01_k».proof.Proof.Ffn.Spec

@[expose] public section

noncomputable section

open scoped BigOperators

namespace Cert.Kernel3Ideal.Ffn

open Cert.Kernel3Ideal Cert.Kernel3Ideal.Gen Idealize.ShloMosaic Idealize.ShloMosaic.TcCoe Idealize.SL.Sem Cert.Lift Cert.Ffn

theorem dims1 : dot_S512x1024_S1536x1024_S512x1536_1_1_0_0_n_n = DotDims.transposedRhs 512 1024 1536 := rfl
theorem dims2 : dot_S512x1536_S1536x1024_S512x1024_1_0_0_1_n_n = DotDims.plain 512 1536 1024 := rfl
theorem dims3 : dot_S512x1024_S1280x1024_S512x1280_1_1_0_0_n_n = DotDims.transposedRhs 512 1024 1280 := rfl
theorem dims4 : dot_S512x1280_S1280x1024_S512x1024_1_0_0_1_n_n = DotDims.plain 512 1280 1024 := rfl
theorem scalar_inv1024 : Scalar.ofBits (F := Ideal) .f32 0x3A800000#32 = ((1 / 1024 : ℝ) : EReal) := by
  show Ideal.ofBits .f32 _ = _
  simp [Ideal.ofBits, Ideal.ieee, -EReal.coe_mul]; norm_num
theorem scalar_inv2048 : Scalar.ofBits (F := Ideal) .f32 0x3A000000#32 = ((1 / 2048 : ℝ) : EReal) := by
  show Ideal.ofBits .f32 _ = _
  simp [Ideal.ofBits, Ideal.ieee, -EReal.coe_mul]; norm_num

theorem pay5_eq : k0_pay5 (F := Ideal) = up2 fun _ _ => 0 := by
  unfold k0_pay5; simp only [scalar_zero, broadcast_up2]
theorem pay6_eq (X : ℕ → ℕ → ℝ) : k0_pay6 (F := Ideal) (up2 X) = up2 X := shapeCast_self _ _
theorem pay7_eq (X g s b : ℕ → ℕ → ℝ) : k0_pay7 (F := Ideal) (up2 X) (up2 g) (up2 s) (up2 b)
    = up2 fun r => h2S (g 0) (s 0) (b 0) (X r) := by
  unfold k0_pay7; delta multiReduction
  simp (disch := rfl) only [pay6_eq, mulf_up2, rowSum, shapeCast_col, scalar_k1024, scalar_eps, broadcast_up2]
  rw [divf_up2 _ _ (fun _ _ => by norm_num), addf_up2, rsqrt_up2 _ (fun r _ => ms_pos (X r))]
  simp only [shapeCast_self, scalar_one, broadcast_up2, broadcastTo_row, broadcastTo_col, mulf_up2, addf_up2, truncf_up2]
  rfl
theorem pay8_eq : k0_pay8 (F := Ideal) = up2 fun _ _ => 0 := by
  unfold k0_pay8; simp only [scalar_zero, broadcast_up2]
theorem pay9_eq (X g s b w : ℕ → ℕ → ℝ) : k0_pay9 (F := Ideal) (up2 X) (up2 g) (up2 s) (up2 b) (up2 w)
    = up2 fun r => abS w (h2S (g 0) (s 0) (b 0) (X r)) := by
  unfold k0_pay9; simp only [pay7_eq, constant_zero_up2, matmul_transposed_up2 _ dims1, zero_add, truncf_up2]
  rfl
theorem pay10_eq (H w : ℕ → ℕ → ℝ) : k0_pay10 (F := Ideal) (up2 H) (up2 w) = up2 fun r => abS w (H r) := by
  unfold k0_pay10; simp only [constant_zero_up2, matmul_transposed_up2 _ dims1, zero_add, truncf_up2]
  rfl
theorem pay11_eq (u v : ℕ → ℕ → ℝ) : k0_pay11 (F := Ideal) (up2 u) (up2 v) = up2 fun r f => u r f * sg (u r f) * v r f := by
  unfold k0_pay11; simp only [shapeCast_self, extf_up2, logistic_up2, mulf_up2, truncf_up2]
theorem pay12_eq (z u v w : ℕ → ℕ → ℝ) : k0_pay12 (F := Ideal) (up2 z) (up2 u) (up2 v) (up2 w)
    = up2 fun r j => z r j + ∑ f ∈ Finset.range 1536, u r f * sg (u r f) * v r f * w f j := by
  unfold k0_pay12; simp only [pay11_eq, constant_zero_up2, matmul_plain_up2 _ dims2, zero_add, addf_up2]
theorem pay13_eq (H w : ℕ → ℕ → ℝ) : k0_pay13 (F := Ideal) (up2 H) (up2 w) = up2 fun r => abS w (H r) := by
  unfold k0_pay13; simp only [constant_zero_up2, matmul_transposed_up2 _ dims3, zero_add, truncf_up2]
  rfl
theorem pay14_eq (H w : ℕ → ℕ → ℝ) : k0_pay14 (F := Ideal) (up2 H) (up2 w) = up2 fun r => abS w (H r) := by
  unfold k0_pay14; simp only [constant_zero_up2, matmul_transposed_up2 _ dims3, zero_add, truncf_up2]
  rfl
theorem pay15_eq (u : ℕ → ℕ → ℝ) : k0_pay15 (F := Ideal) (up2 u) = up2 u := shapeCast_self _ _
theorem pay16_eq (u v : ℕ → ℕ → ℝ) : k0_pay16 (F := Ideal) (up2 u) (up2 v) = up2 fun r f => u r f * sg (u r f) * v r f := by
  unfold k0_pay16; simp only [shapeCast_self, extf_up2, logistic_up2, mulf_up2, truncf_up2]
theorem pay17_eq (b u v w : ℕ → ℕ → ℝ) : k0_pay17 (F := Ideal) (up2 b) (up2 u) (up2 v) (up2 w) = up2 (lastChunk b u v w) := by
  unfold k0_pay17; simp only [pay16_eq, constant_zero_up2, matmul_plain_up2 _ dims4, zero_add, addf_up2]
  rfl

section
variable (X b u v w m g y : ℕ → ℕ → ℝ)

theorem pay18_eq : k0_pay18 (F := Ideal) (up2 X) (up2 b) (up2 u) (up2 v) (up2 w) (up2 m)
    = up2 fun r => x2S (m 0) (X r) (lastChunk b u v w r) := by
  unfold k0_pay18; simp only [pay17_eq, shapeCast_self, broadcastTo_row, mulf_up2, addf_up2]
  rfl
theorem pay19_eq : k0_pay19 (F := Ideal) (up2 X) (up2 b) (up2 u) (up2 v) (up2 w) (up2 m)
    = up2 fun r _ => rms (x2S (m 0) (X r) (lastChunk b u v w r)) := by
  unfold k0_pay19; delta multiReduction
  simp (disch := rfl) only [pay18_eq, mulf_up2, rowSum, shapeCast_col, scalar_k1024, scalar_eps, broadcast_up2]
  rw [divf_up2 _ _ (fun _ _ => by norm_num), addf_up2, rsqrt_up2 _ (fun r _ => ms_pos (x2S (m 0) (X r) (lastChunk b u v w r)))]
  rfl
theorem pay20_eq : k0_pay20 (F := Ideal) (up2 X) (up2 b) (up2 u) (up2 v) (up2 w) (up2 m)
    = up2 fun r j => x2S (m 0) (X r) (lastChunk b u v w r) j * rms (x2S (m 0) (X r) (lastChunk b u v w r)) := by
  unfold k0_pay20; simp only [pay18_eq, pay19_eq, broadcastTo_col, mulf_up2]
theorem pay21_eq : k0_pay21 (F := Ideal) (up2 g) = up2 g := shapeCast_self _ _
theorem pay22_eq : k0_pay22 (F := Ideal) (up2 X) (up2 b) (up2 u) (up2 v) (up2 w) (up2 m) (up2 g) (up2 y)
    = up2 fun r => errS (g 0) (x2S (m 0) (X r) (lastChunk b u v w r)) (y r) := by
  unfold k0_pay22; simp only [pay20_eq, pay21_eq, shapeCast_self, broadcastTo_row, mulf_up2, subf_up2]
  rfl
theorem pay23_eq : k0_pay23 (F := Ideal) (up2 X) (up2 b) (up2 u) (up2 v) (up2 w) (up2 m) (up2 g) (up2 y)
    = up2 fun r => dyS (g 0) (x2S (m 0) (X r) (lastChunk b u v w r)) (y r) := by
  unfold k0_pay23; simp only [pay22_eq, scalar_inv1024, broadcast_up2, mulf_up2]
  rfl
theorem pay24_eq : k0_pay24 (F := Ideal) (up2 X) (up2 b) (up2 u) (up2 v) (up2 w) (up2 m) (up2 g) (up2 y)
    = up2 fun r j => dyS (g 0) (x2S (m 0) (X r) (lastChunk b u v w r)) (y r) j * g 0 j := by
  unfold k0_pay24; simp only [pay23_eq, pay21_eq, broadcastTo_row, mulf_up2]
theorem pay25_eq : k0_pay25 (F := Ideal) (up2 X) (up2 b) (up2 u) (up2 v) (up2 w) (up2 m) (up2 g) (up2 y)
    = up2 fun r _ => ∑ k ∈ Finset.range 1024, dyS (g 0) (x2S (m 0) (X r) (lastChunk b u v w r)) (y r) k * g 0 k
        * (x2S (m 0) (X r) (lastChunk b u v w r) k * rms (x2S (m 0) (X r) (lastChunk b u v w r))) := by
  unfold k0_pay25; delta multiReduction
  simp (disch := rfl) only [pay20_eq, pay24_eq, mulf_up2, rowSum, shapeCast_col]
end

theorem pay1_eq (ρ n d s : ℕ → ℕ → ℝ) : k0_pay1 (F := Ideal) (up2 ρ) (up2 n) (up2 d) (up2 s)
    = up2 fun r j => ρ r 0 * (d r j - n r j * (s r 0 / 1024)) := by
  unfold k0_pay1; simp only [scalar_k1024, broadcast_up2]
  rw [divf_up2 _ _ (fun _ _ => by norm_num)]
  simp only [broadcastTo_col, mulf_up2, subf_up2]
theorem pay2_eq (n d s : ℕ → ℕ → ℝ) : k0_pay2 (F := Ideal) (up2 n) (up2 d) (up2 s)
    = up2 fun r j => s r j + ∑ i ∈ Finset.range 512, d i j * n i j := by
  unfold k0_pay2; delta multiReduction
  simp (disch := rfl) only [shapeCast_self, mulf_up2, colSum, shapeCast_row, addf_up2]
theorem pay3_eq (f ρ n d c s : ℕ → ℕ → ℝ) : k0_pay3 (F := Ideal) (up2 f) (up2 ρ) (up2 n) (up2 d) (up2 c) (up2 s)
    = up2 fun r j => s r j + ∑ i ∈ Finset.range 512, ρ i 0 * (d i j - n i j * (c i 0 / 1024)) * f i j := by
  unfold k0_pay3; delta multiReduction
  simp (disch := rfl) only [pay1_eq, shapeCast_self, mulf_up2, colSum, shapeCast_row, addf_up2]
theorem pay4_eq (e s : ℕ → ℕ → ℝ) : k0_pay4 (F := Ideal) (up2 e) (up2 s)
    = up2 fun r j => s r j + (∑ i ∈ Finset.range 512, e i j * e i j) * (1 / 2048) := by
  unfold k0_pay4; delta multiReduction
  simp (disch := rfl) only [shapeCast_self, mulf_up2, colSum, shapeCast_row, addf_up2, scalar_inv2048, broadcast_up2]

end Cert.Kernel3Ideal.Ffn
end
-- ==== Proof.Ffn.Points.lean ====
/-
  What one grid point leaves in each window and scratch buffer, over the reals.
-/
module

public import proofs.«01_k».proof.Proof.Gen.Kernel3Ideal.Value
public import proofs.«01_k».proof.Proof.Ffn.Pay
public import Idealize.ShloMosaic.Lib.Tactic

@[expose] public section

set_option maxRecDepth 16384
noncomputable section
open scoped BigOperators
namespace Cert.Kernel3Ideal.Ffn
open Cert.Kernel3Ideal Cert.Kernel3Ideal.Gen Idealize.ShloMosaic Idealize.ShloMosaic.TcCoe Idealize.SL.Sem Cert.Lift Cert.Ffn

set_option maxHeartbeats 1000000

section
/-- The payloads, each at real arrays. -/
def pays := And.intro @pay1_eq <| And.intro @pay2_eq <| And.intro @pay3_eq <| And.intro @pay4_eq <| And.intro @pay5_eq <| And.intro @pay6_eq <| And.intro @pay7_eq <| And.intro @pay8_eq <| And.intro @pay9_eq <| And.intro @pay10_eq <| And.intro @pay11_eq <| And.intro @pay12_eq <| And.intro @pay13_eq <| And.intro @pay14_eq <| And.intro @pay15_eq <| And.intro @pay16_eq <| And.intro @pay17_eq <| And.intro @pay18_eq <| And.intro @pay19_eq <| And.intro @pay20_eq <| And.intro @pay21_eq <| And.intro @pay22_eq <| And.intro @pay23_eq <| And.intro @pay24_eq @pay25_eq

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S8x1024 .f32) (harg4 : arg4.IsWhole) (arg7 : Memref sig .tc .vmem S512x1024 .f32) (harg7 : arg7.IsWhole) (arg8 : Memref sig .tc .vmem S512x5632 .bf16) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S8x1024 .f32) (harg11 : arg11.IsWhole) (arg12 : Memref sig .tc .vmem S5632x1024 .bf16) (harg12 : arg12.IsWhole) (arg13 : Memref sig .tc .vmem S2816x1024 .bf16) (harg13 : arg13.IsWhole) (hc0 : cond0_0 i)
    (fh0 : HbBuf0 (F := Ideal) c hbM0_0) (fh1 : HbBuf0 (F := Ideal) c hbM0_1) (X Y M P W0 W1 S : ℕ → ℕ → ℝ) (x3 : (⟨2, ![8, 1024]⟩ : Shape).Idx → EReal)

theorem out0_A_4_eq (hx3 : RowIs x3 1 (P 1)) (hx3' : RowIs x3 2 (P 2)) (hf0 : View.read (Elt Ideal) (View.whole main_v10) fh0 = up2 W0) (hf1 : View.read (Elt Ideal) (View.whole main_v12) fh1 = up2 W1) :
    out0_A_4 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 fh0 fh1 = up2 fun r => dx2S (P 2) (zS (P 1) (M 4) (M 3) (M 5) W0 W1 (X r)) (Y r) := by
  unfold out0_A_4
  rw [View.read_writes_eq_canon _ _ _ (by intro y; apply cover0_A_4)]
  unfold kernelRun0_A
  dsimp only
  sl_unfold_words
  simp only [View.readAt_eq_ld, Memref.IsWhole.read_unread]
  try simp only [readCov_whole, ReadAs.apply_same, hf0, hf1]
  try simp (disch := first | rfl | decide) only [View.readCov_skip, View.readCov_fill, View.readCov_cons_toLoadRect, pay5_eq]
  rw [View.canon_unit_zero hz]
  simp only [ld_row (P := P) hx3, ld_row (P := P) hx3', ld_up2_f32, ld_up2_bf16, zero_add, Nat.zero_add, Nat.add_zero, pays]
  simp only [chunks_ab]
  rfl

theorem out0_A_5_eq (hx3 : RowIs x3 1 (P 1)) (hx3' : RowIs x3 2 (P 2)) (hf0 : View.read (Elt Ideal) (View.whole main_v10) fh0 = up2 W0) (hf1 : View.read (Elt Ideal) (View.whole main_v12) fh1 = up2 W1) :
    out0_A_5 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 fh0 fh1 = up2 fun r => uS (P 1) (M 4) (M 3) W0 (X r) := by
  unfold out0_A_5
  rw [View.read_writes_eq_canon _ _ _ (by intro y; apply cover0_A_5)]
  rw [canon_of_pieces (Val := Elt Ideal) (up2 fun r => uS (P 1) (M 4) (M 3) W0 (X r)) _ ?_ (by intro y; apply cover0_A_5)]
  unfold kernelRun0_A
  dsimp only
  sl_unfold_words
  simp only [View.readAt_eq_ld, Memref.IsWhole.read_unread]
  try simp only [readCov_whole, ReadAs.apply_same, hf0, hf1]
  try simp (disch := first | rfl | decide) only [View.readCov_skip, View.readCov_fill, View.readCov_cons_toLoadRect, pay5_eq]
  simp only [ld_row (P := P) hx3, ld_row (P := P) hx3', ld_up2_f32, ld_up2_bf16, zero_add, Nat.zero_add, Nat.add_zero, pays, List.forall_mem_cons, List.not_mem_nil, false_imp_iff, implies_true, and_true]
  exact ⟨rfl, rfl, rfl, rfl⟩

theorem out0_A_6_eq (hx3 : RowIs x3 1 (P 1)) (hx3' : RowIs x3 2 (P 2)) (hf0 : View.read (Elt Ideal) (View.whole main_v10) fh0 = up2 W0) (hf1 : View.read (Elt Ideal) (View.whole main_v12) fh1 = up2 W1) :
    out0_A_6 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 fh0 fh1 = up2 fun r => h2S (P 1) (M 4) (M 3) (X r) := by
  unfold out0_A_6
  rw [View.read_writes_eq_canon _ _ _ (by intro y; apply cover0_A_6)]
  unfold kernelRun0_A
  dsimp only
  sl_unfold_words
  simp only [View.readAt_eq_ld, Memref.IsWhole.read_unread]
  try simp only [readCov_whole, ReadAs.apply_same, hf0, hf1]
  try simp (disch := first | rfl | decide) only [View.readCov_skip, View.readCov_fill, View.readCov_cons_toLoadRect, pay5_eq]
  rw [View.canon_unit_zero hz]
  simp only [ld_row (P := P) hx3, ld_row (P := P) hx3', ld_up2_f32, ld_up2_bf16, zero_add, Nat.zero_add, Nat.add_zero, pays]

theorem out0_A_7_eq (hx3 : RowIs x3 1 (P 1)) (hx3' : RowIs x3 2 (P 2)) (hf0 : View.read (Elt Ideal) (View.whole main_v10) fh0 = up2 W0) (hf1 : View.read (Elt Ideal) (View.whole main_v12) fh1 = up2 W1) :
    out0_A_7 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 fh0 fh1 = up2 fun r => actS (uS (P 1) (M 4) (M 3) W0 (X r)) := by
  unfold out0_A_7
  rw [View.read_writes_eq_canon _ _ _ (by intro y; apply cover0_A_7)]
  rw [canon_of_pieces (Val := Elt Ideal) (up2 fun r => actS (uS (P 1) (M 4) (M 3) W0 (X r))) _ ?_ (by intro y; apply cover0_A_7)]
  unfold kernelRun0_A
  dsimp only
  sl_unfold_words
  simp only [View.readAt_eq_ld, Memref.IsWhole.read_unread]
  try simp only [readCov_whole, ReadAs.apply_same, hf0, hf1]
  try simp (disch := first | rfl | decide) only [View.readCov_skip, View.readCov_fill, View.readCov_cons_toLoadRect, pay5_eq]
  simp only [ld_row (P := P) hx3, ld_row (P := P) hx3', ld_up2_f32, ld_up2_bf16, zero_add, Nat.zero_add, Nat.add_zero, pays, List.forall_mem_cons, List.not_mem_nil, false_imp_iff, implies_true, and_true]
  exact ⟨up2_congr fun r f _ _ => by
    unfold actS
    rw [show 2816 + (1536 + f) = 4352 + f by omega]
    rfl, rfl⟩

theorem out0_A_8_eq (hx3 : RowIs x3 1 (P 1)) (hx3' : RowIs x3 2 (P 2)) (hf0 : View.read (Elt Ideal) (View.whole main_v10) fh0 = up2 W0) (hf1 : View.read (Elt Ideal) (View.whole main_v12) fh1 = up2 W1) :
    out0_A_8 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 fh0 fh1 = up2 (sumsStep (P 2) (M 5) X (fun r => ffS (P 1) (M 4) (M 3) W0 W1 (X r)) Y fun _ _ => 0) := by
  unfold out0_A_8
  rw [View.read_writes_eq_canon _ _ _ (by intro y; apply cover0_A_8)]
  unfold kernelRun0_A
  dsimp only
  sl_unfold_words
  simp only [View.readAt_eq_ld, Memref.IsWhole.read_unread]
  try simp only [readCov_whole, ReadAs.apply_same, hf0, hf1]
  try simp (disch := first | rfl | decide) only [View.readCov_skip, View.readCov_fill, View.readCov_cons_toLoadRect, pay5_eq]
  simp only [ld_row (P := P) hx3, ld_row (P := P) hx3', ld_up2_f32, ld_up2_bf16, zero_add, Nat.zero_add, Nat.add_zero, pays]
  simp only [chunks_ab]
  refine canon_over _ [_] [_, _, _] ?_ ?_
  · simp only [ld_up2_f32, List.forall_mem_cons, List.not_mem_nil, false_imp_iff, implies_true, and_true]
    refine ⟨?_, ?_, ?_⟩
    all_goals
      exact up2_congr fun r j hr _ => by
        obtain rfl : r = 0 := by omega
        simp [sumsStep, ffS, uS, dx2S]
  · intro y hy
    simp only [List.forall_mem_cons, List.not_mem_nil, false_imp_iff, implies_true, and_true] at hy
    rw [View.canon_unit_zero hz]
    show _ = ((sumsStep _ _ _ _ _ _ (y 0).val (y 1).val : ℝ) : EReal)
    rw [sumsStep, if_neg (mem_row hy.2.2), if_neg (mem_row hy.2.1), if_neg (mem_row hy.1)]
    rfl

theorem sout0_A_0_eq (hf0 : View.read (Elt Ideal) (View.whole main_v10) fh0 = up2 W0) :
    sout0_A_0 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 fh0 fh1 = up2 W0 := by
  unfold sout0_A_0
  rw [View.read_writes_eq_canon _ _ _ (by intro y; apply scover0_A_0)]
  unfold kernelRun0_A
  dsimp only
  sl_unfold_words
  simp only [View.readAt_eq_ld, Memref.IsWhole.read_unread]
  rw [canon_whole]
  exact hf0

theorem sout0_A_1_eq (hf1 : View.read (Elt Ideal) (View.whole main_v12) fh1 = up2 W1) :
    sout0_A_1 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 fh0 fh1 = up2 W1 := by
  unfold sout0_A_1
  rw [View.read_writes_eq_canon _ _ _ (by intro y; apply scover0_A_1)]
  unfold kernelRun0_A
  dsimp only
  sl_unfold_words
  simp only [View.readAt_eq_ld, Memref.IsWhole.read_unread]
  rw [canon_whole]
  exact hf1

end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S8x1024 .f32) (harg4 : arg4.IsWhole) (arg7 : Memref sig .tc .vmem S512x1024 .f32) (harg7 : arg7.IsWhole) (arg8 : Memref sig .tc .vmem S512x5632 .bf16) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S8x1024 .f32) (harg11 : arg11.IsWhole) (arg12 : Memref sig .tc .vmem S5632x1024 .bf16) (harg12 : arg12.IsWhole) (arg13 : Memref sig .tc .vmem S2816x1024 .bf16) (harg13 : arg13.IsWhole) (hc0 : ¬cond0_0 i)
    (fh0 : HbBuf0 (F := Ideal) c hbM0_0) (fh1 : HbBuf0 (F := Ideal) c hbM0_1) (X Y M P W0 W1 S : ℕ → ℕ → ℝ) (x3 : (⟨2, ![8, 1024]⟩ : Shape).Idx → EReal)

theorem out0_B_4_eq (hx3 : RowIs x3 1 (P 1)) (hx3' : RowIs x3 2 (P 2)) :
    out0_B_4 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 (up2 S) (up2 W0) (up2 W1) fh0 fh1 = up2 fun r => dx2S (P 2) (zS (P 1) (M 4) (M 3) (M 5) W0 W1 (X r)) (Y r) := by
  unfold out0_B_4
  rw [View.read_writes_eq_canon _ _ _ (by intro y; apply cover0_B_4)]
  unfold kernelRun0_B
  dsimp only
  sl_unfold_words
  simp only [View.readAt_eq_ld, Memref.IsWhole.read_unread]
  try simp (disch := first | rfl | decide) only [View.readCov_skip, View.readCov_fill, View.readCov_cons_toLoadRect, pay5_eq]
  rw [View.canon_unit_zero hz]
  simp only [ld_row (P := P) hx3, ld_row (P := P) hx3', ld_up2_f32, ld_up2_bf16, zero_add, Nat.zero_add, Nat.add_zero, pays]
  simp only [chunks_ab]
  rfl

theorem out0_B_5_eq (hx3 : RowIs x3 1 (P 1)) (hx3' : RowIs x3 2 (P 2)) :
    out0_B_5 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 (up2 S) (up2 W0) (up2 W1) fh0 fh1 = up2 fun r => uS (P 1) (M 4) (M 3) W0 (X r) := by
  unfold out0_B_5
  rw [View.read_writes_eq_canon _ _ _ (by intro y; apply cover0_B_5)]
  rw [canon_of_pieces (Val := Elt Ideal) (up2 fun r => uS (P 1) (M 4) (M 3) W0 (X r)) _ ?_ (by intro y; apply cover0_B_5)]
  unfold kernelRun0_B
  dsimp only
  sl_unfold_words
  simp only [View.readAt_eq_ld, Memref.IsWhole.read_unread]
  try simp (disch := first | rfl | decide) only [View.readCov_skip, View.readCov_fill, View.readCov_cons_toLoadRect, pay5_eq]
  simp only [ld_row (P := P) hx3, ld_row (P := P) hx3', ld_up2_f32, ld_up2_bf16, zero_add, Nat.zero_add, Nat.add_zero, pays, List.forall_mem_cons, List.not_mem_nil, false_imp_iff, implies_true, and_true]
  exact ⟨rfl, rfl, rfl, rfl⟩

theorem out0_B_6_eq (hx3 : RowIs x3 1 (P 1)) (hx3' : RowIs x3 2 (P 2)) :
    out0_B_6 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 (up2 S) (up2 W0) (up2 W1) fh0 fh1 = up2 fun r => h2S (P 1) (M 4) (M 3) (X r) := by
  unfold out0_B_6
  rw [View.read_writes_eq_canon _ _ _ (by intro y; apply cover0_B_6)]
  unfold kernelRun0_B
  dsimp only
  sl_unfold_words
  simp only [View.readAt_eq_ld, Memref.IsWhole.read_unread]
  try simp (disch := first | rfl | decide) only [View.readCov_skip, View.readCov_fill, View.readCov_cons_toLoadRect, pay5_eq]
  rw [View.canon_unit_zero hz]
  simp only [ld_row (P := P) hx3, ld_row (P := P) hx3', ld_up2_f32, ld_up2_bf16, zero_add, Nat.zero_add, Nat.add_zero, pays]

theorem out0_B_7_eq (hx3 : RowIs x3 1 (P 1)) (hx3' : RowIs x3 2 (P 2)) :
    out0_B_7 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 (up2 S) (up2 W0) (up2 W1) fh0 fh1 = up2 fun r => actS (uS (P 1) (M 4) (M 3) W0 (X r)) := by
  unfold out0_B_7
  rw [View.read_writes_eq_canon _ _ _ (by intro y; apply cover0_B_7)]
  rw [canon_of_pieces (Val := Elt Ideal) (up2 fun r => actS (uS (P 1) (M 4) (M 3) W0 (X r))) _ ?_ (by intro y; apply cover0_B_7)]
  unfold kernelRun0_B
  dsimp only
  sl_unfold_words
  simp only [View.readAt_eq_ld, Memref.IsWhole.read_unread]
  try simp (disch := first | rfl | decide) only [View.readCov_skip, View.readCov_fill, View.readCov_cons_toLoadRect, pay5_eq]
  simp only [ld_row (P := P) hx3, ld_row (P := P) hx3', ld_up2_f32, ld_up2_bf16, zero_add, Nat.zero_add, Nat.add_zero, pays, List.forall_mem_cons, List.not_mem_nil, false_imp_iff, implies_true, and_true]
  exact ⟨up2_congr fun r f _ _ => by
    unfold actS
    rw [show 2816 + (1536 + f) = 4352 + f by omega]
    rfl, rfl⟩

theorem out0_B_8_eq (hx3 : RowIs x3 1 (P 1)) (hx3' : RowIs x3 2 (P 2)) :
    out0_B_8 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 (up2 S) (up2 W0) (up2 W1) fh0 fh1 = up2 (sumsStep (P 2) (M 5) X (fun r => ffS (P 1) (M 4) (M 3) W0 W1 (X r)) Y S) := by
  unfold out0_B_8
  unfold kernelRun0_B
  dsimp only
  sl_unfold_words
  simp only [View.readAt_eq_ld, Memref.IsWhole.read_unread]
  try simp (disch := first | rfl | decide) only [View.readCov_skip, View.readCov_fill, View.readCov_cons_toLoadRect, pay5_eq]
  simp only [ld_row (P := P) hx3, ld_row (P := P) hx3', ld_up2_f32, ld_up2_bf16, zero_add, Nat.zero_add, Nat.add_zero, pays]
  simp only [chunks_ab]
  refine read_writes_of_pieces _ _ _ _ ?_ ?_
  · simp only [ld_up2_f32, List.forall_mem_cons, List.not_mem_nil, false_imp_iff, implies_true, and_true]
    refine ⟨?_, ?_, ?_⟩
    all_goals
      exact up2_congr fun r j hr _ => by
        obtain rfl : r = 0 := by omega
        simp [sumsStep, ffS, uS, dx2S]
  · intro y hy
    simp only [List.forall_mem_cons, List.not_mem_nil, false_imp_iff, implies_true, and_true] at hy
    rw [harg11.read_unread]
    show _ = ((sumsStep _ _ _ _ _ _ (y 0).val (y 1).val : ℝ) : EReal)
    rw [sumsStep, if_neg (mem_row hy.2.2), if_neg (mem_row hy.2.1), if_neg (mem_row hy.1)]
    rfl

theorem sout0_B_0_eq :
    sout0_B_0 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 (up2 S) (up2 W0) (up2 W1) fh0 fh1 = up2 W0 := by
  unfold sout0_B_0
  rfl

theorem sout0_B_1_eq :
    sout0_B_1 (F := Ideal) c i arg1 harg1 arg2 harg2 arg3 harg3 arg4 harg4 arg7 harg7 arg8 harg8 arg9 harg9 arg10 harg10 arg11 harg11 arg12 harg12 arg13 harg13 hc0 (up2 X) (up2 Y) (up2 M) x3 (up2 S) (up2 W0) (up2 W1) fh0 fh1 = up2 W1 := by
  unfold sout0_B_1
  rfl

end

end Cert.Kernel3Ideal.Ffn
end
-- ==== Proof.Ffn.Outs.lean ====
module

public import proofs.«01_k».proof.Proof.Ffn.Points

@[expose] public section
noncomputable section
open scoped BigOperators
namespace Cert.Kernel3Ideal.Ffn

open Cert.Kernel3Ideal Cert.Kernel3Ideal.Gen Cert.Kernel3Ideal.Value Cert.Lift Cert.Ffn
open Idealize.ShloMosaic Idealize.ShloMosaic.TcCoe Idealize.SL.Sem

set_option maxHeartbeats 1000000

/-! ## The sums after each point -/

/-- Block `n` of 512 rows. -/
def rows (n : ℕ) (A : ℕ → ℕ → ℝ) (r : ℕ) : ℕ → ℝ := A (512 * n + r)

/-- The three running sums after point `n`, of the gains `P`, the modulation `M`, the input, its product and the target. -/
def sumsAt (P M X F Y : ℕ → ℕ → ℝ) : ℕ → ℕ → ℕ → ℝ
  | 0 => sumsStep (P 2) (M 5) (rows 0 X) (rows 0 F) (rows 0 Y) fun _ _ => 0
  | n + 1 => sumsStep (P 2) (M 5) (rows (n + 1) X) (rows (n + 1) F) (rows (n + 1) Y) (sumsAt P M X F Y n)

/-- The three sums over the first `T` rows. -/
def sumsTo (T : ℕ) (P M X F Y : ℕ → ℕ → ℝ) (i j : ℕ) : ℝ :=
  if i = 0 then ∑ r ∈ Finset.range T, dyS (P 2) (x2S (M 5) (X r) (F r)) (Y r) j * (x2S (M 5) (X r) (F r) j * rms (x2S (M 5) (X r) (F r)))
  else if i = 1 then ∑ r ∈ Finset.range T, dx2S (P 2) (x2S (M 5) (X r) (F r)) (Y r) j * F r j
  else if i = 2 then (∑ r ∈ Finset.range T, errS (P 2) (x2S (M 5) (X r) (F r)) (Y r) j * errS (P 2) (x2S (M 5) (X r) (F r)) (Y r) j) * (1 / 2048)
  else 0

theorem sumsAt_eq (P M X F Y : ℕ → ℕ → ℝ) (n i j : ℕ) : sumsAt P M X F Y n i j = sumsTo (512 * n + 512) P M X F Y i j := by
  induction n generalizing i j with
  | zero =>
    simp only [sumsAt, sumsStep, sumsTo, rows, Nat.mul_zero, Nat.zero_add, zero_add]
  | succ n ih =>
    simp only [sumsAt, sumsStep, ih, sumsTo, show 512 * (n + 1) + 512 = (512 * n + 512) + 512 by omega,
      Finset.sum_range_add _ (512 * n + 512) 512, rows, show 512 * (n + 1) = 512 * n + 512 by omega]
    rcases i with _ | _ | _ | i
    · rfl
    · rfl
    · simp; ring
    · simp

variable (m : (ℓ : Loc nD τ sig) → Buf (Elt Ideal) ℓ) (c : Dev nD)
variable {X Y M P W0 W1 : ℕ → ℕ → ℝ}

/-- What the launch is handed. -/
structure In (X Y M P W0 W1 : ℕ → ℕ → ℝ) : Prop where
  x : V m c main_v6 = up2 X
  y : V m c main_v7 = up2 Y
  md : V m c main_v2 = up2 M
  p1 : RowIs (V m c main_v5) 1 (P 1)
  p2 : RowIs (V m c main_v5) 2 (P 2)
  w0 : V m c main_v10 = up2 W0
  w1 : V m c main_v12 = up2 W1

/-! ## The blocks each point reads -/

theorem idx : (∀ t : Fin cfg0.N, win0_0.index t 0 = t.val ∧ win0_0.index t 1 = 0) ∧ (∀ t : Fin cfg0.N, win0_1.index t 0 = t.val ∧ win0_1.index t 1 = 0)
    ∧ (∀ t : Fin cfg0.N, win0_2.index t 0 = 0 ∧ win0_2.index t 1 = 0) ∧ ∀ t : Fin cfg0.N, win0_3.index t 0 = 0 ∧ win0_3.index t 1 = 0 :=
  (by decide +kernel : (∀ t : Fin grid0.N, win0_0.index t 0 = t.val ∧ win0_0.index t 1 = 0) ∧ (∀ t : Fin grid0.N, win0_1.index t 0 = t.val ∧ win0_1.index t 1 = 0)
    ∧ (∀ t : Fin grid0.N, win0_2.index t 0 = 0 ∧ win0_2.index t 1 = 0) ∧ ∀ t : Fin grid0.N, win0_3.index t 0 = 0 ∧ win0_3.index t 1 = 0)

theorem blk (h : In m c X Y M P W0 W1) (t : Fin cfg0.N) :
    iblk m c 0 t = up2 (rows t.val X) ∧ iblk m c 1 t = up2 (rows t.val Y) ∧ iblk m c 2 t = up2 M := by
  obtain ⟨i0, i1, i2, -⟩ := idx
  refine ⟨funext fun y => ?_, funext fun y => ?_, funext fun y => ?_⟩ <;> blk_simp [iblk]
  · show V m c main_v6 _ = _
    rw [h.x]; unfold up2; blk_simp
    rw [(i0 t).1, (i0 t).2]; simp only [Nat.zero_mul, Nat.zero_add, rows, Nat.mul_comm]
  · show V m c main_v7 _ = _
    rw [h.y]; unfold up2; blk_simp
    rw [(i1 t).1, (i1 t).2]; simp only [Nat.zero_mul, Nat.zero_add, rows, Nat.mul_comm]
  · show V m c main_v2 _ = _
    rw [h.md]; unfold up2; blk_simp
    rw [(i2 t).1, (i2 t).2]; simp only [Nat.zero_mul, Nat.zero_add]

theorem row {o : ℕ} (h : RowIs (V m c main_v5) o (P o)) (t : Fin cfg0.N) : RowIs (iblk m c 3 t) o (P o) := by
  obtain ⟨-, -, -, i3⟩ := idx
  intro y hy
  blk_simp [iblk]
  show V m c main_v5 _ = _
  refine (h _ ?_).trans ?_
  · blk_simp
    rw [(i3 t).1, Nat.zero_mul, Nat.zero_add, hy]
  · blk_simp
    rw [(i3 t).2, Nat.zero_mul, Nat.zero_add]

/-! ## The running contents -/

/-- What the buffers that survive a point hold after point `n`. -/
theorem outs (h : In m c X Y M P W0 W1) (n : ℕ) (hn : n < cfg0.N) : outsAt0 m c n hn =
      (up2 fun r => dx2S (P 2) (zS (P 1) (M 4) (M 3) (M 5) W0 W1 (rows n X r)) (rows n Y r),
       up2 fun r => uS (P 1) (M 4) (M 3) W0 (rows n X r),
       up2 fun r => h2S (P 1) (M 4) (M 3) (rows n X r),
       up2 fun r => actS (uS (P 1) (M 4) (M 3) W0 (rows n X r)),
       up2 (sumsAt P M X (fun r => ffS (P 1) (M 4) (M 3) W0 W1 (X r)) Y n), up2 W0, up2 W1) := by
  induction n with
  | zero =>
    rw [outsAt0_A m c ⟨0, hn⟩ rfl, (blk m c h ⟨0, hn⟩).1, (blk m c h ⟨0, hn⟩).2.1, (blk m c h ⟨0, hn⟩).2.2]
    have g0 : View.read (Elt Ideal) (View.whole main_v10) (V m c main_v10) = up2 W0 := h.w0
    have g1 : View.read (Elt Ideal) (View.whole main_v12) (V m c main_v12) = up2 W1 := h.w1
    have q1 := row m c (P := P) h.p1 ⟨0, hn⟩
    have q2 := row m c (P := P) h.p2 ⟨0, hn⟩
    simp only [out0_A_4_eq (fh0 := V m c main_v10) (fh1 := V m c main_v12) (hf0 := g0) (hf1 := g1) (hx3 := q1) (hx3' := q2), out0_A_5_eq (fh0 := V m c main_v10) (fh1 := V m c main_v12) (hf0 := g0) (hf1 := g1) (hx3 := q1) (hx3' := q2), out0_A_6_eq (fh0 := V m c main_v10) (fh1 := V m c main_v12) (hf0 := g0) (hf1 := g1) (hx3 := q1) (hx3' := q2), out0_A_7_eq (fh0 := V m c main_v10) (fh1 := V m c main_v12) (hf0 := g0) (hf1 := g1) (hx3 := q1) (hx3' := q2), out0_A_8_eq (fh0 := V m c main_v10) (fh1 := V m c main_v12) (hf0 := g0) (hf1 := g1) (hx3 := q1) (hx3' := q2), sout0_A_0_eq (fh0 := V m c main_v10) (fh1 := V m c main_v12) (hf0 := g0), sout0_A_1_eq (fh0 := V m c main_v10) (fh1 := V m c main_v12) (hf1 := g1)]
    rfl
  | succ n ih =>
    have hN : n + 1 < 16 := hn
    rw [outsAt0_B m c ⟨n + 1, hn⟩ (by show ¬(n + 1) % 16 = 0; omega), (blk m c h ⟨n + 1, hn⟩).1, (blk m c h ⟨n + 1, hn⟩).2.1, (blk m c h ⟨n + 1, hn⟩).2.2]
    have q1 := row m c (P := P) h.p1 ⟨n + 1, hn⟩
    have q2 := row m c (P := P) h.p2 ⟨n + 1, hn⟩
    simp only [Nat.add_sub_cancel]
    simp only [ih]
    simp only [out0_B_4_eq (hx3 := q1) (hx3' := q2), out0_B_5_eq (hx3 := q1) (hx3' := q2), out0_B_6_eq (hx3 := q1) (hx3' := q2), out0_B_7_eq (hx3 := q1) (hx3' := q2), out0_B_8_eq (hx3 := q1) (hx3' := q2), sout0_B_0_eq, sout0_B_1_eq]
    rfl

/-! ## The five results -/

theorem oidx : (∀ t : Fin cfg0.N, win0_4.index t 0 = t.val ∧ win0_4.index t 1 = 0) ∧ (∀ t : Fin cfg0.N, win0_5.index t 0 = t.val ∧ win0_5.index t 1 = 0)
    ∧ (∀ t : Fin cfg0.N, win0_6.index t 0 = t.val ∧ win0_6.index t 1 = 0) ∧ (∀ t : Fin cfg0.N, win0_7.index t 0 = t.val ∧ win0_7.index t 1 = 0)
    ∧ ∀ t : Fin cfg0.N, (cfg0.win 8).flush t = true → t.val = 15 ∧ win0_8.index t 0 = 0 ∧ win0_8.index t 1 = 0 :=
  (by decide +kernel : (∀ t : Fin grid0.N, win0_4.index t 0 = t.val ∧ win0_4.index t 1 = 0) ∧ (∀ t : Fin grid0.N, win0_5.index t 0 = t.val ∧ win0_5.index t 1 = 0)
    ∧ (∀ t : Fin grid0.N, win0_6.index t 0 = t.val ∧ win0_6.index t 1 = 0) ∧ (∀ t : Fin grid0.N, win0_7.index t 0 = t.val ∧ win0_7.index t 1 = 0)
    ∧ ∀ t : Fin grid0.N, win0_8.flush t = true → t.val = 15 ∧ win0_8.index t 0 = 0 ∧ win0_8.index t 1 = 0)

theorem final4 (h : In m c X Y M P W0 W1) : (dats m 0 c).arrAt 4 cfg0.N = up2 fun r => dx2S (P 2) (zS (P 1) (M 4) (M 3) (M 5) W0 W1 (X r)) (Y r) := by
  refine (dats m 0 c).arrAt_eq_of_covers 4 _ (by decide +kernel) fun t hf y => ?_
  blk_simp
  rw [after0_4, outs m c h]
  unfold up2
  blk_simp
  rw [(oidx.1 t).1, (oidx.1 t).2]
  simp only [rows, Nat.zero_mul, Nat.zero_add, Nat.mul_comm]

theorem final5 (h : In m c X Y M P W0 W1) : (dats m 0 c).arrAt 5 cfg0.N = up2 fun r => uS (P 1) (M 4) (M 3) W0 (X r) := by
  refine (dats m 0 c).arrAt_eq_of_covers 5 _ (by decide +kernel) fun t hf y => ?_
  blk_simp
  rw [after0_5, outs m c h]
  unfold up2
  blk_simp
  rw [(oidx.2.1 t).1, (oidx.2.1 t).2]
  simp only [rows, Nat.zero_mul, Nat.zero_add, Nat.mul_comm]

theorem final6 (h : In m c X Y M P W0 W1) : (dats m 0 c).arrAt 6 cfg0.N = up2 fun r => h2S (P 1) (M 4) (M 3) (X r) := by
  refine (dats m 0 c).arrAt_eq_of_covers 6 _ (by decide +kernel) fun t hf y => ?_
  blk_simp
  rw [after0_6, outs m c h]
  unfold up2
  blk_simp
  rw [(oidx.2.2.1 t).1, (oidx.2.2.1 t).2]
  simp only [rows, Nat.zero_mul, Nat.zero_add, Nat.mul_comm]

theorem final7 (h : In m c X Y M P W0 W1) : (dats m 0 c).arrAt 7 cfg0.N = up2 fun r => actS (uS (P 1) (M 4) (M 3) W0 (X r)) := by
  refine (dats m 0 c).arrAt_eq_of_covers 7 _ (by decide +kernel) fun t hf y => ?_
  blk_simp
  rw [after0_7, outs m c h]
  unfold up2
  blk_simp
  rw [(oidx.2.2.2.1 t).1, (oidx.2.2.2.1 t).2]
  simp only [rows, Nat.zero_mul, Nat.zero_add, Nat.mul_comm]

theorem final8 (h : In m c X Y M P W0 W1) :
    (dats m 0 c).arrAt 8 cfg0.N = up2 (sumsTo 8192 P M X (fun r => ffS (P 1) (M 4) (M 3) W0 W1 (X r)) Y) := by
  refine (dats m 0 c).arrAt_eq_of_covers 8 _ (by decide +kernel) fun t hf y => ?_
  have hl := oidx.2.2.2.2 t hf
  blk_simp
  rw [after0_8, outs m c h]
  unfold up2
  blk_simp
  rw [hl.1, hl.2.1, hl.2.2]
  simp only [sumsAt_eq, Nat.zero_mul, Nat.zero_add]

end Cert.Kernel3Ideal.Ffn
end
end
-- ==== Proof.Ffn.Ref.lean ====
/-
  The reference, one operation at a time, over the reals.
-/
module

public import proofs.«01_k».proof.Proof.Gen.Reference3Ideal.Read
public import proofs.«01_k».proof.Proof.Lib.Lift

@[expose] public section

noncomputable section
open scoped BigOperators
namespace Cert.Ffn.Ref
open Cert.Reference3Ideal Cert.Reference3Ideal.Gen Cert.Reference3Ideal.Read Idealize.ShloMosaic Idealize.ShloMosaic.TcCoe Idealize.SL.Sem Cert.Lift

/-- The arguments, as arrays of reals. -/
structure Args where
  x0 : ℕ → ℕ → ℕ → ℝ
  x1 : ℕ → ℕ → ℝ
  x3 : ℕ → ℕ → ℝ
  x4 : ℕ → ℝ
  x8 : ℕ → ℕ → ℕ → ℝ
  x9 : ℕ → ℕ → ℕ → ℝ
  x10 : ℕ → ℕ → ℕ → ℝ

def main_v0 (A : Args) (a0 a1 a2 : ℕ) : ℝ := A.x1 0 a2
theorem s_main_v0 (A : Args) : val_main_v0 (F := Ideal) (up2 A.x1) = up3 (main_v0 A) := by
  funext i; rw [val_main_v0_apply]; rfl

def main_v1 (A : Args) (a0 a1 a2 : ℕ) : ℝ := main_v0 A a0 a1 a2
theorem s_main_v1 (A : Args) : val_main_v1 (F := Ideal) (up2 A.x1) = up3 (main_v1 A) := by
  funext i; rw [val_main_v1_apply, s_main_v0 A]; rfl

def main_v2 (A : Args) (a0 a1 a2 : ℕ) : ℝ := main_v0 A a0 a1 (1024 + a2)
theorem s_main_v2 (A : Args) : val_main_v2 (F := Ideal) (up2 A.x1) = up3 (main_v2 A) := by
  funext i; rw [val_main_v2_apply, s_main_v0 A]; rfl

def main_v3 (A : Args) (a0 a1 a2 : ℕ) : ℝ := main_v0 A a0 a1 (2048 + a2)
theorem s_main_v3 (A : Args) : val_main_v3 (F := Ideal) (up2 A.x1) = up3 (main_v3 A) := by
  funext i; rw [val_main_v3_apply, s_main_v0 A]; rfl

def main_v4 (A : Args) (a0 a1 a2 : ℕ) : ℝ := main_v0 A a0 a1 (3072 + a2)
theorem s_main_v4 (A : Args) : val_main_v4 (F := Ideal) (up2 A.x1) = up3 (main_v4 A) := by
  funext i; rw [val_main_v4_apply, s_main_v0 A]; rfl

def main_v5 (A : Args) (a0 a1 a2 : ℕ) : ℝ := main_v0 A a0 a1 (4096 + a2)
theorem s_main_v5 (A : Args) : val_main_v5 (F := Ideal) (up2 A.x1) = up3 (main_v5 A) := by
  funext i; rw [val_main_v5_apply, s_main_v0 A]; rfl

def main_v6 (A : Args) (a0 a1 a2 : ℕ) : ℝ := main_v0 A a0 a1 (5120 + a2)
theorem s_main_v6 (A : Args) : val_main_v6 (F := Ideal) (up2 A.x1) = up3 (main_v6 A) := by
  funext i; rw [val_main_v6_apply, s_main_v0 A]; rfl

def main_v7 (A : Args) (a0 : ℕ) : ℝ := A.x3 0 a0
theorem s_main_v7 (A : Args) : val_main_v7 (F := Ideal) (up2 A.x3) = up1 (main_v7 A) := by
  funext i; rw [val_main_v7_apply]
  have h0 : (i 0).val < 1024 := (i 0).isLt
  show ((A.x3 (0) (((i 0).val) % 1024) : ℝ) : EReal) = ((A.x3 (0) ((i 0).val) : ℝ) : EReal)
  rw [show ((i 0).val) % 1024 = (i 0).val by omega]

def main_v8 (A : Args) (a0 a1 a2 : ℕ) : ℝ := A.x0 a0 a1 a2 * A.x0 a0 a1 a2
theorem s_main_v8 (A : Args) : val_main_v8 (F := Ideal) (up3 A.x0) = up3 (main_v8 A) := by
  funext i; rw [val_main_v8_apply]; exact (EReal.coe_mul _ _).symm

def main_cst (A : Args) : ℝ := 0
theorem s_main_cst (A : Args) (i : S_.Idx) : val_main_cst (F := Ideal) i = ((main_cst A : ℝ) : EReal) := zero_f32

def main_v9 (A : Args) (a0 a1 : ℕ) : ℝ := main_cst A + ∑ k ∈ Finset.range 1024, main_v8 A a0 a1 k
theorem s_main_v9 (A : Args) : val_main_v9 (F := Ideal) (up3 A.x0) = up2 (main_v9 A) := by
  funext i; rw [val_main_v9_apply, s_main_v8 A, s_main_cst A]
  refine Eq.trans (congrArg _ (Eq.trans (Finset.sum_congr rfl fun k _ => ?_) (coe_sum_fin 1024 fun k => main_v8 A (i 0).val (i 1).val k))) (EReal.coe_add _ _).symm
  rfl

def main_v10 (A : Args) (a0 a1 a2 : ℕ) : ℝ := main_v9 A 0 a1
theorem s_main_v10 (A : Args) : val_main_v10 (F := Ideal) (up3 A.x0) = up3 (main_v10 A) := by
  funext i; rw [val_main_v10_apply, s_main_v9 A]; rfl

def main_cst_0 (A : Args) : ℝ := 1024
theorem s_main_cst_0 (A : Args) (i : S_.Idx) : val_main_cst_0 (F := Ideal) i = ((main_cst_0 A : ℝ) : EReal) := k1024_f32

def main_v11 (A : Args) (a0 a1 a2 : ℕ) : ℝ := main_cst_0 A
theorem s_main_v11 (A : Args) : val_main_v11 (F := Ideal) = up3 (main_v11 A) := by
  funext i; rw [val_main_v11_apply]; exact s_main_cst_0 A _

def main_v12 (A : Args) (a0 a1 a2 : ℕ) : ℝ := main_v10 A a0 a1 a2 / main_v11 A a0 a1 a2
theorem s_main_v12 (A : Args) : val_main_v12 (F := Ideal) (up3 A.x0) = up3 (main_v12 A) := by
  funext i; rw [val_main_v12_apply, s_main_v10 A, s_main_v11 A]
  exact div_real _ _ (by show (1024:ℝ) ≠ 0; norm_num)

def main_cst_1 (A : Args) : ℝ := eps
theorem s_main_cst_1 (A : Args) (i : S_.Idx) : val_main_cst_1 (F := Ideal) i = ((main_cst_1 A : ℝ) : EReal) := eps_f32

def main_v13 (A : Args) (a0 a1 a2 : ℕ) : ℝ := main_cst_1 A
theorem s_main_v13 (A : Args) : val_main_v13 (F := Ideal) = up3 (main_v13 A) := by
  funext i; rw [val_main_v13_apply]; exact s_main_cst_1 A _

def main_v14 (A : Args) (a0 a1 a2 : ℕ) : ℝ := main_v12 A a0 a1 a2 + main_v13 A a0 a1 a2
theorem s_main_v14 (A : Args) : val_main_v14 (F := Ideal) (up3 A.x0) = up3 (main_v14 A) := by
  funext i; rw [val_main_v14_apply, s_main_v12 A, s_main_v13 A]; exact (EReal.coe_add _ _).symm

theorem v14_pos (A : Args) (a0 a1 a2 : ℕ) : 0 < main_v14 A a0 a1 a2 := by
  show 0 < (0 + ∑ k ∈ Finset.range 1024, A.x0 0 a1 k * A.x0 0 a1 k) / 1024 + eps
  rw [zero_add]; exact ms_pos _

def main_v15 (A : Args) (a0 a1 a2 : ℕ) : ℝ := (√(main_v14 A a0 a1 a2))⁻¹
theorem s_main_v15 (A : Args) : val_main_v15 (F := Ideal) (up3 A.x0) = up3 (main_v15 A) := by
  funext i; rw [val_main_v15_apply, s_main_v14 A]
  have hp := v14_pos A (i 0).val (i 1).val (i 2).val
  refine (Ideal.rsqrt_coe _).trans ?_
  rw [if_neg (not_lt.2 hp.le), if_neg hp.ne']; rfl

def main_v16 (A : Args) (a0 a1 a2 : ℕ) : ℝ := main_v15 A 0 a1 0
theorem s_main_v16 (A : Args) : val_main_v16 (F := Ideal) (up3 A.x0) = up3 (main_v16 A) := by
  funext i; rw [val_main_v16_apply, s_main_v15 A]; rfl

def main_v17 (A : Args) (a0 a1 a2 : ℕ) : ℝ := A.x0 a0 a1 a2 * main_v16 A a0 a1 a2
theorem s_main_v17 (A : Args) : val_main_v17 (F := Ideal) (up3 A.x0) = up3 (main_v17 A) := by
  funext i; rw [val_main_v17_apply, s_main_v16 A]; exact (EReal.coe_mul _ _).symm

def main_v18 (A : Args) (a0 a1 a2 : ℕ) : ℝ := main_v7 A a2
theorem s_main_v18 (A : Args) : val_main_v18 (F := Ideal) (up2 A.x3) = up3 (main_v18 A) := by
  funext i; rw [val_main_v18_apply, s_main_v7 A]; rfl

def main_v19 (A : Args) (a0 a1 a2 : ℕ) : ℝ := main_v18 A 0 0 a2
theorem s_main_v19 (A : Args) : val_main_v19 (F := Ideal) (up2 A.x3) = up3 (main_v19 A) := by
  funext i; rw [val_main_v19_apply, s_main_v18 A]; rfl

def main_v20 (A : Args) (a0 a1 a2 : ℕ) : ℝ := main_v17 A a0 a1 a2 * main_v19 A a0 a1 a2
theorem s_main_v20 (A : Args) : val_main_v20 (F := Ideal) (up3 A.x0) (up2 A.x3) = up3 (main_v20 A) := by
  funext i; rw [val_main_v20_apply, s_main_v17 A, s_main_v19 A]; exact (EReal.coe_mul _ _).symm

def main_cst_2 (A : Args) : ℝ := 1
theorem s_main_cst_2 (A : Args) (i : S_.Idx) : val_main_cst_2 (F := Ideal) i = ((main_cst_2 A : ℝ) : EReal) := one_f32

def main_v21 (A : Args) (a0 a1 a2 : ℕ) : ℝ := main_cst_2 A
theorem s_main_v21 (A : Args) : val_main_v21 (F := Ideal) = up3 (main_v21 A) := by
  funext i; rw [val_main_v21_apply]; exact s_main_cst_2 A _

def main_v22 (A : Args) (a0 a1 a2 : ℕ) : ℝ := main_v21 A a0 a1 a2 + main_v5 A a0 a1 a2
theorem s_main_v22 (A : Args) : val_main_v22 (F := Ideal) (up2 A.x1) = up3 (main_v22 A) := by
  funext i; rw [val_main_v22_apply, s_main_v21 A, s_main_v5 A]; exact (EReal.coe_add _ _).symm

def main_v23 (A : Args) (a0 a1 a2 : ℕ) : ℝ := main_v22 A 0 0 a2
theorem s_main_v23 (A : Args) : val_main_v23 (F := Ideal) (up2 A.x1) = up3 (main_v23 A) := by
  funext i; rw [val_main_v23_apply, s_main_v22 A]; rfl

def main_v24 (A : Args) (a0 a1 a2 : ℕ) : ℝ := main_v20 A a0 a1 a2 * main_v23 A a0 a1 a2
theorem s_main_v24 (A : Args) : val_main_v24 (F := Ideal) (up3 A.x0) (up2 A.x1) (up2 A.x3) = up3 (main_v24 A) := by
  funext i; rw [val_main_v24_apply, s_main_v20 A, s_main_v23 A]; exact (EReal.coe_mul _ _).symm

def main_v25 (A : Args) (a0 a1 a2 : ℕ) : ℝ := main_v4 A 0 0 a2
theorem s_main_v25 (A : Args) : val_main_v25 (F := Ideal) (up2 A.x1) = up3 (main_v25 A) := by
  funext i; rw [val_main_v25_apply, s_main_v4 A]; rfl

def main_v26 (A : Args) (a0 a1 a2 : ℕ) : ℝ := main_v24 A a0 a1 a2 + main_v25 A a0 a1 a2
theorem s_main_v26 (A : Args) : val_main_v26 (F := Ideal) (up3 A.x0) (up2 A.x1) (up2 A.x3) = up3 (main_v26 A) := by
  funext i; rw [val_main_v26_apply, s_main_v24 A, s_main_v25 A]; exact (EReal.coe_add _ _).symm

def main_v27 (A : Args) (a0 a1 : ℕ) : ℝ := A.x8 0 a0 a1
theorem s_main_v27 (A : Args) : val_main_v27 (F := Ideal) (up3 A.x8) = up2 (main_v27 A) := by
  funext i; rw [val_main_v27_apply]
  have h0 : (i 0).val < 1024 := (i 0).isLt
  have h1 : (i 1).val < 5632 := (i 1).isLt
  show ((A.x8 (0) (((i 0).val * 5632 + (i 1).val) / 5632 % 1024) (((i 0).val * 5632 + (i 1).val) % 5632) : ℝ) : EReal) = ((A.x8 (0) ((i 0).val) ((i 1).val) : ℝ) : EReal)
  rw [show ((i 0).val * 5632 + (i 1).val) / 5632 % 1024 = (i 0).val by omega, show ((i 0).val * 5632 + (i 1).val) % 5632 = (i 1).val by omega]

def main_v28 (A : Args) (a0 a1 a2 : ℕ) : ℝ := ∑ k ∈ Finset.range 1024, main_v26 A a0 a1 k * main_v27 A k a2
theorem s_main_v28 (A : Args) : val_main_v28 (F := Ideal) (up3 A.x0) (up2 A.x1) (up2 A.x3) (up3 A.x8) = up3 (main_v28 A) := by
  funext i; rw [val_main_v28_apply, s_main_v26 A, s_main_v27 A]; refine Eq.trans (Finset.sum_congr rfl fun k _ => ?_) (coe_sum_fin 1024 fun k => _)
  exact (EReal.coe_mul _ _).symm

def main_v29 (A : Args) (a0 a1 a2 : ℕ) : ℝ := main_v28 A a0 a1 a2
theorem s_main_v29 (A : Args) : val_main_v29 (F := Ideal) (up3 A.x0) (up2 A.x1) (up2 A.x3) (up3 A.x8) = up3 (main_v29 A) := by
  funext i; rw [val_main_v29_apply, s_main_v28 A]; rfl

def main_v30 (A : Args) (a0 a1 a2 : ℕ) : ℝ := main_v28 A a0 a1 (2816 + a2)
theorem s_main_v30 (A : Args) : val_main_v30 (F := Ideal) (up3 A.x0) (up2 A.x1) (up2 A.x3) (up3 A.x8) = up3 (main_v30 A) := by
  funext i; rw [val_main_v30_apply, s_main_v28 A]; rfl

def main_call0_v0 (A : Args) (a0 a1 a2 : ℕ) : ℝ := -main_v29 A a0 a1 a2
theorem s_main_call0_v0 (A : Args) : val_main_call0_v0 (F := Ideal) (up3 A.x0) (up2 A.x1) (up2 A.x3) (up3 A.x8) = up3 (main_call0_v0 A) := by
  funext i; rw [val_main_call0_v0_apply, s_main_v29 A]; exact (EReal.coe_neg _).symm

def main_call0_v1 (A : Args) (a0 a1 a2 : ℕ) : ℝ := Real.exp (main_call0_v0 A a0 a1 a2)
theorem s_main_call0_v1 (A : Args) : val_main_call0_v1 (F := Ideal) (up3 A.x0) (up2 A.x1) (up2 A.x3) (up3 A.x8) = up3 (main_call0_v1 A) := by
  funext i; rw [val_main_call0_v1_apply, s_main_call0_v0 A]; exact Ideal.exp_coe _

def main_call0_cst (A : Args) : ℝ := 1
theorem s_main_call0_cst (A : Args) (i : S_.Idx) : val_main_call0_cst (F := Ideal) i = ((main_call0_cst A : ℝ) : EReal) := one_f32

def main_call0_v2 (A : Args) (a0 a1 a2 : ℕ) : ℝ := main_call0_cst A
theorem s_main_call0_v2 (A : Args) : val_main_call0_v2 (F := Ideal) = up3 (main_call0_v2 A) := by
  funext i; rw [val_main_call0_v2_apply]; exact s_main_call0_cst A _

def main_call0_v3 (A : Args) (a0 a1 a2 : ℕ) : ℝ := main_call0_v2 A a0 a1 a2 + main_call0_v1 A a0 a1 a2
theorem s_main_call0_v3 (A : Args) : val_main_call0_v3 (F := Ideal) (up3 A.x0) (up2 A.x1) (up2 A.x3) (up3 A.x8) = up3 (main_call0_v3 A) := by
  funext i; rw [val_main_call0_v3_apply, s_main_call0_v2 A, s_main_call0_v1 A]; exact (EReal.coe_add _ _).symm

def main_call0_cst_0 (A : Args) : ℝ := 1
theorem s_main_call0_cst_0 (A : Args) (i : S_.Idx) : val_main_call0_cst_0 (F := Ideal) i = ((main_call0_cst_0 A : ℝ) : EReal) := one_f32

def main_call0_v4 (A : Args) (a0 a1 a2 : ℕ) : ℝ := main_call0_cst_0 A
theorem s_main_call0_v4 (A : Args) : val_main_call0_v4 (F := Ideal) = up3 (main_call0_v4 A) := by
  funext i; rw [val_main_call0_v4_apply]; exact s_main_call0_cst_0 A _

def main_call0_v5 (A : Args) (a0 a1 a2 : ℕ) : ℝ := main_call0_v4 A a0 a1 a2 / main_call0_v3 A a0 a1 a2
theorem s_main_call0_v5 (A : Args) : val_main_call0_v5 (F := Ideal) (up3 A.x0) (up2 A.x1) (up2 A.x3) (up3 A.x8) = up3 (main_call0_v5 A) := by
  funext i; rw [val_main_call0_v5_apply, s_main_call0_v4 A, s_main_call0_v3 A]
  exact div_real _ _ (by show (1:ℝ) + Real.exp _ ≠ 0; positivity)

def main_v31 (A : Args) (a0 a1 a2 : ℕ) : ℝ := main_v29 A a0 a1 a2 * main_call0_v5 A a0 a1 a2
theorem s_main_v31 (A : Args) : val_main_v31 (F := Ideal) (up3 A.x0) (up2 A.x1) (up2 A.x3) (up3 A.x8) = up3 (main_v31 A) := by
  funext i; rw [val_main_v31_apply, s_main_v29 A, s_main_call0_v5 A]; exact (EReal.coe_mul _ _).symm

def main_v32 (A : Args) (a0 a1 a2 : ℕ) : ℝ := main_v31 A a0 a1 a2 * main_v30 A a0 a1 a2
theorem s_main_v32 (A : Args) : val_main_v32 (F := Ideal) (up3 A.x0) (up2 A.x1) (up2 A.x3) (up3 A.x8) = up3 (main_v32 A) := by
  funext i; rw [val_main_v32_apply, s_main_v31 A, s_main_v30 A]; exact (EReal.coe_mul _ _).symm

def main_v33 (A : Args) (a0 a1 : ℕ) : ℝ := A.x9 0 a0 a1
theorem s_main_v33 (A : Args) : val_main_v33 (F := Ideal) (up3 A.x9) = up2 (main_v33 A) := by
  funext i; rw [val_main_v33_apply]
  have h0 : (i 0).val < 2816 := (i 0).isLt
  have h1 : (i 1).val < 1024 := (i 1).isLt
  show ((A.x9 (0) (((i 0).val * 1024 + (i 1).val) / 1024 % 2816) (((i 0).val * 1024 + (i 1).val) % 1024) : ℝ) : EReal) = ((A.x9 (0) ((i 0).val) ((i 1).val) : ℝ) : EReal)
  rw [show ((i 0).val * 1024 + (i 1).val) / 1024 % 2816 = (i 0).val by omega, show ((i 0).val * 1024 + (i 1).val) % 1024 = (i 1).val by omega]

def main_v34 (A : Args) (a0 a1 a2 : ℕ) : ℝ := ∑ k ∈ Finset.range 2816, main_v32 A a0 a1 k * main_v33 A k a2
theorem s_main_v34 (A : Args) : val_main_v34 (F := Ideal) (up3 A.x0) (up2 A.x1) (up2 A.x3) (up3 A.x8) (up3 A.x9) = up3 (main_v34 A) := by
  funext i; rw [val_main_v34_apply, s_main_v32 A, s_main_v33 A]; refine Eq.trans (Finset.sum_congr rfl fun k _ => ?_) (coe_sum_fin 2816 fun k => _)
  exact (EReal.coe_mul _ _).symm

def main_v35 (A : Args) (a0 a1 a2 : ℕ) : ℝ := main_v6 A 0 0 a2
theorem s_main_v35 (A : Args) : val_main_v35 (F := Ideal) (up2 A.x1) = up3 (main_v35 A) := by
  funext i; rw [val_main_v35_apply, s_main_v6 A]; rfl

def main_v36 (A : Args) (a0 a1 a2 : ℕ) : ℝ := main_v35 A a0 a1 a2 * main_v34 A a0 a1 a2
theorem s_main_v36 (A : Args) : val_main_v36 (F := Ideal) (up3 A.x0) (up2 A.x1) (up2 A.x3) (up3 A.x8) (up3 A.x9) = up3 (main_v36 A) := by
  funext i; rw [val_main_v36_apply, s_main_v35 A, s_main_v34 A]; exact (EReal.coe_mul _ _).symm

def main_v37 (A : Args) (a0 a1 a2 : ℕ) : ℝ := A.x0 a0 a1 a2 + main_v36 A a0 a1 a2
theorem s_main_v37 (A : Args) : val_main_v37 (F := Ideal) (up3 A.x0) (up2 A.x1) (up2 A.x3) (up3 A.x8) (up3 A.x9) = up3 (main_v37 A) := by
  funext i; rw [val_main_v37_apply, s_main_v36 A]; exact (EReal.coe_add _ _).symm

def main_v38 (A : Args) (a0 a1 a2 : ℕ) : ℝ := main_v37 A a0 a1 a2 * main_v37 A a0 a1 a2
theorem s_main_v38 (A : Args) : val_main_v38 (F := Ideal) (up3 A.x0) (up2 A.x1) (up2 A.x3) (up3 A.x8) (up3 A.x9) = up3 (main_v38 A) := by
  funext i; rw [val_main_v38_apply, s_main_v37 A]; exact (EReal.coe_mul _ _).symm

def main_cst_3 (A : Args) : ℝ := 0
theorem s_main_cst_3 (A : Args) (i : S_.Idx) : val_main_cst_3 (F := Ideal) i = ((main_cst_3 A : ℝ) : EReal) := zero_f32

def main_v39 (A : Args) (a0 a1 : ℕ) : ℝ := main_cst_3 A + ∑ k ∈ Finset.range 1024, main_v38 A a0 a1 k
theorem s_main_v39 (A : Args) : val_main_v39 (F := Ideal) (up3 A.x0) (up2 A.x1) (up2 A.x3) (up3 A.x8) (up3 A.x9) = up2 (main_v39 A) := by
  funext i; rw [val_main_v39_apply, s_main_v38 A, s_main_cst_3 A]
  refine Eq.trans (congrArg _ (Eq.trans (Finset.sum_congr rfl fun k _ => ?_) (coe_sum_fin 1024 fun k => main_v38 A (i 0).val (i 1).val k))) (EReal.coe_add _ _).symm
  rfl

def main_v40 (A : Args) (a0 a1 a2 : ℕ) : ℝ := main_v39 A 0 a1
theorem s_main_v40 (A : Args) : val_main_v40 (F := Ideal) (up3 A.x0) (up2 A.x1) (up2 A.x3) (up3 A.x8) (up3 A.x9) = up3 (main_v40 A) := by
  funext i; rw [val_main_v40_apply, s_main_v39 A]; rfl

def main_cst_4 (A : Args) : ℝ := 1024
theorem s_main_cst_4 (A : Args) (i : S_.Idx) : val_main_cst_4 (F := Ideal) i = ((main_cst_4 A : ℝ) : EReal) := k1024_f32

def main_v41 (A : Args) (a0 a1 a2 : ℕ) : ℝ := main_cst_4 A
theorem s_main_v41 (A : Args) : val_main_v41 (F := Ideal) = up3 (main_v41 A) := by
  funext i; rw [val_main_v41_apply]; exact s_main_cst_4 A _

def main_v42 (A : Args) (a0 a1 a2 : ℕ) : ℝ := main_v40 A a0 a1 a2 / main_v41 A a0 a1 a2
theorem s_main_v42 (A : Args) : val_main_v42 (F := Ideal) (up3 A.x0) (up2 A.x1) (up2 A.x3) (up3 A.x8) (up3 A.x9) = up3 (main_v42 A) := by
  funext i; rw [val_main_v42_apply, s_main_v40 A, s_main_v41 A]
  exact div_real _ _ (by show (1024:ℝ) ≠ 0; norm_num)

def main_cst_5 (A : Args) : ℝ := eps
theorem s_main_cst_5 (A : Args) (i : S_.Idx) : val_main_cst_5 (F := Ideal) i = ((main_cst_5 A : ℝ) : EReal) := eps_f32

def main_v43 (A : Args) (a0 a1 a2 : ℕ) : ℝ := main_cst_5 A
theorem s_main_v43 (A : Args) : val_main_v43 (F := Ideal) = up3 (main_v43 A) := by
  funext i; rw [val_main_v43_apply]; exact s_main_cst_5 A _

def main_v44 (A : Args) (a0 a1 a2 : ℕ) : ℝ := main_v42 A a0 a1 a2 + main_v43 A a0 a1 a2
theorem s_main_v44 (A : Args) : val_main_v44 (F := Ideal) (up3 A.x0) (up2 A.x1) (up2 A.x3) (up3 A.x8) (up3 A.x9) = up3 (main_v44 A) := by
  funext i; rw [val_main_v44_apply, s_main_v42 A, s_main_v43 A]; exact (EReal.coe_add _ _).symm

theorem v44_pos (A : Args) (a0 a1 a2 : ℕ) : 0 < main_v44 A a0 a1 a2 := by
  show 0 < (0 + ∑ k ∈ Finset.range 1024, main_v37 A 0 a1 k * main_v37 A 0 a1 k) / 1024 + eps
  rw [zero_add]; exact ms_pos _

def main_v45 (A : Args) (a0 a1 a2 : ℕ) : ℝ := (√(main_v44 A a0 a1 a2))⁻¹
theorem s_main_v45 (A : Args) : val_main_v45 (F := Ideal) (up3 A.x0) (up2 A.x1) (up2 A.x3) (up3 A.x8) (up3 A.x9) = up3 (main_v45 A) := by
  funext i; rw [val_main_v45_apply, s_main_v44 A]
  have hp := v44_pos A (i 0).val (i 1).val (i 2).val
  refine (Ideal.rsqrt_coe _).trans ?_
  rw [if_neg (not_lt.2 hp.le), if_neg hp.ne']; rfl

def main_v46 (A : Args) (a0 a1 a2 : ℕ) : ℝ := main_v45 A a0 a1 a2 / main_v44 A a0 a1 a2
theorem s_main_v46 (A : Args) : val_main_v46 (F := Ideal) (up3 A.x0) (up2 A.x1) (up2 A.x3) (up3 A.x8) (up3 A.x9) = up3 (main_v46 A) := by
  funext i; rw [val_main_v46_apply, s_main_v45 A, s_main_v44 A]
  exact div_real _ _ ((v44_pos A _ _ _).ne')

def main_cst_6 (A : Args) : ℝ := (-(1/2))
theorem s_main_cst_6 (A : Args) (i : S_.Idx) : val_main_cst_6 (F := Ideal) i = ((main_cst_6 A : ℝ) : EReal) := neg_half_f32

def main_v47 (A : Args) (a0 a1 a2 : ℕ) : ℝ := main_cst_6 A
theorem s_main_v47 (A : Args) : val_main_v47 (F := Ideal) = up3 (main_v47 A) := by
  funext i; rw [val_main_v47_apply]; exact s_main_cst_6 A _

def main_v48 (A : Args) (a0 a1 a2 : ℕ) : ℝ := main_v47 A a0 a1 a2 * main_v46 A a0 a1 a2
theorem s_main_v48 (A : Args) : val_main_v48 (F := Ideal) (up3 A.x0) (up2 A.x1) (up2 A.x3) (up3 A.x8) (up3 A.x9) = up3 (main_v48 A) := by
  funext i; rw [val_main_v48_apply, s_main_v47 A, s_main_v46 A]; exact (EReal.coe_mul _ _).symm

def main_v49 (A : Args) (a0 a1 a2 : ℕ) : ℝ := main_v45 A 0 a1 0
theorem s_main_v49 (A : Args) : val_main_v49 (F := Ideal) (up3 A.x0) (up2 A.x1) (up2 A.x3) (up3 A.x8) (up3 A.x9) = up3 (main_v49 A) := by
  funext i; rw [val_main_v49_apply, s_main_v45 A]; rfl

def main_v50 (A : Args) (a0 a1 a2 : ℕ) : ℝ := main_v37 A a0 a1 a2 * main_v49 A a0 a1 a2
theorem s_main_v50 (A : Args) : val_main_v50 (F := Ideal) (up3 A.x0) (up2 A.x1) (up2 A.x3) (up3 A.x8) (up3 A.x9) = up3 (main_v50 A) := by
  funext i; rw [val_main_v50_apply, s_main_v37 A, s_main_v49 A]; exact (EReal.coe_mul _ _).symm

def main_v51 (A : Args) (a0 a1 a2 : ℕ) : ℝ := A.x4 a2
theorem s_main_v51 (A : Args) : val_main_v51 (F := Ideal) (up1 A.x4) = up3 (main_v51 A) := by
  funext i; rw [val_main_v51_apply]; rfl

def main_v52 (A : Args) (a0 a1 a2 : ℕ) : ℝ := main_v51 A 0 0 a2
theorem s_main_v52 (A : Args) : val_main_v52 (F := Ideal) (up1 A.x4) = up3 (main_v52 A) := by
  funext i; rw [val_main_v52_apply, s_main_v51 A]; rfl

def main_v53 (A : Args) (a0 a1 a2 : ℕ) : ℝ := main_v50 A a0 a1 a2 * main_v52 A a0 a1 a2
theorem s_main_v53 (A : Args) : val_main_v53 (F := Ideal) (up3 A.x0) (up2 A.x1) (up2 A.x3) (up1 A.x4) (up3 A.x8) (up3 A.x9) = up3 (main_v53 A) := by
  funext i; rw [val_main_v53_apply, s_main_v50 A, s_main_v52 A]; exact (EReal.coe_mul _ _).symm

def main_v54 (A : Args) (a0 a1 a2 : ℕ) : ℝ := main_v53 A a0 a1 a2 - A.x10 a0 a1 a2
theorem s_main_v54 (A : Args) : val_main_v54 (F := Ideal) (up3 A.x0) (up2 A.x1) (up2 A.x3) (up1 A.x4) (up3 A.x8) (up3 A.x9) (up3 A.x10) = up3 (main_v54 A) := by
  funext i; rw [val_main_v54_apply, s_main_v53 A]; exact (EReal.coe_sub _ _).symm

def main_v55 (A : Args) (a0 a1 a2 : ℕ) : ℝ := main_v54 A a0 a1 a2 * main_v54 A a0 a1 a2
theorem s_main_v55 (A : Args) : val_main_v55 (F := Ideal) (up3 A.x0) (up2 A.x1) (up2 A.x3) (up1 A.x4) (up3 A.x8) (up3 A.x9) (up3 A.x10) = up3 (main_v55 A) := by
  funext i; rw [val_main_v55_apply, s_main_v54 A]; exact (EReal.coe_mul _ _).symm

def main_cst_7 (A : Args) : ℝ := 2
theorem s_main_cst_7 (A : Args) (i : S_.Idx) : val_main_cst_7 (F := Ideal) i = ((main_cst_7 A : ℝ) : EReal) := two_f32

def main_v56 (A : Args) (a0 a1 a2 : ℕ) : ℝ := main_cst_7 A
theorem s_main_v56 (A : Args) : val_main_v56 (F := Ideal) = up3 (main_v56 A) := by
  funext i; rw [val_main_v56_apply]; exact s_main_cst_7 A _

def main_v57 (A : Args) (a0 a1 a2 : ℕ) : ℝ := main_v56 A a0 a1 a2 * main_v54 A a0 a1 a2
theorem s_main_v57 (A : Args) : val_main_v57 (F := Ideal) (up3 A.x0) (up2 A.x1) (up2 A.x3) (up1 A.x4) (up3 A.x8) (up3 A.x9) (up3 A.x10) = up3 (main_v57 A) := by
  funext i; rw [val_main_v57_apply, s_main_v56 A, s_main_v54 A]; exact (EReal.coe_mul _ _).symm

def main_cst_12 (A : Args) : ℝ := 1/2
theorem s_main_cst_12 (A : Args) (i : S_.Idx) : val_main_cst_12 (F := Ideal) i = ((main_cst_12 A : ℝ) : EReal) := half_f32

def main_cst_13 (A : Args) : ℝ := 1
theorem s_main_cst_13 (A : Args) (i : S_.Idx) : val_main_cst_13 (F := Ideal) i = ((main_cst_13 A : ℝ) : EReal) := one_f32

def main_v63 (A : Args) : ℝ := main_cst_12 A * main_cst_13 A
theorem s_main_v63 (A : Args) (i : S_.Idx) : val_main_v63 (F := Ideal) i = ((main_v63 A : ℝ) : EReal) := by
  rw [val_main_v63_apply, s_main_cst_12 A, s_main_cst_13 A]; exact (EReal.coe_mul _ _).symm

def main_v64 (A : Args) (a0 a1 : ℕ) : ℝ := main_v63 A
theorem s_main_v64 (A : Args) : val_main_v64 (F := Ideal) = up2 (main_v64 A) := by
  funext i; rw [val_main_v64_apply]; exact s_main_v63 A _

def main_cst_14 (A : Args) : ℝ := 1024
theorem s_main_cst_14 (A : Args) (i : S_.Idx) : val_main_cst_14 (F := Ideal) i = ((main_cst_14 A : ℝ) : EReal) := k1024_f32

def main_v65 (A : Args) (a0 a1 : ℕ) : ℝ := main_cst_14 A
theorem s_main_v65 (A : Args) : val_main_v65 (F := Ideal) = up2 (main_v65 A) := by
  funext i; rw [val_main_v65_apply]; exact s_main_cst_14 A _

def main_v66 (A : Args) (a0 a1 : ℕ) : ℝ := main_v64 A a0 a1 / main_v65 A a0 a1
theorem s_main_v66 (A : Args) : val_main_v66 (F := Ideal) = up2 (main_v66 A) := by
  funext i; rw [val_main_v66_apply, s_main_v64 A, s_main_v65 A]
  exact div_real _ _ (by show (1024:ℝ) ≠ 0; norm_num)

def main_v67 (A : Args) (a0 a1 a2 : ℕ) : ℝ := main_v66 A 0 a1
theorem s_main_v67 (A : Args) : val_main_v67 (F := Ideal) = up3 (main_v67 A) := by
  funext i; rw [val_main_v67_apply, s_main_v66 A]; rfl

def main_v68 (A : Args) (a0 a1 a2 : ℕ) : ℝ := main_v67 A a0 a1 a2 * main_v57 A a0 a1 a2
theorem s_main_v68 (A : Args) : val_main_v68 (F := Ideal) (up3 A.x0) (up2 A.x1) (up2 A.x3) (up1 A.x4) (up3 A.x8) (up3 A.x9) (up3 A.x10) = up3 (main_v68 A) := by
  funext i; rw [val_main_v68_apply, s_main_v67 A, s_main_v57 A]; exact (EReal.coe_mul _ _).symm

def main_v69 (A : Args) (a0 a1 a2 : ℕ) : ℝ := main_v50 A a0 a1 a2 * main_v68 A a0 a1 a2
theorem s_main_v69 (A : Args) : val_main_v69 (F := Ideal) (up3 A.x0) (up2 A.x1) (up2 A.x3) (up1 A.x4) (up3 A.x8) (up3 A.x9) (up3 A.x10) = up3 (main_v69 A) := by
  funext i; rw [val_main_v69_apply, s_main_v50 A, s_main_v68 A]; exact (EReal.coe_mul _ _).symm

def main_cst_15 (A : Args) : ℝ := 0
theorem s_main_cst_15 (A : Args) (i : S_.Idx) : val_main_cst_15 (F := Ideal) i = ((main_cst_15 A : ℝ) : EReal) := zero_f32

def main_v70 (A : Args) (a0 a1 : ℕ) : ℝ := main_cst_15 A + ∑ k ∈ Finset.range 8192, main_v69 A a0 k a1
theorem s_main_v70 (A : Args) : val_main_v70 (F := Ideal) (up3 A.x0) (up2 A.x1) (up2 A.x3) (up1 A.x4) (up3 A.x8) (up3 A.x9) (up3 A.x10) = up2 (main_v70 A) := by
  funext i; rw [val_main_v70_apply, s_main_v69 A, s_main_cst_15 A]
  refine Eq.trans (congrArg _ (Eq.trans (Finset.sum_congr rfl fun k _ => ?_) (coe_sum_fin 8192 fun k => main_v69 A (i 0).val k (i 1).val))) (EReal.coe_add _ _).symm
  rfl

def main_v71 (A : Args) (a0 a1 a2 : ℕ) : ℝ := main_v70 A 0 a2
theorem s_main_v71 (A : Args) : val_main_v71 (F := Ideal) (up3 A.x0) (up2 A.x1) (up2 A.x3) (up1 A.x4) (up3 A.x8) (up3 A.x9) (up3 A.x10) = up3 (main_v71 A) := by
  funext i; rw [val_main_v71_apply, s_main_v70 A]
  have h0 : (i 0).val < 1 := (i 0).isLt
  have h1 : (i 1).val < 1 := (i 1).isLt
  have h2 : (i 2).val < 1024 := (i 2).isLt
  show ((main_v70 A (0) ((((i 0).val * 1 + (i 1).val) * 1024 + (i 2).val) % 1024) : ℝ) : EReal) = ((main_v70 A (0) ((i 2).val) : ℝ) : EReal)
  rw [show (((i 0).val * 1 + (i 1).val) * 1024 + (i 2).val) % 1024 = (i 2).val by omega]

def main_v72 (A : Args) (a0 a1 a2 : ℕ) : ℝ := main_v51 A 0 0 a2
theorem s_main_v72 (A : Args) : val_main_v72 (F := Ideal) (up1 A.x4) = up3 (main_v72 A) := by
  funext i; rw [val_main_v72_apply, s_main_v51 A]; rfl

def main_v73 (A : Args) (a0 a1 a2 : ℕ) : ℝ := main_v68 A a0 a1 a2 * main_v72 A a0 a1 a2
theorem s_main_v73 (A : Args) : val_main_v73 (F := Ideal) (up3 A.x0) (up2 A.x1) (up2 A.x3) (up1 A.x4) (up3 A.x8) (up3 A.x9) (up3 A.x10) = up3 (main_v73 A) := by
  funext i; rw [val_main_v73_apply, s_main_v68 A, s_main_v72 A]; exact (EReal.coe_mul _ _).symm

def main_cst_16 (A : Args) : ℝ := 0
theorem s_main_cst_16 (A : Args) (i : S_.Idx) : val_main_cst_16 (F := Ideal) i = ((main_cst_16 A : ℝ) : EReal) := zero_f32

def main_v74 (A : Args) (a0 : ℕ) : ℝ := main_cst_16 A + main_v71 A 0 0 a0
theorem s_main_v74 (A : Args) : val_main_v74 (F := Ideal) (up3 A.x0) (up2 A.x1) (up2 A.x3) (up1 A.x4) (up3 A.x8) (up3 A.x9) (up3 A.x10) = up1 (main_v74 A) := by
  funext i; unfold val_main_v74; rw [s_main_v71 A]
  have h0 := (i 0).isLt
  refine (reduce_unit _ _ _ i (ValueIdx.ix3 0 0 (i 0)) ?_ ?_).trans ?_
  · funext b; match b with | ⟨0, _⟩ => exact rfl
  · intro k hk; have e : (k 2 : ℕ) = (i 0 : ℕ) := congrArg (fun q => (q 0 : ℕ)) hk
    have q0 : (k 0).val < 1 := (k 0).isLt
    have q1 : (k 1).val < 1 := (k 1).isLt
    have q2 : (k 2).val < 1024 := (k 2).isLt
    funext b; apply Fin.ext; match b with
    | ⟨0, _⟩ => show (k 0).val = 0; omega
    | ⟨1, _⟩ => show (k 1).val = 0; omega
    | ⟨2, _⟩ => exact e
  · rw [s_main_cst_16 A]; exact (EReal.coe_add _ _).symm

def main_v75 (A : Args) (a0 a1 a2 : ℕ) : ℝ := main_v37 A a0 a1 a2 * main_v73 A a0 a1 a2
theorem s_main_v75 (A : Args) : val_main_v75 (F := Ideal) (up3 A.x0) (up2 A.x1) (up2 A.x3) (up1 A.x4) (up3 A.x8) (up3 A.x9) (up3 A.x10) = up3 (main_v75 A) := by
  funext i; rw [val_main_v75_apply, s_main_v37 A, s_main_v73 A]; exact (EReal.coe_mul _ _).symm

def main_cst_17 (A : Args) : ℝ := 0
theorem s_main_cst_17 (A : Args) (i : S_.Idx) : val_main_cst_17 (F := Ideal) i = ((main_cst_17 A : ℝ) : EReal) := zero_f32

def main_v76 (A : Args) (a0 a1 : ℕ) : ℝ := main_cst_17 A + ∑ k ∈ Finset.range 1024, main_v75 A a0 a1 k
theorem s_main_v76 (A : Args) : val_main_v76 (F := Ideal) (up3 A.x0) (up2 A.x1) (up2 A.x3) (up1 A.x4) (up3 A.x8) (up3 A.x9) (up3 A.x10) = up2 (main_v76 A) := by
  funext i; rw [val_main_v76_apply, s_main_v75 A, s_main_cst_17 A]
  refine Eq.trans (congrArg _ (Eq.trans (Finset.sum_congr rfl fun k _ => ?_) (coe_sum_fin 1024 fun k => main_v75 A (i 0).val (i 1).val k))) (EReal.coe_add _ _).symm
  rfl

def main_v77 (A : Args) (a0 a1 a2 : ℕ) : ℝ := main_v76 A 0 a1
theorem s_main_v77 (A : Args) : val_main_v77 (F := Ideal) (up3 A.x0) (up2 A.x1) (up2 A.x3) (up1 A.x4) (up3 A.x8) (up3 A.x9) (up3 A.x10) = up3 (main_v77 A) := by
  funext i; rw [val_main_v77_apply, s_main_v76 A]
  have h0 : (i 0).val < 1 := (i 0).isLt
  have h1 : (i 1).val < 8192 := (i 1).isLt
  have h2 : (i 2).val < 1 := (i 2).isLt
  show ((main_v76 A (0) ((((i 0).val * 8192 + (i 1).val) * 1 + (i 2).val) % 8192) : ℝ) : EReal) = ((main_v76 A (0) ((i 1).val) : ℝ) : EReal)
  rw [show (((i 0).val * 8192 + (i 1).val) * 1 + (i 2).val) % 8192 = (i 1).val by omega]

def main_v78 (A : Args) (a0 a1 a2 : ℕ) : ℝ := main_v45 A 0 a1 0
theorem s_main_v78 (A : Args) : val_main_v78 (F := Ideal) (up3 A.x0) (up2 A.x1) (up2 A.x3) (up3 A.x8) (up3 A.x9) = up3 (main_v78 A) := by
  funext i; rw [val_main_v78_apply, s_main_v45 A]; rfl

def main_v79 (A : Args) (a0 a1 a2 : ℕ) : ℝ := main_v73 A a0 a1 a2 * main_v78 A a0 a1 a2
theorem s_main_v79 (A : Args) : val_main_v79 (F := Ideal) (up3 A.x0) (up2 A.x1) (up2 A.x3) (up1 A.x4) (up3 A.x8) (up3 A.x9) (up3 A.x10) = up3 (main_v79 A) := by
  funext i; rw [val_main_v79_apply, s_main_v73 A, s_main_v78 A]; exact (EReal.coe_mul _ _).symm

def main_v80 (A : Args) (a0 a1 a2 : ℕ) : ℝ := main_v77 A a0 a1 a2 * main_v48 A a0 a1 a2
theorem s_main_v80 (A : Args) : val_main_v80 (F := Ideal) (up3 A.x0) (up2 A.x1) (up2 A.x3) (up1 A.x4) (up3 A.x8) (up3 A.x9) (up3 A.x10) = up3 (main_v80 A) := by
  funext i; rw [val_main_v80_apply, s_main_v77 A, s_main_v48 A]; exact (EReal.coe_mul _ _).symm

def main_cst_18 (A : Args) : ℝ := 1024
theorem s_main_cst_18 (A : Args) (i : S_.Idx) : val_main_cst_18 (F := Ideal) i = ((main_cst_18 A : ℝ) : EReal) := k1024_f32

def main_v81 (A : Args) (a0 a1 a2 : ℕ) : ℝ := main_cst_18 A
theorem s_main_v81 (A : Args) : val_main_v81 (F := Ideal) = up3 (main_v81 A) := by
  funext i; rw [val_main_v81_apply]; exact s_main_cst_18 A _

def main_v82 (A : Args) (a0 a1 a2 : ℕ) : ℝ := main_v80 A a0 a1 a2 / main_v81 A a0 a1 a2
theorem s_main_v82 (A : Args) : val_main_v82 (F := Ideal) (up3 A.x0) (up2 A.x1) (up2 A.x3) (up1 A.x4) (up3 A.x8) (up3 A.x9) (up3 A.x10) = up3 (main_v82 A) := by
  funext i; rw [val_main_v82_apply, s_main_v80 A, s_main_v81 A]
  exact div_real _ _ (by show (1024:ℝ) ≠ 0; norm_num)

def main_cst_19 (A : Args) : ℝ := 0
theorem s_main_cst_19 (A : Args) (i : S_.Idx) : val_main_cst_19 (F := Ideal) i = ((main_cst_19 A : ℝ) : EReal) := zero_f32

def main_v83 (A : Args) (a0 : ℕ) : ℝ := main_cst_19 A + main_v82 A 0 a0 0
theorem s_main_v83 (A : Args) : val_main_v83 (F := Ideal) (up3 A.x0) (up2 A.x1) (up2 A.x3) (up1 A.x4) (up3 A.x8) (up3 A.x9) (up3 A.x10) = up1 (main_v83 A) := by
  funext i; unfold val_main_v83; rw [s_main_v82 A]
  have h0 := (i 0).isLt
  refine (reduce_unit _ _ _ i (ValueIdx.ix3 0 (i 0) 0) ?_ ?_).trans ?_
  · funext b; match b with | ⟨0, _⟩ => exact rfl
  · intro k hk; have e : (k 1 : ℕ) = (i 0 : ℕ) := congrArg (fun q => (q 0 : ℕ)) hk
    have q0 : (k 0).val < 1 := (k 0).isLt
    have q1 : (k 1).val < 8192 := (k 1).isLt
    have q2 : (k 2).val < 1 := (k 2).isLt
    funext b; apply Fin.ext; match b with
    | ⟨0, _⟩ => show (k 0).val = 0; omega
    | ⟨1, _⟩ => exact e
    | ⟨2, _⟩ => show (k 2).val = 0; omega
  · rw [s_main_cst_19 A]; exact (EReal.coe_add _ _).symm

def main_v84 (A : Args) (a0 a1 : ℕ) : ℝ := main_v83 A a1
theorem s_main_v84 (A : Args) : val_main_v84 (F := Ideal) (up3 A.x0) (up2 A.x1) (up2 A.x3) (up1 A.x4) (up3 A.x8) (up3 A.x9) (up3 A.x10) = up2 (main_v84 A) := by
  funext i; rw [val_main_v84_apply, s_main_v83 A]; rfl

def main_v85 (A : Args) (a0 a1 a2 : ℕ) : ℝ := main_v84 A 0 a1
theorem s_main_v85 (A : Args) : val_main_v85 (F := Ideal) (up3 A.x0) (up2 A.x1) (up2 A.x3) (up1 A.x4) (up3 A.x8) (up3 A.x9) (up3 A.x10) = up3 (main_v85 A) := by
  funext i; rw [val_main_v85_apply, s_main_v84 A]; rfl

def main_v86 (A : Args) (a0 a1 a2 : ℕ) : ℝ := main_v37 A a0 a1 a2 * main_v85 A a0 a1 a2
theorem s_main_v86 (A : Args) : val_main_v86 (F := Ideal) (up3 A.x0) (up2 A.x1) (up2 A.x3) (up1 A.x4) (up3 A.x8) (up3 A.x9) (up3 A.x10) = up3 (main_v86 A) := by
  funext i; rw [val_main_v86_apply, s_main_v37 A, s_main_v85 A]; exact (EReal.coe_mul _ _).symm

def main_v87 (A : Args) (a0 a1 a2 : ℕ) : ℝ := main_v79 A a0 a1 a2 + main_v86 A a0 a1 a2
theorem s_main_v87 (A : Args) : val_main_v87 (F := Ideal) (up3 A.x0) (up2 A.x1) (up2 A.x3) (up1 A.x4) (up3 A.x8) (up3 A.x9) (up3 A.x10) = up3 (main_v87 A) := by
  funext i; rw [val_main_v87_apply, s_main_v79 A, s_main_v86 A]; exact (EReal.coe_add _ _).symm

def main_v88 (A : Args) (a0 a1 a2 : ℕ) : ℝ := main_v85 A a0 a1 a2 * main_v37 A a0 a1 a2
theorem s_main_v88 (A : Args) : val_main_v88 (F := Ideal) (up3 A.x0) (up2 A.x1) (up2 A.x3) (up1 A.x4) (up3 A.x8) (up3 A.x9) (up3 A.x10) = up3 (main_v88 A) := by
  funext i; rw [val_main_v88_apply, s_main_v85 A, s_main_v37 A]; exact (EReal.coe_mul _ _).symm

def main_v89 (A : Args) (a0 a1 a2 : ℕ) : ℝ := main_v87 A a0 a1 a2 + main_v88 A a0 a1 a2
theorem s_main_v89 (A : Args) : val_main_v89 (F := Ideal) (up3 A.x0) (up2 A.x1) (up2 A.x3) (up1 A.x4) (up3 A.x8) (up3 A.x9) (up3 A.x10) = up3 (main_v89 A) := by
  funext i; rw [val_main_v89_apply, s_main_v87 A, s_main_v88 A]; exact (EReal.coe_add _ _).symm

def main_v90 (A : Args) (a0 a1 a2 : ℕ) : ℝ := main_v89 A a0 a1 a2 * main_v34 A a0 a1 a2
theorem s_main_v90 (A : Args) : val_main_v90 (F := Ideal) (up3 A.x0) (up2 A.x1) (up2 A.x3) (up1 A.x4) (up3 A.x8) (up3 A.x9) (up3 A.x10) = up3 (main_v90 A) := by
  funext i; rw [val_main_v90_apply, s_main_v89 A, s_main_v34 A]; exact (EReal.coe_mul _ _).symm

def main_cst_20 (A : Args) : ℝ := 0
theorem s_main_cst_20 (A : Args) (i : S_.Idx) : val_main_cst_20 (F := Ideal) i = ((main_cst_20 A : ℝ) : EReal) := zero_f32

def main_v91 (A : Args) (a0 a1 : ℕ) : ℝ := main_cst_20 A + ∑ k ∈ Finset.range 8192, main_v90 A a0 k a1
theorem s_main_v91 (A : Args) : val_main_v91 (F := Ideal) (up3 A.x0) (up2 A.x1) (up2 A.x3) (up1 A.x4) (up3 A.x8) (up3 A.x9) (up3 A.x10) = up2 (main_v91 A) := by
  funext i; rw [val_main_v91_apply, s_main_v90 A, s_main_cst_20 A]
  refine Eq.trans (congrArg _ (Eq.trans (Finset.sum_congr rfl fun k _ => ?_) (coe_sum_fin 8192 fun k => main_v90 A (i 0).val k (i 1).val))) (EReal.coe_add _ _).symm
  rfl

def main_v92 (A : Args) (a0 a1 a2 : ℕ) : ℝ := main_v91 A 0 a2
theorem s_main_v92 (A : Args) : val_main_v92 (F := Ideal) (up3 A.x0) (up2 A.x1) (up2 A.x3) (up1 A.x4) (up3 A.x8) (up3 A.x9) (up3 A.x10) = up3 (main_v92 A) := by
  funext i; rw [val_main_v92_apply, s_main_v91 A]
  have h0 : (i 0).val < 1 := (i 0).isLt
  have h1 : (i 1).val < 1 := (i 1).isLt
  have h2 : (i 2).val < 1024 := (i 2).isLt
  show ((main_v91 A (0) ((((i 0).val * 1 + (i 1).val) * 1024 + (i 2).val) % 1024) : ℝ) : EReal) = ((main_v91 A (0) ((i 2).val) : ℝ) : EReal)
  rw [show (((i 0).val * 1 + (i 1).val) * 1024 + (i 2).val) % 1024 = (i 2).val by omega]

def main_v93 (A : Args) (a0 a1 : ℕ) : ℝ := main_v74 A a1
theorem s_main_v93 (A : Args) : val_main_v93 (F := Ideal) (up3 A.x0) (up2 A.x1) (up2 A.x3) (up1 A.x4) (up3 A.x8) (up3 A.x9) (up3 A.x10) = up2 (main_v93 A) := by
  funext i; rw [val_main_v93_apply, s_main_v74 A]; rfl

def main_v94 (A : Args) (a0 a1 : ℕ) : ℝ := main_v92 A 0 0 a1
theorem s_main_v94 (A : Args) : val_main_v94 (F := Ideal) (up3 A.x0) (up2 A.x1) (up2 A.x3) (up1 A.x4) (up3 A.x8) (up3 A.x9) (up3 A.x10) = up2 (main_v94 A) := by
  funext i; rw [val_main_v94_apply, s_main_v92 A]
  have h0 : (i 0).val < 1 := (i 0).isLt
  have h1 : (i 1).val < 1024 := (i 1).isLt
  show ((main_v92 A (0) (0) (((i 0).val * 1024 + (i 1).val) % 1024) : ℝ) : EReal) = ((main_v92 A (0) (0) ((i 1).val) : ℝ) : EReal)
  rw [show ((i 0).val * 1024 + (i 1).val) % 1024 = (i 1).val by omega]

def main_cst_21 (A : Args) : ℝ := 0
theorem s_main_cst_21 (A : Args) (i : S_.Idx) : val_main_cst_21 (F := Ideal) i = ((main_cst_21 A : ℝ) : EReal) := zero_f32

def main_v95 (A : Args) (a0 a1 : ℕ) : ℝ := main_cst_21 A + ∑ k ∈ Finset.range 8192, main_v55 A a0 k a1
theorem s_main_v95 (A : Args) : val_main_v95 (F := Ideal) (up3 A.x0) (up2 A.x1) (up2 A.x3) (up1 A.x4) (up3 A.x8) (up3 A.x9) (up3 A.x10) = up2 (main_v95 A) := by
  funext i; rw [val_main_v95_apply, s_main_v55 A, s_main_cst_21 A]
  refine Eq.trans (congrArg _ (Eq.trans (Finset.sum_congr rfl fun k _ => ?_) (coe_sum_fin 8192 fun k => main_v55 A (i 0).val k (i 1).val))) (EReal.coe_add _ _).symm
  rfl

def main_cst_22 (A : Args) : ℝ := 1/2
theorem s_main_cst_22 (A : Args) (i : S_.Idx) : val_main_cst_22 (F := Ideal) i = ((main_cst_22 A : ℝ) : EReal) := half_f32

def main_v96 (A : Args) (a0 a1 : ℕ) : ℝ := main_cst_22 A
theorem s_main_v96 (A : Args) : val_main_v96 (F := Ideal) = up2 (main_v96 A) := by
  funext i; rw [val_main_v96_apply]; exact s_main_cst_22 A _

def main_v97 (A : Args) (a0 a1 : ℕ) : ℝ := main_v96 A a0 a1 * main_v95 A a0 a1
theorem s_main_v97 (A : Args) : val_main_v97 (F := Ideal) (up3 A.x0) (up2 A.x1) (up2 A.x3) (up1 A.x4) (up3 A.x8) (up3 A.x9) (up3 A.x10) = up2 (main_v97 A) := by
  funext i; rw [val_main_v97_apply, s_main_v96 A, s_main_v95 A]; exact (EReal.coe_mul _ _).symm

def main_cst_23 (A : Args) : ℝ := 1024
theorem s_main_cst_23 (A : Args) (i : S_.Idx) : val_main_cst_23 (F := Ideal) i = ((main_cst_23 A : ℝ) : EReal) := k1024_f32

def main_v98 (A : Args) (a0 a1 : ℕ) : ℝ := main_cst_23 A
theorem s_main_v98 (A : Args) : val_main_v98 (F := Ideal) = up2 (main_v98 A) := by
  funext i; rw [val_main_v98_apply]; exact s_main_cst_23 A _

def main_v99 (A : Args) (a0 a1 : ℕ) : ℝ := main_v97 A a0 a1 / main_v98 A a0 a1
theorem s_main_v99 (A : Args) : val_main_v99 (F := Ideal) (up3 A.x0) (up2 A.x1) (up2 A.x3) (up1 A.x4) (up3 A.x8) (up3 A.x9) (up3 A.x10) = up2 (main_v99 A) := by
  funext i; rw [val_main_v99_apply, s_main_v97 A, s_main_v98 A]
  exact div_real _ _ (by show (1024:ℝ) ≠ 0; norm_num)

def main_cst_24 (A : Args) : ℝ := 0
theorem s_main_cst_24 (A : Args) (i : S_.Idx) : val_main_cst_24 (F := Ideal) i = ((main_cst_24 A : ℝ) : EReal) := zero_f32

def main_v100 (A : Args) (a0 a1 : ℕ) : ℝ := main_cst_24 A
theorem s_main_v100 (A : Args) : val_main_v100 (F := Ideal) = up2 (main_v100 A) := by
  funext i; rw [val_main_v100_apply]; exact s_main_cst_24 A _

def main_v101 (A : Args) (a0 a1 : ℕ) : ℝ := if a0 < 1 then main_v93 A a0 a1 else if a0 < 2 then main_v94 A (a0 - 1) a1 else if a0 < 3 then main_v99 A (a0 - 2) a1 else main_v100 A (a0 - 3) a1
theorem s_main_v101 (A : Args) : val_main_v101 (F := Ideal) (up3 A.x0) (up2 A.x1) (up2 A.x3) (up1 A.x4) (up3 A.x8) (up3 A.x9) (up3 A.x10) = up2 (main_v101 A) := by
  funext i; unfold val_main_v101
  have h0 : (i 0).val < 8 := (i 0).isLt
  have h1 : (i 1).val < 1024 := (i 1).isLt
  rw [s_main_v93 A, s_main_v94 A, s_main_v99 A, s_main_v100 A]
  by_cases c0 : (i 0).val < 1
  · refine (concatenate_apply_piece _ _ _ i 0 (by simp) S1x1024 _ rfl rfl 0 rfl (fun b => match b with | ⟨0, _⟩ => ⟨(i 0).val - 0, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 0 + ((i 0).val - 0) = (i 0).val; omega
    · show ((main_v93 A ((i 0).val - 0) (i 1).val : ℝ) : EReal) = ((main_v101 A (i 0).val (i 1).val : ℝ) : EReal)
      unfold main_v101; simp only [Nat.sub_zero]; rw [if_pos c0]
  by_cases c1 : (i 0).val < 2
  · refine (concatenate_apply_piece _ _ _ i 1 (by simp) S1x1024 _ rfl rfl 1 rfl (fun b => match b with | ⟨0, _⟩ => ⟨(i 0).val - 1, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 1 + ((i 0).val - 1) = (i 0).val; omega
    · show ((main_v94 A ((i 0).val - 1) (i 1).val : ℝ) : EReal) = ((main_v101 A (i 0).val (i 1).val : ℝ) : EReal)
      unfold main_v101; rw [if_neg c0, if_pos c1]
  by_cases c2 : (i 0).val < 3
  · refine (concatenate_apply_piece _ _ _ i 2 (by simp) S1x1024 _ rfl rfl 2 rfl (fun b => match b with | ⟨0, _⟩ => ⟨(i 0).val - 2, by show _ < 1; omega⟩ | ⟨1, _⟩ => ⟨(i 1).val, by show _ < 1024; omega⟩) ?_ ?_).trans ?_
    · intro b hb; match b with | ⟨0, _⟩ => exact absurd rfl hb | ⟨1, _⟩ => exact rfl
    · show 2 + ((i 0).val - 2) = (i 0).val; omega
    · show ((main_v99 A ((i 0).val - 2) (i 1).val : ℝ) : EReal) = ((main_v101 A (i 0).val (i 1).val : ℝ) : EReal)
      unfold main_v101; rw [if_neg c0, if_neg c1, if_pos c2]
  refine (concatenate_apply_piece _ _ _ i 3 (by simp) S5x1024 _ rfl rfl 3 rfl (fun b => match b with | ⟨0, _⟩ => ⟨(i 0).val - 3, by show _ < 5; omega⟩ | ⟨1, _⟩ => ⟨(i 1).val, by show _ < 1024; omega⟩) ?_ ?_).trans ?_
  · intro b hb; match b with | ⟨0, _⟩ => exact absurd rfl hb | ⟨1, _⟩ => exact rfl
  · show 3 + ((i 0).val - 3) = (i 0).val; omega
  · show ((main_v100 A ((i 0).val - 3) (i 1).val : ℝ) : EReal) = ((main_v101 A (i 0).val (i 1).val : ℝ) : EReal)
    unfold main_v101; rw [if_neg c0, if_neg c1, if_neg c2]

def main_v102 (A : Args) (a0 a1 : ℕ) : ℝ := main_v89 A 0 a0 a1
theorem s_main_v102 (A : Args) : val_main_v102 (F := Ideal) (up3 A.x0) (up2 A.x1) (up2 A.x3) (up1 A.x4) (up3 A.x8) (up3 A.x9) (up3 A.x10) = up2 (main_v102 A) := by
  funext i; rw [val_main_v102_apply, s_main_v89 A]
  have h0 : (i 0).val < 8192 := (i 0).isLt
  have h1 : (i 1).val < 1024 := (i 1).isLt
  show ((main_v89 A (0) (((i 0).val * 1024 + (i 1).val) / 1024 % 8192) (((i 0).val * 1024 + (i 1).val) % 1024) : ℝ) : EReal) = ((main_v89 A (0) ((i 0).val) ((i 1).val) : ℝ) : EReal)
  rw [show ((i 0).val * 1024 + (i 1).val) / 1024 % 8192 = (i 0).val by omega, show ((i 0).val * 1024 + (i 1).val) % 1024 = (i 1).val by omega]

def main_v103 (A : Args) (a0 a1 : ℕ) : ℝ := main_v28 A 0 a0 a1
theorem s_main_v103 (A : Args) : val_main_v103 (F := Ideal) (up3 A.x0) (up2 A.x1) (up2 A.x3) (up3 A.x8) = up2 (main_v103 A) := by
  funext i; rw [val_main_v103_apply, s_main_v28 A]
  have h0 : (i 0).val < 8192 := (i 0).isLt
  have h1 : (i 1).val < 5632 := (i 1).isLt
  show ((main_v28 A (0) (((i 0).val * 5632 + (i 1).val) / 5632 % 8192) (((i 0).val * 5632 + (i 1).val) % 5632) : ℝ) : EReal) = ((main_v28 A (0) ((i 0).val) ((i 1).val) : ℝ) : EReal)
  rw [show ((i 0).val * 5632 + (i 1).val) / 5632 % 8192 = (i 0).val by omega, show ((i 0).val * 5632 + (i 1).val) % 5632 = (i 1).val by omega]

def main_v104 (A : Args) (a0 a1 : ℕ) : ℝ := main_v103 A a0 a1
theorem s_main_v104 (A : Args) : val_main_v104 (F := Ideal) (up3 A.x0) (up2 A.x1) (up2 A.x3) (up3 A.x8) = up2 (main_v104 A) := by
  funext i; rw [val_main_v104_apply, s_main_v103 A]; rfl

def main_v105 (A : Args) (a0 a1 : ℕ) : ℝ := main_v26 A 0 a0 a1
theorem s_main_v105 (A : Args) : val_main_v105 (F := Ideal) (up3 A.x0) (up2 A.x1) (up2 A.x3) = up2 (main_v105 A) := by
  funext i; rw [val_main_v105_apply, s_main_v26 A]
  have h0 : (i 0).val < 8192 := (i 0).isLt
  have h1 : (i 1).val < 1024 := (i 1).isLt
  show ((main_v26 A (0) (((i 0).val * 1024 + (i 1).val) / 1024 % 8192) (((i 0).val * 1024 + (i 1).val) % 1024) : ℝ) : EReal) = ((main_v26 A (0) ((i 0).val) ((i 1).val) : ℝ) : EReal)
  rw [show ((i 0).val * 1024 + (i 1).val) / 1024 % 8192 = (i 0).val by omega, show ((i 0).val * 1024 + (i 1).val) % 1024 = (i 1).val by omega]

def main_v106 (A : Args) (a0 a1 : ℕ) : ℝ := main_v105 A a0 a1
theorem s_main_v106 (A : Args) : val_main_v106 (F := Ideal) (up3 A.x0) (up2 A.x1) (up2 A.x3) = up2 (main_v106 A) := by
  funext i; rw [val_main_v106_apply, s_main_v105 A]; rfl

def main_v107 (A : Args) (a0 a1 : ℕ) : ℝ := main_v32 A 0 a0 a1
theorem s_main_v107 (A : Args) : val_main_v107 (F := Ideal) (up3 A.x0) (up2 A.x1) (up2 A.x3) (up3 A.x8) = up2 (main_v107 A) := by
  funext i; rw [val_main_v107_apply, s_main_v32 A]
  have h0 : (i 0).val < 8192 := (i 0).isLt
  have h1 : (i 1).val < 2816 := (i 1).isLt
  show ((main_v32 A (0) (((i 0).val * 2816 + (i 1).val) / 2816 % 8192) (((i 0).val * 2816 + (i 1).val) % 2816) : ℝ) : EReal) = ((main_v32 A (0) ((i 0).val) ((i 1).val) : ℝ) : EReal)
  rw [show ((i 0).val * 2816 + (i 1).val) / 2816 % 8192 = (i 0).val by omega, show ((i 0).val * 2816 + (i 1).val) % 2816 = (i 1).val by omega]

def main_v108 (A : Args) (a0 a1 : ℕ) : ℝ := main_v107 A a0 a1
theorem s_main_v108 (A : Args) : val_main_v108 (F := Ideal) (up3 A.x0) (up2 A.x1) (up2 A.x3) (up3 A.x8) = up2 (main_v108 A) := by
  funext i; rw [val_main_v108_apply, s_main_v107 A]; rfl

end Cert.Ffn.Ref
end
end
-- ==== Proof.Ffn.RefSpec.lean ====
/-
  The reference's results are the feed-forward block, the loss's gradient and the sums, row by row.
-/
module

public import proofs.«01_k».proof.Proof.Ffn.Ref
public import proofs.«01_k».proof.Proof.Ffn.Spec

@[expose] public section

noncomputable section
open scoped BigOperators
namespace Cert.Ffn.Ref
open Cert.Lift Cert.Ffn

variable (A : Args)

/-- The modulation, one row to each of its six parts. -/
def M (i j : ℕ) : ℝ := if i < 6 then A.x1 0 (1024 * i + j) else 0
/-- The gains: the block's norm's in row 1, the final norm's in row 2. -/
def P (i j : ℕ) : ℝ := if i = 1 then A.x3 0 j else A.x4 j
def X (r j : ℕ) : ℝ := A.x0 0 r j
def Y (r j : ℕ) : ℝ := A.x10 0 r j
def W0 (f j : ℕ) : ℝ := A.x8 0 j f
def W1 (f k : ℕ) : ℝ := A.x9 0 f k
/-- The pre-activations. -/
def U (r : ℕ) : ℕ → ℝ := uS (P A 1) (M A 4) (M A 3) (W0 A) (X A r)
/-- The block's product. -/
def Ff (r : ℕ) : ℕ → ℝ := ffS (P A 1) (M A 4) (M A 3) (W0 A) (W1 A) (X A r)
/-- The block's output. -/
def Z (r : ℕ) : ℕ → ℝ := zS (P A 1) (M A 4) (M A 3) (M A 5) (W0 A) (W1 A) (X A r)

theorem h_eq (r j : ℕ) : main_v26 A 0 r j = h2S (P A 1) (M A 4) (M A 3) (X A r) j := by
  have e : main_v15 A 0 r 0 = rms (X A r) := by
    show (√((0 + ∑ k ∈ Finset.range 1024, A.x0 0 r k * A.x0 0 r k) / 1024 + eps))⁻¹ = _
    rw [zero_add]; rfl
  show A.x0 0 r j * main_v15 A 0 r 0 * A.x3 0 j * (1 + A.x1 0 (4096 + j)) + A.x1 0 (3072 + j) = _
  rw [e]; rfl

theorem u_eq (r f : ℕ) : main_v28 A 0 r f = U A r f := by
  show (∑ k ∈ Finset.range 1024, main_v26 A 0 r k * A.x8 0 k f) = _
  simp only [h_eq]; rfl

theorem act_eq (r f : ℕ) : main_v32 A 0 r f = actS (U A r) f := by
  show main_v28 A 0 r f * (1 / (1 + Real.exp (-(main_v28 A 0 r f)))) * main_v28 A 0 r (2816 + f) = _
  rw [u_eq, u_eq, one_div]; rfl

theorem f_eq (r j : ℕ) : main_v34 A 0 r j = Ff A r j := by
  show (∑ k ∈ Finset.range 2816, main_v32 A 0 r k * A.x9 0 k j) = _
  simp only [act_eq]; rfl

theorem z_eq (r j : ℕ) : main_v37 A 0 r j = Z A r j := by
  show A.x0 0 r j + A.x1 0 (5120 + j) * main_v34 A 0 r j = _
  rw [f_eq]; rfl

theorem ms_eq (r : ℕ) : main_v44 A 0 r 0 = (∑ k ∈ Finset.range 1024, Z A r k * Z A r k) / 1024 + eps := by
  show (0 + ∑ k ∈ Finset.range 1024, main_v37 A 0 r k * main_v37 A 0 r k) / 1024 + eps = _
  simp only [z_eq, zero_add]

theorem r_eq (r : ℕ) : main_v45 A 0 r 0 = rms (Z A r) := by
  show (√(main_v44 A 0 r 0))⁻¹ = _
  rw [ms_eq]; rfl

theorem err_eq (r j : ℕ) : main_v54 A 0 r j = errS (P A 2) (Z A r) (Y A r) j := by
  show main_v37 A 0 r j * main_v45 A 0 r 0 * A.x4 j - A.x10 0 r j = _
  rw [z_eq, r_eq]; rfl

theorem dy_eq (r j : ℕ) : main_v68 A 0 r j = dyS (P A 2) (Z A r) (Y A r) j := by
  show 1 / 2 * 1 / 1024 * (2 * main_v54 A 0 r j) = _
  rw [err_eq, dyS]; ring

theorem dx2_eq (r j : ℕ) : main_v102 A r j = dx2S (P A 2) (Z A r) (Y A r) j := by
  have hs : main_v76 A 0 r = ∑ k ∈ Finset.range 1024, Z A r k * (dyS (P A 2) (Z A r) (Y A r) k * P A 2 k) := by
    show 0 + ∑ k ∈ Finset.range 1024, main_v37 A 0 r k * (main_v68 A 0 r k * A.x4 k) = _
    rw [zero_add]; exact Finset.sum_congr rfl fun k _ => by rw [dy_eq, z_eq]; rfl
  have hm : main_v46 A 0 r 0 = rms (Z A r) * rms (Z A r) * rms (Z A r) := by
    rw [← rms_cube]
    show main_v45 A 0 r 0 / main_v44 A 0 r 0 = _
    rw [ms_eq, r_eq]
  have h85 : main_v85 A 0 r j = main_v76 A 0 r * (-(1/2) * main_v46 A 0 r 0) / 1024 := by
    show 0 + main_v76 A 0 r * (-(1/2) * main_v46 A 0 r 0) / 1024 = _
    rw [zero_add]
  have e : (∑ k ∈ Finset.range 1024, dyS (P A 2) (Z A r) (Y A r) k * P A 2 k * (Z A r k * rms (Z A r)))
      = (∑ k ∈ Finset.range 1024, Z A r k * (dyS (P A 2) (Z A r) (Y A r) k * P A 2 k)) * rms (Z A r) := by
    rw [Finset.sum_mul]; exact Finset.sum_congr rfl fun k _ => by ring
  show main_v68 A 0 r j * A.x4 j * main_v45 A 0 r 0 + main_v37 A 0 r j * main_v85 A 0 r j + main_v85 A 0 r j * main_v37 A 0 r j = _
  rw [h85, hs, hm, r_eq, dy_eq, z_eq, dx2S, e, show P A 2 j = A.x4 j from rfl]
  ring

theorem sums_eq (i j : ℕ) (hi : i < 8) : main_v101 A i j =
    (if i = 0 then ∑ r ∈ Finset.range 8192, dyS (P A 2) (Z A r) (Y A r) j * (Z A r j * rms (Z A r))
    else if i = 1 then ∑ r ∈ Finset.range 8192, dx2S (P A 2) (Z A r) (Y A r) j * Ff A r j
    else if i = 2 then (∑ r ∈ Finset.range 8192, errS (P A 2) (Z A r) (Y A r) j * errS (P A 2) (Z A r) (Y A r) j) * (1 / 2048)
    else 0) := by
  have h0 : main_v74 A j = ∑ r ∈ Finset.range 8192, dyS (P A 2) (Z A r) (Y A r) j * (Z A r j * rms (Z A r)) := by
    show 0 + (0 + ∑ k ∈ Finset.range 8192, main_v37 A 0 k j * main_v45 A 0 k 0 * main_v68 A 0 k j) = _
    rw [zero_add, zero_add]; exact Finset.sum_congr rfl fun k _ => by rw [z_eq, r_eq, dy_eq]; ring
  have h1 : main_v91 A 0 j = ∑ r ∈ Finset.range 8192, dx2S (P A 2) (Z A r) (Y A r) j * Ff A r j := by
    show 0 + ∑ k ∈ Finset.range 8192, main_v102 A k j * main_v34 A 0 k j = _
    rw [zero_add]; exact Finset.sum_congr rfl fun k _ => by rw [dx2_eq, f_eq]
  have h2 : main_v99 A 0 j = (∑ r ∈ Finset.range 8192, errS (P A 2) (Z A r) (Y A r) j * errS (P A 2) (Z A r) (Y A r) j) * (1 / 2048) := by
    show 1 / 2 * (0 + ∑ k ∈ Finset.range 8192, main_v54 A 0 k j * main_v54 A 0 k j) / 1024 = _
    simp only [zero_add, err_eq]; ring
  unfold main_v101
  rcases i with _ | _ | _ | i
  · exact h0
  · exact h1
  · exact h2
  · rw [if_neg (by omega), if_neg (by omega), if_neg (by omega), if_neg (by omega), if_neg (by omega), if_neg (by omega)]; rfl

end Cert.Ffn.Ref
end
end
-- ==== Proof.Ffn.Join.lean ====
/-
  The launch's results and the reference's are the same arrays.
-/
module

public import proofs.«01_k».proof.Proof.Ffn.Host
public import proofs.«01_k».proof.Proof.Ffn.Outs
public import proofs.«01_k».proof.Proof.Ffn.RefSpec
public import proofs.«01_k».proof.Proof.Lib.Finite
public import proofs.«01_k».proof.Defs

@[expose] public section

set_option maxRecDepth 8192
noncomputable section
open scoped BigOperators
namespace Cert.Ffn.Join
open Cert.Kernel3Ideal Cert.Kernel3Ideal.Gen Cert.Kernel3Ideal.Value Idealize.ShloMosaic Idealize.ShloMosaic.TcCoe Idealize.SL.Sem
open Idealize.ShloMosaic.StableHlo Cert.Lift Cert.Ffn

/-- The launch's arguments from the reference's. -/
def hargs (A : Ref.Args) : Host.Args := ⟨A.x0, A.x1, A.x3, A.x4, A.x8, A.x9, A.x10⟩

variable (m : (ℓ : Loc nD τ sig) → Buf (Elt Ideal) ℓ) (c : Dev nD) {A : Ref.Args}

/-- Finite arguments hand the launch these arrays. -/
theorem handed (h : Host.Holds m c (hargs A)) : Kernel3Ideal.Ffn.In m c (Ref.X A) (Ref.Y A) (Ref.M A) (Ref.P A) (Ref.W0 A) (Ref.W1 A) where
  x := Host.k_main_v6 m c h
  y := Host.k_main_v7 m c h
  md := Host.k_main_v2 m c h
  w0 := Host.k_main_v10 m c h
  w1 := Host.k_main_v12 m c h
  p1 := by
    intro y hy
    have e : V m c main_v5 = _ := (Host.at_line m c (i := 7) main_v5 rfl (by decide)).trans (nary_result ..)
    rw [e]
    refine (concatenate_apply_piece _ _ _ y 1 (by simp) S1x1024 _ rfl rfl 1 rfl (ValueIdx.ix2 0 (y 1)) ?_ ?_).trans ?_
    · intro b hb; match b with | ⟨0, _⟩ => exact absurd rfl hb | ⟨1, _⟩ => exact rfl
    · show 1 + 0 = (y 0).val; omega
    · show upto Host.ops (fun b => m (c, b)) 7 (Proc.devRef .tc main_arg3) _ = _
      rw [Host.settled m c 7 main_arg3 (by decide), Host.k_main_arg3 m c h]; rfl
  p2 := by
    intro y hy
    have e : V m c main_v5 = _ := (Host.at_line m c (i := 7) main_v5 rfl (by decide)).trans (nary_result ..)
    rw [e]
    refine (concatenate_apply_piece _ _ _ y 2 (by simp) S1x1024 _ rfl rfl 2 rfl (ValueIdx.ix2 0 (y 1)) ?_ ?_).trans ?_
    · intro b hb; match b with | ⟨0, _⟩ => exact absurd rfl hb | ⟨1, _⟩ => exact rfl
    · show 2 + 0 = (y 0).val; omega
    · show upto Host.ops (fun b => m (c, b)) 7 (Proc.devRef .tc main_v3) _ = _
      rw [Host.settled m c 7 main_v3 (by decide), Host.k_main_v3 m c h]; rfl

/-- Finite arguments are reals. -/
theorem exists_args [Cert.Pre_finite3.Facts] (h : Cert.Pre_Kernel3Ideal_finite3 m) : ∃ A : Ref.Args, Host.Holds m c (hargs A) := by
  obtain ⟨p0, p1, p3, p4, p8, p9, p10⟩ := h c
  obtain ⟨x0, e0⟩ := exists_up3 _ (finite_of _ _ p0)
  obtain ⟨x1, e1⟩ := exists_up2 _ (finite_of _ _ p1)
  obtain ⟨x3, e3⟩ := exists_up2 _ (finite_of _ _ p3)
  obtain ⟨x4, e4⟩ := exists_up1 _ (finite_of _ _ p4)
  obtain ⟨x8, e8⟩ := exists_up3 _ (finite_of _ _ p8)
  obtain ⟨x9, e9⟩ := exists_up3 _ (finite_of _ _ p9)
  obtain ⟨x10, e10⟩ := exists_up3 _ (finite_of _ _ p10)
  exact ⟨⟨x0, x1, x3, x4, x8, x9, x10⟩, e0, e1, e3, e4, e8, e9, e10⟩

theorem res0 (h : Host.Holds m c (hargs A)) : (dats m 0 c).arrAt 4 cfg0.N = up2 (Ref.main_v102 A) :=
  (Kernel3Ideal.Ffn.final4 m c (handed m c h)).trans (congrArg up2 (funext fun r => funext fun j => (Ref.dx2_eq A r j).symm))
theorem res1 (h : Host.Holds m c (hargs A)) : (dats m 0 c).arrAt 5 cfg0.N = up2 (Ref.main_v104 A) :=
  (Kernel3Ideal.Ffn.final5 m c (handed m c h)).trans (congrArg up2 (funext fun r => funext fun j => (Ref.u_eq A r j).symm))
theorem res2 (h : Host.Holds m c (hargs A)) : (dats m 0 c).arrAt 6 cfg0.N = up2 (Ref.main_v106 A) :=
  (Kernel3Ideal.Ffn.final6 m c (handed m c h)).trans (congrArg up2 (funext fun r => funext fun j => (Ref.h_eq A r j).symm))
theorem res3 (h : Host.Holds m c (hargs A)) : (dats m 0 c).arrAt 7 cfg0.N = up2 (Ref.main_v108 A) :=
  (Kernel3Ideal.Ffn.final7 m c (handed m c h)).trans (congrArg up2 (funext fun r => funext fun j => (Ref.act_eq A r j).symm))
theorem res4 (h : Host.Holds m c (hargs A)) : (dats m 0 c).arrAt 8 cfg0.N = up2 (Ref.main_v101 A) := by
  refine (Kernel3Ideal.Ffn.final8 m c (handed m c h)).trans ?_
  refine funext fun (i : S8x1024.Idx) => ?_
  exact congrArg (fun r : ℝ => (r : EReal)) (Ref.sums_eq A (i 0).val (i 1).val (i 0).isLt).symm

end Cert.Ffn.Join
end
end
-- ==== Proof.Mix.Host.lean ====
/-
  The arrays the host hands the launch, one operation at a time, over the reals.
-/
module

public import proofs.«01_k».proof.Proof.Gen.Kernel4Ideal.Value
public import proofs.«01_k».proof.Proof.Lib.HostLine

@[expose] public section

set_option maxRecDepth 8192
noncomputable section
open scoped BigOperators
namespace Cert.Mix.Host
open Cert.Kernel4Ideal Cert.Kernel4Ideal.Gen Idealize.ShloMosaic Idealize.ShloMosaic.TcCoe Idealize.SL.Sem Idealize.ShloMosaic.StableHlo Cert.Lift

/-- The product of the normed rows with the input projection. -/
theorem hostDot3 (X : ℕ → ℕ → ℕ → ℝ) (Y : ℕ → ℕ → ℝ) :
    Host.dotGeneral (F := Ideal) (φ₁ := .f32) (φ₂ := .f32) dot_S1x8192x1024_S1024x7168_S1x8192x7168_2_0_01_1_n_n none (up3 X) (up2 Y)
      = up3 fun a r c => ∑ k ∈ Finset.range 1024, X a r k * Y k c := by
  funext i
  simp only [Host.dotGeneral]
  rw [Ideal.dotGeneral_apply, ← Equiv.sum_comp (ValueIdx.contrEquiv1 dot_S1x8192x1024_S1024x7168_S1x8192x7168_2_0_01_1_n_n 1024 rfl rfl).symm]
  refine Eq.trans (Finset.sum_congr rfl fun k _ => ?_) (coe_sum_fin 1024 fun k => _)
  have hk := ValueIdx.contrEquiv1_symm_val dot_S1x8192x1024_S1024x7168_S1x8192x7168_2_0_01_1_n_n 1024 rfl rfl k
  generalize (ValueIdx.contrEquiv1 dot_S1x8192x1024_S1024x7168_S1x8192x7168_2_0_01_1_n_n 1024 rfl rfl).symm k = q at hk
  have l0 : (dot_S1x8192x1024_S1024x7168_S1x8192x7168_2_0_01_1_n_n.lhsIdx i q 0).val = (i 0).val := by
    unfold DotDims.lhsIdx
    rw [dif_neg (by decide), dif_pos (by decide)]; rfl
  have l1 : (dot_S1x8192x1024_S1024x7168_S1x8192x7168_2_0_01_1_n_n.lhsIdx i q 1).val = (i 1).val := by
    unfold DotDims.lhsIdx
    rw [dif_neg (by decide), dif_pos (by decide)]; rfl
  have l2 := (dot_S1x8192x1024_S1024x7168_S1x8192x7168_2_0_01_1_n_n.lhsIdx_val_of_single rfl i q).trans hk
  have r0 := (dot_S1x8192x1024_S1024x7168_S1x8192x7168_2_0_01_1_n_n.rhsIdx_val_of_single rfl i q).trans hk
  have r1 : (dot_S1x8192x1024_S1024x7168_S1x8192x7168_2_0_01_1_n_n.rhsIdx i q 1).val = (i 2).val := by
    unfold DotDims.rhsIdx
    rw [dif_neg (by decide), dif_pos (by decide)]; rfl
  refine Eq.trans (congrArg₂ (HMul.hMul (α := EReal)) (?_ : _ = ((X (i 0).val (i 1).val k.val : ℝ) : EReal)) (?_ : _ = ((Y k.val (i 2).val : ℝ) : EReal))) (EReal.coe_mul _ _).symm
  · show ((X _ _ _ : ℝ) : EReal) = _
    rw [l0, l1]; exact congrArg (fun n => ((X (i 0).val (i 1).val n : ℝ) : EReal)) l2
  · show ((Y _ _ : ℝ) : EReal) = _
    rw [r1]; exact congrArg (fun n => ((Y n (i 2).val : ℝ) : EReal)) r0

/-- The arguments, as arrays of reals. -/
structure Args where
  main_arg0 : ℕ → ℕ → ℕ → ℝ
  main_arg1 : ℕ → ℕ → ℝ
  main_arg2 : ℕ → ℕ → ℝ
  main_arg5 : ℕ → ℕ → ℕ → ℝ
  main_arg6 : ℕ → ℕ → ℕ → ℝ
  main_arg7 : ℕ → ℕ → ℕ → ℝ
  main_arg8 : ℕ → ℕ → ℕ → ℝ
  main_arg9 : ℕ → ℕ → ℝ
  main_arg10 : ℕ → ℕ → ℝ
  main_arg11 : ℕ → ℕ → ℝ
  main_arg12 : ℕ → ℕ → ℕ → ℝ
  main_arg13 : ℕ → ℕ → ℕ → ℝ

/-- The launch's arrays are these reals. -/
structure Holds (m : (ℓ : Loc nD τ sig) → Buf (Elt Ideal) ℓ) (c : Dev nD) (A : Args) : Prop where
  main_arg0 : m (c, Proc.devRef .tc Cert.Kernel4Ideal.main_arg0) = up3 A.main_arg0
  main_arg1 : m (c, Proc.devRef .tc Cert.Kernel4Ideal.main_arg1) = up2 A.main_arg1
  main_arg2 : m (c, Proc.devRef .tc Cert.Kernel4Ideal.main_arg2) = up2 A.main_arg2
  main_arg5 : m (c, Proc.devRef .tc Cert.Kernel4Ideal.main_arg5) = up3 A.main_arg5
  main_arg6 : m (c, Proc.devRef .tc Cert.Kernel4Ideal.main_arg6) = up3 A.main_arg6
  main_arg7 : m (c, Proc.devRef .tc Cert.Kernel4Ideal.main_arg7) = up3 A.main_arg7
  main_arg8 : m (c, Proc.devRef .tc Cert.Kernel4Ideal.main_arg8) = up3 A.main_arg8
  main_arg9 : m (c, Proc.devRef .tc Cert.Kernel4Ideal.main_arg9) = up2 A.main_arg9
  main_arg10 : m (c, Proc.devRef .tc Cert.Kernel4Ideal.main_arg10) = up2 A.main_arg10
  main_arg11 : m (c, Proc.devRef .tc Cert.Kernel4Ideal.main_arg11) = up2 A.main_arg11
  main_arg12 : m (c, Proc.devRef .tc Cert.Kernel4Ideal.main_arg12) = up3 A.main_arg12
  main_arg13 : m (c, Proc.devRef .tc Cert.Kernel4Ideal.main_arg13) = up3 A.main_arg13

variable (m : (ℓ : Loc nD τ sig) → Buf (Elt Ideal) ℓ) (c : Dev nD) {A : Args}

abbrev ops : List (HloOp τ sig (Elt Ideal)) := hostOps0

abbrev written : List (Ref sig .tc) := [Cert.Kernel4Ideal.main_v0, Cert.Kernel4Ideal.main_v1, Cert.Kernel4Ideal.main_v2, Cert.Kernel4Ideal.main_v3, Cert.Kernel4Ideal.main_v4, Cert.Kernel4Ideal.main_v5, Cert.Kernel4Ideal.main_v6, Cert.Kernel4Ideal.main_v7, Cert.Kernel4Ideal.main_v8, Cert.Kernel4Ideal.main_cst, Cert.Kernel4Ideal.main_v9, Cert.Kernel4Ideal.main_v10, Cert.Kernel4Ideal.main_cst_0, Cert.Kernel4Ideal.main_v11, Cert.Kernel4Ideal.main_v12, Cert.Kernel4Ideal.main_cst_1, Cert.Kernel4Ideal.main_v13, Cert.Kernel4Ideal.main_v14, Cert.Kernel4Ideal.main_v15, Cert.Kernel4Ideal.main_v16, Cert.Kernel4Ideal.main_v17, Cert.Kernel4Ideal.main_v18, Cert.Kernel4Ideal.main_v19, Cert.Kernel4Ideal.main_v20, Cert.Kernel4Ideal.main_cst_2, Cert.Kernel4Ideal.main_v21, Cert.Kernel4Ideal.main_v22, Cert.Kernel4Ideal.main_v23, Cert.Kernel4Ideal.main_v24, Cert.Kernel4Ideal.main_v25, Cert.Kernel4Ideal.main_v26, Cert.Kernel4Ideal.main_v27, Cert.Kernel4Ideal.main_v28, Cert.Kernel4Ideal.main_v29, Cert.Kernel4Ideal.main_cst_3, Cert.Kernel4Ideal.main_v30, Cert.Kernel4Ideal.main_v31, Cert.Kernel4Ideal.main_v32, Cert.Kernel4Ideal.main_cst_4, Cert.Kernel4Ideal.main_v33, Cert.Kernel4Ideal.main_v34, Cert.Kernel4Ideal.main_v35, Cert.Kernel4Ideal.main_cst_5, Cert.Kernel4Ideal.main_v36, Cert.Kernel4Ideal.main_v37, Cert.Kernel4Ideal.main_cst_6, Cert.Kernel4Ideal.main_v38, Cert.Kernel4Ideal.main_v39, Cert.Kernel4Ideal.main_v40, Cert.Kernel4Ideal.main_v41, Cert.Kernel4Ideal.main_v42, Cert.Kernel4Ideal.main_v43, Cert.Kernel4Ideal.main_v44, Cert.Kernel4Ideal.main_v45, Cert.Kernel4Ideal.main_v46, Cert.Kernel4Ideal.main_v47, Cert.Kernel4Ideal.main_v48]
theorem writes_eq : ops.map HloOp.writes = written.map fun w => {Proc.devRef (τ := τ) .tc w} := rfl
/-- A buffer no later line writes is read the same after all lines. -/
theorem settled (i : ℕ) (r : Ref sig .tc) (hr : r ∉ written.drop i) : upto ops (fun b => m (c, b)) i (Proc.devRef .tc r) = V m c r := by
  have hW : (ops.drop i).map HloOp.writes = (written.drop i).map fun w => {Proc.devRef (τ := τ) .tc w} := by
    rw [List.map_drop, writes_eq, List.map_drop]
  refine (?_ : after (ops.take i) (fun b => m (c, b)) (Proc.devRef .tc r) = after ops (fun b => m (c, b)) (Proc.devRef .tc r))
  rw [← after_unwritten (written.drop i) hW hr (after (ops.take i) fun b => m (c, b)), ← Cert.Lift.after_append'', List.take_append_drop]
theorem at_line {i : ℕ} {op : HloOp τ sig (Elt Ideal)} {rest : List (HloOp τ sig (Elt Ideal))} (r : Ref sig .tc) (hs : ops.drop i = op :: rest)
    (hr : r ∉ written.drop (i + 1)) : V m c r = op.result (upto ops (fun b => m (c, b)) i) (Proc.devRef .tc r) := by
  refine after_last_write (written.drop (i + 1)) hs ?_ hr _
  have h : rest = ops.drop (i + 1) := by rw [← List.drop_drop, hs]; rfl
  rw [h, List.map_drop, writes_eq, List.map_drop]

theorem k_main_arg0 (hA : Holds m c A) : V m c Cert.Kernel4Ideal.main_arg0 = up3 A.main_arg0 := (after_unwritten written writes_eq (by decide) _).trans hA.main_arg0

theorem k_main_arg1 (hA : Holds m c A) : V m c Cert.Kernel4Ideal.main_arg1 = up2 A.main_arg1 := (after_unwritten written writes_eq (by decide) _).trans hA.main_arg1

theorem k_main_arg2 (hA : Holds m c A) : V m c Cert.Kernel4Ideal.main_arg2 = up2 A.main_arg2 := (after_unwritten written writes_eq (by decide) _).trans hA.main_arg2

theorem k_main_arg5 (hA : Holds m c A) : V m c Cert.Kernel4Ideal.main_arg5 = up3 A.main_arg5 := (after_unwritten written writes_eq (by decide) _).trans hA.main_arg5

theorem k_main_arg6 (hA : Holds m c A) : V m c Cert.Kernel4Ideal.main_arg6 = up3 A.main_arg6 := (after_unwritten written writes_eq (by decide) _).trans hA.main_arg6

theorem k_main_arg7 (hA : Holds m c A) : V m c Cert.Kernel4Ideal.main_arg7 = up3 A.main_arg7 := (after_unwritten written writes_eq (by decide) _).trans hA.main_arg7

theorem k_main_arg8 (hA : Holds m c A) : V m c Cert.Kernel4Ideal.main_arg8 = up3 A.main_arg8 := (after_unwritten written writes_eq (by decide) _).trans hA.main_arg8

theorem k_main_arg9 (hA : Holds m c A) : V m c Cert.Kernel4Ideal.main_arg9 = up2 A.main_arg9 := (after_unwritten written writes_eq (by decide) _).trans hA.main_arg9

theorem k_main_arg10 (hA : Holds m c A) : V m c Cert.Kernel4Ideal.main_arg10 = up2 A.main_arg10 := (after_unwritten written writes_eq (by decide) _).trans hA.main_arg10

theorem k_main_arg11 (hA : Holds m c A) : V m c Cert.Kernel4Ideal.main_arg11 = up2 A.main_arg11 := (after_unwritten written writes_eq (by decide) _).trans hA.main_arg11

theorem k_main_arg12 (hA : Holds m c A) : V m c Cert.Kernel4Ideal.main_arg12 = up3 A.main_arg12 := (after_unwritten written writes_eq (by decide) _).trans hA.main_arg12

theorem k_main_arg13 (hA : Holds m c A) : V m c Cert.Kernel4Ideal.main_arg13 = up3 A.main_arg13 := (after_unwritten written writes_eq (by decide) _).trans hA.main_arg13

def main_v0 (A : Args) (a0 a1 a2 : ℕ) : ℝ := A.main_arg1 0 a2
theorem k_main_v0 (hA : Holds m c A) : V m c Cert.Kernel4Ideal.main_v0 = up3 (main_v0 A) := by
  refine (at_line m c (i := 0) Cert.Kernel4Ideal.main_v0 rfl (by decide)).trans ?_
  refine (unary_result .. ).trans ?_
  rw [settled m c 0 Cert.Kernel4Ideal.main_arg1 (by decide), k_main_arg1 m c hA]
  refine funext fun (i : S1x1x6144.Idx) => ?_
  refine (broadcastInDim_apply _ _ _ i (ValueIdx.ix2 0 (i 2)) (fun a => match a with | ⟨0, _⟩ => by show _ = if (1 : Nat) = 1 then 0 else (i 0).val; exact (if_pos rfl).symm | ⟨1, _⟩ => by show _ = if (6144 : Nat) = 1 then 0 else (i 2).val; exact (if_neg (by decide)).symm)).trans ?_
  rfl

def main_v1 (A : Args) (a0 a1 a2 : ℕ) : ℝ := main_v0 A a0 a1 a2
theorem k_main_v1 (hA : Holds m c A) : V m c Cert.Kernel4Ideal.main_v1 = up3 (main_v1 A) := by
  refine (at_line m c (i := 1) Cert.Kernel4Ideal.main_v1 rfl (by decide)).trans ?_
  refine (unary_result .. ).trans ?_
  rw [settled m c 1 Cert.Kernel4Ideal.main_v0 (by decide), k_main_v0 m c hA]
  refine funext fun (i : S1x1x1024.Idx) => ?_
  have h0 : (i 0).val < 1 := (i 0).isLt
  have h1 : (i 1).val < 1 := (i 1).isLt
  have h2 : (i 2).val < 1024 := (i 2).isLt
  refine (extractStridedSlice_apply _ _ _ i (fun b => match b with | ⟨0, _⟩ => ⟨(i 0).val, by show _ < 1; omega⟩ | ⟨1, _⟩ => ⟨(i 1).val, by show _ < 1; omega⟩ | ⟨2, _⟩ => ⟨(i 2).val, by show _ < 6144; omega⟩) (fun a => match a with | ⟨0, _⟩ => by show (i 0).val = 0 + (i 0).val; omega | ⟨1, _⟩ => by show (i 1).val = 0 + (i 1).val; omega | ⟨2, _⟩ => by show (i 2).val = 0 + (i 2).val; omega)).trans ?_
  rfl

def main_v2 (A : Args) (a0 a1 a2 : ℕ) : ℝ := main_v0 A a0 a1 (1024 + a2)
theorem k_main_v2 (hA : Holds m c A) : V m c Cert.Kernel4Ideal.main_v2 = up3 (main_v2 A) := by
  refine (at_line m c (i := 2) Cert.Kernel4Ideal.main_v2 rfl (by decide)).trans ?_
  refine (unary_result .. ).trans ?_
  rw [settled m c 2 Cert.Kernel4Ideal.main_v0 (by decide), k_main_v0 m c hA]
  refine funext fun (i : S1x1x1024.Idx) => ?_
  have h0 : (i 0).val < 1 := (i 0).isLt
  have h1 : (i 1).val < 1 := (i 1).isLt
  have h2 : (i 2).val < 1024 := (i 2).isLt
  refine (extractStridedSlice_apply _ _ _ i (fun b => match b with | ⟨0, _⟩ => ⟨(i 0).val, by show _ < 1; omega⟩ | ⟨1, _⟩ => ⟨(i 1).val, by show _ < 1; omega⟩ | ⟨2, _⟩ => ⟨(1024 + (i 2).val), by show _ < 6144; omega⟩) (fun a => match a with | ⟨0, _⟩ => by show (i 0).val = 0 + (i 0).val; omega | ⟨1, _⟩ => by show (i 1).val = 0 + (i 1).val; omega | ⟨2, _⟩ => by show (1024 + (i 2).val) = 1024 + (i 2).val; omega)).trans ?_
  rfl

def main_v3 (A : Args) (a0 a1 a2 : ℕ) : ℝ := main_v0 A a0 a1 (2048 + a2)
theorem k_main_v3 (hA : Holds m c A) : V m c Cert.Kernel4Ideal.main_v3 = up3 (main_v3 A) := by
  refine (at_line m c (i := 3) Cert.Kernel4Ideal.main_v3 rfl (by decide)).trans ?_
  refine (unary_result .. ).trans ?_
  rw [settled m c 3 Cert.Kernel4Ideal.main_v0 (by decide), k_main_v0 m c hA]
  refine funext fun (i : S1x1x1024.Idx) => ?_
  have h0 : (i 0).val < 1 := (i 0).isLt
  have h1 : (i 1).val < 1 := (i 1).isLt
  have h2 : (i 2).val < 1024 := (i 2).isLt
  refine (extractStridedSlice_apply _ _ _ i (fun b => match b with | ⟨0, _⟩ => ⟨(i 0).val, by show _ < 1; omega⟩ | ⟨1, _⟩ => ⟨(i 1).val, by show _ < 1; omega⟩ | ⟨2, _⟩ => ⟨(2048 + (i 2).val), by show _ < 6144; omega⟩) (fun a => match a with | ⟨0, _⟩ => by show (i 0).val = 0 + (i 0).val; omega | ⟨1, _⟩ => by show (i 1).val = 0 + (i 1).val; omega | ⟨2, _⟩ => by show (2048 + (i 2).val) = 2048 + (i 2).val; omega)).trans ?_
  rfl

def main_v4 (A : Args) (a0 a1 a2 : ℕ) : ℝ := main_v0 A a0 a1 (3072 + a2)
theorem k_main_v4 (hA : Holds m c A) : V m c Cert.Kernel4Ideal.main_v4 = up3 (main_v4 A) := by
  refine (at_line m c (i := 4) Cert.Kernel4Ideal.main_v4 rfl (by decide)).trans ?_
  refine (unary_result .. ).trans ?_
  rw [settled m c 4 Cert.Kernel4Ideal.main_v0 (by decide), k_main_v0 m c hA]
  refine funext fun (i : S1x1x1024.Idx) => ?_
  have h0 : (i 0).val < 1 := (i 0).isLt
  have h1 : (i 1).val < 1 := (i 1).isLt
  have h2 : (i 2).val < 1024 := (i 2).isLt
  refine (extractStridedSlice_apply _ _ _ i (fun b => match b with | ⟨0, _⟩ => ⟨(i 0).val, by show _ < 1; omega⟩ | ⟨1, _⟩ => ⟨(i 1).val, by show _ < 1; omega⟩ | ⟨2, _⟩ => ⟨(3072 + (i 2).val), by show _ < 6144; omega⟩) (fun a => match a with | ⟨0, _⟩ => by show (i 0).val = 0 + (i 0).val; omega | ⟨1, _⟩ => by show (i 1).val = 0 + (i 1).val; omega | ⟨2, _⟩ => by show (3072 + (i 2).val) = 3072 + (i 2).val; omega)).trans ?_
  rfl

def main_v5 (A : Args) (a0 a1 a2 : ℕ) : ℝ := main_v0 A a0 a1 (4096 + a2)
theorem k_main_v5 (hA : Holds m c A) : V m c Cert.Kernel4Ideal.main_v5 = up3 (main_v5 A) := by
  refine (at_line m c (i := 5) Cert.Kernel4Ideal.main_v5 rfl (by decide)).trans ?_
  refine (unary_result .. ).trans ?_
  rw [settled m c 5 Cert.Kernel4Ideal.main_v0 (by decide), k_main_v0 m c hA]
  refine funext fun (i : S1x1x1024.Idx) => ?_
  have h0 : (i 0).val < 1 := (i 0).isLt
  have h1 : (i 1).val < 1 := (i 1).isLt
  have h2 : (i 2).val < 1024 := (i 2).isLt
  refine (extractStridedSlice_apply _ _ _ i (fun b => match b with | ⟨0, _⟩ => ⟨(i 0).val, by show _ < 1; omega⟩ | ⟨1, _⟩ => ⟨(i 1).val, by show _ < 1; omega⟩ | ⟨2, _⟩ => ⟨(4096 + (i 2).val), by show _ < 6144; omega⟩) (fun a => match a with | ⟨0, _⟩ => by show (i 0).val = 0 + (i 0).val; omega | ⟨1, _⟩ => by show (i 1).val = 0 + (i 1).val; omega | ⟨2, _⟩ => by show (4096 + (i 2).val) = 4096 + (i 2).val; omega)).trans ?_
  rfl

def main_v6 (A : Args) (a0 a1 a2 : ℕ) : ℝ := main_v0 A a0 a1 (5120 + a2)
theorem k_main_v6 (hA : Holds m c A) : V m c Cert.Kernel4Ideal.main_v6 = up3 (main_v6 A) := by
  refine (at_line m c (i := 6) Cert.Kernel4Ideal.main_v6 rfl (by decide)).trans ?_
  refine (unary_result .. ).trans ?_
  rw [settled m c 6 Cert.Kernel4Ideal.main_v0 (by decide), k_main_v0 m c hA]
  refine funext fun (i : S1x1x1024.Idx) => ?_
  have h0 : (i 0).val < 1 := (i 0).isLt
  have h1 : (i 1).val < 1 := (i 1).isLt
  have h2 : (i 2).val < 1024 := (i 2).isLt
  refine (extractStridedSlice_apply _ _ _ i (fun b => match b with | ⟨0, _⟩ => ⟨(i 0).val, by show _ < 1; omega⟩ | ⟨1, _⟩ => ⟨(i 1).val, by show _ < 1; omega⟩ | ⟨2, _⟩ => ⟨(5120 + (i 2).val), by show _ < 6144; omega⟩) (fun a => match a with | ⟨0, _⟩ => by show (i 0).val = 0 + (i 0).val; omega | ⟨1, _⟩ => by show (i 1).val = 0 + (i 1).val; omega | ⟨2, _⟩ => by show (5120 + (i 2).val) = 5120 + (i 2).val; omega)).trans ?_
  rfl

def main_v7 (A : Args) (a0 : ℕ) : ℝ := A.main_arg2 0 a0
theorem k_main_v7 (hA : Holds m c A) : V m c Cert.Kernel4Ideal.main_v7 = up1 (main_v7 A) := by
  refine (at_line m c (i := 7) Cert.Kernel4Ideal.main_v7 rfl (by decide)).trans ?_
  refine (reshape_result .. ).trans ?_
  rw [settled m c 7 Cert.Kernel4Ideal.main_arg2 (by decide), k_main_arg2 m c hA]
  refine funext fun (i : S1024.Idx) => ?_
  have h0 : (i 0).val < 1024 := (i 0).isLt
  refine (shapeCast_apply (up2 (A.main_arg2) : S1x1024.Idx → EReal) shapeCasts_S1x1024_S1024 i (fun b => match b with | ⟨0, _⟩ => ⟨0, by show _ < 1; omega⟩ | ⟨1, _⟩ => ⟨(i 0).val, by show _ < 1024; omega⟩) ?_).trans ?_
  · rw [Shape.rowMajor_val_two, Shape.rowMajor_val_one]
    show 0 * 1024 + (i 0).val = (i 0).val
    omega
  · rfl

def main_v8 (A : Args) (a0 a1 a2 : ℕ) : ℝ := A.main_arg0 a0 a1 a2 * A.main_arg0 a0 a1 a2
theorem k_main_v8 (hA : Holds m c A) : V m c Cert.Kernel4Ideal.main_v8 = up3 (main_v8 A) := by
  refine (at_line m c (i := 8) Cert.Kernel4Ideal.main_v8 rfl (by decide)).trans ?_
  refine (binary_result .. ).trans ?_
  rw [settled m c 8 Cert.Kernel4Ideal.main_arg0 (by decide), k_main_arg0 m c hA]
  exact funext fun i => (EReal.coe_mul _ _).symm

def main_cst (A : Args) : ℝ := 0
theorem k_main_cst (hA : Holds m c A) : V m c Cert.Kernel4Ideal.main_cst = (fun _ => ((main_cst A : ℝ) : EReal)) := by
  refine (at_line m c (i := 9) Cert.Kernel4Ideal.main_cst rfl (by decide)).trans ?_
  refine (nullary_result .. ).trans ?_
  exact funext fun _ => zero_f32

def main_v9 (A : Args) (a0 a1 : ℕ) : ℝ := main_cst A + ∑ k ∈ Finset.range 1024, main_v8 A a0 a1 k
theorem k_main_v9 (hA : Holds m c A) : V m c Cert.Kernel4Ideal.main_v9 = up2 (main_v9 A) := by
  refine (at_line m c (i := 10) Cert.Kernel4Ideal.main_v9 rfl (by decide)).trans ?_
  refine (binary_result .. ).trans ?_
  rw [settled m c 10 Cert.Kernel4Ideal.main_v8 (by decide), k_main_v8 m c hA]
  rw [settled m c 10 Cert.Kernel4Ideal.main_cst (by decide), k_main_cst m c hA]
  funext i
  simp only [Host.reduceAdd, Ideal.hostReduceAdd_def]
  rw [Ideal.hostReduceAdd_single _ (by decide)]
  refine Eq.trans (congrArg _ (Eq.trans (Finset.sum_congr rfl fun k _ => ?_) (coe_sum_fin 1024 fun k => main_v8 A (i 0).val (i 1).val k))) (EReal.coe_add _ _).symm
  rfl

def main_v10 (A : Args) (a0 a1 a2 : ℕ) : ℝ := main_v9 A 0 a1
theorem k_main_v10 (hA : Holds m c A) : V m c Cert.Kernel4Ideal.main_v10 = up3 (main_v10 A) := by
  refine (at_line m c (i := 11) Cert.Kernel4Ideal.main_v10 rfl (by decide)).trans ?_
  refine (unary_result .. ).trans ?_
  rw [settled m c 11 Cert.Kernel4Ideal.main_v9 (by decide), k_main_v9 m c hA]
  refine funext fun (i : S1x8192x1.Idx) => ?_
  refine (broadcastInDim_apply _ _ _ i (ValueIdx.ix2 0 (i 1)) (fun a => match a with | ⟨0, _⟩ => by show _ = if (1 : Nat) = 1 then 0 else (i 0).val; exact (if_pos rfl).symm | ⟨1, _⟩ => by show _ = if (8192 : Nat) = 1 then 0 else (i 1).val; exact (if_neg (by decide)).symm)).trans ?_
  rfl

def main_cst_0 (A : Args) : ℝ := 1024
theorem k_main_cst_0 (hA : Holds m c A) : V m c Cert.Kernel4Ideal.main_cst_0 = (fun _ => ((main_cst_0 A : ℝ) : EReal)) := by
  refine (at_line m c (i := 12) Cert.Kernel4Ideal.main_cst_0 rfl (by decide)).trans ?_
  refine (nullary_result .. ).trans ?_
  exact funext fun _ => k1024_f32

def main_v11 (A : Args) (a0 a1 a2 : ℕ) : ℝ := main_cst_0 A
theorem k_main_v11 (hA : Holds m c A) : V m c Cert.Kernel4Ideal.main_v11 = up3 (main_v11 A) := by
  refine (at_line m c (i := 13) Cert.Kernel4Ideal.main_v11 rfl (by decide)).trans ?_
  refine (unary_result .. ).trans ?_
  rw [settled m c 13 Cert.Kernel4Ideal.main_cst_0 (by decide), k_main_cst_0 m c hA]
  exact funext fun i => broadcastInDim_apply _ _ _ i (fun a => a.elim0) (fun a => a.elim0)

def main_v12 (A : Args) (a0 a1 a2 : ℕ) : ℝ := main_v10 A a0 a1 a2 / main_v11 A a0 a1 a2
theorem k_main_v12 (hA : Holds m c A) : V m c Cert.Kernel4Ideal.main_v12 = up3 (main_v12 A) := by
  refine (at_line m c (i := 14) Cert.Kernel4Ideal.main_v12 rfl (by decide)).trans ?_
  refine (binary_result .. ).trans ?_
  rw [settled m c 14 Cert.Kernel4Ideal.main_v10 (by decide), k_main_v10 m c hA]
  rw [settled m c 14 Cert.Kernel4Ideal.main_v11 (by decide), k_main_v11 m c hA]
  exact funext fun i => div_real _ _ (by show (1024:ℝ) ≠ 0; norm_num)

def main_cst_1 (A : Args) : ℝ := eps
theorem k_main_cst_1 (hA : Holds m c A) : V m c Cert.Kernel4Ideal.main_cst_1 = (fun _ => ((main_cst_1 A : ℝ) : EReal)) := by
  refine (at_line m c (i := 15) Cert.Kernel4Ideal.main_cst_1 rfl (by decide)).trans ?_
  refine (nullary_result .. ).trans ?_
  exact funext fun _ => eps_f32

def main_v13 (A : Args) (a0 a1 a2 : ℕ) : ℝ := main_cst_1 A
theorem k_main_v13 (hA : Holds m c A) : V m c Cert.Kernel4Ideal.main_v13 = up3 (main_v13 A) := by
  refine (at_line m c (i := 16) Cert.Kernel4Ideal.main_v13 rfl (by decide)).trans ?_
  refine (unary_result .. ).trans ?_
  rw [settled m c 16 Cert.Kernel4Ideal.main_cst_1 (by decide), k_main_cst_1 m c hA]
  exact funext fun i => broadcastInDim_apply _ _ _ i (fun a => a.elim0) (fun a => a.elim0)

def main_v14 (A : Args) (a0 a1 a2 : ℕ) : ℝ := main_v12 A a0 a1 a2 + main_v13 A a0 a1 a2
theorem k_main_v14 (hA : Holds m c A) : V m c Cert.Kernel4Ideal.main_v14 = up3 (main_v14 A) := by
  refine (at_line m c (i := 17) Cert.Kernel4Ideal.main_v14 rfl (by decide)).trans ?_
  refine (binary_result .. ).trans ?_
  rw [settled m c 17 Cert.Kernel4Ideal.main_v12 (by decide), k_main_v12 m c hA]
  rw [settled m c 17 Cert.Kernel4Ideal.main_v13 (by decide), k_main_v13 m c hA]
  exact funext fun i => (EReal.coe_add _ _).symm

theorem v14_pos (A : Args) (a0 a1 a2 : ℕ) : 0 < main_v14 A a0 a1 a2 := by
  show 0 < (0 + ∑ k ∈ Finset.range 1024, A.main_arg0 0 a1 k * A.main_arg0 0 a1 k) / 1024 + eps
  rw [zero_add]; exact ms_pos _

def main_v15 (A : Args) (a0 a1 a2 : ℕ) : ℝ := (√(main_v14 A a0 a1 a2))⁻¹
theorem k_main_v15 (hA : Holds m c A) : V m c Cert.Kernel4Ideal.main_v15 = up3 (main_v15 A) := by
  refine (at_line m c (i := 18) Cert.Kernel4Ideal.main_v15 rfl (by decide)).trans ?_
  refine (unary_result .. ).trans ?_
  rw [settled m c 18 Cert.Kernel4Ideal.main_v14 (by decide), k_main_v14 m c hA]
  funext i
  have hp := v14_pos A (i 0).val (i 1).val (i 2).val
  refine (Ideal.rsqrt_coe _).trans ?_
  rw [if_neg (not_lt.2 hp.le), if_neg hp.ne']; rfl

def main_v16 (A : Args) (a0 a1 a2 : ℕ) : ℝ := main_v15 A 0 a1 0
theorem k_main_v16 (hA : Holds m c A) : V m c Cert.Kernel4Ideal.main_v16 = up3 (main_v16 A) := by
  refine (at_line m c (i := 19) Cert.Kernel4Ideal.main_v16 rfl (by decide)).trans ?_
  refine (unary_result .. ).trans ?_
  rw [settled m c 19 Cert.Kernel4Ideal.main_v15 (by decide), k_main_v15 m c hA]
  refine funext fun (i : S1x8192x1024.Idx) => ?_
  refine (broadcastInDim_apply _ _ _ i (ValueIdx.ix3 0 (i 1) 0) (fun a => match a with | ⟨0, _⟩ => by show _ = if (1 : Nat) = 1 then 0 else (i 0).val; exact (if_pos rfl).symm | ⟨1, _⟩ => by show _ = if (8192 : Nat) = 1 then 0 else (i 1).val; exact (if_neg (by decide)).symm | ⟨2, _⟩ => by show _ = if (1 : Nat) = 1 then 0 else (i 2).val; exact (if_pos rfl).symm)).trans ?_
  rfl

def main_v17 (A : Args) (a0 a1 a2 : ℕ) : ℝ := A.main_arg0 a0 a1 a2 * main_v16 A a0 a1 a2
theorem k_main_v17 (hA : Holds m c A) : V m c Cert.Kernel4Ideal.main_v17 = up3 (main_v17 A) := by
  refine (at_line m c (i := 20) Cert.Kernel4Ideal.main_v17 rfl (by decide)).trans ?_
  refine (binary_result .. ).trans ?_
  rw [settled m c 20 Cert.Kernel4Ideal.main_arg0 (by decide), k_main_arg0 m c hA]
  rw [settled m c 20 Cert.Kernel4Ideal.main_v16 (by decide), k_main_v16 m c hA]
  exact funext fun i => (EReal.coe_mul _ _).symm

def main_v18 (A : Args) (a0 a1 a2 : ℕ) : ℝ := main_v7 A a2
theorem k_main_v18 (hA : Holds m c A) : V m c Cert.Kernel4Ideal.main_v18 = up3 (main_v18 A) := by
  refine (at_line m c (i := 21) Cert.Kernel4Ideal.main_v18 rfl (by decide)).trans ?_
  refine (unary_result .. ).trans ?_
  rw [settled m c 21 Cert.Kernel4Ideal.main_v7 (by decide), k_main_v7 m c hA]
  refine funext fun (i : S1x1x1024.Idx) => ?_
  refine (broadcastInDim_apply _ _ _ i (ValueIdx.ix1 (i 2)) (fun a => match a with | ⟨0, _⟩ => by show _ = if (1024 : Nat) = 1 then 0 else (i 2).val; exact (if_neg (by decide)).symm)).trans ?_
  rfl

def main_v19 (A : Args) (a0 a1 a2 : ℕ) : ℝ := main_v18 A 0 0 a2
theorem k_main_v19 (hA : Holds m c A) : V m c Cert.Kernel4Ideal.main_v19 = up3 (main_v19 A) := by
  refine (at_line m c (i := 22) Cert.Kernel4Ideal.main_v19 rfl (by decide)).trans ?_
  refine (unary_result .. ).trans ?_
  rw [settled m c 22 Cert.Kernel4Ideal.main_v18 (by decide), k_main_v18 m c hA]
  refine funext fun (i : S1x8192x1024.Idx) => ?_
  refine (broadcastInDim_apply _ _ _ i (ValueIdx.ix3 0 0 (i 2)) (fun a => match a with | ⟨0, _⟩ => by show _ = if (1 : Nat) = 1 then 0 else (i 0).val; exact (if_pos rfl).symm | ⟨1, _⟩ => by show _ = if (1 : Nat) = 1 then 0 else (i 1).val; exact (if_pos rfl).symm | ⟨2, _⟩ => by show _ = if (1024 : Nat) = 1 then 0 else (i 2).val; exact (if_neg (by decide)).symm)).trans ?_
  rfl

def main_v20 (A : Args) (a0 a1 a2 : ℕ) : ℝ := main_v17 A a0 a1 a2 * main_v19 A a0 a1 a2
theorem k_main_v20 (hA : Holds m c A) : V m c Cert.Kernel4Ideal.main_v20 = up3 (main_v20 A) := by
  refine (at_line m c (i := 23) Cert.Kernel4Ideal.main_v20 rfl (by decide)).trans ?_
  refine (binary_result .. ).trans ?_
  rw [settled m c 23 Cert.Kernel4Ideal.main_v17 (by decide), k_main_v17 m c hA]
  rw [settled m c 23 Cert.Kernel4Ideal.main_v19 (by decide), k_main_v19 m c hA]
  exact funext fun i => (EReal.coe_mul _ _).symm

def main_cst_2 (A : Args) : ℝ := 1
theorem k_main_cst_2 (hA : Holds m c A) : V m c Cert.Kernel4Ideal.main_cst_2 = (fun _ => ((main_cst_2 A : ℝ) : EReal)) := by
  refine (at_line m c (i := 24) Cert.Kernel4Ideal.main_cst_2 rfl (by decide)).trans ?_
  refine (nullary_result .. ).trans ?_
  exact funext fun _ => one_f32

def main_v21 (A : Args) (a0 a1 a2 : ℕ) : ℝ := main_cst_2 A
theorem k_main_v21 (hA : Holds m c A) : V m c Cert.Kernel4Ideal.main_v21 = up3 (main_v21 A) := by
  refine (at_line m c (i := 25) Cert.Kernel4Ideal.main_v21 rfl (by decide)).trans ?_
  refine (unary_result .. ).trans ?_
  rw [settled m c 25 Cert.Kernel4Ideal.main_cst_2 (by decide), k_main_cst_2 m c hA]
  exact funext fun i => broadcastInDim_apply _ _ _ i (fun a => a.elim0) (fun a => a.elim0)

def main_v22 (A : Args) (a0 a1 a2 : ℕ) : ℝ := main_v21 A a0 a1 a2 + main_v2 A a0 a1 a2
theorem k_main_v22 (hA : Holds m c A) : V m c Cert.Kernel4Ideal.main_v22 = up3 (main_v22 A) := by
  refine (at_line m c (i := 26) Cert.Kernel4Ideal.main_v22 rfl (by decide)).trans ?_
  refine (binary_result .. ).trans ?_
  rw [settled m c 26 Cert.Kernel4Ideal.main_v21 (by decide), k_main_v21 m c hA]
  rw [settled m c 26 Cert.Kernel4Ideal.main_v2 (by decide), k_main_v2 m c hA]
  exact funext fun i => (EReal.coe_add _ _).symm

def main_v23 (A : Args) (a0 a1 a2 : ℕ) : ℝ := main_v22 A 0 0 a2
theorem k_main_v23 (hA : Holds m c A) : V m c Cert.Kernel4Ideal.main_v23 = up3 (main_v23 A) := by
  refine (at_line m c (i := 27) Cert.Kernel4Ideal.main_v23 rfl (by decide)).trans ?_
  refine (unary_result .. ).trans ?_
  rw [settled m c 27 Cert.Kernel4Ideal.main_v22 (by decide), k_main_v22 m c hA]
  refine funext fun (i : S1x8192x1024.Idx) => ?_
  refine (broadcastInDim_apply _ _ _ i (ValueIdx.ix3 0 0 (i 2)) (fun a => match a with | ⟨0, _⟩ => by show _ = if (1 : Nat) = 1 then 0 else (i 0).val; exact (if_pos rfl).symm | ⟨1, _⟩ => by show _ = if (1 : Nat) = 1 then 0 else (i 1).val; exact (if_pos rfl).symm | ⟨2, _⟩ => by show _ = if (1024 : Nat) = 1 then 0 else (i 2).val; exact (if_neg (by decide)).symm)).trans ?_
  rfl

def main_v24 (A : Args) (a0 a1 a2 : ℕ) : ℝ := main_v20 A a0 a1 a2 * main_v23 A a0 a1 a2
theorem k_main_v24 (hA : Holds m c A) : V m c Cert.Kernel4Ideal.main_v24 = up3 (main_v24 A) := by
  refine (at_line m c (i := 28) Cert.Kernel4Ideal.main_v24 rfl (by decide)).trans ?_
  refine (binary_result .. ).trans ?_
  rw [settled m c 28 Cert.Kernel4Ideal.main_v20 (by decide), k_main_v20 m c hA]
  rw [settled m c 28 Cert.Kernel4Ideal.main_v23 (by decide), k_main_v23 m c hA]
  exact funext fun i => (EReal.coe_mul _ _).symm

def main_v25 (A : Args) (a0 a1 a2 : ℕ) : ℝ := main_v1 A 0 0 a2
theorem k_main_v25 (hA : Holds m c A) : V m c Cert.Kernel4Ideal.main_v25 = up3 (main_v25 A) := by
  refine (at_line m c (i := 29) Cert.Kernel4Ideal.main_v25 rfl (by decide)).trans ?_
  refine (unary_result .. ).trans ?_
  rw [settled m c 29 Cert.Kernel4Ideal.main_v1 (by decide), k_main_v1 m c hA]
  refine funext fun (i : S1x8192x1024.Idx) => ?_
  refine (broadcastInDim_apply _ _ _ i (ValueIdx.ix3 0 0 (i 2)) (fun a => match a with | ⟨0, _⟩ => by show _ = if (1 : Nat) = 1 then 0 else (i 0).val; exact (if_pos rfl).symm | ⟨1, _⟩ => by show _ = if (1 : Nat) = 1 then 0 else (i 1).val; exact (if_pos rfl).symm | ⟨2, _⟩ => by show _ = if (1024 : Nat) = 1 then 0 else (i 2).val; exact (if_neg (by decide)).symm)).trans ?_
  rfl

def main_v26 (A : Args) (a0 a1 a2 : ℕ) : ℝ := main_v24 A a0 a1 a2 + main_v25 A a0 a1 a2
theorem k_main_v26 (hA : Holds m c A) : V m c Cert.Kernel4Ideal.main_v26 = up3 (main_v26 A) := by
  refine (at_line m c (i := 30) Cert.Kernel4Ideal.main_v26 rfl (by decide)).trans ?_
  refine (binary_result .. ).trans ?_
  rw [settled m c 30 Cert.Kernel4Ideal.main_v24 (by decide), k_main_v24 m c hA]
  rw [settled m c 30 Cert.Kernel4Ideal.main_v25 (by decide), k_main_v25 m c hA]
  exact funext fun i => (EReal.coe_add _ _).symm

def main_v27 (A : Args) (a0 a1 : ℕ) : ℝ := A.main_arg5 0 a0 a1
theorem k_main_v27 (hA : Holds m c A) : V m c Cert.Kernel4Ideal.main_v27 = up2 (main_v27 A) := by
  refine (at_line m c (i := 31) Cert.Kernel4Ideal.main_v27 rfl (by decide)).trans ?_
  refine (reshape_result .. ).trans ?_
  rw [settled m c 31 Cert.Kernel4Ideal.main_arg5 (by decide), k_main_arg5 m c hA]
  refine funext fun (i : S1024x7168.Idx) => ?_
  have h0 : (i 0).val < 1024 := (i 0).isLt
  have h1 : (i 1).val < 7168 := (i 1).isLt
  refine (shapeCast_apply (up3 (A.main_arg5) : S1x1024x7168.Idx → EReal) shapeCasts_S1x1024x7168_S1024x7168 i (fun b => match b with | ⟨0, _⟩ => ⟨0, by show _ < 1; omega⟩ | ⟨1, _⟩ => ⟨(i 0).val, by show _ < 1024; omega⟩ | ⟨2, _⟩ => ⟨(i 1).val, by show _ < 7168; omega⟩) ?_).trans ?_
  · rw [Shape.rowMajor_val_three, Shape.rowMajor_val_two]
    show (0 * 1024 + (i 0).val) * 7168 + (i 1).val = (i 0).val * 7168 + (i 1).val
    omega
  · rfl

def main_v28 (A : Args) (a0 a1 a2 : ℕ) : ℝ := ∑ k ∈ Finset.range 1024, main_v26 A a0 a1 k * main_v27 A k a2
theorem k_main_v28 (hA : Holds m c A) : V m c Cert.Kernel4Ideal.main_v28 = up3 (main_v28 A) := by
  refine (at_line m c (i := 32) Cert.Kernel4Ideal.main_v28 rfl (by decide)).trans ?_
  refine (binary_result .. ).trans ?_
  rw [settled m c 32 Cert.Kernel4Ideal.main_v26 (by decide), k_main_v26 m c hA]
  rw [settled m c 32 Cert.Kernel4Ideal.main_v27 (by decide), k_main_v27 m c hA]
  exact hostDot3 _ _

def main_v29 (A : Args) (a0 a1 : ℕ) : ℝ := A.main_arg1 0 (1024 * a0 + a1)
theorem k_main_v29 (hA : Holds m c A) : V m c Cert.Kernel4Ideal.main_v29 = up2 (main_v29 A) := by
  refine (at_line m c (i := 33) Cert.Kernel4Ideal.main_v29 rfl (by decide)).trans ?_
  refine (reshape_result .. ).trans ?_
  rw [settled m c 33 Cert.Kernel4Ideal.main_arg1 (by decide), k_main_arg1 m c hA]
  refine funext fun (i : S6x1024.Idx) => ?_
  have h0 : (i 0).val < 6 := (i 0).isLt
  have h1 : (i 1).val < 1024 := (i 1).isLt
  refine (shapeCast_apply (up2 (A.main_arg1) : S1x6144.Idx → EReal) shapeCasts_S1x6144_S6x1024 i (fun b => match b with | ⟨0, _⟩ => ⟨0, by show _ < 1; omega⟩ | ⟨1, _⟩ => ⟨(1024 * (i 0).val + (i 1).val), by show _ < 6144; omega⟩) ?_).trans ?_
  · rw [Shape.rowMajor_val_two, Shape.rowMajor_val_two]
    show 0 * 6144 + (1024 * (i 0).val + (i 1).val) = (i 0).val * 1024 + (i 1).val
    omega
  · rfl

def main_cst_3 (A : Args) : ℝ := 0
theorem k_main_cst_3 (hA : Holds m c A) : V m c Cert.Kernel4Ideal.main_cst_3 = (fun _ => ((main_cst_3 A : ℝ) : EReal)) := by
  refine (at_line m c (i := 34) Cert.Kernel4Ideal.main_cst_3 rfl (by decide)).trans ?_
  refine (nullary_result .. ).trans ?_
  exact funext fun _ => zero_f32

def main_v30 (A : Args) (a0 a1 : ℕ) : ℝ := main_cst_3 A
theorem k_main_v30 (hA : Holds m c A) : V m c Cert.Kernel4Ideal.main_v30 = up2 (main_v30 A) := by
  refine (at_line m c (i := 35) Cert.Kernel4Ideal.main_v30 rfl (by decide)).trans ?_
  refine (unary_result .. ).trans ?_
  rw [settled m c 35 Cert.Kernel4Ideal.main_cst_3 (by decide), k_main_cst_3 m c hA]
  exact funext fun i => broadcastInDim_apply _ _ _ i (fun a => a.elim0) (fun a => a.elim0)

def main_v31 (A : Args) (a0 a1 : ℕ) : ℝ := if a0 < 6 then main_v29 A a0 a1 else main_v30 A (a0 - 6) a1
theorem k_main_v31 (hA : Holds m c A) : V m c Cert.Kernel4Ideal.main_v31 = up2 (main_v31 A) := by
  refine (at_line m c (i := 36) Cert.Kernel4Ideal.main_v31 rfl (by decide)).trans ?_
  refine (binary_result .. ).trans ?_
  rw [settled m c 36 Cert.Kernel4Ideal.main_v29 (by decide), k_main_v29 m c hA]
  rw [settled m c 36 Cert.Kernel4Ideal.main_v30 (by decide), k_main_v30 m c hA]
  refine funext fun (i : S8x1024.Idx) => ?_
  have h0 : (i 0).val < 8 := (i 0).isLt
  have h1 : (i 1).val < 1024 := (i 1).isLt
  by_cases c0 : (i 0).val < 6
  · refine (concatenate_apply_piece _ _ _ i 0 (by simp) S6x1024 _ rfl rfl 0 rfl (fun b => match b with | ⟨0, _⟩ => ⟨(i 0).val - 0, by show _ < 6; omega⟩ | ⟨1, _⟩ => ⟨(i 1).val, by show _ < 1024; omega⟩) ?_ ?_).trans ?_
    · intro b hb; match b with | ⟨0, _⟩ => exact absurd rfl hb | ⟨1, _⟩ => exact rfl
    · show 0 + ((i 0).val - 0) = (i 0).val; omega
    · show ((main_v29 A ((i 0).val - 0) (i 1).val : ℝ) : EReal) = ((main_v31 A (i 0).val (i 1).val : ℝ) : EReal)
      unfold main_v31; simp only [Nat.sub_zero]; rw [if_pos c0]
  refine (concatenate_apply_piece _ _ _ i 1 (by simp) S2x1024 _ rfl rfl 6 rfl (fun b => match b with | ⟨0, _⟩ => ⟨(i 0).val - 6, by show _ < 2; omega⟩ | ⟨1, _⟩ => ⟨(i 1).val, by show _ < 1024; omega⟩) ?_ ?_).trans ?_
  · intro b hb; match b with | ⟨0, _⟩ => exact absurd rfl hb | ⟨1, _⟩ => exact rfl
  · show 6 + ((i 0).val - 6) = (i 0).val; omega
  · show ((main_v30 A ((i 0).val - 6) (i 1).val : ℝ) : EReal) = ((main_v31 A (i 0).val (i 1).val : ℝ) : EReal)
    unfold main_v31; rw [if_neg c0]

def main_v35 (A : Args) (a0 a1 : ℕ) : ℝ := A.main_arg6 0 a0 a1
theorem k_main_v35 (hA : Holds m c A) : V m c Cert.Kernel4Ideal.main_v35 = up2 (main_v35 A) := by
  refine (at_line m c (i := 41) Cert.Kernel4Ideal.main_v35 rfl (by decide)).trans ?_
  refine (reshape_result .. ).trans ?_
  rw [settled m c 41 Cert.Kernel4Ideal.main_arg6 (by decide), k_main_arg6 m c hA]
  refine funext fun (i : S3x1024.Idx) => ?_
  have h0 : (i 0).val < 3 := (i 0).isLt
  have h1 : (i 1).val < 1024 := (i 1).isLt
  refine (shapeCast_apply (up3 (A.main_arg6) : S1x3x1024.Idx → EReal) shapeCasts_S1x3x1024_S3x1024 i (fun b => match b with | ⟨0, _⟩ => ⟨0, by show _ < 1; omega⟩ | ⟨1, _⟩ => ⟨(i 0).val, by show _ < 3; omega⟩ | ⟨2, _⟩ => ⟨(i 1).val, by show _ < 1024; omega⟩) ?_).trans ?_
  · rw [Shape.rowMajor_val_three, Shape.rowMajor_val_two]
    show (0 * 3 + (i 0).val) * 1024 + (i 1).val = (i 0).val * 1024 + (i 1).val
    omega
  · rfl

def main_cst_5 (A : Args) : ℝ := 0
theorem k_main_cst_5 (hA : Holds m c A) : V m c Cert.Kernel4Ideal.main_cst_5 = (fun _ => ((main_cst_5 A : ℝ) : EReal)) := by
  refine (at_line m c (i := 42) Cert.Kernel4Ideal.main_cst_5 rfl (by decide)).trans ?_
  refine (nullary_result .. ).trans ?_
  exact funext fun _ => zero_f32

def main_v36 (A : Args) (a0 a1 : ℕ) : ℝ := main_cst_5 A
theorem k_main_v36 (hA : Holds m c A) : V m c Cert.Kernel4Ideal.main_v36 = up2 (main_v36 A) := by
  refine (at_line m c (i := 43) Cert.Kernel4Ideal.main_v36 rfl (by decide)).trans ?_
  refine (unary_result .. ).trans ?_
  rw [settled m c 43 Cert.Kernel4Ideal.main_cst_5 (by decide), k_main_cst_5 m c hA]
  exact funext fun i => broadcastInDim_apply _ _ _ i (fun a => a.elim0) (fun a => a.elim0)

def main_v37 (A : Args) (a0 a1 : ℕ) : ℝ := A.main_arg8 0 a0 a1
theorem k_main_v37 (hA : Holds m c A) : V m c Cert.Kernel4Ideal.main_v37 = up2 (main_v37 A) := by
  refine (at_line m c (i := 44) Cert.Kernel4Ideal.main_v37 rfl (by decide)).trans ?_
  refine (reshape_result .. ).trans ?_
  rw [settled m c 44 Cert.Kernel4Ideal.main_arg8 (by decide), k_main_arg8 m c hA]
  refine funext fun (i : S31x1024.Idx) => ?_
  have h0 : (i 0).val < 31 := (i 0).isLt
  have h1 : (i 1).val < 1024 := (i 1).isLt
  refine (shapeCast_apply (up3 (A.main_arg8) : S1x31x1024.Idx → EReal) shapeCasts_S1x31x1024_S31x1024 i (fun b => match b with | ⟨0, _⟩ => ⟨0, by show _ < 1; omega⟩ | ⟨1, _⟩ => ⟨(i 0).val, by show _ < 31; omega⟩ | ⟨2, _⟩ => ⟨(i 1).val, by show _ < 1024; omega⟩) ?_).trans ?_
  · rw [Shape.rowMajor_val_three, Shape.rowMajor_val_two]
    show (0 * 31 + (i 0).val) * 1024 + (i 1).val = (i 0).val * 1024 + (i 1).val
    omega
  · rfl

def main_cst_6 (A : Args) : ℝ := 0
theorem k_main_cst_6 (hA : Holds m c A) : V m c Cert.Kernel4Ideal.main_cst_6 = (fun _ => ((main_cst_6 A : ℝ) : EReal)) := by
  refine (at_line m c (i := 45) Cert.Kernel4Ideal.main_cst_6 rfl (by decide)).trans ?_
  refine (nullary_result .. ).trans ?_
  exact funext fun _ => zero_f32

def main_v38 (A : Args) (a0 a1 : ℕ) : ℝ := main_cst_6 A
theorem k_main_v38 (hA : Holds m c A) : V m c Cert.Kernel4Ideal.main_v38 = up2 (main_v38 A) := by
  refine (at_line m c (i := 46) Cert.Kernel4Ideal.main_v38 rfl (by decide)).trans ?_
  refine (unary_result .. ).trans ?_
  rw [settled m c 46 Cert.Kernel4Ideal.main_cst_6 (by decide), k_main_cst_6 m c hA]
  exact funext fun i => broadcastInDim_apply _ _ _ i (fun a => a.elim0) (fun a => a.elim0)

def main_v39 (A : Args) (a0 a1 : ℕ) : ℝ := if a0 < 3 then main_v35 A a0 a1 else if a0 < 8 then main_v36 A (a0 - 3) a1 else if a0 < 39 then main_v37 A (a0 - 8) a1 else main_v38 A (a0 - 39) a1
theorem k_main_v39 (hA : Holds m c A) : V m c Cert.Kernel4Ideal.main_v39 = up2 (main_v39 A) := by
  refine (at_line m c (i := 47) Cert.Kernel4Ideal.main_v39 rfl (by decide)).trans ?_
  refine (nary_result .. ).trans ?_
  show concatenate S40x1024 0 [⟨S3x1024, (upto ops (fun b => m (c, b)) 47 (Proc.devRef .tc Cert.Kernel4Ideal.main_v35) : S3x1024.Idx → EReal)⟩, ⟨S5x1024, (upto ops (fun b => m (c, b)) 47 (Proc.devRef .tc Cert.Kernel4Ideal.main_v36) : S5x1024.Idx → EReal)⟩, ⟨S31x1024, (upto ops (fun b => m (c, b)) 47 (Proc.devRef .tc Cert.Kernel4Ideal.main_v37) : S31x1024.Idx → EReal)⟩, ⟨S1x1024, (upto ops (fun b => m (c, b)) 47 (Proc.devRef .tc Cert.Kernel4Ideal.main_v38) : S1x1024.Idx → EReal)⟩] concatenates_S3x1024_S5x1024_S31x1024_S1x1024_S40x1024_d0 = _
  rw [settled m c 47 Cert.Kernel4Ideal.main_v35 (by decide), k_main_v35 m c hA]
  rw [settled m c 47 Cert.Kernel4Ideal.main_v36 (by decide), k_main_v36 m c hA]
  rw [settled m c 47 Cert.Kernel4Ideal.main_v37 (by decide), k_main_v37 m c hA]
  rw [settled m c 47 Cert.Kernel4Ideal.main_v38 (by decide), k_main_v38 m c hA]
  refine funext fun (i : S40x1024.Idx) => ?_
  have h0 : (i 0).val < 40 := (i 0).isLt
  have h1 : (i 1).val < 1024 := (i 1).isLt
  by_cases c0 : (i 0).val < 3
  · refine (concatenate_apply_piece _ _ _ i 0 (by simp) S3x1024 _ rfl rfl 0 rfl (fun b => match b with | ⟨0, _⟩ => ⟨(i 0).val - 0, by show _ < 3; omega⟩ | ⟨1, _⟩ => ⟨(i 1).val, by show _ < 1024; omega⟩) ?_ ?_).trans ?_
    · intro b hb; match b with | ⟨0, _⟩ => exact absurd rfl hb | ⟨1, _⟩ => exact rfl
    · show 0 + ((i 0).val - 0) = (i 0).val; omega
    · show ((main_v35 A ((i 0).val - 0) (i 1).val : ℝ) : EReal) = ((main_v39 A (i 0).val (i 1).val : ℝ) : EReal)
      unfold main_v39; simp only [Nat.sub_zero]; rw [if_pos c0]
  by_cases c1 : (i 0).val < 8
  · refine (concatenate_apply_piece _ _ _ i 1 (by simp) S5x1024 _ rfl rfl 3 rfl (fun b => match b with | ⟨0, _⟩ => ⟨(i 0).val - 3, by show _ < 5; omega⟩ | ⟨1, _⟩ => ⟨(i 1).val, by show _ < 1024; omega⟩) ?_ ?_).trans ?_
    · intro b hb; match b with | ⟨0, _⟩ => exact absurd rfl hb | ⟨1, _⟩ => exact rfl
    · show 3 + ((i 0).val - 3) = (i 0).val; omega
    · show ((main_v36 A ((i 0).val - 3) (i 1).val : ℝ) : EReal) = ((main_v39 A (i 0).val (i 1).val : ℝ) : EReal)
      unfold main_v39; rw [if_neg c0, if_pos c1]
  by_cases c2 : (i 0).val < 39
  · refine (concatenate_apply_piece _ _ _ i 2 (by simp) S31x1024 _ rfl rfl 8 rfl (fun b => match b with | ⟨0, _⟩ => ⟨(i 0).val - 8, by show _ < 31; omega⟩ | ⟨1, _⟩ => ⟨(i 1).val, by show _ < 1024; omega⟩) ?_ ?_).trans ?_
    · intro b hb; match b with | ⟨0, _⟩ => exact absurd rfl hb | ⟨1, _⟩ => exact rfl
    · show 8 + ((i 0).val - 8) = (i 0).val; omega
    · show ((main_v37 A ((i 0).val - 8) (i 1).val : ℝ) : EReal) = ((main_v39 A (i 0).val (i 1).val : ℝ) : EReal)
      unfold main_v39; rw [if_neg c0, if_neg c1, if_pos c2]
  refine (concatenate_apply_piece _ _ _ i 3 (by simp) S1x1024 _ rfl rfl 39 rfl (fun b => match b with | ⟨0, _⟩ => ⟨(i 0).val - 39, by show _ < 1; omega⟩ | ⟨1, _⟩ => ⟨(i 1).val, by show _ < 1024; omega⟩) ?_ ?_).trans ?_
  · intro b hb; match b with | ⟨0, _⟩ => exact absurd rfl hb | ⟨1, _⟩ => exact rfl
  · show 39 + ((i 0).val - 39) = (i 0).val; omega
  · show ((main_v38 A ((i 0).val - 39) (i 1).val : ℝ) : EReal) = ((main_v39 A (i 0).val (i 1).val : ℝ) : EReal)
    unfold main_v39; rw [if_neg c0, if_neg c1, if_neg c2]

def main_v40 (A : Args) (a0 a1 : ℕ) : ℝ := A.main_arg0 0 a0 a1
theorem k_main_v40 (hA : Holds m c A) : V m c Cert.Kernel4Ideal.main_v40 = up2 (main_v40 A) := by
  refine (at_line m c (i := 48) Cert.Kernel4Ideal.main_v40 rfl (by decide)).trans ?_
  refine (reshape_result .. ).trans ?_
  rw [settled m c 48 Cert.Kernel4Ideal.main_arg0 (by decide), k_main_arg0 m c hA]
  refine funext fun (i : S8192x1024.Idx) => ?_
  have h0 : (i 0).val < 8192 := (i 0).isLt
  have h1 : (i 1).val < 1024 := (i 1).isLt
  refine (shapeCast_apply (up3 (A.main_arg0) : S1x8192x1024.Idx → EReal) shapeCasts_S1x8192x1024_S8192x1024 i (fun b => match b with | ⟨0, _⟩ => ⟨0, by show _ < 1; omega⟩ | ⟨1, _⟩ => ⟨(i 0).val, by show _ < 8192; omega⟩ | ⟨2, _⟩ => ⟨(i 1).val, by show _ < 1024; omega⟩) ?_).trans ?_
  · rw [Shape.rowMajor_val_three, Shape.rowMajor_val_two]
    show (0 * 8192 + (i 0).val) * 1024 + (i 1).val = (i 0).val * 1024 + (i 1).val
    omega
  · rfl

def main_v41 (A : Args) (a0 a1 : ℕ) : ℝ := main_v28 A 0 a0 a1
theorem k_main_v41 (hA : Holds m c A) : V m c Cert.Kernel4Ideal.main_v41 = up2 (main_v41 A) := by
  refine (at_line m c (i := 49) Cert.Kernel4Ideal.main_v41 rfl (by decide)).trans ?_
  refine (reshape_result .. ).trans ?_
  rw [settled m c 49 Cert.Kernel4Ideal.main_v28 (by decide), k_main_v28 m c hA]
  refine funext fun (i : S8192x7168.Idx) => ?_
  have h0 : (i 0).val < 8192 := (i 0).isLt
  have h1 : (i 1).val < 7168 := (i 1).isLt
  refine (shapeCast_apply (up3 (main_v28 A) : S1x8192x7168.Idx → EReal) shapeCasts_S1x8192x7168_S8192x7168 i (fun b => match b with | ⟨0, _⟩ => ⟨0, by show _ < 1; omega⟩ | ⟨1, _⟩ => ⟨(i 0).val, by show _ < 8192; omega⟩ | ⟨2, _⟩ => ⟨(i 1).val, by show _ < 7168; omega⟩) ?_).trans ?_
  · rw [Shape.rowMajor_val_three, Shape.rowMajor_val_two]
    show (0 * 8192 + (i 0).val) * 7168 + (i 1).val = (i 0).val * 7168 + (i 1).val
    omega
  · rfl

def main_v42 (A : Args) (a0 a1 : ℕ) : ℝ := main_v41 A a0 a1
theorem k_main_v42 (hA : Holds m c A) : V m c Cert.Kernel4Ideal.main_v42 = up2 (main_v42 A) := by
  refine (at_line m c (i := 50) Cert.Kernel4Ideal.main_v42 rfl (by decide)).trans ?_
  refine (unary_result .. ).trans ?_
  rw [settled m c 50 Cert.Kernel4Ideal.main_v41 (by decide), k_main_v41 m c hA]
  rfl

def main_v43 (A : Args) (a0 a1 : ℕ) : ℝ := A.main_arg7 0 a0 a1
theorem k_main_v43 (hA : Holds m c A) : V m c Cert.Kernel4Ideal.main_v43 = up2 (main_v43 A) := by
  refine (at_line m c (i := 51) Cert.Kernel4Ideal.main_v43 rfl (by decide)).trans ?_
  refine (reshape_result .. ).trans ?_
  rw [settled m c 51 Cert.Kernel4Ideal.main_arg7 (by decide), k_main_arg7 m c hA]
  refine funext fun (i : S1024x1024.Idx) => ?_
  have h0 : (i 0).val < 1024 := (i 0).isLt
  have h1 : (i 1).val < 1024 := (i 1).isLt
  refine (shapeCast_apply (up3 (A.main_arg7) : S1x1024x1024.Idx → EReal) shapeCasts_S1x1024x1024_S1024x1024 i (fun b => match b with | ⟨0, _⟩ => ⟨0, by show _ < 1; omega⟩ | ⟨1, _⟩ => ⟨(i 0).val, by show _ < 1024; omega⟩ | ⟨2, _⟩ => ⟨(i 1).val, by show _ < 1024; omega⟩) ?_).trans ?_
  · rw [Shape.rowMajor_val_three, Shape.rowMajor_val_two]
    show (0 * 1024 + (i 0).val) * 1024 + (i 1).val = (i 0).val * 1024 + (i 1).val
    omega
  · rfl

def main_v44 (A : Args) (a0 a1 : ℕ) : ℝ := main_v43 A a0 a1
theorem k_main_v44 (hA : Holds m c A) : V m c Cert.Kernel4Ideal.main_v44 = up2 (main_v44 A) := by
  refine (at_line m c (i := 52) Cert.Kernel4Ideal.main_v44 rfl (by decide)).trans ?_
  refine (unary_result .. ).trans ?_
  rw [settled m c 52 Cert.Kernel4Ideal.main_v43 (by decide), k_main_v43 m c hA]
  rfl

def main_v45 (A : Args) (a0 a1 : ℕ) : ℝ := A.main_arg12 0 a0 a1
theorem k_main_v45 (hA : Holds m c A) : V m c Cert.Kernel4Ideal.main_v45 = up2 (main_v45 A) := by
  refine (at_line m c (i := 53) Cert.Kernel4Ideal.main_v45 rfl (by decide)).trans ?_
  refine (reshape_result .. ).trans ?_
  rw [settled m c 53 Cert.Kernel4Ideal.main_arg12 (by decide), k_main_arg12 m c hA]
  refine funext fun (i : S1024x1024.Idx) => ?_
  have h0 : (i 0).val < 1024 := (i 0).isLt
  have h1 : (i 1).val < 1024 := (i 1).isLt
  refine (shapeCast_apply (up3 (A.main_arg12) : S1x1024x1024.Idx → EReal) shapeCasts_S1x1024x1024_S1024x1024 i (fun b => match b with | ⟨0, _⟩ => ⟨0, by show _ < 1; omega⟩ | ⟨1, _⟩ => ⟨(i 0).val, by show _ < 1024; omega⟩ | ⟨2, _⟩ => ⟨(i 1).val, by show _ < 1024; omega⟩) ?_).trans ?_
  · rw [Shape.rowMajor_val_three, Shape.rowMajor_val_two]
    show (0 * 1024 + (i 0).val) * 1024 + (i 1).val = (i 0).val * 1024 + (i 1).val
    omega
  · rfl

def main_v46 (A : Args) (a0 a1 : ℕ) : ℝ := main_v45 A a0 a1
theorem k_main_v46 (hA : Holds m c A) : V m c Cert.Kernel4Ideal.main_v46 = up2 (main_v46 A) := by
  refine (at_line m c (i := 54) Cert.Kernel4Ideal.main_v46 rfl (by decide)).trans ?_
  refine (unary_result .. ).trans ?_
  rw [settled m c 54 Cert.Kernel4Ideal.main_v45 (by decide), k_main_v45 m c hA]
  rfl

def main_v47 (A : Args) (a0 a1 : ℕ) : ℝ := A.main_arg13 0 a0 a1
theorem k_main_v47 (hA : Holds m c A) : V m c Cert.Kernel4Ideal.main_v47 = up2 (main_v47 A) := by
  refine (at_line m c (i := 55) Cert.Kernel4Ideal.main_v47 rfl (by decide)).trans ?_
  refine (reshape_result .. ).trans ?_
  rw [settled m c 55 Cert.Kernel4Ideal.main_arg13 (by decide), k_main_arg13 m c hA]
  refine funext fun (i : S1024x1024.Idx) => ?_
  have h0 : (i 0).val < 1024 := (i 0).isLt
  have h1 : (i 1).val < 1024 := (i 1).isLt
  refine (shapeCast_apply (up3 (A.main_arg13) : S1x1024x1024.Idx → EReal) shapeCasts_S1x1024x1024_S1024x1024 i (fun b => match b with | ⟨0, _⟩ => ⟨0, by show _ < 1; omega⟩ | ⟨1, _⟩ => ⟨(i 0).val, by show _ < 1024; omega⟩ | ⟨2, _⟩ => ⟨(i 1).val, by show _ < 1024; omega⟩) ?_).trans ?_
  · rw [Shape.rowMajor_val_three, Shape.rowMajor_val_two]
    show (0 * 1024 + (i 0).val) * 1024 + (i 1).val = (i 0).val * 1024 + (i 1).val
    omega
  · rfl

def main_v48 (A : Args) (a0 a1 : ℕ) : ℝ := main_v47 A a0 a1
theorem k_main_v48 (hA : Holds m c A) : V m c Cert.Kernel4Ideal.main_v48 = up2 (main_v48 A) := by
  refine (at_line m c (i := 56) Cert.Kernel4Ideal.main_v48 rfl (by decide)).trans ?_
  refine (unary_result .. ).trans ?_
  rw [settled m c 56 Cert.Kernel4Ideal.main_v47 (by decide), k_main_v47 m c hA]
  rfl

end Cert.Mix.Host
end
end
-- ==== Proof.Mix.Spec.lean ====
/-
  The mixing block over the reals. Its two convolutions run over rows; everything else is stated one row at a time, for a row
  `p` of the block's projection, whose seven parts lie side by side, and the two convolutions' values on that row.
-/
module

public import proofs.«01_k».proof.Proof.Lib.Lift

@[expose] public section

noncomputable section

open scoped BigOperators

namespace Cert.Mix

open Cert.Lift Idealize.ShloMosaic

/-- The epsilon of the layer norm. -/
def leps : ℝ := (Ideal.ofBits .f32 0x3727C5AC#32).toReal
theorem leps_spec : ∃ r : ℝ, 0 < r ∧ Ideal.ofBits .f32 0x3727C5AC#32 = ((r : ℝ) : EReal) := by
  refine ⟨_, ?_, by simp [Ideal.ofBits, Ideal.ieee, -EReal.coe_mul]; rfl⟩
  positivity
theorem leps_f32 : Ideal.ofBits .f32 0x3727C5AC#32 = ((leps : ℝ) : EReal) := by
  obtain ⟨r, _, h⟩ := leps_spec
  unfold leps; rw [h, EReal.toReal_coe]
theorem leps_pos : 0 < leps := by
  obtain ⟨r, hr, h⟩ := leps_spec
  unfold leps; rw [h, EReal.toReal_coe]; exact hr
theorem scalar_leps : Scalar.ofBits (F := Ideal) .f32 0x3727C5AC#32 = ((leps : ℝ) : EReal) := leps_f32

/-- What the short convolution runs over. -/
def cvS (p : ℕ → ℝ) (c : ℕ) : ℝ := p (1024 + c) * p (2048 + c)
/-- What the long convolution runs over. -/
def glS (p : ℕ → ℝ) (c : ℕ) : ℝ := p (3072 + c) * sg (p (4096 + c))
/-- Row `r` of an array with `k` rows of zeros before it. -/
def before (k : ℕ) (U : ℕ → ℕ → ℝ) (r c : ℕ) : ℝ := if r < k then 0 else U (r - k) c
/-- The causal convolution of each column of `U` with its own taps, from an array `E` that starts with the earlier rows. -/
def tapsS (n : ℕ) (w E : ℕ → ℕ → ℝ) (r c : ℕ) : ℝ := ∑ i ∈ Finset.range n, w i c * E (r + i) c

/-- The short convolution's branch before its projection. -/
def shortS (p v : ℕ → ℝ) (c : ℕ) : ℝ := p c * v c
/-- A row times a matrix. -/
def mulS (W : ℕ → ℕ → ℝ) (l : ℕ → ℝ) (j : ℕ) : ℝ := ∑ k ∈ Finset.range 1024, l k * W k j
/-- A row less its mean. -/
def ctrS (u : ℕ → ℝ) (c : ℕ) : ℝ := u c - (∑ k ∈ Finset.range 1024, u k) / 1024
/-- The reciprocal standard deviation of a centered row. -/
def isdS (u : ℕ → ℝ) : ℝ := (√((∑ k ∈ Finset.range 1024, u k * u k) / 1024 + leps))⁻¹
/-- The normed row of the long convolution with its bias. -/
def normS (b v : ℕ → ℝ) (c : ℕ) : ℝ := ctrS (fun c => v c + b c) c * isdS (ctrS fun c => v c + b c)
/-- The long convolution's branch before its projection. -/
def longS (g l : ℕ → ℝ) (h : ℕ → ℝ) (c : ℕ) : ℝ := (h c * g c + l c) * sg (h c * g c + l c)
/-- The gated sum of the two branches. -/
def mergeS (p ya yb : ℕ → ℝ) (j : ℕ) : ℝ := sg (p (5120 + j)) * ya j + sg (p (6144 + j)) * yb j

theorem var_pos (u : ℕ → ℝ) : 0 < (∑ k ∈ Finset.range 1024, u k * u k) / 1024 + leps :=
  add_pos_of_nonneg_of_pos (div_nonneg (Finset.sum_nonneg fun k _ => mul_self_nonneg _) (by norm_num)) leps_pos

/-- The first branch's projection. -/
def yaS (WA : ℕ → ℕ → ℝ) (p v : ℕ → ℝ) : ℕ → ℝ := mulS WA (shortS p v)
/-- The second branch's projection; `P` holds the bias in row 3 and the norm's gain and offset in rows 4 and 5. -/
def ybS (WB P : ℕ → ℕ → ℝ) (v : ℕ → ℝ) : ℕ → ℝ := mulS WB (longS (P 4) (P 5) (normS (P 3) v))
/-- The gated sum from a row of the projection and the two convolutions' values on it. -/
def mgS (WA WB P : ℕ → ℕ → ℝ) (p v3 v31 : ℕ → ℝ) : ℕ → ℝ := mergeS p (yaS WA p v3) (ybS WB P v31)
/-- The block's product. -/
def mixS (WA WB WO P : ℕ → ℕ → ℝ) (p v3 v31 : ℕ → ℝ) : ℕ → ℝ := mulS WO (mgS WA WB P p v3 v31)

end Cert.Mix
end
-- ==== Proof.Mix.Pay.lean ====
/-
  The kernel's stored values over the reals: each block value the body computes outside its two convolutions, on real inputs,
  as one formula in the coordinates.
-/
module

public import proofs.«01_k».proof.Proof.Gen.Kernel4Ideal.Skeleton
public import proofs.«01_k».proof.Proof.Mix.Spec

@[expose] public section

noncomputable section

open scoped BigOperators

namespace Cert.Kernel4Ideal.Mix

open Cert.Kernel4Ideal Cert.Kernel4Ideal.Gen Idealize.ShloMosaic Idealize.ShloMosaic.TcCoe Idealize.SL.Sem Cert.Lift Cert.Mix

theorem dims1 : dot_S256x1024_S1024x1024_S256x1024_1_0_0_1_n_n = DotDims.plain 256 1024 1024 := rfl

/-- A block as a stack of one. -/
theorem shapeCast_stack {a b : ℕ} (X : ℕ → ℕ → ℝ) (h : (⟨2, ![a, b]⟩ : Shape).ShapeCasts ⟨3, ![1, a, b]⟩) :
    shapeCast ⟨3, ![1, a, b]⟩ (up2 X : (⟨2, ![a, b]⟩ : Shape).Idx → EReal) h = up3 fun _ r c => X r c := by
  funext i
  rw [shapeCast_apply _ h i (ValueIdx.ix2 (i 1) (i 2))]
  · rfl
  · rw [Shape.rowMajor_val_two, Shape.rowMajor_val_three]
    have h0 : (i 0).val < 1 := (i 0).isLt
    show (i 1).val * b + (i 2).val = ((i 0).val * a + (i 1).val) * b + (i 2).val
    rw [show (i 0).val = 0 by omega]; ring

theorem pay104_eq (a b : ℕ → ℕ → ℝ) : k0_pay104 (F := Ideal) (up2 a) (up2 b) = up2 fun r c => a r c * b r c := by
  unfold k0_pay104; simp only [shapeCast_self, extf_up2, mulf_up2]
theorem pay105_eq (a : ℕ → ℕ → ℝ) : k0_pay105 (F := Ideal) (up2 a) = up2 fun r c => sg (a r c) := by
  unfold k0_pay105; simp only [shapeCast_self, extf_up2, logistic_up2]
theorem pay106_eq (a : ℕ → ℕ → ℝ) : k0_pay106 (F := Ideal) (up2 a) = up2 fun r c => sg (a r c) := by
  unfold k0_pay106; simp only [pay105_eq, truncf_up2]
theorem pay107_eq (a b : ℕ → ℕ → ℝ) : k0_pay107 (F := Ideal) (up2 a) (up2 b) = up2 fun r c => b r c * sg (a r c) := by
  unfold k0_pay107; simp only [shapeCast_self, extf_up2, pay105_eq, mulf_up2]
theorem pay111_eq (a : ℕ → ℕ → ℝ) : k0_pay111 (F := Ideal) (up2 a) = up2 a := shapeCast_self _ _
theorem pay112_eq (a : ℕ → ℕ → ℝ) : k0_pay112 (F := Ideal) (up2 a) = up2 a := shapeCast_self _ _
theorem pay113_eq (a : ℕ → ℕ → ℝ) : k0_pay113 (F := Ideal) (up2 a) = up2 a := rfl
theorem pay114_eq (a b : ℕ → ℕ → ℝ) : k0_pay114 (F := Ideal) (up2 a) (up2 b) = up2 fun r => shortS (a r) (b r) := by
  unfold k0_pay114; simp only [shapeCast_self, extf_up2, mulf_up2, truncf_up2]; rfl
theorem pay115_eq (a b : ℕ → ℕ → ℝ) : k0_pay115 (F := Ideal) (up2 a) (up2 b) = up3 fun _ r => shortS (a r) (b r) := by
  unfold k0_pay115; simp only [pay114_eq, shapeCast_stack]
theorem pay116_eq (a b w : ℕ → ℕ → ℝ) : k0_pay116 (F := Ideal) (up2 a) (up2 b) (up2 w) = up2 fun r => mulS w (shortS (a r) (b r)) := by
  unfold k0_pay116; simp only [pay114_eq, shapeCast_self, constant_zero_up2, matmul_plain_up2 _ dims1, zero_add]; rfl
theorem pay117_eq (a b : ℕ → ℕ → ℝ) : k0_pay117 (F := Ideal) (up2 a) (up2 b) = up2 fun r c => a r c + b 0 c := by
  unfold k0_pay117; simp only [shapeCast_self, broadcastTo_row, addf_up2]
theorem pay118_eq (a : ℕ → ℕ → ℝ) : k0_pay118 (F := Ideal) (up2 a) = up2 fun r => ctrS (a r) := by
  unfold k0_pay118; delta multiReduction
  simp (disch := rfl) only [rowSum, shapeCast_col, scalar_k1024, broadcast_up2]
  rw [divf_up2 _ _ (fun _ _ => by norm_num)]
  simp only [broadcastTo_col, subf_up2]; rfl
theorem pay119_eq (a : ℕ → ℕ → ℝ) : k0_pay119 (F := Ideal) (up2 a) = up2 fun r _ => isdS (ctrS (a r)) := by
  unfold k0_pay119; delta multiReduction
  simp (disch := rfl) only [pay118_eq, mulf_up2, rowSum, shapeCast_col, scalar_k1024, scalar_leps, broadcast_up2]
  rw [divf_up2 _ _ (fun _ _ => by norm_num), addf_up2, rsqrt_up2 _ (fun r _ => var_pos (ctrS (a r)))]
  rfl
theorem pay120_eq (a : ℕ → ℕ → ℝ) : k0_pay120 (F := Ideal) (up2 a) = up2 fun r c => ctrS (a r) c * isdS (ctrS (a r)) := by
  unfold k0_pay120; simp only [pay118_eq, pay119_eq, broadcastTo_col, mulf_up2, truncf_up2]
theorem pay121_eq (h g l : ℕ → ℕ → ℝ) : k0_pay121 (F := Ideal) (up2 h) (up2 g) (up2 l) = up2 fun r => longS (g 0) (l 0) (h r) := by
  unfold k0_pay121; simp only [shapeCast_self, extf_up2, broadcastTo_row, mulf_up2, addf_up2, logistic_up2, truncf_up2]; rfl
theorem pay122_eq (h g l : ℕ → ℕ → ℝ) : k0_pay122 (F := Ideal) (up2 h) (up2 g) (up2 l) = up3 fun _ r => longS (g 0) (l 0) (h r) := by
  unfold k0_pay122; simp only [pay121_eq, shapeCast_stack]
theorem pay124_eq (a : ℕ → ℕ → ℝ) : k0_pay124 (F := Ideal) (up2 a) = up2 a := rfl
theorem pay125_eq (a w : ℕ → ℕ → ℝ) : k0_pay125 (F := Ideal) (up2 a) (up2 w) = up2 fun r => mulS w (a r) := by
  unfold k0_pay125; simp only [constant_zero_up2, matmul_plain_up2 _ dims1, zero_add, truncf_up2]; rfl
theorem pay126_eq (a : ℕ → ℕ → ℝ) : k0_pay126 (F := Ideal) (up2 a) = up2 fun r c => sg (a r c) := by
  unfold k0_pay126; simp only [shapeCast_self, extf_up2, logistic_up2]
theorem pay127_eq (a : ℕ → ℕ → ℝ) : k0_pay127 (F := Ideal) (up2 a) = up2 fun r c => sg (a r c) := by
  unfold k0_pay127; simp only [shapeCast_self, extf_up2, logistic_up2]
theorem pay128_eq (a : ℕ → ℕ → ℝ) : k0_pay128 (F := Ideal) (up2 a) = up2 fun r c => sg (a r c) := by
  unfold k0_pay128; simp only [pay126_eq, truncf_up2]
theorem pay129_eq (a : ℕ → ℕ → ℝ) : k0_pay129 (F := Ideal) (up2 a) = up2 fun r c => sg (a r c) := by
  unfold k0_pay129; simp only [pay127_eq, truncf_up2]
theorem pay130_eq (a b x y : ℕ → ℕ → ℝ) : k0_pay130 (F := Ideal) (up2 a) (up2 b) (up2 x) (up2 y)
    = up2 fun r c => sg (a r c) * x r c + sg (b r c) * y r c := by
  unfold k0_pay130; simp only [pay126_eq, pay127_eq, shapeCast_self, extf_up2, mulf_up2, addf_up2, truncf_up2]
theorem pay131_eq (a b x y : ℕ → ℕ → ℝ) : k0_pay131 (F := Ideal) (up2 a) (up2 b) (up2 x) (up2 y)
    = up3 fun _ r c => sg (a r c) * x r c + sg (b r c) * y r c := by
  unfold k0_pay131; simp only [pay130_eq, shapeCast_stack]
theorem pay1_eq (a w : ℕ → ℕ → ℝ) : k0_pay1 (F := Ideal) (up2 a) (up2 w) (up2 fun _ _ => 0) = up2 fun r => mulS w (a r) := by
  unfold k0_pay1; simp only [matmul_plain_up2 _ dims1, zero_add]; rfl
theorem pay2_eq (a w : ℕ → ℕ → ℝ) : k0_pay2 (F := Ideal) (up2 a) (up2 w) (up2 fun _ _ => 0) = up2 fun r => mulS w (a r) := by
  unfold k0_pay2; simp only [pay1_eq, truncf_up2]
theorem pay3_eq (a w x g : ℕ → ℕ → ℝ) : k0_pay3 (F := Ideal) (up2 a) (up2 w) (up2 fun _ _ => 0) (up2 x) (up2 g)
    = up2 fun r c => x r c + g 0 c * mulS w (a r) c := by
  unfold k0_pay3; simp only [pay1_eq, shapeCast_self, broadcastTo_row, mulf_up2, addf_up2]

end Cert.Kernel4Ideal.Mix
end
-- ==== Proof.Mix.Conv.lean ====
/-
  The kernel's two convolutions over the reals. A loop of four trips runs over the rows, 64 at a time, and a trip's eight stores are
  the eight column blocks; a tap's rows come out of a rotation. Every store is the convolution of its rows and columns.
-/
module

public import proofs.«01_k».proof.Proof.Gen.Kernel4Ideal.Frame.RunA
public import proofs.«01_k».proof.Proof.Mix.Pay

@[expose] public section

noncomputable section

open scoped BigOperators

namespace Cert.Kernel4Ideal.Mix

open Cert.Kernel4Ideal Cert.Kernel4Ideal.Gen Idealize.ShloMosaic Idealize.ShloMosaic.TcCoe Idealize.SL.Sem Cert.Lift Cert.Mix

theorem slice_up2 {m n a o : ℕ} (X : ℕ → ℕ → ℝ) (hs : (⟨2, ![m, n]⟩ : Shape).Slices ![o, 0] ⟨2, ![a, n]⟩) :
    extractStridedSlice ⟨2, ![a, n]⟩ ![o, 0] (up2 X : (⟨2, ![m, n]⟩ : Shape).Idx → EReal) hs = up2 fun r c => X (r + o) c := by
  funext i
  show ((X (o + (i 0).val) (0 + (i 1).val) : ℝ) : EReal) = ((X ((i 0).val + o) (i 1).val : ℝ) : EReal)
  rw [Nat.zero_add, Nat.add_comm o]

/-- A rotation by all but a few rows shows those later rows, as long as none comes round. -/
theorem slice_rotate {m n a o : ℕ} (N : BitVec 32) (X : ℕ → ℕ → ℝ) {d : Fin (⟨2, ![m, n]⟩ : Shape).rank}
    {st : Option (ℕ × Fin (⟨2, ![m, n]⟩ : Shape).rank)} (hr : (⟨2, ![m, n]⟩ : Shape).Rotates d st)
    (hs : (⟨2, ![m, n]⟩ : Shape).Slices ![o, 0] ⟨2, ![a, n]⟩) (hd : d = (0 : Fin 2)) (ht : st = none) (hN : N.toNat < m) (h : o + a + (m - N.toNat) ≤ m) :
    extractStridedSlice ⟨2, ![a, n]⟩ ![o, 0] (dynamicRotate d N st (up2 X : (⟨2, ![m, n]⟩ : Shape).Idx → EReal) hr) hs
      = up2 fun r c => X (r + (o + (m - N.toNat))) c := by
  funext i
  subst hd ht
  have h0 : (i 0).val < a := (i 0).isLt
  show ((X ((o + (i 0).val + m - (N.toNat + 0) % m) % m) (0 + (i 1).val) : ℝ) : EReal)
    = ((X ((i 0).val + (o + (m - N.toNat))) (i 1).val : ℝ) : EReal)
  rw [Nat.zero_add, Nat.add_zero, Nat.mod_eq_of_lt hN, show o + (i 0).val + m - N.toNat = (i 0).val + (o + (m - N.toNat)) by omega,
    Nat.mod_eq_of_lt (by omega)]

theorem ld_at {m n a b : ℕ} {off : Fin 2 → ℕ} (X : ℕ → ℕ → ℝ)
    (inb : ∀ d, off d + (![a, b] : Fin 2 → ℕ) d ≤ (⟨2, ![m, n]⟩ : Shape).size d) :
    View.ld (Val := Elt Ideal) (e' := .f32) (S := ⟨2, ![m, n]⟩) (up2 X) (Rect.unit off ![a, b] inb)
      = (up2 fun r c => X (off 0 + r) (off 1 + c) : (⟨2, ![a, b]⟩ : Shape).Idx → EReal) := by
  funext i
  have h0 := Rect.idx_unit_val (s := ⟨2, ![m, n]⟩) off ![a, b] inb i 0
  have h1 := Rect.idx_unit_val (s := ⟨2, ![m, n]⟩) off ![a, b] inb i 1
  show ((X _ _ : ℝ) : EReal) = ((X _ _ : ℝ) : EReal)
  rw [h0, h1]

variable (𝒱 : Variants) (c : Dev nD) (bd : Option 𝒱.V) (i : grid0.Coords) (arg1 : Memref sig .tc .vmem S256x1024 .f32) (harg1 : arg1.IsWhole) (arg2 : Memref sig
        .tc .vmem S256x7168 .bf16) (harg2 : arg2.IsWhole) (arg3 : Memref sig .tc .vmem S8x1024 .f32) (harg3 : arg3.IsWhole) (arg4 : Memref sig .tc
        .vmem S8x1024 .f32) (harg4 : arg4.IsWhole) (arg5 : Memref sig .tc .vmem S40x1024 .f32) (harg5 : arg5.IsWhole) (arg6 : Memref sig .tc .vmem
        S1024x1024 .bf16) (harg6 : arg6.IsWhole) (arg7 : Memref sig .tc .vmem S1024x1024 .bf16) (harg7 : arg7.IsWhole) (arg8 : Memref sig .tc .vmem
        S1024x1024 .bf16) (harg8 : arg8.IsWhole) (arg9 : Memref sig .tc .vmem S256x1024 .f32) (harg9 : arg9.IsWhole) (arg10 : Memref sig .tc .vmem
        S256x1024 .bf16) (harg10 : arg10.IsWhole) (arg11 : Memref sig .tc .vmem S256x1024 .bf16) (harg11 : arg11.IsWhole) (arg12 : Memref sig .tc .vmem
        S256x1024 .bf16) (harg12 : arg12.IsWhole) (arg13 : Memref sig .tc .vmem S256x1024 .bf16) (harg13 : arg13.IsWhole) (arg14 : Memref sig .tc .vmem
        S256x1024 .bf16) (harg14 : arg14.IsWhole) (arg15 : Memref sig .tc .vmem S256x1024 .bf16) (harg15 : arg15.IsWhole) (arg16 : Memref sig .tc .vmem
        S256x1024 .bf16) (harg16 : arg16.IsWhole) (arg17 : Memref sig .tc .vmem S256x1024 .bf16) (harg17 : arg17.IsWhole) (arg18 : Memref sig .tc .vmem
        S3x256x1024 .bf16) (harg18 : arg18.IsWhole) (arg19 : Memref sig .tc .vmem S256x1 .f32) (harg19 : arg19.IsWhole) (arg20 : Memref sig .tc .vmem
        S264x1024 .f32) (harg20 : arg20.IsWhole) (arg21 : Memref sig .tc .vmem S288x1024 .f32) (harg21 : arg21.IsWhole) (arg22 : Memref sig .tc .vmem
        S256x1024 .f32) (harg22 : arg22.IsWhole) (arg23 : Memref sig .tc .vmem S256x1024 .f32) (harg23 : arg23.IsWhole)
  (T E : ℕ → ℕ → ℝ)

theorem trip1_pieces (X_arg5 : BufTy.Contents (Elt Ideal) arg5.view.ty) (X_arg20 : BufTy.Contents (Elt Ideal) arg20.view.ty) (k : Fin k0_t1_loop.trips)
    (h5 : arg5.view.read (Elt Ideal) X_arg5 = up2 T)
    (hs : arg20.view.read (Elt Ideal) X_arg20 = up2 E) :
    ∀ p ∈ tripL_k0_t1 (F := Ideal)
      𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        X_arg5 X_arg20 k,
      p.2 = View.ld (up2 (tapsS 3 T fun r => E (r + 6))) p.1 := by
  unfold tripL_k0_t1 trip_k0_t1
  dsimp only
  sl_unfold_run_names
  simp only [View.readAt_eq_ld, h5, hs]
  clear h5 hs
  simp only [List.forall_mem_cons, List.not_mem_nil, false_implies, implies_true, and_true, ld_at]
  simp only [k0_pay4, k0_pay5, k0_pay6, k0_pay7, k0_pay8, k0_pay9, k0_pay10, k0_pay11, k0_pay12, k0_pay13, k0_pay14, k0_pay108, k0_pay109]
  simp (disch := decide) only [shapeCast_self, slice_rotate, slice_up2, broadcastTo_row, mulf_up2, addf_up2,
    k0_off1_eq, k0_off2_eq, k0_off3_eq, k0_off4_eq, k0_off5_eq, k0_off6_eq, k0_off7_eq, k0_off8_eq, k0_off9_eq, k0_off10_eq, k0_off11_eq, k0_off12_eq,
        k0_off13_eq, k0_off14_eq, k0_off15_eq, k0_off16_eq, Matrix.cons_val_zero, Matrix.cons_val_one,
    tapsS, Finset.sum_range_succ, Finset.sum_range_zero, BitVec.reduceToNat, Nat.reduceSub,
    Nat.add_assoc, Nat.reduceAdd, Nat.add_zero, Nat.zero_add]
  clear * -
  refine ⟨?_, ?_, ?_, ?_, ?_, ?_, ?_, ?_⟩
  all_goals (refine congrArg up2 (funext fun r => funext fun c => ?_); ring)

theorem trips1_pieces (X_arg5 : BufTy.Contents (Elt Ideal) arg5.view.ty) (X_arg20 : BufTy.Contents (Elt Ideal) arg20.view.ty)
    (h5 : arg5.view.read (Elt Ideal) X_arg5 = up2 T)
    (hs : arg20.view.read (Elt Ideal) X_arg20 = up2 E) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg20 n,
      p.2 = View.ld (up2 (tapsS 3 T fun r => E (r + 6))) p.1 := by
  intro n
  induction n with
  | zero => intro _ p hp; rw [pb_k0_t1.eq_1] at hp; exact absurd hp List.not_mem_nil
  | succ k ih =>
    intro hk p hp
    rw [pb_k0_t1_succ 𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        X_arg5 X_arg20 ⟨k, hk⟩] at hp
    rcases List.mem_append.mp hp with h | h
    · exact trip1_pieces 𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        T E X_arg5 X_arg20 ⟨k, hk⟩ h5 hs p h
    · exact ih (Nat.le_of_succ_le hk) p h

/-- What the loop leaves. -/
theorem conv1_canon (X_arg5 : BufTy.Contents (Elt Ideal) arg5.view.ty) (X_arg20 : BufTy.Contents (Elt Ideal) arg20.view.ty)
    (h5 : arg5.view.read (Elt Ideal) X_arg5 = up2 T)
    (hs : arg20.view.read (Elt Ideal) X_arg20 = up2 E) :
    View.canon (pb_k0_t1 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg20 (Scf.trips k0_t1_loop.lb k0_t1_loop.ub k0_t1_loop.st))
      = (up2 (tapsS 3 T fun r => E (r + 6)) : S256x1024.Idx → EReal) :=
  canon_of_pieces (up2 (tapsS 3 T fun r => E (r + 6))) (pb_k0_t1 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg20 (Scf.trips k0_t1_loop.lb k0_t1_loop.ub k0_t1_loop.st))
    (trips1_pieces 𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        T E X_arg5 X_arg20 h5 hs _ le_rfl)
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg20 (Scf.trips k0_t1_loop.lb k0_t1_loop.ub k0_t1_loop.st))
      S64x128.size (by sl_kernel_rfl))

/-- The same read back through any rectangle. -/
theorem conv1_read (X_arg5 : BufTy.Contents (Elt Ideal) arg5.view.ty) (X_arg20 : BufTy.Contents (Elt Ideal) arg20.view.ty)
    (h5 : arg5.view.read (Elt Ideal) X_arg5 = up2 T)
    (hs : arg20.view.read (Elt Ideal) X_arg20 = up2 E) (r : Rect S256x1024) :
    arg22.view.readCov (pb_k0_t1 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg20 (Scf.trips k0_t1_loop.lb k0_t1_loop.ub k0_t1_loop.st)) r.toLoadRect
      = View.ld (up2 (tapsS 3 T fun r => E (r + 6))) r := by
  rw [View.readCov_eq_canon']
  funext j
  exact congrFun (conv1_canon 𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        T E X_arg5 X_arg20 h5 hs) (r.idx j)

theorem trip2_pieces (X_arg5 : BufTy.Contents (Elt Ideal) arg5.view.ty) (X_arg21 : BufTy.Contents (Elt Ideal) arg21.view.ty) (k : Fin k0_t2_loop.trips)
    (h5 : arg5.view.read (Elt Ideal) X_arg5 = up2 T)
    (hs : arg21.view.read (Elt Ideal) X_arg21 = up2 E) :
    ∀ p ∈ tripL_k0_t2 (F := Ideal)
      𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        X_arg5 X_arg21 k,
      p.2 = View.ld (up2 (tapsS 31 (fun i => T (8 + i)) fun r => E (r + 2))) p.1 := by
  unfold tripL_k0_t2 trip_k0_t2
  dsimp only
  sl_unfold_run_names
  simp only [View.readAt_eq_ld, h5, hs]
  clear h5 hs
  simp only [List.forall_mem_cons, List.not_mem_nil, false_implies, implies_true, and_true, ld_at]
  simp only [k0_pay15, k0_pay16, k0_pay17, k0_pay18, k0_pay19, k0_pay20, k0_pay21, k0_pay22, k0_pay23, k0_pay24, k0_pay25, k0_pay26, k0_pay27, k0_pay28, k0_pay29,
        k0_pay30, k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84, k0_pay85,
        k0_pay86, k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay110]
  simp (disch := decide) only [shapeCast_self, slice_rotate, slice_up2, broadcastTo_row, mulf_up2, addf_up2,
    k0_off17_eq, k0_off18_eq, k0_off19_eq, k0_off20_eq, k0_off21_eq, k0_off22_eq, k0_off23_eq, k0_off24_eq, k0_off25_eq, k0_off26_eq, k0_off27_eq,
        k0_off28_eq, k0_off29_eq, k0_off30_eq, k0_off31_eq, k0_off32_eq, Matrix.cons_val_zero, Matrix.cons_val_one,
    tapsS, Finset.sum_range_succ, Finset.sum_range_zero, BitVec.reduceToNat, Nat.reduceSub,
    Nat.add_assoc, Nat.reduceAdd, Nat.add_zero, Nat.zero_add]
  clear * -
  refine ⟨?_, ?_, ?_, ?_, ?_, ?_, ?_, ?_⟩
  all_goals (refine congrArg up2 (funext fun r => funext fun c => ?_); ring)

theorem trips2_pieces (X_arg5 : BufTy.Contents (Elt Ideal) arg5.view.ty) (X_arg21 : BufTy.Contents (Elt Ideal) arg21.view.ty)
    (h5 : arg5.view.read (Elt Ideal) X_arg5 = up2 T)
    (hs : arg21.view.read (Elt Ideal) X_arg21 = up2 E) :
    ∀ n, n ≤ k0_t2_loop.trips → ∀ p ∈ pb_k0_t2 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg21 n,
      p.2 = View.ld (up2 (tapsS 31 (fun i => T (8 + i)) fun r => E (r + 2))) p.1 := by
  intro n
  induction n with
  | zero => intro _ p hp; rw [pb_k0_t2.eq_1] at hp; exact absurd hp List.not_mem_nil
  | succ k ih =>
    intro hk p hp
    rw [pb_k0_t2_succ 𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        X_arg5 X_arg21 ⟨k, hk⟩] at hp
    rcases List.mem_append.mp hp with h | h
    · exact trip2_pieces 𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        T E X_arg5 X_arg21 ⟨k, hk⟩ h5 hs p h
    · exact ih (Nat.le_of_succ_le hk) p h

/-- What the loop leaves. -/
theorem conv2_canon (X_arg5 : BufTy.Contents (Elt Ideal) arg5.view.ty) (X_arg21 : BufTy.Contents (Elt Ideal) arg21.view.ty)
    (h5 : arg5.view.read (Elt Ideal) X_arg5 = up2 T)
    (hs : arg21.view.read (Elt Ideal) X_arg21 = up2 E) :
    View.canon (pb_k0_t2 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg21 (Scf.trips k0_t2_loop.lb k0_t2_loop.ub k0_t2_loop.st))
      = (up2 (tapsS 31 (fun i => T (8 + i)) fun r => E (r + 2)) : S256x1024.Idx → EReal) :=
  canon_of_pieces (up2 (tapsS 31 (fun i => T (8 + i)) fun r => E (r + 2))) (pb_k0_t2 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg21 (Scf.trips k0_t2_loop.lb k0_t2_loop.ub k0_t2_loop.st))
    (trips2_pieces 𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        T E X_arg5 X_arg21 h5 hs _ le_rfl)
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg21 (Scf.trips k0_t2_loop.lb k0_t2_loop.ub k0_t2_loop.st))
      S64x128.size (by sl_kernel_rfl))

/-- The same read back through any rectangle. -/
theorem conv2_read (X_arg5 : BufTy.Contents (Elt Ideal) arg5.view.ty) (X_arg21 : BufTy.Contents (Elt Ideal) arg21.view.ty)
    (h5 : arg5.view.read (Elt Ideal) X_arg5 = up2 T)
    (hs : arg21.view.read (Elt Ideal) X_arg21 = up2 E) (r : Rect S256x1024) :
    arg23.view.readCov (pb_k0_t2 (F := Ideal) 𝒱 c bd i arg1 harg1 arg2 harg2 arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20 harg20 arg21 harg21 arg22
        harg22 arg23 harg23 X_arg5 X_arg21 (Scf.trips k0_t2_loop.lb k0_t2_loop.ub k0_t2_loop.st)) r.toLoadRect
      = View.ld (up2 (tapsS 31 (fun i => T (8 + i)) fun r => E (r + 2))) r := by
  rw [View.readCov_eq_canon']
  funext j
  exact congrFun (conv2_canon 𝒱 c bd i arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        T E X_arg5 X_arg21 h5 hs) (r.idx j)

end Cert.Kernel4Ideal.Mix
end
-- ==== Proof.Mix.Points.lean ====
/-
  What one grid point leaves in each window and scratch buffer, over the reals.
-/
module

public import proofs.«01_k».proof.Proof.Gen.Kernel4Ideal.Value
public import proofs.«01_k».proof.Proof.Mix.Pay
public import proofs.«01_k».proof.Proof.Mix.Conv
public import Idealize.ShloMosaic.Lib.Tactic

@[expose] public section

set_option maxRecDepth 16384
noncomputable section
open scoped BigOperators
namespace Cert.Kernel4Ideal.Mix
open Cert.Kernel4Ideal Cert.Kernel4Ideal.Gen Idealize.ShloMosaic Idealize.ShloMosaic.TcCoe Idealize.SL.Sem Cert.Lift Cert.Mix

set_option maxHeartbeats 1000000

/-- Rows with `k` earlier rows before them. -/
def extS (k : ℕ) (H U : ℕ → ℕ → ℝ) (r c : ℕ) : ℝ := if r < k then H r c else U (r - k) c
/-- The same after the last `k` rows have been copied to the front for the next point. -/
def carryS (k : ℕ) (U : ℕ → ℕ → ℝ) (r c : ℕ) : ℝ := if r < k then U (256 + r - k) c else U (r - k) c
/-- The short convolution on a tile, the eight rows before it being `H`. -/
def c3S (T H Y : ℕ → ℕ → ℝ) : ℕ → ℕ → ℝ := tapsS 3 T fun r => extS 8 H (fun r => cvS (Y r)) (r + 6)
/-- The long convolution on a tile, the thirty-two rows before it being `H`. -/
def c31S (T H Y : ℕ → ℕ → ℝ) : ℕ → ℕ → ℝ := tapsS 31 (fun i => T (8 + i)) fun r => extS 32 H (fun r => glS (Y r)) (r + 2)
/-- What the weights' gradients need of a tile: the left factors of the three products. -/
def lhsS (P Y V W : ℕ → ℕ → ℝ) (WA WB : ℕ → ℕ → ℝ) (k r : ℕ) : ℕ → ℝ :=
  if k < 1 then shortS (Y r) (V r) else if k < 2 then longS (P 4) (P 5) (normS (P 3) (W r)) else mgS WA WB P (Y r) (V r) (W r)

theorem zero0 : k0_pay102 (F := Ideal) = up2 fun _ _ => 0 := by
  unfold k0_pay102; simp only [shapeCast_self, scalar_zero, broadcast_up2]
theorem zero1 : k0_pay103 (F := Ideal) = up2 fun _ _ => 0 := by
  unfold k0_pay103; simp only [shapeCast_self, scalar_zero, broadcast_up2]
theorem id123 (x : Vec Ideal S1024x1024 .bf16) : k0_pay123 (F := Ideal) x = x := shapeCast_self _ _
theorem id132 (x : Vec Ideal S1024x1024 .bf16) : k0_pay132 (F := Ideal) x = x := shapeCast_self _ _

/-- A row of a block of whole rows lies in it. -/
theorem mem_rows {m n o k : ℕ} (inb : ∀ d, (![o, 0] : Fin 2 → ℕ) d + (![k, n] : Fin 2 → ℕ) d ≤ (⟨2, ![m, n]⟩ : Shape).size d)
    (y : (⟨2, ![m, n]⟩ : Shape).Idx) (h : o ≤ (y 0).val ∧ (y 0).val < o + k) : y ∈ (Rect.unit (s := ⟨2, ![m, n]⟩) ![o, 0] ![k, n] inb).set := by
  rw [Rect.mem_set_unit]
  intro d
  match d with
  | ⟨0, _⟩ => exact h
  | ⟨1, _⟩ => exact ⟨Nat.zero_le _, by show (y 1).val < 0 + n; have : (y 1).val < n := (y 1).isLt; omega⟩

theorem ld_up3 {l m n a b k o p q : ℕ} (X : ℕ → ℕ → ℕ → ℝ)
    (inb : ∀ d, (![o, p, q] : Fin 3 → ℕ) d + (![k, a, b] : Fin 3 → ℕ) d ≤ (⟨3, ![l, m, n]⟩ : Shape).size d) :
    View.ld (Val := Elt Ideal) (e' := .bf16) (S := ⟨3, ![l, m, n]⟩) (up3 X) (Rect.unit ![o, p, q] ![k, a, b] inb)
      = (up3 fun e r c => X (o + e) (p + r) (q + c) : (⟨3, ![k, a, b]⟩ : Shape).Idx → EReal) := by
  funext i
  have h0 := Rect.idx_unit_val (s := ⟨3, ![l, m, n]⟩) ![o, p, q] ![k, a, b] inb i 0
  have h1 := Rect.idx_unit_val (s := ⟨3, ![l, m, n]⟩) ![o, p, q] ![k, a, b] inb i 1
  have h2 := Rect.idx_unit_val (s := ⟨3, ![l, m, n]⟩) ![o, p, q] ![k, a, b] inb i 2
  show ((X _ _ _ : ℝ) : EReal) = _
  rw [h0, h1, h2]
  rfl

/-- A stacked tile is one of its members. -/
theorem member {a b : ℕ} (X : ℕ → ℕ → ℝ) (Y : ℕ → ℕ → ℕ → ℝ) (h : ∀ r c, Y 0 r c = X r c) :
    (up3 fun _ r c => X r c : (⟨3, ![1, a, b]⟩ : Shape).Idx → EReal) = up3 Y := by
  funext i
  have h0 : (i 0).val = 0 := by have h : (i 0).val < 1 := (i 0).isLt; omega
  show ((X (i 1).val (i 2).val : ℝ) : EReal) = ((Y (i 0).val (i 1).val (i 2).val : ℝ) : EReal)
  rw [h0, h]

/-- The payloads, each at real arrays. -/
def pays := And.intro @pay1_eq <| And.intro @pay2_eq <| And.intro @pay3_eq <| And.intro @pay104_eq <| And.intro @pay105_eq <| And.intro @pay106_eq <| And.intro @pay107_eq <| And.intro @pay111_eq <| And.intro @pay112_eq <| And.intro @pay113_eq <| And.intro @pay114_eq <| And.intro @pay115_eq <| And.intro @pay116_eq <| And.intro @pay117_eq <| And.intro @pay118_eq <| And.intro @pay119_eq <| And.intro @pay120_eq <| And.intro @pay121_eq <| And.intro @pay122_eq <| And.intro @pay124_eq <| And.intro @pay125_eq <| And.intro @pay126_eq <| And.intro @pay127_eq <| And.intro @pay128_eq <| And.intro @pay129_eq <| And.intro @pay130_eq <| @pay131_eq

section
variable (c : Dev nD) (i : grid0.Coords) (arg1 : Memref sig .tc .vmem S256x1024 .f32) (harg1 : arg1.IsWhole) (arg2 : Memref sig .tc .vmem S256x7168 .bf16) (harg2 : arg2.IsWhole) (arg3 : Memref sig .tc .vmem S8x1024 .f32) (harg3 : arg3.IsWhole) (arg4 : Memref sig .tc .vmem S8x1024 .f32) (harg4 : arg4.IsWhole) (arg5 : Memref sig .tc .vmem S40x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S3x256x1024 .bf16) (harg18 : arg18.IsWhole) (arg19 : Memref sig .tc .vmem S256x1 .f32) (harg19 : arg19.IsWhole) (arg20 : Memref sig .tc .vmem S264x1024 .f32) (harg20 : arg20.IsWhole) (arg21 : Memref sig .tc .vmem S288x1024 .f32) (harg21 : arg21.IsWhole) (arg22 : Memref sig .tc .vmem S256x1024 .f32) (harg22 : arg22.IsWhole) (arg23 : Memref sig .tc .vmem S256x1024 .f32) (harg23 : arg23.IsWhole) (hc0 : cond0_0 i)  (X Y M P T WA WB WO S U : ℕ → ℕ → ℝ) (x3 : (⟨2, ![8, 1024]⟩ : Shape).Idx → EReal)

theorem ext0_A : arg20.view.read (Elt Ideal) (arg20.view.writes (Elt Ideal) arg20.view.junk
    [⟨Rect.unit ![8, 0] ![256, 1024] inb_S264x1024_S256x1024_8_0, k0_pay104 (F := Ideal) (View.ld (Val := Elt Ideal) (e' := .bf16) (up2 Y) (Rect.unit ![0, 1024] ![256, 1024] inb_S256x7168_S256x1024_0_1024)) (View.ld (Val := Elt Ideal) (e' := .bf16) (up2 Y) (Rect.unit ![0, 2048] ![256, 1024] inb_S256x7168_S256x1024_0_2048))⟩,
      ⟨Rect.unit ![0, 0] ![8, 1024] inb_S264x1024_S8x1024_0_0, k0_pay102 (F := Ideal)⟩])
    = up2 (extS 8 (fun _ _ => 0) fun r => cvS (Y r)) := by
  refine read_writes_of_pieces _ _ _ _ ?_ ?_
  · simp only [ld_up2_f32, ld_up2_bf16, pay104_eq, pay107_eq, zero0, List.forall_mem_cons, List.not_mem_nil, false_imp_iff, implies_true, and_true]
    constructor
    · exact up2_congr fun r c _ _ => by
        rw [extS, if_neg (by omega), Nat.add_sub_cancel_left, Nat.zero_add, Nat.zero_add]; rfl
    · exact up2_congr fun r c hr _ => by
        rw [extS, if_pos (by omega)]
  · intro y hy
    simp only [List.forall_mem_cons, List.not_mem_nil, false_imp_iff, implies_true, and_true] at hy
    have hy0 : (y 0).val < 264 := (y 0).isLt
    rcases Nat.lt_or_ge (y 0).val 8 with h | h
    · exact absurd (mem_rows _ y ⟨by omega, by omega⟩) hy.2
    · exact absurd (mem_rows _ y ⟨by omega, by omega⟩) hy.1

theorem c3_A (r : Rect S256x1024) : arg22.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg5.unread (up2 T))
    (arg20.view.writes (Elt Ideal) arg20.view.junk
    [⟨Rect.unit ![8, 0] ![256, 1024] inb_S264x1024_S256x1024_8_0, k0_pay104 (F := Ideal) (View.ld (Val := Elt Ideal) (e' := .bf16) (up2 Y) (Rect.unit ![0, 1024] ![256, 1024] inb_S256x7168_S256x1024_0_1024)) (View.ld (Val := Elt Ideal) (e' := .bf16) (up2 Y) (Rect.unit ![0, 2048] ![256, 1024] inb_S256x7168_S256x1024_0_2048))⟩,
      ⟨Rect.unit ![0, 0] ![8, 1024] inb_S264x1024_S8x1024_0_0, k0_pay102 (F := Ideal)⟩]) (Scf.trips (0#32) (Scalar.addi 0#32 4#32) 1#32)) r.toLoadRect
    = View.ld (Val := Elt Ideal) (up2 (c3S T (fun _ _ => 0) Y)) r :=
  conv1_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 T _ _ _ (harg5.read_unread _) (ext0_A ..) r

theorem ext1_A : arg21.view.read (Elt Ideal) (arg21.view.writes (Elt Ideal) arg21.view.junk
    [⟨Rect.unit ![32, 0] ![256, 1024] inb_S288x1024_S256x1024_32_0, k0_pay107 (F := Ideal) (View.ld (Val := Elt Ideal) (e' := .bf16) (up2 Y) (Rect.unit ![0, 4096] ![256, 1024] inb_S256x7168_S256x1024_0_4096)) (View.ld (Val := Elt Ideal) (e' := .bf16) (up2 Y) (Rect.unit ![0, 3072] ![256, 1024] inb_S256x7168_S256x1024_0_3072))⟩,
      ⟨Rect.unit ![0, 0] ![32, 1024] inb_S288x1024_S32x1024_0_0, k0_pay103 (F := Ideal)⟩])
    = up2 (extS 32 (fun _ _ => 0) fun r => glS (Y r)) := by
  refine read_writes_of_pieces _ _ _ _ ?_ ?_
  · simp only [ld_up2_f32, ld_up2_bf16, pay104_eq, pay107_eq, zero1, List.forall_mem_cons, List.not_mem_nil, false_imp_iff, implies_true, and_true]
    constructor
    · exact up2_congr fun r c _ _ => by
        rw [extS, if_neg (by omega), Nat.add_sub_cancel_left, Nat.zero_add, Nat.zero_add]; rfl
    · exact up2_congr fun r c hr _ => by
        rw [extS, if_pos (by omega)]
  · intro y hy
    simp only [List.forall_mem_cons, List.not_mem_nil, false_imp_iff, implies_true, and_true] at hy
    have hy0 : (y 0).val < 288 := (y 0).isLt
    rcases Nat.lt_or_ge (y 0).val 32 with h | h
    · exact absurd (mem_rows _ y ⟨by omega, by omega⟩) hy.2
    · exact absurd (mem_rows _ y ⟨by omega, by omega⟩) hy.1

theorem c31_A (r : Rect S256x1024) : arg23.view.readCov (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg5.unread (up2 T))
    (arg21.view.writes (Elt Ideal) arg21.view.junk
    [⟨Rect.unit ![32, 0] ![256, 1024] inb_S288x1024_S256x1024_32_0, k0_pay107 (F := Ideal) (View.ld (Val := Elt Ideal) (e' := .bf16) (up2 Y) (Rect.unit ![0, 4096] ![256, 1024] inb_S256x7168_S256x1024_0_4096)) (View.ld (Val := Elt Ideal) (e' := .bf16) (up2 Y) (Rect.unit ![0, 3072] ![256, 1024] inb_S256x7168_S256x1024_0_3072))⟩,
      ⟨Rect.unit ![0, 0] ![32, 1024] inb_S288x1024_S32x1024_0_0, k0_pay103 (F := Ideal)⟩]) (Scf.trips (0#32) (Scalar.addi 0#32 4#32) 1#32)) r.toLoadRect
    = View.ld (Val := Elt Ideal) (up2 (c31S T (fun _ _ => 0) Y)) r :=
  conv2_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 T _ _ _ (harg5.read_unread _) (ext1_A ..) r

theorem out0_A_8_eq (h3 : RowIs x3 3 (P 3)) (h4 : RowIs x3 4 (P 4)) (h5 : RowIs x3 5 (P 5)) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r j => X r j + M 2 j * mixS WA WB WO P (Y r) (c3S T (fun _ _ => 0) Y r) (c31S T (fun _ _ => 0) Y r) j := by
  unfold out0_A_8
  rw [View.read_writes_eq_canon _ _ _ (by intro y; apply cover0_A_8)]
  unfold kernelRun0_A
  dsimp only
  sl_unfold_run_names
  simp only [View.readAt_eq_ld, Memref.IsWhole.read_unread]
  rw [c3_A]
  rw [c31_A]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_A_9_eq (h3 : RowIs x3 3 (P 3)) (h4 : RowIs x3 4 (P 4)) (h5 : RowIs x3 5 (P 5)) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r => yaS WA (Y r) (c3S T (fun _ _ => 0) Y r) := by
  unfold out0_A_9
  rw [View.read_writes_eq_canon _ _ _ (by intro y; apply cover0_A_9)]
  unfold kernelRun0_A
  dsimp only
  sl_unfold_run_names
  simp only [View.readAt_eq_ld, Memref.IsWhole.read_unread]
  rw [c3_A]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_A_10_eq (h3 : RowIs x3 3 (P 3)) (h4 : RowIs x3 4 (P 4)) (h5 : RowIs x3 5 (P 5)) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r => ybS WB P (c31S T (fun _ _ => 0) Y r) := by
  unfold out0_A_10
  rw [View.read_writes_eq_canon _ _ _ (by intro y; apply cover0_A_10)]
  unfold kernelRun0_A
  dsimp only
  sl_unfold_run_names
  simp only [View.readAt_eq_ld, Memref.IsWhole.read_unread]
  rw [c31_A]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_A_11_eq (h3 : RowIs x3 3 (P 3)) (h4 : RowIs x3 4 (P 4)) (h5 : RowIs x3 5 (P 5)) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r => mixS WA WB WO P (Y r) (c3S T (fun _ _ => 0) Y r) (c31S T (fun _ _ => 0) Y r) := by
  unfold out0_A_11
  rw [View.read_writes_eq_canon _ _ _ (by intro y; apply cover0_A_11)]
  unfold kernelRun0_A
  dsimp only
  sl_unfold_run_names
  simp only [View.readAt_eq_ld, Memref.IsWhole.read_unread]
  rw [c3_A]
  rw [c31_A]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_A_12_eq (h3 : RowIs x3 3 (P 3)) (h4 : RowIs x3 4 (P 4)) (h5 : RowIs x3 5 (P 5)) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r => normS (P 3) (c31S T (fun _ _ => 0) Y r) := by
  unfold out0_A_12
  rw [View.read_writes_eq_canon _ _ _ (by intro y; apply cover0_A_12)]
  unfold kernelRun0_A
  dsimp only
  sl_unfold_run_names
  simp only [View.readAt_eq_ld, Memref.IsWhole.read_unread]
  rw [c31_A]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_A_13_eq (h3 : RowIs x3 3 (P 3)) (h4 : RowIs x3 4 (P 4)) (h5 : RowIs x3 5 (P 5)) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 (c3S T (fun _ _ => 0) Y) := by
  unfold out0_A_13
  rw [View.read_writes_eq_canon _ _ _ (by intro y; apply cover0_A_13)]
  unfold kernelRun0_A
  dsimp only
  sl_unfold_run_names
  simp only [View.readAt_eq_ld, Memref.IsWhole.read_unread]
  rw [c3_A]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem out0_A_14_eq (h3 : RowIs x3 3 (P 3)) (h4 : RowIs x3 4 (P 4)) (h5 : RowIs x3 5 (P 5)) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r j => sg (Y r (4096 + j)) := by
  unfold out0_A_14
  rw [View.read_writes_eq_canon _ _ _ (by intro y; apply cover0_A_14)]
  unfold kernelRun0_A
  dsimp only
  sl_unfold_run_names
  simp only [View.readAt_eq_ld, Memref.IsWhole.read_unread]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem out0_A_15_eq (h3 : RowIs x3 3 (P 3)) (h4 : RowIs x3 4 (P 4)) (h5 : RowIs x3 5 (P 5)) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r j => sg (Y r (5120 + j)) := by
  unfold out0_A_15
  rw [View.read_writes_eq_canon _ _ _ (by intro y; apply cover0_A_15)]
  unfold kernelRun0_A
  dsimp only
  sl_unfold_run_names
  simp only [View.readAt_eq_ld, Memref.IsWhole.read_unread]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem out0_A_16_eq (h3 : RowIs x3 3 (P 3)) (h4 : RowIs x3 4 (P 4)) (h5 : RowIs x3 5 (P 5)) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r j => sg (Y r (6144 + j)) := by
  unfold out0_A_16
  rw [View.read_writes_eq_canon _ _ _ (by intro y; apply cover0_A_16)]
  unfold kernelRun0_A
  dsimp only
  sl_unfold_run_names
  simp only [View.readAt_eq_ld, Memref.IsWhole.read_unread]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem out0_A_17_eq (h3 : RowIs x3 3 (P 3)) (h4 : RowIs x3 4 (P 4)) (h5 : RowIs x3 5 (P 5)) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up3 (lhsS P Y (c3S T (fun _ _ => 0) Y) (c31S T (fun _ _ => 0) Y) WA WB) := by
  unfold out0_A_17
  rw [View.read_writes_eq_canon _ _ _ (by intro y; apply cover0_A_17)]
  rw [canon_of_pieces (Val := Elt Ideal) (up3 (lhsS P Y (c3S T (fun _ _ => 0) Y) (c31S T (fun _ _ => 0) Y) WA WB)) _ ?_ (by intro y; apply cover0_A_17)]
  unfold kernelRun0_A
  dsimp only
  sl_unfold_run_names
  simp only [View.readAt_eq_ld, Memref.IsWhole.read_unread]
  rw [c3_A]
  rw [c31_A]
  try simp (disch := first | rfl | decide) only [View.readCov_cons_toLoadRect, View.readCov_skip, View.readCov_fill]
  simp only [constant_zero_up2, id132, id123, ld_row (P := P) h3, ld_row (P := P) h4, ld_row (P := P) h5, ld_up2_f32, ld_up2_bf16, zero_add, Nat.zero_add, Nat.add_zero, pays, ld_up3, List.forall_mem_cons, List.not_mem_nil, false_imp_iff, implies_true, and_true]
  exact ⟨member _ _ fun _ _ => rfl, member _ _ fun _ _ => rfl, member _ _ fun _ _ => rfl⟩

theorem out0_A_18_eq (h3 : RowIs x3 3 (P 3)) (h4 : RowIs x3 4 (P 4)) (h5 : RowIs x3 5 (P 5)) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 fun r _ => isdS (ctrS fun c => (c31S T (fun _ _ => 0) Y r) c + P 3 c) := by
  unfold out0_A_18
  rw [View.read_writes_eq_canon _ _ _ (by intro y; apply cover0_A_18)]
  unfold kernelRun0_A
  dsimp only
  sl_unfold_run_names
  simp only [View.readAt_eq_ld, Memref.IsWhole.read_unread]
  rw [c31_A]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem sout0_A_0_eq :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 (carryS 8 fun r => cvS (Y r)) := by
  unfold sout0_A_0
  rw [View.read_writes_eq_canon _ _ _ (by intro y; apply scover0_A_0)]
  unfold kernelRun0_A
  dsimp only
  sl_unfold_run_names
  simp only [View.readCov, View.readAt_eq_ld, Memref.IsWhole.read_unread]
  rw [ext0_A]
  refine canon_over _ [_] [_, _] ?_ ?_
  · simp only [ld_up2_f32, ld_up2_bf16, pay104_eq, pay107_eq, pay111_eq, pay112_eq, List.forall_mem_cons, List.not_mem_nil, false_imp_iff, implies_true, and_true]
    constructor
    · exact up2_congr fun r c hr _ => by
        show extS _ _ _ (256 + r) (0 + c) = carryS _ _ (0 + r) (0 + c)
        rw [Nat.zero_add, Nat.zero_add, extS, carryS, if_neg (by omega), if_pos (by omega)]
    · exact up2_congr fun r c _ _ => by
        rw [carryS, if_neg (by omega), Nat.add_sub_cancel_left, Nat.zero_add, Nat.zero_add]; rfl
  · intro y hy
    simp only [List.forall_mem_cons, List.not_mem_nil, false_imp_iff, implies_true, and_true] at hy
    have hy0 : (y 0).val < 264 := (y 0).isLt
    rcases Nat.lt_or_ge (y 0).val 8 with h | h
    · exact absurd (mem_rows _ y ⟨by omega, by omega⟩) hy.1
    · exact absurd (mem_rows _ y ⟨by omega, by omega⟩) hy.2

theorem sout0_A_1_eq :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) = up2 (carryS 32 fun r => glS (Y r)) := by
  unfold sout0_A_1
  rw [View.read_writes_eq_canon _ _ _ (by intro y; apply scover0_A_1)]
  unfold kernelRun0_A
  dsimp only
  sl_unfold_run_names
  simp only [View.readCov, View.readAt_eq_ld, Memref.IsWhole.read_unread]
  rw [ext1_A]
  refine canon_over _ [_] [_, _] ?_ ?_
  · simp only [ld_up2_f32, ld_up2_bf16, pay104_eq, pay107_eq, pay111_eq, pay112_eq, List.forall_mem_cons, List.not_mem_nil, false_imp_iff, implies_true, and_true]
    constructor
    · exact up2_congr fun r c hr _ => by
        show extS _ _ _ (256 + r) (0 + c) = carryS _ _ (0 + r) (0 + c)
        rw [Nat.zero_add, Nat.zero_add, extS, carryS, if_neg (by omega), if_pos (by omega)]
    · exact up2_congr fun r c _ _ => by
        rw [carryS, if_neg (by omega), Nat.add_sub_cancel_left, Nat.zero_add, Nat.zero_add]; rfl
  · intro y hy
    simp only [List.forall_mem_cons, List.not_mem_nil, false_imp_iff, implies_true, and_true] at hy
    have hy0 : (y 0).val < 288 := (y 0).isLt
    rcases Nat.lt_or_ge (y 0).val 32 with h | h
    · exact absurd (mem_rows _ y ⟨by omega, by omega⟩) hy.1
    · exact absurd (mem_rows _ y ⟨by omega, by omega⟩) hy.2

end

section
variable (c : Dev nD) (i : grid0.Coords) (arg1 : Memref sig .tc .vmem S256x1024 .f32) (harg1 : arg1.IsWhole) (arg2 : Memref sig .tc .vmem S256x7168 .bf16) (harg2 : arg2.IsWhole) (arg3 : Memref sig .tc .vmem S8x1024 .f32) (harg3 : arg3.IsWhole) (arg4 : Memref sig .tc .vmem S8x1024 .f32) (harg4 : arg4.IsWhole) (arg5 : Memref sig .tc .vmem S40x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S3x256x1024 .bf16) (harg18 : arg18.IsWhole) (arg19 : Memref sig .tc .vmem S256x1 .f32) (harg19 : arg19.IsWhole) (arg20 : Memref sig .tc .vmem S264x1024 .f32) (harg20 : arg20.IsWhole) (arg21 : Memref sig .tc .vmem S288x1024 .f32) (harg21 : arg21.IsWhole) (arg22 : Memref sig .tc .vmem S256x1024 .f32) (harg22 : arg22.IsWhole) (arg23 : Memref sig .tc .vmem S256x1024 .f32) (harg23 : arg23.IsWhole) (hc0 : ¬cond0_0 i)  (X Y M P T WA WB WO S U : ℕ → ℕ → ℝ) (x3 : (⟨2, ![8, 1024]⟩ : Shape).Idx → EReal)

theorem ext0_B : arg20.view.read (Elt Ideal) (arg20.view.writes (Elt Ideal) (harg20.unread (up2 S))
    [⟨Rect.unit ![8, 0] ![256, 1024] inb_S264x1024_S256x1024_8_0, k0_pay104 (F := Ideal) (View.ld (Val := Elt Ideal) (e' := .bf16) (up2 Y) (Rect.unit ![0, 1024] ![256, 1024] inb_S256x7168_S256x1024_0_1024)) (View.ld (Val := Elt Ideal) (e' := .bf16) (up2 Y) (Rect.unit ![0, 2048] ![256, 1024] inb_S256x7168_S256x1024_0_2048))⟩])
    = up2 (extS 8 S fun r => cvS (Y r)) := by
  refine read_writes_of_pieces _ _ _ _ ?_ ?_
  · simp only [ld_up2_f32, ld_up2_bf16, pay104_eq, pay107_eq, List.forall_mem_cons, List.not_mem_nil, false_imp_iff, implies_true, and_true]
    exact up2_congr fun r c _ _ => by
      rw [extS, if_neg (by omega), Nat.add_sub_cancel_left, Nat.zero_add, Nat.zero_add]; rfl
  · intro y hy
    simp only [List.forall_mem_cons, List.not_mem_nil, false_imp_iff, implies_true, and_true] at hy
    rw [harg20.read_unread]
    have hy0 : (y 0).val < 264 := (y 0).isLt
    rcases Nat.lt_or_ge (y 0).val 8 with h | h
    · show _ = ((extS _ _ _ (y 0).val (y 1).val : ℝ) : EReal)
      rw [extS, if_pos h]
      rfl
    · exact absurd (mem_rows _ y ⟨by omega, by omega⟩) hy

theorem tail0_B : View.ld (arg20.view.read (Elt Ideal) (arg20.view.writes (Elt Ideal) arg20.view.junk
    [⟨Rect.unit ![8, 0] ![256, 1024] inb_S264x1024_S256x1024_8_0, k0_pay104 (F := Ideal) (View.ld (Val := Elt Ideal) (e' := .bf16) (up2 Y) (Rect.unit ![0, 1024] ![256, 1024] inb_S256x7168_S256x1024_0_1024)) (View.ld (Val := Elt Ideal) (e' := .bf16) (up2 Y) (Rect.unit ![0, 2048] ![256, 1024] inb_S256x7168_S256x1024_0_2048))⟩])) (Rect.unit ![256, 0] ![8, 1024] inb_S264x1024_S8x1024_256_0)
    = View.ld (Val := Elt Ideal) (e' := .f32) (S := ⟨2, ![264, 1024]⟩) (up2 (extS 8 (fun _ _ => 0) fun r => cvS (Y r))) (Rect.unit ![256, 0] ![8, 1024] inb_S264x1024_S8x1024_256_0) := by
  funext j
  refine read_writes_on _ _ _ _ ?_ _ ⟨_, List.mem_singleton.2 rfl, mem_rows inb_S264x1024_S256x1024_8_0 _ ?_⟩
  · simp only [ld_up2_f32, ld_up2_bf16, pay104_eq, pay107_eq, List.forall_mem_cons, List.not_mem_nil, false_imp_iff, implies_true, and_true]
    exact up2_congr fun r c _ _ => by
      rw [extS, if_neg (by omega), Nat.add_sub_cancel_left, Nat.zero_add, Nat.zero_add]; rfl
  · have h0 := Rect.idx_unit_val (s := ⟨2, ![264, 1024]⟩) ![256, 0] ![8, 1024] inb_S264x1024_S8x1024_256_0 j 0
    have hj : (j 0).val < 8 := (j 0).isLt
    rw [h0]
    show 8 ≤ 256 + (j 0).val ∧ 256 + (j 0).val < 8 + 256
    omega

theorem c3_B (r : Rect S256x1024) : arg22.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg5.unread (up2 T))
    (arg20.view.writes (Elt Ideal) (harg20.unread (up2 S))
    [⟨Rect.unit ![8, 0] ![256, 1024] inb_S264x1024_S256x1024_8_0, k0_pay104 (F := Ideal) (View.ld (Val := Elt Ideal) (e' := .bf16) (up2 Y) (Rect.unit ![0, 1024] ![256, 1024] inb_S256x7168_S256x1024_0_1024)) (View.ld (Val := Elt Ideal) (e' := .bf16) (up2 Y) (Rect.unit ![0, 2048] ![256, 1024] inb_S256x7168_S256x1024_0_2048))⟩]) (Scf.trips (0#32) (Scalar.addi 0#32 4#32) 1#32)) r.toLoadRect
    = View.ld (Val := Elt Ideal) (up2 (c3S T S Y)) r :=
  conv1_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 T _ _ _ (harg5.read_unread _) (ext0_B ..) r

theorem ext1_B : arg21.view.read (Elt Ideal) (arg21.view.writes (Elt Ideal) (harg21.unread (up2 U))
    [⟨Rect.unit ![32, 0] ![256, 1024] inb_S288x1024_S256x1024_32_0, k0_pay107 (F := Ideal) (View.ld (Val := Elt Ideal) (e' := .bf16) (up2 Y) (Rect.unit ![0, 4096] ![256, 1024] inb_S256x7168_S256x1024_0_4096)) (View.ld (Val := Elt Ideal) (e' := .bf16) (up2 Y) (Rect.unit ![0, 3072] ![256, 1024] inb_S256x7168_S256x1024_0_3072))⟩])
    = up2 (extS 32 U fun r => glS (Y r)) := by
  refine read_writes_of_pieces _ _ _ _ ?_ ?_
  · simp only [ld_up2_f32, ld_up2_bf16, pay104_eq, pay107_eq, List.forall_mem_cons, List.not_mem_nil, false_imp_iff, implies_true, and_true]
    exact up2_congr fun r c _ _ => by
      rw [extS, if_neg (by omega), Nat.add_sub_cancel_left, Nat.zero_add, Nat.zero_add]; rfl
  · intro y hy
    simp only [List.forall_mem_cons, List.not_mem_nil, false_imp_iff, implies_true, and_true] at hy
    rw [harg21.read_unread]
    have hy0 : (y 0).val < 288 := (y 0).isLt
    rcases Nat.lt_or_ge (y 0).val 32 with h | h
    · show _ = ((extS _ _ _ (y 0).val (y 1).val : ℝ) : EReal)
      rw [extS, if_pos h]
      rfl
    · exact absurd (mem_rows _ y ⟨by omega, by omega⟩) hy

theorem tail1_B : View.ld (arg21.view.read (Elt Ideal) (arg21.view.writes (Elt Ideal) arg21.view.junk
    [⟨Rect.unit ![32, 0] ![256, 1024] inb_S288x1024_S256x1024_32_0, k0_pay107 (F := Ideal) (View.ld (Val := Elt Ideal) (e' := .bf16) (up2 Y) (Rect.unit ![0, 4096] ![256, 1024] inb_S256x7168_S256x1024_0_4096)) (View.ld (Val := Elt Ideal) (e' := .bf16) (up2 Y) (Rect.unit ![0, 3072] ![256, 1024] inb_S256x7168_S256x1024_0_3072))⟩])) (Rect.unit ![256, 0] ![32, 1024] inb_S288x1024_S32x1024_256_0)
    = View.ld (Val := Elt Ideal) (e' := .f32) (S := ⟨2, ![288, 1024]⟩) (up2 (extS 32 (fun _ _ => 0) fun r => glS (Y r))) (Rect.unit ![256, 0] ![32, 1024] inb_S288x1024_S32x1024_256_0) := by
  funext j
  refine read_writes_on _ _ _ _ ?_ _ ⟨_, List.mem_singleton.2 rfl, mem_rows inb_S288x1024_S256x1024_32_0 _ ?_⟩
  · simp only [ld_up2_f32, ld_up2_bf16, pay104_eq, pay107_eq, List.forall_mem_cons, List.not_mem_nil, false_imp_iff, implies_true, and_true]
    exact up2_congr fun r c _ _ => by
      rw [extS, if_neg (by omega), Nat.add_sub_cancel_left, Nat.zero_add, Nat.zero_add]; rfl
  · have h0 := Rect.idx_unit_val (s := ⟨2, ![288, 1024]⟩) ![256, 0] ![32, 1024] inb_S288x1024_S32x1024_256_0 j 0
    have hj : (j 0).val < 32 := (j 0).isLt
    rw [h0]
    show 32 ≤ 256 + (j 0).val ∧ 256 + (j 0).val < 32 + 256
    omega

theorem c31_B (r : Rect S256x1024) : arg23.view.readCov (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg5.unread (up2 T))
    (arg21.view.writes (Elt Ideal) (harg21.unread (up2 U))
    [⟨Rect.unit ![32, 0] ![256, 1024] inb_S288x1024_S256x1024_32_0, k0_pay107 (F := Ideal) (View.ld (Val := Elt Ideal) (e' := .bf16) (up2 Y) (Rect.unit ![0, 4096] ![256, 1024] inb_S256x7168_S256x1024_0_4096)) (View.ld (Val := Elt Ideal) (e' := .bf16) (up2 Y) (Rect.unit ![0, 3072] ![256, 1024] inb_S256x7168_S256x1024_0_3072))⟩]) (Scf.trips (0#32) (Scalar.addi 0#32 4#32) 1#32)) r.toLoadRect
    = View.ld (Val := Elt Ideal) (up2 (c31S T U Y)) r :=
  conv2_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 T _ _ _ (harg5.read_unread _) (ext1_B ..) r

theorem out0_B_8_eq (h3 : RowIs x3 3 (P 3)) (h4 : RowIs x3 4 (P 4)) (h5 : RowIs x3 5 (P 5)) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r j => X r j + M 2 j * mixS WA WB WO P (Y r) (c3S T S Y r) (c31S T U Y r) j := by
  unfold out0_B_8
  rw [View.read_writes_eq_canon _ _ _ (by intro y; apply cover0_B_8)]
  unfold kernelRun0_B
  dsimp only
  sl_unfold_run_names
  simp only [View.readAt_eq_ld, Memref.IsWhole.read_unread]
  rw [c3_B]
  rw [c31_B]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_B_9_eq (h3 : RowIs x3 3 (P 3)) (h4 : RowIs x3 4 (P 4)) (h5 : RowIs x3 5 (P 5)) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r => yaS WA (Y r) (c3S T S Y r) := by
  unfold out0_B_9
  rw [View.read_writes_eq_canon _ _ _ (by intro y; apply cover0_B_9)]
  unfold kernelRun0_B
  dsimp only
  sl_unfold_run_names
  simp only [View.readAt_eq_ld, Memref.IsWhole.read_unread]
  rw [c3_B]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_B_10_eq (h3 : RowIs x3 3 (P 3)) (h4 : RowIs x3 4 (P 4)) (h5 : RowIs x3 5 (P 5)) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r => ybS WB P (c31S T U Y r) := by
  unfold out0_B_10
  rw [View.read_writes_eq_canon _ _ _ (by intro y; apply cover0_B_10)]
  unfold kernelRun0_B
  dsimp only
  sl_unfold_run_names
  simp only [View.readAt_eq_ld, Memref.IsWhole.read_unread]
  rw [c31_B]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_B_11_eq (h3 : RowIs x3 3 (P 3)) (h4 : RowIs x3 4 (P 4)) (h5 : RowIs x3 5 (P 5)) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r => mixS WA WB WO P (Y r) (c3S T S Y r) (c31S T U Y r) := by
  unfold out0_B_11
  rw [View.read_writes_eq_canon _ _ _ (by intro y; apply cover0_B_11)]
  unfold kernelRun0_B
  dsimp only
  sl_unfold_run_names
  simp only [View.readAt_eq_ld, Memref.IsWhole.read_unread]
  rw [c3_B]
  rw [c31_B]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_B_12_eq (h3 : RowIs x3 3 (P 3)) (h4 : RowIs x3 4 (P 4)) (h5 : RowIs x3 5 (P 5)) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r => normS (P 3) (c31S T U Y r) := by
  unfold out0_B_12
  rw [View.read_writes_eq_canon _ _ _ (by intro y; apply cover0_B_12)]
  unfold kernelRun0_B
  dsimp only
  sl_unfold_run_names
  simp only [View.readAt_eq_ld, Memref.IsWhole.read_unread]
  rw [c31_B]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]
  rfl

theorem out0_B_13_eq (h3 : RowIs x3 3 (P 3)) (h4 : RowIs x3 4 (P 4)) (h5 : RowIs x3 5 (P 5)) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 (c3S T S Y) := by
  unfold out0_B_13
  rw [View.read_writes_eq_canon _ _ _ (by intro y; apply cover0_B_13)]
  unfold kernelRun0_B
  dsimp only
  sl_unfold_run_names
  simp only [View.readAt_eq_ld, Memref.IsWhole.read_unread]
  rw [c3_B]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem out0_B_14_eq (h3 : RowIs x3 3 (P 3)) (h4 : RowIs x3 4 (P 4)) (h5 : RowIs x3 5 (P 5)) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r j => sg (Y r (4096 + j)) := by
  unfold out0_B_14
  rw [View.read_writes_eq_canon _ _ _ (by intro y; apply cover0_B_14)]
  unfold kernelRun0_B
  dsimp only
  sl_unfold_run_names
  simp only [View.readAt_eq_ld, Memref.IsWhole.read_unread]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem out0_B_15_eq (h3 : RowIs x3 3 (P 3)) (h4 : RowIs x3 4 (P 4)) (h5 : RowIs x3 5 (P 5)) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r j => sg (Y r (5120 + j)) := by
  unfold out0_B_15
  rw [View.read_writes_eq_canon _ _ _ (by intro y; apply cover0_B_15)]
  unfold kernelRun0_B
  dsimp only
  sl_unfold_run_names
  simp only [View.readAt_eq_ld, Memref.IsWhole.read_unread]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem out0_B_16_eq (h3 : RowIs x3 3 (P 3)) (h4 : RowIs x3 4 (P 4)) (h5 : RowIs x3 5 (P 5)) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r j => sg (Y r (6144 + j)) := by
  unfold out0_B_16
  rw [View.read_writes_eq_canon _ _ _ (by intro y; apply cover0_B_16)]
  unfold kernelRun0_B
  dsimp only
  sl_unfold_run_names
  simp only [View.readAt_eq_ld, Memref.IsWhole.read_unread]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem out0_B_17_eq (h3 : RowIs x3 3 (P 3)) (h4 : RowIs x3 4 (P 4)) (h5 : RowIs x3 5 (P 5)) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up3 (lhsS P Y (c3S T S Y) (c31S T U Y) WA WB) := by
  unfold out0_B_17
  rw [View.read_writes_eq_canon _ _ _ (by intro y; apply cover0_B_17)]
  rw [canon_of_pieces (Val := Elt Ideal) (up3 (lhsS P Y (c3S T S Y) (c31S T U Y) WA WB)) _ ?_ (by intro y; apply cover0_B_17)]
  unfold kernelRun0_B
  dsimp only
  sl_unfold_run_names
  simp only [View.readAt_eq_ld, Memref.IsWhole.read_unread]
  rw [c3_B]
  rw [c31_B]
  try simp (disch := first | rfl | decide) only [View.readCov_cons_toLoadRect, View.readCov_skip, View.readCov_fill]
  simp only [constant_zero_up2, id132, id123, ld_row (P := P) h3, ld_row (P := P) h4, ld_row (P := P) h5, ld_up2_f32, ld_up2_bf16, zero_add, Nat.zero_add, Nat.add_zero, pays, ld_up3, List.forall_mem_cons, List.not_mem_nil, false_imp_iff, implies_true, and_true]
  exact ⟨member _ _ fun _ _ => rfl, member _ _ fun _ _ => rfl, member _ _ fun _ _ => rfl⟩

theorem out0_B_18_eq (h3 : RowIs x3 3 (P 3)) (h4 : RowIs x3 4 (P 4)) (h5 : RowIs x3 5 (P 5)) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 fun r _ => isdS (ctrS fun c => (c31S T U Y r) c + P 3 c) := by
  unfold out0_B_18
  rw [View.read_writes_eq_canon _ _ _ (by intro y; apply cover0_B_18)]
  unfold kernelRun0_B
  dsimp only
  sl_unfold_run_names
  simp only [View.readAt_eq_ld, Memref.IsWhole.read_unread]
  rw [c31_B]
  try simp (disch := first | rfl | decide) only [View.readCov_cons_toLoadRect, View.readCov_skip, View.readCov_fill]
  rw [View.canon_unit_zero hz]
  simp only [constant_zero_up2, id132, id123, ld_row (P := P) h3, ld_row (P := P) h4, ld_row (P := P) h5, ld_up2_f32, ld_up2_bf16, zero_add, Nat.zero_add, Nat.add_zero, pays]

theorem sout0_B_0_eq :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 (carryS 8 fun r => cvS (Y r)) := by
  unfold sout0_B_0
  unfold kernelRun0_B
  dsimp only
  sl_unfold_run_names
  simp only [View.readCov, View.readAt_eq_ld, Memref.IsWhole.read_unread]
  rw [tail0_B]
  refine read_writes_of_pieces _ _ _ _ ?_ ?_
  · simp only [ld_up2_f32, ld_up2_bf16, pay104_eq, pay107_eq, pay111_eq, pay112_eq, List.forall_mem_cons, List.not_mem_nil, false_imp_iff, implies_true, and_true]
    constructor
    · exact up2_congr fun r c hr _ => by
        show extS _ _ _ (256 + r) (0 + c) = carryS _ _ (0 + r) (0 + c)
        rw [Nat.zero_add, Nat.zero_add, extS, carryS, if_neg (by omega), if_pos (by omega)]
    · exact up2_congr fun r c _ _ => by
        rw [carryS, if_neg (by omega), Nat.add_sub_cancel_left, Nat.zero_add, Nat.zero_add]; rfl
  · intro y hy
    simp only [List.forall_mem_cons, List.not_mem_nil, false_imp_iff, implies_true, and_true] at hy
    have hy0 : (y 0).val < 264 := (y 0).isLt
    rcases Nat.lt_or_ge (y 0).val 8 with h | h
    · exact absurd (mem_rows _ y ⟨by omega, by omega⟩) hy.1
    · exact absurd (mem_rows _ y ⟨by omega, by omega⟩) hy.2

theorem sout0_B_1_eq :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (up2 X) (up2 Y) (up2 M) x3 (up2 T) (up2 WA) (up2 WB) (up2 WO) (up2 S) (up2 U) = up2 (carryS 32 fun r => glS (Y r)) := by
  unfold sout0_B_1
  unfold kernelRun0_B
  dsimp only
  sl_unfold_run_names
  simp only [View.readCov, View.readAt_eq_ld, Memref.IsWhole.read_unread]
  rw [tail1_B]
  refine read_writes_of_pieces _ _ _ _ ?_ ?_
  · simp only [ld_up2_f32, ld_up2_bf16, pay104_eq, pay107_eq, pay111_eq, pay112_eq, List.forall_mem_cons, List.not_mem_nil, false_imp_iff, implies_true, and_true]
    constructor
    · exact up2_congr fun r c hr _ => by
        show extS _ _ _ (256 + r) (0 + c) = carryS _ _ (0 + r) (0 + c)
        rw [Nat.zero_add, Nat.zero_add, extS, carryS, if_neg (by omega), if_pos (by omega)]
    · exact up2_congr fun r c _ _ => by
        rw [carryS, if_neg (by omega), Nat.add_sub_cancel_left, Nat.zero_add, Nat.zero_add]; rfl
  · intro y hy
    simp only [List.forall_mem_cons, List.not_mem_nil, false_imp_iff, implies_true, and_true] at hy
    have hy0 : (y 0).val < 288 := (y 0).isLt
    rcases Nat.lt_or_ge (y 0).val 32 with h | h
    · exact absurd (mem_rows _ y ⟨by omega, by omega⟩) hy.1
    · exact absurd (mem_rows _ y ⟨by omega, by omega⟩) hy.2

end

end Cert.Kernel4Ideal.Mix
end
end
-- ==== Proof.Mix.Outs.lean ====
/-
  The arrays the launch leaves, over the reals: what the points carry from one to the next, and each window's blocks put together.
-/
module

public import proofs.«01_k».proof.Proof.Mix.Points

@[expose] public section
noncomputable section
open scoped BigOperators
namespace Cert.Kernel4Ideal.Mix

open Cert.Kernel4Ideal Cert.Kernel4Ideal.Gen Cert.Kernel4Ideal.Value Cert.Lift Cert.Mix
open Idealize.ShloMosaic Idealize.ShloMosaic.TcCoe Idealize.SL.Sem

set_option maxHeartbeats 1000000

/-- Block `n` of 256 rows. -/
def rows (n : ℕ) (A : ℕ → ℕ → ℝ) (r : ℕ) : ℕ → ℝ := A (256 * n + r)
/-- The short convolution of all rows. -/
def g3 (T Y : ℕ → ℕ → ℝ) : ℕ → ℕ → ℝ := tapsS 3 T (before 2 fun r => cvS (Y r))
/-- The long convolution of all rows. -/
def g31 (T Y : ℕ → ℕ → ℝ) : ℕ → ℕ → ℝ := tapsS 31 (fun i => T (8 + i)) (before 30 fun r => glS (Y r))

/-- Block `n` with the rows before it is a run of all rows. -/
theorem ext_rows (d k n : ℕ) (H U : ℕ → ℕ → ℝ) (h : ∀ r c, r < d + k → H r c = before (d + k) U (256 * n + r) c) (r c : ℕ) :
    extS (d + k) H (rows n U) (r + d) c = before k U (256 * n + r) c := by
  unfold extS
  by_cases hr : r + d < d + k
  · rw [if_pos hr, h _ _ hr]
    unfold before
    by_cases h0 : 256 * n + r < k
    · rw [if_pos (by omega), if_pos h0]
    · rw [if_neg (by omega), if_neg h0, show 256 * n + (r + d) - (d + k) = 256 * n + r - k by omega]
  · rw [if_neg hr]
    unfold before rows
    rw [if_neg (by omega), show 256 * n + (r + d - (d + k)) = 256 * n + r - k by omega]

/-- Nothing comes before the first block. -/
theorem head_zero (k : ℕ) (U : ℕ → ℕ → ℝ) (r c : ℕ) (hr : r < k) : (0 : ℝ) = before k U (256 * 0 + r) c := by
  unfold before; rw [if_pos (by omega)]
/-- A later block's earlier rows are those the point before it left. -/
theorem head_carry (k n : ℕ) (hk : k < 256) (U : ℕ → ℕ → ℝ) (r c : ℕ) (hr : r < k) :
    carryS k (rows n U) r c = before k U (256 * (n + 1) + r) c := by
  unfold carryS before rows
  rw [if_pos hr, if_neg (by omega), show 256 * n + (256 + r - k) = 256 * (n + 1) + r - k by omega]

theorem c3_rows (T Y H : ℕ → ℕ → ℝ) (n : ℕ) (h : ∀ r c, r < 8 → H r c = before 8 (fun r => cvS (Y r)) (256 * n + r) c) :
    c3S T H (rows n Y) = rows n (g3 T Y) := by
  funext r c
  show (∑ i ∈ Finset.range 3, T i c * extS (6 + 2) H (rows n fun r => cvS (Y r)) (r + i + 6) c) = ∑ i ∈ Finset.range 3, T i c * before 2 _ (256 * n + r + i) c
  exact Finset.sum_congr rfl fun i _ => by rw [ext_rows 6 2 n H _ h, Nat.add_assoc]
theorem c31_rows (T Y H : ℕ → ℕ → ℝ) (n : ℕ) (h : ∀ r c, r < 32 → H r c = before 32 (fun r => glS (Y r)) (256 * n + r) c) :
    c31S T H (rows n Y) = rows n (g31 T Y) := by
  funext r c
  show (∑ i ∈ Finset.range 31, T (8 + i) c * extS (2 + 30) H (rows n fun r => glS (Y r)) (r + i + 2) c) = ∑ i ∈ Finset.range 31, T (8 + i) c * before 30 _ (256 * n + r + i) c
  exact Finset.sum_congr rfl fun i _ => by rw [ext_rows 2 30 n H _ h, Nat.add_assoc]

variable (m : (ℓ : Loc nD τ sig) → Buf (Elt Ideal) ℓ) (c : Dev nD)
variable {X Y M P T WA WB WO : ℕ → ℕ → ℝ}

/-- What the launch is handed. -/
structure In (X Y M P T WA WB WO : ℕ → ℕ → ℝ) : Prop where
  x : V m c main_v40 = up2 X
  y : V m c main_v42 = up2 Y
  md : V m c main_v31 = up2 M
  tp : V m c main_v39 = up2 T
  wa : V m c main_v44 = up2 WA
  wb : V m c main_v46 = up2 WB
  wo : V m c main_v48 = up2 WO
  p3 : RowIs (V m c main_v34) 3 (P 3)
  p4 : RowIs (V m c main_v34) 4 (P 4)
  p5 : RowIs (V m c main_v34) 5 (P 5)

/-! ## The blocks each point reads -/

theorem idx : (∀ t : Fin cfg0.N, win0_0.index t 0 = t.val ∧ win0_0.index t 1 = 0)
    ∧ (∀ t : Fin cfg0.N, win0_1.index t 0 = t.val ∧ win0_1.index t 1 = 0)
    ∧ (∀ t : Fin cfg0.N, win0_2.index t 0 = 0 ∧ win0_2.index t 1 = 0)
    ∧ (∀ t : Fin cfg0.N, win0_3.index t 0 = 0 ∧ win0_3.index t 1 = 0)
    ∧ (∀ t : Fin cfg0.N, win0_4.index t 0 = 0 ∧ win0_4.index t 1 = 0)
    ∧ (∀ t : Fin cfg0.N, win0_5.index t 0 = 0 ∧ win0_5.index t 1 = 0)
    ∧ (∀ t : Fin cfg0.N, win0_6.index t 0 = 0 ∧ win0_6.index t 1 = 0)
    ∧ (∀ t : Fin cfg0.N, win0_7.index t 0 = 0 ∧ win0_7.index t 1 = 0) :=
  (by decide +kernel : (∀ t : Fin grid0.N, win0_0.index t 0 = t.val ∧ win0_0.index t 1 = 0)
    ∧ (∀ t : Fin grid0.N, win0_1.index t 0 = t.val ∧ win0_1.index t 1 = 0)
    ∧ (∀ t : Fin grid0.N, win0_2.index t 0 = 0 ∧ win0_2.index t 1 = 0)
    ∧ (∀ t : Fin grid0.N, win0_3.index t 0 = 0 ∧ win0_3.index t 1 = 0)
    ∧ (∀ t : Fin grid0.N, win0_4.index t 0 = 0 ∧ win0_4.index t 1 = 0)
    ∧ (∀ t : Fin grid0.N, win0_5.index t 0 = 0 ∧ win0_5.index t 1 = 0)
    ∧ (∀ t : Fin grid0.N, win0_6.index t 0 = 0 ∧ win0_6.index t 1 = 0)
    ∧ (∀ t : Fin grid0.N, win0_7.index t 0 = 0 ∧ win0_7.index t 1 = 0))

theorem blk0 (h : In m c X Y M P T WA WB WO) (t : Fin cfg0.N) : iblk m c 0 t = up2 (rows t.val X) := by
  have i := (idx.1 t)
  funext y
  blk_simp [iblk]
  show V m c main_v40 _ = _
  rw [h.x]; unfold up2; blk_simp
  rw [i.1, i.2]; simp only [Nat.zero_mul, Nat.zero_add, rows, Nat.mul_comm]

theorem blk1 (h : In m c X Y M P T WA WB WO) (t : Fin cfg0.N) : iblk m c 1 t = up2 (rows t.val Y) := by
  have i := (idx.2.1 t)
  funext y
  blk_simp [iblk]
  show V m c main_v42 _ = _
  rw [h.y]; unfold up2; blk_simp
  rw [i.1, i.2]; simp only [Nat.zero_mul, Nat.zero_add, rows, Nat.mul_comm]

theorem blk2 (h : In m c X Y M P T WA WB WO) (t : Fin cfg0.N) : iblk m c 2 t = up2 M := by
  have i := (idx.2.2.1 t)
  funext y
  blk_simp [iblk]
  show V m c main_v31 _ = _
  rw [h.md]; unfold up2; blk_simp
  rw [i.1, i.2]; simp only [Nat.zero_mul, Nat.zero_add]

theorem blk4 (h : In m c X Y M P T WA WB WO) (t : Fin cfg0.N) : iblk m c 4 t = up2 T := by
  have i := (idx.2.2.2.2.1 t)
  funext y
  blk_simp [iblk]
  show V m c main_v39 _ = _
  rw [h.tp]; unfold up2; blk_simp
  rw [i.1, i.2]; simp only [Nat.zero_mul, Nat.zero_add]

theorem blk5 (h : In m c X Y M P T WA WB WO) (t : Fin cfg0.N) : iblk m c 5 t = up2 WA := by
  have i := (idx.2.2.2.2.2.1 t)
  funext y
  blk_simp [iblk]
  show V m c main_v44 _ = _
  rw [h.wa]; unfold up2; blk_simp
  rw [i.1, i.2]; simp only [Nat.zero_mul, Nat.zero_add]

theorem blk6 (h : In m c X Y M P T WA WB WO) (t : Fin cfg0.N) : iblk m c 6 t = up2 WB := by
  have i := (idx.2.2.2.2.2.2.1 t)
  funext y
  blk_simp [iblk]
  show V m c main_v46 _ = _
  rw [h.wb]; unfold up2; blk_simp
  rw [i.1, i.2]; simp only [Nat.zero_mul, Nat.zero_add]

theorem blk7 (h : In m c X Y M P T WA WB WO) (t : Fin cfg0.N) : iblk m c 7 t = up2 WO := by
  have i := (idx.2.2.2.2.2.2.2 t)
  funext y
  blk_simp [iblk]
  show V m c main_v48 _ = _
  rw [h.wo]; unfold up2; blk_simp
  rw [i.1, i.2]; simp only [Nat.zero_mul, Nat.zero_add]

theorem row {o : ℕ} (h : RowIs (V m c main_v34) o (P o)) (t : Fin cfg0.N) : RowIs (iblk m c 3 t) o (P o) := by
  have i := idx.2.2.2.1 t
  intro y hy
  blk_simp [iblk]
  show V m c main_v34 _ = _
  refine (h _ ?_).trans ?_
  · blk_simp
    rw [i.1, Nat.zero_mul, Nat.zero_add, hy]
  · blk_simp
    rw [i.2, Nat.zero_mul, Nat.zero_add]

/-! ## The running contents -/

/-- What the buffers that survive a point hold after point `n`. -/
theorem outs (h : In m c X Y M P T WA WB WO) (n : ℕ) (hn : n < cfg0.N) : outsAt0 m c n hn =
      (up2 fun r j => (rows n X) r j + M 2 j * mixS WA WB WO P ((rows n Y) r) ((rows n (g3 T Y)) r) ((rows n (g31 T Y)) r) j,
       up2 fun r => yaS WA ((rows n Y) r) ((rows n (g3 T Y)) r),
       up2 fun r => ybS WB P ((rows n (g31 T Y)) r),
       up2 fun r => mixS WA WB WO P ((rows n Y) r) ((rows n (g3 T Y)) r) ((rows n (g31 T Y)) r),
       up2 fun r => normS (P 3) ((rows n (g31 T Y)) r),
       up2 (rows n (g3 T Y)),
       up2 fun r j => sg ((rows n Y) r (4096 + j)),
       up2 fun r j => sg ((rows n Y) r (5120 + j)),
       up2 fun r j => sg ((rows n Y) r (6144 + j)),
       up3 (lhsS P (rows n Y) (rows n (g3 T Y)) (rows n (g31 T Y)) WA WB),
       up2 fun r _ => isdS (ctrS fun c => (rows n (g31 T Y)) r c + P 3 c),
       up2 (carryS 8 (rows n fun r => cvS (Y r))), up2 (carryS 32 (rows n fun r => glS (Y r)))) := by
  induction n with
  | zero =>
    have q3 := row m c (P := P) h.p3 ⟨0, hn⟩
    have q4 := row m c (P := P) h.p4 ⟨0, hn⟩
    have q5 := row m c (P := P) h.p5 ⟨0, hn⟩
    have e3 : c3S T (fun _ _ => 0) (rows 0 Y) = _ := c3_rows T Y _ 0 fun r c hr => head_zero 8 _ r c hr
    have e31 : c31S T (fun _ _ => 0) (rows 0 Y) = _ := c31_rows T Y _ 0 fun r c hr => head_zero 32 _ r c hr
    rw [outsAt0_A m c ⟨0, hn⟩ rfl, blk0 m c h ⟨0, hn⟩, blk1 m c h ⟨0, hn⟩, blk2 m c h ⟨0, hn⟩, blk4 m c h ⟨0, hn⟩, blk5 m c h ⟨0, hn⟩, blk6 m c h ⟨0, hn⟩, blk7 m c h ⟨0, hn⟩]
    simp only [out0_A_8_eq (h3 := q3) (h4 := q4) (h5 := q5), out0_A_9_eq (h3 := q3) (h4 := q4) (h5 := q5), out0_A_10_eq (h3 := q3) (h4 := q4) (h5 := q5), out0_A_11_eq (h3 := q3) (h4 := q4) (h5 := q5), out0_A_12_eq (h3 := q3) (h4 := q4) (h5 := q5), out0_A_13_eq (h3 := q3) (h4 := q4) (h5 := q5), out0_A_14_eq (h3 := q3) (h4 := q4) (h5 := q5), out0_A_15_eq (h3 := q3) (h4 := q4) (h5 := q5), out0_A_16_eq (h3 := q3) (h4 := q4) (h5 := q5), out0_A_17_eq (h3 := q3) (h4 := q4) (h5 := q5), out0_A_18_eq (h3 := q3) (h4 := q4) (h5 := q5), sout0_A_0_eq, sout0_A_1_eq, e3, e31]
    rfl
  | succ n ih =>
    have hN : n + 1 < 32 := hn
    have q3 := row m c (P := P) h.p3 ⟨n + 1, hn⟩
    have q4 := row m c (P := P) h.p4 ⟨n + 1, hn⟩
    have q5 := row m c (P := P) h.p5 ⟨n + 1, hn⟩
    have e3 := c3_rows T Y _ (n + 1) fun r c hr => head_carry 8 n (by omega) _ r c hr
    have e31 := c31_rows T Y _ (n + 1) fun r c hr => head_carry 32 n (by omega) _ r c hr
    rw [outsAt0_B m c ⟨n + 1, hn⟩ (by show ¬(n + 1) % 32 = 0; omega), blk0 m c h ⟨n + 1, hn⟩, blk1 m c h ⟨n + 1, hn⟩, blk2 m c h ⟨n + 1, hn⟩, blk4 m c h ⟨n + 1, hn⟩, blk5 m c h ⟨n + 1, hn⟩, blk6 m c h ⟨n + 1, hn⟩, blk7 m c h ⟨n + 1, hn⟩]
    simp only [Nat.add_sub_cancel]
    simp only [ih]
    simp only [out0_B_8_eq (h3 := q3) (h4 := q4) (h5 := q5), out0_B_9_eq (h3 := q3) (h4 := q4) (h5 := q5), out0_B_10_eq (h3 := q3) (h4 := q4) (h5 := q5), out0_B_11_eq (h3 := q3) (h4 := q4) (h5 := q5), out0_B_12_eq (h3 := q3) (h4 := q4) (h5 := q5), out0_B_13_eq (h3 := q3) (h4 := q4) (h5 := q5), out0_B_14_eq (h3 := q3) (h4 := q4) (h5 := q5), out0_B_15_eq (h3 := q3) (h4 := q4) (h5 := q5), out0_B_16_eq (h3 := q3) (h4 := q4) (h5 := q5), out0_B_17_eq (h3 := q3) (h4 := q4) (h5 := q5), out0_B_18_eq (h3 := q3) (h4 := q4) (h5 := q5), sout0_B_0_eq, sout0_B_1_eq, e3, e31]
    rfl

/-! ## The results -/

theorem oidx : (∀ t : Fin cfg0.N, win0_8.index t 0 = t.val ∧ win0_8.index t 1 = 0)
    ∧ (∀ t : Fin cfg0.N, win0_9.index t 0 = t.val ∧ win0_9.index t 1 = 0)
    ∧ (∀ t : Fin cfg0.N, win0_10.index t 0 = t.val ∧ win0_10.index t 1 = 0)
    ∧ (∀ t : Fin cfg0.N, win0_11.index t 0 = t.val ∧ win0_11.index t 1 = 0)
    ∧ (∀ t : Fin cfg0.N, win0_12.index t 0 = t.val ∧ win0_12.index t 1 = 0)
    ∧ (∀ t : Fin cfg0.N, win0_13.index t 0 = t.val ∧ win0_13.index t 1 = 0)
    ∧ (∀ t : Fin cfg0.N, win0_14.index t 0 = t.val ∧ win0_14.index t 1 = 0)
    ∧ (∀ t : Fin cfg0.N, win0_15.index t 0 = t.val ∧ win0_15.index t 1 = 0)
    ∧ (∀ t : Fin cfg0.N, win0_16.index t 0 = t.val ∧ win0_16.index t 1 = 0)
    ∧ (∀ t : Fin cfg0.N, win0_17.index t 0 = 0 ∧ win0_17.index t 1 = t.val ∧ win0_17.index t 2 = 0)
    ∧ (∀ t : Fin cfg0.N, win0_18.index t 0 = t.val ∧ win0_18.index t 1 = 0) :=
  (by decide +kernel : (∀ t : Fin grid0.N, win0_8.index t 0 = t.val ∧ win0_8.index t 1 = 0)
    ∧ (∀ t : Fin grid0.N, win0_9.index t 0 = t.val ∧ win0_9.index t 1 = 0)
    ∧ (∀ t : Fin grid0.N, win0_10.index t 0 = t.val ∧ win0_10.index t 1 = 0)
    ∧ (∀ t : Fin grid0.N, win0_11.index t 0 = t.val ∧ win0_11.index t 1 = 0)
    ∧ (∀ t : Fin grid0.N, win0_12.index t 0 = t.val ∧ win0_12.index t 1 = 0)
    ∧ (∀ t : Fin grid0.N, win0_13.index t 0 = t.val ∧ win0_13.index t 1 = 0)
    ∧ (∀ t : Fin grid0.N, win0_14.index t 0 = t.val ∧ win0_14.index t 1 = 0)
    ∧ (∀ t : Fin grid0.N, win0_15.index t 0 = t.val ∧ win0_15.index t 1 = 0)
    ∧ (∀ t : Fin grid0.N, win0_16.index t 0 = t.val ∧ win0_16.index t 1 = 0)
    ∧ (∀ t : Fin grid0.N, win0_17.index t 0 = 0 ∧ win0_17.index t 1 = t.val ∧ win0_17.index t 2 = 0)
    ∧ (∀ t : Fin grid0.N, win0_18.index t 0 = t.val ∧ win0_18.index t 1 = 0))

theorem final8 (h : In m c X Y M P T WA WB WO) : (dats m 0 c).arrAt 8 cfg0.N = up2 fun r j => X r j + M 2 j * mixS WA WB WO P (Y r) ((g3 T Y) r) ((g31 T Y) r) j := by
  refine (dats m 0 c).arrAt_eq_of_covers 8 _ (by decide +kernel) fun t hf y => ?_
  have i := (oidx.1 t)
  blk_simp
  rw [after0_8, outs m c h]
  unfold up2
  blk_simp
  rw [i.1, i.2]
  simp only [rows, Nat.zero_mul, Nat.zero_add, Nat.mul_comm]

theorem final9 (h : In m c X Y M P T WA WB WO) : (dats m 0 c).arrAt 9 cfg0.N = up2 fun r => yaS WA (Y r) ((g3 T Y) r) := by
  refine (dats m 0 c).arrAt_eq_of_covers 9 _ (by decide +kernel) fun t hf y => ?_
  have i := (oidx.2.1 t)
  blk_simp
  rw [after0_9, outs m c h]
  unfold up2
  blk_simp
  rw [i.1, i.2]
  simp only [rows, Nat.zero_mul, Nat.zero_add, Nat.mul_comm]

theorem final10 (h : In m c X Y M P T WA WB WO) : (dats m 0 c).arrAt 10 cfg0.N = up2 fun r => ybS WB P ((g31 T Y) r) := by
  refine (dats m 0 c).arrAt_eq_of_covers 10 _ (by decide +kernel) fun t hf y => ?_
  have i := (oidx.2.2.1 t)
  blk_simp
  rw [after0_10, outs m c h]
  unfold up2
  blk_simp
  rw [i.1, i.2]
  simp only [rows, Nat.zero_mul, Nat.zero_add, Nat.mul_comm]

theorem final11 (h : In m c X Y M P T WA WB WO) : (dats m 0 c).arrAt 11 cfg0.N = up2 fun r => mixS WA WB WO P (Y r) ((g3 T Y) r) ((g31 T Y) r) := by
  refine (dats m 0 c).arrAt_eq_of_covers 11 _ (by decide +kernel) fun t hf y => ?_
  have i := (oidx.2.2.2.1 t)
  blk_simp
  rw [after0_11, outs m c h]
  unfold up2
  blk_simp
  rw [i.1, i.2]
  simp only [rows, Nat.zero_mul, Nat.zero_add, Nat.mul_comm]

theorem final12 (h : In m c X Y M P T WA WB WO) : (dats m 0 c).arrAt 12 cfg0.N = up2 fun r => normS (P 3) ((g31 T Y) r) := by
  refine (dats m 0 c).arrAt_eq_of_covers 12 _ (by decide +kernel) fun t hf y => ?_
  have i := (oidx.2.2.2.2.1 t)
  blk_simp
  rw [after0_12, outs m c h]
  unfold up2
  blk_simp
  rw [i.1, i.2]
  simp only [rows, Nat.zero_mul, Nat.zero_add, Nat.mul_comm]

theorem final13 (h : In m c X Y M P T WA WB WO) : (dats m 0 c).arrAt 13 cfg0.N = up2 (g3 T Y) := by
  refine (dats m 0 c).arrAt_eq_of_covers 13 _ (by decide +kernel) fun t hf y => ?_
  have i := (oidx.2.2.2.2.2.1 t)
  blk_simp
  rw [after0_13, outs m c h]
  unfold up2
  blk_simp
  rw [i.1, i.2]
  simp only [rows, Nat.zero_mul, Nat.zero_add, Nat.mul_comm]

theorem final14 (h : In m c X Y M P T WA WB WO) : (dats m 0 c).arrAt 14 cfg0.N = up2 fun r j => sg (Y r (4096 + j)) := by
  refine (dats m 0 c).arrAt_eq_of_covers 14 _ (by decide +kernel) fun t hf y => ?_
  have i := (oidx.2.2.2.2.2.2.1 t)
  blk_simp
  rw [after0_14, outs m c h]
  unfold up2
  blk_simp
  rw [i.1, i.2]
  simp only [rows, Nat.zero_mul, Nat.zero_add, Nat.mul_comm]

theorem final15 (h : In m c X Y M P T WA WB WO) : (dats m 0 c).arrAt 15 cfg0.N = up2 fun r j => sg (Y r (5120 + j)) := by
  refine (dats m 0 c).arrAt_eq_of_covers 15 _ (by decide +kernel) fun t hf y => ?_
  have i := (oidx.2.2.2.2.2.2.2.1 t)
  blk_simp
  rw [after0_15, outs m c h]
  unfold up2
  blk_simp
  rw [i.1, i.2]
  simp only [rows, Nat.zero_mul, Nat.zero_add, Nat.mul_comm]

theorem final16 (h : In m c X Y M P T WA WB WO) : (dats m 0 c).arrAt 16 cfg0.N = up2 fun r j => sg (Y r (6144 + j)) := by
  refine (dats m 0 c).arrAt_eq_of_covers 16 _ (by decide +kernel) fun t hf y => ?_
  have i := (oidx.2.2.2.2.2.2.2.2.1 t)
  blk_simp
  rw [after0_16, outs m c h]
  unfold up2
  blk_simp
  rw [i.1, i.2]
  simp only [rows, Nat.zero_mul, Nat.zero_add, Nat.mul_comm]

theorem final17 (h : In m c X Y M P T WA WB WO) : (dats m 0 c).arrAt 17 cfg0.N = up3 (lhsS P Y (g3 T Y) (g31 T Y) WA WB) := by
  refine (dats m 0 c).arrAt_eq_of_covers 17 _ (by decide +kernel) fun t hf y => ?_
  have i := (oidx.2.2.2.2.2.2.2.2.2.1 t)
  blk_simp
  rw [after0_17, outs m c h]
  unfold up3
  blk_simp
  rw [i.1, i.2.1, i.2.2]
  simp only [rows, lhsS, Nat.zero_mul, Nat.zero_add, Nat.mul_comm]

theorem final18 (h : In m c X Y M P T WA WB WO) : (dats m 0 c).arrAt 18 cfg0.N = up2 fun r _ => isdS (ctrS fun c => (g31 T Y) r c + P 3 c) := by
  refine (dats m 0 c).arrAt_eq_of_covers 18 _ (by decide +kernel) fun t hf y => ?_
  have i := (oidx.2.2.2.2.2.2.2.2.2.2 t)
  blk_simp
  rw [after0_18, outs m c h]
  unfold up2
  blk_simp
  rw [i.1]
  simp only [rows, Nat.zero_mul, Nat.zero_add, Nat.mul_comm]

end Cert.Kernel4Ideal.Mix
end
end
-- ==== Proof.Mix.Ref.lean ====
/-
  The reference, one operation at a time, over the reals; each of its two convolutions is one step.
-/
module

public import proofs.«01_k».proof.Proof.Gen.Reference4Ideal.Read
public import proofs.«01_k».proof.Proof.Mix.Spec

@[expose] public section

noncomputable section
open scoped BigOperators
namespace Cert.Mix.Ref
open Cert.Reference4Ideal Cert.Reference4Ideal.Gen Cert.Reference4Ideal.Read Idealize.ShloMosaic Idealize.ShloMosaic.TcCoe Idealize.SL.Sem Cert.Lift Cert.Mix

theorem addf_up3 {a b c : ℕ} (X Y : ℕ → ℕ → ℕ → ℝ) :
    addf (F := Ideal) (φ := .f32) (up3 X : (⟨3, ![a, b, c]⟩ : Shape).Idx → EReal) (up3 Y) = up3 fun p r c => X p r c + Y p r c :=
  funext fun _ => (EReal.coe_add _ _).symm

theorem zeros (h : S_.BroadcastsInDim S1x8192x1024 ![]) :
    broadcastInDim S1x8192x1024 ![] h (constant (F := Ideal) S_ .f32 0x00000000#32) = up3 fun _ _ _ => 0 := funext fun _ => zero_f32

/-- One tap of a convolution: the rows from `i` on, each column times its tap `i`. -/
theorem tap {L K i : ℕ} (P : ℕ → ℕ → ℕ → ℝ) (W : ℕ → ℕ → ℝ) (h1 : (⟨3, ![1, L, 1024]⟩ : Shape).Slices ![0, i, 0] S1x8192x1024)
    (h2 : (⟨2, ![K, 1024]⟩ : Shape).Slices ![i, 0] S1x1024) (h3 : S1x1024.ShapeCasts S1024) (h4 : S1024.BroadcastsInDim S1x1x1024 ![2])
    (h5 : S1x1x1024.BroadcastsInDim S1x8192x1024 ![0, 1, 2]) :
    mulf (F := Ideal) (φ := .f32) (extractStridedSlice S1x8192x1024 ![0, i, 0] (up3 P : (⟨3, ![1, L, 1024]⟩ : Shape).Idx → EReal) h1)
      (broadcastInDim S1x8192x1024 ![0, 1, 2] h5 (broadcastInDim S1x1x1024 ![2] h4 (shapeCast S1024
        (extractStridedSlice S1x1024 ![i, 0] (up2 W : (⟨2, ![K, 1024]⟩ : Shape).Idx → EReal) h2) h3)))
      = up3 fun a r c => P a (i + r) c * W i c := by
  funext j
  have e : broadcastInDim S1x8192x1024 ![0, 1, 2] h5 (broadcastInDim S1x1x1024 ![2] h4 (shapeCast S1024
      (extractStridedSlice S1x1024 ![i, 0] (up2 W : (⟨2, ![K, 1024]⟩ : Shape).Idx → EReal) h2) h3)) j = ((W i (j 2).val : ℝ) : EReal) := by
    have e1 : broadcastInDim S1x8192x1024 ![0, 1, 2] h5 (broadcastInDim S1x1x1024 ![2] h4 (shapeCast S1024
        (extractStridedSlice S1x1024 ![i, 0] (up2 W : (⟨2, ![K, 1024]⟩ : Shape).Idx → EReal) h2) h3)) j
        = shapeCast S1024 (extractStridedSlice S1x1024 ![i, 0] (up2 W : (⟨2, ![K, 1024]⟩ : Shape).Idx → EReal) h2) h3
          (ValueIdx.ix1 (j 2)) :=
      congrArg (shapeCast S1024 (extractStridedSlice S1x1024 ![i, 0] (up2 W : (⟨2, ![K, 1024]⟩ : Shape).Idx → EReal) h2) h3)
        (funext fun (a : Fin 1) => match a with | ⟨0, _⟩ => rfl)
    rw [e1, shapeCast_apply _ h3 _ (ValueIdx.ix2 0 (j 2))]
    · show ((W (i + 0) (0 + (j 2).val) : ℝ) : EReal) = _
      rw [Nat.add_zero, Nat.zero_add]
    · rw [Shape.rowMajor_val_one, Shape.rowMajor_val_two]
      show 0 * 1024 + (j 2).val = (j 2).val
      omega
  refine Eq.trans (congrArg (HMul.hMul (α := EReal) _) e) ?_
  show ((P (0 + (j 0).val) (i + (j 1).val) (0 + (j 2).val) : ℝ) : EReal) * ((W i (j 2).val : ℝ) : EReal)
    = ((P (j 0).val (i + (j 1).val) (j 2).val * W i (j 2).val : ℝ) : EReal)
  rw [Nat.zero_add, Nat.zero_add, EReal.coe_mul]

/-- The arguments, as arrays of reals. -/
structure Args where
  x0 : ℕ → ℕ → ℕ → ℝ
  x1 : ℕ → ℕ → ℝ
  x2 : ℕ → ℕ → ℝ
  x5 : ℕ → ℕ → ℕ → ℝ
  x6 : ℕ → ℕ → ℕ → ℝ
  x7 : ℕ → ℕ → ℕ → ℝ
  x8 : ℕ → ℕ → ℕ → ℝ
  x9 : ℕ → ℕ → ℝ
  x10 : ℕ → ℕ → ℝ
  x11 : ℕ → ℕ → ℝ
  x12 : ℕ → ℕ → ℕ → ℝ
  x13 : ℕ → ℕ → ℕ → ℝ

def main_v0 (A : Args) (a0 a1 a2 : ℕ) : ℝ := A.x1 0 a2
theorem s_main_v0 (A : Args) : val_main_v0 (F := Ideal) (up2 A.x1) = up3 (main_v0 A) := by
  funext i; rw [val_main_v0_apply]; rfl

def main_v1 (A : Args) (a0 a1 a2 : ℕ) : ℝ := main_v0 A a0 a1 a2
theorem s_main_v1 (A : Args) : val_main_v1 (F := Ideal) (up2 A.x1) = up3 (main_v1 A) := by
  funext i; rw [val_main_v1_apply, s_main_v0 A]; rfl

def main_v2 (A : Args) (a0 a1 a2 : ℕ) : ℝ := main_v0 A a0 a1 (1024 + a2)
theorem s_main_v2 (A : Args) : val_main_v2 (F := Ideal) (up2 A.x1) = up3 (main_v2 A) := by
  funext i; rw [val_main_v2_apply, s_main_v0 A]; rfl

def main_v3 (A : Args) (a0 a1 a2 : ℕ) : ℝ := main_v0 A a0 a1 (2048 + a2)
theorem s_main_v3 (A : Args) : val_main_v3 (F := Ideal) (up2 A.x1) = up3 (main_v3 A) := by
  funext i; rw [val_main_v3_apply, s_main_v0 A]; rfl

def main_v4 (A : Args) (a0 a1 a2 : ℕ) : ℝ := main_v0 A a0 a1 (3072 + a2)
theorem s_main_v4 (A : Args) : val_main_v4 (F := Ideal) (up2 A.x1) = up3 (main_v4 A) := by
  funext i; rw [val_main_v4_apply, s_main_v0 A]; rfl

def main_v5 (A : Args) (a0 a1 a2 : ℕ) : ℝ := main_v0 A a0 a1 (4096 + a2)
theorem s_main_v5 (A : Args) : val_main_v5 (F := Ideal) (up2 A.x1) = up3 (main_v5 A) := by
  funext i; rw [val_main_v5_apply, s_main_v0 A]; rfl

def main_v6 (A : Args) (a0 a1 a2 : ℕ) : ℝ := main_v0 A a0 a1 (5120 + a2)
theorem s_main_v6 (A : Args) : val_main_v6 (F := Ideal) (up2 A.x1) = up3 (main_v6 A) := by
  funext i; rw [val_main_v6_apply, s_main_v0 A]; rfl

def main_v7 (A : Args) (a0 : ℕ) : ℝ := A.x2 0 a0
theorem s_main_v7 (A : Args) : val_main_v7 (F := Ideal) (up2 A.x2) = up1 (main_v7 A) := by
  funext i; rw [val_main_v7_apply]
  have h0 : (i 0).val < 1024 := (i 0).isLt
  show ((A.x2 (0) (((i 0).val) % 1024) : ℝ) : EReal) = ((A.x2 (0) ((i 0).val) : ℝ) : EReal)
  rw [show ((i 0).val) % 1024 = (i 0).val by omega]

def main_v8 (A : Args) (a0 a1 a2 : ℕ) : ℝ := A.x0 a0 a1 a2 * A.x0 a0 a1 a2
theorem s_main_v8 (A : Args) : val_main_v8 (F := Ideal) (up3 A.x0) = up3 (main_v8 A) := by
  funext i; rw [val_main_v8_apply]; exact (EReal.coe_mul _ _).symm

def main_cst (A : Args) : ℝ := 0
theorem s_main_cst (A : Args) (i : S_.Idx) : val_main_cst (F := Ideal) i = ((main_cst A : ℝ) : EReal) := zero_f32

def main_v9 (A : Args) (a0 a1 : ℕ) : ℝ := main_cst A + ∑ k ∈ Finset.range 1024, main_v8 A a0 a1 k
theorem s_main_v9 (A : Args) : val_main_v9 (F := Ideal) (up3 A.x0) = up2 (main_v9 A) := by
  funext i; rw [val_main_v9_apply, s_main_v8 A, s_main_cst A]
  refine Eq.trans (congrArg _ (Eq.trans (Finset.sum_congr rfl fun k _ => ?_) (coe_sum_fin 1024 fun k => main_v8 A (i 0).val (i 1).val k))) (EReal.coe_add _ _).symm
  rfl

def main_v10 (A : Args) (a0 a1 a2 : ℕ) : ℝ := main_v9 A 0 a1
theorem s_main_v10 (A : Args) : val_main_v10 (F := Ideal) (up3 A.x0) = up3 (main_v10 A) := by
  funext i; rw [val_main_v10_apply, s_main_v9 A]; rfl

def main_cst_0 (A : Args) : ℝ := 1024
theorem s_main_cst_0 (A : Args) (i : S_.Idx) : val_main_cst_0 (F := Ideal) i = ((main_cst_0 A : ℝ) : EReal) := k1024_f32

def main_v11 (A : Args) (a0 a1 a2 : ℕ) : ℝ := main_cst_0 A
theorem s_main_v11 (A : Args) : val_main_v11 (F := Ideal) = up3 (main_v11 A) := by
  funext i; rw [val_main_v11_apply]; exact s_main_cst_0 A _

def main_v12 (A : Args) (a0 a1 a2 : ℕ) : ℝ := main_v10 A a0 a1 a2 / main_v11 A a0 a1 a2
theorem s_main_v12 (A : Args) : val_main_v12 (F := Ideal) (up3 A.x0) = up3 (main_v12 A) := by
  funext i; rw [val_main_v12_apply, s_main_v10 A, s_main_v11 A]
  exact div_real _ _ (by show (1024:ℝ) ≠ 0; norm_num)

def main_cst_1 (A : Args) : ℝ := eps
theorem s_main_cst_1 (A : Args) (i : S_.Idx) : val_main_cst_1 (F := Ideal) i = ((main_cst_1 A : ℝ) : EReal) := eps_f32

def main_v13 (A : Args) (a0 a1 a2 : ℕ) : ℝ := main_cst_1 A
theorem s_main_v13 (A : Args) : val_main_v13 (F := Ideal) = up3 (main_v13 A) := by
  funext i; rw [val_main_v13_apply]; exact s_main_cst_1 A _

def main_v14 (A : Args) (a0 a1 a2 : ℕ) : ℝ := main_v12 A a0 a1 a2 + main_v13 A a0 a1 a2
theorem s_main_v14 (A : Args) : val_main_v14 (F := Ideal) (up3 A.x0) = up3 (main_v14 A) := by
  funext i; rw [val_main_v14_apply, s_main_v12 A, s_main_v13 A]; exact (EReal.coe_add _ _).symm

theorem v14_pos (A : Args) (a0 a1 a2 : ℕ) : 0 < main_v14 A a0 a1 a2 := by
  show 0 < (0 + ∑ k ∈ Finset.range 1024, A.x0 0 a1 k * A.x0 0 a1 k) / 1024 + eps
  rw [zero_add]; exact ms_pos _

def main_v15 (A : Args) (a0 a1 a2 : ℕ) : ℝ := (√(main_v14 A a0 a1 a2))⁻¹
theorem s_main_v15 (A : Args) : val_main_v15 (F := Ideal) (up3 A.x0) = up3 (main_v15 A) := by
  funext i; rw [val_main_v15_apply, s_main_v14 A]
  have hp := v14_pos A (i 0).val (i 1).val (i 2).val
  refine (Ideal.rsqrt_coe _).trans ?_
  rw [if_neg (not_lt.2 hp.le), if_neg hp.ne']; rfl

def main_v16 (A : Args) (a0 a1 a2 : ℕ) : ℝ := main_v15 A 0 a1 0
theorem s_main_v16 (A : Args) : val_main_v16 (F := Ideal) (up3 A.x0) = up3 (main_v16 A) := by
  funext i; rw [val_main_v16_apply, s_main_v15 A]; rfl

def main_v17 (A : Args) (a0 a1 a2 : ℕ) : ℝ := A.x0 a0 a1 a2 * main_v16 A a0 a1 a2
theorem s_main_v17 (A : Args) : val_main_v17 (F := Ideal) (up3 A.x0) = up3 (main_v17 A) := by
  funext i; rw [val_main_v17_apply, s_main_v16 A]; exact (EReal.coe_mul _ _).symm

def main_v18 (A : Args) (a0 a1 a2 : ℕ) : ℝ := main_v7 A a2
theorem s_main_v18 (A : Args) : val_main_v18 (F := Ideal) (up2 A.x2) = up3 (main_v18 A) := by
  funext i; rw [val_main_v18_apply, s_main_v7 A]; rfl

def main_v19 (A : Args) (a0 a1 a2 : ℕ) : ℝ := main_v18 A 0 0 a2
theorem s_main_v19 (A : Args) : val_main_v19 (F := Ideal) (up2 A.x2) = up3 (main_v19 A) := by
  funext i; rw [val_main_v19_apply, s_main_v18 A]; rfl

def main_v20 (A : Args) (a0 a1 a2 : ℕ) : ℝ := main_v17 A a0 a1 a2 * main_v19 A a0 a1 a2
theorem s_main_v20 (A : Args) : val_main_v20 (F := Ideal) (up3 A.x0) (up2 A.x2) = up3 (main_v20 A) := by
  funext i; rw [val_main_v20_apply, s_main_v17 A, s_main_v19 A]; exact (EReal.coe_mul _ _).symm

def main_cst_2 (A : Args) : ℝ := 1
theorem s_main_cst_2 (A : Args) (i : S_.Idx) : val_main_cst_2 (F := Ideal) i = ((main_cst_2 A : ℝ) : EReal) := one_f32

def main_v21 (A : Args) (a0 a1 a2 : ℕ) : ℝ := main_cst_2 A
theorem s_main_v21 (A : Args) : val_main_v21 (F := Ideal) = up3 (main_v21 A) := by
  funext i; rw [val_main_v21_apply]; exact s_main_cst_2 A _

def main_v22 (A : Args) (a0 a1 a2 : ℕ) : ℝ := main_v21 A a0 a1 a2 + main_v2 A a0 a1 a2
theorem s_main_v22 (A : Args) : val_main_v22 (F := Ideal) (up2 A.x1) = up3 (main_v22 A) := by
  funext i; rw [val_main_v22_apply, s_main_v21 A, s_main_v2 A]; exact (EReal.coe_add _ _).symm

def main_v23 (A : Args) (a0 a1 a2 : ℕ) : ℝ := main_v22 A 0 0 a2
theorem s_main_v23 (A : Args) : val_main_v23 (F := Ideal) (up2 A.x1) = up3 (main_v23 A) := by
  funext i; rw [val_main_v23_apply, s_main_v22 A]; rfl

def main_v24 (A : Args) (a0 a1 a2 : ℕ) : ℝ := main_v20 A a0 a1 a2 * main_v23 A a0 a1 a2
theorem s_main_v24 (A : Args) : val_main_v24 (F := Ideal) (up3 A.x0) (up2 A.x1) (up2 A.x2) = up3 (main_v24 A) := by
  funext i; rw [val_main_v24_apply, s_main_v20 A, s_main_v23 A]; exact (EReal.coe_mul _ _).symm

def main_v25 (A : Args) (a0 a1 a2 : ℕ) : ℝ := main_v1 A 0 0 a2
theorem s_main_v25 (A : Args) : val_main_v25 (F := Ideal) (up2 A.x1) = up3 (main_v25 A) := by
  funext i; rw [val_main_v25_apply, s_main_v1 A]; rfl

def main_v26 (A : Args) (a0 a1 a2 : ℕ) : ℝ := main_v24 A a0 a1 a2 + main_v25 A a0 a1 a2
theorem s_main_v26 (A : Args) : val_main_v26 (F := Ideal) (up3 A.x0) (up2 A.x1) (up2 A.x2) = up3 (main_v26 A) := by
  funext i; rw [val_main_v26_apply, s_main_v24 A, s_main_v25 A]; exact (EReal.coe_add _ _).symm

def main_v27 (A : Args) (a0 a1 : ℕ) : ℝ := A.x5 0 a0 a1
theorem s_main_v27 (A : Args) : val_main_v27 (F := Ideal) (up3 A.x5) = up2 (main_v27 A) := by
  funext i; rw [val_main_v27_apply]
  have h0 : (i 0).val < 1024 := (i 0).isLt
  have h1 : (i 1).val < 7168 := (i 1).isLt
  show ((A.x5 (0) (((i 0).val * 7168 + (i 1).val) / 7168 % 1024) (((i 0).val * 7168 + (i 1).val) % 7168) : ℝ) : EReal) = ((A.x5 (0) ((i 0).val) ((i 1).val) : ℝ) : EReal)
  rw [show ((i 0).val * 7168 + (i 1).val) / 7168 % 1024 = (i 0).val by omega, show ((i 0).val * 7168 + (i 1).val) % 7168 = (i 1).val by omega]

def main_v28 (A : Args) (a0 a1 a2 : ℕ) : ℝ := ∑ k ∈ Finset.range 1024, main_v26 A a0 a1 k * main_v27 A k a2
theorem s_main_v28 (A : Args) : val_main_v28 (F := Ideal) (up3 A.x0) (up2 A.x1) (up2 A.x2) (up3 A.x5) = up3 (main_v28 A) := by
  funext i; rw [val_main_v28_apply, s_main_v26 A, s_main_v27 A]; refine Eq.trans (Finset.sum_congr rfl fun k _ => ?_) (coe_sum_fin 1024 fun k => _)
  exact (EReal.coe_mul _ _).symm

def main_v29 (A : Args) (a0 a1 a2 : ℕ) : ℝ := main_v28 A a0 a1 a2
theorem s_main_v29 (A : Args) : val_main_v29 (F := Ideal) (up3 A.x0) (up2 A.x1) (up2 A.x2) (up3 A.x5) = up3 (main_v29 A) := by
  funext i; rw [val_main_v29_apply, s_main_v28 A]; rfl

def main_v30 (A : Args) (a0 a1 a2 : ℕ) : ℝ := main_v28 A a0 a1 (1024 + a2)
theorem s_main_v30 (A : Args) : val_main_v30 (F := Ideal) (up3 A.x0) (up2 A.x1) (up2 A.x2) (up3 A.x5) = up3 (main_v30 A) := by
  funext i; rw [val_main_v30_apply, s_main_v28 A]; rfl

def main_v31 (A : Args) (a0 a1 a2 : ℕ) : ℝ := main_v28 A a0 a1 (2048 + a2)
theorem s_main_v31 (A : Args) : val_main_v31 (F := Ideal) (up3 A.x0) (up2 A.x1) (up2 A.x2) (up3 A.x5) = up3 (main_v31 A) := by
  funext i; rw [val_main_v31_apply, s_main_v28 A]; rfl

def main_v32 (A : Args) (a0 a1 a2 : ℕ) : ℝ := main_v28 A a0 a1 (3072 + a2)
theorem s_main_v32 (A : Args) : val_main_v32 (F := Ideal) (up3 A.x0) (up2 A.x1) (up2 A.x2) (up3 A.x5) = up3 (main_v32 A) := by
  funext i; rw [val_main_v32_apply, s_main_v28 A]; rfl

def main_v33 (A : Args) (a0 a1 a2 : ℕ) : ℝ := main_v28 A a0 a1 (4096 + a2)
theorem s_main_v33 (A : Args) : val_main_v33 (F := Ideal) (up3 A.x0) (up2 A.x1) (up2 A.x2) (up3 A.x5) = up3 (main_v33 A) := by
  funext i; rw [val_main_v33_apply, s_main_v28 A]; rfl

def main_v34 (A : Args) (a0 a1 a2 : ℕ) : ℝ := main_v28 A a0 a1 (5120 + a2)
theorem s_main_v34 (A : Args) : val_main_v34 (F := Ideal) (up3 A.x0) (up2 A.x1) (up2 A.x2) (up3 A.x5) = up3 (main_v34 A) := by
  funext i; rw [val_main_v34_apply, s_main_v28 A]; rfl

def main_v35 (A : Args) (a0 a1 a2 : ℕ) : ℝ := main_v28 A a0 a1 (6144 + a2)
theorem s_main_v35 (A : Args) : val_main_v35 (F := Ideal) (up3 A.x0) (up2 A.x1) (up2 A.x2) (up3 A.x5) = up3 (main_v35 A) := by
  funext i; rw [val_main_v35_apply, s_main_v28 A]; rfl

def main_v36 (A : Args) (a0 a1 a2 : ℕ) : ℝ := main_v30 A a0 a1 a2 * main_v31 A a0 a1 a2
theorem s_main_v36 (A : Args) : val_main_v36 (F := Ideal) (up3 A.x0) (up2 A.x1) (up2 A.x2) (up3 A.x5) = up3 (main_v36 A) := by
  funext i; rw [val_main_v36_apply, s_main_v30 A, s_main_v31 A]; exact (EReal.coe_mul _ _).symm

def main_v37 (A : Args) (a0 a1 : ℕ) : ℝ := A.x6 0 a0 a1
theorem s_main_v37 (A : Args) : val_main_v37 (F := Ideal) (up3 A.x6) = up2 (main_v37 A) := by
  funext i; rw [val_main_v37_apply]
  have h0 : (i 0).val < 3 := (i 0).isLt
  have h1 : (i 1).val < 1024 := (i 1).isLt
  show ((A.x6 (0) (((i 0).val * 1024 + (i 1).val) / 1024 % 3) (((i 0).val * 1024 + (i 1).val) % 1024) : ℝ) : EReal) = ((A.x6 (0) ((i 0).val) ((i 1).val) : ℝ) : EReal)
  rw [show ((i 0).val * 1024 + (i 1).val) / 1024 % 3 = (i 0).val by omega, show ((i 0).val * 1024 + (i 1).val) % 1024 = (i 1).val by omega]

def main_cst_3 (A : Args) : ℝ := 0
theorem s_main_cst_3 (A : Args) (i : S_.Idx) : val_main_cst_3 (F := Ideal) i = ((main_cst_3 A : ℝ) : EReal) := zero_f32

def main_v38 (A : Args) (a0 a1 a2 : ℕ) : ℝ := main_cst_3 A
theorem s_main_v38 (A : Args) : val_main_v38 (F := Ideal) = up3 (main_v38 A) := by
  funext i; rw [val_main_v38_apply]; exact s_main_cst_3 A _

def main_v39 (A : Args) (a0 a1 a2 : ℕ) : ℝ := if a1 < 2 then main_v38 A a0 a1 a2 else main_v36 A a0 (a1 - 2) a2
theorem s_main_v39 (A : Args) : val_main_v39 (F := Ideal) (up3 A.x0) (up2 A.x1) (up2 A.x2) (up3 A.x5) = up3 (main_v39 A) := by
  funext i; unfold val_main_v39
  have h0 : (i 0).val < 1 := (i 0).isLt
  have h1 : (i 1).val < 8194 := (i 1).isLt
  have h2 : (i 2).val < 1024 := (i 2).isLt
  rw [s_main_v38 A, s_main_v36 A]
  by_cases c0 : (i 1).val < 2
  · refine (concatenate_apply_piece _ _ _ i 0 (by simp) S1x2x1024 _ rfl rfl 0 rfl (fun b => match b with | ⟨0, _⟩ => ⟨(i 0).val, by show _ < 1; omega⟩ | ⟨1, _⟩ => ⟨(i 1).val - 0, by show _ < 2; omega⟩ | ⟨2, _⟩ => ⟨(i 2).val, by show _ < 1024; omega⟩) ?_ ?_).trans ?_
    · intro b hb; match b with | ⟨0, _⟩ => exact rfl | ⟨1, _⟩ => exact absurd rfl hb | ⟨2, _⟩ => exact rfl
    · show 0 + ((i 1).val - 0) = (i 1).val; omega
    · show ((main_v38 A (i 0).val ((i 1).val - 0) (i 2).val : ℝ) : EReal) = ((main_v39 A (i 0).val (i 1).val (i 2).val : ℝ) : EReal)
      unfold main_v39; simp only [Nat.sub_zero]; rw [if_pos c0]
  refine (concatenate_apply_piece _ _ _ i 1 (by simp) S1x8192x1024 _ rfl rfl 2 rfl (fun b => match b with | ⟨0, _⟩ => ⟨(i 0).val, by show _ < 1; omega⟩ | ⟨1, _⟩ => ⟨(i 1).val - 2, by show _ < 8192; omega⟩ | ⟨2, _⟩ => ⟨(i 2).val, by show _ < 1024; omega⟩) ?_ ?_).trans ?_
  · intro b hb; match b with | ⟨0, _⟩ => exact rfl | ⟨1, _⟩ => exact absurd rfl hb | ⟨2, _⟩ => exact rfl
  · show 2 + ((i 1).val - 2) = (i 1).val; omega
  · show ((main_v36 A (i 0).val ((i 1).val - 2) (i 2).val : ℝ) : EReal) = ((main_v39 A (i 0).val (i 1).val (i 2).val : ℝ) : EReal)
    unfold main_v39; rw [if_neg c0]

def main_v61 (A : Args) (a0 a1 a2 : ℕ) : ℝ := ∑ i ∈ Finset.range 3, main_v39 A a0 (i + a1) a2 * main_v37 A i a2
theorem s_main_v61 (A : Args) : val_main_v61 (F := Ideal) (up3 A.x0) (up2 A.x1) (up2 A.x2) (up3 A.x5) (up3 A.x6) = up3 (main_v61 A) := by
  simp only [val_main_v40, val_main_v41, val_main_v42, val_main_v43, val_main_v44, val_main_v45, val_main_v46, val_main_v47, val_main_v48, val_main_v49,
    val_main_v50, val_main_v51, val_main_v52, val_main_v53, val_main_v54, val_main_v55, val_main_v56, val_main_v57, val_main_v58, val_main_v59,
    val_main_v60, val_main_v61, val_main_cst_4,
    s_main_v39 A, s_main_v37 A]
  have t {i : ℕ} (h1) (h2) (h3) (h4) (h5) := tap (L := 8194) (K := 3) (i := i) (main_v39 A) (main_v37 A) h1 h2 h3 h4 h5
  rw [zeros, t (i := 0), addf_up3, t (i := 1), addf_up3, t (i := 2), addf_up3]
  refine congrArg up3 (funext fun a => funext fun r => funext fun c => ?_)
  show _ = main_v61 A a r c
  unfold main_v61
  simp only [Finset.sum_range_succ, Finset.sum_range_zero]

def main_v62 (A : Args) (a0 a1 a2 : ℕ) : ℝ := main_v29 A a0 a1 a2 * main_v61 A a0 a1 a2
theorem s_main_v62 (A : Args) : val_main_v62 (F := Ideal) (up3 A.x0) (up2 A.x1) (up2 A.x2) (up3 A.x5) (up3 A.x6) = up3 (main_v62 A) := by
  funext i; rw [val_main_v62_apply, s_main_v29 A, s_main_v61 A]; exact (EReal.coe_mul _ _).symm

def main_v63 (A : Args) (a0 a1 : ℕ) : ℝ := A.x7 0 a0 a1
theorem s_main_v63 (A : Args) : val_main_v63 (F := Ideal) (up3 A.x7) = up2 (main_v63 A) := by
  funext i; rw [val_main_v63_apply]
  have h0 : (i 0).val < 1024 := (i 0).isLt
  have h1 : (i 1).val < 1024 := (i 1).isLt
  show ((A.x7 (0) (((i 0).val * 1024 + (i 1).val) / 1024 % 1024) (((i 0).val * 1024 + (i 1).val) % 1024) : ℝ) : EReal) = ((A.x7 (0) ((i 0).val) ((i 1).val) : ℝ) : EReal)
  rw [show ((i 0).val * 1024 + (i 1).val) / 1024 % 1024 = (i 0).val by omega, show ((i 0).val * 1024 + (i 1).val) % 1024 = (i 1).val by omega]

def main_v64 (A : Args) (a0 a1 a2 : ℕ) : ℝ := ∑ k ∈ Finset.range 1024, main_v62 A a0 a1 k * main_v63 A k a2
theorem s_main_v64 (A : Args) : val_main_v64 (F := Ideal) (up3 A.x0) (up2 A.x1) (up2 A.x2) (up3 A.x5) (up3 A.x6) (up3 A.x7) = up3 (main_v64 A) := by
  funext i; rw [val_main_v64_apply, s_main_v62 A, s_main_v63 A]; refine Eq.trans (Finset.sum_congr rfl fun k _ => ?_) (coe_sum_fin 1024 fun k => _)
  exact (EReal.coe_mul _ _).symm

def main_v65 (A : Args) (a0 a1 a2 : ℕ) : ℝ := -main_v33 A a0 a1 a2
theorem s_main_v65 (A : Args) : val_main_v65 (F := Ideal) (up3 A.x0) (up2 A.x1) (up2 A.x2) (up3 A.x5) = up3 (main_v65 A) := by
  funext i; rw [val_main_v65_apply, s_main_v33 A]; exact (EReal.coe_neg _).symm

def main_v66 (A : Args) (a0 a1 a2 : ℕ) : ℝ := Real.exp (main_v65 A a0 a1 a2)
theorem s_main_v66 (A : Args) : val_main_v66 (F := Ideal) (up3 A.x0) (up2 A.x1) (up2 A.x2) (up3 A.x5) = up3 (main_v66 A) := by
  funext i; rw [val_main_v66_apply, s_main_v65 A]; exact Ideal.exp_coe _

def main_cst_5 (A : Args) : ℝ := 1
theorem s_main_cst_5 (A : Args) (i : S_.Idx) : val_main_cst_5 (F := Ideal) i = ((main_cst_5 A : ℝ) : EReal) := one_f32

def main_v67 (A : Args) (a0 a1 a2 : ℕ) : ℝ := main_cst_5 A
theorem s_main_v67 (A : Args) : val_main_v67 (F := Ideal) = up3 (main_v67 A) := by
  funext i; rw [val_main_v67_apply]; exact s_main_cst_5 A _

def main_v68 (A : Args) (a0 a1 a2 : ℕ) : ℝ := main_v67 A a0 a1 a2 + main_v66 A a0 a1 a2
theorem s_main_v68 (A : Args) : val_main_v68 (F := Ideal) (up3 A.x0) (up2 A.x1) (up2 A.x2) (up3 A.x5) = up3 (main_v68 A) := by
  funext i; rw [val_main_v68_apply, s_main_v67 A, s_main_v66 A]; exact (EReal.coe_add _ _).symm

def main_cst_6 (A : Args) : ℝ := 1
theorem s_main_cst_6 (A : Args) (i : S_.Idx) : val_main_cst_6 (F := Ideal) i = ((main_cst_6 A : ℝ) : EReal) := one_f32

def main_v69 (A : Args) (a0 a1 a2 : ℕ) : ℝ := main_cst_6 A
theorem s_main_v69 (A : Args) : val_main_v69 (F := Ideal) = up3 (main_v69 A) := by
  funext i; rw [val_main_v69_apply]; exact s_main_cst_6 A _

def main_v70 (A : Args) (a0 a1 a2 : ℕ) : ℝ := main_v69 A a0 a1 a2 / main_v68 A a0 a1 a2
theorem s_main_v70 (A : Args) : val_main_v70 (F := Ideal) (up3 A.x0) (up2 A.x1) (up2 A.x2) (up3 A.x5) = up3 (main_v70 A) := by
  funext i; rw [val_main_v70_apply, s_main_v69 A, s_main_v68 A]
  exact div_real _ _ (by show (1:ℝ) + Real.exp _ ≠ 0; positivity)

def main_v71 (A : Args) (a0 a1 a2 : ℕ) : ℝ := main_v32 A a0 a1 a2 * main_v70 A a0 a1 a2
theorem s_main_v71 (A : Args) : val_main_v71 (F := Ideal) (up3 A.x0) (up2 A.x1) (up2 A.x2) (up3 A.x5) = up3 (main_v71 A) := by
  funext i; rw [val_main_v71_apply, s_main_v32 A, s_main_v70 A]; exact (EReal.coe_mul _ _).symm

def main_v72 (A : Args) (a0 a1 : ℕ) : ℝ := A.x8 0 a0 a1
theorem s_main_v72 (A : Args) : val_main_v72 (F := Ideal) (up3 A.x8) = up2 (main_v72 A) := by
  funext i; rw [val_main_v72_apply]
  have h0 : (i 0).val < 31 := (i 0).isLt
  have h1 : (i 1).val < 1024 := (i 1).isLt
  show ((A.x8 (0) (((i 0).val * 1024 + (i 1).val) / 1024 % 31) (((i 0).val * 1024 + (i 1).val) % 1024) : ℝ) : EReal) = ((A.x8 (0) ((i 0).val) ((i 1).val) : ℝ) : EReal)
  rw [show ((i 0).val * 1024 + (i 1).val) / 1024 % 31 = (i 0).val by omega, show ((i 0).val * 1024 + (i 1).val) % 1024 = (i 1).val by omega]

def main_cst_7 (A : Args) : ℝ := 0
theorem s_main_cst_7 (A : Args) (i : S_.Idx) : val_main_cst_7 (F := Ideal) i = ((main_cst_7 A : ℝ) : EReal) := zero_f32

def main_v73 (A : Args) (a0 a1 a2 : ℕ) : ℝ := main_cst_7 A
theorem s_main_v73 (A : Args) : val_main_v73 (F := Ideal) = up3 (main_v73 A) := by
  funext i; rw [val_main_v73_apply]; exact s_main_cst_7 A _

def main_v74 (A : Args) (a0 a1 a2 : ℕ) : ℝ := if a1 < 30 then main_v73 A a0 a1 a2 else main_v71 A a0 (a1 - 30) a2
theorem s_main_v74 (A : Args) : val_main_v74 (F := Ideal) (up3 A.x0) (up2 A.x1) (up2 A.x2) (up3 A.x5) = up3 (main_v74 A) := by
  funext i; unfold val_main_v74
  have h0 : (i 0).val < 1 := (i 0).isLt
  have h1 : (i 1).val < 8222 := (i 1).isLt
  have h2 : (i 2).val < 1024 := (i 2).isLt
  rw [s_main_v73 A, s_main_v71 A]
  by_cases c0 : (i 1).val < 30
  · refine (concatenate_apply_piece _ _ _ i 0 (by simp) S1x30x1024 _ rfl rfl 0 rfl (fun b => match b with | ⟨0, _⟩ => ⟨(i 0).val, by show _ < 1; omega⟩ | ⟨1, _⟩ => ⟨(i 1).val - 0, by show _ < 30; omega⟩ | ⟨2, _⟩ => ⟨(i 2).val, by show _ < 1024; omega⟩) ?_ ?_).trans ?_
    · intro b hb; match b with | ⟨0, _⟩ => exact rfl | ⟨1, _⟩ => exact absurd rfl hb | ⟨2, _⟩ => exact rfl
    · show 0 + ((i 1).val - 0) = (i 1).val; omega
    · show ((main_v73 A (i 0).val ((i 1).val - 0) (i 2).val : ℝ) : EReal) = ((main_v74 A (i 0).val (i 1).val (i 2).val : ℝ) : EReal)
      unfold main_v74; simp only [Nat.sub_zero]; rw [if_pos c0]
  refine (concatenate_apply_piece _ _ _ i 1 (by simp) S1x8192x1024 _ rfl rfl 30 rfl (fun b => match b with | ⟨0, _⟩ => ⟨(i 0).val, by show _ < 1; omega⟩ | ⟨1, _⟩ => ⟨(i 1).val - 30, by show _ < 8192; omega⟩ | ⟨2, _⟩ => ⟨(i 2).val, by show _ < 1024; omega⟩) ?_ ?_).trans ?_
  · intro b hb; match b with | ⟨0, _⟩ => exact rfl | ⟨1, _⟩ => exact absurd rfl hb | ⟨2, _⟩ => exact rfl
  · show 30 + ((i 1).val - 30) = (i 1).val; omega
  · show ((main_v71 A (i 0).val ((i 1).val - 30) (i 2).val : ℝ) : EReal) = ((main_v74 A (i 0).val (i 1).val (i 2).val : ℝ) : EReal)
    unfold main_v74; rw [if_neg c0]

def main_v292 (A : Args) (a0 a1 a2 : ℕ) : ℝ := ∑ i ∈ Finset.range 31, main_v74 A a0 (i + a1) a2 * main_v72 A i a2
theorem s_main_v292 (A : Args) : val_main_v292 (F := Ideal) (up3 A.x0) (up2 A.x1) (up2 A.x2) (up3 A.x5) (up3 A.x8) = up3 (main_v292 A) := by
  simp only [val_main_v75, val_main_v76, val_main_v77, val_main_v78, val_main_v79, val_main_v80, val_main_v81, val_main_v82, val_main_v83, val_main_v84,
    val_main_v85, val_main_v86, val_main_v87, val_main_v88, val_main_v89, val_main_v90, val_main_v91, val_main_v92, val_main_v93, val_main_v94,
    val_main_v95, val_main_v96, val_main_v97, val_main_v98, val_main_v99, val_main_v100, val_main_v101, val_main_v102, val_main_v103,
    val_main_v104, val_main_v105, val_main_v106, val_main_v107, val_main_v108, val_main_v109, val_main_v110, val_main_v111, val_main_v112,
    val_main_v113, val_main_v114, val_main_v115, val_main_v116, val_main_v117, val_main_v118, val_main_v119, val_main_v120, val_main_v121,
    val_main_v122, val_main_v123, val_main_v124, val_main_v125, val_main_v126, val_main_v127, val_main_v128, val_main_v129, val_main_v130,
    val_main_v131, val_main_v132, val_main_v133, val_main_v134, val_main_v135, val_main_v136, val_main_v137, val_main_v138, val_main_v139,
    val_main_v140, val_main_v141, val_main_v142, val_main_v143, val_main_v144, val_main_v145, val_main_v146, val_main_v147, val_main_v148,
    val_main_v149, val_main_v150, val_main_v151, val_main_v152, val_main_v153, val_main_v154, val_main_v155, val_main_v156, val_main_v157,
    val_main_v158, val_main_v159, val_main_v160, val_main_v161, val_main_v162, val_main_v163, val_main_v164, val_main_v165, val_main_v166,
    val_main_v167, val_main_v168, val_main_v169, val_main_v170, val_main_v171, val_main_v172, val_main_v173, val_main_v174, val_main_v175,
    val_main_v176, val_main_v177, val_main_v178, val_main_v179, val_main_v180, val_main_v181, val_main_v182, val_main_v183, val_main_v184,
    val_main_v185, val_main_v186, val_main_v187, val_main_v188, val_main_v189, val_main_v190, val_main_v191, val_main_v192, val_main_v193,
    val_main_v194, val_main_v195, val_main_v196, val_main_v197, val_main_v198, val_main_v199, val_main_v200, val_main_v201, val_main_v202,
    val_main_v203, val_main_v204, val_main_v205, val_main_v206, val_main_v207, val_main_v208, val_main_v209, val_main_v210, val_main_v211,
    val_main_v212, val_main_v213, val_main_v214, val_main_v215, val_main_v216, val_main_v217, val_main_v218, val_main_v219, val_main_v220,
    val_main_v221, val_main_v222, val_main_v223, val_main_v224, val_main_v225, val_main_v226, val_main_v227, val_main_v228, val_main_v229,
    val_main_v230, val_main_v231, val_main_v232, val_main_v233, val_main_v234, val_main_v235, val_main_v236, val_main_v237, val_main_v238,
    val_main_v239, val_main_v240, val_main_v241, val_main_v242, val_main_v243, val_main_v244, val_main_v245, val_main_v246, val_main_v247,
    val_main_v248, val_main_v249, val_main_v250, val_main_v251, val_main_v252, val_main_v253, val_main_v254, val_main_v255, val_main_v256,
    val_main_v257, val_main_v258, val_main_v259, val_main_v260, val_main_v261, val_main_v262, val_main_v263, val_main_v264, val_main_v265,
    val_main_v266, val_main_v267, val_main_v268, val_main_v269, val_main_v270, val_main_v271, val_main_v272, val_main_v273, val_main_v274,
    val_main_v275, val_main_v276, val_main_v277, val_main_v278, val_main_v279, val_main_v280, val_main_v281, val_main_v282, val_main_v283,
    val_main_v284, val_main_v285, val_main_v286, val_main_v287, val_main_v288, val_main_v289, val_main_v290, val_main_v291, val_main_v292,
    val_main_cst_8,
    s_main_v74 A, s_main_v72 A]
  have t {i : ℕ} (h1) (h2) (h3) (h4) (h5) := tap (L := 8222) (K := 31) (i := i) (main_v74 A) (main_v72 A) h1 h2 h3 h4 h5
  rw [zeros, t (i := 0), addf_up3, t (i := 1), addf_up3, t (i := 2), addf_up3, t (i := 3), addf_up3, t (i := 4), addf_up3, t (i := 5), addf_up3, t (i := 6), addf_up3, t (i := 7), addf_up3, t (i := 8), addf_up3, t (i := 9), addf_up3, t (i := 10), addf_up3, t (i := 11), addf_up3, t (i := 12), addf_up3, t (i := 13), addf_up3, t (i := 14), addf_up3
    , t (i := 15), addf_up3, t (i := 16), addf_up3, t (i := 17), addf_up3, t (i := 18), addf_up3, t (i := 19), addf_up3, t (i := 20), addf_up3, t (i := 21), addf_up3, t (i := 22), addf_up3, t (i := 23), addf_up3, t (i := 24), addf_up3, t (i := 25), addf_up3, t (i := 26), addf_up3, t (i := 27), addf_up3, t (i := 28), addf_up3, t (i := 29), addf_up3, t (i := 30), addf_up3]
  refine congrArg up3 (funext fun a => funext fun r => funext fun c => ?_)
  show _ = main_v292 A a r c
  unfold main_v292
  simp only [Finset.sum_range_succ, Finset.sum_range_zero]

def main_v293 (A : Args) (a0 : ℕ) : ℝ := A.x9 0 a0
theorem s_main_v293 (A : Args) : val_main_v293 (F := Ideal) (up2 A.x9) = up1 (main_v293 A) := by
  funext i; rw [val_main_v293_apply]
  have h0 : (i 0).val < 1024 := (i 0).isLt
  show ((A.x9 (0) (((i 0).val) % 1024) : ℝ) : EReal) = ((A.x9 (0) ((i 0).val) : ℝ) : EReal)
  rw [show ((i 0).val) % 1024 = (i 0).val by omega]

def main_v294 (A : Args) (a0 a1 a2 : ℕ) : ℝ := main_v293 A a2
theorem s_main_v294 (A : Args) : val_main_v294 (F := Ideal) (up2 A.x9) = up3 (main_v294 A) := by
  funext i; rw [val_main_v294_apply, s_main_v293 A]; rfl

def main_v295 (A : Args) (a0 a1 a2 : ℕ) : ℝ := main_v294 A 0 0 a2
theorem s_main_v295 (A : Args) : val_main_v295 (F := Ideal) (up2 A.x9) = up3 (main_v295 A) := by
  funext i; rw [val_main_v295_apply, s_main_v294 A]; rfl

def main_v296 (A : Args) (a0 a1 a2 : ℕ) : ℝ := main_v292 A a0 a1 a2 + main_v295 A a0 a1 a2
theorem s_main_v296 (A : Args) : val_main_v296 (F := Ideal) (up3 A.x0) (up2 A.x1) (up2 A.x2) (up3 A.x5) (up3 A.x8) (up2 A.x9) = up3 (main_v296 A) := by
  funext i; rw [val_main_v296_apply, s_main_v292 A, s_main_v295 A]; exact (EReal.coe_add _ _).symm

def main_cst_9 (A : Args) : ℝ := 0
theorem s_main_cst_9 (A : Args) (i : S_.Idx) : val_main_cst_9 (F := Ideal) i = ((main_cst_9 A : ℝ) : EReal) := zero_f32

def main_v297 (A : Args) (a0 a1 : ℕ) : ℝ := main_cst_9 A + ∑ k ∈ Finset.range 1024, main_v296 A a0 a1 k
theorem s_main_v297 (A : Args) : val_main_v297 (F := Ideal) (up3 A.x0) (up2 A.x1) (up2 A.x2) (up3 A.x5) (up3 A.x8) (up2 A.x9) = up2 (main_v297 A) := by
  funext i; rw [val_main_v297_apply, s_main_v296 A, s_main_cst_9 A]
  refine Eq.trans (congrArg _ (Eq.trans (Finset.sum_congr rfl fun k _ => ?_) (coe_sum_fin 1024 fun k => main_v296 A (i 0).val (i 1).val k))) (EReal.coe_add _ _).symm
  rfl

def main_v298 (A : Args) (a0 a1 a2 : ℕ) : ℝ := main_v297 A 0 a1
theorem s_main_v298 (A : Args) : val_main_v298 (F := Ideal) (up3 A.x0) (up2 A.x1) (up2 A.x2) (up3 A.x5) (up3 A.x8) (up2 A.x9) = up3 (main_v298 A) := by
  funext i; rw [val_main_v298_apply, s_main_v297 A]; rfl

def main_cst_10 (A : Args) : ℝ := 1024
theorem s_main_cst_10 (A : Args) (i : S_.Idx) : val_main_cst_10 (F := Ideal) i = ((main_cst_10 A : ℝ) : EReal) := k1024_f32

def main_v299 (A : Args) (a0 a1 a2 : ℕ) : ℝ := main_cst_10 A
theorem s_main_v299 (A : Args) : val_main_v299 (F := Ideal) = up3 (main_v299 A) := by
  funext i; rw [val_main_v299_apply]; exact s_main_cst_10 A _

def main_v300 (A : Args) (a0 a1 a2 : ℕ) : ℝ := main_v298 A a0 a1 a2 / main_v299 A a0 a1 a2
theorem s_main_v300 (A : Args) : val_main_v300 (F := Ideal) (up3 A.x0) (up2 A.x1) (up2 A.x2) (up3 A.x5) (up3 A.x8) (up2 A.x9) = up3 (main_v300 A) := by
  funext i; rw [val_main_v300_apply, s_main_v298 A, s_main_v299 A]
  exact div_real _ _ (by show (1024:ℝ) ≠ 0; norm_num)

def main_v301 (A : Args) (a0 a1 a2 : ℕ) : ℝ := main_v300 A 0 a1 0
theorem s_main_v301 (A : Args) : val_main_v301 (F := Ideal) (up3 A.x0) (up2 A.x1) (up2 A.x2) (up3 A.x5) (up3 A.x8) (up2 A.x9) = up3 (main_v301 A) := by
  funext i; rw [val_main_v301_apply, s_main_v300 A]; rfl

def main_v302 (A : Args) (a0 a1 a2 : ℕ) : ℝ := main_v296 A a0 a1 a2 - main_v301 A a0 a1 a2
theorem s_main_v302 (A : Args) : val_main_v302 (F := Ideal) (up3 A.x0) (up2 A.x1) (up2 A.x2) (up3 A.x5) (up3 A.x8) (up2 A.x9) = up3 (main_v302 A) := by
  funext i; rw [val_main_v302_apply, s_main_v296 A, s_main_v301 A]; exact (EReal.coe_sub _ _).symm

def main_v303 (A : Args) (a0 a1 a2 : ℕ) : ℝ := main_v302 A a0 a1 a2 * main_v302 A a0 a1 a2
theorem s_main_v303 (A : Args) : val_main_v303 (F := Ideal) (up3 A.x0) (up2 A.x1) (up2 A.x2) (up3 A.x5) (up3 A.x8) (up2 A.x9) = up3 (main_v303 A) := by
  funext i; rw [val_main_v303_apply, s_main_v302 A]; exact (EReal.coe_mul _ _).symm

def main_cst_11 (A : Args) : ℝ := 0
theorem s_main_cst_11 (A : Args) (i : S_.Idx) : val_main_cst_11 (F := Ideal) i = ((main_cst_11 A : ℝ) : EReal) := zero_f32

def main_v304 (A : Args) (a0 a1 : ℕ) : ℝ := main_cst_11 A + ∑ k ∈ Finset.range 1024, main_v303 A a0 a1 k
theorem s_main_v304 (A : Args) : val_main_v304 (F := Ideal) (up3 A.x0) (up2 A.x1) (up2 A.x2) (up3 A.x5) (up3 A.x8) (up2 A.x9) = up2 (main_v304 A) := by
  funext i; rw [val_main_v304_apply, s_main_v303 A, s_main_cst_11 A]
  refine Eq.trans (congrArg _ (Eq.trans (Finset.sum_congr rfl fun k _ => ?_) (coe_sum_fin 1024 fun k => main_v303 A (i 0).val (i 1).val k))) (EReal.coe_add _ _).symm
  rfl

def main_v305 (A : Args) (a0 a1 a2 : ℕ) : ℝ := main_v304 A 0 a1
theorem s_main_v305 (A : Args) : val_main_v305 (F := Ideal) (up3 A.x0) (up2 A.x1) (up2 A.x2) (up3 A.x5) (up3 A.x8) (up2 A.x9) = up3 (main_v305 A) := by
  funext i; rw [val_main_v305_apply, s_main_v304 A]; rfl

def main_cst_12 (A : Args) : ℝ := 1024
theorem s_main_cst_12 (A : Args) (i : S_.Idx) : val_main_cst_12 (F := Ideal) i = ((main_cst_12 A : ℝ) : EReal) := k1024_f32

def main_v306 (A : Args) (a0 a1 a2 : ℕ) : ℝ := main_cst_12 A
theorem s_main_v306 (A : Args) : val_main_v306 (F := Ideal) = up3 (main_v306 A) := by
  funext i; rw [val_main_v306_apply]; exact s_main_cst_12 A _

def main_v307 (A : Args) (a0 a1 a2 : ℕ) : ℝ := main_v305 A a0 a1 a2 / main_v306 A a0 a1 a2
theorem s_main_v307 (A : Args) : val_main_v307 (F := Ideal) (up3 A.x0) (up2 A.x1) (up2 A.x2) (up3 A.x5) (up3 A.x8) (up2 A.x9) = up3 (main_v307 A) := by
  funext i; rw [val_main_v307_apply, s_main_v305 A, s_main_v306 A]
  exact div_real _ _ (by show (1024:ℝ) ≠ 0; norm_num)

def main_cst_13 (A : Args) : ℝ := leps
theorem s_main_cst_13 (A : Args) (i : S_.Idx) : val_main_cst_13 (F := Ideal) i = ((main_cst_13 A : ℝ) : EReal) := leps_f32

def main_v308 (A : Args) (a0 a1 a2 : ℕ) : ℝ := main_cst_13 A
theorem s_main_v308 (A : Args) : val_main_v308 (F := Ideal) = up3 (main_v308 A) := by
  funext i; rw [val_main_v308_apply]; exact s_main_cst_13 A _

def main_v309 (A : Args) (a0 a1 a2 : ℕ) : ℝ := main_v307 A a0 a1 a2 + main_v308 A a0 a1 a2
theorem s_main_v309 (A : Args) : val_main_v309 (F := Ideal) (up3 A.x0) (up2 A.x1) (up2 A.x2) (up3 A.x5) (up3 A.x8) (up2 A.x9) = up3 (main_v309 A) := by
  funext i; rw [val_main_v309_apply, s_main_v307 A, s_main_v308 A]; exact (EReal.coe_add _ _).symm

theorem v309_pos (A : Args) (a0 a1 a2 : ℕ) : 0 < main_v309 A a0 a1 a2 := by
  show 0 < (0 + ∑ k ∈ Finset.range 1024, main_v302 A 0 a1 k * main_v302 A 0 a1 k) / 1024 + leps
  rw [zero_add]; exact var_pos _

def main_v310 (A : Args) (a0 a1 a2 : ℕ) : ℝ := (√(main_v309 A a0 a1 a2))⁻¹
theorem s_main_v310 (A : Args) : val_main_v310 (F := Ideal) (up3 A.x0) (up2 A.x1) (up2 A.x2) (up3 A.x5) (up3 A.x8) (up2 A.x9) = up3 (main_v310 A) := by
  funext i; rw [val_main_v310_apply, s_main_v309 A]
  have hp := v309_pos A (i 0).val (i 1).val (i 2).val
  refine (Ideal.rsqrt_coe _).trans ?_
  rw [if_neg (not_lt.2 hp.le), if_neg hp.ne']; rfl

def main_v311 (A : Args) (a0 a1 a2 : ℕ) : ℝ := main_v310 A 0 a1 0
theorem s_main_v311 (A : Args) : val_main_v311 (F := Ideal) (up3 A.x0) (up2 A.x1) (up2 A.x2) (up3 A.x5) (up3 A.x8) (up2 A.x9) = up3 (main_v311 A) := by
  funext i; rw [val_main_v311_apply, s_main_v310 A]; rfl

def main_v312 (A : Args) (a0 a1 a2 : ℕ) : ℝ := main_v302 A a0 a1 a2 * main_v311 A a0 a1 a2
theorem s_main_v312 (A : Args) : val_main_v312 (F := Ideal) (up3 A.x0) (up2 A.x1) (up2 A.x2) (up3 A.x5) (up3 A.x8) (up2 A.x9) = up3 (main_v312 A) := by
  funext i; rw [val_main_v312_apply, s_main_v302 A, s_main_v311 A]; exact (EReal.coe_mul _ _).symm

def main_v313 (A : Args) (a0 : ℕ) : ℝ := A.x10 0 a0
theorem s_main_v313 (A : Args) : val_main_v313 (F := Ideal) (up2 A.x10) = up1 (main_v313 A) := by
  funext i; rw [val_main_v313_apply]
  have h0 : (i 0).val < 1024 := (i 0).isLt
  show ((A.x10 (0) (((i 0).val) % 1024) : ℝ) : EReal) = ((A.x10 (0) ((i 0).val) : ℝ) : EReal)
  rw [show ((i 0).val) % 1024 = (i 0).val by omega]

def main_v314 (A : Args) (a0 a1 a2 : ℕ) : ℝ := main_v313 A a2
theorem s_main_v314 (A : Args) : val_main_v314 (F := Ideal) (up2 A.x10) = up3 (main_v314 A) := by
  funext i; rw [val_main_v314_apply, s_main_v313 A]; rfl

def main_v315 (A : Args) (a0 a1 a2 : ℕ) : ℝ := main_v314 A 0 0 a2
theorem s_main_v315 (A : Args) : val_main_v315 (F := Ideal) (up2 A.x10) = up3 (main_v315 A) := by
  funext i; rw [val_main_v315_apply, s_main_v314 A]; rfl

def main_v316 (A : Args) (a0 a1 a2 : ℕ) : ℝ := main_v312 A a0 a1 a2 * main_v315 A a0 a1 a2
theorem s_main_v316 (A : Args) : val_main_v316 (F := Ideal) (up3 A.x0) (up2 A.x1) (up2 A.x2) (up3 A.x5) (up3 A.x8) (up2 A.x9) (up2 A.x10) = up3 (main_v316 A) := by
  funext i; rw [val_main_v316_apply, s_main_v312 A, s_main_v315 A]; exact (EReal.coe_mul _ _).symm

def main_v317 (A : Args) (a0 : ℕ) : ℝ := A.x11 0 a0
theorem s_main_v317 (A : Args) : val_main_v317 (F := Ideal) (up2 A.x11) = up1 (main_v317 A) := by
  funext i; rw [val_main_v317_apply]
  have h0 : (i 0).val < 1024 := (i 0).isLt
  show ((A.x11 (0) (((i 0).val) % 1024) : ℝ) : EReal) = ((A.x11 (0) ((i 0).val) : ℝ) : EReal)
  rw [show ((i 0).val) % 1024 = (i 0).val by omega]

def main_v318 (A : Args) (a0 a1 a2 : ℕ) : ℝ := main_v317 A a2
theorem s_main_v318 (A : Args) : val_main_v318 (F := Ideal) (up2 A.x11) = up3 (main_v318 A) := by
  funext i; rw [val_main_v318_apply, s_main_v317 A]; rfl

def main_v319 (A : Args) (a0 a1 a2 : ℕ) : ℝ := main_v318 A 0 0 a2
theorem s_main_v319 (A : Args) : val_main_v319 (F := Ideal) (up2 A.x11) = up3 (main_v319 A) := by
  funext i; rw [val_main_v319_apply, s_main_v318 A]; rfl

def main_v320 (A : Args) (a0 a1 a2 : ℕ) : ℝ := main_v316 A a0 a1 a2 + main_v319 A a0 a1 a2
theorem s_main_v320 (A : Args) : val_main_v320 (F := Ideal) (up3 A.x0) (up2 A.x1) (up2 A.x2) (up3 A.x5) (up3 A.x8) (up2 A.x9) (up2 A.x10) (up2 A.x11) = up3 (main_v320 A) := by
  funext i; rw [val_main_v320_apply, s_main_v316 A, s_main_v319 A]; exact (EReal.coe_add _ _).symm

def main_call0_v0 (A : Args) (a0 a1 a2 : ℕ) : ℝ := -main_v320 A a0 a1 a2
theorem s_main_call0_v0 (A : Args) : val_main_call0_v0 (F := Ideal) (up3 A.x0) (up2 A.x1) (up2 A.x2) (up3 A.x5) (up3 A.x8) (up2 A.x9) (up2 A.x10) (up2 A.x11) = up3 (main_call0_v0 A) := by
  funext i; rw [val_main_call0_v0_apply, s_main_v320 A]; exact (EReal.coe_neg _).symm

def main_call0_v1 (A : Args) (a0 a1 a2 : ℕ) : ℝ := Real.exp (main_call0_v0 A a0 a1 a2)
theorem s_main_call0_v1 (A : Args) : val_main_call0_v1 (F := Ideal) (up3 A.x0) (up2 A.x1) (up2 A.x2) (up3 A.x5) (up3 A.x8) (up2 A.x9) (up2 A.x10) (up2 A.x11) = up3 (main_call0_v1 A) := by
  funext i; rw [val_main_call0_v1_apply, s_main_call0_v0 A]; exact Ideal.exp_coe _

def main_call0_cst (A : Args) : ℝ := 1
theorem s_main_call0_cst (A : Args) (i : S_.Idx) : val_main_call0_cst (F := Ideal) i = ((main_call0_cst A : ℝ) : EReal) := one_f32

def main_call0_v2 (A : Args) (a0 a1 a2 : ℕ) : ℝ := main_call0_cst A
theorem s_main_call0_v2 (A : Args) : val_main_call0_v2 (F := Ideal) = up3 (main_call0_v2 A) := by
  funext i; rw [val_main_call0_v2_apply]; exact s_main_call0_cst A _

def main_call0_v3 (A : Args) (a0 a1 a2 : ℕ) : ℝ := main_call0_v2 A a0 a1 a2 + main_call0_v1 A a0 a1 a2
theorem s_main_call0_v3 (A : Args) : val_main_call0_v3 (F := Ideal) (up3 A.x0) (up2 A.x1) (up2 A.x2) (up3 A.x5) (up3 A.x8) (up2 A.x9) (up2 A.x10) (up2 A.x11) = up3 (main_call0_v3 A) := by
  funext i; rw [val_main_call0_v3_apply, s_main_call0_v2 A, s_main_call0_v1 A]; exact (EReal.coe_add _ _).symm

def main_call0_cst_0 (A : Args) : ℝ := 1
theorem s_main_call0_cst_0 (A : Args) (i : S_.Idx) : val_main_call0_cst_0 (F := Ideal) i = ((main_call0_cst_0 A : ℝ) : EReal) := one_f32

def main_call0_v4 (A : Args) (a0 a1 a2 : ℕ) : ℝ := main_call0_cst_0 A
theorem s_main_call0_v4 (A : Args) : val_main_call0_v4 (F := Ideal) = up3 (main_call0_v4 A) := by
  funext i; rw [val_main_call0_v4_apply]; exact s_main_call0_cst_0 A _

def main_call0_v5 (A : Args) (a0 a1 a2 : ℕ) : ℝ := main_call0_v4 A a0 a1 a2 / main_call0_v3 A a0 a1 a2
theorem s_main_call0_v5 (A : Args) : val_main_call0_v5 (F := Ideal) (up3 A.x0) (up2 A.x1) (up2 A.x2) (up3 A.x5) (up3 A.x8) (up2 A.x9) (up2 A.x10) (up2 A.x11) = up3 (main_call0_v5 A) := by
  funext i; rw [val_main_call0_v5_apply, s_main_call0_v4 A, s_main_call0_v3 A]
  exact div_real _ _ (by show (1:ℝ) + Real.exp _ ≠ 0; positivity)

def main_v321 (A : Args) (a0 a1 a2 : ℕ) : ℝ := main_v320 A a0 a1 a2 * main_call0_v5 A a0 a1 a2
theorem s_main_v321 (A : Args) : val_main_v321 (F := Ideal) (up3 A.x0) (up2 A.x1) (up2 A.x2) (up3 A.x5) (up3 A.x8) (up2 A.x9) (up2 A.x10) (up2 A.x11) = up3 (main_v321 A) := by
  funext i; rw [val_main_v321_apply, s_main_v320 A, s_main_call0_v5 A]; exact (EReal.coe_mul _ _).symm

def main_v322 (A : Args) (a0 a1 : ℕ) : ℝ := A.x12 0 a0 a1
theorem s_main_v322 (A : Args) : val_main_v322 (F := Ideal) (up3 A.x12) = up2 (main_v322 A) := by
  funext i; rw [val_main_v322_apply]
  have h0 : (i 0).val < 1024 := (i 0).isLt
  have h1 : (i 1).val < 1024 := (i 1).isLt
  show ((A.x12 (0) (((i 0).val * 1024 + (i 1).val) / 1024 % 1024) (((i 0).val * 1024 + (i 1).val) % 1024) : ℝ) : EReal) = ((A.x12 (0) ((i 0).val) ((i 1).val) : ℝ) : EReal)
  rw [show ((i 0).val * 1024 + (i 1).val) / 1024 % 1024 = (i 0).val by omega, show ((i 0).val * 1024 + (i 1).val) % 1024 = (i 1).val by omega]

def main_v323 (A : Args) (a0 a1 a2 : ℕ) : ℝ := ∑ k ∈ Finset.range 1024, main_v321 A a0 a1 k * main_v322 A k a2
theorem s_main_v323 (A : Args) : val_main_v323 (F := Ideal) (up3 A.x0) (up2 A.x1) (up2 A.x2) (up3 A.x5) (up3 A.x8) (up2 A.x9) (up2 A.x10) (up2 A.x11) (up3 A.x12) = up3 (main_v323 A) := by
  funext i; rw [val_main_v323_apply, s_main_v321 A, s_main_v322 A]; refine Eq.trans (Finset.sum_congr rfl fun k _ => ?_) (coe_sum_fin 1024 fun k => _)
  exact (EReal.coe_mul _ _).symm

def main_v324 (A : Args) (a0 a1 a2 : ℕ) : ℝ := -main_v34 A a0 a1 a2
theorem s_main_v324 (A : Args) : val_main_v324 (F := Ideal) (up3 A.x0) (up2 A.x1) (up2 A.x2) (up3 A.x5) = up3 (main_v324 A) := by
  funext i; rw [val_main_v324_apply, s_main_v34 A]; exact (EReal.coe_neg _).symm

def main_v325 (A : Args) (a0 a1 a2 : ℕ) : ℝ := Real.exp (main_v324 A a0 a1 a2)
theorem s_main_v325 (A : Args) : val_main_v325 (F := Ideal) (up3 A.x0) (up2 A.x1) (up2 A.x2) (up3 A.x5) = up3 (main_v325 A) := by
  funext i; rw [val_main_v325_apply, s_main_v324 A]; exact Ideal.exp_coe _

def main_cst_14 (A : Args) : ℝ := 1
theorem s_main_cst_14 (A : Args) (i : S_.Idx) : val_main_cst_14 (F := Ideal) i = ((main_cst_14 A : ℝ) : EReal) := one_f32

def main_v326 (A : Args) (a0 a1 a2 : ℕ) : ℝ := main_cst_14 A
theorem s_main_v326 (A : Args) : val_main_v326 (F := Ideal) = up3 (main_v326 A) := by
  funext i; rw [val_main_v326_apply]; exact s_main_cst_14 A _

def main_v327 (A : Args) (a0 a1 a2 : ℕ) : ℝ := main_v326 A a0 a1 a2 + main_v325 A a0 a1 a2
theorem s_main_v327 (A : Args) : val_main_v327 (F := Ideal) (up3 A.x0) (up2 A.x1) (up2 A.x2) (up3 A.x5) = up3 (main_v327 A) := by
  funext i; rw [val_main_v327_apply, s_main_v326 A, s_main_v325 A]; exact (EReal.coe_add _ _).symm

def main_cst_15 (A : Args) : ℝ := 1
theorem s_main_cst_15 (A : Args) (i : S_.Idx) : val_main_cst_15 (F := Ideal) i = ((main_cst_15 A : ℝ) : EReal) := one_f32

def main_v328 (A : Args) (a0 a1 a2 : ℕ) : ℝ := main_cst_15 A
theorem s_main_v328 (A : Args) : val_main_v328 (F := Ideal) = up3 (main_v328 A) := by
  funext i; rw [val_main_v328_apply]; exact s_main_cst_15 A _

def main_v329 (A : Args) (a0 a1 a2 : ℕ) : ℝ := main_v328 A a0 a1 a2 / main_v327 A a0 a1 a2
theorem s_main_v329 (A : Args) : val_main_v329 (F := Ideal) (up3 A.x0) (up2 A.x1) (up2 A.x2) (up3 A.x5) = up3 (main_v329 A) := by
  funext i; rw [val_main_v329_apply, s_main_v328 A, s_main_v327 A]
  exact div_real _ _ (by show (1:ℝ) + Real.exp _ ≠ 0; positivity)

def main_v330 (A : Args) (a0 a1 a2 : ℕ) : ℝ := -main_v35 A a0 a1 a2
theorem s_main_v330 (A : Args) : val_main_v330 (F := Ideal) (up3 A.x0) (up2 A.x1) (up2 A.x2) (up3 A.x5) = up3 (main_v330 A) := by
  funext i; rw [val_main_v330_apply, s_main_v35 A]; exact (EReal.coe_neg _).symm

def main_v331 (A : Args) (a0 a1 a2 : ℕ) : ℝ := Real.exp (main_v330 A a0 a1 a2)
theorem s_main_v331 (A : Args) : val_main_v331 (F := Ideal) (up3 A.x0) (up2 A.x1) (up2 A.x2) (up3 A.x5) = up3 (main_v331 A) := by
  funext i; rw [val_main_v331_apply, s_main_v330 A]; exact Ideal.exp_coe _

def main_cst_16 (A : Args) : ℝ := 1
theorem s_main_cst_16 (A : Args) (i : S_.Idx) : val_main_cst_16 (F := Ideal) i = ((main_cst_16 A : ℝ) : EReal) := one_f32

def main_v332 (A : Args) (a0 a1 a2 : ℕ) : ℝ := main_cst_16 A
theorem s_main_v332 (A : Args) : val_main_v332 (F := Ideal) = up3 (main_v332 A) := by
  funext i; rw [val_main_v332_apply]; exact s_main_cst_16 A _

def main_v333 (A : Args) (a0 a1 a2 : ℕ) : ℝ := main_v332 A a0 a1 a2 + main_v331 A a0 a1 a2
theorem s_main_v333 (A : Args) : val_main_v333 (F := Ideal) (up3 A.x0) (up2 A.x1) (up2 A.x2) (up3 A.x5) = up3 (main_v333 A) := by
  funext i; rw [val_main_v333_apply, s_main_v332 A, s_main_v331 A]; exact (EReal.coe_add _ _).symm

def main_cst_17 (A : Args) : ℝ := 1
theorem s_main_cst_17 (A : Args) (i : S_.Idx) : val_main_cst_17 (F := Ideal) i = ((main_cst_17 A : ℝ) : EReal) := one_f32

def main_v334 (A : Args) (a0 a1 a2 : ℕ) : ℝ := main_cst_17 A
theorem s_main_v334 (A : Args) : val_main_v334 (F := Ideal) = up3 (main_v334 A) := by
  funext i; rw [val_main_v334_apply]; exact s_main_cst_17 A _

def main_v335 (A : Args) (a0 a1 a2 : ℕ) : ℝ := main_v334 A a0 a1 a2 / main_v333 A a0 a1 a2
theorem s_main_v335 (A : Args) : val_main_v335 (F := Ideal) (up3 A.x0) (up2 A.x1) (up2 A.x2) (up3 A.x5) = up3 (main_v335 A) := by
  funext i; rw [val_main_v335_apply, s_main_v334 A, s_main_v333 A]
  exact div_real _ _ (by show (1:ℝ) + Real.exp _ ≠ 0; positivity)

def main_v336 (A : Args) (a0 a1 a2 : ℕ) : ℝ := main_v329 A a0 a1 a2 * main_v64 A a0 a1 a2
theorem s_main_v336 (A : Args) : val_main_v336 (F := Ideal) (up3 A.x0) (up2 A.x1) (up2 A.x2) (up3 A.x5) (up3 A.x6) (up3 A.x7) = up3 (main_v336 A) := by
  funext i; rw [val_main_v336_apply, s_main_v329 A, s_main_v64 A]; exact (EReal.coe_mul _ _).symm

def main_v337 (A : Args) (a0 a1 a2 : ℕ) : ℝ := main_v335 A a0 a1 a2 * main_v323 A a0 a1 a2
theorem s_main_v337 (A : Args) : val_main_v337 (F := Ideal) (up3 A.x0) (up2 A.x1) (up2 A.x2) (up3 A.x5) (up3 A.x8) (up2 A.x9) (up2 A.x10) (up2 A.x11) (up3 A.x12) = up3 (main_v337 A) := by
  funext i; rw [val_main_v337_apply, s_main_v335 A, s_main_v323 A]; exact (EReal.coe_mul _ _).symm

def main_v338 (A : Args) (a0 a1 a2 : ℕ) : ℝ := main_v336 A a0 a1 a2 + main_v337 A a0 a1 a2
theorem s_main_v338 (A : Args) : val_main_v338 (F := Ideal) (up3 A.x0) (up2 A.x1) (up2 A.x2) (up3 A.x5) (up3 A.x6) (up3 A.x7) (up3 A.x8) (up2 A.x9) (up2 A.x10) (up2 A.x11) (up3 A.x12) = up3 (main_v338 A) := by
  funext i; rw [val_main_v338_apply, s_main_v336 A, s_main_v337 A]; exact (EReal.coe_add _ _).symm

def main_v339 (A : Args) (a0 a1 : ℕ) : ℝ := A.x13 0 a0 a1
theorem s_main_v339 (A : Args) : val_main_v339 (F := Ideal) (up3 A.x13) = up2 (main_v339 A) := by
  funext i; rw [val_main_v339_apply]
  have h0 : (i 0).val < 1024 := (i 0).isLt
  have h1 : (i 1).val < 1024 := (i 1).isLt
  show ((A.x13 (0) (((i 0).val * 1024 + (i 1).val) / 1024 % 1024) (((i 0).val * 1024 + (i 1).val) % 1024) : ℝ) : EReal) = ((A.x13 (0) ((i 0).val) ((i 1).val) : ℝ) : EReal)
  rw [show ((i 0).val * 1024 + (i 1).val) / 1024 % 1024 = (i 0).val by omega, show ((i 0).val * 1024 + (i 1).val) % 1024 = (i 1).val by omega]

def main_v340 (A : Args) (a0 a1 a2 : ℕ) : ℝ := ∑ k ∈ Finset.range 1024, main_v338 A a0 a1 k * main_v339 A k a2
theorem s_main_v340 (A : Args) : val_main_v340 (F := Ideal) (up3 A.x0) (up2 A.x1) (up2 A.x2) (up3 A.x5) (up3 A.x6) (up3 A.x7) (up3 A.x8) (up2 A.x9) (up2 A.x10) (up2 A.x11) (up3 A.x12) (up3 A.x13) = up3 (main_v340 A) := by
  funext i; rw [val_main_v340_apply, s_main_v338 A, s_main_v339 A]; refine Eq.trans (Finset.sum_congr rfl fun k _ => ?_) (coe_sum_fin 1024 fun k => _)
  exact (EReal.coe_mul _ _).symm

def main_v341 (A : Args) (a0 a1 a2 : ℕ) : ℝ := main_v3 A 0 0 a2
theorem s_main_v341 (A : Args) : val_main_v341 (F := Ideal) (up2 A.x1) = up3 (main_v341 A) := by
  funext i; rw [val_main_v341_apply, s_main_v3 A]; rfl

def main_v342 (A : Args) (a0 a1 a2 : ℕ) : ℝ := main_v341 A a0 a1 a2 * main_v340 A a0 a1 a2
theorem s_main_v342 (A : Args) : val_main_v342 (F := Ideal) (up3 A.x0) (up2 A.x1) (up2 A.x2) (up3 A.x5) (up3 A.x6) (up3 A.x7) (up3 A.x8) (up2 A.x9) (up2 A.x10) (up2 A.x11) (up3 A.x12) (up3 A.x13) = up3 (main_v342 A) := by
  funext i; rw [val_main_v342_apply, s_main_v341 A, s_main_v340 A]; exact (EReal.coe_mul _ _).symm

def main_v343 (A : Args) (a0 a1 a2 : ℕ) : ℝ := A.x0 a0 a1 a2 + main_v342 A a0 a1 a2
theorem s_main_v343 (A : Args) : val_main_v343 (F := Ideal) (up3 A.x0) (up2 A.x1) (up2 A.x2) (up3 A.x5) (up3 A.x6) (up3 A.x7) (up3 A.x8) (up2 A.x9) (up2 A.x10) (up2 A.x11) (up3 A.x12) (up3 A.x13) = up3 (main_v343 A) := by
  funext i; rw [val_main_v343_apply, s_main_v342 A]; exact (EReal.coe_add _ _).symm

def main_v344 (A : Args) (a0 a1 : ℕ) : ℝ := main_v343 A 0 a0 a1
theorem s_main_v344 (A : Args) : val_main_v344 (F := Ideal) (up3 A.x0) (up2 A.x1) (up2 A.x2) (up3 A.x5) (up3 A.x6) (up3 A.x7) (up3 A.x8) (up2 A.x9) (up2 A.x10) (up2 A.x11) (up3 A.x12) (up3 A.x13) = up2 (main_v344 A) := by
  funext i; rw [val_main_v344_apply, s_main_v343 A]
  have h0 : (i 0).val < 8192 := (i 0).isLt
  have h1 : (i 1).val < 1024 := (i 1).isLt
  show ((main_v343 A (0) (((i 0).val * 1024 + (i 1).val) / 1024 % 8192) (((i 0).val * 1024 + (i 1).val) % 1024) : ℝ) : EReal) = ((main_v343 A (0) ((i 0).val) ((i 1).val) : ℝ) : EReal)
  rw [show ((i 0).val * 1024 + (i 1).val) / 1024 % 8192 = (i 0).val by omega, show ((i 0).val * 1024 + (i 1).val) % 1024 = (i 1).val by omega]

def main_v345 (A : Args) (a0 a1 : ℕ) : ℝ := main_v64 A 0 a0 a1
theorem s_main_v345 (A : Args) : val_main_v345 (F := Ideal) (up3 A.x0) (up2 A.x1) (up2 A.x2) (up3 A.x5) (up3 A.x6) (up3 A.x7) = up2 (main_v345 A) := by
  funext i; rw [val_main_v345_apply, s_main_v64 A]
  have h0 : (i 0).val < 8192 := (i 0).isLt
  have h1 : (i 1).val < 1024 := (i 1).isLt
  show ((main_v64 A (0) (((i 0).val * 1024 + (i 1).val) / 1024 % 8192) (((i 0).val * 1024 + (i 1).val) % 1024) : ℝ) : EReal) = ((main_v64 A (0) ((i 0).val) ((i 1).val) : ℝ) : EReal)
  rw [show ((i 0).val * 1024 + (i 1).val) / 1024 % 8192 = (i 0).val by omega, show ((i 0).val * 1024 + (i 1).val) % 1024 = (i 1).val by omega]

def main_v346 (A : Args) (a0 a1 : ℕ) : ℝ := main_v345 A a0 a1
theorem s_main_v346 (A : Args) : val_main_v346 (F := Ideal) (up3 A.x0) (up2 A.x1) (up2 A.x2) (up3 A.x5) (up3 A.x6) (up3 A.x7) = up2 (main_v346 A) := by
  funext i; rw [val_main_v346_apply, s_main_v345 A]; rfl

def main_v347 (A : Args) (a0 a1 : ℕ) : ℝ := main_v323 A 0 a0 a1
theorem s_main_v347 (A : Args) : val_main_v347 (F := Ideal) (up3 A.x0) (up2 A.x1) (up2 A.x2) (up3 A.x5) (up3 A.x8) (up2 A.x9) (up2 A.x10) (up2 A.x11) (up3 A.x12) = up2 (main_v347 A) := by
  funext i; rw [val_main_v347_apply, s_main_v323 A]
  have h0 : (i 0).val < 8192 := (i 0).isLt
  have h1 : (i 1).val < 1024 := (i 1).isLt
  show ((main_v323 A (0) (((i 0).val * 1024 + (i 1).val) / 1024 % 8192) (((i 0).val * 1024 + (i 1).val) % 1024) : ℝ) : EReal) = ((main_v323 A (0) ((i 0).val) ((i 1).val) : ℝ) : EReal)
  rw [show ((i 0).val * 1024 + (i 1).val) / 1024 % 8192 = (i 0).val by omega, show ((i 0).val * 1024 + (i 1).val) % 1024 = (i 1).val by omega]

def main_v348 (A : Args) (a0 a1 : ℕ) : ℝ := main_v347 A a0 a1
theorem s_main_v348 (A : Args) : val_main_v348 (F := Ideal) (up3 A.x0) (up2 A.x1) (up2 A.x2) (up3 A.x5) (up3 A.x8) (up2 A.x9) (up2 A.x10) (up2 A.x11) (up3 A.x12) = up2 (main_v348 A) := by
  funext i; rw [val_main_v348_apply, s_main_v347 A]; rfl

def main_v349 (A : Args) (a0 a1 : ℕ) : ℝ := main_v340 A 0 a0 a1
theorem s_main_v349 (A : Args) : val_main_v349 (F := Ideal) (up3 A.x0) (up2 A.x1) (up2 A.x2) (up3 A.x5) (up3 A.x6) (up3 A.x7) (up3 A.x8) (up2 A.x9) (up2 A.x10) (up2 A.x11) (up3 A.x12) (up3 A.x13) = up2 (main_v349 A) := by
  funext i; rw [val_main_v349_apply, s_main_v340 A]
  have h0 : (i 0).val < 8192 := (i 0).isLt
  have h1 : (i 1).val < 1024 := (i 1).isLt
  show ((main_v340 A (0) (((i 0).val * 1024 + (i 1).val) / 1024 % 8192) (((i 0).val * 1024 + (i 1).val) % 1024) : ℝ) : EReal) = ((main_v340 A (0) ((i 0).val) ((i 1).val) : ℝ) : EReal)
  rw [show ((i 0).val * 1024 + (i 1).val) / 1024 % 8192 = (i 0).val by omega, show ((i 0).val * 1024 + (i 1).val) % 1024 = (i 1).val by omega]

def main_v350 (A : Args) (a0 a1 : ℕ) : ℝ := main_v349 A a0 a1
theorem s_main_v350 (A : Args) : val_main_v350 (F := Ideal) (up3 A.x0) (up2 A.x1) (up2 A.x2) (up3 A.x5) (up3 A.x6) (up3 A.x7) (up3 A.x8) (up2 A.x9) (up2 A.x10) (up2 A.x11) (up3 A.x12) (up3 A.x13) = up2 (main_v350 A) := by
  funext i; rw [val_main_v350_apply, s_main_v349 A]; rfl

def main_v351 (A : Args) (a0 a1 : ℕ) : ℝ := main_v312 A 0 a0 a1
theorem s_main_v351 (A : Args) : val_main_v351 (F := Ideal) (up3 A.x0) (up2 A.x1) (up2 A.x2) (up3 A.x5) (up3 A.x8) (up2 A.x9) = up2 (main_v351 A) := by
  funext i; rw [val_main_v351_apply, s_main_v312 A]
  have h0 : (i 0).val < 8192 := (i 0).isLt
  have h1 : (i 1).val < 1024 := (i 1).isLt
  show ((main_v312 A (0) (((i 0).val * 1024 + (i 1).val) / 1024 % 8192) (((i 0).val * 1024 + (i 1).val) % 1024) : ℝ) : EReal) = ((main_v312 A (0) ((i 0).val) ((i 1).val) : ℝ) : EReal)
  rw [show ((i 0).val * 1024 + (i 1).val) / 1024 % 8192 = (i 0).val by omega, show ((i 0).val * 1024 + (i 1).val) % 1024 = (i 1).val by omega]

def main_v352 (A : Args) (a0 a1 : ℕ) : ℝ := main_v351 A a0 a1
theorem s_main_v352 (A : Args) : val_main_v352 (F := Ideal) (up3 A.x0) (up2 A.x1) (up2 A.x2) (up3 A.x5) (up3 A.x8) (up2 A.x9) = up2 (main_v352 A) := by
  funext i; rw [val_main_v352_apply, s_main_v351 A]; rfl

def main_v353 (A : Args) (a0 a1 : ℕ) : ℝ := main_v61 A 0 a0 a1
theorem s_main_v353 (A : Args) : val_main_v353 (F := Ideal) (up3 A.x0) (up2 A.x1) (up2 A.x2) (up3 A.x5) (up3 A.x6) = up2 (main_v353 A) := by
  funext i; rw [val_main_v353_apply, s_main_v61 A]
  have h0 : (i 0).val < 8192 := (i 0).isLt
  have h1 : (i 1).val < 1024 := (i 1).isLt
  show ((main_v61 A (0) (((i 0).val * 1024 + (i 1).val) / 1024 % 8192) (((i 0).val * 1024 + (i 1).val) % 1024) : ℝ) : EReal) = ((main_v61 A (0) ((i 0).val) ((i 1).val) : ℝ) : EReal)
  rw [show ((i 0).val * 1024 + (i 1).val) / 1024 % 8192 = (i 0).val by omega, show ((i 0).val * 1024 + (i 1).val) % 1024 = (i 1).val by omega]

def main_v354 (A : Args) (a0 a1 : ℕ) : ℝ := main_v353 A a0 a1
theorem s_main_v354 (A : Args) : val_main_v354 (F := Ideal) (up3 A.x0) (up2 A.x1) (up2 A.x2) (up3 A.x5) (up3 A.x6) = up2 (main_v354 A) := by
  funext i; rw [val_main_v354_apply, s_main_v353 A]; rfl

def main_v355 (A : Args) (a0 a1 : ℕ) : ℝ := main_v70 A 0 a0 a1
theorem s_main_v355 (A : Args) : val_main_v355 (F := Ideal) (up3 A.x0) (up2 A.x1) (up2 A.x2) (up3 A.x5) = up2 (main_v355 A) := by
  funext i; rw [val_main_v355_apply, s_main_v70 A]
  have h0 : (i 0).val < 8192 := (i 0).isLt
  have h1 : (i 1).val < 1024 := (i 1).isLt
  show ((main_v70 A (0) (((i 0).val * 1024 + (i 1).val) / 1024 % 8192) (((i 0).val * 1024 + (i 1).val) % 1024) : ℝ) : EReal) = ((main_v70 A (0) ((i 0).val) ((i 1).val) : ℝ) : EReal)
  rw [show ((i 0).val * 1024 + (i 1).val) / 1024 % 8192 = (i 0).val by omega, show ((i 0).val * 1024 + (i 1).val) % 1024 = (i 1).val by omega]

def main_v356 (A : Args) (a0 a1 : ℕ) : ℝ := main_v355 A a0 a1
theorem s_main_v356 (A : Args) : val_main_v356 (F := Ideal) (up3 A.x0) (up2 A.x1) (up2 A.x2) (up3 A.x5) = up2 (main_v356 A) := by
  funext i; rw [val_main_v356_apply, s_main_v355 A]; rfl

def main_v357 (A : Args) (a0 a1 : ℕ) : ℝ := main_v329 A 0 a0 a1
theorem s_main_v357 (A : Args) : val_main_v357 (F := Ideal) (up3 A.x0) (up2 A.x1) (up2 A.x2) (up3 A.x5) = up2 (main_v357 A) := by
  funext i; rw [val_main_v357_apply, s_main_v329 A]
  have h0 : (i 0).val < 8192 := (i 0).isLt
  have h1 : (i 1).val < 1024 := (i 1).isLt
  show ((main_v329 A (0) (((i 0).val * 1024 + (i 1).val) / 1024 % 8192) (((i 0).val * 1024 + (i 1).val) % 1024) : ℝ) : EReal) = ((main_v329 A (0) ((i 0).val) ((i 1).val) : ℝ) : EReal)
  rw [show ((i 0).val * 1024 + (i 1).val) / 1024 % 8192 = (i 0).val by omega, show ((i 0).val * 1024 + (i 1).val) % 1024 = (i 1).val by omega]

def main_v358 (A : Args) (a0 a1 : ℕ) : ℝ := main_v357 A a0 a1
theorem s_main_v358 (A : Args) : val_main_v358 (F := Ideal) (up3 A.x0) (up2 A.x1) (up2 A.x2) (up3 A.x5) = up2 (main_v358 A) := by
  funext i; rw [val_main_v358_apply, s_main_v357 A]; rfl

def main_v359 (A : Args) (a0 a1 : ℕ) : ℝ := main_v335 A 0 a0 a1
theorem s_main_v359 (A : Args) : val_main_v359 (F := Ideal) (up3 A.x0) (up2 A.x1) (up2 A.x2) (up3 A.x5) = up2 (main_v359 A) := by
  funext i; rw [val_main_v359_apply, s_main_v335 A]
  have h0 : (i 0).val < 8192 := (i 0).isLt
  have h1 : (i 1).val < 1024 := (i 1).isLt
  show ((main_v335 A (0) (((i 0).val * 1024 + (i 1).val) / 1024 % 8192) (((i 0).val * 1024 + (i 1).val) % 1024) : ℝ) : EReal) = ((main_v335 A (0) ((i 0).val) ((i 1).val) : ℝ) : EReal)
  rw [show ((i 0).val * 1024 + (i 1).val) / 1024 % 8192 = (i 0).val by omega, show ((i 0).val * 1024 + (i 1).val) % 1024 = (i 1).val by omega]

def main_v360 (A : Args) (a0 a1 : ℕ) : ℝ := main_v359 A a0 a1
theorem s_main_v360 (A : Args) : val_main_v360 (F := Ideal) (up3 A.x0) (up2 A.x1) (up2 A.x2) (up3 A.x5) = up2 (main_v360 A) := by
  funext i; rw [val_main_v360_apply, s_main_v359 A]; rfl

def main_v361 (A : Args) (a0 a1 a2 : ℕ) : ℝ := if a0 < 1 then main_v62 A a0 a1 a2 else if a0 < 2 then main_v321 A (a0 - 1) a1 a2 else main_v338 A (a0 - 2) a1 a2
theorem s_main_v361 (A : Args) : val_main_v361 (F := Ideal) (up3 A.x0) (up2 A.x1) (up2 A.x2) (up3 A.x5) (up3 A.x6) (up3 A.x7) (up3 A.x8) (up2 A.x9) (up2 A.x10) (up2 A.x11) (up3 A.x12) = up3 (main_v361 A) := by
  funext i; unfold val_main_v361
  have h0 : (i 0).val < 3 := (i 0).isLt
  have h1 : (i 1).val < 8192 := (i 1).isLt
  have h2 : (i 2).val < 1024 := (i 2).isLt
  rw [s_main_v62 A, s_main_v321 A, s_main_v338 A]
  by_cases c0 : (i 0).val < 1
  · refine (concatenate_apply_piece _ _ _ i 0 (by simp) S1x8192x1024 _ rfl rfl 0 rfl (fun b => match b with | ⟨0, _⟩ => ⟨(i 0).val - 0, by show _ < 1; omega⟩ | ⟨1, _⟩ => ⟨(i 1).val, by show _ < 8192; omega⟩ | ⟨2, _⟩ => ⟨(i 2).val, by show _ < 1024; omega⟩) ?_ ?_).trans ?_
    · intro b hb; match b with | ⟨0, _⟩ => exact absurd rfl hb | ⟨1, _⟩ => exact rfl | ⟨2, _⟩ => exact rfl
    · show 0 + ((i 0).val - 0) = (i 0).val; omega
    · show ((main_v62 A ((i 0).val - 0) (i 1).val (i 2).val : ℝ) : EReal) = ((main_v361 A (i 0).val (i 1).val (i 2).val : ℝ) : EReal)
      unfold main_v361; simp only [Nat.sub_zero]; rw [if_pos c0]
  by_cases c1 : (i 0).val < 2
  · refine (concatenate_apply_piece _ _ _ i 1 (by simp) S1x8192x1024 _ rfl rfl 1 rfl (fun b => match b with | ⟨0, _⟩ => ⟨(i 0).val - 1, by show _ < 1; omega⟩ | ⟨1, _⟩ => ⟨(i 1).val, by show _ < 8192; omega⟩ | ⟨2, _⟩ => ⟨(i 2).val, by show _ < 1024; omega⟩) ?_ ?_).trans ?_
    · intro b hb; match b with | ⟨0, _⟩ => exact absurd rfl hb | ⟨1, _⟩ => exact rfl | ⟨2, _⟩ => exact rfl
    · show 1 + ((i 0).val - 1) = (i 0).val; omega
    · show ((main_v321 A ((i 0).val - 1) (i 1).val (i 2).val : ℝ) : EReal) = ((main_v361 A (i 0).val (i 1).val (i 2).val : ℝ) : EReal)
      unfold main_v361; rw [if_neg c0, if_pos c1]
  refine (concatenate_apply_piece _ _ _ i 2 (by simp) S1x8192x1024 _ rfl rfl 2 rfl (fun b => match b with | ⟨0, _⟩ => ⟨(i 0).val - 2, by show _ < 1; omega⟩ | ⟨1, _⟩ => ⟨(i 1).val, by show _ < 8192; omega⟩ | ⟨2, _⟩ => ⟨(i 2).val, by show _ < 1024; omega⟩) ?_ ?_).trans ?_
  · intro b hb; match b with | ⟨0, _⟩ => exact absurd rfl hb | ⟨1, _⟩ => exact rfl | ⟨2, _⟩ => exact rfl
  · show 2 + ((i 0).val - 2) = (i 0).val; omega
  · show ((main_v338 A ((i 0).val - 2) (i 1).val (i 2).val : ℝ) : EReal) = ((main_v361 A (i 0).val (i 1).val (i 2).val : ℝ) : EReal)
    unfold main_v361; rw [if_neg c0, if_neg c1]

def main_v362 (A : Args) (a0 a1 a2 : ℕ) : ℝ := main_v361 A a0 a1 a2
theorem s_main_v362 (A : Args) : val_main_v362 (F := Ideal) (up3 A.x0) (up2 A.x1) (up2 A.x2) (up3 A.x5) (up3 A.x6) (up3 A.x7) (up3 A.x8) (up2 A.x9) (up2 A.x10) (up2 A.x11) (up3 A.x12) = up3 (main_v362 A) := by
  funext i; rw [val_main_v362_apply, s_main_v361 A]; rfl

def main_v363 (A : Args) (a0 a1 : ℕ) : ℝ := main_v310 A 0 a0 0
theorem s_main_v363 (A : Args) : val_main_v363 (F := Ideal) (up3 A.x0) (up2 A.x1) (up2 A.x2) (up3 A.x5) (up3 A.x8) (up2 A.x9) = up2 (main_v363 A) := by
  funext i; rw [val_main_v363_apply, s_main_v310 A]
  have h0 : (i 0).val < 8192 := (i 0).isLt
  have h1 : (i 1).val < 1 := (i 1).isLt
  show ((main_v310 A (0) (((i 0).val * 1 + (i 1).val) / 1 % 8192) (0) : ℝ) : EReal) = ((main_v310 A (0) ((i 0).val) (0) : ℝ) : EReal)
  rw [show ((i 0).val * 1 + (i 1).val) / 1 % 8192 = (i 0).val by omega]

end Cert.Mix.Ref
end
end
-- ==== Proof.Mix.RefSpec.lean ====
/-
  The reference's results are the mixing block's values, row by row.
-/
module

public import proofs.«01_k».proof.Proof.Mix.Ref
public import proofs.«01_k».proof.Proof.Mix.Spec

@[expose] public section

noncomputable section
open scoped BigOperators
namespace Cert.Mix.Ref
open Cert.Lift Cert.Mix

variable (A : Args)

def X (r j : ℕ) : ℝ := A.x0 0 r j
/-- The block's projection. -/
def Y (r j : ℕ) : ℝ := main_v28 A 0 r j
/-- The modulation, one row to each of its six parts. -/
def M (i j : ℕ) : ℝ := if i < 6 then A.x1 0 (1024 * i + j) else 0
/-- The long convolution's bias in row 3, the norm's gain and offset in rows 4 and 5. -/
def P (i j : ℕ) : ℝ := if i = 3 then A.x9 0 j else if i = 4 then A.x10 0 j else A.x11 0 j
/-- The taps: the short convolution's from row 0 on, the long one's from row 8 on. -/
def T (i j : ℕ) : ℝ := if i < 3 then A.x6 0 i j else if i < 8 then 0 else if i < 39 then A.x8 0 (i - 8) j else 0
def WA (i j : ℕ) : ℝ := A.x7 0 i j
def WB (i j : ℕ) : ℝ := A.x12 0 i j
def WO (i j : ℕ) : ℝ := A.x13 0 i j
/-- The two convolutions of all rows. -/
def V3 : ℕ → ℕ → ℝ := tapsS 3 (T A) (before 2 fun r => cvS (Y A r))
def V31 : ℕ → ℕ → ℝ := tapsS 31 (fun i => T A (8 + i)) (before 30 fun r => glS (Y A r))

theorem sg_eq (x : ℝ) : 1 / (1 + Real.exp (-x)) = sg x := one_div _

theorem v3_eq (r j : ℕ) : main_v61 A 0 r j = V3 A r j := by
  unfold main_v61 V3 tapsS
  refine Finset.sum_congr rfl fun i hi => ?_
  have h := Finset.mem_range.mp hi
  rw [mul_comm, Nat.add_comm i r]
  unfold T; rw [if_pos h]; rfl

theorem v31_eq (r j : ℕ) : main_v292 A 0 r j = V31 A r j := by
  unfold main_v292 V31 tapsS
  refine Finset.sum_congr rfl fun i hi => ?_
  have h := Finset.mem_range.mp hi
  have e : main_v74 A 0 (r + i) j = before 30 (fun r => glS (Y A r)) (r + i) j := by
    unfold main_v74 before
    refine ite_congr rfl (fun _ => rfl) fun _ => ?_
    exact congrArg _ (sg_eq _)
  rw [mul_comm, Nat.add_comm i r, e]
  show _ = (if 8 + i < 3 then A.x6 0 (8 + i) j else if 8 + i < 8 then 0 else if 8 + i < 39 then A.x8 0 (8 + i - 8) j else 0) * _
  rw [if_neg (by omega), if_neg (by omega), if_pos (by omega), Nat.add_sub_cancel_left]; rfl

theorem ctr_eq (r j : ℕ) : main_v302 A 0 r j = ctrS (fun c => V31 A r c + P A 3 c) j := by
  show main_v292 A 0 r j + A.x9 0 j - (0 + ∑ k ∈ Finset.range 1024, (main_v292 A 0 r k + A.x9 0 k)) / 1024 = _
  simp only [v31_eq, zero_add]; rfl

theorem isd_eq (r : ℕ) : main_v310 A 0 r 0 = isdS (ctrS fun c => V31 A r c + P A 3 c) := by
  show (√((0 + ∑ k ∈ Finset.range 1024, main_v302 A 0 r k * main_v302 A 0 r k) / 1024 + leps))⁻¹ = _
  simp only [ctr_eq, zero_add]; rfl

theorem norm_eq (r j : ℕ) : main_v312 A 0 r j = normS (P A 3) (V31 A r) j := by
  show main_v302 A 0 r j * main_v310 A 0 r 0 = _
  rw [ctr_eq, isd_eq]; rfl

theorem short_eq (r j : ℕ) : main_v62 A 0 r j = shortS (Y A r) (V3 A r) j := by
  show main_v28 A 0 r j * main_v61 A 0 r j = _
  rw [v3_eq]; rfl

theorem long_eq (r j : ℕ) : main_v321 A 0 r j = longS (P A 4) (P A 5) (normS (P A 3) (V31 A r)) j := by
  have e : main_v320 A 0 r j = normS (P A 3) (V31 A r) j * P A 4 j + P A 5 j := by
    show main_v312 A 0 r j * A.x10 0 j + A.x11 0 j = _
    rw [norm_eq]; rfl
  show main_v320 A 0 r j * (1 / (1 + Real.exp (-(main_v320 A 0 r j)))) = _
  rw [e, sg_eq]; rfl

theorem ya_eq (r j : ℕ) : main_v64 A 0 r j = yaS (WA A) (Y A r) (V3 A r) j := by
  show (∑ k ∈ Finset.range 1024, main_v62 A 0 r k * A.x7 0 k j) = _
  simp only [short_eq]; rfl

theorem yb_eq (r j : ℕ) : main_v323 A 0 r j = ybS (WB A) (P A) (V31 A r) j := by
  show (∑ k ∈ Finset.range 1024, main_v321 A 0 r k * A.x12 0 k j) = _
  simp only [long_eq]; rfl

theorem mg_eq (r j : ℕ) : main_v338 A 0 r j = mgS (WA A) (WB A) (P A) (Y A r) (V3 A r) (V31 A r) j := by
  show 1 / (1 + Real.exp (-(Y A r (5120 + j)))) * main_v64 A 0 r j + 1 / (1 + Real.exp (-(Y A r (6144 + j)))) * main_v323 A 0 r j = _
  rw [sg_eq, sg_eq, ya_eq, yb_eq]; rfl

theorem mix_eq (r j : ℕ) : main_v340 A 0 r j = mixS (WA A) (WB A) (WO A) (P A) (Y A r) (V3 A r) (V31 A r) j := by
  show (∑ k ∈ Finset.range 1024, main_v338 A 0 r k * A.x13 0 k j) = _
  simp only [mg_eq]; rfl

theorem x1_eq (r j : ℕ) : main_v344 A r j = X A r j + M A 2 j * mixS (WA A) (WB A) (WO A) (P A) (Y A r) (V3 A r) (V31 A r) j := by
  show A.x0 0 r j + A.x1 0 (2048 + j) * main_v340 A 0 r j = _
  rw [mix_eq]; rfl

theorem gate_eq (o r j : ℕ) : 1 / (1 + Real.exp (-(main_v28 A 0 r (o + j)))) = sg (Y A r (o + j)) := sg_eq _

end Cert.Mix.Ref
end
end
-- ==== Proof.Mix.Join.lean ====
/-
  The launch's results and the reference's are the same arrays.
-/
module

public import proofs.«01_k».proof.Proof.Mix.Host
public import proofs.«01_k».proof.Proof.Mix.Outs
public import proofs.«01_k».proof.Proof.Mix.RefSpec
public import proofs.«01_k».proof.Proof.Lib.Finite
public import proofs.«01_k».proof.Defs

@[expose] public section

set_option maxRecDepth 8192
noncomputable section
open scoped BigOperators
namespace Cert.Mix.Join
open Cert.Kernel4Ideal Cert.Kernel4Ideal.Gen Cert.Kernel4Ideal.Value Idealize.ShloMosaic Idealize.ShloMosaic.TcCoe Idealize.SL.Sem
open Idealize.ShloMosaic.StableHlo Cert.Lift Cert.Mix

/-- The launch's arguments from the reference's. -/
def hargs (A : Ref.Args) : Host.Args where
  main_arg0 := A.x0
  main_arg1 := A.x1
  main_arg2 := A.x2
  main_arg5 := A.x5
  main_arg6 := A.x6
  main_arg7 := A.x7
  main_arg8 := A.x8
  main_arg9 := A.x9
  main_arg10 := A.x10
  main_arg11 := A.x11
  main_arg12 := A.x12
  main_arg13 := A.x13

variable (m : (ℓ : Loc nD τ sig) → Buf (Elt Ideal) ℓ) (c : Dev nD) {A : Ref.Args}

/-- Finite arguments hand the launch these arrays. -/
theorem handed (h : Host.Holds m c (hargs A)) : Kernel4Ideal.Mix.In m c (Ref.X A) (Ref.Y A) (Ref.M A) (Ref.P A) (Ref.T A) (Ref.WA A) (Ref.WB A) (Ref.WO A) where
  x := Host.k_main_v40 m c h
  y := Host.k_main_v42 m c h
  md := (Host.k_main_v31 m c h).trans rfl
  tp := (Host.k_main_v39 m c h).trans (congrArg up2 (funext fun i => funext fun j => by
    show (if i < 3 then A.x6 0 i j else if i < 8 then 0 else if i < 39 then A.x8 0 (i - 8) j else 0) = _
    rfl))
  wa := Host.k_main_v44 m c h
  wb := Host.k_main_v46 m c h
  wo := Host.k_main_v48 m c h
  p3 := by
    intro y hy
    have e : V m c main_v34 = _ := (Host.at_line m c (i := 40) main_v34 rfl (by decide)).trans (nary_result ..)
    rw [e]
    refine (concatenate_apply_piece _ _ _ y 3 (by simp) S1x1024 _ rfl rfl 3 rfl (ValueIdx.ix2 0 (y 1)) ?_ ?_).trans ?_
    · intro b hb; match b with | ⟨0, _⟩ => exact absurd rfl hb | ⟨1, _⟩ => exact rfl
    · show 3 + 0 = (y 0).val; omega
    · show upto Host.ops (fun b => m (c, b)) 40 (Proc.devRef .tc main_arg9) _ = _
      rw [Host.settled m c 40 main_arg9 (by decide), Host.k_main_arg9 m c h]; rfl
  p4 := by
    intro y hy
    have e : V m c main_v34 = _ := (Host.at_line m c (i := 40) main_v34 rfl (by decide)).trans (nary_result ..)
    rw [e]
    refine (concatenate_apply_piece _ _ _ y 4 (by simp) S1x1024 _ rfl rfl 4 rfl (ValueIdx.ix2 0 (y 1)) ?_ ?_).trans ?_
    · intro b hb; match b with | ⟨0, _⟩ => exact absurd rfl hb | ⟨1, _⟩ => exact rfl
    · show 4 + 0 = (y 0).val; omega
    · show upto Host.ops (fun b => m (c, b)) 40 (Proc.devRef .tc main_arg10) _ = _
      rw [Host.settled m c 40 main_arg10 (by decide), Host.k_main_arg10 m c h]; rfl
  p5 := by
    intro y hy
    have e : V m c main_v34 = _ := (Host.at_line m c (i := 40) main_v34 rfl (by decide)).trans (nary_result ..)
    rw [e]
    refine (concatenate_apply_piece _ _ _ y 5 (by simp) S1x1024 _ rfl rfl 5 rfl (ValueIdx.ix2 0 (y 1)) ?_ ?_).trans ?_
    · intro b hb; match b with | ⟨0, _⟩ => exact absurd rfl hb | ⟨1, _⟩ => exact rfl
    · show 5 + 0 = (y 0).val; omega
    · show upto Host.ops (fun b => m (c, b)) 40 (Proc.devRef .tc main_arg11) _ = _
      rw [Host.settled m c 40 main_arg11 (by decide), Host.k_main_arg11 m c h]; rfl

/-- Finite arguments are reals. -/
theorem exists_args [Cert.Pre_finite4.Facts] (h : Cert.Pre_Kernel4Ideal_finite4 m) : ∃ A : Ref.Args, Host.Holds m c (hargs A) := by
  obtain ⟨p0, p1, p2, p5, p6, p7, p8, p9, p10, p11, p12, p13⟩ := h c
  obtain ⟨x0, e0⟩ := exists_up3 _ (finite_of _ _ p0)
  obtain ⟨x1, e1⟩ := exists_up2 _ (finite_of _ _ p1)
  obtain ⟨x2, e2⟩ := exists_up2 _ (finite_of _ _ p2)
  obtain ⟨x5, e5⟩ := exists_up3 _ (finite_of _ _ p5)
  obtain ⟨x6, e6⟩ := exists_up3 _ (finite_of _ _ p6)
  obtain ⟨x7, e7⟩ := exists_up3 _ (finite_of _ _ p7)
  obtain ⟨x8, e8⟩ := exists_up3 _ (finite_of _ _ p8)
  obtain ⟨x9, e9⟩ := exists_up2 _ (finite_of _ _ p9)
  obtain ⟨x10, e10⟩ := exists_up2 _ (finite_of _ _ p10)
  obtain ⟨x11, e11⟩ := exists_up2 _ (finite_of _ _ p11)
  obtain ⟨x12, e12⟩ := exists_up3 _ (finite_of _ _ p12)
  obtain ⟨x13, e13⟩ := exists_up3 _ (finite_of _ _ p13)
  exact ⟨⟨x0, x1, x2, x5, x6, x7, x8, x9, x10, x11, x12, x13⟩, e0, e1, e2, e5, e6, e7, e8, e9, e10, e11, e12, e13⟩

theorem res0 (h : Host.Holds m c (hargs A)) : (dats m 0 c).arrAt 8 cfg0.N = up2 (Ref.main_v344 A) :=
  (Kernel4Ideal.Mix.final8 m c (handed m c h)).trans (congrArg up2 (funext fun r => funext fun j => (Ref.x1_eq A r j).symm))
theorem res1 (h : Host.Holds m c (hargs A)) : (dats m 0 c).arrAt 9 cfg0.N = up2 (Ref.main_v346 A) :=
  (Kernel4Ideal.Mix.final9 m c (handed m c h)).trans (congrArg up2 (funext fun r => funext fun j => (Ref.ya_eq A r j).symm))
theorem res2 (h : Host.Holds m c (hargs A)) : (dats m 0 c).arrAt 10 cfg0.N = up2 (Ref.main_v348 A) :=
  (Kernel4Ideal.Mix.final10 m c (handed m c h)).trans (congrArg up2 (funext fun r => funext fun j => (Ref.yb_eq A r j).symm))
theorem res3 (h : Host.Holds m c (hargs A)) : (dats m 0 c).arrAt 11 cfg0.N = up2 (Ref.main_v350 A) :=
  (Kernel4Ideal.Mix.final11 m c (handed m c h)).trans (congrArg up2 (funext fun r => funext fun j => (Ref.mix_eq A r j).symm))
theorem res4 (h : Host.Holds m c (hargs A)) : (dats m 0 c).arrAt 12 cfg0.N = up2 (Ref.main_v352 A) :=
  (Kernel4Ideal.Mix.final12 m c (handed m c h)).trans (congrArg up2 (funext fun r => funext fun j => (Ref.norm_eq A r j).symm))
theorem res5 (h : Host.Holds m c (hargs A)) : (dats m 0 c).arrAt 13 cfg0.N = up2 (Ref.main_v354 A) :=
  (Kernel4Ideal.Mix.final13 m c (handed m c h)).trans (congrArg up2 (funext fun r => funext fun j => (Ref.v3_eq A r j).symm))
theorem res6 (h : Host.Holds m c (hargs A)) : (dats m 0 c).arrAt 14 cfg0.N = up2 (Ref.main_v356 A) :=
  (Kernel4Ideal.Mix.final14 m c (handed m c h)).trans (congrArg up2 (funext fun r => funext fun j => (Ref.gate_eq A 4096 r j).symm))
theorem res7 (h : Host.Holds m c (hargs A)) : (dats m 0 c).arrAt 15 cfg0.N = up2 (Ref.main_v358 A) :=
  (Kernel4Ideal.Mix.final15 m c (handed m c h)).trans (congrArg up2 (funext fun r => funext fun j => (Ref.gate_eq A 5120 r j).symm))
theorem res8 (h : Host.Holds m c (hargs A)) : (dats m 0 c).arrAt 16 cfg0.N = up2 (Ref.main_v360 A) :=
  (Kernel4Ideal.Mix.final16 m c (handed m c h)).trans (congrArg up2 (funext fun r => funext fun j => (Ref.gate_eq A 6144 r j).symm))
theorem res9 (h : Host.Holds m c (hargs A)) : (dats m 0 c).arrAt 17 cfg0.N = up3 (Ref.main_v362 A) := by
  refine (Kernel4Ideal.Mix.final17 m c (handed m c h)).trans (funext fun (i : S3x8192x1024.Idx) => ?_)
  refine congrArg (fun r : ℝ => (r : EReal)) ?_
  have hi : (i 0).val < 3 := (i 0).isLt
  show _ = if (i 0).val < 1 then Ref.main_v62 A (i 0) (i 1) (i 2) else if (i 0).val < 2 then Ref.main_v321 A ((i 0) - 1) (i 1) (i 2) else Ref.main_v338 A ((i 0) - 2) (i 1) (i 2)
  generalize (i 0).val = k at hi ⊢
  rcases k with _ | _ | _ | k
  · exact (Ref.short_eq A _ _).symm
  · exact (Ref.long_eq A _ _).symm
  · exact (Ref.mg_eq A _ _).symm
  · omega
theorem res10 (h : Host.Holds m c (hargs A)) : (dats m 0 c).arrAt 18 cfg0.N = up2 (Ref.main_v363 A) :=
  (Kernel4Ideal.Mix.final18 m c (handed m c h)).trans (congrArg up2 (funext fun r => funext fun _ => (Ref.isd_eq A r).symm))

end Cert.Mix.Join
end
end
-- ==== Proof.Wgrad.Sum.lean ====
/-
  A weight gradient added up over the launch's grid, and the reference's product over all rows at once.
  Addition of extended reals is associative and commutative, so nothing is asked of the arguments.
-/
module

public import proofs.«01_k».proof.Proof.Gen.Kernel5Ideal.Value
public import proofs.«01_k».proof.Proof.Gen.Reference5Ideal.Run
public import proofs.«01_k».proof.Proof.Lib.Lift
public import Idealize.ShloMosaic.Lib.Tactic

@[expose] public section

set_option maxRecDepth 16384
noncomputable section
open scoped BigOperators
namespace Cert.Wgrad
open Idealize.ShloMosaic Idealize.ShloMosaic.TcCoe Idealize.SL.Sem

/-- The array with these entries. -/
def eup {a b : ℕ} (f : ℕ → ℕ → EReal) : (⟨2, ![a, b]⟩ : Shape).Idx → EReal := fun y => f (y 0).val (y 1).val

theorem exists_eup {a b : ℕ} (x : (⟨2, ![a, b]⟩ : Shape).Idx → EReal) : ∃ f, x = eup f := by
  refine ⟨fun r c => if h : r < a ∧ c < b then x (ValueIdx.ix2 ⟨r, h.1⟩ ⟨c, h.2⟩) else 0, funext fun y => ?_⟩
  have h0 : (y 0).val < a := (y 0).isLt
  have h1 : (y 1).val < b := (y 1).isLt
  simp only [eup, h0, h1, and_self, dite_true]
  exact congrArg x (funext fun q => by match q with | ⟨0, _⟩ => rfl | ⟨1, _⟩ => rfl)

/-- The product of the left array's columns with the right array's. -/
abbrev cols (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem cols_sum {K M N : ℕ} (wf) (f g : ℕ → ℕ → EReal) (y : (⟨2, ![M, N]⟩ : Shape).Idx) :
    (∑ k : (cols K M N wf).contr.Idx, (eup f : (⟨2, ![K, M]⟩ : Shape).Idx → EReal) ((cols K M N wf).lhsIdx y k)
        * (eup g : (⟨2, ![K, N]⟩ : Shape).Idx → EReal) ((cols K M N wf).rhsIdx y k))
      = ∑ r ∈ Finset.range K, f r (y 0).val * g r (y 1).val := by
  rw [(cols K M N wf).sum_contr₁ (a := 0) rfl (K := K) rfl, ← Fin.sum_univ_eq_sum_range (fun r => f r (y 0).val * g r (y 1).val)]
  rfl

end Cert.Wgrad

namespace Cert.Kernel5Ideal.Wgrad
open Cert.Kernel5Ideal Cert.Kernel5Ideal.Gen Cert.Kernel5Ideal.Value Cert.Lift Cert.Wgrad
open Idealize.ShloMosaic Idealize.ShloMosaic.TcCoe Idealize.SL.Sem

set_option maxHeartbeats 1000000

/-- One block of rows' share. -/
def part (f g : ℕ → ℕ → EReal) (i j : ℕ) : EReal := ∑ r ∈ Finset.range 2048, f r i * g r j

theorem pay1_eq (f g : ℕ → ℕ → EReal) : k0_pay1 (F := Ideal) (eup f) (eup g) = eup (part f g) := by
  funext y
  unfold k0_pay1
  exact (Ideal.matmul_constant_zero_apply (φ₁ := .bf16) (φ₂ := .bf16) _ none _ _ y).trans (cols_sum _ f g y)

theorem pay2_eq (f g : ℕ → ℕ → EReal) : k0_pay2 (F := Ideal) (eup f) (eup g) = eup (part f g) := by
  unfold k0_pay2
  rw [pay1_eq]
  exact shapeCast_self _ _

theorem pay3_eq (f g a : ℕ → ℕ → EReal) : k0_pay3 (F := Ideal) (eup f) (eup g) (eup a) = eup fun i j => a i j + part f g i j := by
  unfold k0_pay3
  rw [pay1_eq]
  exact shapeCast_self _ _

theorem pay4_eq (a : ℕ → ℕ → EReal) (y : S1x1408x1024.Idx) : k0_pay4 (F := Ideal) (eup a) y = a (y 1).val (y 2).val := by
  unfold k0_pay4
  have h0 : (y 0).val < 1 := (y 0).isLt
  refine (shapeCast_apply _ _ y (ValueIdx.ix2 (y 1) (y 2)) ?_).trans rfl
  rw [Shape.rowMajor_val_three, Shape.rowMajor_val_two]
  show (y 1).val * 1024 + (y 2).val = ((y 0).val * 1408 + (y 1).val) * 1024 + (y 2).val
  omega

theorem ld1 (x : Vec Ideal S2048x1408 .bf16) (inb) : View.ld x (Rect.unit (s := S2048x1408) ![0, 0] ![2048, 1408] inb) = x := View.ld_unit_zero hz inb x
theorem ld2 (x : Vec Ideal S2048x1024 .bf16) (inb) : View.ld x (Rect.unit (s := S2048x1024) ![0, 0] ![2048, 1024] inb) = x := View.ld_unit_zero hz inb x
theorem ld3 (x : Vec Ideal S1408x1024 .f32) (inb) : View.ld x (Rect.unit (s := S1408x1024) ![0, 0] ![1408, 1024] inb) = x := View.ld_unit_zero hz inb x
theorem hz3 : (![0, 0, 0] : Fin 3 → ℕ) = fun _ => 0 := funext fun a => by fin_cases a <;> rfl

section
variable (c : Dev nD) (i : grid0.Coords) (arg2 : Memref sig .tc .vmem S2048x1408 .bf16) (harg2 : arg2.IsWhole) (arg3 : Memref sig .tc .vmem S2048x1024 .bf16) (harg3 : arg3.IsWhole) (arg4 : Memref sig .tc .vmem S1x1408x1024 .bf16) (harg4 : arg4.IsWhole) (arg5 : Memref sig .tc .vmem S1408x1024 .f32) (harg5 : arg5.IsWhole)
variable (x0 : Vec Ideal S2048x1408 .bf16) (x1 : Vec Ideal S2048x1024 .bf16) (xs0 : Vec Ideal S1408x1024 .f32)

theorem sout_A (hc0 : cond0_0 i) (hc1 : ¬cond0_1 i) (hc2 : ¬cond0_2 i) :
    sout0_A_0 (F := Ideal) c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  simp only [View.readAt_eq_ld, harg2.read_unread, harg3.read_unread, harg5.read_unread]
  rw [View.canon_unit_zero hz]
  simp only [ld1, ld2, ld3]

theorem sout_B (hc0 : ¬cond0_0 i) (hc1 : cond0_1 i) (hc2 : ¬cond0_2 i) :
    sout0_B_0 (F := Ideal) c i arg2 harg2 arg3 harg3 arg4 harg4 arg5 harg5 hc0 hc1 hc2 x0 x1 xs0 = k0_pay3 x0 x1 xs0 := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  simp only [View.readAt_eq_ld, harg2.read_unread, harg3.read_unread, harg5.read_unread]
  rw [View.canon_unit_zero hz]
  simp only [ld1, ld2, ld3]

theorem out_C (hc0 : ¬cond0_0 i) (hc1 : cond0_1 i) (hc2 : cond0_2 i) :
    out0_C_2 (F := Ideal) c i arg2 harg2 arg3 harg3 arg4 harg4 arg5 harg5 hc0 hc1 hc2 x0 x1 xs0 = k0_pay4 (k0_pay3 x0 x1 xs0) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  simp only [View.readAt_eq_ld, harg2.read_unread, harg3.read_unread, harg5.read_unread]
  rw [View.canon_unit_zero hz3]
  simp only [ld1, ld2, ld3]
  exact congrArg k0_pay4 (View.readCov_unit_zero (S := S1408x1024) _ hz _ _)

end
end Cert.Kernel5Ideal.Wgrad
end
end
-- ==== Proof.Wgrad.Outs.lean ====
/-
  The running sum after every grid point, the launch's result and the reference's: the same array.
-/
module

public import proofs.«01_k».proof.Proof.Wgrad.Sum

@[expose] public section

set_option maxRecDepth 16384
noncomputable section
open scoped BigOperators
namespace Cert.Kernel5Ideal.Wgrad
open Cert.Kernel5Ideal Cert.Kernel5Ideal.Gen Cert.Kernel5Ideal.Value Cert.Lift Cert.Wgrad
open Idealize.ShloMosaic Idealize.ShloMosaic.TcCoe Idealize.SL.Sem

set_option maxHeartbeats 1000000

variable (m : (ℓ : Loc nD τ sig) → Buf (Elt Ideal) ℓ) (c : Dev nD)
variable {D H : ℕ → ℕ → EReal}

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The point's block of rows, and of columns. -/
abbrev dblk (D : ℕ → ℕ → EReal) (n : ℕ) (r i : ℕ) : EReal := D (2048 * (n % 4) + r) (1408 * (n / 4) + i)
abbrev hblk (H : ℕ → ℕ → EReal) (n : ℕ) (r j : ℕ) : EReal := H (2048 * (n % 4) + r) j

theorem blk0 (h : V m c main_arg1 = eup D) (t : Fin cfg0.N) : iblk m c 0 t = eup (dblk D t.val) := by
  funext y
  blk_simp [iblk]
  show V m c main_arg1 _ = _
  rw [h]
  unfold eup
  blk_simp
  rw [(idx0 t).1, (idx0 t).2]
  simp only [dblk, Nat.mul_comm]

theorem blk1 (h : V m c main_arg0 = eup H) (t : Fin cfg0.N) : iblk m c 1 t = eup (hblk H t.val) := by
  funext y
  blk_simp [iblk]
  show V m c main_arg0 _ = _
  rw [h]
  unfold eup
  blk_simp
  rw [(idx1 t).1, (idx1 t).2]
  simp only [hblk, Nat.zero_mul, Nat.zero_add, Nat.mul_comm]

/-- The sum over the rows the run has passed. -/
def upto (D H : ℕ → ℕ → EReal) (s T i j : ℕ) : EReal := ∑ r ∈ Finset.range T, D r (1408 * s + i) * H r j

theorem upto_succ (n i j : ℕ) : upto D H (n / 4) (2048 * (n % 4) + 2048) i j
    = upto D H (n / 4) (2048 * (n % 4)) i j + part (dblk D n) (hblk H n) i j := by
  unfold upto part
  rw [Finset.sum_range_add]

/-- The running sum after point `n`. -/
theorem scr (hD : V m c main_arg1 = eup D) (hH : V m c main_arg0 = eup H) (n : ℕ) (hn : n < cfg0.N) (hl : n % 4 ≠ 3) :
    (outsAt0 m c n hn).2 = eup (upto D H (n / 4) (2048 * (n % 4) + 2048)) := by
  induction n with
  | zero =>
    rw [outsAt0_A m c ⟨0, hn⟩ rfl (by show ¬1 ≤ 0 % 4; decide) (by show ¬0 % 4 = 3; decide)]
    dsimp only
    rw [sout_A, blk0 m c hD, blk1 m c hH, pay2_eq]
    exact congrArg eup (funext fun i => funext fun j => by
      rw [upto_succ]; simp [upto])
  | succ n ih =>
    by_cases h0 : (n + 1) % 4 = 0
    · rw [outsAt0_A m c ⟨n + 1, hn⟩ h0 (by show ¬1 ≤ (n + 1) % 4; omega) hl]
      dsimp only
      rw [sout_A, blk0 m c hD, blk1 m c hH, pay2_eq]
      exact congrArg eup (funext fun i => funext fun j => by
        rw [upto_succ, h0]; simp [upto])
    · rw [outsAt0_B m c ⟨n + 1, hn⟩ h0 (by show 1 ≤ (n + 1) % 4; omega) hl]
      dsimp only
      rw [sout_B, blk0 m c hD, blk1 m c hH]
      simp only [Nat.add_sub_cancel]
      rw [ih (by omega) (by omega), pay3_eq]
      exact congrArg eup (funext fun i => funext fun j => by
        rw [upto_succ (n + 1), show (n + 1) / 4 = n / 4 by omega, show 2048 * ((n + 1) % 4) = 2048 * (n % 4) + 2048 by omega])

/-- The gradient: each entry's sum over every row. -/
def grad (D H : ℕ → ℕ → EReal) : S4x1408x1024.Idx → EReal := fun y => upto D H (y 0).val 8192 (y 1).val (y 2).val

theorem final (hD : V m c main_arg1 = eup D) (hH : V m c main_arg0 = eup H) : (dats m 0 c).arrAt 2 cfg0.N = grad D H := by
  refine (dats m 0 c).arrAt_eq_of_covers 2 _ (by decide +kernel) fun t hf y => ?_
  have h3 : t.val % 4 = 3 := (flush0_2 t).mp hf
  have ht : 3 ≤ t.val := by omega
  blk_simp
  rw [after0_2, outsAt0_C m c t (by omega) (by omega) h3]
  dsimp only
  rw [out_C, blk0 m c hD, blk1 m c hH, scr m c hD hH (t.val - 1) _ (by omega), pay3_eq]
  refine (pay4_eq _ _).trans ?_
  unfold grad
  blk_simp
  rw [(idx2 t).1, (idx2 t).2.1, (idx2 t).2.2]
  have e := upto_succ (D := D) (H := H) t.val (y 1).val (y 2).val
  have h0 : (y 0).val < 1 := (y 0).isLt
  rw [h3] at e
  rw [show (t.val - 1) / 4 = t.val / 4 by omega, show 2048 * ((t.val - 1) % 4) + 2048 = 2048 * 3 by omega]
  simp only [Nat.zero_mul, Nat.zero_add, Nat.mul_one, show (y 0).val = 0 by omega, Nat.add_zero]
  exact e.symm

end Cert.Kernel5Ideal.Wgrad

namespace Cert.Reference5Ideal.Wgrad
open Cert.Reference5Ideal Cert.Reference5Ideal.Gen Cert.Wgrad Cert.Kernel5Ideal.Wgrad
open Idealize.ShloMosaic Idealize.ShloMosaic.TcCoe Idealize.SL.Sem

theorem cast_eq (x : FVec Ideal S5632x1024 .f32) (y : S4x1408x1024.Idx) (h : 1408 * (y 0).val + (y 1).val < 5632) :
    truncf (F := Ideal) .bf16 (shapeCast S4x1408x1024 x shapeCasts_S5632x1024_S4x1408x1024) bitsLt_bf16_f32 y
      = x (ValueIdx.ix2 ⟨1408 * (y 0).val + (y 1).val, h⟩ (y 2)) := by
  show shapeCast S4x1408x1024 x shapeCasts_S5632x1024_S4x1408x1024 y = _
  refine shapeCast_apply _ _ y _ ?_
  rw [Shape.rowMajor_val_three, Shape.rowMajor_val_two]
  show (1408 * (y 0).val + (y 1).val) * 1024 + (y 2).val = ((y 0).val * 1408 + (y 1).val) * 1024 + (y 2).val
  omega

theorem ref_eq (D H : ℕ → ℕ → EReal) :
    (truncf (F := Ideal) .bf16 (shapeCast S4x1408x1024 (transpose S5632x1024 [1, 0] (transpose S1024x5632 [1, 0]
      (Host.dotGeneral dot_S8192x5632_S8192x1024_S5632x1024_0_0_1_1_n_n none (extf (F := Ideal) (φ := .bf16) .f32 (eup D) bitsLt_bf16_f32)
        (extf (F := Ideal) (φ := .bf16) .f32 (eup H) bitsLt_bf16_f32))
      transposes_S5632x1024_S1024x5632_1_0) transposes_S1024x5632_S5632x1024_1_0) shapeCasts_S5632x1024_S4x1408x1024) bitsLt_bf16_f32 :
      S4x1408x1024.Idx → EReal) = grad D H := by
  funext (y : S4x1408x1024.Idx)
  have h0 : (y 0).val < 4 := (y 0).isLt
  have h1 : (y 1).val < 1408 := (y 1).isLt
  refine (cast_eq _ y (by omega)).trans ?_
  exact (Ideal.dotGeneral_apply (φ₁ := .f32) (φ₂ := .f32) _ none _ _ _ _).trans (cols_sum _ D H _)

end Cert.Reference5Ideal.Wgrad
end
end
-- ==== Proof.Adamw.Step.lean ====
/-
  The optimiser's step on one weight: the devices' partial gradients added in turn, then each entry on its own.
-/
module

public import proofs.«01_k».proof.Proof.Gen.Kernel6Ideal.Value
public import proofs.«01_k».proof.Proof.Gen.Reference6Ideal.Run
public import proofs.«01_k».proof.Proof.Wgrad.Sum

@[expose] public section

set_option maxRecDepth 16384
noncomputable section
open scoped BigOperators
namespace Cert.Adamw
open Idealize.ShloMosaic Idealize.ShloMosaic.TcCoe Idealize.SL.Sem Cert.Wgrad

/-- The array with these entries. -/
def eup3 {a b c : ℕ} (f : ℕ → ℕ → ℕ → EReal) : (⟨3, ![a, b, c]⟩ : Shape).Idx → EReal := fun y => f (y 0).val (y 1).val (y 2).val

theorem exists_eup3 {a b c : ℕ} (x : (⟨3, ![a, b, c]⟩ : Shape).Idx → EReal) : ∃ f, x = eup3 f := by
  refine ⟨fun p r s => if h : p < a ∧ r < b ∧ s < c then x (ValueIdx.ix3 ⟨p, h.1⟩ ⟨r, h.2.1⟩ ⟨s, h.2.2⟩) else 0, funext fun y => ?_⟩
  have h0 : (y 0).val < a := (y 0).isLt
  have h1 : (y 1).val < b := (y 1).isLt
  have h2 : (y 2).val < c := (y 2).isLt
  simp only [eup3, h0, h1, h2, and_self, dite_true]
  exact congrArg x (funext fun q => by match q with | ⟨0, _⟩ => rfl | ⟨1, _⟩ => rfl | ⟨2, _⟩ => rfl)

abbrev k (b : BitVec 32) : EReal := FloatOps.ofBits (F := Ideal) .f32 b
/-- The running mean's, the running square's and the weight's changes. -/
def mS (g m : EReal) : EReal := k 0x3F666666#32 * m + k 0x3DCCCCCD#32 * g
def vS (g v : EReal) : EReal := k 0x3F7FBE77#32 * v + k 0x3A83126F#32 * (g * g)
def dS (g w m v : EReal) : EReal := k 0xBA83126F#32 * (Ideal.div (Ideal.div (mS g m) (k 0x3F26BD02#32))
  (Ideal.sqrt (Ideal.div (vS g v) (k 0x3C231ACC#32)) + k 0x322BCC77#32) + k 0x3C23D70A#32 * w)
/-- The devices' sum. -/
def sumS (P : ℕ → ℕ → ℕ → EReal) (r j : ℕ) : EReal :=
  P 0 r j + P 1 r j + P 2 r j + P 3 r j + P 4 r j + P 5 r j + P 6 r j + P 7 r j

end Cert.Adamw

namespace Cert.Kernel6Ideal.Adamw
open Cert.Kernel6Ideal Cert.Kernel6Ideal.Gen Cert.Kernel6Ideal.Value Cert.Lift Cert.Wgrad Cert.Adamw
open Idealize.ShloMosaic Idealize.ShloMosaic.TcCoe Idealize.SL.Sem

theorem plane (P : ℕ → ℕ → ℕ → EReal) (o : ℕ) (inb) :
    (shapeCast S352x1024 (View.ld (Val := Elt Ideal) (e' := .bf16) (eup3 P : S8x352x1024.Idx → EReal) (Rect.unit (s := S8x352x1024) ![o, 0, 0] S1x352x1024.size inb))
      shapeCasts_S1x352x1024_S352x1024 : S352x1024.Idx → EReal) = eup (P o) := by
  funext (y : S352x1024.Idx)
  refine (shapeCast_apply _ _ y (ValueIdx.ix3 0 (y 0) (y 1)) ?_).trans ?_
  · rw [Shape.rowMajor_val_three, Shape.rowMajor_val_two]
    show (0 * 352 + (y 0).val) * 1024 + (y 1).val = (y 0).val * 1024 + (y 1).val
    omega
  · show P (o + 1 * 0) (0 + 1 * (y 0).val) (0 + 1 * (y 1).val) = P o (y 0).val (y 1).val
    simp only [Nat.mul_zero, Nat.add_zero, Nat.zero_add, Nat.one_mul]

theorem ldw (x : Vec Ideal S352x1024 .f32) : View.ld x r0_8 = x := View.ld_unit_zero hz _ x

theorem sum_eq (P : ℕ → ℕ → ℕ → EReal) (x1 x2 x3 : Vec Ideal S352x1024 .f32) :
    k0_pay5 (F := Ideal) (eup3 P) x1 x2 x3 = eup (sumS P) := by
  unfold k0_pay5 k0_pay4
  dsimp only
  simp only [plane]
  rfl

theorem canon_r (w : Vec Ideal S352x1024 .f32) : View.canon [(⟨r0_8, w⟩ : View.Piece (Elt Ideal) S352x1024 .f32)] = w :=
  View.canon_unit_zero hz _ w

section
variable (P : ℕ → ℕ → ℕ → EReal) (W M U : ℕ → ℕ → EReal)

theorem out4_eq : out0_4 (F := Ideal) (eup3 P) (eup W) (eup M) (eup U) = eup (sumS P) := by
  unfold out0_4
  rw [canon_r, sum_eq]
theorem out5_eq : out0_5 (F := Ideal) (eup3 P) (eup W) (eup M) (eup U)
    = eup fun r j => dS (sumS P r j) (W r j) (M r j) (U r j) := by
  unfold out0_5
  rw [canon_r, sum_eq, ldw, ldw, ldw]
  rfl
theorem out6_eq : out0_6 (F := Ideal) (eup3 P) (eup W) (eup M) (eup U) = eup fun r j => mS (sumS P r j) (M r j) := by
  unfold out0_6
  rw [canon_r, sum_eq, ldw]
  rfl
theorem out7_eq : out0_7 (F := Ideal) (eup3 P) (eup W) (eup M) (eup U) = eup fun r j => vS (sumS P r j) (U r j) := by
  unfold out0_7
  rw [canon_r, sum_eq, ldw]
  rfl
end

variable (m : (ℓ : Loc nD τ sig) → Buf (Elt Ideal) ℓ) (c : Dev nD)
variable {P : ℕ → ℕ → ℕ → EReal} {W M U : ℕ → ℕ → EReal}

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 := idx1
theorem idx3 : ∀ t : Fin cfg0.N, win0_3.index t 0 = t.val ∧ win0_3.index t 1 = 0 := idx1
theorem idx4 : ∀ t : Fin cfg0.N, win0_4.index t 0 = t.val ∧ win0_4.index t 1 = 0 := idx1
theorem idx5 : ∀ t : Fin cfg0.N, win0_5.index t 0 = t.val ∧ win0_5.index t 1 = 0 := idx1
theorem idx6 : ∀ t : Fin cfg0.N, win0_6.index t 0 = t.val ∧ win0_6.index t 1 = 0 := idx1
theorem idx7 : ∀ t : Fin cfg0.N, win0_7.index t 0 = t.val ∧ win0_7.index t 1 = 0 := idx1

/-- Block `n` of 352 rows. -/
abbrev rows (n : ℕ) (A : ℕ → ℕ → EReal) (r : ℕ) : ℕ → EReal := A (352 * n + r)

theorem blk0 (h : V m c main_arg0 = eup3 P) (t : Fin cfg0.N) : iblk m c 0 t = eup3 fun p => rows t.val (P p) := by
  funext y
  blk_simp [iblk]
  show V m c main_arg0 _ = _
  rw [h]
  unfold eup3
  blk_simp
  rw [(idx0 t).1, (idx0 t).2.1, (idx0 t).2.2]
  simp only [rows, Nat.zero_mul, Nat.zero_add, Nat.mul_comm]

theorem blk1 (h : V m c main_arg1 = eup W) (t : Fin cfg0.N) : iblk m c 1 t = eup (rows t.val W) := by
  funext y
  blk_simp [iblk]
  show V m c main_arg1 _ = _
  rw [h]
  unfold eup
  blk_simp
  rw [(idx1 t).1, (idx1 t).2]
  simp only [rows, Nat.zero_mul, Nat.zero_add, Nat.mul_comm]

theorem blk2 (h : V m c main_arg2 = eup M) (t : Fin cfg0.N) : iblk m c 2 t = eup (rows t.val M) := by
  funext y
  blk_simp [iblk]
  show V m c main_arg2 _ = _
  rw [h]
  unfold eup
  blk_simp
  rw [(idx2 t).1, (idx2 t).2]
  simp only [rows, Nat.zero_mul, Nat.zero_add, Nat.mul_comm]

theorem blk3 (h : V m c main_arg3 = eup U) (t : Fin cfg0.N) : iblk m c 3 t = eup (rows t.val U) := by
  funext y
  blk_simp [iblk]
  show V m c main_arg3 _ = _
  rw [h]
  unfold eup
  blk_simp
  rw [(idx3 t).1, (idx3 t).2]
  simp only [rows, Nat.zero_mul, Nat.zero_add, Nat.mul_comm]

section
variable (hP : V m c main_arg0 = eup3 P) (hW : V m c main_arg1 = eup W) (hM : V m c main_arg2 = eup M) (hU : V m c main_arg3 = eup U)
include hP hW hM hU

theorem final4 : (dats m 0 c).arrAt 4 cfg0.N = eup (sumS P) := by
  refine (dats m 0 c).arrAt_eq_of_covers 4 _ (by decide +kernel) fun t hf y => ?_
  blk_simp
  rw [after0_4, blk0 m c hP, blk1 m c hW, blk2 m c hM, blk3 m c hU, out4_eq]
  unfold eup
  blk_simp
  rw [(idx4 t).1, (idx4 t).2]
  simp only [sumS, rows, Nat.zero_mul, Nat.zero_add, Nat.mul_comm]
theorem final5 : (dats m 0 c).arrAt 5 cfg0.N = eup fun r j => dS (sumS P r j) (W r j) (M r j) (U r j) := by
  refine (dats m 0 c).arrAt_eq_of_covers 5 _ (by decide +kernel) fun t hf y => ?_
  blk_simp
  rw [after0_5, blk0 m c hP, blk1 m c hW, blk2 m c hM, blk3 m c hU, out5_eq]
  unfold eup
  blk_simp
  rw [(idx5 t).1, (idx5 t).2]
  simp only [sumS, rows, Nat.zero_mul, Nat.zero_add, Nat.mul_comm]
theorem final6 : (dats m 0 c).arrAt 6 cfg0.N = eup fun r j => mS (sumS P r j) (M r j) := by
  refine (dats m 0 c).arrAt_eq_of_covers 6 _ (by decide +kernel) fun t hf y => ?_
  blk_simp
  rw [after0_6, blk0 m c hP, blk1 m c hW, blk2 m c hM, blk3 m c hU, out6_eq]
  unfold eup
  blk_simp
  rw [(idx6 t).1, (idx6 t).2]
  simp only [sumS, rows, Nat.zero_mul, Nat.zero_add, Nat.mul_comm]
theorem final7 : (dats m 0 c).arrAt 7 cfg0.N = eup fun r j => vS (sumS P r j) (U r j) := by
  refine (dats m 0 c).arrAt_eq_of_covers 7 _ (by decide +kernel) fun t hf y => ?_
  blk_simp
  rw [after0_7, blk0 m c hP, blk1 m c hW, blk2 m c hM, blk3 m c hU, out7_eq]
  unfold eup
  blk_simp
  rw [(idx7 t).1, (idx7 t).2]
  simp only [sumS, rows, Nat.zero_mul, Nat.zero_add, Nat.mul_comm]
end

end Cert.Kernel6Ideal.Adamw

namespace Cert.Reference6Ideal.Adamw
open Cert.Reference6Ideal Cert.Reference6Ideal.Gen Cert.Wgrad Cert.Adamw
open Idealize.ShloMosaic Idealize.ShloMosaic.TcCoe Idealize.SL.Sem

theorem sum_eq (P : ℕ → ℕ → ℕ → EReal) :
    (Host.reduceAdd (F := Ideal) (extf (F := Ideal) (φ := .bf16) .f32 (eup3 P : S8x704x1024.Idx → EReal) bitsLt_bf16_f32) (constant S_ .f32 0x00000000#32)
      reducesTo_S8x704x1024_S704x1024_d0 h_S_ : S704x1024.Idx → EReal) = eup (sumS P) := by
  funext (y : S704x1024.Idx)
  refine (Ideal.hostReduceAdd_single (a := 0) reducesTo_S8x704x1024_S704x1024_d0 (by decide) _ _ y).trans ?_
  refine (congrArg₂ (· + ·) Ideal.ofBits_zero_f32 (Fin.sum_univ_eight (M := EReal) _)).trans ?_
  rw [zero_add]
  rfl

end Cert.Reference6Ideal.Adamw
end
end
-- ==== Proof.Ada.Step.lean ====
/-
  The modulation weight's gradient, a product over all devices' rows, and the optimiser's step on it.
-/
module

public import proofs.«01_k».proof.Proof.Gen.Kernel7Ideal.Value
public import proofs.«01_k».proof.Proof.Gen.Reference7Ideal.Run
public import proofs.«01_k».proof.Proof.Adamw.Step

@[expose] public section

set_option maxRecDepth 16384
noncomputable section
open scoped BigOperators
namespace Cert.Ada
/-- The product over the rows. -/
def gS (S D : ℕ → ℕ → EReal) (r j : ℕ) : EReal := ∑ k ∈ Finset.range 8, S k r * D k j
end Cert.Ada

namespace Cert.Kernel7Ideal.Ada
open Cert.Kernel7Ideal Cert.Kernel7Ideal.Gen Cert.Kernel7Ideal.Value Cert.Lift Cert.Wgrad Cert.Adamw Cert.Ada
open Idealize.ShloMosaic Idealize.ShloMosaic.TcCoe Idealize.SL.Sem

section
variable (S D W M U : ℕ → ℕ → EReal)

theorem g_eq : k0_pay1 (F := Ideal) (eup S) (eup D) = eup (gS S D) := by
  funext y
  unfold k0_pay1
  rw [shapeCast_self]
  exact (Ideal.matmul_constant_zero_apply (φ₁ := .f32) (φ₂ := .f32) _ (some _) _ _ y).trans (cols_sum _ S D y)

theorem ldw (x : Vec Ideal S512x768 .f32) : View.ld x r0_2 = x := View.ld_unit_zero hz _ x
theorem ld0 (x : Vec Ideal S8x512 .f32) : View.ld x r0_0 = x := View.ld_unit_zero hz _ x
theorem ld1 (x : Vec Ideal S8x768 .f32) : View.ld x r0_1 = x := View.ld_unit_zero hz _ x
theorem canon_r (w : Vec Ideal S512x768 .f32) : View.canon [(⟨r0_2, w⟩ : View.Piece (Elt Ideal) S512x768 .f32)] = w :=
  View.canon_unit_zero hz _ w

theorem out5_eq : out0_5 (F := Ideal) (eup S) (eup D) (eup W) (eup M) (eup U) = eup (gS S D) := by
  unfold out0_5
  rw [canon_r, ld0, ld1, g_eq]
theorem out6_eq : out0_6 (F := Ideal) (eup S) (eup D) (eup W) (eup M) (eup U) = eup fun r j => dS (gS S D r j) (W r j) (M r j) (U r j) := by
  unfold out0_6 k0_pay4 k0_pay2 k0_pay3
  rw [canon_r, ld0, ld1, ldw, ldw, ldw, g_eq]
  rfl
theorem out7_eq : out0_7 (F := Ideal) (eup S) (eup D) (eup W) (eup M) (eup U) = eup fun r j => mS (gS S D r j) (M r j) := by
  unfold out0_7 k0_pay2
  rw [canon_r, ld0, ld1, ldw, g_eq]
  rfl
theorem out8_eq : out0_8 (F := Ideal) (eup S) (eup D) (eup W) (eup M) (eup U) = eup fun r j => vS (gS S D r j) (U r j) := by
  unfold out0_8 k0_pay3
  rw [canon_r, ld0, ld1, ldw, g_eq]
  rfl
end

variable (m : (ℓ : Loc nD τ sig) → Buf (Elt Ideal) ℓ) (c : Dev nD)
variable {S D W M U : ℕ → ℕ → EReal}

/-- What the launch finds of the conditioning. -/
theorem silu_eq : V m c main_v6 = mulf (F := Ideal) (m ((c : Thread nD τ).loc main_arg0)) (Host.divf (broadcastInDim S8x1024 ![] bcast_S_S8x1024 (constant S_ .f32 0x3F800000#32))
    (addf (broadcastInDim S8x1024 ![] bcast_S_S8x1024 (constant S_ .f32 0x3F800000#32)) (Host.exp (Host.negf (m ((c : Thread nD τ).loc main_arg0)))))) := by
  unfold V hostOps0
  after_results_simp

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 := idx2
theorem idx4 : ∀ t : Fin cfg0.N, win0_4.index t 0 = t.val ∧ win0_4.index t 1 = 0 := idx2
theorem idx5 : ∀ t : Fin cfg0.N, win0_5.index t 0 = t.val ∧ win0_5.index t 1 = 0 := idx2
theorem idx6 : ∀ t : Fin cfg0.N, win0_6.index t 0 = t.val ∧ win0_6.index t 1 = 0 := idx2
theorem idx7 : ∀ t : Fin cfg0.N, win0_7.index t 0 = t.val ∧ win0_7.index t 1 = 0 := idx2
theorem idx8 : ∀ t : Fin cfg0.N, win0_8.index t 0 = t.val ∧ win0_8.index t 1 = 0 := idx2

/-- Block `n` of 512 rows. -/
abbrev rows (n : ℕ) (A : ℕ → ℕ → EReal) (r : ℕ) : ℕ → EReal := A (512 * n + r)

theorem blk0 (h : V m c main_v6 = eup S) (t : Fin cfg0.N) : iblk m c 0 t = eup fun k r => S k (512 * t.val + r) := by
  funext y
  blk_simp [iblk]
  show V m c main_v6 _ = _
  rw [h]
  unfold eup
  blk_simp
  rw [(idx0 t).1, (idx0 t).2]
  simp only [rows, Nat.zero_mul, Nat.zero_add, Nat.mul_comm]

theorem blk1 (h : V m c main_arg1 = eup D) (t : Fin cfg0.N) : iblk m c 1 t = eup D := by
  funext y
  blk_simp [iblk]
  show V m c main_arg1 _ = _
  rw [h]
  unfold eup
  blk_simp
  rw [(idx1 t).1, (idx1 t).2]
  simp only [rows, Nat.zero_mul, Nat.zero_add, Nat.mul_comm]

theorem blk2 (h : V m c main_arg2 = eup W) (t : Fin cfg0.N) : iblk m c 2 t = eup (rows t.val W) := by
  funext y
  blk_simp [iblk]
  show V m c main_arg2 _ = _
  rw [h]
  unfold eup
  blk_simp
  rw [(idx2 t).1, (idx2 t).2]
  simp only [rows, Nat.zero_mul, Nat.zero_add, Nat.mul_comm]

theorem blk3 (h : V m c main_arg3 = eup M) (t : Fin cfg0.N) : iblk m c 3 t = eup (rows t.val M) := by
  funext y
  blk_simp [iblk]
  show V m c main_arg3 _ = _
  rw [h]
  unfold eup
  blk_simp
  rw [(idx3 t).1, (idx3 t).2]
  simp only [rows, Nat.zero_mul, Nat.zero_add, Nat.mul_comm]

theorem blk4 (h : V m c main_arg4 = eup U) (t : Fin cfg0.N) : iblk m c 4 t = eup (rows t.val U) := by
  funext y
  blk_simp [iblk]
  show V m c main_arg4 _ = _
  rw [h]
  unfold eup
  blk_simp
  rw [(idx4 t).1, (idx4 t).2]
  simp only [rows, Nat.zero_mul, Nat.zero_add, Nat.mul_comm]

section
variable (hS : V m c main_v6 = eup S) (hD : V m c main_arg1 = eup D) (hW : V m c main_arg2 = eup W) (hM : V m c main_arg3 = eup M) (hU : V m c main_arg4 = eup U)
include hS hD hW hM hU

theorem final5 : (dats m 0 c).arrAt 5 cfg0.N = eup (gS S D) := by
  refine (dats m 0 c).arrAt_eq_of_covers 5 _ (by decide +kernel) fun t hf y => ?_
  blk_simp
  rw [after0_5, blk0 m c hS, blk1 m c hD, blk2 m c hW, blk3 m c hM, blk4 m c hU, out5_eq]
  unfold eup
  blk_simp
  rw [(idx5 t).1, (idx5 t).2]
  simp only [gS, rows, Nat.zero_mul, Nat.zero_add, Nat.mul_comm]
theorem final6 : (dats m 0 c).arrAt 6 cfg0.N = eup fun r j => dS (gS S D r j) (W r j) (M r j) (U r j) := by
  refine (dats m 0 c).arrAt_eq_of_covers 6 _ (by decide +kernel) fun t hf y => ?_
  blk_simp
  rw [after0_6, blk0 m c hS, blk1 m c hD, blk2 m c hW, blk3 m c hM, blk4 m c hU, out6_eq]
  unfold eup
  blk_simp
  rw [(idx6 t).1, (idx6 t).2]
  simp only [gS, rows, Nat.zero_mul, Nat.zero_add, Nat.mul_comm]
theorem final7 : (dats m 0 c).arrAt 7 cfg0.N = eup fun r j => mS (gS S D r j) (M r j) := by
  refine (dats m 0 c).arrAt_eq_of_covers 7 _ (by decide +kernel) fun t hf y => ?_
  blk_simp
  rw [after0_7, blk0 m c hS, blk1 m c hD, blk2 m c hW, blk3 m c hM, blk4 m c hU, out7_eq]
  unfold eup
  blk_simp
  rw [(idx7 t).1, (idx7 t).2]
  simp only [gS, rows, Nat.zero_mul, Nat.zero_add, Nat.mul_comm]
theorem final8 : (dats m 0 c).arrAt 8 cfg0.N = eup fun r j => vS (gS S D r j) (U r j) := by
  refine (dats m 0 c).arrAt_eq_of_covers 8 _ (by decide +kernel) fun t hf y => ?_
  blk_simp
  rw [after0_8, blk0 m c hS, blk1 m c hD, blk2 m c hW, blk3 m c hM, blk4 m c hU, out8_eq]
  unfold eup
  blk_simp
  rw [(idx8 t).1, (idx8 t).2]
  simp only [gS, rows, Nat.zero_mul, Nat.zero_add, Nat.mul_comm]
end

end Cert.Kernel7Ideal.Ada

namespace Cert.Reference7Ideal.Ada
open Cert.Reference7Ideal Cert.Reference7Ideal.Gen Cert.Wgrad Cert.Ada
open Idealize.ShloMosaic Idealize.ShloMosaic.TcCoe Idealize.SL.Sem

theorem g_eq (X : S8x1024.Idx → EReal) (Y : S8x768.Idx → EReal) (S D : ℕ → ℕ → EReal) (hY : Y = eup D)
    (hX : (mulf (F := Ideal) (φ := .f32) X (Host.divf (broadcastInDim S8x1024 ![] bcast_S_S8x1024 (constant S_ .f32 0x3F800000#32))
      (addf (broadcastInDim S8x1024 ![] bcast_S_S8x1024 (constant S_ .f32 0x3F800000#32)) (Host.exp (Host.negf X)))) : S8x1024.Idx → EReal) = eup S) :
    (transpose S1024x768 [1, 0] (Host.dotGeneral (F := Ideal) (φ₁ := .f32) (φ₂ := .f32) dot_S8x768_S8x1024_S768x1024_0_0_1_1_n_n none Y
      (mulf (φ := .f32) X (Host.divf (broadcastInDim S8x1024 ![] bcast_S_S8x1024 (constant S_ .f32 0x3F800000#32))
      (addf (broadcastInDim S8x1024 ![] bcast_S_S8x1024 (constant S_ .f32 0x3F800000#32)) (Host.exp (Host.negf X))))))
      transposes_S768x1024_S1024x768_1_0 : S1024x768.Idx → EReal) = eup (gS S D) := by
  rw [hX, hY]
  funext y
  refine ((Ideal.dotGeneral_apply (φ₁ := .f32) (φ₂ := .f32) _ none _ _ _ _).trans (cols_sum _ D S _)).trans ?_
  exact Finset.sum_congr rfl fun k _ => mul_comm _ _

end Cert.Reference7Ideal.Ada
end
end
-- ==== Proof.lean ====
/- The claims of `Cert.Claim`: the frames, and that each kernel computes its reference. -/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Pre_finite
public import proofs.«01_k».proof.Proof.Gen.Pre_finite2
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Pre_finite3
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Pre_finite4
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Bffn.Join
public import proofs.«01_k».proof.Proof.Bin.Join
public import proofs.«01_k».proof.Proof.Ffn.Join
public import proofs.«01_k».proof.Proof.Mix.Join
public import proofs.«01_k».proof.Proof.Wgrad.Outs
public import proofs.«01_k».proof.Proof.Adamw.Step
public import proofs.«01_k».proof.Proof.Ada.Step
public import Idealize.ShloMosaic.Adequacy
public import Idealize.ShloMosaic.Init

@[expose] public section

noncomputable section

namespace Cert.Proof

open Idealize.ShloMosaic Idealize.SL.Sem Cert.Kernel

/-- The feed-forward block's backward launch computes the derivative of the forward lines. -/
theorem bffn : Cert.algebraic_KernelIdeal_ReferenceIdeal_pre_finite := by
  intro m g m' g' hpre hagree
  choose A hA using fun c => Cert.Bffn.Join.exists_args m c hpre
  refine ⟨fun c => Cert.Lift.up2 (Cert.Bffn.Ref.main_v88 (A c)), fun c => Cert.Lift.up2 (Cert.Bffn.Ref.main_v90 (A c)),
    fun c => Cert.Lift.up2 (Cert.Bffn.Ref.main_v92 (A c)), fun c => Cert.Lift.up2 (Cert.Bffn.Ref.main_v87 (A c)), ?_, ?_⟩
  · refine (θ_run _ _ _).mono (fun r h c => ?_) (Cert.KernelIdeal.Value.run_blocks m g)
    obtain ⟨e0, e1, e2, e3, e⟩ := h c
    exact ⟨e0.trans (Cert.Bffn.Join.res0 m c (hA c)), e1.trans (Cert.Bffn.Join.res1 m c (hA c)),
      e2.trans (Cert.Bffn.Join.res2 m c (hA c)), e3.trans (Cert.Bffn.Join.res3 m c (hA c)), e⟩
  · refine (θ_run _ _ _).mono (fun r h c => ?_) (Cert.ReferenceIdeal.Value.run m' g')
    obtain ⟨e0, e1, e2, e3, e⟩ := h c
    obtain ⟨a0, a1, a2, a3, a4, a5, a6, a7, a8, a9, a10⟩ := hagree c
    have b0 := a0.trans (hA c).main_arg0
    have b1 := a1.trans (hA c).main_arg1
    have b3 := a3.trans (hA c).main_arg3
    have b8 := a8.trans (hA c).main_arg8
    have b9 := a9.trans (hA c).main_arg9
    have b10 := a10.trans (hA c).main_arg10
    refine ⟨e0.trans ?_, e1.trans ?_, e2.trans ?_, e3.trans ?_, e⟩
    · rw [Cert.ReferenceIdeal.Read.val_main_v88_eq, b0, b1, b3, b8, b9, b10]; exact Cert.Bffn.Ref.s_main_v88 (A c)
    · rw [Cert.ReferenceIdeal.Read.val_main_v90_eq, b1, b10]; exact Cert.Bffn.Ref.s_main_v90 (A c)
    · rw [Cert.ReferenceIdeal.Read.val_main_v92_eq, b0, b1, b3, b8, b9, b10]; exact Cert.Bffn.Ref.s_main_v92 (A c)
    · rw [Cert.ReferenceIdeal.Read.val_main_v87_eq, b0, b1, b3, b8, b9, b10]; exact Cert.Bffn.Ref.s_main_v87 (A c)

/-- The reference ends with its arguments unchanged; it has no semaphore. -/
theorem frame_r : Cert.quiescent_ReferenceIdeal := by
  intro m ρ _
  exact (θ_run (Cert.ReferenceIdeal.defs (F := Ideal)) _ _).mono (fun r h =>
    ⟨fun c => (h c).2.2.2.2, Idealize.ShloMosaic.sem_eq_zero_of_no_sems (by decide) r.2⟩) (Cert.ReferenceIdeal.Value.run (F := Ideal) m ρ)

/-- The input norm's and projection's backward launch computes the derivative of the forward lines. -/
theorem bin : Cert.algebraic_Kernel2Ideal_Reference2Ideal_pre_finite2 := by
  intro m g m' g' hpre hagree
  choose A hA using fun c => Cert.Bin.Join.exists_args m c hpre
  refine ⟨fun c => Cert.Lift.up2 (Cert.Bin.Ref.main_v62 (A c)), fun c => Cert.Lift.up2 (Cert.Bin.Ref.main_v67 (A c)), ?_, ?_⟩
  · refine (θ_run _ _ _).mono (fun r h c => ?_) (Cert.Kernel2Ideal.Value.run_blocks m g)
    obtain ⟨e0, e1, e⟩ := h c
    exact ⟨e0.trans (Cert.Bin.Join.res0 m c (hA c)), e1.trans (Cert.Bin.Join.res1 m c (hA c)), e⟩
  · refine (θ_run _ _ _).mono (fun r h c => ?_) (Cert.Reference2Ideal.Value.run m' g')
    obtain ⟨e0, e1, e⟩ := h c
    obtain ⟨a0, a1, a2, a3, a4, a5, a6, a7, a8, a9, a10⟩ := hagree c
    have b0 := a0.trans (hA c).main_arg0
    have b1 := a1.trans (hA c).main_arg1
    have b2 := a2.trans (hA c).main_arg2
    have b8 := a8.trans (hA c).main_arg8
    have b9 := a9.trans (hA c).main_arg9
    have b10 := a10.trans (hA c).main_arg10
    refine ⟨e0.trans ?_, e1.trans ?_, e⟩
    · rw [Cert.Reference2Ideal.Read.val_main_v62_eq, b0, b1, b2, b8, b9, b10]; exact Cert.Bin.Ref.s_main_v62 (A c)
    · rw [Cert.Reference2Ideal.Read.val_main_v67_eq, b0, b1, b2, b8, b10]; exact Cert.Bin.Ref.s_main_v67 (A c)

theorem frame_r2 : Cert.quiescent_Reference2Ideal := by
  intro m ρ _
  exact (θ_run (Cert.Reference2Ideal.defs (F := Ideal)) _ _).mono (fun r h =>
    ⟨fun c => (h c).2.2, Idealize.ShloMosaic.sem_eq_zero_of_no_sems (by decide) r.2⟩) (Cert.Reference2Ideal.Value.run (F := Ideal) m ρ)

/-- The feed-forward block's forward launch computes the block, the loss and the gradient at the block's output. -/
theorem ffn : Cert.algebraic_Kernel3Ideal_Reference3Ideal_pre_finite3 := by
  intro m g m' g' hpre hagree
  choose A hA using fun c => Cert.Ffn.Join.exists_args m c hpre
  refine ⟨fun c => Cert.Lift.up2 (Cert.Ffn.Ref.main_v102 (A c)), fun c => Cert.Lift.up2 (Cert.Ffn.Ref.main_v104 (A c)),
    fun c => Cert.Lift.up2 (Cert.Ffn.Ref.main_v106 (A c)), fun c => Cert.Lift.up2 (Cert.Ffn.Ref.main_v108 (A c)),
    fun c => Cert.Lift.up2 (Cert.Ffn.Ref.main_v101 (A c)), ?_, ?_⟩
  · refine (θ_run _ _ _).mono (fun r h c => ?_) (Cert.Kernel3Ideal.Value.run_blocks m g)
    obtain ⟨e0, e1, e2, e3, e4, e⟩ := h c
    exact ⟨e0.trans (Cert.Ffn.Join.res0 m c (hA c)), e1.trans (Cert.Ffn.Join.res1 m c (hA c)), e2.trans (Cert.Ffn.Join.res2 m c (hA c)),
      e3.trans (Cert.Ffn.Join.res3 m c (hA c)), e4.trans (Cert.Ffn.Join.res4 m c (hA c)), e⟩
  · refine (θ_run _ _ _).mono (fun r h c => ?_) (Cert.Reference3Ideal.Value.run m' g')
    obtain ⟨e0, e1, e2, e3, e4, e⟩ := h c
    obtain ⟨a0, a1, a2, a3, a4, a5, a6, a7, a8, a9, a10⟩ := hagree c
    have b0 : StableHlo.launchContents m' c (Proc.tc.devRef Cert.Reference3Ideal.main_arg0) = _ := a0.trans (hA c).main_arg0
    have b1 : StableHlo.launchContents m' c (Proc.tc.devRef Cert.Reference3Ideal.main_arg1) = _ := a1.trans (hA c).main_arg1
    have b3 : StableHlo.launchContents m' c (Proc.tc.devRef Cert.Reference3Ideal.main_arg3) = _ := a3.trans (hA c).main_arg3
    have b4 : StableHlo.launchContents m' c (Proc.tc.devRef Cert.Reference3Ideal.main_arg4) = _ := a4.trans (hA c).main_arg4
    have b8 : StableHlo.launchContents m' c (Proc.tc.devRef Cert.Reference3Ideal.main_arg8) = _ := a8.trans (hA c).main_arg8
    have b9 : StableHlo.launchContents m' c (Proc.tc.devRef Cert.Reference3Ideal.main_arg9) = _ := a9.trans (hA c).main_arg9
    have b10 : StableHlo.launchContents m' c (Proc.tc.devRef Cert.Reference3Ideal.main_arg10) = _ := a10.trans (hA c).main_arg10
    refine ⟨e0.trans ?_, e1.trans ?_, e2.trans ?_, e3.trans ?_, e4.trans ?_, e⟩
    · rw [Cert.Reference3Ideal.Read.val_main_v102_eq, b0, b1, b3, b4, b8, b9, b10]; exact Cert.Ffn.Ref.s_main_v102 (A c)
    · rw [Cert.Reference3Ideal.Read.val_main_v104_eq, b0, b1, b3, b8]; exact Cert.Ffn.Ref.s_main_v104 (A c)
    · rw [Cert.Reference3Ideal.Read.val_main_v106_eq, b0, b1, b3]; exact Cert.Ffn.Ref.s_main_v106 (A c)
    · rw [Cert.Reference3Ideal.Read.val_main_v108_eq, b0, b1, b3, b8]; exact Cert.Ffn.Ref.s_main_v108 (A c)
    · rw [Cert.Reference3Ideal.Read.val_main_v101_eq, b0, b1, b3, b4, b8, b9, b10]; exact Cert.Ffn.Ref.s_main_v101 (A c)

theorem frame_r3 : Cert.quiescent_Reference3Ideal := by
  intro m ρ _
  exact (θ_run (Cert.Reference3Ideal.defs (F := Ideal)) _ _).mono (fun r h =>
    ⟨fun c => (h c).2.2.2.2.2, Idealize.ShloMosaic.sem_eq_zero_of_no_sems (by decide) r.2⟩) (Cert.Reference3Ideal.Value.run (F := Ideal) m ρ)

set_option maxHeartbeats 1000000 in
/-- The mixing block's launch computes the mixing block. -/
theorem mix : Cert.algebraic_Kernel4Ideal_Reference4Ideal_pre_finite4 := by
  intro m g m' g' hpre hagree
  choose A hA using fun c => Cert.Mix.Join.exists_args m c hpre
  refine ⟨fun c => Cert.Lift.up2 (Cert.Mix.Ref.main_v344 (A c)),
    fun c => Cert.Lift.up2 (Cert.Mix.Ref.main_v346 (A c)),
    fun c => Cert.Lift.up2 (Cert.Mix.Ref.main_v348 (A c)),
    fun c => Cert.Lift.up2 (Cert.Mix.Ref.main_v350 (A c)),
    fun c => Cert.Lift.up2 (Cert.Mix.Ref.main_v352 (A c)),
    fun c => Cert.Lift.up2 (Cert.Mix.Ref.main_v354 (A c)),
    fun c => Cert.Lift.up2 (Cert.Mix.Ref.main_v356 (A c)),
    fun c => Cert.Lift.up2 (Cert.Mix.Ref.main_v358 (A c)),
    fun c => Cert.Lift.up2 (Cert.Mix.Ref.main_v360 (A c)),
    fun c => Cert.Lift.up3 (Cert.Mix.Ref.main_v362 (A c)),
    fun c => Cert.Lift.up2 (Cert.Mix.Ref.main_v363 (A c)), ?_, ?_⟩
  · refine (θ_run _ _ _).mono (fun r h c => ?_) (Cert.Kernel4Ideal.Value.run_blocks m g)
    obtain ⟨e0, e1, e2, e3, e4, e5, e6, e7, e8, e9, e10, e⟩ := h c
    exact ⟨e0.trans (Cert.Mix.Join.res0 m c (hA c)),
      e1.trans (Cert.Mix.Join.res1 m c (hA c)),
      e2.trans (Cert.Mix.Join.res2 m c (hA c)),
      e3.trans (Cert.Mix.Join.res3 m c (hA c)),
      e4.trans (Cert.Mix.Join.res4 m c (hA c)),
      e5.trans (Cert.Mix.Join.res5 m c (hA c)),
      e6.trans (Cert.Mix.Join.res6 m c (hA c)),
      e7.trans (Cert.Mix.Join.res7 m c (hA c)),
      e8.trans (Cert.Mix.Join.res8 m c (hA c)),
      e9.trans (Cert.Mix.Join.res9 m c (hA c)),
      e10.trans (Cert.Mix.Join.res10 m c (hA c)), e⟩
  · refine (θ_run _ _ _).mono (fun r h c => ?_) (Cert.Reference4Ideal.Value.run m' g')
    obtain ⟨e0, e1, e2, e3, e4, e5, e6, e7, e8, e9, e10, e⟩ := h c
    obtain ⟨a0, a1, a2, a3, a4, a5, a6, a7, a8, a9, a10, a11, a12, a13⟩ := hagree c
    have b0 : StableHlo.launchContents m' c (Proc.tc.devRef Cert.Reference4Ideal.main_arg0) = _ := a0.trans (hA c).main_arg0
    have b1 : StableHlo.launchContents m' c (Proc.tc.devRef Cert.Reference4Ideal.main_arg1) = _ := a1.trans (hA c).main_arg1
    have b2 : StableHlo.launchContents m' c (Proc.tc.devRef Cert.Reference4Ideal.main_arg2) = _ := a2.trans (hA c).main_arg2
    have b5 : StableHlo.launchContents m' c (Proc.tc.devRef Cert.Reference4Ideal.main_arg5) = _ := a5.trans (hA c).main_arg5
    have b6 : StableHlo.launchContents m' c (Proc.tc.devRef Cert.Reference4Ideal.main_arg6) = _ := a6.trans (hA c).main_arg6
    have b7 : StableHlo.launchContents m' c (Proc.tc.devRef Cert.Reference4Ideal.main_arg7) = _ := a7.trans (hA c).main_arg7
    have b8 : StableHlo.launchContents m' c (Proc.tc.devRef Cert.Reference4Ideal.main_arg8) = _ := a8.trans (hA c).main_arg8
    have b9 : StableHlo.launchContents m' c (Proc.tc.devRef Cert.Reference4Ideal.main_arg9) = _ := a9.trans (hA c).main_arg9
    have b10 : StableHlo.launchContents m' c (Proc.tc.devRef Cert.Reference4Ideal.main_arg10) = _ := a10.trans (hA c).main_arg10
    have b11 : StableHlo.launchContents m' c (Proc.tc.devRef Cert.Reference4Ideal.main_arg11) = _ := a11.trans (hA c).main_arg11
    have b12 : StableHlo.launchContents m' c (Proc.tc.devRef Cert.Reference4Ideal.main_arg12) = _ := a12.trans (hA c).main_arg12
    have b13 : StableHlo.launchContents m' c (Proc.tc.devRef Cert.Reference4Ideal.main_arg13) = _ := a13.trans (hA c).main_arg13
    refine ⟨e0.trans ?_, e1.trans ?_, e2.trans ?_, e3.trans ?_, e4.trans ?_, e5.trans ?_, e6.trans ?_, e7.trans ?_, e8.trans ?_, e9.trans ?_, e10.trans ?_, e⟩
    · rw [Cert.Reference4Ideal.Read.val_main_v344_eq, b0, b1, b2, b5, b6, b7, b8, b9, b10, b11, b12, b13]; exact Cert.Mix.Ref.s_main_v344 (A c)
    · rw [Cert.Reference4Ideal.Read.val_main_v346_eq, b0, b1, b2, b5, b6, b7]; exact Cert.Mix.Ref.s_main_v346 (A c)
    · rw [Cert.Reference4Ideal.Read.val_main_v348_eq, b0, b1, b2, b5, b8, b9, b10, b11, b12]; exact Cert.Mix.Ref.s_main_v348 (A c)
    · rw [Cert.Reference4Ideal.Read.val_main_v350_eq, b0, b1, b2, b5, b6, b7, b8, b9, b10, b11, b12, b13]; exact Cert.Mix.Ref.s_main_v350 (A c)
    · rw [Cert.Reference4Ideal.Read.val_main_v352_eq, b0, b1, b2, b5, b8, b9]; exact Cert.Mix.Ref.s_main_v352 (A c)
    · rw [Cert.Reference4Ideal.Read.val_main_v354_eq, b0, b1, b2, b5, b6]; exact Cert.Mix.Ref.s_main_v354 (A c)
    · rw [Cert.Reference4Ideal.Read.val_main_v356_eq, b0, b1, b2, b5]; exact Cert.Mix.Ref.s_main_v356 (A c)
    · rw [Cert.Reference4Ideal.Read.val_main_v358_eq, b0, b1, b2, b5]; exact Cert.Mix.Ref.s_main_v358 (A c)
    · rw [Cert.Reference4Ideal.Read.val_main_v360_eq, b0, b1, b2, b5]; exact Cert.Mix.Ref.s_main_v360 (A c)
    · rw [Cert.Reference4Ideal.Read.val_main_v362_eq, b0, b1, b2, b5, b6, b7, b8, b9, b10, b11, b12]; exact Cert.Mix.Ref.s_main_v362 (A c)
    · rw [Cert.Reference4Ideal.Read.val_main_v363_eq, b0, b1, b2, b5, b8, b9]; exact Cert.Mix.Ref.s_main_v363 (A c)

theorem frame_r4 : Cert.quiescent_Reference4Ideal := by
  intro m ρ _
  exact (θ_run (Cert.Reference4Ideal.defs (F := Ideal)) _ _).mono (fun r h =>
    ⟨fun c => (h c).2.2.2.2.2.2.2.2.2.2.2, Idealize.ShloMosaic.sem_eq_zero_of_no_sems (by decide) r.2⟩) (Cert.Reference4Ideal.Value.run (F := Ideal) m ρ)

/-- The weight gradient's launch computes the reference's product. -/
theorem wgrad : Cert.algebraic_Kernel5Ideal_Reference5Ideal := by
  intro m g m' g' _ hagree
  choose D hD using fun c => Cert.Wgrad.exists_eup (Cert.Kernel5Ideal.Gen.V m c Cert.Kernel5Ideal.main_arg1)
  choose H hH using fun c => Cert.Wgrad.exists_eup (Cert.Kernel5Ideal.Gen.V m c Cert.Kernel5Ideal.main_arg0)
  refine ⟨fun c => Cert.Kernel5Ideal.Wgrad.grad (D c) (H c), ?_, ?_⟩
  · refine (θ_run _ _ _).mono (fun r h c => ?_) (Cert.Kernel5Ideal.Value.run_blocks m g)
    exact ⟨(h c).1.trans (Cert.Kernel5Ideal.Wgrad.final m c (hD c) (hH c)), (h c).2⟩
  · refine (θ_run _ _ _).mono (fun r h c => ?_) (Cert.Reference5Ideal.Value.run m' g')
    obtain ⟨e0, e⟩ := h c
    obtain ⟨a0, a1⟩ := hagree c
    rw [a1.trans ((Cert.Kernel5Ideal.Gen.V_main_arg1 m c).symm.trans (hD c)), a0.trans ((Cert.Kernel5Ideal.Gen.V_main_arg0 m c).symm.trans (hH c))] at e0
    exact ⟨e0.trans (Cert.Reference5Ideal.Wgrad.ref_eq (D c) (H c)), e⟩

theorem frame_r5 : Cert.quiescent_Reference5Ideal := by
  intro m ρ _
  exact (θ_run (Cert.Reference5Ideal.defs (F := Ideal)) _ _).mono (fun r h =>
    ⟨fun c => (h c).2, Idealize.ShloMosaic.sem_eq_zero_of_no_sems (by decide) r.2⟩) (Cert.Reference5Ideal.Value.run (F := Ideal) m ρ)

/-- The optimiser's launch takes the reference's step. -/
theorem adamw : Cert.algebraic_Kernel6Ideal_Reference6Ideal := by
  intro m g m' g' _ hagree
  choose P hP using fun c => Cert.Adamw.exists_eup3 (Cert.Kernel6Ideal.Gen.V m c Cert.Kernel6Ideal.main_arg0)
  choose W hW using fun c => Cert.Wgrad.exists_eup (Cert.Kernel6Ideal.Gen.V m c Cert.Kernel6Ideal.main_arg1)
  choose M hM using fun c => Cert.Wgrad.exists_eup (Cert.Kernel6Ideal.Gen.V m c Cert.Kernel6Ideal.main_arg2)
  choose U hU using fun c => Cert.Wgrad.exists_eup (Cert.Kernel6Ideal.Gen.V m c Cert.Kernel6Ideal.main_arg3)
  refine ⟨fun c => Cert.Wgrad.eup (Cert.Adamw.sumS (P c)),
    fun c => Cert.Wgrad.eup fun r j => Cert.Adamw.dS (Cert.Adamw.sumS (P c) r j) (W c r j) (M c r j) (U c r j),
    fun c => Cert.Wgrad.eup fun r j => Cert.Adamw.mS (Cert.Adamw.sumS (P c) r j) (M c r j),
    fun c => Cert.Wgrad.eup fun r j => Cert.Adamw.vS (Cert.Adamw.sumS (P c) r j) (U c r j), ?_, ?_⟩
  · refine (θ_run _ _ _).mono (fun r h c => ?_) (Cert.Kernel6Ideal.Value.run_blocks m g)
    obtain ⟨e0, e1, e2, e3, e⟩ := h c
    exact ⟨e0.trans (Cert.Kernel6Ideal.Adamw.final4 m c (hP c) (hW c) (hM c) (hU c)), e1.trans (Cert.Kernel6Ideal.Adamw.final5 m c (hP c) (hW c) (hM c) (hU c)),
      e2.trans (Cert.Kernel6Ideal.Adamw.final6 m c (hP c) (hW c) (hM c) (hU c)), e3.trans (Cert.Kernel6Ideal.Adamw.final7 m c (hP c) (hW c) (hM c) (hU c)), e⟩
  · refine (θ_run _ _ _).mono (fun r h c => ?_) (Cert.Reference6Ideal.Value.run m' g')
    obtain ⟨e0, e1, e2, e3, e⟩ := h c
    obtain ⟨a0, a1, a2, a3⟩ := hagree c
    have b0 := a0.trans ((Cert.Kernel6Ideal.Gen.V_main_arg0 m c).symm.trans (hP c))
    have b1 := a1.trans ((Cert.Kernel6Ideal.Gen.V_main_arg1 m c).symm.trans (hW c))
    have b2 := a2.trans ((Cert.Kernel6Ideal.Gen.V_main_arg2 m c).symm.trans (hM c))
    have b3 := a3.trans ((Cert.Kernel6Ideal.Gen.V_main_arg3 m c).symm.trans (hU c))
    have s := Cert.Reference6Ideal.Adamw.sum_eq (P c)
    rw [b0, s] at e0
    rw [b0, b1, b2, b3, s] at e1
    rw [b0, b2, s] at e2
    rw [b0, b3, s] at e3
    exact ⟨e0, e1.trans rfl, e2.trans rfl, e3.trans rfl, e⟩

theorem frame_r6 : Cert.quiescent_Reference6Ideal := by
  intro m ρ _
  exact (θ_run (Cert.Reference6Ideal.defs (F := Ideal)) _ _).mono (fun r h =>
    ⟨fun c => (h c).2.2.2.2, Idealize.ShloMosaic.sem_eq_zero_of_no_sems (by decide) r.2⟩) (Cert.Reference6Ideal.Value.run (F := Ideal) m ρ)

theorem ada : Cert.algebraic_Kernel7Ideal_Reference7Ideal := by
  intro m g m' g' _ hagree
  choose S hS using fun c => Cert.Wgrad.exists_eup (Cert.Kernel7Ideal.Gen.V m c Cert.Kernel7Ideal.main_v6)
  choose D hD using fun c => Cert.Wgrad.exists_eup (Cert.Kernel7Ideal.Gen.V m c Cert.Kernel7Ideal.main_arg1)
  choose W hW using fun c => Cert.Wgrad.exists_eup (Cert.Kernel7Ideal.Gen.V m c Cert.Kernel7Ideal.main_arg2)
  choose M hM using fun c => Cert.Wgrad.exists_eup (Cert.Kernel7Ideal.Gen.V m c Cert.Kernel7Ideal.main_arg3)
  choose U hU using fun c => Cert.Wgrad.exists_eup (Cert.Kernel7Ideal.Gen.V m c Cert.Kernel7Ideal.main_arg4)
  refine ⟨fun c => Cert.Wgrad.eup (Cert.Ada.gS (S c) (D c)),
    fun c => Cert.Wgrad.eup fun r j => Cert.Adamw.dS (Cert.Ada.gS (S c) (D c) r j) (W c r j) (M c r j) (U c r j),
    fun c => Cert.Wgrad.eup fun r j => Cert.Adamw.mS (Cert.Ada.gS (S c) (D c) r j) (M c r j),
    fun c => Cert.Wgrad.eup fun r j => Cert.Adamw.vS (Cert.Ada.gS (S c) (D c) r j) (U c r j), ?_, ?_⟩
  · refine (θ_run _ _ _).mono (fun r h c => ?_) (Cert.Kernel7Ideal.Value.run_blocks m g)
    obtain ⟨e0, e1, e2, e3, e⟩ := h c
    exact ⟨e0.trans (Cert.Kernel7Ideal.Ada.final5 m c (hS c) (hD c) (hW c) (hM c) (hU c)), e1.trans (Cert.Kernel7Ideal.Ada.final6 m c (hS c) (hD c) (hW c) (hM c) (hU c)),
      e2.trans (Cert.Kernel7Ideal.Ada.final7 m c (hS c) (hD c) (hW c) (hM c) (hU c)), e3.trans (Cert.Kernel7Ideal.Ada.final8 m c (hS c) (hD c) (hW c) (hM c) (hU c)), e⟩
  · refine (θ_run _ _ _).mono (fun r h c => ?_) (Cert.Reference7Ideal.Value.run m' g')
    obtain ⟨e0, e1, e2, e3, e⟩ := h c
    obtain ⟨a0, a1, a2, a3, a4⟩ := hagree c
    have b1 := a1.trans ((Cert.Kernel7Ideal.Gen.V_main_arg1 m c).symm.trans (hD c))
    have b2 := a2.trans ((Cert.Kernel7Ideal.Gen.V_main_arg2 m c).symm.trans (hW c))
    have b3 := a3.trans ((Cert.Kernel7Ideal.Gen.V_main_arg3 m c).symm.trans (hM c))
    have b4 := a4.trans ((Cert.Kernel7Ideal.Gen.V_main_arg4 m c).symm.trans (hU c))
    have b0 := (Cert.Kernel7Ideal.Ada.silu_eq m c).symm.trans (hS c)
    rw [← a0] at b0
    have s := Cert.Reference7Ideal.Ada.g_eq _ _ (S c) (D c) b1 b0
    rw [s] at e0
    rw [s, b2, b3, b4] at e1
    rw [s, b3] at e2
    rw [s, b4] at e3
    exact ⟨e0, e1.trans rfl, e2.trans rfl, e3.trans rfl, e⟩

theorem frame_r7 : Cert.quiescent_Reference7Ideal := by
  intro m ρ _
  exact (θ_run (Cert.Reference7Ideal.defs (F := Ideal)) _ _).mono (fun r h =>
    ⟨fun c => (h c).2.2.2.2, Idealize.ShloMosaic.sem_eq_zero_of_no_sems (by decide) r.2⟩) (Cert.Reference7Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite2.Gen.facts, Cert.Pre_finite3.Gen.facts, Cert.Pre_finite4.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Kernel2.Gen.frame m ρ, fun m ρ _ => Cert.Kernel2Ideal.Gen.frame m ρ, fun m ρ _ => Cert.Kernel2Ideal.Gen.frame m ρ,
  frame_r2, fun m ρ _ => frame_r2 m ρ trivial,
  fun m ρ _ => Cert.Kernel3.Gen.frame m ρ, fun m ρ _ => Cert.Kernel3Ideal.Gen.frame m ρ, fun m ρ _ => Cert.Kernel3Ideal.Gen.frame m ρ,
  frame_r3, fun m ρ _ => frame_r3 m ρ trivial,
  fun m ρ _ => Cert.Kernel4.Gen.frame m ρ, fun m ρ _ => Cert.Kernel4Ideal.Gen.frame m ρ, fun m ρ _ => Cert.Kernel4Ideal.Gen.frame m ρ,
  frame_r4, fun m ρ _ => frame_r4 m ρ trivial,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  trivial, bffn, trivial, bin, trivial, ffn, trivial, mix, trivial, wgrad, trivial, adamw, trivial, ada⟩

end Cert.Proof

end
